-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_GateDxKernel (m : (ℓ : Loc Cert.GateDxKernel.nD Cert.GateDxKernel.τ Cert.GateDxKernel.sig) → Buf (Elt Bits) ℓ) : Prop :=
  True

def Pre_GateDxKernelIdeal (m : (ℓ : Loc Cert.GateDxKernelIdeal.nD Cert.GateDxKernelIdeal.τ Cert.GateDxKernelIdeal.sig) → Buf (Elt Ideal) ℓ) : Prop :=
  True

def Pre_GateDxReferenceIdeal (m : (ℓ : Loc Cert.GateDxReferenceIdeal.nD Cert.GateDxReferenceIdeal.τ Cert.GateDxReferenceIdeal.sig) → Buf (Elt Ideal) ℓ) : Prop :=
  True

def Pre_UpDxKernel (m : (ℓ : Loc Cert.UpDxKernel.nD Cert.UpDxKernel.τ Cert.UpDxKernel.sig) → Buf (Elt Bits) ℓ) : Prop :=
  True

def Pre_UpDxKernelIdeal (m : (ℓ : Loc Cert.UpDxKernelIdeal.nD Cert.UpDxKernelIdeal.τ Cert.UpDxKernelIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_InDxKernel (m : (ℓ : Loc Cert.InDxKernel.nD Cert.InDxKernel.τ Cert.InDxKernel.sig) → Buf (Elt Bits) ℓ) : Prop :=
  True

def Pre_InDxKernelIdeal (m : (ℓ : Loc Cert.InDxKernelIdeal.nD Cert.InDxKernelIdeal.τ Cert.InDxKernelIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6)
      ∧ r.2.mem ((c.tc : Thread Cert.FfnKernel.nD Cert.FfnKernel.τ).loc Cert.FfnKernel.main_arg7) = m ((c.tc : Thread Cert.FfnKernel.nD Cert.FfnKernel.τ).loc Cert.FfnKernel.main_arg7))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
      ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5)
      ∧ r.2.mem ((c.tc : Thread Cert.ProjKernel.nD Cert.ProjKernel.τ).loc Cert.ProjKernel.main_arg6) = m ((c.tc : Thread Cert.ProjKernel.nD Cert.ProjKernel.τ).loc Cert.ProjKernel.main_arg6)
      ∧ r.2.mem ((c.tc : Thread Cert.ProjKernel.nD Cert.ProjKernel.τ).loc Cert.ProjKernel.main_arg7) = m ((c.tc : Thread Cert.ProjKernel.nD Cert.ProjKernel.τ).loc Cert.ProjKernel.main_arg7))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
      ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
      ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0)

def quiescent_GateDxKernel [hGateDxKernel : Cert.GateDxKernel.Facts] : Prop :=
  ∀ (m : (ℓ : Loc Cert.GateDxKernel.nD Cert.GateDxKernel.τ Cert.GateDxKernel.sig) → Buf (Elt Bits) ℓ) (g : Dev Cert.GateDxKernel.nD → PrngReg), Pre_GateDxKernel m →
    θ_run (Cert.GateDxKernel.defs (F := Bits)) (onTc (τ := Cert.GateDxKernel.τ) (Cert.GateDxKernel.main (F := Bits))) ⟨m, fun _ => 0, g⟩ (fun r => (∀ c : Dev Cert.GateDxKernel.nD,
      r.2.mem ((c.tc : Thread Cert.GateDxKernel.nD Cert.GateDxKernel.τ).loc Cert.GateDxKernel.main_arg0) = m ((c.tc : Thread Cert.GateDxKernel.nD Cert.GateDxKernel.τ).loc Cert.GateDxKernel.main_arg0)
      ∧ r.2.mem ((c.tc : Thread Cert.GateDxKernel.nD Cert.GateDxKernel.τ).loc Cert.GateDxKernel.main_arg1) = m ((c.tc : Thread Cert.GateDxKernel.nD Cert.GateDxKernel.τ).loc Cert.GateDxKernel.main_arg1))
      ∧ r.2.sem = fun _ => 0)

def quiescent_GateDxKernelIdeal [hGateDxKernelIdeal : Cert.GateDxKernelIdeal.Facts] : Prop :=
  ∀ (m : (ℓ : Loc Cert.GateDxKernelIdeal.nD Cert.GateDxKernelIdeal.τ Cert.GateDxKernelIdeal.sig) → Buf (Elt Ideal) ℓ) (g : Dev Cert.GateDxKernelIdeal.nD → PrngReg), Pre_GateDxKernelIdeal m →
    θ_run (Cert.GateDxKernelIdeal.defs (F := Ideal)) (onTc (τ := Cert.GateDxKernelIdeal.τ) (Cert.GateDxKernelIdeal.main (F := Ideal))) ⟨m, fun _ => 0, g⟩ (fun r => (∀ c : Dev Cert.GateDxKernelIdeal.nD,
      r.2.mem ((c.tc : Thread Cert.GateDxKernelIdeal.nD Cert.GateDxKernelIdeal.τ).loc Cert.GateDxKernelIdeal.main_arg0) = m ((c.tc : Thread Cert.GateDxKernelIdeal.nD Cert.GateDxKernelIdeal.τ).loc Cert.GateDxKernelIdeal.main_arg0)
      ∧ r.2.mem ((c.tc : Thread Cert.GateDxKernelIdeal.nD Cert.GateDxKernelIdeal.τ).loc Cert.GateDxKernelIdeal.main_arg1) = m ((c.tc : Thread Cert.GateDxKernelIdeal.nD Cert.GateDxKernelIdeal.τ).loc Cert.GateDxKernelIdeal.main_arg1))
      ∧ r.2.sem = fun _ => 0)

def quiescent_GateDxReferenceIdeal [hGateDxReferenceIdeal : Cert.GateDxReferenceIdeal.Facts] : Prop :=
  ∀ (m : (ℓ : Loc Cert.GateDxReferenceIdeal.nD Cert.GateDxReferenceIdeal.τ Cert.GateDxReferenceIdeal.sig) → Buf (Elt Ideal) ℓ) (g : Dev Cert.GateDxReferenceIdeal.nD → PrngReg), Pre_GateDxReferenceIdeal m →
    θ_run (Cert.GateDxReferenceIdeal.defs (F := Ideal)) (onTc (τ := Cert.GateDxReferenceIdeal.τ) (Cert.GateDxReferenceIdeal.main (F := Ideal))) ⟨m, fun _ => 0, g⟩ (fun r => (∀ c : Dev Cert.GateDxReferenceIdeal.nD,
      r.2.mem ((c.tc : Thread Cert.GateDxReferenceIdeal.nD Cert.GateDxReferenceIdeal.τ).loc Cert.GateDxReferenceIdeal.main_arg0) = m ((c.tc : Thread Cert.GateDxReferenceIdeal.nD Cert.GateDxReferenceIdeal.τ).loc Cert.GateDxReferenceIdeal.main_arg0)
      ∧ r.2.mem ((c.tc : Thread Cert.GateDxReferenceIdeal.nD Cert.GateDxReferenceIdeal.τ).loc Cert.GateDxReferenceIdeal.main_arg1) = m ((c.tc : Thread Cert.GateDxReferenceIdeal.nD Cert.GateDxReferenceIdeal.τ).loc Cert.GateDxReferenceIdeal.main_arg1))
      ∧ r.2.sem = fun _ => 0)

def quiescent_UpDxKernel [hUpDxKernel : Cert.UpDxKernel.Facts] : Prop :=
  ∀ (m : (ℓ : Loc Cert.UpDxKernel.nD Cert.UpDxKernel.τ Cert.UpDxKernel.sig) → Buf (Elt Bits) ℓ) (g : Dev Cert.UpDxKernel.nD → PrngReg), Pre_UpDxKernel m →
    θ_run (Cert.UpDxKernel.defs (F := Bits)) (onTc (τ := Cert.UpDxKernel.τ) (Cert.UpDxKernel.main (F := Bits))) ⟨m, fun _ => 0, g⟩ (fun r => (∀ c : Dev Cert.UpDxKernel.nD,
      r.2.mem ((c.tc : Thread Cert.UpDxKernel.nD Cert.UpDxKernel.τ).loc Cert.UpDxKernel.main_arg0) = m ((c.tc : Thread Cert.UpDxKernel.nD Cert.UpDxKernel.τ).loc Cert.UpDxKernel.main_arg0)
      ∧ r.2.mem ((c.tc : Thread Cert.UpDxKernel.nD Cert.UpDxKernel.τ).loc Cert.UpDxKernel.main_arg1) = m ((c.tc : Thread Cert.UpDxKernel.nD Cert.UpDxKernel.τ).loc Cert.UpDxKernel.main_arg1)
      ∧ r.2.mem ((c.tc : Thread Cert.UpDxKernel.nD Cert.UpDxKernel.τ).loc Cert.UpDxKernel.main_arg2) = m ((c.tc : Thread Cert.UpDxKernel.nD Cert.UpDxKernel.τ).loc Cert.UpDxKernel.main_arg2))
      ∧ r.2.sem = fun _ => 0)

def quiescent_UpDxKernelIdeal [hUpDxKernelIdeal : Cert.UpDxKernelIdeal.Facts] : Prop :=
  ∀ (m : (ℓ : Loc Cert.UpDxKernelIdeal.nD Cert.UpDxKernelIdeal.τ Cert.UpDxKernelIdeal.sig) → Buf (Elt Ideal) ℓ) (g : Dev Cert.UpDxKernelIdeal.nD → PrngReg), Pre_UpDxKernelIdeal m →
    θ_run (Cert.UpDxKernelIdeal.defs (F := Ideal)) (onTc (τ := Cert.UpDxKernelIdeal.τ) (Cert.UpDxKernelIdeal.main (F := Ideal))) ⟨m, fun _ => 0, g⟩ (fun r => (∀ c : Dev Cert.UpDxKernelIdeal.nD,
      r.2.mem ((c.tc : Thread Cert.UpDxKernelIdeal.nD Cert.UpDxKernelIdeal.τ).loc Cert.UpDxKernelIdeal.main_arg0) = m ((c.tc : Thread Cert.UpDxKernelIdeal.nD Cert.UpDxKernelIdeal.τ).loc Cert.UpDxKernelIdeal.main_arg0)
      ∧ r.2.mem ((c.tc : Thread Cert.UpDxKernelIdeal.nD Cert.UpDxKernelIdeal.τ).loc Cert.UpDxKernelIdeal.main_arg1) = m ((c.tc : Thread Cert.UpDxKernelIdeal.nD Cert.UpDxKernelIdeal.τ).loc Cert.UpDxKernelIdeal.main_arg1)
      ∧ r.2.mem ((c.tc : Thread Cert.UpDxKernelIdeal.nD Cert.UpDxKernelIdeal.τ).loc Cert.UpDxKernelIdeal.main_arg2) = m ((c.tc : Thread Cert.UpDxKernelIdeal.nD Cert.UpDxKernelIdeal.τ).loc Cert.UpDxKernelIdeal.main_arg2))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1)
      ∧ r.2.mem ((c.tc : Thread Cert.UpDxReferenceIdeal.nD Cert.UpDxReferenceIdeal.τ).loc Cert.UpDxReferenceIdeal.main_arg2) = m ((c.tc : Thread Cert.UpDxReferenceIdeal.nD Cert.UpDxReferenceIdeal.τ).loc Cert.UpDxReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_InDxKernel [hInDxKernel : Cert.InDxKernel.Facts] : Prop :=
  ∀ (m : (ℓ : Loc Cert.InDxKernel.nD Cert.InDxKernel.τ Cert.InDxKernel.sig) → Buf (Elt Bits) ℓ) (g : Dev Cert.InDxKernel.nD → PrngReg), Pre_InDxKernel m →
    θ_run (Cert.InDxKernel.defs (F := Bits)) (onTc (τ := Cert.InDxKernel.τ) (Cert.InDxKernel.main (F := Bits))) ⟨m, fun _ => 0, g⟩ (fun r => (∀ c : Dev Cert.InDxKernel.nD,
      r.2.mem ((c.tc : Thread Cert.InDxKernel.nD Cert.InDxKernel.τ).loc Cert.InDxKernel.main_arg0) = m ((c.tc : Thread Cert.InDxKernel.nD Cert.InDxKernel.τ).loc Cert.InDxKernel.main_arg0)
      ∧ r.2.mem ((c.tc : Thread Cert.InDxKernel.nD Cert.InDxKernel.τ).loc Cert.InDxKernel.main_arg1) = m ((c.tc : Thread Cert.InDxKernel.nD Cert.InDxKernel.τ).loc Cert.InDxKernel.main_arg1)
      ∧ r.2.mem ((c.tc : Thread Cert.InDxKernel.nD Cert.InDxKernel.τ).loc Cert.InDxKernel.main_arg2) = m ((c.tc : Thread Cert.InDxKernel.nD Cert.InDxKernel.τ).loc Cert.InDxKernel.main_arg2))
      ∧ r.2.sem = fun _ => 0)

def quiescent_InDxKernelIdeal [hInDxKernelIdeal : Cert.InDxKernelIdeal.Facts] : Prop :=
  ∀ (m : (ℓ : Loc Cert.InDxKernelIdeal.nD Cert.InDxKernelIdeal.τ Cert.InDxKernelIdeal.sig) → Buf (Elt Ideal) ℓ) (g : Dev Cert.InDxKernelIdeal.nD → PrngReg), Pre_InDxKernelIdeal m →
    θ_run (Cert.InDxKernelIdeal.defs (F := Ideal)) (onTc (τ := Cert.InDxKernelIdeal.τ) (Cert.InDxKernelIdeal.main (F := Ideal))) ⟨m, fun _ => 0, g⟩ (fun r => (∀ c : Dev Cert.InDxKernelIdeal.nD,
      r.2.mem ((c.tc : Thread Cert.InDxKernelIdeal.nD Cert.InDxKernelIdeal.τ).loc Cert.InDxKernelIdeal.main_arg0) = m ((c.tc : Thread Cert.InDxKernelIdeal.nD Cert.InDxKernelIdeal.τ).loc Cert.InDxKernelIdeal.main_arg0)
      ∧ r.2.mem ((c.tc : Thread Cert.InDxKernelIdeal.nD Cert.InDxKernelIdeal.τ).loc Cert.InDxKernelIdeal.main_arg1) = m ((c.tc : Thread Cert.InDxKernelIdeal.nD Cert.InDxKernelIdeal.τ).loc Cert.InDxKernelIdeal.main_arg1)
      ∧ r.2.mem ((c.tc : Thread Cert.InDxKernelIdeal.nD Cert.InDxKernelIdeal.τ).loc Cert.InDxKernelIdeal.main_arg2) = m ((c.tc : Thread Cert.InDxKernelIdeal.nD Cert.InDxKernelIdeal.τ).loc Cert.InDxKernelIdeal.main_arg2))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1)
      ∧ r.2.mem ((c.tc : Thread Cert.InDxReferenceIdeal.nD Cert.InDxReferenceIdeal.τ).loc Cert.InDxReferenceIdeal.main_arg2) = m ((c.tc : Thread Cert.InDxReferenceIdeal.nD Cert.InDxReferenceIdeal.τ).loc Cert.InDxReferenceIdeal.main_arg2))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3)
      ∧ r.2.mem ((c.tc : Thread Cert.AdamKernel.nD Cert.AdamKernel.τ).loc Cert.AdamKernel.main_arg4) = m ((c.tc : Thread Cert.AdamKernel.nD Cert.AdamKernel.τ).loc Cert.AdamKernel.main_arg4)
      ∧ r.2.mem ((c.tc : Thread Cert.AdamKernel.nD Cert.AdamKernel.τ).loc Cert.AdamKernel.main_arg5) = m ((c.tc : Thread Cert.AdamKernel.nD Cert.AdamKernel.τ).loc Cert.AdamKernel.main_arg5)
      ∧ r.2.mem ((c.tc : Thread Cert.AdamKernel.nD Cert.AdamKernel.τ).loc Cert.AdamKernel.main_arg6) = m ((c.tc : Thread Cert.AdamKernel.nD Cert.AdamKernel.τ).loc Cert.AdamKernel.main_arg6)
      ∧ r.2.mem ((c.tc : Thread Cert.AdamKernel.nD Cert.AdamKernel.τ).loc Cert.AdamKernel.main_arg7) = m ((c.tc : Thread Cert.AdamKernel.nD Cert.AdamKernel.τ).loc Cert.AdamKernel.main_arg7)
      ∧ r.2.mem ((c.tc : Thread Cert.AdamKernel.nD Cert.AdamKernel.τ).loc Cert.AdamKernel.main_arg8) = m ((c.tc : Thread Cert.AdamKernel.nD Cert.AdamKernel.τ).loc Cert.AdamKernel.main_arg8)
      ∧ r.2.mem ((c.tc : Thread Cert.AdamKernel.nD Cert.AdamKernel.τ).loc Cert.AdamKernel.main_arg9) = m ((c.tc : Thread Cert.AdamKernel.nD Cert.AdamKernel.τ).loc Cert.AdamKernel.main_arg9)
      ∧ r.2.mem ((c.tc : Thread Cert.AdamKernel.nD Cert.AdamKernel.τ).loc Cert.AdamKernel.main_arg10) = m ((c.tc : Thread Cert.AdamKernel.nD Cert.AdamKernel.τ).loc Cert.AdamKernel.main_arg10)
      ∧ r.2.mem ((c.tc : Thread Cert.AdamKernel.nD Cert.AdamKernel.τ).loc Cert.AdamKernel.main_arg11) = m ((c.tc : Thread Cert.AdamKernel.nD Cert.AdamKernel.τ).loc Cert.AdamKernel.main_arg11)
      ∧ r.2.mem ((c.tc : Thread Cert.AdamKernel.nD Cert.AdamKernel.τ).loc Cert.AdamKernel.main_arg12) = m ((c.tc : Thread Cert.AdamKernel.nD Cert.AdamKernel.τ).loc Cert.AdamKernel.main_arg12)
      ∧ r.2.mem ((c.tc : Thread Cert.AdamKernel.nD Cert.AdamKernel.τ).loc Cert.AdamKernel.main_arg13) = m ((c.tc : Thread Cert.AdamKernel.nD Cert.AdamKernel.τ).loc Cert.AdamKernel.main_arg13)
      ∧ r.2.mem ((c.tc : Thread Cert.AdamKernel.nD Cert.AdamKernel.τ).loc Cert.AdamKernel.main_arg14) = m ((c.tc : Thread Cert.AdamKernel.nD Cert.AdamKernel.τ).loc Cert.AdamKernel.main_arg14)
      ∧ r.2.mem ((c.tc : Thread Cert.AdamKernel.nD Cert.AdamKernel.τ).loc Cert.AdamKernel.main_arg15) = m ((c.tc : Thread Cert.AdamKernel.nD Cert.AdamKernel.τ).loc Cert.AdamKernel.main_arg15)
      ∧ r.2.mem ((c.tc : Thread Cert.AdamKernel.nD Cert.AdamKernel.τ).loc Cert.AdamKernel.main_arg16) = m ((c.tc : Thread Cert.AdamKernel.nD Cert.AdamKernel.τ).loc Cert.AdamKernel.main_arg16)
      ∧ r.2.mem ((c.tc : Thread Cert.AdamKernel.nD Cert.AdamKernel.τ).loc Cert.AdamKernel.main_arg17) = m ((c.tc : Thread Cert.AdamKernel.nD Cert.AdamKernel.τ).loc Cert.AdamKernel.main_arg17)
      ∧ r.2.mem ((c.tc : Thread Cert.AdamKernel.nD Cert.AdamKernel.τ).loc Cert.AdamKernel.main_arg18) = m ((c.tc : Thread Cert.AdamKernel.nD Cert.AdamKernel.τ).loc Cert.AdamKernel.main_arg18)
      ∧ r.2.mem ((c.tc : Thread Cert.AdamKernel.nD Cert.AdamKernel.τ).loc Cert.AdamKernel.main_arg19) = m ((c.tc : Thread Cert.AdamKernel.nD Cert.AdamKernel.τ).loc Cert.AdamKernel.main_arg19)
      ∧ r.2.mem ((c.tc : Thread Cert.AdamKernel.nD Cert.AdamKernel.τ).loc Cert.AdamKernel.main_arg20) = m ((c.tc : Thread Cert.AdamKernel.nD Cert.AdamKernel.τ).loc Cert.AdamKernel.main_arg20)
      ∧ r.2.mem ((c.tc : Thread Cert.AdamKernel.nD Cert.AdamKernel.τ).loc Cert.AdamKernel.main_arg21) = m ((c.tc : Thread Cert.AdamKernel.nD Cert.AdamKernel.τ).loc Cert.AdamKernel.main_arg21)
      ∧ r.2.mem ((c.tc : Thread Cert.AdamKernel.nD Cert.AdamKernel.τ).loc Cert.AdamKernel.main_arg22) = m ((c.tc : Thread Cert.AdamKernel.nD Cert.AdamKernel.τ).loc Cert.AdamKernel.main_arg22)
      ∧ r.2.mem ((c.tc : Thread Cert.AdamKernel.nD Cert.AdamKernel.τ).loc Cert.AdamKernel.main_arg23) = m ((c.tc : Thread Cert.AdamKernel.nD Cert.AdamKernel.τ).loc Cert.AdamKernel.main_arg23)
      ∧ r.2.mem ((c.tc : Thread Cert.AdamKernel.nD Cert.AdamKernel.τ).loc Cert.AdamKernel.main_arg24) = m ((c.tc : Thread Cert.AdamKernel.nD Cert.AdamKernel.τ).loc Cert.AdamKernel.main_arg24)
      ∧ r.2.mem ((c.tc : Thread Cert.AdamKernel.nD Cert.AdamKernel.τ).loc Cert.AdamKernel.main_arg25) = m ((c.tc : Thread Cert.AdamKernel.nD Cert.AdamKernel.τ).loc Cert.AdamKernel.main_arg25)
      ∧ r.2.mem ((c.tc : Thread Cert.AdamKernel.nD Cert.AdamKernel.τ).loc Cert.AdamKernel.main_arg26) = m ((c.tc : Thread Cert.AdamKernel.nD Cert.AdamKernel.τ).loc Cert.AdamKernel.main_arg26)
      ∧ r.2.mem ((c.tc : Thread Cert.AdamKernel.nD Cert.AdamKernel.τ).loc Cert.AdamKernel.main_arg27) = m ((c.tc : Thread Cert.AdamKernel.nD Cert.AdamKernel.τ).loc Cert.AdamKernel.main_arg27))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
      ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4)
      ∧ r.2.mem ((c.tc : Thread Cert.AdamKernelIdeal.nD Cert.AdamKernelIdeal.τ).loc Cert.AdamKernelIdeal.main_arg5) = m ((c.tc : Thread Cert.AdamKernelIdeal.nD Cert.AdamKernelIdeal.τ).loc Cert.AdamKernelIdeal.main_arg5)
      ∧ r.2.mem ((c.tc : Thread Cert.AdamKernelIdeal.nD Cert.AdamKernelIdeal.τ).loc Cert.AdamKernelIdeal.main_arg6) = m ((c.tc : Thread Cert.AdamKernelIdeal.nD Cert.AdamKernelIdeal.τ).loc Cert.AdamKernelIdeal.main_arg6)
      ∧ r.2.mem ((c.tc : Thread Cert.AdamKernelIdeal.nD Cert.AdamKernelIdeal.τ).loc Cert.AdamKernelIdeal.main_arg7) = m ((c.tc : Thread Cert.AdamKernelIdeal.nD Cert.AdamKernelIdeal.τ).loc Cert.AdamKernelIdeal.main_arg7)
      ∧ r.2.mem ((c.tc : Thread Cert.AdamKernelIdeal.nD Cert.AdamKernelIdeal.τ).loc Cert.AdamKernelIdeal.main_arg8) = m ((c.tc : Thread Cert.AdamKernelIdeal.nD Cert.AdamKernelIdeal.τ).loc Cert.AdamKernelIdeal.main_arg8)
      ∧ r.2.mem ((c.tc : Thread Cert.AdamKernelIdeal.nD Cert.AdamKernelIdeal.τ).loc Cert.AdamKernelIdeal.main_arg9) = m ((c.tc : Thread Cert.AdamKernelIdeal.nD Cert.AdamKernelIdeal.τ).loc Cert.AdamKernelIdeal.main_arg9)
      ∧ r.2.mem ((c.tc : Thread Cert.AdamKernelIdeal.nD Cert.AdamKernelIdeal.τ).loc Cert.AdamKernelIdeal.main_arg10) = m ((c.tc : Thread Cert.AdamKernelIdeal.nD Cert.AdamKernelIdeal.τ).loc Cert.AdamKernelIdeal.main_arg10)
      ∧ r.2.mem ((c.tc : Thread Cert.AdamKernelIdeal.nD Cert.AdamKernelIdeal.τ).loc Cert.AdamKernelIdeal.main_arg11) = m ((c.tc : Thread Cert.AdamKernelIdeal.nD Cert.AdamKernelIdeal.τ).loc Cert.AdamKernelIdeal.main_arg11)
      ∧ r.2.mem ((c.tc : Thread Cert.AdamKernelIdeal.nD Cert.AdamKernelIdeal.τ).loc Cert.AdamKernelIdeal.main_arg12) = m ((c.tc : Thread Cert.AdamKernelIdeal.nD Cert.AdamKernelIdeal.τ).loc Cert.AdamKernelIdeal.main_arg12)
      ∧ r.2.mem ((c.tc : Thread Cert.AdamKernelIdeal.nD Cert.AdamKernelIdeal.τ).loc Cert.AdamKernelIdeal.main_arg13) = m ((c.tc : Thread Cert.AdamKernelIdeal.nD Cert.AdamKernelIdeal.τ).loc Cert.AdamKernelIdeal.main_arg13)
      ∧ r.2.mem ((c.tc : Thread Cert.AdamKernelIdeal.nD Cert.AdamKernelIdeal.τ).loc Cert.AdamKernelIdeal.main_arg14) = m ((c.tc : Thread Cert.AdamKernelIdeal.nD Cert.AdamKernelIdeal.τ).loc Cert.AdamKernelIdeal.main_arg14)
      ∧ r.2.mem ((c.tc : Thread Cert.AdamKernelIdeal.nD Cert.AdamKernelIdeal.τ).loc Cert.AdamKernelIdeal.main_arg15) = m ((c.tc : Thread Cert.AdamKernelIdeal.nD Cert.AdamKernelIdeal.τ).loc Cert.AdamKernelIdeal.main_arg15)
      ∧ r.2.mem ((c.tc : Thread Cert.AdamKernelIdeal.nD Cert.AdamKernelIdeal.τ).loc Cert.AdamKernelIdeal.main_arg16) = m ((c.tc : Thread Cert.AdamKernelIdeal.nD Cert.AdamKernelIdeal.τ).loc Cert.AdamKernelIdeal.main_arg16)
      ∧ r.2.mem ((c.tc : Thread Cert.AdamKernelIdeal.nD Cert.AdamKernelIdeal.τ).loc Cert.AdamKernelIdeal.main_arg17) = m ((c.tc : Thread Cert.AdamKernelIdeal.nD Cert.AdamKernelIdeal.τ).loc Cert.AdamKernelIdeal.main_arg17)
      ∧ r.2.mem ((c.tc : Thread Cert.AdamKernelIdeal.nD Cert.AdamKernelIdeal.τ).loc Cert.AdamKernelIdeal.main_arg18) = m ((c.tc : Thread Cert.AdamKernelIdeal.nD Cert.AdamKernelIdeal.τ).loc Cert.AdamKernelIdeal.main_arg18)
      ∧ r.2.mem ((c.tc : Thread Cert.AdamKernelIdeal.nD Cert.AdamKernelIdeal.τ).loc Cert.AdamKernelIdeal.main_arg19) = m ((c.tc : Thread Cert.AdamKernelIdeal.nD Cert.AdamKernelIdeal.τ).loc Cert.AdamKernelIdeal.main_arg19)
      ∧ r.2.mem ((c.tc : Thread Cert.AdamKernelIdeal.nD Cert.AdamKernelIdeal.τ).loc Cert.AdamKernelIdeal.main_arg20) = m ((c.tc : Thread Cert.AdamKernelIdeal.nD Cert.AdamKernelIdeal.τ).loc Cert.AdamKernelIdeal.main_arg20)
      ∧ r.2.mem ((c.tc : Thread Cert.AdamKernelIdeal.nD Cert.AdamKernelIdeal.τ).loc Cert.AdamKernelIdeal.main_arg21) = m ((c.tc : Thread Cert.AdamKernelIdeal.nD Cert.AdamKernelIdeal.τ).loc Cert.AdamKernelIdeal.main_arg21)
      ∧ r.2.mem ((c.tc : Thread Cert.AdamKernelIdeal.nD Cert.AdamKernelIdeal.τ).loc Cert.AdamKernelIdeal.main_arg22) = m ((c.tc : Thread Cert.AdamKernelIdeal.nD Cert.AdamKernelIdeal.τ).loc Cert.AdamKernelIdeal.main_arg22)
      ∧ r.2.mem ((c.tc : Thread Cert.AdamKernelIdeal.nD Cert.AdamKernelIdeal.τ).loc Cert.AdamKernelIdeal.main_arg23) = m ((c.tc : Thread Cert.AdamKernelIdeal.nD Cert.AdamKernelIdeal.τ).loc Cert.AdamKernelIdeal.main_arg23)
      ∧ r.2.mem ((c.tc : Thread Cert.AdamKernelIdeal.nD Cert.AdamKernelIdeal.τ).loc Cert.AdamKernelIdeal.main_arg24) = m ((c.tc : Thread Cert.AdamKernelIdeal.nD Cert.AdamKernelIdeal.τ).loc Cert.AdamKernelIdeal.main_arg24)
      ∧ r.2.mem ((c.tc : Thread Cert.AdamKernelIdeal.nD Cert.AdamKernelIdeal.τ).loc Cert.AdamKernelIdeal.main_arg25) = m ((c.tc : Thread Cert.AdamKernelIdeal.nD Cert.AdamKernelIdeal.τ).loc Cert.AdamKernelIdeal.main_arg25)
      ∧ r.2.mem ((c.tc : Thread Cert.AdamKernelIdeal.nD Cert.AdamKernelIdeal.τ).loc Cert.AdamKernelIdeal.main_arg26) = m ((c.tc : Thread Cert.AdamKernelIdeal.nD Cert.AdamKernelIdeal.τ).loc Cert.AdamKernelIdeal.main_arg26)
      ∧ r.2.mem ((c.tc : Thread Cert.AdamKernelIdeal.nD Cert.AdamKernelIdeal.τ).loc Cert.AdamKernelIdeal.main_arg27) = m ((c.tc : Thread Cert.AdamKernelIdeal.nD Cert.AdamKernelIdeal.τ).loc Cert.AdamKernelIdeal.main_arg27))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3)
      ∧ r.2.mem ((c.tc : Thread Cert.AdamReferenceIdeal.nD Cert.AdamReferenceIdeal.τ).loc Cert.AdamReferenceIdeal.main_arg4) = m ((c.tc : Thread Cert.AdamReferenceIdeal.nD Cert.AdamReferenceIdeal.τ).loc Cert.AdamReferenceIdeal.main_arg4)
      ∧ r.2.mem ((c.tc : Thread Cert.AdamReferenceIdeal.nD Cert.AdamReferenceIdeal.τ).loc Cert.AdamReferenceIdeal.main_arg5) = m ((c.tc : Thread Cert.AdamReferenceIdeal.nD Cert.AdamReferenceIdeal.τ).loc Cert.AdamReferenceIdeal.main_arg5)
      ∧ r.2.mem ((c.tc : Thread Cert.AdamReferenceIdeal.nD Cert.AdamReferenceIdeal.τ).loc Cert.AdamReferenceIdeal.main_arg6) = m ((c.tc : Thread Cert.AdamReferenceIdeal.nD Cert.AdamReferenceIdeal.τ).loc Cert.AdamReferenceIdeal.main_arg6)
      ∧ r.2.mem ((c.tc : Thread Cert.AdamReferenceIdeal.nD Cert.AdamReferenceIdeal.τ).loc Cert.AdamReferenceIdeal.main_arg7) = m ((c.tc : Thread Cert.AdamReferenceIdeal.nD Cert.AdamReferenceIdeal.τ).loc Cert.AdamReferenceIdeal.main_arg7)
      ∧ r.2.mem ((c.tc : Thread Cert.AdamReferenceIdeal.nD Cert.AdamReferenceIdeal.τ).loc Cert.AdamReferenceIdeal.main_arg8) = m ((c.tc : Thread Cert.AdamReferenceIdeal.nD Cert.AdamReferenceIdeal.τ).loc Cert.AdamReferenceIdeal.main_arg8)
      ∧ r.2.mem ((c.tc : Thread Cert.AdamReferenceIdeal.nD Cert.AdamReferenceIdeal.τ).loc Cert.AdamReferenceIdeal.main_arg9) = m ((c.tc : Thread Cert.AdamReferenceIdeal.nD Cert.AdamReferenceIdeal.τ).loc Cert.AdamReferenceIdeal.main_arg9)
      ∧ r.2.mem ((c.tc : Thread Cert.AdamReferenceIdeal.nD Cert.AdamReferenceIdeal.τ).loc Cert.AdamReferenceIdeal.main_arg10) = m ((c.tc : Thread Cert.AdamReferenceIdeal.nD Cert.AdamReferenceIdeal.τ).loc Cert.AdamReferenceIdeal.main_arg10)
      ∧ r.2.mem ((c.tc : Thread Cert.AdamReferenceIdeal.nD Cert.AdamReferenceIdeal.τ).loc Cert.AdamReferenceIdeal.main_arg11) = m ((c.tc : Thread Cert.AdamReferenceIdeal.nD Cert.AdamReferenceIdeal.τ).loc Cert.AdamReferenceIdeal.main_arg11)
      ∧ r.2.mem ((c.tc : Thread Cert.AdamReferenceIdeal.nD Cert.AdamReferenceIdeal.τ).loc Cert.AdamReferenceIdeal.main_arg12) = m ((c.tc : Thread Cert.AdamReferenceIdeal.nD Cert.AdamReferenceIdeal.τ).loc Cert.AdamReferenceIdeal.main_arg12)
      ∧ r.2.mem ((c.tc : Thread Cert.AdamReferenceIdeal.nD Cert.AdamReferenceIdeal.τ).loc Cert.AdamReferenceIdeal.main_arg13) = m ((c.tc : Thread Cert.AdamReferenceIdeal.nD Cert.AdamReferenceIdeal.τ).loc Cert.AdamReferenceIdeal.main_arg13)
      ∧ r.2.mem ((c.tc : Thread Cert.AdamReferenceIdeal.nD Cert.AdamReferenceIdeal.τ).loc Cert.AdamReferenceIdeal.main_arg14) = m ((c.tc : Thread Cert.AdamReferenceIdeal.nD Cert.AdamReferenceIdeal.τ).loc Cert.AdamReferenceIdeal.main_arg14)
      ∧ r.2.mem ((c.tc : Thread Cert.AdamReferenceIdeal.nD Cert.AdamReferenceIdeal.τ).loc Cert.AdamReferenceIdeal.main_arg15) = m ((c.tc : Thread Cert.AdamReferenceIdeal.nD Cert.AdamReferenceIdeal.τ).loc Cert.AdamReferenceIdeal.main_arg15)
      ∧ r.2.mem ((c.tc : Thread Cert.AdamReferenceIdeal.nD Cert.AdamReferenceIdeal.τ).loc Cert.AdamReferenceIdeal.main_arg16) = m ((c.tc : Thread Cert.AdamReferenceIdeal.nD Cert.AdamReferenceIdeal.τ).loc Cert.AdamReferenceIdeal.main_arg16)
      ∧ r.2.mem ((c.tc : Thread Cert.AdamReferenceIdeal.nD Cert.AdamReferenceIdeal.τ).loc Cert.AdamReferenceIdeal.main_arg17) = m ((c.tc : Thread Cert.AdamReferenceIdeal.nD Cert.AdamReferenceIdeal.τ).loc Cert.AdamReferenceIdeal.main_arg17)
      ∧ r.2.mem ((c.tc : Thread Cert.AdamReferenceIdeal.nD Cert.AdamReferenceIdeal.τ).loc Cert.AdamReferenceIdeal.main_arg18) = m ((c.tc : Thread Cert.AdamReferenceIdeal.nD Cert.AdamReferenceIdeal.τ).loc Cert.AdamReferenceIdeal.main_arg18)
      ∧ r.2.mem ((c.tc : Thread Cert.AdamReferenceIdeal.nD Cert.AdamReferenceIdeal.τ).loc Cert.AdamReferenceIdeal.main_arg19) = m ((c.tc : Thread Cert.AdamReferenceIdeal.nD Cert.AdamReferenceIdeal.τ).loc Cert.AdamReferenceIdeal.main_arg19)
      ∧ r.2.mem ((c.tc : Thread Cert.AdamReferenceIdeal.nD Cert.AdamReferenceIdeal.τ).loc Cert.AdamReferenceIdeal.main_arg20) = m ((c.tc : Thread Cert.AdamReferenceIdeal.nD Cert.AdamReferenceIdeal.τ).loc Cert.AdamReferenceIdeal.main_arg20)
      ∧ r.2.mem ((c.tc : Thread Cert.AdamReferenceIdeal.nD Cert.AdamReferenceIdeal.τ).loc Cert.AdamReferenceIdeal.main_arg21) = m ((c.tc : Thread Cert.AdamReferenceIdeal.nD Cert.AdamReferenceIdeal.τ).loc Cert.AdamReferenceIdeal.main_arg21)
      ∧ r.2.mem ((c.tc : Thread Cert.AdamReferenceIdeal.nD Cert.AdamReferenceIdeal.τ).loc Cert.AdamReferenceIdeal.main_arg22) = m ((c.tc : Thread Cert.AdamReferenceIdeal.nD Cert.AdamReferenceIdeal.τ).loc Cert.AdamReferenceIdeal.main_arg22)
      ∧ r.2.mem ((c.tc : Thread Cert.AdamReferenceIdeal.nD Cert.AdamReferenceIdeal.τ).loc Cert.AdamReferenceIdeal.main_arg23) = m ((c.tc : Thread Cert.AdamReferenceIdeal.nD Cert.AdamReferenceIdeal.τ).loc Cert.AdamReferenceIdeal.main_arg23)
      ∧ r.2.mem ((c.tc : Thread Cert.AdamReferenceIdeal.nD Cert.AdamReferenceIdeal.τ).loc Cert.AdamReferenceIdeal.main_arg24) = m ((c.tc : Thread Cert.AdamReferenceIdeal.nD Cert.AdamReferenceIdeal.τ).loc Cert.AdamReferenceIdeal.main_arg24)
      ∧ r.2.mem ((c.tc : Thread Cert.AdamReferenceIdeal.nD Cert.AdamReferenceIdeal.τ).loc Cert.AdamReferenceIdeal.main_arg25) = m ((c.tc : Thread Cert.AdamReferenceIdeal.nD Cert.AdamReferenceIdeal.τ).loc Cert.AdamReferenceIdeal.main_arg25)
      ∧ r.2.mem ((c.tc : Thread Cert.AdamReferenceIdeal.nD Cert.AdamReferenceIdeal.τ).loc Cert.AdamReferenceIdeal.main_arg26) = m ((c.tc : Thread Cert.AdamReferenceIdeal.nD Cert.AdamReferenceIdeal.τ).loc Cert.AdamReferenceIdeal.main_arg26)
      ∧ r.2.mem ((c.tc : Thread Cert.AdamReferenceIdeal.nD Cert.AdamReferenceIdeal.τ).loc Cert.AdamReferenceIdeal.main_arg27) = m ((c.tc : Thread Cert.AdamReferenceIdeal.nD Cert.AdamReferenceIdeal.τ).loc Cert.AdamReferenceIdeal.main_arg27))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_v83) = v4 c
          ∧ r.2.mem ((c.tc : Thread Cert.ReferenceIdeal.nD Cert.ReferenceIdeal.τ).loc Cert.ReferenceIdeal.main_v78) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)
      ∧ m' ((c.tc : Thread Cert.FfnReferenceIdeal.nD Cert.FfnReferenceIdeal.τ).loc Cert.FfnReferenceIdeal.main_arg7) = m ((c.tc : Thread Cert.FfnKernelIdeal.nD Cert.FfnKernelIdeal.τ).loc Cert.FfnKernelIdeal.main_arg7)) →
    ∃ (v0 : (c : Dev Cert.FfnKernelIdeal.nD) → Buf (Elt Ideal) ((c.tc : Thread Cert.FfnKernelIdeal.nD Cert.FfnKernelIdeal.τ).loc Cert.FfnKernelIdeal.main_v15)) (v1 : (c : Dev Cert.FfnKernelIdeal.nD) → Buf (Elt Ideal) ((c.tc : Thread Cert.FfnKernelIdeal.nD Cert.FfnKernelIdeal.τ).loc Cert.FfnKernelIdeal.main_v16)) (v2 : (c : Dev Cert.FfnKernelIdeal.nD) → Buf (Elt Ideal) ((c.tc : Thread Cert.FfnKernelIdeal.nD Cert.FfnKernelIdeal.τ).loc Cert.FfnKernelIdeal.main_v14_2)) (v3 : (c : Dev Cert.FfnKernelIdeal.nD) → Buf (Elt Ideal) ((c.tc : Thread Cert.FfnKernelIdeal.nD Cert.FfnKernelIdeal.τ).loc Cert.FfnKernelIdeal.main_v14_3)) (v4 : (c : Dev Cert.FfnKernelIdeal.nD) → Buf (Elt Ideal) ((c.tc : Thread Cert.FfnKernelIdeal.nD Cert.FfnKernelIdeal.τ).loc Cert.FfnKernelIdeal.main_v13)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v15) = v0 c
          ∧ r.2.mem ((c.tc : Thread Cert.FfnKernelIdeal.nD Cert.FfnKernelIdeal.τ).loc Cert.FfnKernelIdeal.main_v16) = v1 c
          ∧ r.2.mem ((c.tc : Thread Cert.FfnKernelIdeal.nD Cert.FfnKernelIdeal.τ).loc Cert.FfnKernelIdeal.main_v14_2) = v2 c
          ∧ r.2.mem ((c.tc : Thread Cert.FfnKernelIdeal.nD Cert.FfnKernelIdeal.τ).loc Cert.FfnKernelIdeal.main_v14_3) = v3 c
          ∧ r.2.mem ((c.tc : Thread Cert.FfnKernelIdeal.nD Cert.FfnKernelIdeal.τ).loc Cert.FfnKernelIdeal.main_v13) = v4 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
          ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v120) = v0 c
          ∧ r.2.mem ((c.tc : Thread Cert.FfnReferenceIdeal.nD Cert.FfnReferenceIdeal.τ).loc Cert.FfnReferenceIdeal.main_v122) = v1 c
          ∧ r.2.mem ((c.tc : Thread Cert.FfnReferenceIdeal.nD Cert.FfnReferenceIdeal.τ).loc Cert.FfnReferenceIdeal.main_v112) = v2 c
          ∧ r.2.mem ((c.tc : Thread Cert.FfnReferenceIdeal.nD Cert.FfnReferenceIdeal.τ).loc Cert.FfnReferenceIdeal.main_v103) = v3 c
          ∧ r.2.mem ((c.tc : Thread Cert.FfnReferenceIdeal.nD Cert.FfnReferenceIdeal.τ).loc Cert.FfnReferenceIdeal.main_v64) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)
      ∧ m' ((c.tc : Thread Cert.ProjReferenceIdeal.nD Cert.ProjReferenceIdeal.τ).loc Cert.ProjReferenceIdeal.main_arg6) = m ((c.tc : Thread Cert.ProjKernelIdeal.nD Cert.ProjKernelIdeal.τ).loc Cert.ProjKernelIdeal.main_arg6)
      ∧ m' ((c.tc : Thread Cert.ProjReferenceIdeal.nD Cert.ProjReferenceIdeal.τ).loc Cert.ProjReferenceIdeal.main_arg7) = m ((c.tc : Thread Cert.ProjKernelIdeal.nD Cert.ProjKernelIdeal.τ).loc Cert.ProjKernelIdeal.main_arg7)) →
    ∃ (v0 : (c : Dev Cert.ProjKernelIdeal.nD) → Buf (Elt Ideal) ((c.tc : Thread Cert.ProjKernelIdeal.nD Cert.ProjKernelIdeal.τ).loc Cert.ProjKernelIdeal.main_v5)) (v1 : (c : Dev Cert.ProjKernelIdeal.nD) → Buf (Elt Ideal) ((c.tc : Thread Cert.ProjKernelIdeal.nD Cert.ProjKernelIdeal.τ).loc Cert.ProjKernelIdeal.main_v8)) (v2 : (c : Dev Cert.ProjKernelIdeal.nD) → Buf (Elt Ideal) ((c.tc : Thread Cert.ProjKernelIdeal.nD Cert.ProjKernelIdeal.τ).loc Cert.ProjKernelIdeal.main_v10)) (v3 : (c : Dev Cert.ProjKernelIdeal.nD) → Buf (Elt Ideal) ((c.tc : Thread Cert.ProjKernelIdeal.nD Cert.ProjKernelIdeal.τ).loc Cert.ProjKernelIdeal.main_v11)) (v4 : (c : Dev Cert.ProjKernelIdeal.nD) → Buf (Elt Ideal) ((c.tc : Thread Cert.ProjKernelIdeal.nD Cert.ProjKernelIdeal.τ).loc Cert.ProjKernelIdeal.main_v14)) (v5 : (c : Dev Cert.ProjKernelIdeal.nD) → Buf (Elt Ideal) ((c.tc : Thread Cert.ProjKernelIdeal.nD Cert.ProjKernelIdeal.τ).loc Cert.ProjKernelIdeal.main_v15)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v5) = v0 c
          ∧ r.2.mem ((c.tc : Thread Cert.ProjKernelIdeal.nD Cert.ProjKernelIdeal.τ).loc Cert.ProjKernelIdeal.main_v8) = v1 c
          ∧ r.2.mem ((c.tc : Thread Cert.ProjKernelIdeal.nD Cert.ProjKernelIdeal.τ).loc Cert.ProjKernelIdeal.main_v10) = v2 c
          ∧ r.2.mem ((c.tc : Thread Cert.ProjKernelIdeal.nD Cert.ProjKernelIdeal.τ).loc Cert.ProjKernelIdeal.main_v11) = v3 c
          ∧ r.2.mem ((c.tc : Thread Cert.ProjKernelIdeal.nD Cert.ProjKernelIdeal.τ).loc Cert.ProjKernelIdeal.main_v14) = v4 c
          ∧ r.2.mem ((c.tc : Thread Cert.ProjKernelIdeal.nD Cert.ProjKernelIdeal.τ).loc Cert.ProjKernelIdeal.main_v15) = v5 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
          ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
          ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v15) = v0 c
          ∧ r.2.mem ((c.tc : Thread Cert.ProjReferenceIdeal.nD Cert.ProjReferenceIdeal.τ).loc Cert.ProjReferenceIdeal.main_v18) = v1 c
          ∧ r.2.mem ((c.tc : Thread Cert.ProjReferenceIdeal.nD Cert.ProjReferenceIdeal.τ).loc Cert.ProjReferenceIdeal.main_v27) = v2 c
          ∧ r.2.mem ((c.tc : Thread Cert.ProjReferenceIdeal.nD Cert.ProjReferenceIdeal.τ).loc Cert.ProjReferenceIdeal.main_v26) = v3 c
          ∧ r.2.mem ((c.tc : Thread Cert.ProjReferenceIdeal.nD Cert.ProjReferenceIdeal.τ).loc Cert.ProjReferenceIdeal.main_v23) = v4 c
          ∧ r.2.mem ((c.tc : Thread Cert.ProjReferenceIdeal.nD Cert.ProjReferenceIdeal.τ).loc Cert.ProjReferenceIdeal.main_v24) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7))

def preserves_GateDxKernel_GateDxKernelIdeal : Prop :=
  True

def algebraic_GateDxKernelIdeal_GateDxReferenceIdeal [hGateDxKernelIdeal : Cert.GateDxKernelIdeal.Facts] [hGateDxReferenceIdeal : Cert.GateDxReferenceIdeal.Facts] : Prop :=
  ∀ (m : (ℓ : Loc Cert.GateDxKernelIdeal.nD Cert.GateDxKernelIdeal.τ Cert.GateDxKernelIdeal.sig) → Buf (Elt Ideal) ℓ) (g : Dev Cert.GateDxKernelIdeal.nD → PrngReg)
    (m' : (ℓ : Loc Cert.GateDxReferenceIdeal.nD Cert.GateDxReferenceIdeal.τ Cert.GateDxReferenceIdeal.sig) → Buf (Elt Ideal) ℓ) (g' : Dev Cert.GateDxReferenceIdeal.nD → PrngReg), Pre_GateDxKernelIdeal m →
    (∀ c : Dev Cert.GateDxKernelIdeal.nD,
      m' ((c.tc : Thread Cert.GateDxReferenceIdeal.nD Cert.GateDxReferenceIdeal.τ).loc Cert.GateDxReferenceIdeal.main_arg0) = m ((c.tc : Thread Cert.GateDxKernelIdeal.nD Cert.GateDxKernelIdeal.τ).loc Cert.GateDxKernelIdeal.main_arg0)
      ∧ m' ((c.tc : Thread Cert.GateDxReferenceIdeal.nD Cert.GateDxReferenceIdeal.τ).loc Cert.GateDxReferenceIdeal.main_arg1) = m ((c.tc : Thread Cert.GateDxKernelIdeal.nD Cert.GateDxKernelIdeal.τ).loc Cert.GateDxKernelIdeal.main_arg1)) →
    ∃ (v0 : (c : Dev Cert.GateDxKernelIdeal.nD) → Buf (Elt Ideal) ((c.tc : Thread Cert.GateDxKernelIdeal.nD Cert.GateDxKernelIdeal.τ).loc Cert.GateDxKernelIdeal.main_v4)),
      θ_run (Cert.GateDxKernelIdeal.defs (F := Ideal)) (onTc (τ := Cert.GateDxKernelIdeal.τ) (Cert.GateDxKernelIdeal.main (F := Ideal))) ⟨m, fun _ => 0, g⟩ (fun r => ∀ c : Dev Cert.GateDxKernelIdeal.nD,
          r.2.mem ((c.tc : Thread Cert.GateDxKernelIdeal.nD Cert.GateDxKernelIdeal.τ).loc Cert.GateDxKernelIdeal.main_v4) = v0 c
          ∧ r.2.mem ((c.tc : Thread Cert.GateDxKernelIdeal.nD Cert.GateDxKernelIdeal.τ).loc Cert.GateDxKernelIdeal.main_arg0) = m ((c.tc : Thread Cert.GateDxKernelIdeal.nD Cert.GateDxKernelIdeal.τ).loc Cert.GateDxKernelIdeal.main_arg0)
          ∧ r.2.mem ((c.tc : Thread Cert.GateDxKernelIdeal.nD Cert.GateDxKernelIdeal.τ).loc Cert.GateDxKernelIdeal.main_arg1) = m ((c.tc : Thread Cert.GateDxKernelIdeal.nD Cert.GateDxKernelIdeal.τ).loc Cert.GateDxKernelIdeal.main_arg1))
      ∧ θ_run (Cert.GateDxReferenceIdeal.defs (F := Ideal)) (onTc (τ := Cert.GateDxReferenceIdeal.τ) (Cert.GateDxReferenceIdeal.main (F := Ideal))) ⟨m', fun _ => 0, g'⟩ (fun r => ∀ c : Dev Cert.GateDxReferenceIdeal.nD,
          r.2.mem ((c.tc : Thread Cert.GateDxReferenceIdeal.nD Cert.GateDxReferenceIdeal.τ).loc Cert.GateDxReferenceIdeal.main_v2) = v0 c
          ∧ r.2.mem ((c.tc : Thread Cert.GateDxReferenceIdeal.nD Cert.GateDxReferenceIdeal.τ).loc Cert.GateDxReferenceIdeal.main_arg0) = m' ((c.tc : Thread Cert.GateDxReferenceIdeal.nD Cert.GateDxReferenceIdeal.τ).loc Cert.GateDxReferenceIdeal.main_arg0)
          ∧ r.2.mem ((c.tc : Thread Cert.GateDxReferenceIdeal.nD Cert.GateDxReferenceIdeal.τ).loc Cert.GateDxReferenceIdeal.main_arg1) = m' ((c.tc : Thread Cert.GateDxReferenceIdeal.nD Cert.GateDxReferenceIdeal.τ).loc Cert.GateDxReferenceIdeal.main_arg1))

def preserves_UpDxKernel_UpDxKernelIdeal : Prop :=
  True

def algebraic_UpDxKernelIdeal_UpDxReferenceIdeal [hUpDxKernelIdeal : Cert.UpDxKernelIdeal.Facts] [hUpDxReferenceIdeal : Cert.UpDxReferenceIdeal.Facts] : Prop :=
  ∀ (m : (ℓ : Loc Cert.UpDxKernelIdeal.nD Cert.UpDxKernelIdeal.τ Cert.UpDxKernelIdeal.sig) → Buf (Elt Ideal) ℓ) (g : Dev Cert.UpDxKernelIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxKernelIdeal m →
    (∀ c : Dev Cert.UpDxKernelIdeal.nD,
      m' ((c.tc : Thread Cert.UpDxReferenceIdeal.nD Cert.UpDxReferenceIdeal.τ).loc Cert.UpDxReferenceIdeal.main_arg0) = m ((c.tc : Thread Cert.UpDxKernelIdeal.nD Cert.UpDxKernelIdeal.τ).loc Cert.UpDxKernelIdeal.main_arg0)
      ∧ m' ((c.tc : Thread Cert.UpDxReferenceIdeal.nD Cert.UpDxReferenceIdeal.τ).loc Cert.UpDxReferenceIdeal.main_arg1) = m ((c.tc : Thread Cert.UpDxKernelIdeal.nD Cert.UpDxKernelIdeal.τ).loc Cert.UpDxKernelIdeal.main_arg1)
      ∧ m' ((c.tc : Thread Cert.UpDxReferenceIdeal.nD Cert.UpDxReferenceIdeal.τ).loc Cert.UpDxReferenceIdeal.main_arg2) = m ((c.tc : Thread Cert.UpDxKernelIdeal.nD Cert.UpDxKernelIdeal.τ).loc Cert.UpDxKernelIdeal.main_arg2)) →
    ∃ (v0 : (c : Dev Cert.UpDxKernelIdeal.nD) → Buf (Elt Ideal) ((c.tc : Thread Cert.UpDxKernelIdeal.nD Cert.UpDxKernelIdeal.τ).loc Cert.UpDxKernelIdeal.main_v4)),
      θ_run (Cert.UpDxKernelIdeal.defs (F := Ideal)) (onTc (τ := Cert.UpDxKernelIdeal.τ) (Cert.UpDxKernelIdeal.main (F := Ideal))) ⟨m, fun _ => 0, g⟩ (fun r => ∀ c : Dev Cert.UpDxKernelIdeal.nD,
          r.2.mem ((c.tc : Thread Cert.UpDxKernelIdeal.nD Cert.UpDxKernelIdeal.τ).loc Cert.UpDxKernelIdeal.main_v4) = v0 c
          ∧ r.2.mem ((c.tc : Thread Cert.UpDxKernelIdeal.nD Cert.UpDxKernelIdeal.τ).loc Cert.UpDxKernelIdeal.main_arg0) = m ((c.tc : Thread Cert.UpDxKernelIdeal.nD Cert.UpDxKernelIdeal.τ).loc Cert.UpDxKernelIdeal.main_arg0)
          ∧ r.2.mem ((c.tc : Thread Cert.UpDxKernelIdeal.nD Cert.UpDxKernelIdeal.τ).loc Cert.UpDxKernelIdeal.main_arg1) = m ((c.tc : Thread Cert.UpDxKernelIdeal.nD Cert.UpDxKernelIdeal.τ).loc Cert.UpDxKernelIdeal.main_arg1)
          ∧ r.2.mem ((c.tc : Thread Cert.UpDxKernelIdeal.nD Cert.UpDxKernelIdeal.τ).loc Cert.UpDxKernelIdeal.main_arg2) = m ((c.tc : Thread Cert.UpDxKernelIdeal.nD Cert.UpDxKernelIdeal.τ).loc Cert.UpDxKernelIdeal.main_arg2))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v3) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1)
          ∧ r.2.mem ((c.tc : Thread Cert.UpDxReferenceIdeal.nD Cert.UpDxReferenceIdeal.τ).loc Cert.UpDxReferenceIdeal.main_arg2) = m' ((c.tc : Thread Cert.UpDxReferenceIdeal.nD Cert.UpDxReferenceIdeal.τ).loc Cert.UpDxReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v2)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v2) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_InDxKernel_InDxKernelIdeal : Prop :=
  True

def algebraic_InDxKernelIdeal_InDxReferenceIdeal [hInDxKernelIdeal : Cert.InDxKernelIdeal.Facts] [hInDxReferenceIdeal : Cert.InDxReferenceIdeal.Facts] : Prop :=
  ∀ (m : (ℓ : Loc Cert.InDxKernelIdeal.nD Cert.InDxKernelIdeal.τ Cert.InDxKernelIdeal.sig) → Buf (Elt Ideal) ℓ) (g : Dev Cert.InDxKernelIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxKernelIdeal m →
    (∀ c : Dev Cert.InDxKernelIdeal.nD,
      m' ((c.tc : Thread Cert.InDxReferenceIdeal.nD Cert.InDxReferenceIdeal.τ).loc Cert.InDxReferenceIdeal.main_arg0) = m ((c.tc : Thread Cert.InDxKernelIdeal.nD Cert.InDxKernelIdeal.τ).loc Cert.InDxKernelIdeal.main_arg0)
      ∧ m' ((c.tc : Thread Cert.InDxReferenceIdeal.nD Cert.InDxReferenceIdeal.τ).loc Cert.InDxReferenceIdeal.main_arg1) = m ((c.tc : Thread Cert.InDxKernelIdeal.nD Cert.InDxKernelIdeal.τ).loc Cert.InDxKernelIdeal.main_arg1)
      ∧ m' ((c.tc : Thread Cert.InDxReferenceIdeal.nD Cert.InDxReferenceIdeal.τ).loc Cert.InDxReferenceIdeal.main_arg2) = m ((c.tc : Thread Cert.InDxKernelIdeal.nD Cert.InDxKernelIdeal.τ).loc Cert.InDxKernelIdeal.main_arg2)) →
    ∃ (v0 : (c : Dev Cert.InDxKernelIdeal.nD) → Buf (Elt Ideal) ((c.tc : Thread Cert.InDxKernelIdeal.nD Cert.InDxKernelIdeal.τ).loc Cert.InDxKernelIdeal.main_v5)),
      θ_run (Cert.InDxKernelIdeal.defs (F := Ideal)) (onTc (τ := Cert.InDxKernelIdeal.τ) (Cert.InDxKernelIdeal.main (F := Ideal))) ⟨m, fun _ => 0, g⟩ (fun r => ∀ c : Dev Cert.InDxKernelIdeal.nD,
          r.2.mem ((c.tc : Thread Cert.InDxKernelIdeal.nD Cert.InDxKernelIdeal.τ).loc Cert.InDxKernelIdeal.main_v5) = v0 c
          ∧ r.2.mem ((c.tc : Thread Cert.InDxKernelIdeal.nD Cert.InDxKernelIdeal.τ).loc Cert.InDxKernelIdeal.main_arg0) = m ((c.tc : Thread Cert.InDxKernelIdeal.nD Cert.InDxKernelIdeal.τ).loc Cert.InDxKernelIdeal.main_arg0)
          ∧ r.2.mem ((c.tc : Thread Cert.InDxKernelIdeal.nD Cert.InDxKernelIdeal.τ).loc Cert.InDxKernelIdeal.main_arg1) = m ((c.tc : Thread Cert.InDxKernelIdeal.nD Cert.InDxKernelIdeal.τ).loc Cert.InDxKernelIdeal.main_arg1)
          ∧ r.2.mem ((c.tc : Thread Cert.InDxKernelIdeal.nD Cert.InDxKernelIdeal.τ).loc Cert.InDxKernelIdeal.main_arg2) = m ((c.tc : Thread Cert.InDxKernelIdeal.nD Cert.InDxKernelIdeal.τ).loc Cert.InDxKernelIdeal.main_arg2))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v4) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1)
          ∧ r.2.mem ((c.tc : Thread Cert.InDxReferenceIdeal.nD Cert.InDxReferenceIdeal.τ).loc Cert.InDxReferenceIdeal.main_arg2) = m' ((c.tc : Thread Cert.InDxReferenceIdeal.nD Cert.InDxReferenceIdeal.τ).loc Cert.InDxReferenceIdeal.main_arg2))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)
      ∧ m' ((c.tc : Thread Cert.AdamReferenceIdeal.nD Cert.AdamReferenceIdeal.τ).loc Cert.AdamReferenceIdeal.main_arg4) = m ((c.tc : Thread Cert.AdamKernelIdeal.nD Cert.AdamKernelIdeal.τ).loc Cert.AdamKernelIdeal.main_arg4)
      ∧ m' ((c.tc : Thread Cert.AdamReferenceIdeal.nD Cert.AdamReferenceIdeal.τ).loc Cert.AdamReferenceIdeal.main_arg5) = m ((c.tc : Thread Cert.AdamKernelIdeal.nD Cert.AdamKernelIdeal.τ).loc Cert.AdamKernelIdeal.main_arg5)
      ∧ m' ((c.tc : Thread Cert.AdamReferenceIdeal.nD Cert.AdamReferenceIdeal.τ).loc Cert.AdamReferenceIdeal.main_arg6) = m ((c.tc : Thread Cert.AdamKernelIdeal.nD Cert.AdamKernelIdeal.τ).loc Cert.AdamKernelIdeal.main_arg6)
      ∧ m' ((c.tc : Thread Cert.AdamReferenceIdeal.nD Cert.AdamReferenceIdeal.τ).loc Cert.AdamReferenceIdeal.main_arg7) = m ((c.tc : Thread Cert.AdamKernelIdeal.nD Cert.AdamKernelIdeal.τ).loc Cert.AdamKernelIdeal.main_arg7)
      ∧ m' ((c.tc : Thread Cert.AdamReferenceIdeal.nD Cert.AdamReferenceIdeal.τ).loc Cert.AdamReferenceIdeal.main_arg8) = m ((c.tc : Thread Cert.AdamKernelIdeal.nD Cert.AdamKernelIdeal.τ).loc Cert.AdamKernelIdeal.main_arg8)
      ∧ m' ((c.tc : Thread Cert.AdamReferenceIdeal.nD Cert.AdamReferenceIdeal.τ).loc Cert.AdamReferenceIdeal.main_arg9) = m ((c.tc : Thread Cert.AdamKernelIdeal.nD Cert.AdamKernelIdeal.τ).loc Cert.AdamKernelIdeal.main_arg9)
      ∧ m' ((c.tc : Thread Cert.AdamReferenceIdeal.nD Cert.AdamReferenceIdeal.τ).loc Cert.AdamReferenceIdeal.main_arg10) = m ((c.tc : Thread Cert.AdamKernelIdeal.nD Cert.AdamKernelIdeal.τ).loc Cert.AdamKernelIdeal.main_arg10)
      ∧ m' ((c.tc : Thread Cert.AdamReferenceIdeal.nD Cert.AdamReferenceIdeal.τ).loc Cert.AdamReferenceIdeal.main_arg11) = m ((c.tc : Thread Cert.AdamKernelIdeal.nD Cert.AdamKernelIdeal.τ).loc Cert.AdamKernelIdeal.main_arg11)
      ∧ m' ((c.tc : Thread Cert.AdamReferenceIdeal.nD Cert.AdamReferenceIdeal.τ).loc Cert.AdamReferenceIdeal.main_arg12) = m ((c.tc : Thread Cert.AdamKernelIdeal.nD Cert.AdamKernelIdeal.τ).loc Cert.AdamKernelIdeal.main_arg12)
      ∧ m' ((c.tc : Thread Cert.AdamReferenceIdeal.nD Cert.AdamReferenceIdeal.τ).loc Cert.AdamReferenceIdeal.main_arg13) = m ((c.tc : Thread Cert.AdamKernelIdeal.nD Cert.AdamKernelIdeal.τ).loc Cert.AdamKernelIdeal.main_arg13)
      ∧ m' ((c.tc : Thread Cert.AdamReferenceIdeal.nD Cert.AdamReferenceIdeal.τ).loc Cert.AdamReferenceIdeal.main_arg14) = m ((c.tc : Thread Cert.AdamKernelIdeal.nD Cert.AdamKernelIdeal.τ).loc Cert.AdamKernelIdeal.main_arg14)
      ∧ m' ((c.tc : Thread Cert.AdamReferenceIdeal.nD Cert.AdamReferenceIdeal.τ).loc Cert.AdamReferenceIdeal.main_arg15) = m ((c.tc : Thread Cert.AdamKernelIdeal.nD Cert.AdamKernelIdeal.τ).loc Cert.AdamKernelIdeal.main_arg15)
      ∧ m' ((c.tc : Thread Cert.AdamReferenceIdeal.nD Cert.AdamReferenceIdeal.τ).loc Cert.AdamReferenceIdeal.main_arg16) = m ((c.tc : Thread Cert.AdamKernelIdeal.nD Cert.AdamKernelIdeal.τ).loc Cert.AdamKernelIdeal.main_arg16)
      ∧ m' ((c.tc : Thread Cert.AdamReferenceIdeal.nD Cert.AdamReferenceIdeal.τ).loc Cert.AdamReferenceIdeal.main_arg17) = m ((c.tc : Thread Cert.AdamKernelIdeal.nD Cert.AdamKernelIdeal.τ).loc Cert.AdamKernelIdeal.main_arg17)
      ∧ m' ((c.tc : Thread Cert.AdamReferenceIdeal.nD Cert.AdamReferenceIdeal.τ).loc Cert.AdamReferenceIdeal.main_arg18) = m ((c.tc : Thread Cert.AdamKernelIdeal.nD Cert.AdamKernelIdeal.τ).loc Cert.AdamKernelIdeal.main_arg18)
      ∧ m' ((c.tc : Thread Cert.AdamReferenceIdeal.nD Cert.AdamReferenceIdeal.τ).loc Cert.AdamReferenceIdeal.main_arg19) = m ((c.tc : Thread Cert.AdamKernelIdeal.nD Cert.AdamKernelIdeal.τ).loc Cert.AdamKernelIdeal.main_arg19)
      ∧ m' ((c.tc : Thread Cert.AdamReferenceIdeal.nD Cert.AdamReferenceIdeal.τ).loc Cert.AdamReferenceIdeal.main_arg20) = m ((c.tc : Thread Cert.AdamKernelIdeal.nD Cert.AdamKernelIdeal.τ).loc Cert.AdamKernelIdeal.main_arg20)
      ∧ m' ((c.tc : Thread Cert.AdamReferenceIdeal.nD Cert.AdamReferenceIdeal.τ).loc Cert.AdamReferenceIdeal.main_arg21) = m ((c.tc : Thread Cert.AdamKernelIdeal.nD Cert.AdamKernelIdeal.τ).loc Cert.AdamKernelIdeal.main_arg21)
      ∧ m' ((c.tc : Thread Cert.AdamReferenceIdeal.nD Cert.AdamReferenceIdeal.τ).loc Cert.AdamReferenceIdeal.main_arg22) = m ((c.tc : Thread Cert.AdamKernelIdeal.nD Cert.AdamKernelIdeal.τ).loc Cert.AdamKernelIdeal.main_arg22)
      ∧ m' ((c.tc : Thread Cert.AdamReferenceIdeal.nD Cert.AdamReferenceIdeal.τ).loc Cert.AdamReferenceIdeal.main_arg23) = m ((c.tc : Thread Cert.AdamKernelIdeal.nD Cert.AdamKernelIdeal.τ).loc Cert.AdamKernelIdeal.main_arg23)
      ∧ m' ((c.tc : Thread Cert.AdamReferenceIdeal.nD Cert.AdamReferenceIdeal.τ).loc Cert.AdamReferenceIdeal.main_arg24) = m ((c.tc : Thread Cert.AdamKernelIdeal.nD Cert.AdamKernelIdeal.τ).loc Cert.AdamKernelIdeal.main_arg24)
      ∧ m' ((c.tc : Thread Cert.AdamReferenceIdeal.nD Cert.AdamReferenceIdeal.τ).loc Cert.AdamReferenceIdeal.main_arg25) = m ((c.tc : Thread Cert.AdamKernelIdeal.nD Cert.AdamKernelIdeal.τ).loc Cert.AdamKernelIdeal.main_arg25)
      ∧ m' ((c.tc : Thread Cert.AdamReferenceIdeal.nD Cert.AdamReferenceIdeal.τ).loc Cert.AdamReferenceIdeal.main_arg26) = m ((c.tc : Thread Cert.AdamKernelIdeal.nD Cert.AdamKernelIdeal.τ).loc Cert.AdamKernelIdeal.main_arg26)
      ∧ m' ((c.tc : Thread Cert.AdamReferenceIdeal.nD Cert.AdamReferenceIdeal.τ).loc Cert.AdamReferenceIdeal.main_arg27) = m ((c.tc : Thread Cert.AdamKernelIdeal.nD Cert.AdamKernelIdeal.τ).loc Cert.AdamKernelIdeal.main_arg27)) →
    ∃ (v0 : (c : Dev Cert.AdamKernelIdeal.nD) → Buf (Elt Ideal) ((c.tc : Thread Cert.AdamKernelIdeal.nD Cert.AdamKernelIdeal.τ).loc Cert.AdamKernelIdeal.main_v5)) (v1 : (c : Dev Cert.AdamKernelIdeal.nD) → Buf (Elt Ideal) ((c.tc : Thread Cert.AdamKernelIdeal.nD Cert.AdamKernelIdeal.τ).loc Cert.AdamKernelIdeal.main_v6)) (v2 : (c : Dev Cert.AdamKernelIdeal.nD) → Buf (Elt Ideal) ((c.tc : Thread Cert.AdamKernelIdeal.nD Cert.AdamKernelIdeal.τ).loc Cert.AdamKernelIdeal.main_v7)) (v3 : (c : Dev Cert.AdamKernelIdeal.nD) → Buf (Elt Ideal) ((c.tc : Thread Cert.AdamKernelIdeal.nD Cert.AdamKernelIdeal.τ).loc Cert.AdamKernelIdeal.main_v13)) (v4 : (c : Dev Cert.AdamKernelIdeal.nD) → Buf (Elt Ideal) ((c.tc : Thread Cert.AdamKernelIdeal.nD Cert.AdamKernelIdeal.τ).loc Cert.AdamKernelIdeal.main_v14)) (v5 : (c : Dev Cert.AdamKernelIdeal.nD) → Buf (Elt Ideal) ((c.tc : Thread Cert.AdamKernelIdeal.nD Cert.AdamKernelIdeal.τ).loc Cert.AdamKernelIdeal.main_v15)) (v6 : (c : Dev Cert.AdamKernelIdeal.nD) → Buf (Elt Ideal) ((c.tc : Thread Cert.AdamKernelIdeal.nD Cert.AdamKernelIdeal.τ).loc Cert.AdamKernelIdeal.main_v21)) (v7 : (c : Dev Cert.AdamKernelIdeal.nD) → Buf (Elt Ideal) ((c.tc : Thread Cert.AdamKernelIdeal.nD Cert.AdamKernelIdeal.τ).loc Cert.AdamKernelIdeal.main_v22)) (v8 : (c : Dev Cert.AdamKernelIdeal.nD) → Buf (Elt Ideal) ((c.tc : Thread Cert.AdamKernelIdeal.nD Cert.AdamKernelIdeal.τ).loc Cert.AdamKernelIdeal.main_v23)) (v9 : (c : Dev Cert.AdamKernelIdeal.nD) → Buf (Elt Ideal) ((c.tc : Thread Cert.AdamKernelIdeal.nD Cert.AdamKernelIdeal.τ).loc Cert.AdamKernelIdeal.main_v29)) (v10 : (c : Dev Cert.AdamKernelIdeal.nD) → Buf (Elt Ideal) ((c.tc : Thread Cert.AdamKernelIdeal.nD Cert.AdamKernelIdeal.τ).loc Cert.AdamKernelIdeal.main_v30)) (v11 : (c : Dev Cert.AdamKernelIdeal.nD) → Buf (Elt Ideal) ((c.tc : Thread Cert.AdamKernelIdeal.nD Cert.AdamKernelIdeal.τ).loc Cert.AdamKernelIdeal.main_v31)) (v12 : (c : Dev Cert.AdamKernelIdeal.nD) → Buf (Elt Ideal) ((c.tc : Thread Cert.AdamKernelIdeal.nD Cert.AdamKernelIdeal.τ).loc Cert.AdamKernelIdeal.main_v37)) (v13 : (c : Dev Cert.AdamKernelIdeal.nD) → Buf (Elt Ideal) ((c.tc : Thread Cert.AdamKernelIdeal.nD Cert.AdamKernelIdeal.τ).loc Cert.AdamKernelIdeal.main_v38)) (v14 : (c : Dev Cert.AdamKernelIdeal.nD) → Buf (Elt Ideal) ((c.tc : Thread Cert.AdamKernelIdeal.nD Cert.AdamKernelIdeal.τ).loc Cert.AdamKernelIdeal.main_v39)) (v15 : (c : Dev Cert.AdamKernelIdeal.nD) → Buf (Elt Ideal) ((c.tc : Thread Cert.AdamKernelIdeal.nD Cert.AdamKernelIdeal.τ).loc Cert.AdamKernelIdeal.main_v45)) (v16 : (c : Dev Cert.AdamKernelIdeal.nD) → Buf (Elt Ideal) ((c.tc : Thread Cert.AdamKernelIdeal.nD Cert.AdamKernelIdeal.τ).loc Cert.AdamKernelIdeal.main_v46)) (v17 : (c : Dev Cert.AdamKernelIdeal.nD) → Buf (Elt Ideal) ((c.tc : Thread Cert.AdamKernelIdeal.nD Cert.AdamKernelIdeal.τ).loc Cert.AdamKernelIdeal.main_v47)) (v18 : (c : Dev Cert.AdamKernelIdeal.nD) → Buf (Elt Ideal) ((c.tc : Thread Cert.AdamKernelIdeal.nD Cert.AdamKernelIdeal.τ).loc Cert.AdamKernelIdeal.main_v53)) (v19 : (c : Dev Cert.AdamKernelIdeal.nD) → Buf (Elt Ideal) ((c.tc : Thread Cert.AdamKernelIdeal.nD Cert.AdamKernelIdeal.τ).loc Cert.AdamKernelIdeal.main_v54)) (v20 : (c : Dev Cert.AdamKernelIdeal.nD) → Buf (Elt Ideal) ((c.tc : Thread Cert.AdamKernelIdeal.nD Cert.AdamKernelIdeal.τ).loc Cert.AdamKernelIdeal.main_v55)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v5) = v0 c
          ∧ r.2.mem ((c.tc : Thread Cert.AdamKernelIdeal.nD Cert.AdamKernelIdeal.τ).loc Cert.AdamKernelIdeal.main_v6) = v1 c
          ∧ r.2.mem ((c.tc : Thread Cert.AdamKernelIdeal.nD Cert.AdamKernelIdeal.τ).loc Cert.AdamKernelIdeal.main_v7) = v2 c
          ∧ r.2.mem ((c.tc : Thread Cert.AdamKernelIdeal.nD Cert.AdamKernelIdeal.τ).loc Cert.AdamKernelIdeal.main_v13) = v3 c
          ∧ r.2.mem ((c.tc : Thread Cert.AdamKernelIdeal.nD Cert.AdamKernelIdeal.τ).loc Cert.AdamKernelIdeal.main_v14) = v4 c
          ∧ r.2.mem ((c.tc : Thread Cert.AdamKernelIdeal.nD Cert.AdamKernelIdeal.τ).loc Cert.AdamKernelIdeal.main_v15) = v5 c
          ∧ r.2.mem ((c.tc : Thread Cert.AdamKernelIdeal.nD Cert.AdamKernelIdeal.τ).loc Cert.AdamKernelIdeal.main_v21) = v6 c
          ∧ r.2.mem ((c.tc : Thread Cert.AdamKernelIdeal.nD Cert.AdamKernelIdeal.τ).loc Cert.AdamKernelIdeal.main_v22) = v7 c
          ∧ r.2.mem ((c.tc : Thread Cert.AdamKernelIdeal.nD Cert.AdamKernelIdeal.τ).loc Cert.AdamKernelIdeal.main_v23) = v8 c
          ∧ r.2.mem ((c.tc : Thread Cert.AdamKernelIdeal.nD Cert.AdamKernelIdeal.τ).loc Cert.AdamKernelIdeal.main_v29) = v9 c
          ∧ r.2.mem ((c.tc : Thread Cert.AdamKernelIdeal.nD Cert.AdamKernelIdeal.τ).loc Cert.AdamKernelIdeal.main_v30) = v10 c
          ∧ r.2.mem ((c.tc : Thread Cert.AdamKernelIdeal.nD Cert.AdamKernelIdeal.τ).loc Cert.AdamKernelIdeal.main_v31) = v11 c
          ∧ r.2.mem ((c.tc : Thread Cert.AdamKernelIdeal.nD Cert.AdamKernelIdeal.τ).loc Cert.AdamKernelIdeal.main_v37) = v12 c
          ∧ r.2.mem ((c.tc : Thread Cert.AdamKernelIdeal.nD Cert.AdamKernelIdeal.τ).loc Cert.AdamKernelIdeal.main_v38) = v13 c
          ∧ r.2.mem ((c.tc : Thread Cert.AdamKernelIdeal.nD Cert.AdamKernelIdeal.τ).loc Cert.AdamKernelIdeal.main_v39) = v14 c
          ∧ r.2.mem ((c.tc : Thread Cert.AdamKernelIdeal.nD Cert.AdamKernelIdeal.τ).loc Cert.AdamKernelIdeal.main_v45) = v15 c
          ∧ r.2.mem ((c.tc : Thread Cert.AdamKernelIdeal.nD Cert.AdamKernelIdeal.τ).loc Cert.AdamKernelIdeal.main_v46) = v16 c
          ∧ r.2.mem ((c.tc : Thread Cert.AdamKernelIdeal.nD Cert.AdamKernelIdeal.τ).loc Cert.AdamKernelIdeal.main_v47) = v17 c
          ∧ r.2.mem ((c.tc : Thread Cert.AdamKernelIdeal.nD Cert.AdamKernelIdeal.τ).loc Cert.AdamKernelIdeal.main_v53) = v18 c
          ∧ r.2.mem ((c.tc : Thread Cert.AdamKernelIdeal.nD Cert.AdamKernelIdeal.τ).loc Cert.AdamKernelIdeal.main_v54) = v19 c
          ∧ r.2.mem ((c.tc : Thread Cert.AdamKernelIdeal.nD Cert.AdamKernelIdeal.τ).loc Cert.AdamKernelIdeal.main_v55) = v20 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
          ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4)
          ∧ r.2.mem ((c.tc : Thread Cert.AdamKernelIdeal.nD Cert.AdamKernelIdeal.τ).loc Cert.AdamKernelIdeal.main_arg5) = m ((c.tc : Thread Cert.AdamKernelIdeal.nD Cert.AdamKernelIdeal.τ).loc Cert.AdamKernelIdeal.main_arg5)
          ∧ r.2.mem ((c.tc : Thread Cert.AdamKernelIdeal.nD Cert.AdamKernelIdeal.τ).loc Cert.AdamKernelIdeal.main_arg6) = m ((c.tc : Thread Cert.AdamKernelIdeal.nD Cert.AdamKernelIdeal.τ).loc Cert.AdamKernelIdeal.main_arg6)
          ∧ r.2.mem ((c.tc : Thread Cert.AdamKernelIdeal.nD Cert.AdamKernelIdeal.τ).loc Cert.AdamKernelIdeal.main_arg7) = m ((c.tc : Thread Cert.AdamKernelIdeal.nD Cert.AdamKernelIdeal.τ).loc Cert.AdamKernelIdeal.main_arg7)
          ∧ r.2.mem ((c.tc : Thread Cert.AdamKernelIdeal.nD Cert.AdamKernelIdeal.τ).loc Cert.AdamKernelIdeal.main_arg8) = m ((c.tc : Thread Cert.AdamKernelIdeal.nD Cert.AdamKernelIdeal.τ).loc Cert.AdamKernelIdeal.main_arg8)
          ∧ r.2.mem ((c.tc : Thread Cert.AdamKernelIdeal.nD Cert.AdamKernelIdeal.τ).loc Cert.AdamKernelIdeal.main_arg9) = m ((c.tc : Thread Cert.AdamKernelIdeal.nD Cert.AdamKernelIdeal.τ).loc Cert.AdamKernelIdeal.main_arg9)
          ∧ r.2.mem ((c.tc : Thread Cert.AdamKernelIdeal.nD Cert.AdamKernelIdeal.τ).loc Cert.AdamKernelIdeal.main_arg10) = m ((c.tc : Thread Cert.AdamKernelIdeal.nD Cert.AdamKernelIdeal.τ).loc Cert.AdamKernelIdeal.main_arg10)
          ∧ r.2.mem ((c.tc : Thread Cert.AdamKernelIdeal.nD Cert.AdamKernelIdeal.τ).loc Cert.AdamKernelIdeal.main_arg11) = m ((c.tc : Thread Cert.AdamKernelIdeal.nD Cert.AdamKernelIdeal.τ).loc Cert.AdamKernelIdeal.main_arg11)
          ∧ r.2.mem ((c.tc : Thread Cert.AdamKernelIdeal.nD Cert.AdamKernelIdeal.τ).loc Cert.AdamKernelIdeal.main_arg12) = m ((c.tc : Thread Cert.AdamKernelIdeal.nD Cert.AdamKernelIdeal.τ).loc Cert.AdamKernelIdeal.main_arg12)
          ∧ r.2.mem ((c.tc : Thread Cert.AdamKernelIdeal.nD Cert.AdamKernelIdeal.τ).loc Cert.AdamKernelIdeal.main_arg13) = m ((c.tc : Thread Cert.AdamKernelIdeal.nD Cert.AdamKernelIdeal.τ).loc Cert.AdamKernelIdeal.main_arg13)
          ∧ r.2.mem ((c.tc : Thread Cert.AdamKernelIdeal.nD Cert.AdamKernelIdeal.τ).loc Cert.AdamKernelIdeal.main_arg14) = m ((c.tc : Thread Cert.AdamKernelIdeal.nD Cert.AdamKernelIdeal.τ).loc Cert.AdamKernelIdeal.main_arg14)
          ∧ r.2.mem ((c.tc : Thread Cert.AdamKernelIdeal.nD Cert.AdamKernelIdeal.τ).loc Cert.AdamKernelIdeal.main_arg15) = m ((c.tc : Thread Cert.AdamKernelIdeal.nD Cert.AdamKernelIdeal.τ).loc Cert.AdamKernelIdeal.main_arg15)
          ∧ r.2.mem ((c.tc : Thread Cert.AdamKernelIdeal.nD Cert.AdamKernelIdeal.τ).loc Cert.AdamKernelIdeal.main_arg16) = m ((c.tc : Thread Cert.AdamKernelIdeal.nD Cert.AdamKernelIdeal.τ).loc Cert.AdamKernelIdeal.main_arg16)
          ∧ r.2.mem ((c.tc : Thread Cert.AdamKernelIdeal.nD Cert.AdamKernelIdeal.τ).loc Cert.AdamKernelIdeal.main_arg17) = m ((c.tc : Thread Cert.AdamKernelIdeal.nD Cert.AdamKernelIdeal.τ).loc Cert.AdamKernelIdeal.main_arg17)
          ∧ r.2.mem ((c.tc : Thread Cert.AdamKernelIdeal.nD Cert.AdamKernelIdeal.τ).loc Cert.AdamKernelIdeal.main_arg18) = m ((c.tc : Thread Cert.AdamKernelIdeal.nD Cert.AdamKernelIdeal.τ).loc Cert.AdamKernelIdeal.main_arg18)
          ∧ r.2.mem ((c.tc : Thread Cert.AdamKernelIdeal.nD Cert.AdamKernelIdeal.τ).loc Cert.AdamKernelIdeal.main_arg19) = m ((c.tc : Thread Cert.AdamKernelIdeal.nD Cert.AdamKernelIdeal.τ).loc Cert.AdamKernelIdeal.main_arg19)
          ∧ r.2.mem ((c.tc : Thread Cert.AdamKernelIdeal.nD Cert.AdamKernelIdeal.τ).loc Cert.AdamKernelIdeal.main_arg20) = m ((c.tc : Thread Cert.AdamKernelIdeal.nD Cert.AdamKernelIdeal.τ).loc Cert.AdamKernelIdeal.main_arg20)
          ∧ r.2.mem ((c.tc : Thread Cert.AdamKernelIdeal.nD Cert.AdamKernelIdeal.τ).loc Cert.AdamKernelIdeal.main_arg21) = m ((c.tc : Thread Cert.AdamKernelIdeal.nD Cert.AdamKernelIdeal.τ).loc Cert.AdamKernelIdeal.main_arg21)
          ∧ r.2.mem ((c.tc : Thread Cert.AdamKernelIdeal.nD Cert.AdamKernelIdeal.τ).loc Cert.AdamKernelIdeal.main_arg22) = m ((c.tc : Thread Cert.AdamKernelIdeal.nD Cert.AdamKernelIdeal.τ).loc Cert.AdamKernelIdeal.main_arg22)
          ∧ r.2.mem ((c.tc : Thread Cert.AdamKernelIdeal.nD Cert.AdamKernelIdeal.τ).loc Cert.AdamKernelIdeal.main_arg23) = m ((c.tc : Thread Cert.AdamKernelIdeal.nD Cert.AdamKernelIdeal.τ).loc Cert.AdamKernelIdeal.main_arg23)
          ∧ r.2.mem ((c.tc : Thread Cert.AdamKernelIdeal.nD Cert.AdamKernelIdeal.τ).loc Cert.AdamKernelIdeal.main_arg24) = m ((c.tc : Thread Cert.AdamKernelIdeal.nD Cert.AdamKernelIdeal.τ).loc Cert.AdamKernelIdeal.main_arg24)
          ∧ r.2.mem ((c.tc : Thread Cert.AdamKernelIdeal.nD Cert.AdamKernelIdeal.τ).loc Cert.AdamKernelIdeal.main_arg25) = m ((c.tc : Thread Cert.AdamKernelIdeal.nD Cert.AdamKernelIdeal.τ).loc Cert.AdamKernelIdeal.main_arg25)
          ∧ r.2.mem ((c.tc : Thread Cert.AdamKernelIdeal.nD Cert.AdamKernelIdeal.τ).loc Cert.AdamKernelIdeal.main_arg26) = m ((c.tc : Thread Cert.AdamKernelIdeal.nD Cert.AdamKernelIdeal.τ).loc Cert.AdamKernelIdeal.main_arg26)
          ∧ r.2.mem ((c.tc : Thread Cert.AdamKernelIdeal.nD Cert.AdamKernelIdeal.τ).loc Cert.AdamKernelIdeal.main_arg27) = m ((c.tc : Thread Cert.AdamKernelIdeal.nD Cert.AdamKernelIdeal.τ).loc Cert.AdamKernelIdeal.main_arg27))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v4) = v1 c
          ∧ r.2.mem ((c.tc : Thread Cert.AdamReferenceIdeal.nD Cert.AdamReferenceIdeal.τ).loc Cert.AdamReferenceIdeal.main_v10) = v2 c
          ∧ r.2.mem ((c.tc : Thread Cert.AdamReferenceIdeal.nD Cert.AdamReferenceIdeal.τ).loc Cert.AdamReferenceIdeal.main_v47) = v3 c
          ∧ r.2.mem ((c.tc : Thread Cert.AdamReferenceIdeal.nD Cert.AdamReferenceIdeal.τ).loc Cert.AdamReferenceIdeal.main_v28) = v4 c
          ∧ r.2.mem ((c.tc : Thread Cert.AdamReferenceIdeal.nD Cert.AdamReferenceIdeal.τ).loc Cert.AdamReferenceIdeal.main_v34) = v5 c
          ∧ r.2.mem ((c.tc : Thread Cert.AdamReferenceIdeal.nD Cert.AdamReferenceIdeal.τ).loc Cert.AdamReferenceIdeal.main_v71) = v6 c
          ∧ r.2.mem ((c.tc : Thread Cert.AdamReferenceIdeal.nD Cert.AdamReferenceIdeal.τ).loc Cert.AdamReferenceIdeal.main_v52) = v7 c
          ∧ r.2.mem ((c.tc : Thread Cert.AdamReferenceIdeal.nD Cert.AdamReferenceIdeal.τ).loc Cert.AdamReferenceIdeal.main_v58) = v8 c
          ∧ r.2.mem ((c.tc : Thread Cert.AdamReferenceIdeal.nD Cert.AdamReferenceIdeal.τ).loc Cert.AdamReferenceIdeal.main_v95) = v9 c
          ∧ r.2.mem ((c.tc : Thread Cert.AdamReferenceIdeal.nD Cert.AdamReferenceIdeal.τ).loc Cert.AdamReferenceIdeal.main_v76) = v10 c
          ∧ r.2.mem ((c.tc : Thread Cert.AdamReferenceIdeal.nD Cert.AdamReferenceIdeal.τ).loc Cert.AdamReferenceIdeal.main_v82) = v11 c
          ∧ r.2.mem ((c.tc : Thread Cert.AdamReferenceIdeal.nD Cert.AdamReferenceIdeal.τ).loc Cert.AdamReferenceIdeal.main_v119) = v12 c
          ∧ r.2.mem ((c.tc : Thread Cert.AdamReferenceIdeal.nD Cert.AdamReferenceIdeal.τ).loc Cert.AdamReferenceIdeal.main_v100) = v13 c
          ∧ r.2.mem ((c.tc : Thread Cert.AdamReferenceIdeal.nD Cert.AdamReferenceIdeal.τ).loc Cert.AdamReferenceIdeal.main_v106) = v14 c
          ∧ r.2.mem ((c.tc : Thread Cert.AdamReferenceIdeal.nD Cert.AdamReferenceIdeal.τ).loc Cert.AdamReferenceIdeal.main_v143) = v15 c
          ∧ r.2.mem ((c.tc : Thread Cert.AdamReferenceIdeal.nD Cert.AdamReferenceIdeal.τ).loc Cert.AdamReferenceIdeal.main_v124) = v16 c
          ∧ r.2.mem ((c.tc : Thread Cert.AdamReferenceIdeal.nD Cert.AdamReferenceIdeal.τ).loc Cert.AdamReferenceIdeal.main_v130) = v17 c
          ∧ r.2.mem ((c.tc : Thread Cert.AdamReferenceIdeal.nD Cert.AdamReferenceIdeal.τ).loc Cert.AdamReferenceIdeal.main_v167) = v18 c
          ∧ r.2.mem ((c.tc : Thread Cert.AdamReferenceIdeal.nD Cert.AdamReferenceIdeal.τ).loc Cert.AdamReferenceIdeal.main_v148) = v19 c
          ∧ r.2.mem ((c.tc : Thread Cert.AdamReferenceIdeal.nD Cert.AdamReferenceIdeal.τ).loc Cert.AdamReferenceIdeal.main_v154) = v20 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3)
          ∧ r.2.mem ((c.tc : Thread Cert.AdamReferenceIdeal.nD Cert.AdamReferenceIdeal.τ).loc Cert.AdamReferenceIdeal.main_arg4) = m' ((c.tc : Thread Cert.AdamReferenceIdeal.nD Cert.AdamReferenceIdeal.τ).loc Cert.AdamReferenceIdeal.main_arg4)
          ∧ r.2.mem ((c.tc : Thread Cert.AdamReferenceIdeal.nD Cert.AdamReferenceIdeal.τ).loc Cert.AdamReferenceIdeal.main_arg5) = m' ((c.tc : Thread Cert.AdamReferenceIdeal.nD Cert.AdamReferenceIdeal.τ).loc Cert.AdamReferenceIdeal.main_arg5)
          ∧ r.2.mem ((c.tc : Thread Cert.AdamReferenceIdeal.nD Cert.AdamReferenceIdeal.τ).loc Cert.AdamReferenceIdeal.main_arg6) = m' ((c.tc : Thread Cert.AdamReferenceIdeal.nD Cert.AdamReferenceIdeal.τ).loc Cert.AdamReferenceIdeal.main_arg6)
          ∧ r.2.mem ((c.tc : Thread Cert.AdamReferenceIdeal.nD Cert.AdamReferenceIdeal.τ).loc Cert.AdamReferenceIdeal.main_arg7) = m' ((c.tc : Thread Cert.AdamReferenceIdeal.nD Cert.AdamReferenceIdeal.τ).loc Cert.AdamReferenceIdeal.main_arg7)
          ∧ r.2.mem ((c.tc : Thread Cert.AdamReferenceIdeal.nD Cert.AdamReferenceIdeal.τ).loc Cert.AdamReferenceIdeal.main_arg8) = m' ((c.tc : Thread Cert.AdamReferenceIdeal.nD Cert.AdamReferenceIdeal.τ).loc Cert.AdamReferenceIdeal.main_arg8)
          ∧ r.2.mem ((c.tc : Thread Cert.AdamReferenceIdeal.nD Cert.AdamReferenceIdeal.τ).loc Cert.AdamReferenceIdeal.main_arg9) = m' ((c.tc : Thread Cert.AdamReferenceIdeal.nD Cert.AdamReferenceIdeal.τ).loc Cert.AdamReferenceIdeal.main_arg9)
          ∧ r.2.mem ((c.tc : Thread Cert.AdamReferenceIdeal.nD Cert.AdamReferenceIdeal.τ).loc Cert.AdamReferenceIdeal.main_arg10) = m' ((c.tc : Thread Cert.AdamReferenceIdeal.nD Cert.AdamReferenceIdeal.τ).loc Cert.AdamReferenceIdeal.main_arg10)
          ∧ r.2.mem ((c.tc : Thread Cert.AdamReferenceIdeal.nD Cert.AdamReferenceIdeal.τ).loc Cert.AdamReferenceIdeal.main_arg11) = m' ((c.tc : Thread Cert.AdamReferenceIdeal.nD Cert.AdamReferenceIdeal.τ).loc Cert.AdamReferenceIdeal.main_arg11)
          ∧ r.2.mem ((c.tc : Thread Cert.AdamReferenceIdeal.nD Cert.AdamReferenceIdeal.τ).loc Cert.AdamReferenceIdeal.main_arg12) = m' ((c.tc : Thread Cert.AdamReferenceIdeal.nD Cert.AdamReferenceIdeal.τ).loc Cert.AdamReferenceIdeal.main_arg12)
          ∧ r.2.mem ((c.tc : Thread Cert.AdamReferenceIdeal.nD Cert.AdamReferenceIdeal.τ).loc Cert.AdamReferenceIdeal.main_arg13) = m' ((c.tc : Thread Cert.AdamReferenceIdeal.nD Cert.AdamReferenceIdeal.τ).loc Cert.AdamReferenceIdeal.main_arg13)
          ∧ r.2.mem ((c.tc : Thread Cert.AdamReferenceIdeal.nD Cert.AdamReferenceIdeal.τ).loc Cert.AdamReferenceIdeal.main_arg14) = m' ((c.tc : Thread Cert.AdamReferenceIdeal.nD Cert.AdamReferenceIdeal.τ).loc Cert.AdamReferenceIdeal.main_arg14)
          ∧ r.2.mem ((c.tc : Thread Cert.AdamReferenceIdeal.nD Cert.AdamReferenceIdeal.τ).loc Cert.AdamReferenceIdeal.main_arg15) = m' ((c.tc : Thread Cert.AdamReferenceIdeal.nD Cert.AdamReferenceIdeal.τ).loc Cert.AdamReferenceIdeal.main_arg15)
          ∧ r.2.mem ((c.tc : Thread Cert.AdamReferenceIdeal.nD Cert.AdamReferenceIdeal.τ).loc Cert.AdamReferenceIdeal.main_arg16) = m' ((c.tc : Thread Cert.AdamReferenceIdeal.nD Cert.AdamReferenceIdeal.τ).loc Cert.AdamReferenceIdeal.main_arg16)
          ∧ r.2.mem ((c.tc : Thread Cert.AdamReferenceIdeal.nD Cert.AdamReferenceIdeal.τ).loc Cert.AdamReferenceIdeal.main_arg17) = m' ((c.tc : Thread Cert.AdamReferenceIdeal.nD Cert.AdamReferenceIdeal.τ).loc Cert.AdamReferenceIdeal.main_arg17)
          ∧ r.2.mem ((c.tc : Thread Cert.AdamReferenceIdeal.nD Cert.AdamReferenceIdeal.τ).loc Cert.AdamReferenceIdeal.main_arg18) = m' ((c.tc : Thread Cert.AdamReferenceIdeal.nD Cert.AdamReferenceIdeal.τ).loc Cert.AdamReferenceIdeal.main_arg18)
          ∧ r.2.mem ((c.tc : Thread Cert.AdamReferenceIdeal.nD Cert.AdamReferenceIdeal.τ).loc Cert.AdamReferenceIdeal.main_arg19) = m' ((c.tc : Thread Cert.AdamReferenceIdeal.nD Cert.AdamReferenceIdeal.τ).loc Cert.AdamReferenceIdeal.main_arg19)
          ∧ r.2.mem ((c.tc : Thread Cert.AdamReferenceIdeal.nD Cert.AdamReferenceIdeal.τ).loc Cert.AdamReferenceIdeal.main_arg20) = m' ((c.tc : Thread Cert.AdamReferenceIdeal.nD Cert.AdamReferenceIdeal.τ).loc Cert.AdamReferenceIdeal.main_arg20)
          ∧ r.2.mem ((c.tc : Thread Cert.AdamReferenceIdeal.nD Cert.AdamReferenceIdeal.τ).loc Cert.AdamReferenceIdeal.main_arg21) = m' ((c.tc : Thread Cert.AdamReferenceIdeal.nD Cert.AdamReferenceIdeal.τ).loc Cert.AdamReferenceIdeal.main_arg21)
          ∧ r.2.mem ((c.tc : Thread Cert.AdamReferenceIdeal.nD Cert.AdamReferenceIdeal.τ).loc Cert.AdamReferenceIdeal.main_arg22) = m' ((c.tc : Thread Cert.AdamReferenceIdeal.nD Cert.AdamReferenceIdeal.τ).loc Cert.AdamReferenceIdeal.main_arg22)
          ∧ r.2.mem ((c.tc : Thread Cert.AdamReferenceIdeal.nD Cert.AdamReferenceIdeal.τ).loc Cert.AdamReferenceIdeal.main_arg23) = m' ((c.tc : Thread Cert.AdamReferenceIdeal.nD Cert.AdamReferenceIdeal.τ).loc Cert.AdamReferenceIdeal.main_arg23)
          ∧ r.2.mem ((c.tc : Thread Cert.AdamReferenceIdeal.nD Cert.AdamReferenceIdeal.τ).loc Cert.AdamReferenceIdeal.main_arg24) = m' ((c.tc : Thread Cert.AdamReferenceIdeal.nD Cert.AdamReferenceIdeal.τ).loc Cert.AdamReferenceIdeal.main_arg24)
          ∧ r.2.mem ((c.tc : Thread Cert.AdamReferenceIdeal.nD Cert.AdamReferenceIdeal.τ).loc Cert.AdamReferenceIdeal.main_arg25) = m' ((c.tc : Thread Cert.AdamReferenceIdeal.nD Cert.AdamReferenceIdeal.τ).loc Cert.AdamReferenceIdeal.main_arg25)
          ∧ r.2.mem ((c.tc : Thread Cert.AdamReferenceIdeal.nD Cert.AdamReferenceIdeal.τ).loc Cert.AdamReferenceIdeal.main_arg26) = m' ((c.tc : Thread Cert.AdamReferenceIdeal.nD Cert.AdamReferenceIdeal.τ).loc Cert.AdamReferenceIdeal.main_arg26)
          ∧ r.2.mem ((c.tc : Thread Cert.AdamReferenceIdeal.nD Cert.AdamReferenceIdeal.τ).loc Cert.AdamReferenceIdeal.main_arg27) = m' ((c.tc : Thread Cert.AdamReferenceIdeal.nD Cert.AdamReferenceIdeal.τ).loc Cert.AdamReferenceIdeal.main_arg27))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hProjKernel : Cert.ProjKernel.Facts) (hProjKernelIdeal : Cert.ProjKernelIdeal.Facts) (hProjReferenceIdeal : Cert.ProjReferenceIdeal.Facts) (hGateDxKernel : Cert.GateDxKernel.Facts) (hGateDxKernelIdeal : Cert.GateDxKernelIdeal.Facts) (hGateDxReferenceIdeal : Cert.GateDxReferenceIdeal.Facts) (hUpDxKernel : Cert.UpDxKernel.Facts) (hUpDxKernelIdeal : Cert.UpDxKernelIdeal.Facts) (hUpDxReferenceIdeal : Cert.UpDxReferenceIdeal.Facts) (hDownKernel : Cert.DownKernel.Facts) (hDownKernelIdeal : Cert.DownKernelIdeal.Facts) (hDownReferenceIdeal : Cert.DownReferenceIdeal.Facts) (hInDxKernel : Cert.InDxKernel.Facts) (hInDxKernelIdeal : Cert.InDxKernelIdeal.Facts) (hInDxReferenceIdeal : Cert.InDxReferenceIdeal.Facts) (hAdamKernel : Cert.AdamKernel.Facts) (hAdamKernelIdeal : Cert.AdamKernelIdeal.Facts) (hAdamReferenceIdeal : Cert.AdamReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_GateDxKernel (hGateDxKernel := hGateDxKernel)
    ∧ quiescent_GateDxKernelIdeal (hGateDxKernelIdeal := hGateDxKernelIdeal)
    ∧ quiescent_GateDxReferenceIdeal (hGateDxReferenceIdeal := hGateDxReferenceIdeal)
    ∧ quiescent_UpDxKernel (hUpDxKernel := hUpDxKernel)
    ∧ quiescent_UpDxKernelIdeal (hUpDxKernelIdeal := hUpDxKernelIdeal)
    ∧ quiescent_UpDxReferenceIdeal (hUpDxReferenceIdeal := hUpDxReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_InDxKernel (hInDxKernel := hInDxKernel)
    ∧ quiescent_InDxKernelIdeal (hInDxKernelIdeal := hInDxKernelIdeal)
    ∧ quiescent_InDxReferenceIdeal (hInDxReferenceIdeal := hInDxReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnKernel_FfnKernelIdeal
    ∧ algebraic_FfnKernelIdeal_FfnReferenceIdeal (hFfnKernelIdeal := hFfnKernelIdeal) (hFfnReferenceIdeal := hFfnReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_GateDxKernel_GateDxKernelIdeal
    ∧ algebraic_GateDxKernelIdeal_GateDxReferenceIdeal (hGateDxKernelIdeal := hGateDxKernelIdeal) (hGateDxReferenceIdeal := hGateDxReferenceIdeal)
    ∧ preserves_UpDxKernel_UpDxKernelIdeal
    ∧ algebraic_UpDxKernelIdeal_UpDxReferenceIdeal (hUpDxKernelIdeal := hUpDxKernelIdeal) (hUpDxReferenceIdeal := hUpDxReferenceIdeal)
    ∧ preserves_DownKernel_DownKernelIdeal
    ∧ algebraic_DownKernelIdeal_DownReferenceIdeal (hDownKernelIdeal := hDownKernelIdeal) (hDownReferenceIdeal := hDownReferenceIdeal)
    ∧ preserves_InDxKernel_InDxKernelIdeal
    ∧ algebraic_InDxKernelIdeal_InDxReferenceIdeal (hInDxKernelIdeal := hInDxKernelIdeal) (hInDxReferenceIdeal := hInDxReferenceIdeal)
    ∧ preserves_AdamKernel_AdamKernelIdeal
    ∧ algebraic_AdamKernelIdeal_AdamReferenceIdeal (hAdamKernelIdeal := hAdamKernelIdeal) (hAdamReferenceIdeal := hAdamReferenceIdeal)
-- ==== Pre_finite.lean ====
abbrev S2048x1024 : Shape := ⟨2, ![2048, 1024]⟩
abbrev S4x256x256 : Shape := ⟨3, ![4, 256, 256]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_arg6 : FVec F S2048x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  main_v33

def fn {F : FTy → Type} [FloatOps F] (main_arg0 : FVec F S2048x1024 .f32) (main_arg1 : FVec F S4x256x256 .f32) (main_arg2 : FVec F S4x256x256 .f32) (main_arg3 : FVec F S1x1024 .f32) (main_arg4 : FVec F S1x1024 .f32) (main_arg5 : FVec F S1x1024 .f32) (main_arg6 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S4x256x256 .f32 := Host.absf main_arg1
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : IVec S_ 1 := andi main_v3 main_v7
  let main_v9 : FVec F S4x256x256 .f32 := Host.absf main_arg2
  let main_cst_2 : FVec F S_ .f32 := constant S_ .f32 0x7F800000#32
  let main_v10 : FVec F S4x256x256 .f32 := broadcastInDim S4x256x256 ![] bcast_S_S4x256x256 main_cst_2
  let main_v11 : IVec S4x256x256 1 := cmpf .olt main_v9 main_v10
  let main_c_3 : IVec S_ 1 := constantI S_ 1 1#1
  let main_v12 : IVec S_ 1 := (fun x v => Host.reduce IntOp.andi x v reducesTo_S4x256x256_S_d0_1_2 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Kernel.lean ====
abbrev S2048x1024 : Shape := ⟨2, ![2048, 1024]⟩
abbrev S4x256x256 : Shape := ⟨3, ![4, 256, 256]⟩
abbrev S1x1024 : Shape := ⟨2, ![1, 1024]⟩
abbrev S256x1024 : Shape := ⟨2, ![256, 1024]⟩
abbrev S256x256 : Shape := ⟨2, ![256, 256]⟩
abbrev S1x256x256 : Shape := ⟨3, ![1, 256, 256]⟩
abbrev S2048x512 : Shape := ⟨2, ![2048, 512]⟩
abbrev S1x512 : Shape := ⟨2, ![1, 512]⟩
abbrev S1024 : Shape := ⟨1, ![1024]⟩
abbrev S3x256x256 : Shape := ⟨3, ![3, 256, 256]⟩
abbrev S256x768 : Shape := ⟨2, ![256, 768]⟩
abbrev S2x256x256 : Shape := ⟨3, ![2, 256, 256]⟩
abbrev S256x512 : Shape := ⟨2, ![256, 512]⟩

abbrev nBuf : Space → Nat
  | .hbm => 18
  | .vmem => 45
  | .smem => 0
  | _ => 0

abbrev bufTy : (tb : Table) → Fin (tcTables nBuf tb) → BufTy
  | .hbm, ⟨0, _⟩ => ⟨S2048x1024, .f32⟩
  | .hbm, ⟨1, _⟩ => ⟨S4x256x256, .f32⟩
  | .hbm, ⟨2, _⟩ => ⟨S4x256x256, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S4x256x256, .f32⟩
  | .hbm, ⟨14, _⟩ => ⟨S4x256x256, .f32⟩
  | .hbm, ⟨15, _⟩ => ⟨S1x1024, .f32⟩
  | .hbm, ⟨16, _⟩ => ⟨S1x1024, .f32⟩
  | .hbm, ⟨17, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S4x256x256, .f32⟩
  | .local _ .vmem, ⟨3, _⟩ => ⟨S4x256x256, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S2048x512, .f32⟩
  | .local _ .vmem, ⟨12, _⟩ => ⟨S2048x512, .f32⟩
  | .local _ .vmem, ⟨13, _⟩ => ⟨S2048x512, .f32⟩
  | .local _ .vmem, ⟨14, _⟩ => ⟨S2048x512, .f32⟩
  | .local _ .vmem, ⟨15, _⟩ => ⟨S2048x512, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S2048x512, .f32⟩
  | .local _ .vmem, ⟨20, _⟩ => ⟨S2048x512, .f32⟩
  | .local _ .vmem, ⟨21, _⟩ => ⟨S2048x512, .f32⟩
  | .local _ .vmem, ⟨22, _⟩ => ⟨S2048x512, .f32⟩
  | .local _ .vmem, ⟨23, _⟩ => ⟨S2048x512, .f32⟩
  | .local _ .vmem, ⟨24, _⟩ => ⟨S2048x512, .f32⟩
  | .local _ .vmem, ⟨25, _⟩ => ⟨S2048x512, .f32⟩
  | .local _ .vmem, ⟨26, _⟩ => ⟨S2048x512, .f32⟩
  | .local _ .vmem, ⟨27, _⟩ => ⟨S256x1024, .f32⟩
  | .local _ .vmem, ⟨28, _⟩ => ⟨S256x1024, .f32⟩
  | .local _ .vmem, ⟨29, _⟩ => ⟨S4x256x256, .f32⟩
  | .local _ .vmem, ⟨30, _⟩ => ⟨S4x256x256, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S4x256x256, .f32⟩
  | .local _ .vmem, ⟨41, _⟩ => ⟨S4x256x256, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc3_stg7_0 : Ref sig .tc := ⟨.vmem, 36, rfl⟩
abbrev cc3_stg7_1 : Ref sig .tc := ⟨.vmem, 37, rfl⟩
abbrev cc3_stg8_0 : Ref sig .tc := ⟨.vmem, 38, rfl⟩
abbrev cc3_stg8_1 : Ref sig .tc := ⟨.vmem, 39, rfl⟩
abbrev cc3_stg9_0 : Ref sig .tc := ⟨.vmem, 40, rfl⟩
abbrev cc3_stg10_0 : Ref sig .tc := ⟨.vmem, 41, rfl⟩
abbrev cc3_stg11_0 : Ref sig .tc := ⟨.vmem, 42, rfl⟩
abbrev cc3_stg12_0 : Ref sig .tc := ⟨.vmem, 43, rfl⟩
abbrev cc3_stg13_0 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc3_sem7_0 : DmaSem sig := 36
abbrev cc3_sem7_1 : DmaSem sig := 37
abbrev cc3_sem8_0 : DmaSem sig := 38
abbrev cc3_sem8_1 : DmaSem sig := 39
abbrev cc3_sem9_0 : DmaSem sig := 40
abbrev cc3_sem10_0 : DmaSem sig := 41
abbrev cc3_sem11_0 : DmaSem sig := 42
abbrev cc3_sem12_0 : DmaSem sig := 43
abbrev cc3_sem13_0 : DmaSem sig := 44

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

@[reducible] def k1_t1_loop : Scf.Loop 32 :=
  let c0_i32 : BitVec 32 := 0#32
  let c2048_i32 : BitVec 32 := 2048#32
  let v1 : BitVec 32 := Scalar.addi c0_i32 c2048_i32
  let c1_i32 : BitVec 32 := 1#32
  ⟨c0_i32, v1, c1_i32⟩
def k1_off1 (k1_t1 : Fin k1_t1_loop.trips) : Fin 2 → Nat :=
  let c0_i32 : BitVec 32 := 0#32
  let c1_i32 : BitVec 32 := 1#32
  let arg4 : BitVec 32 := Scf.iv c0_i32 c1_i32 k1_t1
  let v3 : Index := Scalar.indexCast arg4
  let c0 : Index := 0#32
  ![v3.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![2], ![false]⟩

@[reducible] def k2_t1_loop : Scf.Loop 32 :=
  let c0_i32 : BitVec 32 := 0#32
  let c2048_i32 : BitVec 32 := 2048#32
  let v1 : BitVec 32 := Scalar.addi c0_i32 c2048_i32
  let c1_i32 : BitVec 32 := 1#32
  ⟨c0_i32, v1, c1_i32⟩
def k2_off1 (k2_t1 : Fin k2_t1_loop.trips) : Fin 2 → Nat :=
  let c2047_i32 : BitVec 32 := 2047#32
  let c0_i32 : BitVec 32 := 0#32
  let c1_i32 : BitVec 32 := 1#32
  let arg6 : BitVec 32 := Scf.iv c0_i32 c1_i32 k2_t1
  let v3 : BitVec 32 := Scalar.subi c2047_i32 arg6
  let v4 : Index := Scalar.indexCast v3
  let c0 : Index := 0#32
  ![v4.toNat, 0]
def k2_off2 (k2_t1 : Fin k2_t1_loop.trips) : Fin 2 → Nat :=
  let c2047_i32 : BitVec 32 := 2047#32
  let c0_i32 : BitVec 32 := 0#32
  let c1_i32 : BitVec 32 := 1#32
  let arg6 : BitVec 32 := Scf.iv c0_i32 c1_i32 k2_t1
  let v3 : BitVec 32 := Scalar.subi c2047_i32 arg6
  let c1_i32_2 : BitVec 32 := 1#32
  let v9 : BitVec 32 := Scalar.subi v3 c1_i32_2
  let c0_i32_3 : BitVec 32 := 0#32
  let v10 : BitVec 32 := Scalar.maxsi v9 c0_i32_3
  let v11 : Index := Scalar.indexCast v10
  let c0_4 : Index := 0#32
  ![v11.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4x256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S4x256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S256x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 1 → Memref sig .tc .vmem S4x256x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S4x256x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x1024 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x1024 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x1024 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]
-- ==== ReferenceIdeal.lean ====
abbrev S2048x1024 : Shape := ⟨2, ![2048, 1024]⟩
abbrev S4x256x256 : Shape := ⟨3, ![4, 256, 256]⟩
abbrev S1x1024 : Shape := ⟨2, ![1, 1024]⟩
abbrev S2048x4x256 : Shape := ⟨3, ![2048, 4, 256]⟩
abbrev S4x256x2048 : Shape := ⟨3, ![4, 256, 2048]⟩
abbrev S_ : Shape := ⟨0, ![]⟩
abbrev S2048 : Shape := ⟨1, ![2048]⟩
abbrev S2048x1 : Shape := ⟨2, ![2048, 1]⟩
abbrev S1024 : Shape := ⟨1, ![1024]⟩
abbrev S4x2048x256 : Shape := ⟨3, ![4, 2048, 256]⟩

abbrev nBuf : Space → Nat
  | .hbm => 242
  | .vmem => 0
  | .smem => 0
  | _ => 0

abbrev hbmTy0_0 (i : Nat) : BufTy := match i % 128 with
  | 0 => ⟨S2048x1024, .f32⟩
  | 1 => ⟨S4x256x256, .f32⟩
  | 2 => ⟨S4x256x256, .f32⟩
  | 3 => ⟨S1x1024, .f32⟩
  | 4 => ⟨S1x1024, .f32⟩
  | 5 => ⟨S1x1024, .f32⟩
  | 6 => ⟨S2048x1024, .f32⟩
  | 7 => ⟨S2048x4x256, .f32⟩
  | 8 => ⟨S4x256x2048, .f32⟩
  | 9 => ⟨S2048x4x256, .f32⟩
  | 10 => ⟨S2048x1024, .f32⟩
  | 11 => ⟨S2048x1024, .f32⟩
  | 12 => ⟨S2048x1024, .f32⟩
  | 13 => ⟨S2048x1024, .f32⟩
  | 14 => ⟨S2048x1024, .f32⟩
  | 15 => ⟨S_, .f32⟩
  | 16 => ⟨S2048x1024, .f32⟩
  | 17 => ⟨S2048x1024, .f32⟩
  | 18 => ⟨S_, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S2048x1024, .f32⟩
  | 25 => ⟨S4x256x2048, .f32⟩
  | 26 => ⟨S2048x4x256, .f32⟩
  | 27 => ⟨S2048x1024, .f32⟩
  | 28 => ⟨S2048x1024, .f32⟩
  | 29 => ⟨S2048x1024, .f32⟩
  | 30 => ⟨S2048x1024, .f32⟩
  | 31 => ⟨S2048x1024, .f32⟩
  | 32 => ⟨S_, .f32⟩
  | 33 => ⟨S2048x1024, .f32⟩
  | 34 => ⟨S2048x1024, .f32⟩
  | 35 => ⟨S_, .f32⟩
  | 36 => ⟨S2048x1024, .f32⟩
  | 37 => ⟨S2048x1024, .f32⟩
  | 38 => ⟨S_, .f32⟩
  | 39 => ⟨S2048x1024, .f32⟩
  | 40 => ⟨S2048x1024, .f32⟩
  | 41 => ⟨S2048x1024, .f32⟩
  | 42 => ⟨S_, .f32⟩
  | 43 => ⟨S2048x1024, .f32⟩
  | 44 => ⟨S2048x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S1x1024, .f32⟩
  | 51 => ⟨S1x1024, .i1⟩
  | 52 => ⟨S1x1024, .f32⟩
  | 53 => ⟨S1x1024, .f32⟩
  | 54 => ⟨S1x1024, .f32⟩
  | 55 => ⟨S1x1024, .f32⟩
  | 56 => ⟨S1x1024, .f32⟩
  | 57 => ⟨S1x1024, .f32⟩
  | 58 => ⟨S1x1024, .f32⟩
  | 59 => ⟨S1x1024, .f32⟩
  | 60 => ⟨S_, .f32⟩
  | 61 => ⟨S1x1024, .f32⟩
  | 62 => ⟨S1x1024, .i1⟩
  | 63 => ⟨S_, .f32⟩
  | 64 => ⟨S1x1024, .f32⟩
  | 65 => ⟨S1x1024, .f32⟩
  | 66 => ⟨S_, .f32⟩
  | 67 => ⟨S1x1024, .f32⟩
  | 68 => ⟨S1x1024, .i1⟩
  | 69 => ⟨S_, .f32⟩
  | 70 => ⟨S1x1024, .f32⟩
  | 71 => ⟨S1x1024, .f32⟩
  | 72 => ⟨S1x1024, .f32⟩
  | 73 => ⟨S1x1024, .f32⟩
  | 74 => ⟨S_, .f32⟩
  | 75 => ⟨S_, .f32⟩
  | 76 => ⟨S_, .i1⟩
  | 77 => ⟨S_, .f32⟩
  | 78 => ⟨S_, .f32⟩
  | 79 => ⟨S_, .f32⟩
  | 80 => ⟨S_, .f32⟩
  | 81 => ⟨S1x1024, .f32⟩
  | 82 => ⟨S1x1024, .i1⟩
  | 83 => ⟨S_, .f32⟩
  | 84 => ⟨S1x1024, .f32⟩
  | 85 => ⟨S1x1024, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S2048x1024, .f32⟩
  | 93 => ⟨S2048x1024, .f32⟩
  | 94 => ⟨S2048x1024, .f32⟩
  | 95 => ⟨S_, .f32⟩
  | 96 => ⟨S2048x1024, .f32⟩
  | 97 => ⟨S2048x1024, .f32⟩
  | 98 => ⟨S2048x1024, .f32⟩
  | 99 => ⟨S_, .f32⟩
  | 100 => ⟨S2048x1024, .f32⟩
  | 101 => ⟨S2048x1024, .f32⟩
  | 102 => ⟨S2048x1024, .f32⟩
  | 103 => ⟨S_, .f32⟩
  | 104 => ⟨S2048x1024, .f32⟩
  | 105 => ⟨S2048x1024, .f32⟩
  | 106 => ⟨S2048, .i32⟩
  | 107 => ⟨S_, .i32⟩
  | 108 => ⟨S2048, .i32⟩
  | 109 => ⟨S2048, .i1⟩
  | 110 => ⟨S2048x1, .i1⟩
  | 111 => ⟨S_, .f32⟩
  | 112 => ⟨S_, .f32⟩
  | 113 => ⟨S2048x1024, .i1⟩
  | 114 => ⟨S2048x1024, .f32⟩
  | 115 => ⟨S2048x1024, .f32⟩
  | 116 => ⟨S_, .f32⟩
  | 117 => ⟨S2048x1024, .f32⟩
  | 118 => ⟨S2048x1024, .f32⟩
  | 119 => ⟨S2048x1024, .f32⟩
  | 120 => ⟨S_, .f32⟩
  | 121 => ⟨S1024, .f32⟩
  | 122 => ⟨S_, .f32⟩
  | 123 => ⟨S2048x1024, .f32⟩
  | 124 => ⟨S_, .f32⟩
  | 125 => ⟨S2048x1024, .f32⟩
  | 126 => ⟨S_, .i32⟩
  | 127 => ⟨S2048x1024, .f32⟩
  | _ => ⟨S2048x1024, .f32⟩

abbrev hbmTy0_1 (i : Nat) : BufTy := match i % 128 with
  | 0 => ⟨S2048x1024, .f32⟩
  | 1 => ⟨S_, .i32⟩
  | 2 => ⟨S1024, .f32⟩
  | 3 => ⟨S2048x1024, .f32⟩
  | 4 => ⟨S2048x1024, .f32⟩
  | 5 => ⟨S_, .i32⟩
  | 6 => ⟨S_, .i1⟩
  | 7 => ⟨S_, .i32⟩
  | 8 => ⟨S1x1024, .f32⟩
  | 9 => ⟨S1024, .f32⟩
  | 10 => ⟨S_, .i32⟩
  | 11 => ⟨S1x1024, .f32⟩
  | 12 => ⟨S1024, .f32⟩
  | 13 => ⟨S1024, .f32⟩
  | 14 => ⟨S1024, .f32⟩
  | 15 => ⟨S1x1024, .f32⟩
  | 16 => ⟨S_, .i32⟩
  | 17 => ⟨S2048x1024, .f32⟩
  | 18 => ⟨S1x1024, .f32⟩
  | 19 => ⟨S_, .i32⟩
  | 20 => ⟨S2048x1024, .f32⟩
  | 21 => ⟨S_, .i32⟩
  | 22 => ⟨S_, .i32⟩
  | 23 => ⟨S_, .f32⟩
  | 24 => ⟨S1024, .f32⟩
  | 25 => ⟨S_, .f32⟩
  | 26 => ⟨S1024, .f32⟩
  | 27 => ⟨S_, .f32⟩
  | 28 => ⟨S2048x1024, .f32⟩
  | 29 => ⟨S_, .f32⟩
  | 30 => ⟨S2048x1024, .f32⟩
  | 31 => ⟨S_, .i32⟩
  | 32 => ⟨S2048x1024, .f32⟩
  | 33 => ⟨S2048x1024, .f32⟩
  | 34 => ⟨S2048x1024, .f32⟩
  | 35 => ⟨S_, .i32⟩
  | 36 => ⟨S1024, .f32⟩
  | 37 => ⟨S2048x1024, .f32⟩
  | 38 => ⟨S2048x1024, .f32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S1x1024, .f32⟩
  | 47 => ⟨S1024, .f32⟩
  | 48 => ⟨S_, .i32⟩
  | 49 => ⟨S1x1024, .f32⟩
  | 50 => ⟨S1024, .f32⟩
  | 51 => ⟨S_, .i32⟩
  | 52 => ⟨S1x1024, .f32⟩
  | 53 => ⟨S1024, .f32⟩
  | 54 => ⟨S1024, .f32⟩
  | 55 => ⟨S1024, .f32⟩
  | 56 => ⟨S1024, .f32⟩
  | 57 => ⟨S1x1024, .f32⟩
  | 58 => ⟨S_, .i32⟩
  | 59 => ⟨S2048x1024, .f32⟩
  | 60 => ⟨S1x1024, .f32⟩
  | 61 => ⟨S_, .i32⟩
  | 62 => ⟨S2048x1024, .f32⟩
  | 63 => ⟨S_, .i32⟩
  | 64 => ⟨S_, .i32⟩
  | 65 => ⟨S2048x1024, .f32⟩
  | 66 => ⟨S2048x1024, .f32⟩
  | 67 => ⟨S2048x1024, .f32⟩
  | 68 => ⟨S2048x1024, .f32⟩
  | 69 => ⟨S_, .f32⟩
  | 70 => ⟨S2048x1024, .f32⟩
  | 71 => ⟨S2048x1024, .f32⟩
  | 72 => ⟨S2048x1024, .f32⟩
  | 73 => ⟨S2048x1024, .f32⟩
  | 74 => ⟨S2048x1024, .f32⟩
  | 75 => ⟨S_, .f32⟩
  | 76 => ⟨S2048x1024, .f32⟩
  | 77 => ⟨S2048x1024, .f32⟩
  | 78 => ⟨S2048x1024, .f32⟩
  | 79 => ⟨S2048x1024, .f32⟩
  | 80 => ⟨S2048x1024, .f32⟩
  | 81 => ⟨S_, .f32⟩
  | 82 => ⟨S1024, .f32⟩
  | 83 => ⟨S1x1024, .f32⟩
  | 84 => ⟨S2048x1024, .f32⟩
  | 85 => ⟨S2048x1024, .f32⟩
  | 86 => ⟨S1x1024, .f32⟩
  | 87 => ⟨S1x1024, .f32⟩
  | 88 => ⟨S_, .f32⟩
  | 89 => ⟨S2048x1024, .f32⟩
  | 90 => ⟨S2048x1024, .f32⟩
  | 91 => ⟨S2048x1024, .f32⟩
  | 92 => ⟨S_, .f32⟩
  | 93 => ⟨S1024, .f32⟩
  | 94 => ⟨S1x1024, .f32⟩
  | 95 => ⟨S2048x4x256, .f32⟩
  | 96 => ⟨S4x256x2048, .f32⟩
  | 97 => ⟨S4x2048x256, .f32⟩
  | 98 => ⟨S2048x4x256, .f32⟩
  | 99 => ⟨S4x256x256, .f32⟩
  | 100 => ⟨S4x256x256, .f32⟩
  | 101 => ⟨S2048x1024, .f32⟩
  | 102 => ⟨S_, .f32⟩
  | 103 => ⟨S1024, .f32⟩
  | 104 => ⟨S1x1024, .f32⟩
  | 105 => ⟨S2048x4x256, .f32⟩
  | 106 => ⟨S4x256x2048, .f32⟩
  | 107 => ⟨S4x2048x256, .f32⟩
  | 108 => ⟨S2048x4x256, .f32⟩
  | 109 => ⟨S2048x4x256, .f32⟩
  | 110 => ⟨S4x256x256, .f32⟩
  | 111 => ⟨S4x256x256, .f32⟩
  | 112 => ⟨S2048x1024, .f32⟩
  | 113 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_v32_0 : Ref sig .tc := ⟨.hbm, 59, rfl⟩
abbrev main_call0_cst_0 : Ref sig .tc := ⟨.hbm, 60, rfl⟩
abbrev main_call0_v13 : Ref sig .tc := ⟨.hbm, 61, rfl⟩
abbrev main_call0_v14 : Ref sig .tc := ⟨.hbm, 62, rfl⟩
abbrev main_call0_cst_1 : Ref sig .tc := ⟨.hbm, 63, rfl⟩
abbrev main_call0_v15 : Ref sig .tc := ⟨.hbm, 64, rfl⟩
abbrev main_call0_v16 : Ref sig .tc := ⟨.hbm, 65, rfl⟩
abbrev main_call0_cst_2 : Ref sig .tc := ⟨.hbm, 66, rfl⟩
abbrev main_call0_v17 : Ref sig .tc := ⟨.hbm, 67, rfl⟩
abbrev main_call0_v18 : Ref sig .tc := ⟨.hbm, 68, rfl⟩
abbrev main_call0_cst_3 : Ref sig .tc := ⟨.hbm, 69, rfl⟩
abbrev main_call0_v19 : Ref sig .tc := ⟨.hbm, 70, rfl⟩
abbrev main_call0_v20 : Ref sig .tc := ⟨.hbm, 71, rfl⟩
abbrev main_call0_v21 : Ref sig .tc := ⟨.hbm, 72, rfl⟩
abbrev main_v32_1 : Ref sig .tc := ⟨.hbm, 73, rfl⟩
abbrev main_call0_cst_4 : Ref sig .tc := ⟨.hbm, 74, rfl⟩
abbrev main_call0_cst_5 : Ref sig .tc := ⟨.hbm, 75, rfl⟩
abbrev main_call0_v23 : Ref sig .tc := ⟨.hbm, 76, rfl⟩
abbrev main_call0_cst_6 : Ref sig .tc := ⟨.hbm, 77, rfl⟩
abbrev main_call0_cst_7 : Ref sig .tc := ⟨.hbm, 78, rfl⟩
abbrev main_call0_v24 : Ref sig .tc := ⟨.hbm, 79, rfl⟩
abbrev main_call0_cst_8 : Ref sig .tc := ⟨.hbm, 80, rfl⟩
abbrev main_call0_v25 : Ref sig .tc := ⟨.hbm, 81, rfl⟩
abbrev main_call0_v26 : Ref sig .tc := ⟨.hbm, 82, rfl⟩
abbrev main_call0_cst_9 : Ref sig .tc := ⟨.hbm, 83, rfl⟩
abbrev main_call0_v27 : Ref sig .tc := ⟨.hbm, 84, rfl⟩
abbrev main_call0_v28 : Ref sig .tc := ⟨.hbm, 85, rfl⟩
abbrev main_call0_v29 : Ref sig .tc := ⟨.hbm, 86, rfl⟩
abbrev main_call0_v30 : Ref sig .tc := ⟨.hbm, 87, rfl⟩
abbrev main_call0_v31 : Ref sig .tc := ⟨.hbm, 88, rfl⟩
abbrev main_call0_cst_10 : Ref sig .tc := ⟨.hbm, 89, rfl⟩
abbrev main_call0_v32 : Ref sig .tc := ⟨.hbm, 90, rfl⟩
abbrev main_v32_2 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_cst_6 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_cst_7 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_cst_8 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_c : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_cst_9 : Ref sig .tc := ⟨.hbm, 111, rfl⟩
abbrev main_call1_v0 : Ref sig .tc := ⟨.hbm, 112, rfl⟩
abbrev main_v48_1 : Ref sig .tc := ⟨.hbm, 113, rfl⟩
abbrev main_call1_v2 : Ref sig .tc := ⟨.hbm, 114, rfl⟩
abbrev main_v48_0 : Ref sig .tc := ⟨.hbm, 115, rfl⟩
abbrev main_call1_cst : Ref sig .tc := ⟨.hbm, 116, rfl⟩
abbrev main_v48_2 : Ref sig .tc := ⟨.hbm, 117, rfl⟩
abbrev main_v49 : Ref sig .tc := ⟨.hbm, 118, rfl⟩
abbrev main_v50 : Ref sig .tc := ⟨.hbm, 119, rfl⟩
abbrev main_cst_10 : Ref sig .tc := ⟨.hbm, 120, rfl⟩
abbrev main_v51 : Ref sig .tc := ⟨.hbm, 121, rfl⟩
abbrev main_cst_11 : Ref sig .tc := ⟨.hbm, 122, rfl⟩
abbrev main_v52 : Ref sig .tc := ⟨.hbm, 123, rfl⟩
abbrev main_cst_12 : Ref sig .tc := ⟨.hbm, 124, rfl⟩
abbrev main_v53 : Ref sig .tc := ⟨.hbm, 125, rfl⟩
abbrev main_c_13 : Ref sig .tc := ⟨.hbm, 126, rfl⟩
abbrev main_v54_0 : Ref sig .tc := ⟨.hbm, 127, rfl⟩
abbrev main_v54_1 : Ref sig .tc := ⟨.hbm, 128, rfl⟩
abbrev main_v54_2 : Ref sig .tc := ⟨.hbm, 129, rfl⟩
abbrev main_v54_3 : Ref sig .tc := ⟨.hbm, 130, rfl⟩
abbrev main_v54_4 : Ref sig .tc := ⟨.hbm, 131, rfl⟩
abbrev main_v54_5 : Ref sig .tc := ⟨.hbm, 132, rfl⟩
abbrev main_while0c_c_29 : Ref sig .tc := ⟨.hbm, 133, rfl⟩
abbrev main_while0c_v102 : Ref sig .tc := ⟨.hbm, 134, rfl⟩
abbrev main_while0b_call2_c : Ref sig .tc := ⟨.hbm, 135, rfl⟩
abbrev main_while0b_call2_v0 : Ref sig .tc := ⟨.hbm, 136, rfl⟩
abbrev main_while0b_v102 : Ref sig .tc := ⟨.hbm, 137, rfl⟩
abbrev main_while0b_call3_c : Ref sig .tc := ⟨.hbm, 138, rfl⟩
abbrev main_while0b_call3_v0 : Ref sig .tc := ⟨.hbm, 139, rfl⟩
abbrev main_while0b_v103 : Ref sig .tc := ⟨.hbm, 140, rfl⟩
abbrev main_while0b_v104 : Ref sig .tc := ⟨.hbm, 141, rfl⟩
abbrev main_while0b_v105 : Ref sig .tc := ⟨.hbm, 142, rfl⟩
abbrev main_while0b_call4_v0 : Ref sig .tc := ⟨.hbm, 143, rfl⟩
abbrev main_while0b_call4_c : Ref sig .tc := ⟨.hbm, 144, rfl⟩
abbrev main_while0b_v106 : Ref sig .tc := ⟨.hbm, 145, rfl⟩
abbrev main_while0b_call5_v0 : Ref sig .tc := ⟨.hbm, 146, rfl⟩
abbrev main_while0b_call5_c : Ref sig .tc := ⟨.hbm, 147, rfl⟩
abbrev main_while0b_v107 : Ref sig .tc := ⟨.hbm, 148, rfl⟩
abbrev main_while0b_c_29 : Ref sig .tc := ⟨.hbm, 149, rfl⟩
abbrev main_while0b_v108 : Ref sig .tc := ⟨.hbm, 150, rfl⟩
abbrev main_cst_14 : Ref sig .tc := ⟨.hbm, 151, rfl⟩
abbrev main_v55 : Ref sig .tc := ⟨.hbm, 152, rfl⟩
abbrev main_cst_15 : Ref sig .tc := ⟨.hbm, 153, rfl⟩
abbrev main_v56 : Ref sig .tc := ⟨.hbm, 154, rfl⟩
abbrev main_cst_16 : Ref sig .tc := ⟨.hbm, 155, rfl⟩
abbrev main_v57 : Ref sig .tc := ⟨.hbm, 156, rfl⟩
abbrev main_cst_17 : Ref sig .tc := ⟨.hbm, 157, rfl⟩
abbrev main_v58 : Ref sig .tc := ⟨.hbm, 158, rfl⟩
abbrev main_c_18 : Ref sig .tc := ⟨.hbm, 159, rfl⟩
abbrev main_v59_0 : Ref sig .tc := ⟨.hbm, 160, rfl⟩
abbrev main_v59_1 : Ref sig .tc := ⟨.hbm, 161, rfl⟩
abbrev main_v59_2 : Ref sig .tc := ⟨.hbm, 162, rfl⟩
abbrev main_v59_3 : Ref sig .tc := ⟨.hbm, 163, rfl⟩
abbrev main_v59_4 : Ref sig .tc := ⟨.hbm, 164, rfl⟩
abbrev main_v59_5 : Ref sig .tc := ⟨.hbm, 165, rfl⟩
abbrev main_v59_6 : Ref sig .tc := ⟨.hbm, 166, rfl⟩
abbrev main_while1c_c_30 : Ref sig .tc := ⟨.hbm, 167, rfl⟩
abbrev main_while1c_v102 : Ref sig .tc := ⟨.hbm, 168, rfl⟩
abbrev main_while1b_c_30 : Ref sig .tc := ⟨.hbm, 169, rfl⟩
abbrev main_while1b_v102 : Ref sig .tc := ⟨.hbm, 170, rfl⟩
abbrev main_while1b_c_31 : Ref sig .tc := ⟨.hbm, 171, rfl⟩
abbrev main_while1b_v103 : Ref sig .tc := ⟨.hbm, 172, rfl⟩
abbrev main_while1b_call6_c : Ref sig .tc := ⟨.hbm, 173, rfl⟩
abbrev main_while1b_call6_v0 : Ref sig .tc := ⟨.hbm, 174, rfl⟩
abbrev main_while1b_v104 : Ref sig .tc := ⟨.hbm, 175, rfl⟩
abbrev main_while1b_call7_c : Ref sig .tc := ⟨.hbm, 176, rfl⟩
abbrev main_while1b_call7_v0 : Ref sig .tc := ⟨.hbm, 177, rfl⟩
abbrev main_while1b_v105 : Ref sig .tc := ⟨.hbm, 178, rfl⟩
abbrev main_while1b_call8_c : Ref sig .tc := ⟨.hbm, 179, rfl⟩
abbrev main_while1b_call8_v0 : Ref sig .tc := ⟨.hbm, 180, rfl⟩
abbrev main_while1b_v106 : Ref sig .tc := ⟨.hbm, 181, rfl⟩
abbrev main_while1b_v107 : Ref sig .tc := ⟨.hbm, 182, rfl⟩
abbrev main_while1b_v108 : Ref sig .tc := ⟨.hbm, 183, rfl⟩
abbrev main_while1b_v109 : Ref sig .tc := ⟨.hbm, 184, rfl⟩
abbrev main_while1b_call9_v0 : Ref sig .tc := ⟨.hbm, 185, rfl⟩
abbrev main_while1b_call9_c : Ref sig .tc := ⟨.hbm, 186, rfl⟩
abbrev main_while1b_v110 : Ref sig .tc := ⟨.hbm, 187, rfl⟩
abbrev main_while1b_call10_v0 : Ref sig .tc := ⟨.hbm, 188, rfl⟩
abbrev main_while1b_call10_c : Ref sig .tc := ⟨.hbm, 189, rfl⟩
abbrev main_while1b_v111 : Ref sig .tc := ⟨.hbm, 190, rfl⟩
abbrev main_while1b_c_32 : Ref sig .tc := ⟨.hbm, 191, rfl⟩
abbrev main_while1b_v112 : Ref sig .tc := ⟨.hbm, 192, rfl⟩
abbrev main_v60 : Ref sig .tc := ⟨.hbm, 193, rfl⟩
abbrev main_v61 : Ref sig .tc := ⟨.hbm, 194, rfl⟩
abbrev main_v62 : Ref sig .tc := ⟨.hbm, 195, rfl⟩
abbrev main_v63 : Ref sig .tc := ⟨.hbm, 196, rfl⟩
abbrev main_call11_cst : Ref sig .tc := ⟨.hbm, 197, rfl⟩
abbrev main_call11_v0 : Ref sig .tc := ⟨.hbm, 198, rfl⟩
abbrev main_v64 : Ref sig .tc := ⟨.hbm, 199, rfl⟩
abbrev main_v65 : Ref sig .tc := ⟨.hbm, 200, rfl⟩
abbrev main_v66 : Ref sig .tc := ⟨.hbm, 201, rfl⟩
abbrev main_v67 : Ref sig .tc := ⟨.hbm, 202, rfl⟩
abbrev main_cst_19 : Ref sig .tc := ⟨.hbm, 203, rfl⟩
abbrev main_v68 : Ref sig .tc := ⟨.hbm, 204, rfl⟩
abbrev main_v69 : Ref sig .tc := ⟨.hbm, 205, rfl⟩
abbrev main_v70 : Ref sig .tc := ⟨.hbm, 206, rfl⟩
abbrev main_v71 : Ref sig .tc := ⟨.hbm, 207, rfl⟩
abbrev main_v72 : Ref sig .tc := ⟨.hbm, 208, rfl⟩
abbrev main_cst_20 : Ref sig .tc := ⟨.hbm, 209, rfl⟩
abbrev main_v73 : Ref sig .tc := ⟨.hbm, 210, rfl⟩
abbrev main_v74 : Ref sig .tc := ⟨.hbm, 211, rfl⟩
abbrev main_v75 : Ref sig .tc := ⟨.hbm, 212, rfl⟩
abbrev main_v76 : Ref sig .tc := ⟨.hbm, 213, rfl⟩
abbrev main_v77 : Ref sig .tc := ⟨.hbm, 214, rfl⟩
abbrev main_v78 : Ref sig .tc := ⟨.hbm, 215, rfl⟩
abbrev main_cst_21 : Ref sig .tc := ⟨.hbm, 216, rfl⟩
abbrev main_v79 : Ref sig .tc := ⟨.hbm, 217, rfl⟩
abbrev main_v80 : Ref sig .tc := ⟨.hbm, 218, rfl⟩
abbrev main_v81 : Ref sig .tc := ⟨.hbm, 219, rfl⟩
abbrev main_cst_22 : Ref sig .tc := ⟨.hbm, 220, rfl⟩
abbrev main_v82 : Ref sig .tc := ⟨.hbm, 221, rfl⟩
abbrev main_v83 : Ref sig .tc := ⟨.hbm, 222, rfl⟩
abbrev main_v84 : Ref sig .tc := ⟨.hbm, 223, rfl⟩
abbrev main_v85 : Ref sig .tc := ⟨.hbm, 224, rfl⟩
abbrev main_v86 : Ref sig .tc := ⟨.hbm, 225, rfl⟩
abbrev main_v87 : Ref sig .tc := ⟨.hbm, 226, rfl⟩
abbrev main_v88 : Ref sig .tc := ⟨.hbm, 227, rfl⟩
abbrev main_v89 : Ref sig .tc := ⟨.hbm, 228, rfl⟩
abbrev main_v90 : Ref sig .tc := ⟨.hbm, 229, rfl⟩
abbrev main_cst_23 : Ref sig .tc := ⟨.hbm, 230, rfl⟩
abbrev main_v91 : Ref sig .tc := ⟨.hbm, 231, rfl⟩
abbrev main_v92 : Ref sig .tc := ⟨.hbm, 232, rfl⟩
abbrev main_v93 : Ref sig .tc := ⟨.hbm, 233, rfl⟩
abbrev main_v94 : Ref sig .tc := ⟨.hbm, 234, rfl⟩
abbrev main_v95 : Ref sig .tc := ⟨.hbm, 235, rfl⟩
abbrev main_v96 : Ref sig .tc := ⟨.hbm, 236, rfl⟩
abbrev main_v97 : Ref sig .tc := ⟨.hbm, 237, rfl⟩
abbrev main_v98 : Ref sig .tc := ⟨.hbm, 238, rfl⟩
abbrev main_v99 : Ref sig .tc := ⟨.hbm, 239, rfl⟩
abbrev main_v100 : Ref sig .tc := ⟨.hbm, 240, rfl⟩
abbrev main_v101 : Ref sig .tc := ⟨.hbm, 241, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== FfnKernel.lean ====
abbrev S2048x2048 : Shape := ⟨2, ![2048, 2048]⟩
abbrev S1x2048 : Shape := ⟨2, ![1, 2048]⟩
abbrev S2048x6144 : Shape := ⟨2, ![2048, 6144]⟩
abbrev S3x6144 : Shape := ⟨2, ![3, 6144]⟩
abbrev S1x6144 : Shape := ⟨2, ![1, 6144]⟩
abbrev S6144x2048 : Shape := ⟨2, ![6144, 2048]⟩
abbrev S2048x4x1536 : Shape := ⟨3, ![2048, 4, 1536]⟩
abbrev S4x2048x1536 : Shape := ⟨3, ![4, 2048, 1536]⟩
abbrev S256x2048 : Shape := ⟨2, ![256, 2048]⟩
abbrev S256 : Shape := ⟨1, ![256]⟩
abbrev S256x1 : Shape := ⟨2, ![256, 1]⟩
abbrev S1x2048x512 : Shape := ⟨3, ![1, 2048, 512]⟩
abbrev S2048x512 : Shape := ⟨2, ![2048, 512]⟩
abbrev S3x512 : Shape := ⟨2, ![3, 512]⟩
abbrev S1x512 : Shape := ⟨2, ![1, 512]⟩
abbrev S512x2048 : Shape := ⟨2, ![512, 2048]⟩
abbrev S512 : Shape := ⟨1, ![512]⟩
abbrev S2x512 : Shape := ⟨2, ![2, 512]⟩

abbrev nBuf : Space → Nat
  | .hbm => 28
  | .vmem => 64
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x6144, .f32⟩
  | .hbm, ⟨3, _⟩ => ⟨S2048x6144, .f32⟩
  | .hbm, ⟨4, _⟩ => ⟨S3x6144, .f32⟩
  | .hbm, ⟨5, _⟩ => ⟨S1x6144, .f32⟩
  | .hbm, ⟨6, _⟩ => ⟨S6144x2048, .f32⟩
  | .hbm, ⟨7, _⟩ => ⟨S2048x2048, .f32⟩
  | .hbm, ⟨8, _⟩ => ⟨S2048x6144, .bf16⟩
  | .hbm, ⟨9, _⟩ => ⟨S2048x4x1536, .bf16⟩
  | .hbm, ⟨10, _⟩ => ⟨S4x2048x1536, .bf16⟩
  | .hbm, ⟨11, _⟩ => ⟨S2048x6144, .bf16⟩
  | .hbm, ⟨12, _⟩ => ⟨S2048x4x1536, .bf16⟩
  | .hbm, ⟨13, _⟩ => ⟨S4x2048x1536, .bf16⟩
  | .hbm, ⟨14, _⟩ => ⟨S6144x2048, .bf16⟩
  | .hbm, ⟨15, _⟩ => ⟨S2048x2048, .bf16⟩
  | .hbm, ⟨16, _⟩ => ⟨S2048x6144, .f32⟩
  | .hbm, ⟨17, _⟩ => ⟨S2048x6144, .f32⟩
  | .hbm, ⟨18, _⟩ => ⟨S2048x6144, .bf16⟩
  | .hbm, ⟨19, _⟩ => ⟨S2048x2048, .bf16⟩
  | .hbm, ⟨20, _⟩ => ⟨S2048x6144, .f32⟩
  | .hbm, ⟨21, _⟩ => ⟨S6144x2048, .f32⟩
  | .hbm, ⟨22, _⟩ => ⟨S2048x6144, .bf16⟩
  | .hbm, ⟨23, _⟩ => ⟨S2048x6144, .bf16⟩
  | .hbm, ⟨24, _⟩ => ⟨S3x6144, .f32⟩
  | .hbm, ⟨25, _⟩ => ⟨S1x6144, .f32⟩
  | .hbm, ⟨26, _⟩ => ⟨S4x2048x1536, .f32⟩
  | .hbm, ⟨27, _⟩ => ⟨S4x2048x1536, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S2048x2048, .bf16⟩
  | .local _ .vmem, ⟨6, _⟩ => ⟨S1x2048x512, .bf16⟩
  | .local _ .vmem, ⟨7, _⟩ => ⟨S1x2048x512, .bf16⟩
  | .local _ .vmem, ⟨8, _⟩ => ⟨S2048x512, .f32⟩
  | .local _ .vmem, ⟨9, _⟩ => ⟨S2048x512, .f32⟩
  | .local _ .vmem, ⟨10, _⟩ => ⟨S2048x2048, .bf16⟩
  | .local _ .vmem, ⟨11, _⟩ => ⟨S1x2048x512, .bf16⟩
  | .local _ .vmem, ⟨12, _⟩ => ⟨S1x2048x512, .bf16⟩
  | .local _ .vmem, ⟨13, _⟩ => ⟨S2048x512, .f32⟩
  | .local _ .vmem, ⟨14, _⟩ => ⟨S2048x512, .f32⟩
  | .local _ .vmem, ⟨15, _⟩ => ⟨S2048x512, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S3x512, .f32⟩
  | .local _ .vmem, ⟨20, _⟩ => ⟨S3x512, .f32⟩
  | .local _ .vmem, ⟨21, _⟩ => ⟨S1x512, .f32⟩
  | .local _ .vmem, ⟨22, _⟩ => ⟨S1x512, .f32⟩
  | .local _ .vmem, ⟨23, _⟩ => ⟨S2048x512, .bf16⟩
  | .local _ .vmem, ⟨24, _⟩ => ⟨S2048x512, .bf16⟩
  | .local _ .vmem, ⟨25, _⟩ => ⟨S2048x2048, .bf16⟩
  | .local _ .vmem, ⟨26, _⟩ => ⟨S512x2048, .bf16⟩
  | .local _ .vmem, ⟨27, _⟩ => ⟨S512x2048, .bf16⟩
  | .local _ .vmem, ⟨28, _⟩ => ⟨S2048x512, .f32⟩
  | .local _ .vmem, ⟨29, _⟩ => ⟨S2048x512, .f32⟩
  | .local _ .vmem, ⟨30, _⟩ => ⟨S2048x2048, .bf16⟩
  | .local _ .vmem, ⟨31, _⟩ => ⟨S2048x2048, .bf16⟩
  | .local _ .vmem, ⟨32, _⟩ => ⟨S2048x512, .bf16⟩
  | .local _ .vmem, ⟨33, _⟩ => ⟨S2048x512, .bf16⟩
  | .local _ .vmem, ⟨34, _⟩ => ⟨S2048x512, .f32⟩
  | .local _ .vmem, ⟨35, _⟩ => ⟨S2048x512, .f32⟩
  | .local _ .vmem, ⟨36, _⟩ => ⟨S2048x512, .f32⟩
  | .local _ .vmem, ⟨37, _⟩ => ⟨S2048x512, .f32⟩
  | .local _ .vmem, ⟨38, _⟩ => ⟨S2048x512, .f32⟩
  | .local _ .vmem, ⟨39, _⟩ => ⟨S2048x512, .f32⟩
  | .local _ .vmem, ⟨40, _⟩ => ⟨S3x512, .f32⟩
  | .local _ .vmem, ⟨41, _⟩ => ⟨S3x512, .f32⟩
  | .local _ .vmem, ⟨42, _⟩ => ⟨S1x512, .f32⟩
  | .local _ .vmem, ⟨43, _⟩ => ⟨S1x512, .f32⟩
  | .local _ .vmem, ⟨44, _⟩ => ⟨S2048x512, .f32⟩
  | .local _ .vmem, ⟨45, _⟩ => ⟨S2048x512, .f32⟩
  | .local _ .vmem, ⟨46, _⟩ => ⟨S2048x512, .bf16⟩
  | .local _ .vmem, ⟨47, _⟩ => ⟨S2048x512, .bf16⟩
  | .local _ .vmem, ⟨48, _⟩ => ⟨S2048x512, .bf16⟩
  | .local _ .vmem, ⟨49, _⟩ => ⟨S2048x512, .bf16⟩
  | .local _ .vmem, ⟨50, _⟩ => ⟨S3x512, .f32⟩
  | .local _ .vmem, ⟨51, _⟩ => ⟨S3x512, .f32⟩
  | .local _ .vmem, ⟨52, _⟩ => ⟨S1x512, .f32⟩
  | .local _ .vmem, ⟨53, _⟩ => ⟨S1x512, .f32⟩
  | .local _ .vmem, ⟨54, _⟩ => ⟨S2048x2048, .bf16⟩
  | .local _ .vmem, ⟨55, _⟩ => ⟨S2048x512, .bf16⟩
  | .local _ .vmem, ⟨56, _⟩ => ⟨S2048x512, .bf16⟩
  | .local _ .vmem, ⟨57, _⟩ => ⟨S1x2048x512, .f32⟩
  | .local _ .vmem, ⟨58, _⟩ => ⟨S1x2048x512, .f32⟩
  | .local _ .vmem, ⟨59, _⟩ => ⟨S2048x2048, .bf16⟩
  | .local _ .vmem, ⟨60, _⟩ => ⟨S2048x512, .bf16⟩
  | .local _ .vmem, ⟨61, _⟩ => ⟨S2048x512, .bf16⟩
  | .local _ .vmem, ⟨62, _⟩ => ⟨S1x2048x512, .f32⟩
  | .local _ .vmem, ⟨63, _⟩ => ⟨S1x2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc4_stg0_0 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc6_stg3_0 : Ref sig .tc := ⟨.vmem, 42, rfl⟩
abbrev cc6_stg3_1 : Ref sig .tc := ⟨.vmem, 43, rfl⟩
abbrev cc6_stg4_0 : Ref sig .tc := ⟨.vmem, 44, rfl⟩
abbrev cc6_stg4_1 : Ref sig .tc := ⟨.vmem, 45, rfl⟩
abbrev cc6_stg5_0 : Ref sig .tc := ⟨.vmem, 46, rfl⟩
abbrev cc6_stg5_1 : Ref sig .tc := ⟨.vmem, 47, rfl⟩
abbrev cc6_stg6_0 : Ref sig .tc := ⟨.vmem, 48, rfl⟩
abbrev cc6_stg6_1 : Ref sig .tc := ⟨.vmem, 49, rfl⟩
abbrev cc6_stg7_0 : Ref sig .tc := ⟨.vmem, 50, rfl⟩
abbrev cc6_stg7_1 : Ref sig .tc := ⟨.vmem, 51, rfl⟩
abbrev cc6_stg8_0 : Ref sig .tc := ⟨.vmem, 52, rfl⟩
abbrev cc6_stg8_1 : Ref sig .tc := ⟨.vmem, 53, rfl⟩
abbrev cc7_stg0_0 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc8_stg0_0 : Ref sig .tc := ⟨.vmem, 59, rfl⟩
abbrev cc8_stg1_0 : Ref sig .tc := ⟨.vmem, 60, rfl⟩
abbrev cc8_stg1_1 : Ref sig .tc := ⟨.vmem, 61, rfl⟩
abbrev cc8_stg2_0 : Ref sig .tc := ⟨.vmem, 62, rfl⟩
abbrev cc8_stg2_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc4_sem0_0 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc6_sem3_0 : DmaSem sig := 42
abbrev cc6_sem3_1 : DmaSem sig := 43
abbrev cc6_sem4_0 : DmaSem sig := 44
abbrev cc6_sem4_1 : DmaSem sig := 45
abbrev cc6_sem5_0 : DmaSem sig := 46
abbrev cc6_sem5_1 : DmaSem sig := 47
abbrev cc6_sem6_0 : DmaSem sig := 48
abbrev cc6_sem6_1 : DmaSem sig := 49
abbrev cc6_sem7_0 : DmaSem sig := 50
abbrev cc6_sem7_1 : DmaSem sig := 51
abbrev cc6_sem8_0 : DmaSem sig := 52
abbrev cc6_sem8_1 : DmaSem sig := 53
abbrev cc7_sem0_0 : DmaSem sig := 54
abbrev cc7_sem1_0 : DmaSem sig := 55
abbrev cc7_sem1_1 : DmaSem sig := 56
abbrev cc7_sem2_0 : DmaSem sig := 57
abbrev cc7_sem2_1 : DmaSem sig := 58
abbrev cc8_sem0_0 : DmaSem sig := 59
abbrev cc8_sem1_0 : DmaSem sig := 60
abbrev cc8_sem1_1 : DmaSem sig := 61
abbrev cc8_sem2_0 : DmaSem sig := 62
abbrev cc8_sem2_1 : DmaSem sig := 63

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![1, 12, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 12, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S1x2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![12], ![false]⟩

def cc3_transform_0 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc3_transform_1 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc3_transform_3 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S2048x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S3x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2048x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨3, ![1, 12, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2048x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S2048x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![3, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S2048x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![12], ![false]⟩

def cc6_transform_0 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc6_transform_1 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc6_transform_2 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc6_transform_3 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc6_transform_4 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 2 → Memref sig .tc .vmem S2048x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2048x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S3x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2048x512 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S2048x512 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S2048x512 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S3x512 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S1x512 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨3, ![1, 12, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage7_0 : Fin 1 → Memref sig .tc .vmem S2048x2048 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false, true]

abbrev stage7_1 : Fin 2 → Memref sig .tc .vmem S2048x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1x2048x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![1, 12, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage8_0 : Fin 1 → Memref sig .tc .vmem S2048x2048 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 2 → Memref sig .tc .vmem S2048x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1x2048x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]
-- ==== FfnReferenceIdeal.lean ====
abbrev S2048x2048 : Shape := ⟨2, ![2048, 2048]⟩
abbrev S1x2048 : Shape := ⟨2, ![1, 2048]⟩
abbrev S2048x6144 : Shape := ⟨2, ![2048, 6144]⟩
abbrev S3x6144 : Shape := ⟨2, ![3, 6144]⟩
abbrev S1x6144 : Shape := ⟨2, ![1, 6144]⟩
abbrev S6144x2048 : Shape := ⟨2, ![6144, 2048]⟩
abbrev S_ : Shape := ⟨0, ![]⟩
abbrev S2048 : Shape := ⟨1, ![2048]⟩
abbrev S2048x1 : Shape := ⟨2, ![2048, 1]⟩
abbrev S2x6144 : Shape := ⟨2, ![2, 6144]⟩
abbrev S2050x6144 : Shape := ⟨2, ![2050, 6144]⟩
abbrev S6144 : Shape := ⟨1, ![6144]⟩
abbrev S2048x4x1536 : Shape := ⟨3, ![2048, 4, 1536]⟩
abbrev S4x2048x1536 : Shape := ⟨3, ![4, 2048, 1536]⟩

abbrev nBuf : Space → Nat
  | .hbm => 159
  | .vmem => 0
  | .smem => 0
  | _ => 0

abbrev hbmTy0_0 (i : Nat) : BufTy := match i % 128 with
  | 0 => ⟨S2048x2048, .f32⟩
  | 1 => ⟨S1x2048, .f32⟩
  | 2 => ⟨S2048x6144, .f32⟩
  | 3 => ⟨S2048x6144, .f32⟩
  | 4 => ⟨S3x6144, .f32⟩
  | 5 => ⟨S1x6144, .f32⟩
  | 6 => ⟨S6144x2048, .f32⟩
  | 7 => ⟨S2048x2048, .f32⟩
  | 8 => ⟨S2048x2048, .f32⟩
  | 9 => ⟨S_, .f32⟩
  | 10 => ⟨S2048, .f32⟩
  | 11 => ⟨S2048x1, .f32⟩
  | 12 => ⟨S_, .f32⟩
  | 13 => ⟨S2048x1, .f32⟩
  | 14 => ⟨S2048x1, .f32⟩
  | 15 => ⟨S_, .f32⟩
  | 16 => ⟨S2048x1, .f32⟩
  | 17 => ⟨S2048x1, .f32⟩
  | 18 => ⟨S2048x1, .f32⟩
  | 19 => ⟨S2048x2048, .f32⟩
  | 20 => ⟨S2048x2048, .f32⟩
  | 21 => ⟨S2048x2048, .f32⟩
  | 22 => ⟨S2048x2048, .f32⟩
  | 23 => ⟨S2048x6144, .f32⟩
  | 24 => ⟨S_, .f32⟩
  | 25 => ⟨S2x6144, .f32⟩
  | 26 => ⟨S2050x6144, .f32⟩
  | 27 => ⟨S_, .f32⟩
  | 28 => ⟨S2x6144, .f32⟩
  | 29 => ⟨S2048x6144, .f32⟩
  | 30 => ⟨S1x6144, .f32⟩
  | 31 => ⟨S6144, .f32⟩
  | 32 => ⟨S1x6144, .f32⟩
  | 33 => ⟨S2048x6144, .f32⟩
  | 34 => ⟨S2048x6144, .f32⟩
  | 35 => ⟨S2048x6144, .f32⟩
  | 36 => ⟨S2048x6144, .f32⟩
  | 37 => ⟨S2048x6144, .f32⟩
  | 38 => ⟨S1x6144, .f32⟩
  | 39 => ⟨S6144, .f32⟩
  | 40 => ⟨S1x6144, .f32⟩
  | 41 => ⟨S2048x6144, .f32⟩
  | 42 => ⟨S2048x6144, .f32⟩
  | 43 => ⟨S2048x6144, .f32⟩
  | 44 => ⟨S2048x6144, .f32⟩
  | 45 => ⟨S1x6144, .f32⟩
  | 46 => ⟨S6144, .f32⟩
  | 47 => ⟨S1x6144, .f32⟩
  | 48 => ⟨S2048x6144, .f32⟩
  | 49 => ⟨S2048x6144, .f32⟩
  | 50 => ⟨S2048x6144, .f32⟩
  | 51 => ⟨S2048x6144, .f32⟩
  | 52 => ⟨S2048x6144, .f32⟩
  | 53 => ⟨S2048x6144, .f32⟩
  | 54 => ⟨S_, .f32⟩
  | 55 => ⟨S2048x6144, .f32⟩
  | 56 => ⟨S2048x6144, .f32⟩
  | 57 => ⟨S_, .f32⟩
  | 58 => ⟨S2048x6144, .f32⟩
  | 59 => ⟨S2048x6144, .f32⟩
  | 60 => ⟨S2048x6144, .f32⟩
  | 61 => ⟨S_, .f32⟩
  | 62 => ⟨S2048x6144, .f32⟩
  | 63 => ⟨S2048x6144, .f32⟩
  | 64 => ⟨S2048x6144, .f32⟩
  | 65 => ⟨S_, .f32⟩
  | 66 => ⟨S2048x6144, .f32⟩
  | 67 => ⟨S2048x6144, .f32⟩
  | 68 => ⟨S_, .f32⟩
  | 69 => ⟨S2048x6144, .f32⟩
  | 70 => ⟨S2048x6144, .f32⟩
  | 71 => ⟨S2048x6144, .f32⟩
  | 72 => ⟨S_, .f32⟩
  | 73 => ⟨S2048x6144, .f32⟩
  | 74 => ⟨S2048x6144, .f32⟩
  | 75 => ⟨S_, .f32⟩
  | 76 => ⟨S2048x6144, .f32⟩
  | 77 => ⟨S2048x6144, .f32⟩
  | 78 => ⟨S2048x6144, .f32⟩
  | 79 => ⟨S2048x6144, .f32⟩
  | 80 => ⟨S2048x6144, .f32⟩
  | 81 => ⟨S2048x2048, .f32⟩
  | 82 => ⟨S2048x2048, .f32⟩
  | 83 => ⟨S2048x6144, .f32⟩
  | 84 => ⟨S6144x2048, .f32⟩
  | 85 => ⟨S2048x6144, .f32⟩
  | 86 => ⟨S2048x6144, .f32⟩
  | 87 => ⟨S2048x6144, .f32⟩
  | 88 => ⟨S6144x2048, .f32⟩
  | 89 => ⟨S2048x6144, .f32⟩
  | 90 => ⟨S2048x6144, .f32⟩
  | 91 => ⟨S2048x6144, .f32⟩
  | 92 => ⟨S_, .f32⟩
  | 93 => ⟨S2048x6144, .f32⟩
  | 94 => ⟨S2048x6144, .f32⟩
  | 95 => ⟨S2048x6144, .f32⟩
  | 96 => ⟨S_, .f32⟩
  | 97 => ⟨S2048x6144, .f32⟩
  | 98 => ⟨S2048x6144, .f32⟩
  | 99 => ⟨S2048x6144, .f32⟩
  | 100 => ⟨S_, .f32⟩
  | 101 => ⟨S2048x6144, .f32⟩
  | 102 => ⟨S2048x6144, .f32⟩
  | 103 => ⟨S2048x6144, .f32⟩
  | 104 => ⟨S2048x6144, .f32⟩
  | 105 => ⟨S2048x6144, .f32⟩
  | 106 => ⟨S_, .f32⟩
  | 107 => ⟨S6144, .f32⟩
  | 108 => ⟨S1x6144, .f32⟩
  | 109 => ⟨S2048x6144, .f32⟩
  | 110 => ⟨S2048x6144, .f32⟩
  | 111 => ⟨S_, .f32⟩
  | 112 => ⟨S6144, .f32⟩
  | 113 => ⟨S1x6144, .f32⟩
  | 114 => ⟨S_, .f32⟩
  | 115 => ⟨S3x6144, .f32⟩
  | 116 => ⟨S_, .f32⟩
  | 117 => ⟨S2050x6144, .f32⟩
  | 118 => ⟨S2048x6144, .f32⟩
  | 119 => ⟨S_, .f32⟩
  | 120 => ⟨S6144, .f32⟩
  | 121 => ⟨S1x6144, .f32⟩
  | 122 => ⟨S2048x6144, .f32⟩
  | 123 => ⟨S2048x6144, .f32⟩
  | 124 => ⟨S_, .f32⟩
  | 125 => ⟨S6144, .f32⟩
  | 126 => ⟨S1x6144, .f32⟩
  | 127 => ⟨S_, .f32⟩
  | _ => ⟨S2048x2048, .f32⟩

abbrev hbmTy0_1 (i : Nat) : BufTy := match i % 128 with
  | 0 => ⟨S3x6144, .f32⟩
  | 1 => ⟨S3x6144, .f32⟩
  | 2 => ⟨S_, .f32⟩
  | 3 => ⟨S2050x6144, .f32⟩
  | 4 => ⟨S2050x6144, .f32⟩
  | 5 => ⟨S_, .f32⟩
  | 6 => ⟨S6144, .f32⟩
  | 7 => ⟨S1x6144, .f32⟩
  | 8 => ⟨S2048x6144, .f32⟩
  | 9 => ⟨S_, .f32⟩
  | 10 => ⟨S6144, .f32⟩
  | 11 => ⟨S1x6144, .f32⟩
  | 12 => ⟨S2048x6144, .f32⟩
  | 13 => ⟨S2048x6144, .f32⟩
  | 14 => ⟨S_, .f32⟩
  | 15 => ⟨S6144, .f32⟩
  | 16 => ⟨S1x6144, .f32⟩
  | 17 => ⟨S_, .f32⟩
  | 18 => ⟨S3x6144, .f32⟩
  | 19 => ⟨S3x6144, .f32⟩
  | 20 => ⟨S_, .f32⟩
  | 21 => ⟨S2050x6144, .f32⟩
  | 22 => ⟨S2050x6144, .f32⟩
  | 23 => ⟨S2x6144, .f32⟩
  | 24 => ⟨S2048x6144, .f32⟩
  | 25 => ⟨S6144x2048, .f32⟩
  | 26 => ⟨S2048x6144, .f32⟩
  | 27 => ⟨S2048x4x1536, .f32⟩
  | 28 => ⟨S4x2048x1536, .f32⟩
  | 29 => ⟨S2048x4x1536, .f32⟩
  | 30 => ⟨S4x2048x1536, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_11 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_12 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_13 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_14 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_15 : Ref sig .tc := ⟨.hbm, 111, rfl⟩
abbrev main_v87 : Ref sig .tc := ⟨.hbm, 112, rfl⟩
abbrev main_v88 : Ref sig .tc := ⟨.hbm, 113, rfl⟩
abbrev main_cst_16 : Ref sig .tc := ⟨.hbm, 114, rfl⟩
abbrev main_v89 : Ref sig .tc := ⟨.hbm, 115, rfl⟩
abbrev main_cst_17 : Ref sig .tc := ⟨.hbm, 116, rfl⟩
abbrev main_v90 : Ref sig .tc := ⟨.hbm, 117, rfl⟩
abbrev main_v91 : Ref sig .tc := ⟨.hbm, 118, rfl⟩
abbrev main_cst_18 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_19 : Ref sig .tc := ⟨.hbm, 124, rfl⟩
abbrev main_v96 : Ref sig .tc := ⟨.hbm, 125, rfl⟩
abbrev main_v97 : Ref sig .tc := ⟨.hbm, 126, rfl⟩
abbrev main_cst_20 : Ref sig .tc := ⟨.hbm, 127, rfl⟩
abbrev main_v98 : Ref sig .tc := ⟨.hbm, 128, rfl⟩
abbrev main_v99 : Ref sig .tc := ⟨.hbm, 129, rfl⟩
abbrev main_cst_21 : Ref sig .tc := ⟨.hbm, 130, rfl⟩
abbrev main_v100 : Ref sig .tc := ⟨.hbm, 131, rfl⟩
abbrev main_v101 : Ref sig .tc := ⟨.hbm, 132, rfl⟩
abbrev main_cst_22 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_23 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_24 : Ref sig .tc := ⟨.hbm, 142, rfl⟩
abbrev main_v109 : Ref sig .tc := ⟨.hbm, 143, rfl⟩
abbrev main_v110 : Ref sig .tc := ⟨.hbm, 144, rfl⟩
abbrev main_cst_25 : Ref sig .tc := ⟨.hbm, 145, rfl⟩
abbrev main_v111 : Ref sig .tc := ⟨.hbm, 146, rfl⟩
abbrev main_v112 : Ref sig .tc := ⟨.hbm, 147, rfl⟩
abbrev main_cst_26 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩

abbrev nD : Nat := 1
abbrev τ : Topo := Topo.v7x

variable {F : FTy → Type} [FloatOps F]
-- ==== ProjKernel.lean ====
abbrev S2048x2048 : Shape := ⟨2, ![2048, 2048]⟩
abbrev S1x2048 : Shape := ⟨2, ![1, 2048]⟩
abbrev S2048x5408 : Shape := ⟨2, ![2048, 5408]⟩
abbrev S2048x32 : Shape := ⟨2, ![2048, 32]⟩
abbrev S2048x5632 : Shape := ⟨2, ![2048, 5632]⟩
abbrev S_ : Shape := ⟨0, ![]⟩
abbrev S2048x192 : Shape := ⟨2, ![2048, 192]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S512x2048 : Shape := ⟨2, ![512, 2048]⟩

abbrev nBuf : Space → Nat
  | .hbm => 25
  | .vmem => 32
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x5408, .f32⟩
  | .hbm, ⟨3, _⟩ => ⟨S2048x32, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x5408, .bf16⟩
  | .hbm, ⟨9, _⟩ => ⟨S2048x32, .bf16⟩
  | .hbm, ⟨10, _⟩ => ⟨S_, .bf16⟩
  | .hbm, ⟨11, _⟩ => ⟨S2048x192, .bf16⟩
  | .hbm, ⟨12, _⟩ => ⟨S2048x5632, .bf16⟩
  | .hbm, ⟨13, _⟩ => ⟨S2048x2048, .bf16⟩
  | .hbm, ⟨14, _⟩ => ⟨S2048x5632, .f32⟩
  | .hbm, ⟨15, _⟩ => ⟨S2048x2048, .bf16⟩
  | .hbm, ⟨16, _⟩ => ⟨S2048x2048, .bf16⟩
  | .hbm, ⟨17, _⟩ => ⟨S2048x2048, .f32⟩
  | .hbm, ⟨18, _⟩ => ⟨S2048x2048, .bf16⟩
  | .hbm, ⟨19, _⟩ => ⟨S2048x2048, .f32⟩
  | .hbm, ⟨20, _⟩ => ⟨S2048x2048, .f32⟩
  | .hbm, ⟨21, _⟩ => ⟨S2048x5632, .bf16⟩
  | .hbm, ⟨22, _⟩ => ⟨S2048x5632, .f32⟩
  | .hbm, ⟨23, _⟩ => ⟨S2048x5408, .f32⟩
  | .hbm, ⟨24, _⟩ => ⟨S2048x32, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S2048x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .f32⟩
  | .local _ .vmem, ⟨9, _⟩ => ⟨S2048x512, .f32⟩
  | .local _ .vmem, ⟨10, _⟩ => ⟨S2048x2048, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .f32⟩
  | .local _ .vmem, ⟨14, _⟩ => ⟨S2048x512, .f32⟩
  | .local _ .vmem, ⟨15, _⟩ => ⟨S2048x512, .f32⟩
  | .local _ .vmem, ⟨16, _⟩ => ⟨S2048x512, .f32⟩
  | .local _ .vmem, ⟨17, _⟩ => ⟨S2048x2048, .bf16⟩
  | .local _ .vmem, ⟨18, _⟩ => ⟨S512x2048, .bf16⟩
  | .local _ .vmem, ⟨19, _⟩ => ⟨S512x2048, .bf16⟩
  | .local _ .vmem, ⟨20, _⟩ => ⟨S2048x512, .f32⟩
  | .local _ .vmem, ⟨21, _⟩ => ⟨S2048x512, .f32⟩
  | .local _ .vmem, ⟨22, _⟩ => ⟨S2048x2048, .bf16⟩
  | .local _ .vmem, ⟨23, _⟩ => ⟨S2048x512, .bf16⟩
  | .local _ .vmem, ⟨24, _⟩ => ⟨S2048x512, .bf16⟩
  | .local _ .vmem, ⟨25, _⟩ => ⟨S2048x512, .f32⟩
  | .local _ .vmem, ⟨26, _⟩ => ⟨S2048x512, .f32⟩
  | .local _ .vmem, ⟨27, _⟩ => ⟨S2048x2048, .bf16⟩
  | .local _ .vmem, ⟨28, _⟩ => ⟨S2048x512, .bf16⟩
  | .local _ .vmem, ⟨29, _⟩ => ⟨S2048x512, .bf16⟩
  | .local _ .vmem, ⟨30, _⟩ => ⟨S2048x512, .f32⟩
  | .local _ .vmem, ⟨31, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc3_sem0_0 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem1_0 : DmaSem sig := 28
abbrev cc5_sem1_1 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![1, 11, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![1, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2048x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2048x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S2048x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 11, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S2048x2048 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S2048x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== ProjReferenceIdeal.lean ====
abbrev S2048x2048 : Shape := ⟨2, ![2048, 2048]⟩
abbrev S1x2048 : Shape := ⟨2, ![1, 2048]⟩
abbrev S2048x5408 : Shape := ⟨2, ![2048, 5408]⟩
abbrev S2048x32 : Shape := ⟨2, ![2048, 32]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S2048x5440 : Shape := ⟨2, ![2048, 5440]⟩
abbrev S2048x192 : Shape := ⟨2, ![2048, 192]⟩
abbrev S5440x2048 : Shape := ⟨2, ![5440, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x5408, .f32⟩
  | .hbm, ⟨3, _⟩ => ⟨S2048x32, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x5440, .f32⟩
  | .hbm, ⟨24, _⟩ => ⟨S2048x5440, .f32⟩
  | .hbm, ⟨25, _⟩ => ⟨S_, .f32⟩
  | .hbm, ⟨26, _⟩ => ⟨S2048x192, .f32⟩
  | .hbm, ⟨27, _⟩ => ⟨S2048x5632, .f32⟩
  | .hbm, ⟨28, _⟩ => ⟨S_, .f32⟩
  | .hbm, ⟨29, _⟩ => ⟨S2048x192, .f32⟩
  | .hbm, ⟨30, _⟩ => ⟨S2048x2048, .f32⟩
  | .hbm, ⟨31, _⟩ => ⟨S2048x2048, .f32⟩
  | .hbm, ⟨32, _⟩ => ⟨S2048x5440, .f32⟩
  | .hbm, ⟨33, _⟩ => ⟨S2048x192, .f32⟩
  | .hbm, ⟨34, _⟩ => ⟨S5440x2048, .f32⟩
  | .hbm, ⟨35, _⟩ => ⟨S2048x5440, .f32⟩
  | .hbm, ⟨36, _⟩ => ⟨S2048x5408, .f32⟩
  | .hbm, ⟨37, _⟩ => ⟨S2048x32, .f32⟩
  | .hbm, ⟨38, _⟩ => ⟨S2048x2048, .f32⟩
  | .hbm, ⟨39, _⟩ => ⟨S2048x2048, .f32⟩
  | .hbm, ⟨40, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== GateDxKernel.lean ====
abbrev S2048x6144 : Shape := ⟨2, ![2048, 6144]⟩
abbrev S2048x4x1536 : Shape := ⟨3, ![2048, 4, 1536]⟩
abbrev S4x2048x1536 : Shape := ⟨3, ![4, 2048, 1536]⟩
abbrev S2048x2048 : Shape := ⟨2, ![2048, 2048]⟩
abbrev S2048x1536 : Shape := ⟨2, ![2048, 1536]⟩
abbrev S1x512x1536 : Shape := ⟨3, ![1, 512, 1536]⟩
abbrev S2048x512 : Shape := ⟨2, ![2048, 512]⟩
abbrev S512x1536 : Shape := ⟨2, ![512, 1536]⟩

abbrev nBuf : Space → Nat
  | .hbm => 7
  | .vmem => 7
  | .smem => 0
  | _ => 0

abbrev bufTy : (tb : Table) → Fin (tcTables nBuf tb) → BufTy
  | .hbm, ⟨0, _⟩ => ⟨S2048x6144, .f32⟩
  | .hbm, ⟨1, _⟩ => ⟨S2048x6144, .f32⟩
  | .hbm, ⟨2, _⟩ => ⟨S2048x6144, .bf16⟩
  | .hbm, ⟨3, _⟩ => ⟨S2048x6144, .bf16⟩
  | .hbm, ⟨4, _⟩ => ⟨S2048x4x1536, .bf16⟩
  | .hbm, ⟨5, _⟩ => ⟨S4x2048x1536, .bf16⟩
  | .hbm, ⟨6, _⟩ => ⟨S2048x2048, .f32⟩
  | .local _ .vmem, ⟨0, _⟩ => ⟨S2048x1536, .bf16⟩
  | .local _ .vmem, ⟨1, _⟩ => ⟨S2048x1536, .bf16⟩
  | .local _ .vmem, ⟨2, _⟩ => ⟨S1x512x1536, .bf16⟩
  | .local _ .vmem, ⟨3, _⟩ => ⟨S1x512x1536, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDxReferenceIdeal.lean ====
abbrev S2048x6144 : Shape := ⟨2, ![2048, 6144]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S2048x6144, .f32⟩
  | .hbm, ⟨2, _⟩ => ⟨S_, .f32⟩
  | .hbm, ⟨3, _⟩ => ⟨S2048x2048, .f32⟩
  | .hbm, ⟨4, _⟩ => ⟨S2048x6144, .f32⟩
  | .hbm, ⟨5, _⟩ => ⟨S2048x2048, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpDxKernel.lean ====
abbrev S2048x6144 : Shape := ⟨2, ![2048, 6144]⟩
abbrev S2048x2048 : Shape := ⟨2, ![2048, 2048]⟩
abbrev S2048x4x1536 : Shape := ⟨3, ![2048, 4, 1536]⟩
abbrev S4x2048x1536 : Shape := ⟨3, ![4, 2048, 1536]⟩
abbrev S2048x1536 : Shape := ⟨2, ![2048, 1536]⟩
abbrev S1x512x1536 : Shape := ⟨3, ![1, 512, 1536]⟩
abbrev S2048x512 : Shape := ⟨2, ![2048, 512]⟩
abbrev S512x1536 : Shape := ⟨2, ![512, 1536]⟩

abbrev nBuf : Space → Nat
  | .hbm => 8
  | .vmem => 9
  | .smem => 0
  | _ => 0

abbrev bufTy : (tb : Table) → Fin (tcTables nBuf tb) → BufTy
  | .hbm, ⟨0, _⟩ => ⟨S2048x6144, .f32⟩
  | .hbm, ⟨1, _⟩ => ⟨S2048x6144, .f32⟩
  | .hbm, ⟨2, _⟩ => ⟨S2048x2048, .f32⟩
  | .hbm, ⟨3, _⟩ => ⟨S2048x6144, .bf16⟩
  | .hbm, ⟨4, _⟩ => ⟨S2048x6144, .bf16⟩
  | .hbm, ⟨5, _⟩ => ⟨S2048x4x1536, .bf16⟩
  | .hbm, ⟨6, _⟩ => ⟨S4x2048x1536, .bf16⟩
  | .hbm, ⟨7, _⟩ => ⟨S2048x2048, .f32⟩
  | .local _ .vmem, ⟨0, _⟩ => ⟨S2048x1536, .bf16⟩
  | .local _ .vmem, ⟨1, _⟩ => ⟨S2048x1536, .bf16⟩
  | .local _ .vmem, ⟨2, _⟩ => ⟨S1x512x1536, .bf16⟩
  | .local _ .vmem, ⟨3, _⟩ => ⟨S1x512x1536, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxReferenceIdeal.lean ====
abbrev S2048x6144 : Shape := ⟨2, ![2048, 6144]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S2048x6144, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x6144, .f32⟩
  | .hbm, ⟨6, _⟩ => ⟨S2048x2048, .f32⟩
  | .hbm, ⟨7, _⟩ => ⟨S2048x2048, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DownKernel.lean ====
abbrev S2048x6144 : Shape := ⟨2, ![2048, 6144]⟩
abbrev S6144x2048 : Shape := ⟨2, ![6144, 2048]⟩
abbrev S2048x2048 : Shape := ⟨2, ![2048, 2048]⟩
abbrev S2048x512 : Shape := ⟨2, ![2048, 512]⟩

abbrev nBuf : Space → Nat
  | .hbm => 6
  | .vmem => 9
  | .smem => 0
  | _ => 0

abbrev bufTy : (tb : Table) → Fin (tcTables nBuf tb) → BufTy
  | .hbm, ⟨0, _⟩ => ⟨S2048x6144, .f32⟩
  | .hbm, ⟨1, _⟩ => ⟨S6144x2048, .f32⟩
  | .hbm, ⟨2, _⟩ => ⟨S2048x2048, .f32⟩
  | .hbm, ⟨3, _⟩ => ⟨S2048x6144, .bf16⟩
  | .hbm, ⟨4, _⟩ => ⟨S6144x2048, .bf16⟩
  | .hbm, ⟨5, _⟩ => ⟨S2048x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S2048x6144 : Shape := ⟨2, ![2048, 6144]⟩
abbrev S6144x2048 : Shape := ⟨2, ![6144, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S6144x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== InDxKernel.lean ====
abbrev S2048x5632 : Shape := ⟨2, ![2048, 5632]⟩
abbrev S2048x5408 : Shape := ⟨2, ![2048, 5408]⟩
abbrev S2048x32 : Shape := ⟨2, ![2048, 32]⟩
abbrev S_ : Shape := ⟨0, ![]⟩
abbrev S2048x192 : Shape := ⟨2, ![2048, 192]⟩
abbrev S2048x2048 : Shape := ⟨2, ![2048, 2048]⟩
abbrev S1024x2816 : Shape := ⟨2, ![1024, 2816]⟩
abbrev S512x2816 : Shape := ⟨2, ![512, 2816]⟩
abbrev S1024x512 : Shape := ⟨2, ![1024, 512]⟩

abbrev nBuf : Space → Nat
  | .hbm => 10
  | .vmem => 7
  | .smem => 0
  | _ => 0

abbrev bufTy : (tb : Table) → Fin (tcTables nBuf tb) → BufTy
  | .hbm, ⟨0, _⟩ => ⟨S2048x5632, .f32⟩
  | .hbm, ⟨1, _⟩ => ⟨S2048x5408, .f32⟩
  | .hbm, ⟨2, _⟩ => ⟨S2048x32, .f32⟩
  | .hbm, ⟨3, _⟩ => ⟨S2048x5408, .bf16⟩
  | .hbm, ⟨4, _⟩ => ⟨S2048x32, .bf16⟩
  | .hbm, ⟨5, _⟩ => ⟨S_, .bf16⟩
  | .hbm, ⟨6, _⟩ => ⟨S2048x192, .bf16⟩
  | .hbm, ⟨7, _⟩ => ⟨S2048x5632, .bf16⟩
  | .hbm, ⟨8, _⟩ => ⟨S2048x5632, .bf16⟩
  | .hbm, ⟨9, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxReferenceIdeal.lean ====
abbrev S2048x5632 : Shape := ⟨2, ![2048, 5632]⟩
abbrev S2048x5408 : Shape := ⟨2, ![2048, 5408]⟩
abbrev S2048x32 : Shape := ⟨2, ![2048, 32]⟩
abbrev S_ : Shape := ⟨0, ![]⟩
abbrev S2048x2048 : Shape := ⟨2, ![2048, 2048]⟩
abbrev S2048x5440 : Shape := ⟨2, ![2048, 5440]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5408, .f32⟩
  | .hbm, ⟨2, _⟩ => ⟨S2048x32, .f32⟩
  | .hbm, ⟨3, _⟩ => ⟨S_, .f32⟩
  | .hbm, ⟨4, _⟩ => ⟨S2048x2048, .f32⟩
  | .hbm, ⟨5, _⟩ => ⟨S2048x5440, .f32⟩
  | .hbm, ⟨6, _⟩ => ⟨S2048x5440, .f32⟩
  | .hbm, ⟨7, _⟩ => ⟨S2048x5440, .f32⟩
  | .hbm, ⟨8, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== AdamKernel.lean ====
abbrev S2x512x2048 : Shape := ⟨3, ![2, 512, 2048]⟩
abbrev S2x2048x1536 : Shape := ⟨3, ![2, 2048, 1536]⟩
abbrev S2x1536x2048 : Shape := ⟨3, ![2, 1536, 2048]⟩
abbrev S2x256x512 : Shape := ⟨3, ![2, 256, 512]⟩
abbrev S2x2048x1352 : Shape := ⟨3, ![2, 2048, 1352]⟩
abbrev S1024x2048 : Shape := ⟨2, ![1024, 2048]⟩
abbrev S256x2048 : Shape := ⟨2, ![256, 2048]⟩
abbrev S4096x1536 : Shape := ⟨2, ![4096, 1536]⟩
abbrev S256x1536 : Shape := ⟨2, ![256, 1536]⟩
abbrev S3072x2048 : Shape := ⟨2, ![3072, 2048]⟩
abbrev S512x512 : Shape := ⟨2, ![512, 512]⟩
abbrev S256x512 : Shape := ⟨2, ![256, 512]⟩
abbrev S4096x1352 : Shape := ⟨2, ![4096, 1352]⟩
abbrev S256x1352 : Shape := ⟨2, ![256, 1352]⟩

abbrev nBuf : Space → Nat
  | .hbm => 98
  | .vmem => 98
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x2048x1536, .f32⟩
  | .hbm, ⟨5, _⟩ => ⟨S2x2048x1536, .f32⟩
  | .hbm, ⟨6, _⟩ => ⟨S2x2048x1536, .f32⟩
  | .hbm, ⟨7, _⟩ => ⟨S2x2048x1536, .f32⟩
  | .hbm, ⟨8, _⟩ => ⟨S2x2048x1536, .f32⟩
  | .hbm, ⟨9, _⟩ => ⟨S2x2048x1536, .f32⟩
  | .hbm, ⟨10, _⟩ => ⟨S2x2048x1536, .f32⟩
  | .hbm, ⟨11, _⟩ => ⟨S2x2048x1536, .f32⟩
  | .hbm, ⟨12, _⟩ => ⟨S2x1536x2048, .f32⟩
  | .hbm, ⟨13, _⟩ => ⟨S2x1536x2048, .f32⟩
  | .hbm, ⟨14, _⟩ => ⟨S2x1536x2048, .f32⟩
  | .hbm, ⟨15, _⟩ => ⟨S2x1536x2048, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S2x512x2048, .f32⟩
  | .hbm, ⟨20, _⟩ => ⟨S2x256x512, .f32⟩
  | .hbm, ⟨21, _⟩ => ⟨S2x256x512, .f32⟩
  | .hbm, ⟨22, _⟩ => ⟨S2x256x512, .f32⟩
  | .hbm, ⟨23, _⟩ => ⟨S2x256x512, .f32⟩
  | .hbm, ⟨24, _⟩ => ⟨S2x2048x1352, .f32⟩
  | .hbm, ⟨25, _⟩ => ⟨S2x2048x1352, .f32⟩
  | .hbm, ⟨26, _⟩ => ⟨S2x2048x1352, .f32⟩
  | .hbm, ⟨27, _⟩ => ⟨S2x2048x1352, .f32⟩
  | .hbm, ⟨28, _⟩ => ⟨S1024x2048, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S1024x2048, .f32⟩
  | .hbm, ⟨35, _⟩ => ⟨S2x512x2048, .f32⟩
  | .hbm, ⟨36, _⟩ => ⟨S2x512x2048, .f32⟩
  | .hbm, ⟨37, _⟩ => ⟨S2x512x2048, .f32⟩
  | .hbm, ⟨38, _⟩ => ⟨S4096x1536, .f32⟩
  | .hbm, ⟨39, _⟩ => ⟨S4096x1536, .f32⟩
  | .hbm, ⟨40, _⟩ => ⟨S4096x1536, .f32⟩
  | .hbm, ⟨41, _⟩ => ⟨S4096x1536, .f32⟩
  | .hbm, ⟨42, _⟩ => ⟨S4096x1536, .f32⟩
  | .hbm, ⟨43, _⟩ => ⟨S4096x1536, .f32⟩
  | .hbm, ⟨44, _⟩ => ⟨S4096x1536, .f32⟩
  | .hbm, ⟨45, _⟩ => ⟨S2x2048x1536, .f32⟩
  | .hbm, ⟨46, _⟩ => ⟨S2x2048x1536, .f32⟩
  | .hbm, ⟨47, _⟩ => ⟨S2x2048x1536, .f32⟩
  | .hbm, ⟨48, _⟩ => ⟨S4096x1536, .f32⟩
  | .hbm, ⟨49, _⟩ => ⟨S4096x1536, .f32⟩
  | .hbm, ⟨50, _⟩ => ⟨S4096x1536, .f32⟩
  | .hbm, ⟨51, _⟩ => ⟨S4096x1536, .f32⟩
  | .hbm, ⟨52, _⟩ => ⟨S4096x1536, .f32⟩
  | .hbm, ⟨53, _⟩ => ⟨S4096x1536, .f32⟩
  | .hbm, ⟨54, _⟩ => ⟨S4096x1536, .f32⟩
  | .hbm, ⟨55, _⟩ => ⟨S2x2048x1536, .f32⟩
  | .hbm, ⟨56, _⟩ => ⟨S2x2048x1536, .f32⟩
  | .hbm, ⟨57, _⟩ => ⟨S2x2048x1536, .f32⟩
  | .hbm, ⟨58, _⟩ => ⟨S3072x2048, .f32⟩
  | .hbm, ⟨59, _⟩ => ⟨S3072x2048, .f32⟩
  | .hbm, ⟨60, _⟩ => ⟨S3072x2048, .f32⟩
  | .hbm, ⟨61, _⟩ => ⟨S3072x2048, .f32⟩
  | .hbm, ⟨62, _⟩ => ⟨S3072x2048, .f32⟩
  | .hbm, ⟨63, _⟩ => ⟨S3072x2048, .f32⟩
  | .hbm, ⟨64, _⟩ => ⟨S3072x2048, .f32⟩
  | .hbm, ⟨65, _⟩ => ⟨S2x1536x2048, .f32⟩
  | .hbm, ⟨66, _⟩ => ⟨S2x1536x2048, .f32⟩
  | .hbm, ⟨67, _⟩ => ⟨S2x1536x2048, .f32⟩
  | .hbm, ⟨68, _⟩ => ⟨S1024x2048, .f32⟩
  | .hbm, ⟨69, _⟩ => ⟨S1024x2048, .f32⟩
  | .hbm, ⟨70, _⟩ => ⟨S1024x2048, .f32⟩
  | .hbm, ⟨71, _⟩ => ⟨S1024x2048, .f32⟩
  | .hbm, ⟨72, _⟩ => ⟨S1024x2048, .f32⟩
  | .hbm, ⟨73, _⟩ => ⟨S1024x2048, .f32⟩
  | .hbm, ⟨74, _⟩ => ⟨S1024x2048, .f32⟩
  | .hbm, ⟨75, _⟩ => ⟨S2x512x2048, .f32⟩
  | .hbm, ⟨76, _⟩ => ⟨S2x512x2048, .f32⟩
  | .hbm, ⟨77, _⟩ => ⟨S2x512x2048, .f32⟩
  | .hbm, ⟨78, _⟩ => ⟨S512x512, .f32⟩
  | .hbm, ⟨79, _⟩ => ⟨S512x512, .f32⟩
  | .hbm, ⟨80, _⟩ => ⟨S512x512, .f32⟩
  | .hbm, ⟨81, _⟩ => ⟨S512x512, .f32⟩
  | .hbm, ⟨82, _⟩ => ⟨S512x512, .f32⟩
  | .hbm, ⟨83, _⟩ => ⟨S512x512, .f32⟩
  | .hbm, ⟨84, _⟩ => ⟨S512x512, .f32⟩
  | .hbm, ⟨85, _⟩ => ⟨S2x256x512, .f32⟩
  | .hbm, ⟨86, _⟩ => ⟨S2x256x512, .f32⟩
  | .hbm, ⟨87, _⟩ => ⟨S2x256x512, .f32⟩
  | .hbm, ⟨88, _⟩ => ⟨S4096x1352, .f32⟩
  | .hbm, ⟨89, _⟩ => ⟨S4096x1352, .f32⟩
  | .hbm, ⟨90, _⟩ => ⟨S4096x1352, .f32⟩
  | .hbm, ⟨91, _⟩ => ⟨S4096x1352, .f32⟩
  | .hbm, ⟨92, _⟩ => ⟨S4096x1352, .f32⟩
  | .hbm, ⟨93, _⟩ => ⟨S4096x1352, .f32⟩
  | .hbm, ⟨94, _⟩ => ⟨S4096x1352, .f32⟩
  | .hbm, ⟨95, _⟩ => ⟨S2x2048x1352, .f32⟩
  | .hbm, ⟨96, _⟩ => ⟨S2x2048x1352, .f32⟩
  | .hbm, ⟨97, _⟩ => ⟨S2x2048x1352, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | .local _ .vmem, ⟨17, _⟩ => ⟨S256x1536, .f32⟩
  | .local _ .vmem, ⟨18, _⟩ => ⟨S256x1536, .f32⟩
  | .local _ .vmem, ⟨19, _⟩ => ⟨S256x1536, .f32⟩
  | .local _ .vmem, ⟨20, _⟩ => ⟨S256x1536, .f32⟩
  | .local _ .vmem, ⟨21, _⟩ => ⟨S256x1536, .f32⟩
  | .local _ .vmem, ⟨22, _⟩ => ⟨S256x1536, .f32⟩
  | .local _ .vmem, ⟨23, _⟩ => ⟨S256x1536, .f32⟩
  | .local _ .vmem, ⟨24, _⟩ => ⟨S256x1536, .f32⟩
  | .local _ .vmem, ⟨25, _⟩ => ⟨S256x1536, .f32⟩
  | .local _ .vmem, ⟨26, _⟩ => ⟨S256x1536, .f32⟩
  | .local _ .vmem, ⟨27, _⟩ => ⟨S256x1536, .f32⟩
  | .local _ .vmem, ⟨28, _⟩ => ⟨S256x1536, .f32⟩
  | .local _ .vmem, ⟨29, _⟩ => ⟨S256x1536, .f32⟩
  | .local _ .vmem, ⟨30, _⟩ => ⟨S256x1536, .f32⟩
  | .local _ .vmem, ⟨31, _⟩ => ⟨S256x1536, .f32⟩
  | .local _ .vmem, ⟨32, _⟩ => ⟨S256x1536, .f32⟩
  | .local _ .vmem, ⟨33, _⟩ => ⟨S256x1536, .f32⟩
  | .local _ .vmem, ⟨34, _⟩ => ⟨S256x1536, .f32⟩
  | .local _ .vmem, ⟨35, _⟩ => ⟨S256x1536, .f32⟩
  | .local _ .vmem, ⟨36, _⟩ => ⟨S256x1536, .f32⟩
  | .local _ .vmem, ⟨37, _⟩ => ⟨S256x1536, .f32⟩
  | .local _ .vmem, ⟨38, _⟩ => ⟨S256x1536, .f32⟩
  | .local _ .vmem, ⟨39, _⟩ => ⟨S256x1536, .f32⟩
  | .local _ .vmem, ⟨40, _⟩ => ⟨S256x1536, .f32⟩
  | .local _ .vmem, ⟨41, _⟩ => ⟨S256x1536, .f32⟩
  | .local _ .vmem, ⟨42, _⟩ => ⟨S256x2048, .f32⟩
  | .local _ .vmem, ⟨43, _⟩ => ⟨S256x2048, .f32⟩
  | .local _ .vmem, ⟨44, _⟩ => ⟨S256x2048, .f32⟩
  | .local _ .vmem, ⟨45, _⟩ => ⟨S256x2048, .f32⟩
  | .local _ .vmem, ⟨46, _⟩ => ⟨S256x2048, .f32⟩
  | .local _ .vmem, ⟨47, _⟩ => ⟨S256x2048, .f32⟩
  | .local _ .vmem, ⟨48, _⟩ => ⟨S256x2048, .f32⟩
  | .local _ .vmem, ⟨49, _⟩ => ⟨S256x2048, .f32⟩
  | .local _ .vmem, ⟨50, _⟩ => ⟨S256x2048, .f32⟩
  | .local _ .vmem, ⟨51, _⟩ => ⟨S256x2048, .f32⟩
  | .local _ .vmem, ⟨52, _⟩ => ⟨S256x2048, .f32⟩
  | .local _ .vmem, ⟨53, _⟩ => ⟨S256x2048, .f32⟩
  | .local _ .vmem, ⟨54, _⟩ => ⟨S256x2048, .f32⟩
  | .local _ .vmem, ⟨55, _⟩ => ⟨S256x2048, .f32⟩
  | .local _ .vmem, ⟨56, _⟩ => ⟨S256x2048, .f32⟩
  | .local _ .vmem, ⟨57, _⟩ => ⟨S256x2048, .f32⟩
  | .local _ .vmem, ⟨58, _⟩ => ⟨S256x2048, .f32⟩
  | .local _ .vmem, ⟨59, _⟩ => ⟨S256x2048, .f32⟩
  | .local _ .vmem, ⟨60, _⟩ => ⟨S256x2048, .f32⟩
  | .local _ .vmem, ⟨61, _⟩ => ⟨S256x2048, .f32⟩
  | .local _ .vmem, ⟨62, _⟩ => ⟨S256x2048, .f32⟩
  | .local _ .vmem, ⟨63, _⟩ => ⟨S256x2048, .f32⟩
  | .local _ .vmem, ⟨64, _⟩ => ⟨S256x2048, .f32⟩
  | .local _ .vmem, ⟨65, _⟩ => ⟨S256x2048, .f32⟩
  | .local _ .vmem, ⟨66, _⟩ => ⟨S256x2048, .f32⟩
  | .local _ .vmem, ⟨67, _⟩ => ⟨S256x2048, .f32⟩
  | .local _ .vmem, ⟨68, _⟩ => ⟨S256x2048, .f32⟩
  | .local _ .vmem, ⟨69, _⟩ => ⟨S256x2048, .f32⟩
  | .local _ .vmem, ⟨70, _⟩ => ⟨S256x512, .f32⟩
  | .local _ .vmem, ⟨71, _⟩ => ⟨S256x512, .f32⟩
  | .local _ .vmem, ⟨72, _⟩ => ⟨S256x512, .f32⟩
  | .local _ .vmem, ⟨73, _⟩ => ⟨S256x512, .f32⟩
  | .local _ .vmem, ⟨74, _⟩ => ⟨S256x512, .f32⟩
  | .local _ .vmem, ⟨75, _⟩ => ⟨S256x512, .f32⟩
  | .local _ .vmem, ⟨76, _⟩ => ⟨S256x512, .f32⟩
  | .local _ .vmem, ⟨77, _⟩ => ⟨S256x512, .f32⟩
  | .local _ .vmem, ⟨78, _⟩ => ⟨S256x512, .f32⟩
  | .local _ .vmem, ⟨79, _⟩ => ⟨S256x512, .f32⟩
  | .local _ .vmem, ⟨80, _⟩ => ⟨S256x512, .f32⟩
  | .local _ .vmem, ⟨81, _⟩ => ⟨S256x512, .f32⟩
  | .local _ .vmem, ⟨82, _⟩ => ⟨S256x512, .f32⟩
  | .local _ .vmem, ⟨83, _⟩ => ⟨S256x512, .f32⟩
  | .local _ .vmem, ⟨84, _⟩ => ⟨S256x1352, .f32⟩
  | .local _ .vmem, ⟨85, _⟩ => ⟨S256x1352, .f32⟩
  | .local _ .vmem, ⟨86, _⟩ => ⟨S256x1352, .f32⟩
  | .local _ .vmem, ⟨87, _⟩ => ⟨S256x1352, .f32⟩
  | .local _ .vmem, ⟨88, _⟩ => ⟨S256x1352, .f32⟩
  | .local _ .vmem, ⟨89, _⟩ => ⟨S256x1352, .f32⟩
  | .local _ .vmem, ⟨90, _⟩ => ⟨S256x1352, .f32⟩
  | .local _ .vmem, ⟨91, _⟩ => ⟨S256x1352, .f32⟩
  | .local _ .vmem, ⟨92, _⟩ => ⟨S256x1352, .f32⟩
  | .local _ .vmem, ⟨93, _⟩ => ⟨S256x1352, .f32⟩
  | .local _ .vmem, ⟨94, _⟩ => ⟨S256x1352, .f32⟩
  | .local _ .vmem, ⟨95, _⟩ => ⟨S256x1352, .f32⟩
  | .local _ .vmem, ⟨96, _⟩ => ⟨S256x1352, .f32⟩
  | .local _ .vmem, ⟨97, _⟩ => ⟨S256x1352, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | _, _ => false

abbrev semScoped : Fin 0 → Bool
  | ⟨_, h⟩ => absurd h (Nat.not_lt_zero _)

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  ofTc nBuf bufTy 0 98 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4_0 : Ref sig .tc := ⟨.hbm, 32, rfl⟩
abbrev main_v4_1 : Ref sig .tc := ⟨.hbm, 33, rfl⟩
abbrev main_v4_2 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12_0 : Ref sig .tc := ⟨.hbm, 42, rfl⟩
abbrev main_v12_1 : Ref sig .tc := ⟨.hbm, 43, rfl⟩
abbrev main_v12_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20_0 : Ref sig .tc := ⟨.hbm, 52, rfl⟩
abbrev main_v20_1 : Ref sig .tc := ⟨.hbm, 53, rfl⟩
abbrev main_v20_2 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28_0 : Ref sig .tc := ⟨.hbm, 62, rfl⟩
abbrev main_v28_1 : Ref sig .tc := ⟨.hbm, 63, rfl⟩
abbrev main_v28_2 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36_0 : Ref sig .tc := ⟨.hbm, 72, rfl⟩
abbrev main_v36_1 : Ref sig .tc := ⟨.hbm, 73, rfl⟩
abbrev main_v36_2 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44_0 : Ref sig .tc := ⟨.hbm, 82, rfl⟩
abbrev main_v44_1 : Ref sig .tc := ⟨.hbm, 83, rfl⟩
abbrev main_v44_2 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52_0 : Ref sig .tc := ⟨.hbm, 92, rfl⟩
abbrev main_v52_1 : Ref sig .tc := ⟨.hbm, 93, rfl⟩
abbrev main_v52_2 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg3_1 : Ref sig .tc := ⟨.vmem, 49, rfl⟩
abbrev cc3_stg4_0 : Ref sig .tc := ⟨.vmem, 50, rfl⟩
abbrev cc3_stg4_1 : Ref sig .tc := ⟨.vmem, 51, rfl⟩
abbrev cc3_stg5_0 : Ref sig .tc := ⟨.vmem, 52, rfl⟩
abbrev cc3_stg5_1 : Ref sig .tc := ⟨.vmem, 53, rfl⟩
abbrev cc3_stg6_0 : Ref sig .tc := ⟨.vmem, 54, rfl⟩
abbrev cc3_stg6_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc4_stg3_0 : Ref sig .tc := ⟨.vmem, 62, rfl⟩
abbrev cc4_stg3_1 : Ref sig .tc := ⟨.vmem, 63, rfl⟩
abbrev cc4_stg4_0 : Ref sig .tc := ⟨.vmem, 64, rfl⟩
abbrev cc4_stg4_1 : Ref sig .tc := ⟨.vmem, 65, rfl⟩
abbrev cc4_stg5_0 : Ref sig .tc := ⟨.vmem, 66, rfl⟩
abbrev cc4_stg5_1 : Ref sig .tc := ⟨.vmem, 67, rfl⟩
abbrev cc4_stg6_0 : Ref sig .tc := ⟨.vmem, 68, rfl⟩
abbrev cc4_stg6_1 : Ref sig .tc := ⟨.vmem, 69, rfl⟩
abbrev cc5_stg0_0 : Ref sig .tc := ⟨.vmem, 70, rfl⟩
abbrev cc5_stg0_1 : Ref sig .tc := ⟨.vmem, 71, rfl⟩
abbrev cc5_stg1_0 : Ref sig .tc := ⟨.vmem, 72, rfl⟩
abbrev cc5_stg1_1 : Ref sig .tc := ⟨.vmem, 73, rfl⟩
abbrev cc5_stg2_0 : Ref sig .tc := ⟨.vmem, 74, rfl⟩
abbrev cc5_stg2_1 : Ref sig .tc := ⟨.vmem, 75, rfl⟩
abbrev cc5_stg3_0 : Ref sig .tc := ⟨.vmem, 76, rfl⟩
abbrev cc5_stg3_1 : Ref sig .tc := ⟨.vmem, 77, rfl⟩
abbrev cc5_stg4_0 : Ref sig .tc := ⟨.vmem, 78, rfl⟩
abbrev cc5_stg4_1 : Ref sig .tc := ⟨.vmem, 79, rfl⟩
abbrev cc5_stg5_0 : Ref sig .tc := ⟨.vmem, 80, rfl⟩
abbrev cc5_stg5_1 : Ref sig .tc := ⟨.vmem, 81, rfl⟩
abbrev cc5_stg6_0 : Ref sig .tc := ⟨.vmem, 82, rfl⟩
abbrev cc5_stg6_1 : Ref sig .tc := ⟨.vmem, 83, rfl⟩
abbrev cc6_stg0_0 : Ref sig .tc := ⟨.vmem, 84, rfl⟩
abbrev cc6_stg0_1 : Ref sig .tc := ⟨.vmem, 85, rfl⟩
abbrev cc6_stg1_0 : Ref sig .tc := ⟨.vmem, 86, rfl⟩
abbrev cc6_stg1_1 : Ref sig .tc := ⟨.vmem, 87, rfl⟩
abbrev cc6_stg2_0 : Ref sig .tc := ⟨.vmem, 88, rfl⟩
abbrev cc6_stg2_1 : Ref sig .tc := ⟨.vmem, 89, rfl⟩
abbrev cc6_stg3_0 : Ref sig .tc := ⟨.vmem, 90, rfl⟩
abbrev cc6_stg3_1 : Ref sig .tc := ⟨.vmem, 91, rfl⟩
abbrev cc6_stg4_0 : Ref sig .tc := ⟨.vmem, 92, rfl⟩
abbrev cc6_stg4_1 : Ref sig .tc := ⟨.vmem, 93, rfl⟩
abbrev cc6_stg5_0 : Ref sig .tc := ⟨.vmem, 94, rfl⟩
abbrev cc6_stg5_1 : Ref sig .tc := ⟨.vmem, 95, rfl⟩
abbrev cc6_stg6_0 : Ref sig .tc := ⟨.vmem, 96, rfl⟩
abbrev cc6_stg6_1 : Ref sig .tc := ⟨.vmem, 97, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem4_1 : DmaSem sig := 51
abbrev cc3_sem5_0 : DmaSem sig := 52
abbrev cc3_sem5_1 : DmaSem sig := 53
abbrev cc3_sem6_0 : DmaSem sig := 54
abbrev cc3_sem6_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem2_1 : DmaSem sig := 61
abbrev cc4_sem3_0 : DmaSem sig := 62
abbrev cc4_sem3_1 : DmaSem sig := 63
abbrev cc4_sem4_0 : DmaSem sig := 64
abbrev cc4_sem4_1 : DmaSem sig := 65
abbrev cc4_sem5_0 : DmaSem sig := 66
abbrev cc4_sem5_1 : DmaSem sig := 67
abbrev cc4_sem6_0 : DmaSem sig := 68
abbrev cc4_sem6_1 : DmaSem sig := 69
abbrev cc5_sem0_0 : DmaSem sig := 70
abbrev cc5_sem0_1 : DmaSem sig := 71
abbrev cc5_sem1_0 : DmaSem sig := 72
abbrev cc5_sem1_1 : DmaSem sig := 73
abbrev cc5_sem2_0 : DmaSem sig := 74
abbrev cc5_sem2_1 : DmaSem sig := 75
abbrev cc5_sem3_0 : DmaSem sig := 76
abbrev cc5_sem3_1 : DmaSem sig := 77
abbrev cc5_sem4_0 : DmaSem sig := 78
abbrev cc5_sem4_1 : DmaSem sig := 79
abbrev cc5_sem5_0 : DmaSem sig := 80
abbrev cc5_sem5_1 : DmaSem sig := 81
abbrev cc5_sem6_0 : DmaSem sig := 82
abbrev cc5_sem6_1 : DmaSem sig := 83
abbrev cc6_sem0_0 : DmaSem sig := 84
abbrev cc6_sem0_1 : DmaSem sig := 85
abbrev cc6_sem1_0 : DmaSem sig := 86
abbrev cc6_sem1_1 : DmaSem sig := 87
abbrev cc6_sem2_0 : DmaSem sig := 88
abbrev cc6_sem2_1 : DmaSem sig := 89
abbrev cc6_sem3_0 : DmaSem sig := 90
abbrev cc6_sem3_1 : DmaSem sig := 91
abbrev cc6_sem4_0 : DmaSem sig := 92
abbrev cc6_sem4_1 : DmaSem sig := 93
abbrev cc6_sem5_0 : DmaSem sig := 94
abbrev cc6_sem5_1 : DmaSem sig := 95
abbrev cc6_sem6_0 : DmaSem sig := 96
abbrev cc6_sem6_1 : DmaSem sig := 97

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1536 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1536 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1536 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1536 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1536 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1536 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1536 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1536 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x1536 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1536 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![12], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x2048 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S256x2048 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S256x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S256x512 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S256x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S256x512 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x1352 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x1352 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x1352 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S256x1352 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S256x1352 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S256x1352 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S256x1352 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]
-- ==== AdamReferenceIdeal.lean ====
abbrev S2x512x2048 : Shape := ⟨3, ![2, 512, 2048]⟩
abbrev S2x2048x1536 : Shape := ⟨3, ![2, 2048, 1536]⟩
abbrev S2x1536x2048 : Shape := ⟨3, ![2, 1536, 2048]⟩
abbrev S2x256x512 : Shape := ⟨3, ![2, 256, 512]⟩
abbrev S2x2048x1352 : Shape := ⟨3, ![2, 2048, 1352]⟩
abbrev S_ : Shape := ⟨0, ![]⟩

abbrev nBuf : Space → Nat
  | .hbm => 259
  | .vmem => 0
  | .smem => 0
  | _ => 0

abbrev hbmTy0_0 (i : Nat) : BufTy := match i % 128 with
  | 0 => ⟨S2x512x2048, .f32⟩
  | 1 => ⟨S2x512x2048, .f32⟩
  | 2 => ⟨S2x512x2048, .f32⟩
  | 3 => ⟨S2x512x2048, .f32⟩
  | 4 => ⟨S2x2048x1536, .f32⟩
  | 5 => ⟨S2x2048x1536, .f32⟩
  | 6 => ⟨S2x2048x1536, .f32⟩
  | 7 => ⟨S2x2048x1536, .f32⟩
  | 8 => ⟨S2x2048x1536, .f32⟩
  | 9 => ⟨S2x2048x1536, .f32⟩
  | 10 => ⟨S2x2048x1536, .f32⟩
  | 11 => ⟨S2x2048x1536, .f32⟩
  | 12 => ⟨S2x1536x2048, .f32⟩
  | 13 => ⟨S2x1536x2048, .f32⟩
  | 14 => ⟨S2x1536x2048, .f32⟩
  | 15 => ⟨S2x1536x2048, .f32⟩
  | 16 => ⟨S2x512x2048, .f32⟩
  | 17 => ⟨S2x512x2048, .f32⟩
  | 18 => ⟨S2x512x2048, .f32⟩
  | 19 => ⟨S2x512x2048, .f32⟩
  | 20 => ⟨S2x256x512, .f32⟩
  | 21 => ⟨S2x256x512, .f32⟩
  | 22 => ⟨S2x256x512, .f32⟩
  | 23 => ⟨S2x256x512, .f32⟩
  | 24 => ⟨S2x2048x1352, .f32⟩
  | 25 => ⟨S2x2048x1352, .f32⟩
  | 26 => ⟨S2x2048x1352, .f32⟩
  | 27 => ⟨S2x2048x1352, .f32⟩
  | 28 => ⟨S_, .f32⟩
  | 29 => ⟨S2x512x2048, .f32⟩
  | 30 => ⟨S2x512x2048, .f32⟩
  | 31 => ⟨S_, .f32⟩
  | 32 => ⟨S2x512x2048, .f32⟩
  | 33 => ⟨S2x512x2048, .f32⟩
  | 34 => ⟨S2x512x2048, .f32⟩
  | 35 => ⟨S_, .f32⟩
  | 36 => ⟨S2x512x2048, .f32⟩
  | 37 => ⟨S2x512x2048, .f32⟩
  | 38 => ⟨S2x512x2048, .f32⟩
  | 39 => ⟨S_, .f32⟩
  | 40 => ⟨S2x512x2048, .f32⟩
  | 41 => ⟨S2x512x2048, .f32⟩
  | 42 => ⟨S2x512x2048, .f32⟩
  | 43 => ⟨S_, .f32⟩
  | 44 => ⟨S2x512x2048, .f32⟩
  | 45 => ⟨S2x512x2048, .f32⟩
  | 46 => ⟨S_, .f32⟩
  | 47 => ⟨S2x512x2048, .f32⟩
  | 48 => ⟨S2x512x2048, .f32⟩
  | 49 => ⟨S2x512x2048, .f32⟩
  | 50 => ⟨S_, .f32⟩
  | 51 => ⟨S2x512x2048, .f32⟩
  | 52 => ⟨S2x512x2048, .f32⟩
  | 53 => ⟨S2x512x2048, .f32⟩
  | 54 => ⟨S_, .f32⟩
  | 55 => ⟨S2x512x2048, .f32⟩
  | 56 => ⟨S2x512x2048, .f32⟩
  | 57 => ⟨S2x512x2048, .f32⟩
  | 58 => ⟨S_, .f32⟩
  | 59 => ⟨S2x512x2048, .f32⟩
  | 60 => ⟨S2x512x2048, .f32⟩
  | 61 => ⟨S_, .f32⟩
  | 62 => ⟨S2x2048x1536, .f32⟩
  | 63 => ⟨S2x2048x1536, .f32⟩
  | 64 => ⟨S_, .f32⟩
  | 65 => ⟨S2x2048x1536, .f32⟩
  | 66 => ⟨S2x2048x1536, .f32⟩
  | 67 => ⟨S2x2048x1536, .f32⟩
  | 68 => ⟨S_, .f32⟩
  | 69 => ⟨S2x2048x1536, .f32⟩
  | 70 => ⟨S2x2048x1536, .f32⟩
  | 71 => ⟨S2x2048x1536, .f32⟩
  | 72 => ⟨S_, .f32⟩
  | 73 => ⟨S2x2048x1536, .f32⟩
  | 74 => ⟨S2x2048x1536, .f32⟩
  | 75 => ⟨S2x2048x1536, .f32⟩
  | 76 => ⟨S_, .f32⟩
  | 77 => ⟨S2x2048x1536, .f32⟩
  | 78 => ⟨S2x2048x1536, .f32⟩
  | 79 => ⟨S_, .f32⟩
  | 80 => ⟨S2x2048x1536, .f32⟩
  | 81 => ⟨S2x2048x1536, .f32⟩
  | 82 => ⟨S2x2048x1536, .f32⟩
  | 83 => ⟨S_, .f32⟩
  | 84 => ⟨S2x2048x1536, .f32⟩
  | 85 => ⟨S2x2048x1536, .f32⟩
  | 86 => ⟨S2x2048x1536, .f32⟩
  | 87 => ⟨S_, .f32⟩
  | 88 => ⟨S2x2048x1536, .f32⟩
  | 89 => ⟨S2x2048x1536, .f32⟩
  | 90 => ⟨S2x2048x1536, .f32⟩
  | 91 => ⟨S_, .f32⟩
  | 92 => ⟨S2x2048x1536, .f32⟩
  | 93 => ⟨S2x2048x1536, .f32⟩
  | 94 => ⟨S_, .f32⟩
  | 95 => ⟨S2x2048x1536, .f32⟩
  | 96 => ⟨S2x2048x1536, .f32⟩
  | 97 => ⟨S_, .f32⟩
  | 98 => ⟨S2x2048x1536, .f32⟩
  | 99 => ⟨S2x2048x1536, .f32⟩
  | 100 => ⟨S2x2048x1536, .f32⟩
  | 101 => ⟨S_, .f32⟩
  | 102 => ⟨S2x2048x1536, .f32⟩
  | 103 => ⟨S2x2048x1536, .f32⟩
  | 104 => ⟨S2x2048x1536, .f32⟩
  | 105 => ⟨S_, .f32⟩
  | 106 => ⟨S2x2048x1536, .f32⟩
  | 107 => ⟨S2x2048x1536, .f32⟩
  | 108 => ⟨S2x2048x1536, .f32⟩
  | 109 => ⟨S_, .f32⟩
  | 110 => ⟨S2x2048x1536, .f32⟩
  | 111 => ⟨S2x2048x1536, .f32⟩
  | 112 => ⟨S_, .f32⟩
  | 113 => ⟨S2x2048x1536, .f32⟩
  | 114 => ⟨S2x2048x1536, .f32⟩
  | 115 => ⟨S2x2048x1536, .f32⟩
  | 116 => ⟨S_, .f32⟩
  | 117 => ⟨S2x2048x1536, .f32⟩
  | 118 => ⟨S2x2048x1536, .f32⟩
  | 119 => ⟨S2x2048x1536, .f32⟩
  | 120 => ⟨S_, .f32⟩
  | 121 => ⟨S2x2048x1536, .f32⟩
  | 122 => ⟨S2x2048x1536, .f32⟩
  | 123 => ⟨S2x2048x1536, .f32⟩
  | 124 => ⟨S_, .f32⟩
  | 125 => ⟨S2x2048x1536, .f32⟩
  | 126 => ⟨S2x2048x1536, .f32⟩
  | 127 => ⟨S_, .f32⟩
  | _ => ⟨S2x512x2048, .f32⟩

abbrev hbmTy0_1 (i : Nat) : BufTy := match i % 128 with
  | 0 => ⟨S2x1536x2048, .f32⟩
  | 1 => ⟨S2x1536x2048, .f32⟩
  | 2 => ⟨S_, .f32⟩
  | 3 => ⟨S2x1536x2048, .f32⟩
  | 4 => ⟨S2x1536x2048, .f32⟩
  | 5 => ⟨S2x1536x2048, .f32⟩
  | 6 => ⟨S_, .f32⟩
  | 7 => ⟨S2x1536x2048, .f32⟩
  | 8 => ⟨S2x1536x2048, .f32⟩
  | 9 => ⟨S2x1536x2048, .f32⟩
  | 10 => ⟨S_, .f32⟩
  | 11 => ⟨S2x1536x2048, .f32⟩
  | 12 => ⟨S2x1536x2048, .f32⟩
  | 13 => ⟨S2x1536x2048, .f32⟩
  | 14 => ⟨S_, .f32⟩
  | 15 => ⟨S2x1536x2048, .f32⟩
  | 16 => ⟨S2x1536x2048, .f32⟩
  | 17 => ⟨S_, .f32⟩
  | 18 => ⟨S2x1536x2048, .f32⟩
  | 19 => ⟨S2x1536x2048, .f32⟩
  | 20 => ⟨S2x1536x2048, .f32⟩
  | 21 => ⟨S_, .f32⟩
  | 22 => ⟨S2x1536x2048, .f32⟩
  | 23 => ⟨S2x1536x2048, .f32⟩
  | 24 => ⟨S2x1536x2048, .f32⟩
  | 25 => ⟨S_, .f32⟩
  | 26 => ⟨S2x1536x2048, .f32⟩
  | 27 => ⟨S2x1536x2048, .f32⟩
  | 28 => ⟨S2x1536x2048, .f32⟩
  | 29 => ⟨S_, .f32⟩
  | 30 => ⟨S2x1536x2048, .f32⟩
  | 31 => ⟨S2x1536x2048, .f32⟩
  | 32 => ⟨S_, .f32⟩
  | 33 => ⟨S2x512x2048, .f32⟩
  | 34 => ⟨S2x512x2048, .f32⟩
  | 35 => ⟨S_, .f32⟩
  | 36 => ⟨S2x512x2048, .f32⟩
  | 37 => ⟨S2x512x2048, .f32⟩
  | 38 => ⟨S2x512x2048, .f32⟩
  | 39 => ⟨S_, .f32⟩
  | 40 => ⟨S2x512x2048, .f32⟩
  | 41 => ⟨S2x512x2048, .f32⟩
  | 42 => ⟨S2x512x2048, .f32⟩
  | 43 => ⟨S_, .f32⟩
  | 44 => ⟨S2x512x2048, .f32⟩
  | 45 => ⟨S2x512x2048, .f32⟩
  | 46 => ⟨S2x512x2048, .f32⟩
  | 47 => ⟨S_, .f32⟩
  | 48 => ⟨S2x512x2048, .f32⟩
  | 49 => ⟨S2x512x2048, .f32⟩
  | 50 => ⟨S_, .f32⟩
  | 51 => ⟨S2x512x2048, .f32⟩
  | 52 => ⟨S2x512x2048, .f32⟩
  | 53 => ⟨S2x512x2048, .f32⟩
  | 54 => ⟨S_, .f32⟩
  | 55 => ⟨S2x512x2048, .f32⟩
  | 56 => ⟨S2x512x2048, .f32⟩
  | 57 => ⟨S2x512x2048, .f32⟩
  | 58 => ⟨S_, .f32⟩
  | 59 => ⟨S2x512x2048, .f32⟩
  | 60 => ⟨S2x512x2048, .f32⟩
  | 61 => ⟨S2x512x2048, .f32⟩
  | 62 => ⟨S_, .f32⟩
  | 63 => ⟨S2x512x2048, .f32⟩
  | 64 => ⟨S2x512x2048, .f32⟩
  | 65 => ⟨S_, .f32⟩
  | 66 => ⟨S2x256x512, .f32⟩
  | 67 => ⟨S2x256x512, .f32⟩
  | 68 => ⟨S_, .f32⟩
  | 69 => ⟨S2x256x512, .f32⟩
  | 70 => ⟨S2x256x512, .f32⟩
  | 71 => ⟨S2x256x512, .f32⟩
  | 72 => ⟨S_, .f32⟩
  | 73 => ⟨S2x256x512, .f32⟩
  | 74 => ⟨S2x256x512, .f32⟩
  | 75 => ⟨S2x256x512, .f32⟩
  | 76 => ⟨S_, .f32⟩
  | 77 => ⟨S2x256x512, .f32⟩
  | 78 => ⟨S2x256x512, .f32⟩
  | 79 => ⟨S2x256x512, .f32⟩
  | 80 => ⟨S_, .f32⟩
  | 81 => ⟨S2x256x512, .f32⟩
  | 82 => ⟨S2x256x512, .f32⟩
  | 83 => ⟨S_, .f32⟩
  | 84 => ⟨S2x256x512, .f32⟩
  | 85 => ⟨S2x256x512, .f32⟩
  | 86 => ⟨S2x256x512, .f32⟩
  | 87 => ⟨S_, .f32⟩
  | 88 => ⟨S2x256x512, .f32⟩
  | 89 => ⟨S2x256x512, .f32⟩
  | 90 => ⟨S2x256x512, .f32⟩
  | 91 => ⟨S_, .f32⟩
  | 92 => ⟨S2x256x512, .f32⟩
  | 93 => ⟨S2x256x512, .f32⟩
  | 94 => ⟨S2x256x512, .f32⟩
  | 95 => ⟨S_, .f32⟩
  | 96 => ⟨S2x256x512, .f32⟩
  | 97 => ⟨S2x256x512, .f32⟩
  | 98 => ⟨S_, .f32⟩
  | 99 => ⟨S2x2048x1352, .f32⟩
  | 100 => ⟨S2x2048x1352, .f32⟩
  | 101 => ⟨S_, .f32⟩
  | 102 => ⟨S2x2048x1352, .f32⟩
  | 103 => ⟨S2x2048x1352, .f32⟩
  | 104 => ⟨S2x2048x1352, .f32⟩
  | 105 => ⟨S_, .f32⟩
  | 106 => ⟨S2x2048x1352, .f32⟩
  | 107 => ⟨S2x2048x1352, .f32⟩
  | 108 => ⟨S2x2048x1352, .f32⟩
  | 109 => ⟨S_, .f32⟩
  | 110 => ⟨S2x2048x1352, .f32⟩
  | 111 => ⟨S2x2048x1352, .f32⟩
  | 112 => ⟨S2x2048x1352, .f32⟩
  | 113 => ⟨S_, .f32⟩
  | 114 => ⟨S2x2048x1352, .f32⟩
  | 115 => ⟨S2x2048x1352, .f32⟩
  | 116 => ⟨S_, .f32⟩
  | 117 => ⟨S2x2048x1352, .f32⟩
  | 118 => ⟨S2x2048x1352, .f32⟩
  | 119 => ⟨S2x2048x1352, .f32⟩
  | 120 => ⟨S_, .f32⟩
  | 121 => ⟨S2x2048x1352, .f32⟩
  | 122 => ⟨S2x2048x1352, .f32⟩
  | 123 => ⟨S2x2048x1352, .f32⟩
  | 124 => ⟨S_, .f32⟩
  | 125 => ⟨S2x2048x1352, .f32⟩
  | 126 => ⟨S2x2048x1352, .f32⟩
  | 127 => ⟨S2x2048x1352, .f32⟩
  | _ => ⟨S2x512x2048, .f32⟩

abbrev hbmTy0_2 (i : Nat) : BufTy := match i % 128 with
  | 0 => ⟨S_, .f32⟩
  | 1 => ⟨S2x2048x1352, .f32⟩
  | 2 => ⟨S2x2048x1352, .f32⟩
  | _ => ⟨S2x512x2048, .f32⟩

abbrev hbmTy (i : Nat) : BufTy := match i / 128 with
  | 0 => hbmTy0_0 i
  | 1 => hbmTy0_1 i
  | 2 => hbmTy0_2 i
  | _ => ⟨S2x512x2048, .f32⟩

abbrev bufTy : (tb : Table) → Fin (tcTables nBuf tb) → BufTy
  | .hbm, ⟨i, _⟩ => hbmTy i
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩

abbrev nD : Nat := 1
abbrev τ : Topo := Topo.v7x

variable {F : FTy → Type} [FloatOps F]
-- ==== Proof.Spec.lean ====
/- The gradient of the linear recurrent unit, in formulas: what both the kernel and the reference leave in their results,
   over arrays read by coordinates. Column `j` of 1024 is lane `ln j` of head `hd j`; `cl h i` is that column back. -/
module

public import Idealize.ShloMosaic.PureOps.Ideal

@[expose] public section

noncomputable section

namespace Cert.Lru

open Idealize.ShloMosaic
open scoped BigOperators

/-- The call's arguments by coordinates. -/
structure Args where
  x : Fin 2048 → Fin 1024 → EReal
  wx : Fin 4 → Fin 256 → Fin 256 → EReal
  wa : Fin 4 → Fin 256 → Fin 256 → EReal
  bx : Fin 1024 → EReal
  ba : Fin 1024 → EReal
  lam : Fin 1024 → EReal
  dh : Fin 2048 → Fin 1024 → EReal

/-- A column's head, its lane in the head, and the column of a head's lane. -/
def hd (j : Fin 1024) : Fin 4 := ⟨j.val / 256, by omega⟩
def ln (j : Fin 1024) : Fin 256 := ⟨j.val % 256, by omega⟩
def cl (h : Fin 4) (i : Fin 256) : Fin 1024 := ⟨h.val * 256 + i.val, by omega⟩

@[simp] theorem hd_cl (h : Fin 4) (i : Fin 256) : hd (cl h i) = h := Fin.ext (by show (h.val * 256 + i.val) / 256 = _; omega)
@[simp] theorem ln_cl (h : Fin 4) (i : Fin 256) : ln (cl h i) = i := Fin.ext (by show (h.val * 256 + i.val) % 256 = _; omega)
@[simp] theorem cl_hd_ln (j : Fin 1024) : cl (hd j) (ln j) = j := Fin.ext (by show j.val / 256 * 256 + j.val % 256 = _; omega)

/-- The constants the formulas name beside 0 and 1. -/
abbrev two : EReal := Ideal.ofBits .f32 0x40000000#32
abbrev half : EReal := Ideal.ofBits .f32 0x3F000000#32
abbrev m8 : EReal := Ideal.ofBits .f32 0xC1000000#32
abbrev inf : EReal := Ideal.ofBits .f32 0x7F800000#32

/-- `softplus d`, and its derivative's factor, as jax writes them. -/
def sp (d : EReal) : EReal := if d ≠ d then d else max d 0 + Ideal.log1p (Ideal.exp (-max d (-d)))
def dsp (d : EReal) : EReal := Ideal.exp ((if d = inf then 0 else d) - (if sp d = inf then 0 else sp d))

variable (A : Args)

/-- One head's row times its weights, plus the bias. -/
def pre (w : Fin 4 → Fin 256 → Fin 256 → EReal) (b : Fin 1024 → EReal) (t : Fin 2048) (j : Fin 1024) : EReal :=
  (∑ i : Fin 256, A.x t (cl (hd j) i) * w (hd j) i (ln j)) + b j
def gx (t : Fin 2048) (j : Fin 1024) : EReal := Ideal.logistic (pre A A.wx A.bx t j)
def ga (t : Fin 2048) (j : Fin 1024) : EReal := Ideal.logistic (pre A A.wa A.ba t j)
def ga8 (t : Fin 2048) (j : Fin 1024) : EReal := m8 * ga A t j
def la (t : Fin 2048) (j : Fin 1024) : EReal := ga8 A t j * sp (-A.lam j)
/-- The decay, `exp` of twice its logarithm, the input's scale, and the scaled input. -/
def a (t : Fin 2048) (j : Fin 1024) : EReal := Ideal.exp (la A t j)
def e2 (t : Fin 2048) (j : Fin 1024) : EReal := Ideal.exp (two * la A t j)
def rt (t : Fin 2048) (j : Fin 1024) : EReal := Ideal.sqrt (1 - e2 A t j)
def mult (t : Fin 2048) (j : Fin 1024) : EReal := if t.val = 0 then 1 else rt A t j
def xg (t : Fin 2048) (j : Fin 1024) : EReal := A.x t j * gx A t j
def bin (t : Fin 2048) (j : Fin 1024) : EReal := xg A t j * mult A t j

/-- A row by its number, past the end 0. -/
def row (f : Fin 2048 → Fin 1024 → EReal) (n : ℕ) (j : Fin 1024) : EReal := if h : n < 2048 then f ⟨n, h⟩ j else 0

/-- The state before row `n`, from decays `a` and inputs `b`. -/
def hs (a b : Fin 2048 → Fin 1024 → EReal) : ℕ → Fin 1024 → EReal
  | 0, _ => 0
  | n + 1, j => row a n j * hs a b n j + row b n j
/-- What reaches row `2047 - n` from the rows after it, `d` the state's cotangent. -/
def gs (a d : Fin 2048 → Fin 1024 → EReal) : ℕ → Fin 1024 → EReal
  | 0, _ => 0
  | n + 1, j => row a (2047 - n) j * (row d (2047 - n) j + gs a d n j)

/-- The cotangents of the scaled input and of the decay. -/
def db (t : Fin 2048) (j : Fin 1024) : EReal := A.dh t j + gs (a A) A.dh (2047 - t.val) j
def da (t : Fin 2048) (j : Fin 1024) : EReal := db A t j * hs (a A) (bin A) t.val j

variable (da db : Fin 2048 → Fin 1024 → EReal)
/-- The cotangents down to the two gates, from those of the decay and the scaled input. -/
def q (t : Fin 2048) (j : Fin 1024) : EReal := (if t.val = 0 then 0 else xg A t j * db t j) * Ideal.div half (rt A t j)
def dl (t : Fin 2048) (j : Fin 1024) : EReal := two * ((-q A db t j) * e2 A t j) + da t j * a A t j
def dm (t : Fin 2048) (j : Fin 1024) : EReal := db t j * mult A t j
def pa (t : Fin 2048) (j : Fin 1024) : EReal := (m8 * (dl A da db t j * sp (-A.lam j))) * (ga A t j * (1 - ga A t j))
def px (t : Fin 2048) (j : Fin 1024) : EReal := (A.x t j * dm A db t j) * (gx A t j * (1 - gx A t j))

/-- The six gradients. -/
def gdx (t : Fin 2048) (j : Fin 1024) : EReal := dm A db t j * gx A t j
  + ((∑ k : Fin 256, pa A da db t (cl (hd j) k) * A.wa (hd j) (ln j) k) + ∑ k : Fin 256, px A db t (cl (hd j) k) * A.wx (hd j) (ln j) k)
def gwx (h : Fin 4) (i k : Fin 256) : EReal := ∑ t : Fin 2048, A.x t (cl h i) * px A db t (cl h k)
def gwa (h : Fin 4) (i k : Fin 256) : EReal := ∑ t : Fin 2048, A.x t (cl h i) * pa A da db t (cl h k)
def gbx (j : Fin 1024) : EReal := ∑ t : Fin 2048, px A db t j
def gba (j : Fin 1024) : EReal := ∑ t : Fin 2048, pa A da db t j
def glam (j : Fin 1024) : EReal := -((∑ t : Fin 2048, ga8 A t j * dl A da db t j) * dsp (-A.lam j))

end Cert.Lru
-- ==== Proof.KGates.lean ====
/- The first kernel, the gates forward, at any contents: the decays and the scaled inputs it leaves, in the formulas of Spec. -/
module
public import proofs.«01_k».proof.Proof.Spec
public import proofs.«01_k».proof.Proof.Gen.KernelIdeal.Frame
public import Idealize.ShloMosaic.Lib.ValueIdx
public import Idealize.ShloMosaic.Lib.Pointwise
public import Idealize.ShloMosaic.Lib.WordCmp
public import Idealize.ShloMosaic.Lib.Pipeline.ValueKit
@[expose] public section
set_option maxRecDepth 16384
noncomputable section
namespace Cert.KValue
open Cert.KernelIdeal Cert.KernelIdeal.Gen
open Idealize.ShloMosaic Idealize.ShloMosaic.TcCoe Idealize.ShloMosaic.Tactic
open Cert.Lru (Args hd ln cl)

/-- Row `r` of the `n`-th block of 256 rows. -/
def rw8 (n : Fin 8) (r : Fin 256) : Fin 2048 := ⟨256 * n.val + r.val, by omega⟩

/-- The six windows both gate kernels read: a block of rows, and the parameters whole. -/
structure Blk (A : Args) (n : Fin 8) (x0 : S256x1024.Idx → EReal) (x1 x2 : S4x256x256.Idx → EReal) (x3 x4 x5 : S1x1024.Idx → EReal) : Prop where
  x : ∀ r j, x0 (ix2 r j) = A.x (rw8 n r) j
  wx : ∀ h i k, x1 (ix3 h i k) = A.wx h i k
  wa : ∀ h i k, x2 (ix3 h i k) = A.wa h i k
  bx : ∀ j, x3 (ix2 0 j) = A.bx j
  ba : ∀ j, x4 (ix2 0 j) = A.ba j
  lam : ∀ j, x5 (ix2 0 j) = A.lam j

/-- Four heads' columns side by side, read at a column. -/
theorem heads {α : Type} (q0 q1 q2 q3 : Fin 256 → α) (p : Fin 4 → Fin 256 → α) (h0 : ∀ l, q0 l = p 0 l) (h1 : ∀ l, q1 l = p 1 l)
    (h2 : ∀ l, q2 l = p 2 l) (h3 : ∀ l, q3 l = p 3 l) (j : Fin 1024) :
    (if h : j.val < 256 then q0 ⟨j.val, h⟩ else if h : j.val - 256 < 256 then q1 ⟨j.val - 256, h⟩
      else if h : j.val - 256 - 256 < 256 then q2 ⟨j.val - 256 - 256, h⟩ else q3 ⟨j.val - 256 - 256 - 256, by omega⟩) = p (hd j) (ln j) := by
  split
  · rw [h0]
    exact congr (congrArg p (Fin.ext (by show 0 = j.val / 256; omega))) (Fin.ext (by show j.val = j.val % 256; omega))
  · split
    · rw [h1]
      exact congr (congrArg p (Fin.ext (by show 1 = j.val / 256; omega))) (Fin.ext (by show j.val - 256 = j.val % 256; omega))
    · split
      · rw [h2]
        exact congr (congrArg p (Fin.ext (by show 2 = j.val / 256; omega))) (Fin.ext (by show j.val - 256 - 256 = j.val % 256; omega))
      · rw [h3]
        exact congr (congrArg p (Fin.ext (by show 3 = j.val / 256; omega))) (Fin.ext (by show j.val - 256 - 256 - 256 = j.val % 256; omega))

theorem pre_heads (A : Args) (n : Fin 8) (x0 : S256x1024.Idx → EReal) (x2 : S4x256x256.Idx → EReal) (w : Fin 4 → Fin 256 → Fin 256 → EReal)
    (hx : ∀ r j, x0 (ix2 r j) = A.x (rw8 n r) j) (hw : ∀ h i k, x2 (ix3 h i k) = w h i k) (r : Fin 256) (j : Fin 1024) :
   (if h : j.val < 256 then ∑ x : Fin 256, x0 (ix2 r ⟨x.val, by omega⟩) * x2 (ix3 0 x ⟨j.val, h⟩) else
     if h : j.val - 256 < 256 then ∑ x : Fin 256, x0 (ix2 r ⟨256 + x.val, by omega⟩) * x2 (ix3 1 x ⟨j.val - 256, h⟩) else
     if h : j.val - 256 - 256 < 256 then ∑ x : Fin 256, x0 (ix2 r ⟨512 + x.val, by omega⟩) * x2 (ix3 2 x ⟨j.val - 256 - 256, h⟩) else
      ∑ x : Fin 256, x0 (ix2 r ⟨768 + x.val, by omega⟩) * x2 (ix3 3 x ⟨j.val - 256 - 256 - 256, by omega⟩))
    = ∑ i : Fin 256, A.x (rw8 n r) (cl (hd j) i) * w (hd j) i (ln j) := by
  refine (heads (fun l => ∑ x : Fin 256, x0 (ix2 r ⟨x.val, by omega⟩) * x2 (ix3 0 x l)) (fun l => ∑ x : Fin 256, x0 (ix2 r ⟨256 + x.val, by omega⟩) * x2 (ix3 1 x l))
    (fun l => ∑ x : Fin 256, x0 (ix2 r ⟨512 + x.val, by omega⟩) * x2 (ix3 2 x l)) (fun l => ∑ x : Fin 256, x0 (ix2 r ⟨768 + x.val, by omega⟩) * x2 (ix3 3 x l))
    (fun h l => ∑ i : Fin 256, A.x (rw8 n r) (cl h i) * w h i l) ?_ ?_ ?_ ?_ j)
  all_goals
    intro l
    refine Finset.sum_congr rfl fun i _ => ?_
    rw [hx, hw]
    exact congrArg (fun z => A.x (rw8 n r) z * _) (Fin.ext (by simp [cl]))

/-- `softplus` as the kernel writes it. -/
theorem sp_eq (l : EReal) : (if 0 - l ≠ 0 - l then 0 - l else max (0 - l) 0 + Ideal.log1p (Ideal.exp (0 - FloatOps.absf (F := Ideal) (φ := .f32) (0 - l)))) = Lru.sp (-l) := by
  simp only [zero_sub]
  rfl

section
variable {A : Args} {n : Fin 8} {x0 : S256x1024.Idx → EReal} {x1 x2 : S4x256x256.Idx → EReal} {x3 x4 x5 : S1x1024.Idx → EReal} (H : Blk A n x0 x1 x2 x3 x4 x5)
  (r : Fin 256) (j : Fin 1024)
include H

theorem pay0_la : (k0_pay10 (F := Ideal) x4 x5 (k0_pay2 x0 x2) (k0_pay4 x0 x2) (k0_pay6 x0 x2) (k0_pay8 x0 x2)) (ix2 r j) = Lru.la A (rw8 n r) j := by
  unfold_payloads
  pointwise
  rw [pre_heads A n x0 x2 A.wa H.x H.wa, sp_eq, H.ba, H.lam]
  rfl

theorem pay0_a : (k0_pay11 (F := Ideal) x4 x5 (k0_pay2 x0 x2) (k0_pay4 x0 x2) (k0_pay6 x0 x2) (k0_pay8 x0 x2)) (ix2 r j) = Lru.a A (rw8 n r) j := by
  unfold k0_pay11
  pointwise
  rw [pay0_la H]
  rfl

theorem rw8_mask (t : BitVec 32) (ht : t = BitVec.ofNat 32 n.val) {α : Type} (u v : α) :
    Scalar.select (IntOp.cmpi .eq (t * 256#32 + BitVec.ofNat 32 r.val) 0#32) u v = if (rw8 n r).val = 0 then u else v := by
  subst ht
  have h : IntOp.cmpi .eq (BitVec.ofNat 32 n.val * 256#32 + BitVec.ofNat 32 r.val) 0#32 = if (rw8 n r).val = 0 then 1#1 else 0#1 := by
    have hn := n.isLt
    have hr := r.isLt
    have e : BitVec.ofNat 32 n.val * 256#32 + BitVec.ofNat 32 r.val = BitVec.ofNat 32 (256 * n.val + r.val) := by
      apply BitVec.eq_of_toNat_eq
      simp only [BitVec.toNat_add, BitVec.toNat_mul, BitVec.toNat_ofNat]
      omega
    rw [e]
    unfold IntOp.cmpi rw8
    by_cases h : 256 * n.val + r.val = 0
    · simp [h]
    · rw [if_neg h, beq_eq_false_iff_ne.mpr fun e => h (by
        have := congrArg BitVec.toNat e
        simp only [BitVec.toNat_ofNat] at this
        omega)]
      rfl
  rw [h]
  by_cases h : (rw8 n r).val = 0
  · rw [if_pos h, if_pos h]; rfl
  · rw [if_neg h, if_neg h]; rfl

theorem pay0_b (i : BitVec 32) (hi : i = BitVec.ofNat 32 n.val) : (k0_pay12 (F := Ideal) x0 x3 x4 x5 (Scalar.muli i 256#32) (k0_pay2 x0 x2) (k0_pay4 x0 x2) (k0_pay6 x0 x2) (k0_pay8 x0 x2) (k0_pay9 x0 x1)) (ix2 r j)
    = Lru.bin A (rw8 n r) j := by
  unfold k0_pay12 k0_pay9 k0_pay1 k0_pay3 k0_pay5 k0_pay7
  pointwise
  rw [pre_heads A n x0 x1 A.wx H.x H.wx, pay0_la H, H.x, H.bx]
  exact congrArg (_ * ·) (rw8_mask H r i hi _ _)
end

variable (V : (c : Dev nD) → (b : Ref sig .tc) → Buf (Elt Ideal) ((c : Thread nD τ).loc b)) (c : Dev nD)

/-- The call's arguments by coordinates, in a device's contents. -/
def argsK (v : (b : Ref sig .tc) → Buf (Elt Ideal) ((c : Thread nD τ).loc b)) : Args where
  x t j := v main_arg0 (ix2 t j)
  wx h i k := v main_arg1 (ix3 h i k)
  wa h i k := v main_arg2 (ix3 h i k)
  bx j := v main_arg3 (ix2 0 j)
  ba j := v main_arg4 (ix2 0 j)
  lam j := v main_arg5 (ix2 0 j)
  dh t j := v main_arg6 (ix2 t j)

theorem idx0 : ∀ t : Fin cfg0.N, win0_0.index t = ![t.val, 0] ∧ win0_1.index t = ![0, 0, 0] ∧ win0_2.index t = ![0, 0, 0] ∧ win0_3.index t = ![0, 0]
    ∧ win0_4.index t = ![0, 0] ∧ win0_5.index t = ![0, 0] ∧ win0_6.index t = ![t.val, 0] ∧ win0_7.index t = ![t.val, 0] ∧ (grid0.coords t 0).val = t.val :=
  (by decide +kernel : ∀ t : Fin grid0.N, _)

theorem blk0 (t : Fin cfg0.N) : Blk (argsK c (V c)) ⟨t.val, t.isLt⟩ (iblk0 V c 0 t) (iblk0 V c 1 t) (iblk0 V c 2 t) (iblk0 V c 3 t) (iblk0 V c 4 t) (iblk0 V c 5 t) := by
  constructor
  · intro r j
    unfold argsK rw8
    blk_ext! [iblk0, idx0 t]
  all_goals
    intros
    unfold argsK
    blk_ext! [iblk0, idx0 t]

theorem ix2_eta {a b : ℕ} (y : (⟨2, ![a, b]⟩ : Shape).Idx) : y = ix2 (y 0) (y 1) := by
  funext k
  match k with
  | 0 => rfl
  | 1 => rfl

theorem reg0_a : (dat0 V c).arrAt 6 cfg0.N = fun i => Lru.a (argsK c (V c)) (i 0) (i 1) := by
  refine (dat0 V c).arrAt_eq_of_covers 6 _ (by decide +kernel) fun t hf y => ?_
  blk_simp
  rw [after0_6]
  frame_out
  unfold k0_pay13 k0_pay14 k0_pay15 k0_pay16
  frame_out
  refine (congrArg _ (ix2_eta y)).trans ((pay0_a (blk0 V c t) (y 0) (y 1)).trans ?_)
  refine congr (congrArg (Lru.a _) (Fin.ext ?_)) (Fin.ext ?_)
  · unfold rw8
    blk_simp [idx0 t]
    exact congrArg (· + (y 0).val) (Nat.mul_comm _ _)
  · blk_simp [idx0 t]

theorem reg0_b : (dat0 V c).arrAt 7 cfg0.N = fun i => Lru.bin (argsK c (V c)) (i 0) (i 1) := by
  refine (dat0 V c).arrAt_eq_of_covers 7 _ (by decide +kernel) fun t hf y => ?_
  blk_simp
  rw [after0_7]
  frame_out
  unfold k0_pay13 k0_pay14 k0_pay15 k0_pay16
  frame_out
  refine (congrArg _ (ix2_eta y)).trans ((pay0_b (blk0 V c t) (y 0) (y 1) _ (congrArg (BitVec.ofNat 32) (idx0 t).2.2.2.2.2.2.2.2)).trans ?_)
  refine congr (congrArg (Lru.bin _) (Fin.ext ?_)) (Fin.ext ?_)
  · unfold rw8
    blk_simp [idx0 t]
    exact congrArg (· + (y 0).val) (Nat.mul_comm _ _)
  · blk_simp [idx0 t]

end Cert.KValue
-- ==== Proof.KGrad.lean ====
/- The fourth kernel, the gates backward, one block of 256 rows at a time: each quantity it computes, in the formulas of Spec. -/
module
public import proofs.«01_k».proof.Proof.KGates
@[expose] public section
set_option maxRecDepth 16384
noncomputable section
namespace Cert.KValue
open Cert.KernelIdeal Cert.KernelIdeal.Gen
open Idealize.ShloMosaic Idealize.ShloMosaic.TcCoe Idealize.ShloMosaic.Tactic
open Cert.Lru (Args hd ln cl)

section
variable {A : Args} {n : Fin 8} {x0 : S256x1024.Idx → EReal} {x1 x2 : S4x256x256.Idx → EReal} {x3 x4 x5 : S1x1024.Idx → EReal} (H : Blk A n x0 x1 x2 x3 x4 x5)
  (r : Fin 256) (j : Fin 1024)
include H

/-- The input gate, and its derivative's factor. -/
theorem pay3_gx : (k3_pay21 (F := Ideal) x3 (k3_pay20 x0 x1)) (ix2 r j) = Lru.gx A (rw8 n r) j := by
  unfold_payloads
  pointwise
  rw [pre_heads A n x0 x1 A.wx H.x H.wx, H.bx]
  rfl
theorem pay3_gx1 : (k3_pay22 (F := Ideal) x3 (k3_pay20 x0 x1)) (ix2 r j) = Lru.gx A (rw8 n r) j * (1 - Lru.gx A (rw8 n r) j) := by
  unfold k3_pay22
  pointwise
  rw [pay3_gx H]
/-- The decay's gate, its derivative's factor, and its multiple by -8. -/
theorem pay3_ga : (k3_pay23 (F := Ideal) x4 (k3_pay7 x0 x2) (k3_pay11 x0 x2) (k3_pay15 x0 x2) (k3_pay19 x0 x2)) (ix2 r j) = Lru.ga A (rw8 n r) j := by
  unfold_payloads
  pointwise
  rw [pre_heads A n x0 x2 A.wa H.x H.wa, H.ba]
  rfl
theorem pay3_ga1 : (k3_pay24 (F := Ideal) x4 (k3_pay7 x0 x2) (k3_pay11 x0 x2) (k3_pay15 x0 x2) (k3_pay19 x0 x2)) (ix2 r j)
    = Lru.ga A (rw8 n r) j * (1 - Lru.ga A (rw8 n r) j) := by
  unfold k3_pay24
  pointwise
  rw [pay3_ga H]
theorem pay3_ga8 : (k3_pay25 (F := Ideal) x4 (k3_pay7 x0 x2) (k3_pay11 x0 x2) (k3_pay15 x0 x2) (k3_pay19 x0 x2)) (ix2 r j) = Lru.ga8 A (rw8 n r) j := by
  unfold k3_pay25
  pointwise
  rw [pay3_ga H]
  rfl
/-- The softplus of the parameter, and its derivative. -/
theorem pay3_sp : (k3_pay27 (F := Ideal) x5) (ix2 0 j) = Lru.sp (-A.lam j) := by
  unfold_payloads
  pointwise
  rw [sp_eq, H.lam]
theorem pay3_dsp : (k3_pay28 (F := Ideal) x5) (ix2 0 j) = Lru.dsp (-A.lam j) := by
  unfold k3_pay28
  pointwise
  rw [pay3_sp H]
  unfold k3_pay26
  pointwise
  rw [H.lam, zero_sub]
  rfl
theorem pay3_la : (k3_pay29 (F := Ideal) x4 x5 (k3_pay7 x0 x2) (k3_pay11 x0 x2) (k3_pay15 x0 x2) (k3_pay19 x0 x2)) (ix2 r j) = Lru.la A (rw8 n r) j := by
  unfold k3_pay29
  pointwise
  rw [pay3_ga8 H, pay3_sp H]
  rfl
theorem pay3_a : (k3_pay30 (F := Ideal) x4 x5 (k3_pay7 x0 x2) (k3_pay11 x0 x2) (k3_pay15 x0 x2) (k3_pay19 x0 x2)) (ix2 r j) = Lru.a A (rw8 n r) j := by
  unfold k3_pay30
  pointwise
  rw [pay3_la H]
  rfl
theorem pay3_e2 : (k3_pay31 (F := Ideal) x4 x5 (k3_pay7 x0 x2) (k3_pay11 x0 x2) (k3_pay15 x0 x2) (k3_pay19 x0 x2)) (ix2 r j) = Lru.e2 A (rw8 n r) j := by
  unfold k3_pay31
  pointwise
  rw [pay3_la H]
  rfl
theorem pay3_rt : (k3_pay33 (F := Ideal) (k3_pay31 (F := Ideal) x4 x5 (k3_pay7 x0 x2) (k3_pay11 x0 x2) (k3_pay15 x0 x2) (k3_pay19 x0 x2)) k3_pay32) (ix2 r j)
    = Lru.rt A (rw8 n r) j := by
  unfold k3_pay33 k3_pay32
  pointwise
  rw [pay3_e2 H]
  rfl

variable {x6 x7 : S256x1024.Idx → EReal} (da db : Fin 2048 → Fin 1024 → EReal) (h6 : ∀ r j, x6 (ix2 r j) = da (rw8 n r) j) (h7 : ∀ r j, x7 (ix2 r j) = db (rw8 n r) j)
  (i : BitVec 32) (hi : i = BitVec.ofNat 32 n.val)
include h7 hi

theorem pay3_dm : (k3_pay36 (F := Ideal) (Scalar.muli i 256#32) (k3_pay31 (F := Ideal) x4 x5 (k3_pay7 x0 x2) (k3_pay11 x0 x2) (k3_pay15 x0 x2) (k3_pay19 x0 x2)) k3_pay32 x7) (ix2 r j)
    = Lru.dm A db (rw8 n r) j := by
  unfold k3_pay36 k3_pay34 k3_pay35
  pointwise
  rw [pay3_rt H, h7]
  exact congrArg (_ * ·) (rw8_mask H r i hi _ _)
theorem pay3_dmg : (k3_pay37 (F := Ideal) (Scalar.muli i 256#32) (k3_pay21 x3 (k3_pay20 x0 x1)) (k3_pay31 (F := Ideal) x4 x5 (k3_pay7 x0 x2) (k3_pay11 x0 x2) (k3_pay15 x0 x2) (k3_pay19 x0 x2)) k3_pay32 x7) (ix2 r j)
    = Lru.dm A db (rw8 n r) j * Lru.gx A (rw8 n r) j := by
  unfold k3_pay37
  pointwise
  rw [pay3_dm H r j db h7 i hi, pay3_gx H]
/-- The cotangent before the input gate. -/
theorem pay3_px : (k3_pay42 (F := Ideal) x0 (Scalar.muli i 256#32) (k3_pay22 x3 (k3_pay20 x0 x1)) (k3_pay31 (F := Ideal) x4 x5 (k3_pay7 x0 x2) (k3_pay11 x0 x2) (k3_pay15 x0 x2) (k3_pay19 x0 x2)) k3_pay32 x7) (ix2 r j)
    = Lru.px A db (rw8 n r) j := by
  unfold k3_pay42
  pointwise
  rw [pay3_dm H r j db h7 i hi, pay3_gx1 H, H.x]
  rfl
include h6
/-- The cotangent of the decay's logarithm. -/
theorem pay3_dl : (k3_pay38 (F := Ideal) x0 (Scalar.muli i 256#32) (k3_pay21 x3 (k3_pay20 x0 x1)) (k3_pay30 x4 x5 (k3_pay7 x0 x2) (k3_pay11 x0 x2) (k3_pay15 x0 x2) (k3_pay19 x0 x2))
      (k3_pay31 (F := Ideal) x4 x5 (k3_pay7 x0 x2) (k3_pay11 x0 x2) (k3_pay15 x0 x2) (k3_pay19 x0 x2)) k3_pay32 x6 x7) (ix2 r j)
    = Lru.dl A da db (rw8 n r) j := by
  unfold k3_pay38 k3_pay34 k3_pay35
  pointwise
  rw [pay3_rt H, pay3_e2 H, pay3_a H, pay3_gx H, h7, h6, H.x, zero_sub]
  unfold Lru.dl Lru.q
  rw [ite_mul, zero_mul]
  exact congrArg (fun z => Lru.two * (-z * Lru.e2 A (rw8 n r) j) + da (rw8 n r) j * Lru.a A (rw8 n r) j)
    (rw8_mask H r i hi (0 : EReal) (Lru.xg A (rw8 n r) j * db (rw8 n r) j * Ideal.div Lru.half (Lru.rt A (rw8 n r) j)))
/-- The cotangent before the decay's gate. -/
theorem pay3_pa : (k3_pay40 (F := Ideal) x0 (Scalar.muli i 256#32) (k3_pay21 x3 (k3_pay20 x0 x1)) (k3_pay24 x4 (k3_pay7 x0 x2) (k3_pay11 x0 x2) (k3_pay15 x0 x2) (k3_pay19 x0 x2))
      (k3_pay27 x5) (k3_pay30 x4 x5 (k3_pay7 x0 x2) (k3_pay11 x0 x2) (k3_pay15 x0 x2) (k3_pay19 x0 x2))
      (k3_pay31 (F := Ideal) x4 x5 (k3_pay7 x0 x2) (k3_pay11 x0 x2) (k3_pay15 x0 x2) (k3_pay19 x0 x2)) k3_pay32 x6 x7) (ix2 r j)
    = Lru.pa A da db (rw8 n r) j := by
  unfold k3_pay40
  pointwise
  rw [pay3_dl H r j da db h6 h7 i hi, pay3_ga1 H, pay3_sp H]
  rfl
/-- The parameter's part of a block: its columns' sums, negated. -/
theorem pay3_glam : (k3_pay39 (F := Ideal) x0 (Scalar.muli i 256#32) (k3_pay21 x3 (k3_pay20 x0 x1)) (k3_pay25 x4 (k3_pay7 x0 x2) (k3_pay11 x0 x2) (k3_pay15 x0 x2) (k3_pay19 x0 x2))
      (k3_pay28 x5) (k3_pay30 x4 x5 (k3_pay7 x0 x2) (k3_pay11 x0 x2) (k3_pay15 x0 x2) (k3_pay19 x0 x2))
      (k3_pay31 (F := Ideal) x4 x5 (k3_pay7 x0 x2) (k3_pay11 x0 x2) (k3_pay15 x0 x2) (k3_pay19 x0 x2)) k3_pay32 x6 x7) (ix2 0 j)
    = -((∑ r : Fin 256, Lru.ga8 A (rw8 n r) j * Lru.dl A da db (rw8 n r) j) * Lru.dsp (-A.lam j)) := by
  unfold k3_pay39
  pointwise
  simp only [pay3_dl H _ j da db h6 h7 i hi, pay3_ga8 H, pay3_dsp H, zero_sub]
end

section
variable (v103 v124 v127 x0 : S256x1024.Idx → EReal) (x1 x2 : S4x256x256.Idx → EReal) (r : Fin 256) (j : Fin 1024)
/-- A block's sum down its rows, twice written. -/
theorem pay3_ba (x : FVec Ideal S256x1024 .f32) (i : BitVec 32) (v39 v48 : FVec Ideal S256x1024 .f32) (v66 : FVec Ideal S1x1024 .f32) (v79 v82 v83 v96 v98 : FVec Ideal S256x1024 .f32) :
    k3_pay41 (F := Ideal) x i v39 v48 v66 v79 v82 v83 v96 v98 (ix2 0 j) = ∑ r : Fin 256, k3_pay40 (F := Ideal) x i v39 v48 v66 v79 v82 v83 v96 v98 (ix2 r j) := by
  unfold k3_pay41
  pointwise
theorem pay3_bx (x : FVec Ideal S256x1024 .f32) (i : BitVec 32) (v42 v82 v83 v98 : FVec Ideal S256x1024 .f32) :
    k3_pay44 (F := Ideal) (k3_pay43 x i v42 v82 v83 v98) (ix2 0 j) = ∑ r : Fin 256, k3_pay42 (F := Ideal) x i v42 v82 v83 v98 (ix2 r j) := by
  unfold k3_pay44 k3_pay43
  pointwise
/-- Four heads' values, each padded with zeros to all columns, added up. -/
theorem pads (p : Fin 4 → Fin 256 → EReal) (g : EReal) (q0 q1 q2 q3 : Fin 256 → EReal) (h0 : ∀ l, q0 l = p 0 l) (h1 : ∀ l, q1 l = p 1 l)
    (h2 : ∀ l, q2 l = p 2 l) (h3 : ∀ l, q3 l = p 3 l) :
    (((g + if h : j.val < 768 then 0 else q3 ⟨j.val - 768, by omega⟩) + if _h : j.val < 768 then if h : j.val < 512 then 0 else q2 ⟨j.val - 512, by omega⟩ else 0)
      + if _h : j.val < 512 then if h : j.val < 256 then 0 else q1 ⟨j.val - 256, by omega⟩ else 0) + (if h : j.val < 256 then q0 ⟨j.val, h⟩ else 0)
    = g + p (hd j) (ln j) := by
  have key : ∀ (h : Fin 4) (l : Fin 256), j.val = h.val * 256 + l.val → p h l = p (hd j) (ln j) := fun h l e =>
    congr (congrArg p (Fin.ext (by show h.val = j.val / 256; omega))) (Fin.ext (by show l.val = j.val % 256; omega))
  by_cases c0 : j.val < 256
  · rw [dif_pos (by omega : j.val < 768), dif_pos (by omega : j.val < 768), dif_pos (by omega : j.val < 512), dif_pos (by omega : j.val < 512), dif_pos c0, dif_pos c0, h0,
      add_zero, add_zero, add_zero]
    exact congrArg (g + ·) (key 0 _ (by simp))
  · by_cases c1 : j.val < 512
    · rw [dif_pos (by omega : j.val < 768), dif_pos (by omega : j.val < 768), dif_pos c1, dif_pos c1, dif_neg c0, dif_neg c0, h1, add_zero, add_zero, add_zero]
      exact congrArg (g + ·) (key 1 _ (by show j.val = 1 * 256 + (j.val - 256); omega))
    · by_cases c2 : j.val < 768
      · rw [dif_pos c2, dif_pos c2, dif_neg c1, dif_neg c1, dif_neg c0, h2, add_zero, add_zero, add_zero]
        exact congrArg (g + ·) (key 2 _ (by show j.val = 2 * 256 + (j.val - 512); omega))
      · rw [dif_neg c2, dif_neg c2, dif_neg c1, dif_neg c0, h3, add_zero, add_zero, add_zero]
        exact congrArg (g + ·) (key 3 _ (by show j.val = 3 * 256 + (j.val - 768); omega))
theorem pay3_dx : (k3_pay59 (F := Ideal) (k3_pay5 x1) (k3_pay6 x2) (k3_pay9 x1) (k3_pay10 x2) (k3_pay45 v124) (k3_pay46 v124) (k3_pay49 v127) (k3_pay50 v127)
      (k3_pay53 (k3_pay17 x1) (k3_pay18 x2) v103 v124 v127) (FloatOps.ofBits FTy.f32 0#32) (k3_pay56 (k3_pay13 x1) (k3_pay14 x2) v124 v127)) (ix2 r j)
    = v103 (ix2 r j) + ((∑ k : Fin 256, v124 (ix2 r (cl (hd j) k)) * x2 (ix3 (hd j) (ln j) k)) + ∑ k : Fin 256, v127 (ix2 r (cl (hd j) k)) * x1 (ix3 (hd j) (ln j) k)) := by
  unfold_payloads
  pointwise
  refine (pads j (fun h l => (∑ k : Fin 256, v124 (ix2 r (cl h k)) * x2 (ix3 h l k)) + ∑ k : Fin 256, v127 (ix2 r (cl h k)) * x1 (ix3 h l k)) (v103 (ix2 r j))
    (fun l => (∑ k : Fin 256, v124 (ix2 r ⟨k.val, by omega⟩) * x2 (ix3 0 l k)) + ∑ k : Fin 256, v127 (ix2 r ⟨k.val, by omega⟩) * x1 (ix3 0 l k))
    (fun l => (∑ k : Fin 256, v124 (ix2 r ⟨256 + k.val, by omega⟩) * x2 (ix3 1 l k)) + ∑ k : Fin 256, v127 (ix2 r ⟨256 + k.val, by omega⟩) * x1 (ix3 1 l k))
    (fun l => (∑ k : Fin 256, v124 (ix2 r ⟨512 + k.val, by omega⟩) * x2 (ix3 2 l k)) + ∑ k : Fin 256, v127 (ix2 r ⟨512 + k.val, by omega⟩) * x1 (ix3 2 l k))
    (fun l => (∑ k : Fin 256, v124 (ix2 r ⟨768 + k.val, by omega⟩) * x2 (ix3 3 l k)) + ∑ k : Fin 256, v127 (ix2 r ⟨768 + k.val, by omega⟩) * x1 (ix3 3 l k))
    ?_ ?_ ?_ ?_)
  all_goals
    intro l
    refine congrArg₂ (· + ·) (Finset.sum_congr rfl fun k _ => ?_) (Finset.sum_congr rfl fun k _ => ?_)
    · exact congrArg (fun z => v124 (ix2 r z) * _) (Fin.ext (by simp [cl]))
    · exact congrArg (fun z => v127 (ix2 r z) * _) (Fin.ext (by simp [cl]))

/-- Four heads' values, each padded with zeros to all heads, added up. -/
theorem pads4 (h : Fin 4) (p : Fin 4 → EReal) (q0 q1 q2 q3 : EReal) (h0 : q0 = p 0) (h1 : q1 = p 1) (h2 : q2 = p 2) (h3 : q3 = p 3) :
    ((((if _h : h.val < 3 then 0 else q3) + if _h : h.val < 3 then if _h : h.val < 2 then 0 else q2 else 0)
      + if _h : h.val < 2 then if _h : h.val < 1 then 0 else q1 else 0) + (if _h : h.val < 1 then q0 else 0)) = p h := by
  subst h0 h1 h2 h3
  match h with
  | 0 => exact (congrArg₂ (· + ·) (congrArg₂ (· + ·) (add_zero 0) rfl) rfl).trans ((congrArg (· + _) (add_zero 0)).trans (zero_add _))
  | 1 => exact (add_zero _).trans ((congrArg (· + p 1) (add_zero 0)).trans (zero_add _))
  | 2 => exact (add_zero _).trans ((add_zero _).trans (zero_add _))
  | 3 => exact (add_zero _).trans ((add_zero _).trans (add_zero _))

theorem pay3_dwa (h : Fin 4) (a b : Fin 256) : (k3_pay57 (F := Ideal) (k3_pay4 x0) (k3_pay8 x0) (k3_pay45 v124) (k3_pay46 v124) (k3_pay54 (k3_pay12 x0) (k3_pay16 x0) v124)) (ix3 h a b)
    = ∑ r : Fin 256, x0 (ix2 r (cl h a)) * v124 (ix2 r (cl h b)) := by
  unfold_payloads
  pointwise
  refine pads4 h (fun h => ∑ r : Fin 256, x0 (ix2 r (cl h a)) * v124 (ix2 r (cl h b))) _ _ _ _ ?_ ?_ ?_ ?_
  all_goals
    refine Finset.sum_congr rfl fun k _ => (mul_comm _ _).trans ?_
    exact congrArg₂ (fun z z' => x0 (ix2 k z) * v124 (ix2 k z')) (Fin.ext (by simp [cl])) (Fin.ext (by simp [cl]))
theorem pay3_dwx (h : Fin 4) (a b : Fin 256) : (k3_pay58 (F := Ideal) (k3_pay4 x0) (k3_pay8 x0) (k3_pay49 v124) (k3_pay50 v124) (k3_pay55 (k3_pay12 x0) (k3_pay16 x0) v124)) (ix3 h a b)
    = ∑ r : Fin 256, x0 (ix2 r (cl h a)) * v124 (ix2 r (cl h b)) := by
  unfold_payloads
  pointwise
  refine pads4 h (fun h => ∑ r : Fin 256, x0 (ix2 r (cl h a)) * v124 (ix2 r (cl h b))) _ _ _ _ ?_ ?_ ?_ ?_
  all_goals
    refine Finset.sum_congr rfl fun k _ => (mul_comm _ _).trans ?_
    exact congrArg₂ (fun z z' => x0 (ix2 k z) * v124 (ix2 k z')) (Fin.ext (by simp [cl])) (Fin.ext (by simp [cl]))
end
end Cert.KValue
-- ==== Proof.KReg3.lean ====
/- The fourth kernel's six arrays: the blocks of `dx`, and the five sums over the eight blocks of rows. -/
module
public import proofs.«01_k».proof.Proof.KGrad
@[expose] public section
set_option maxRecDepth 16384
noncomputable section
namespace Cert.KValue
open Cert.KernelIdeal Cert.KernelIdeal.Gen
open Idealize.ShloMosaic Idealize.ShloMosaic.TcCoe Idealize.ShloMosaic.Tactic
open Cert.Lru (Args hd ln cl)

variable (V : (c : Dev nD) → (b : Ref sig .tc) → Buf (Elt Ideal) ((c : Thread nD τ).loc b)) (c : Dev nD)

theorem idx3 : ∀ t : Fin cfg3.N, win3_0.index t = ![t.val, 0] ∧ win3_1.index t = ![0, 0, 0] ∧ win3_2.index t = ![0, 0, 0] ∧ win3_3.index t = ![0, 0]
    ∧ win3_4.index t = ![0, 0] ∧ win3_5.index t = ![0, 0] ∧ win3_6.index t = ![t.val, 0] ∧ win3_7.index t = ![t.val, 0] ∧ win3_8.index t = ![t.val, 0]
    ∧ (grid3.coords t 0).val = t.val :=
  (by decide +kernel : ∀ t : Fin grid3.N, _)

/-- A grid point's block number. -/
abbrev bk (t : Fin cfg3.N) : Fin 8 := ⟨t.val, t.isLt⟩

theorem blk3 (t : Fin cfg3.N) : Blk (argsK c (V c)) (bk t) (iblk3 V c 0 t) (iblk3 V c 1 t) (iblk3 V c 2 t) (iblk3 V c 3 t) (iblk3 V c 4 t) (iblk3 V c 5 t) := by
  constructor
  · intro r j
    unfold argsK rw8
    blk_ext! [iblk3, idx3 t]
  all_goals
    intros
    unfold argsK
    blk_ext! [iblk3, idx3 t]

theorem ix3_eta {a b d : ℕ} (y : (⟨3, ![a, b, d]⟩ : Shape).Idx) : y = ix3 (y 0) (y 1) (y 2) := by
  funext k
  match k with
  | 0 => rfl
  | 1 => rfl
  | 2 => rfl
theorem ix2_row {b : ℕ} (y : (⟨2, ![1, b]⟩ : Shape).Idx) : y = ix2 0 (y 1) := by
  funext k
  match k with
  | 0 => exact Fin.ext (by show (y 0).val = 0; have := (y 0).isLt; change (y 0).val < 1 at this; omega)
  | 1 => rfl

theorem acc_w (u v : S4x256x256.Idx → EReal) (y : S4x256x256.Idx) : k3_pay61 (F := Ideal) u v y = v y + u y := by
  rw [ix3_eta y]; unfold k3_pay61; pointwise
theorem acc_w' (u v : S4x256x256.Idx → EReal) (y : S4x256x256.Idx) : k3_pay63 (F := Ideal) u v y = v y + u y := by
  rw [ix3_eta y]; unfold k3_pay63; pointwise
theorem acc_b (u v : S1x1024.Idx → EReal) (y : S1x1024.Idx) : k3_pay65 (F := Ideal) u v y = v y + u y := by
  rw [ix2_row y]; unfold k3_pay65; pointwise
theorem acc_b' (u v : S1x1024.Idx → EReal) (y : S1x1024.Idx) : k3_pay1 (F := Ideal) u v y = v y + u y := by
  rw [ix2_row y]; unfold k3_pay1; pointwise
theorem acc_l (u v : S1x1024.Idx → EReal) (y : S1x1024.Idx) : k3_pay3 (F := Ideal) u v y = v y + u y := by
  rw [ix2_row y]; unfold k3_pay3; pointwise

theorem zero_w (y : S4x256x256.Idx) : k3_pay60 (F := Ideal) y = 0 := by rw [ix3_eta y]; unfold k3_pay60; pointwise
theorem zero_w' (y : S4x256x256.Idx) : k3_pay62 (F := Ideal) y = 0 := by rw [ix3_eta y]; unfold k3_pay62; pointwise
theorem zero_b (y : S1x1024.Idx) : k3_pay64 (F := Ideal) y = 0 := by rw [ix2_row y]; unfold k3_pay64; pointwise
theorem zero_b' (y : S1x1024.Idx) : k3_pay66 (F := Ideal) y = 0 := by rw [ix2_row y]; unfold k3_pay66; pointwise
theorem zero_l (y : S1x1024.Idx) : k3_pay2 (F := Ideal) y = 0 := by rw [ix2_row y]; unfold k3_pay2; pointwise

/-- The eight blocks' rows are all rows. -/
theorem sum_rows (f : Fin 2048 → EReal) : ∑ p : Fin cfg3.N, ∑ r : Fin 256, f (rw8 (bk p) r) = ∑ t : Fin 2048, f t :=
  Fin.sum_mul_add_congr (S := 8) (n := 256) fun s k hl => congrArg f (Fin.ext (by show 256 * s.val + k.val = s.val * 256 + k.val; omega))

section
variable (da db : Fin 2048 → Fin 1024 → EReal) (hA : V c main_v2_0 = fun i => da (i 0) (i 1)) (hB : V c main_v2_1 = fun i => db (i 0) (i 1))

include hA in
theorem blk3_a (t : Fin cfg3.N) (r : Fin 256) (j : Fin 1024) : (iblk3 V c 6 t : S256x1024.Idx → EReal) (ix2 r j) = da (rw8 (bk t) r) j := by
  have e : (iblk3 V c 6 t : S256x1024.Idx → EReal) (ix2 r j) = V c main_v2_0 (ix2 (rw8 (bk t) r) j) := by
    unfold rw8
    blk_ext! [iblk3, idx3 t]
  rw [e, hA]
  rfl
include hB in
theorem blk3_b (t : Fin cfg3.N) (r : Fin 256) (j : Fin 1024) : (iblk3 V c 7 t : S256x1024.Idx → EReal) (ix2 r j) = db (rw8 (bk t) r) j := by
  have e : (iblk3 V c 7 t : S256x1024.Idx → EReal) (ix2 r j) = V c main_v2_1 (ix2 (rw8 (bk t) r) j) := by
    unfold rw8
    blk_ext! [iblk3, idx3 t]
  rw [e, hB]
  rfl

theorem crd3 (t : Fin cfg3.N) : BitVec.ofNat 32 (grid3.coords t 0).val = BitVec.ofNat 32 (bk t).val :=
  congrArg (BitVec.ofNat 32) (idx3 t).2.2.2.2.2.2.2.2.2

include hB in
theorem reg3_wx : (dat3 V c).arrAt 9 cfg3.N = fun i => Lru.gwx (argsK c (V c)) db (i 0) (i 1) (i 2) := by
  have key : ∀ (t : Fin cfg3.N) (y : S4x256x256.Idx), k3_pay58 (F := Ideal) (k3_pay4 (iblk3 V c 0 t)) (k3_pay8 (iblk3 V c 0 t))
      (k3_pay49 (k3_pay42 (iblk3 V c 0 t) (Scalar.muli (BitVec.ofNat 32 (grid3.coords t 0).val) 256#32) (k3_pay22 (iblk3 V c 3 t) (k3_pay20 (iblk3 V c 0 t) (iblk3 V c 1 t)))
        (k3_pay31 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t))) k3_pay32 (iblk3 V c 7 t)))
      (k3_pay50 (k3_pay42 (iblk3 V c 0 t) (Scalar.muli (BitVec.ofNat 32 (grid3.coords t 0).val) 256#32) (k3_pay22 (iblk3 V c 3 t) (k3_pay20 (iblk3 V c 0 t) (iblk3 V c 1 t)))
        (k3_pay31 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t))) k3_pay32 (iblk3 V c 7 t)))
      (k3_pay55 (k3_pay12 (iblk3 V c 0 t)) (k3_pay16 (iblk3 V c 0 t)) (k3_pay42 (iblk3 V c 0 t) (Scalar.muli (BitVec.ofNat 32 (grid3.coords t 0).val) 256#32) (k3_pay22 (iblk3 V c 3 t) (k3_pay20 (iblk3 V c 0 t) (iblk3 V c 1 t)))
        (k3_pay31 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t))) k3_pay32 (iblk3 V c 7 t))) y
      = ∑ r : Fin 256, (argsK c (V c)).x (rw8 (bk t) r) (cl (y 0) (y 1)) * Lru.px (argsK c (V c)) db (rw8 (bk t) r) (cl (y 0) (y 2)) := by
    intro t y
    refine (congrArg _ (ix3_eta y)).trans ((pay3_dwx _ _ (y 0) (y 1) (y 2)).trans (Finset.sum_congr rfl fun r _ => ?_))
    exact congrArg₂ (· * ·) ((blk3 V c t).x _ _) (pay3_px (blk3 V c t) r _ db (blk3_b V c db hB t) _ (crd3 t))
  refine (dat3 V c).arrAt_eq_of_after_last 9 t3_7 (by decide +kernel) _ fun j => ?_
  blk_simp
  rw [after3_9, Pipeline.eq_sum_fin_of_reset_step_apply_last (fun n h => (outsAt3 V c n h).2.1) 8 (fun _ => (0 : EReal))
    (fun t y => ∑ r : Fin 256, (argsK c (V c)).x (rw8 (bk t) r) (cl (y 0) (y 1)) * Lru.px (argsK c (V c)) db (rw8 (bk t) r) (cl (y 0) (y 2)))
    (fun t h y => by rw [outsAt3_A V c t h h h h h]; frame_out; exact (acc_w _ _ _).trans (congrArg₂ (· + ·) (zero_w _) (key t y)))
    (fun t h y => by rw [outsAt3_B V c t h h h h h]; frame_out; exact (acc_w _ _ _).trans (congrArg₂ (· + ·) rfl (key t y)))
    (le_of_eq N_3) t3_7 rfl j, zero_add]
  exact sum_rows fun t => (argsK c (V c)).x t (cl (j 0) (j 1)) * Lru.px (argsK c (V c)) db t (cl (j 0) (j 2))

include hA hB in
theorem reg3_wa : (dat3 V c).arrAt 10 cfg3.N = fun i => Lru.gwa (argsK c (V c)) da db (i 0) (i 1) (i 2) := by
  have key : ∀ (t : Fin cfg3.N) (y : S4x256x256.Idx), k3_pay57 (F := Ideal) (k3_pay4 (iblk3 V c 0 t)) (k3_pay8 (iblk3 V c 0 t)) (k3_pay45 (k3_pay40 (iblk3 V c 0 t) (Scalar.muli (BitVec.ofNat 32 (grid3.coords t 0).val) 256#32)
        (k3_pay21 (iblk3 V c 3 t) (k3_pay20 (iblk3 V c 0 t) (iblk3 V c 1 t)))
        (k3_pay24 (iblk3 V c 4 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t)))
        (k3_pay27 (iblk3 V c 5 t)) (k3_pay30 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t)))
        (k3_pay31 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t))) k3_pay32 (iblk3 V c 6 t) (iblk3 V c 7 t)))
      (k3_pay46 (k3_pay40 (iblk3 V c 0 t) (Scalar.muli (BitVec.ofNat 32 (grid3.coords t 0).val) 256#32)
        (k3_pay21 (iblk3 V c 3 t) (k3_pay20 (iblk3 V c 0 t) (iblk3 V c 1 t)))
        (k3_pay24 (iblk3 V c 4 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t)))
        (k3_pay27 (iblk3 V c 5 t)) (k3_pay30 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t)))
        (k3_pay31 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t))) k3_pay32 (iblk3 V c 6 t) (iblk3 V c 7 t)))
      (k3_pay54 (k3_pay12 (iblk3 V c 0 t)) (k3_pay16 (iblk3 V c 0 t)) (k3_pay40 (iblk3 V c 0 t) (Scalar.muli (BitVec.ofNat 32 (grid3.coords t 0).val) 256#32)
        (k3_pay21 (iblk3 V c 3 t) (k3_pay20 (iblk3 V c 0 t) (iblk3 V c 1 t)))
        (k3_pay24 (iblk3 V c 4 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t)))
        (k3_pay27 (iblk3 V c 5 t)) (k3_pay30 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t)))
        (k3_pay31 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t))) k3_pay32 (iblk3 V c 6 t) (iblk3 V c 7 t))) y
      = ∑ r : Fin 256, (argsK c (V c)).x (rw8 (bk t) r) (cl (y 0) (y 1)) * Lru.pa (argsK c (V c)) da db (rw8 (bk t) r) (cl (y 0) (y 2)) := by
    intro t y
    refine (congrArg _ (ix3_eta y)).trans ((pay3_dwa _ _ (y 0) (y 1) (y 2)).trans (Finset.sum_congr rfl fun r _ => ?_))
    exact congrArg₂ (· * ·) ((blk3 V c t).x _ _) (pay3_pa (blk3 V c t) r _ da db (blk3_a V c da hA t) (blk3_b V c db hB t) _ (crd3 t))
  refine (dat3 V c).arrAt_eq_of_after_last 10 t3_7 (by decide +kernel) _ fun j => ?_
  blk_simp
  rw [after3_10, Pipeline.eq_sum_fin_of_reset_step_apply_last (fun n h => (outsAt3 V c n h).2.2.1) 8 (fun _ => (0 : EReal))
    (fun t y => ∑ r : Fin 256, (argsK c (V c)).x (rw8 (bk t) r) (cl (y 0) (y 1)) * Lru.pa (argsK c (V c)) da db (rw8 (bk t) r) (cl (y 0) (y 2)))
    (fun t h y => by rw [outsAt3_A V c t h h h h h]; frame_out; exact (acc_w' _ _ _).trans (congrArg₂ (· + ·) (zero_w' _) (key t y)))
    (fun t h y => by rw [outsAt3_B V c t h h h h h]; frame_out; exact (acc_w' _ _ _).trans (congrArg₂ (· + ·) rfl (key t y)))
    (le_of_eq N_3) t3_7 rfl j, zero_add]
  exact sum_rows fun t => (argsK c (V c)).x t (cl (j 0) (j 1)) * Lru.pa (argsK c (V c)) da db t (cl (j 0) (j 2))

include hB in
theorem reg3_bx : (dat3 V c).arrAt 11 cfg3.N = fun i => Lru.gbx (argsK c (V c)) db (i 1) := by
  have key : ∀ (t : Fin cfg3.N) (y : S1x1024.Idx), k3_pay44 (F := Ideal) (k3_pay43 (iblk3 V c 0 t) (Scalar.muli (BitVec.ofNat 32 (grid3.coords t 0).val) 256#32)
        (k3_pay22 (iblk3 V c 3 t) (k3_pay20 (iblk3 V c 0 t) (iblk3 V c 1 t)))
        (k3_pay31 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t))) k3_pay32 (iblk3 V c 7 t)) y
      = ∑ r : Fin 256, Lru.px (argsK c (V c)) db (rw8 (bk t) r) (y 1) := by
    intro t y
    refine (congrArg _ (ix2_row y)).trans ((pay3_bx (y 1) _ _ _ _ _ _).trans (Finset.sum_congr rfl fun r _ => ?_))
    exact pay3_px (blk3 V c t) r _ db (blk3_b V c db hB t) _ (crd3 t)
  refine (dat3 V c).arrAt_eq_of_after_last 11 t3_7 (by decide +kernel) _ fun j => ?_
  blk_simp
  rw [after3_11, Pipeline.eq_sum_fin_of_reset_step_apply_last (fun n h => (outsAt3 V c n h).2.2.2.1) 8 (fun _ => (0 : EReal))
    (fun t y => ∑ r : Fin 256, Lru.px (argsK c (V c)) db (rw8 (bk t) r) (y 1))
    (fun t h y => by rw [outsAt3_A V c t h h h h h]; frame_out; exact (acc_b _ _ _).trans (congrArg₂ (· + ·) (zero_b _) (key t y)))
    (fun t h y => by rw [outsAt3_B V c t h h h h h]; frame_out; exact (acc_b _ _ _).trans (congrArg₂ (· + ·) rfl (key t y)))
    (le_of_eq N_3) t3_7 rfl j, zero_add]
  exact sum_rows fun t => Lru.px (argsK c (V c)) db t (j 1)

include hA hB in
theorem reg3_ba : (dat3 V c).arrAt 12 cfg3.N = fun i => Lru.gba (argsK c (V c)) da db (i 1) := by
  have key : ∀ (t : Fin cfg3.N) (y : S1x1024.Idx), k3_pay41 (F := Ideal) (iblk3 V c 0 t) (Scalar.muli (BitVec.ofNat 32 (grid3.coords t 0).val) 256#32)
        (k3_pay21 (iblk3 V c 3 t) (k3_pay20 (iblk3 V c 0 t) (iblk3 V c 1 t)))
        (k3_pay24 (iblk3 V c 4 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t)))
        (k3_pay27 (iblk3 V c 5 t)) (k3_pay30 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t)))
        (k3_pay31 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t))) k3_pay32 (iblk3 V c 6 t) (iblk3 V c 7 t) y
      = ∑ r : Fin 256, Lru.pa (argsK c (V c)) da db (rw8 (bk t) r) (y 1) := by
    intro t y
    refine (congrArg _ (ix2_row y)).trans ((pay3_ba (y 1) _ _ _ _ _ _ _ _ _ _).trans (Finset.sum_congr rfl fun r _ => ?_))
    exact pay3_pa (blk3 V c t) r _ da db (blk3_a V c da hA t) (blk3_b V c db hB t) _ (crd3 t)
  refine (dat3 V c).arrAt_eq_of_after_last 12 t3_7 (by decide +kernel) _ fun j => ?_
  blk_simp
  rw [after3_12, Pipeline.eq_sum_fin_of_reset_step_apply_last (fun n h => (outsAt3 V c n h).2.2.2.2.1) 8 (fun _ => (0 : EReal))
    (fun t y => ∑ r : Fin 256, Lru.pa (argsK c (V c)) da db (rw8 (bk t) r) (y 1))
    (fun t h y => by rw [outsAt3_A V c t h h h h h]; frame_out; exact (acc_b' _ _ _).trans (congrArg₂ (· + ·) (zero_b' _) (key t y)))
    (fun t h y => by rw [outsAt3_B V c t h h h h h]; frame_out; exact (acc_b' _ _ _).trans (congrArg₂ (· + ·) rfl (key t y)))
    (le_of_eq N_3) t3_7 rfl j, zero_add]
  exact sum_rows fun t => Lru.pa (argsK c (V c)) da db t (j 1)

include hA hB in
/-- The parameter's gradient as the kernel adds it up: each block's sum negated. -/
theorem reg3_lam : (dat3 V c).arrAt 13 cfg3.N = fun i => ∑ p : Fin cfg3.N, -((∑ r : Fin 256, Lru.ga8 (argsK c (V c)) (rw8 (bk p) r) (i 1) * Lru.dl (argsK c (V c)) da db (rw8 (bk p) r) (i 1)) * Lru.dsp (-(argsK c (V c)).lam (i 1))) := by
  have key : ∀ (t : Fin cfg3.N) (y : S1x1024.Idx), k3_pay39 (F := Ideal) (iblk3 V c 0 t) (Scalar.muli (BitVec.ofNat 32 (grid3.coords t 0).val) 256#32)
        (k3_pay21 (iblk3 V c 3 t) (k3_pay20 (iblk3 V c 0 t) (iblk3 V c 1 t)))
        (k3_pay25 (iblk3 V c 4 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t)))
        (k3_pay28 (iblk3 V c 5 t)) (k3_pay30 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t)))
        (k3_pay31 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t))) k3_pay32 (iblk3 V c 6 t) (iblk3 V c 7 t) y
      = -((∑ r : Fin 256, Lru.ga8 (argsK c (V c)) (rw8 (bk t) r) (y 1) * Lru.dl (argsK c (V c)) da db (rw8 (bk t) r) (y 1)) * Lru.dsp (-(argsK c (V c)).lam (y 1))) := by
    intro t y
    refine (congrArg _ (ix2_row y)).trans (pay3_glam (blk3 V c t) (y 1) da db (blk3_a V c da hA t) (blk3_b V c db hB t) _ (crd3 t))
  refine (dat3 V c).arrAt_eq_of_after_last 13 t3_7 (by decide +kernel) _ fun j => ?_
  blk_simp
  rw [after3_13, Pipeline.eq_sum_fin_of_reset_step_apply_last (fun n h => (outsAt3 V c n h).2.2.2.2.2) 8 (fun _ => (0 : EReal))
    (fun t y => -((∑ r : Fin 256, Lru.ga8 (argsK c (V c)) (rw8 (bk t) r) (y 1) * Lru.dl (argsK c (V c)) da db (rw8 (bk t) r) (y 1)) * Lru.dsp (-(argsK c (V c)).lam (y 1))))
    (fun t h y => by rw [outsAt3_A V c t h h h h h]; frame_out; exact (acc_l _ _ _).trans (congrArg₂ (· + ·) (zero_l _) (key t y)))
    (fun t h y => by rw [outsAt3_B V c t h h h h h]; frame_out; exact (acc_l _ _ _).trans (congrArg₂ (· + ·) rfl (key t y)))
    (le_of_eq N_3) t3_7 rfl j, zero_add]

include hA hB in
theorem reg3_dx : (dat3 V c).arrAt 8 cfg3.N = fun i => Lru.gdx (argsK c (V c)) da db (i 0) (i 1) := by
  refine (dat3 V c).arrAt_eq_of_covers 8 _ (by decide +kernel) fun t hf y => ?_
  blk_simp
  rw [after3_8]
  have key : (outsAt3 V c t.val t.isLt).1 y = Lru.gdx (argsK c (V c)) da db (rw8 (bk t) (y 0)) (y 1) := by
    have pt : ∀ y : S256x1024.Idx, k3_pay59 (F := Ideal) (k3_pay5 (iblk3 V c 1 t)) (k3_pay6 (iblk3 V c 2 t)) (k3_pay9 (iblk3 V c 1 t)) (k3_pay10 (iblk3 V c 2 t)) (k3_pay45 (k3_pay40 (iblk3 V c 0 t) (Scalar.muli (BitVec.ofNat 32 (grid3.coords t 0).val) 256#32)
        (k3_pay21 (iblk3 V c 3 t) (k3_pay20 (iblk3 V c 0 t) (iblk3 V c 1 t)))
        (k3_pay24 (iblk3 V c 4 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t)))
        (k3_pay27 (iblk3 V c 5 t)) (k3_pay30 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t)))
        (k3_pay31 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t))) k3_pay32 (iblk3 V c 6 t) (iblk3 V c 7 t)))
        (k3_pay46 (k3_pay40 (iblk3 V c 0 t) (Scalar.muli (BitVec.ofNat 32 (grid3.coords t 0).val) 256#32)
        (k3_pay21 (iblk3 V c 3 t) (k3_pay20 (iblk3 V c 0 t) (iblk3 V c 1 t)))
        (k3_pay24 (iblk3 V c 4 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t)))
        (k3_pay27 (iblk3 V c 5 t)) (k3_pay30 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t)))
        (k3_pay31 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t))) k3_pay32 (iblk3 V c 6 t) (iblk3 V c 7 t)))
        (k3_pay49 (k3_pay42 (iblk3 V c 0 t) (Scalar.muli (BitVec.ofNat 32 (grid3.coords t 0).val) 256#32)
        (k3_pay22 (iblk3 V c 3 t) (k3_pay20 (iblk3 V c 0 t) (iblk3 V c 1 t)))
        (k3_pay31 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t))) k3_pay32 (iblk3 V c 7 t)))
        (k3_pay50 (k3_pay42 (iblk3 V c 0 t) (Scalar.muli (BitVec.ofNat 32 (grid3.coords t 0).val) 256#32)
        (k3_pay22 (iblk3 V c 3 t) (k3_pay20 (iblk3 V c 0 t) (iblk3 V c 1 t)))
        (k3_pay31 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t))) k3_pay32 (iblk3 V c 7 t)))
        (k3_pay53 (k3_pay17 (iblk3 V c 1 t)) (k3_pay18 (iblk3 V c 2 t)) (k3_pay37 (Scalar.muli (BitVec.ofNat 32 (grid3.coords t 0).val) 256#32)
        (k3_pay21 (iblk3 V c 3 t) (k3_pay20 (iblk3 V c 0 t) (iblk3 V c 1 t)))
        (k3_pay31 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t))) k3_pay32 (iblk3 V c 7 t))
          (k3_pay40 (iblk3 V c 0 t) (Scalar.muli (BitVec.ofNat 32 (grid3.coords t 0).val) 256#32)
        (k3_pay21 (iblk3 V c 3 t) (k3_pay20 (iblk3 V c 0 t) (iblk3 V c 1 t)))
        (k3_pay24 (iblk3 V c 4 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t)))
        (k3_pay27 (iblk3 V c 5 t)) (k3_pay30 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t)))
        (k3_pay31 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t))) k3_pay32 (iblk3 V c 6 t) (iblk3 V c 7 t))
          (k3_pay42 (iblk3 V c 0 t) (Scalar.muli (BitVec.ofNat 32 (grid3.coords t 0).val) 256#32)
        (k3_pay22 (iblk3 V c 3 t) (k3_pay20 (iblk3 V c 0 t) (iblk3 V c 1 t)))
        (k3_pay31 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t))) k3_pay32 (iblk3 V c 7 t)))
        (FloatOps.ofBits FTy.f32 0#32) (k3_pay56 (k3_pay13 (iblk3 V c 1 t)) (k3_pay14 (iblk3 V c 2 t))
          (k3_pay40 (iblk3 V c 0 t) (Scalar.muli (BitVec.ofNat 32 (grid3.coords t 0).val) 256#32)
        (k3_pay21 (iblk3 V c 3 t) (k3_pay20 (iblk3 V c 0 t) (iblk3 V c 1 t)))
        (k3_pay24 (iblk3 V c 4 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t)))
        (k3_pay27 (iblk3 V c 5 t)) (k3_pay30 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t)))
        (k3_pay31 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t))) k3_pay32 (iblk3 V c 6 t) (iblk3 V c 7 t))
          (k3_pay42 (iblk3 V c 0 t) (Scalar.muli (BitVec.ofNat 32 (grid3.coords t 0).val) 256#32)
        (k3_pay22 (iblk3 V c 3 t) (k3_pay20 (iblk3 V c 0 t) (iblk3 V c 1 t)))
        (k3_pay31 (iblk3 V c 4 t) (iblk3 V c 5 t) (k3_pay7 (iblk3 V c 0 t) (iblk3 V c 2 t)) (k3_pay11 (iblk3 V c 0 t) (iblk3 V c 2 t)) (k3_pay15 (iblk3 V c 0 t) (iblk3 V c 2 t)) (k3_pay19 (iblk3 V c 0 t) (iblk3 V c 2 t))) k3_pay32 (iblk3 V c 7 t))) y
        = Lru.gdx (argsK c (V c)) da db (rw8 (bk t) (y 0)) (y 1) := by
      intro y
      refine (congrArg _ (ix2_eta y)).trans ((pay3_dx _ _ _ _ _ (y 0) (y 1)).trans ?_)
      refine congrArg₂ (· + ·) (pay3_dmg (blk3 V c t) (y 0) (y 1) db (blk3_b V c db hB t) _ (crd3 t))
        (congrArg₂ (· + ·) (Finset.sum_congr rfl fun k _ => ?_) (Finset.sum_congr rfl fun k _ => ?_))
      · exact congrArg₂ (· * ·) (pay3_pa (blk3 V c t) (y 0) _ da db (blk3_a V c da hA t) (blk3_b V c db hB t) _ (crd3 t)) ((blk3 V c t).wa _ _ _)
      · exact congrArg₂ (· * ·) (pay3_px (blk3 V c t) (y 0) _ db (blk3_b V c db hB t) _ (crd3 t)) ((blk3 V c t).wx _ _ _)
    by_cases h : t.val % 8 = 0
    · rw [outsAt3_A V c t h h h h h]
      frame_out
      exact pt y
    · rw [outsAt3_B V c t h h h h h]
      frame_out
      exact pt y
  refine key.trans ?_
  refine congr (congrArg (Lru.gdx _ _ _) (Fin.ext ?_)) (Fin.ext ?_)
  · unfold rw8 bk
    blk_simp [idx3 t]
    exact congrArg (· + (y 0).val) (Nat.mul_comm _ _)
  · blk_simp [idx3 t]
end
end Cert.KValue
-- ==== Proof.KScan.lean ====
/-
  The kernel's two scans, read in value. Both run one counted loop over the 2048 rows of a block of 512 columns, a row
  carried from trip to trip. Before trip `k` of the forward scan the carried row is the state after `k` rows, and row `t`
  of the output already written is the state after row `t`; before trip `k` of the backward scan the carried row is what
  reaches row `2047 - k` from the rows after it, and the rows from there on hold the two cotangents.
-/
module
public import proofs.«01_k».proof.Proof.KGates
public import Idealize.ShloMosaic.Lib.WritesUnit
public import Idealize.ShloMosaic.Lib.VecWindow
@[expose] public section
noncomputable section
namespace Cert.KValue
open Cert.KernelIdeal Cert.KernelIdeal.Gen
open Idealize.ShloMosaic Idealize.ShloMosaic.TcCoe Idealize.ShloMosaic.Tactic
open Idealize.SL Idealize.SL.Sem

/-- A row by its number, inside. -/
theorem row_of_lt (f : Fin 2048 → Fin 1024 → EReal) (t : Fin 2048) (n : ℕ) (h : n = t.val) (j : Fin 1024) : Lru.row f n j = f t j := by
  subst h; exact dif_pos t.isLt
/-- The state one row on. -/
theorem hs_next (a b : Fin 2048 → Fin 1024 → EReal) (n : ℕ) (j : Fin 1024) :
    Lru.hs a b (n + 1) j = Lru.row a n j * Lru.hs a b n j + Lru.row b n j := rfl
/-- The cotangent one row back. -/
theorem gs_next (a d : Fin 2048 → Fin 1024 → EReal) (n : ℕ) (j : Fin 1024) :
    Lru.gs a d (n + 1) j = Lru.row a (2047 - n) j * (Lru.row d (2047 - n) j + Lru.gs a d n j) := rfl

/-- One row of a 2048-row block, loaded at row `o`. -/
theorem load_row {κ : Kind} {sp : Space} (v : View sig κ sp S2048x512 .f32) (X : v.ty.Contents (Elt Ideal)) {off : Fin 2 → ℕ}
    (inb : ∀ a, off a + S1x512.size a ≤ S2048x512.size a) (t : Fin 2048) (h : off = ![t.val, 0]) (l : Fin 512) :
    v.readAt (Elt Ideal) (Rect.unit (s := S2048x512) off ![1, 512] inb).toLoadRect X (ix2 0 l) = v.read (Elt Ideal) X (ix2 t l) := by
  subst h
  exact congrArg (v.read (Elt Ideal) X) (funext fun a => Fin.ext (by
    match a with
    | 0 => show t.val + 1 * 0 = t.val; omega
    | 1 => show 0 + 1 * l.val = l.val; omega))

section Fwd
variable (𝒱 : Variants) (c : Dev nD) (bd : Option 𝒱.V) (i : grid1.Coords)
  (a1 : Memref sig .tc .vmem S2048x512 .f32) (h1 : a1.IsWhole) (a2 : Memref sig .tc .vmem S2048x512 .f32) (h2 : a2.IsWhole)
  (a3 : Memref sig .tc .vmem S2048x512 .f32) (h3 : a3.IsWhole)
  (X1 : BufTy.Contents (Elt Ideal) a1.view.ty) (X2 : BufTy.Contents (Elt Ideal) a2.view.ty)

/-- A forward trip yields the row it stores. -/
theorem tripR1 (k : Fin k1_t1_loop.trips) (acc : FVec Ideal S1x512 .f32) :
    tripR_k1_t1 (F := Ideal) 𝒱 c bd i a1 h1 a2 h2 a3 h3 X1 X2 k acc
      = k1_pay2 acc (a1.view.readAt (Elt Ideal) (Rect.unit (s := S2048x512) (k1_off1 k) ![1, 512] (k1_off1_inb k)).toLoadRect X1)
          (a2.view.readAt (Elt Ideal) (Rect.unit (s := S2048x512) (k1_off1 k) ![1, 512] (k1_off1_inb k)).toLoadRect X2) := by
  unfold tripR_k1_t1 trip_k1_t1
  rfl
/-- A forward trip stores its row at row `k`. -/
theorem tripL1 (k : Fin k1_t1_loop.trips) (acc : FVec Ideal S1x512 .f32) :
    tripL_k1_t1 (F := Ideal) 𝒱 c bd i a1 h1 a2 h2 a3 h3 X1 X2 k acc
      = [⟨Rect.unit (s := S2048x512) (k1_off1 k) ![1, 512] (k1_off1_inb k), tripR_k1_t1 (F := Ideal) 𝒱 c bd i a1 h1 a2 h2 a3 h3 X1 X2 k acc⟩] := by
  unfold tripL_k1_t1 tripR_k1_t1 trip_k1_t1
  rfl

/-- The row a forward trip computes. -/
theorem pay1_eq (acc u v : FVec Ideal S1x512 .f32) (l : Fin 512) : k1_pay2 acc u v (ix2 0 l) = u (ix2 0 l) * acc (ix2 0 l) + v (ix2 0 l) := by
  unfold k1_pay2
  pointwise

variable (fa fb : Fin 2048 → Fin 1024 → EReal) (col : Fin 512 → Fin 1024)
  (hX1 : ∀ t l, a1.view.read (Elt Ideal) X1 (ix2 t l) = fa t (col l)) (hX2 : ∀ t l, a2.view.read (Elt Ideal) X2 (ix2 t l) = fb t (col l))
include hX1 hX2

/-- Before trip `k` of the forward scan: the carried row, and the rows written. -/
theorem fwd_state {κ : Kind} {sp : Space} (v : View sig κ sp S2048x512 .f32) (f : v.ty.Contents (Elt Ideal)) :
    ∀ k ≤ k1_t1_loop.trips,
      (∀ l, (st_k1_t1 (F := Ideal) 𝒱 c bd i a1 h1 a2 h2 a3 h3 X1 X2 k1_pay1 k).1 (ix2 0 l) = Lru.hs fa fb k (col l))
      ∧ ∀ (t : Fin 2048) (l : Fin 512), t.val < k →
        v.read (Elt Ideal) (v.writes (Elt Ideal) f (st_k1_t1 (F := Ideal) 𝒱 c bd i a1 h1 a2 h2 a3 h3 X1 X2 k1_pay1 k).2) (ix2 t l)
          = Lru.hs fa fb (t.val + 1) (col l) := by
  intro k
  induction k with
  | zero =>
    refine fun _ => ⟨fun l => ?_, fun t l h => absurd h (Nat.not_lt_zero _)⟩
    rw [st_k1_t1_zero]
    unfold k1_pay1
    pointwise
    rfl
  | succ k ih =>
    intro hk
    have hk' : k < k1_t1_loop.trips := hk
    have hk2 : k < 2048 := Nat.lt_of_lt_of_le hk' k1_t1_abs.2.1
    obtain ⟨ihc, ihw⟩ := ih (Nat.le_of_lt hk')
    have e := st_k1_t1_succ (F := Ideal) 𝒱 c bd i a1 h1 a2 h2 a3 h3 X1 X2 k1_pay1 ⟨k, hk'⟩
    rw [show ((⟨k, hk'⟩ : Fin k1_t1_loop.trips).val) = k from rfl] at e
    have hc : ∀ l, tripR_k1_t1 (F := Ideal) 𝒱 c bd i a1 h1 a2 h2 a3 h3 X1 X2 ⟨k, hk'⟩
        (st_k1_t1 (F := Ideal) 𝒱 c bd i a1 h1 a2 h2 a3 h3 X1 X2 k1_pay1 k).1 (ix2 0 l) = Lru.hs fa fb (k + 1) (col l) := fun l => by
      rw [tripR1, pay1_eq, load_row a1.view X1 _ ⟨k, hk2⟩ (k1_off1_eq ⟨k, hk'⟩), load_row a2.view X2 _ ⟨k, hk2⟩ (k1_off1_eq ⟨k, hk'⟩), ihc, hX1, hX2,
        hs_next, row_of_lt fa ⟨k, hk2⟩ k rfl, row_of_lt fb ⟨k, hk2⟩ k rfl]
    rw [e]
    refine ⟨hc, fun t l ht => ?_⟩
    dsimp only
    rw [tripL1, List.singleton_append]
    rcases Nat.lt_succ_iff_lt_or_eq.mp ht with h | h
    · exact (View.read_writes_cons_rows_of_not_mem v f _ _ _ (ix2 t l) (k1_off1_eq ⟨k, hk'⟩) (W := 1) rfl (Or.inl h)).trans (ihw t l h)
    · refine (View.read_writes_cons_rows_of_mem v f _ _ _ (ix2 t l) (ix2 (0 : Fin 1) l) (k1_off1_eq ⟨k, hk'⟩) h rfl).trans ?_
      rw [h]
      exact hc l

end Fwd

section Bwd
variable (𝒱 : Variants) (c : Dev nD) (bd : Option 𝒱.V) (i : grid2.Coords)
  (a1 : Memref sig .tc .vmem S2048x512 .f32) (h1 : a1.IsWhole) (a2 : Memref sig .tc .vmem S2048x512 .f32) (h2 : a2.IsWhole)
  (a3 : Memref sig .tc .vmem S2048x512 .f32) (h3 : a3.IsWhole) (a4 : Memref sig .tc .vmem S2048x512 .f32) (h4 : a4.IsWhole)
  (a5 : Memref sig .tc .vmem S2048x512 .f32) (h5 : a5.IsWhole)
  (X1 : BufTy.Contents (Elt Ideal) a1.view.ty) (X2 : BufTy.Contents (Elt Ideal) a2.view.ty) (X3 : BufTy.Contents (Elt Ideal) a3.view.ty)

/-- The row a backward trip reads from a block at its own row. -/
abbrev own (a : Memref sig .tc .vmem S2048x512 .f32) (X : BufTy.Contents (Elt Ideal) a.view.ty) (k : Fin k2_t1_loop.trips) : Vec Ideal S1x512 .f32 :=
  a.view.readAt (Elt Ideal) (Rect.unit (s := S2048x512) (k2_off1 k) ![1, 512] (k2_off1_inb k)).toLoadRect X
/-- The row a backward trip reads from a block at the row before its own. -/
abbrev prv (a : Memref sig .tc .vmem S2048x512 .f32) (X : BufTy.Contents (Elt Ideal) a.view.ty) (k : Fin k2_t1_loop.trips) : Vec Ideal S1x512 .f32 :=
  a.view.readAt (Elt Ideal) (Rect.unit (s := S2048x512) (k2_off2 k) ![1, 512] (k2_off2_inb k)).toLoadRect X

/-- A backward trip yields its row of cotangents times the decay. -/
theorem tripR2 (k : Fin k2_t1_loop.trips) (acc : FVec Ideal S1x512 .f32) :
    tripR_k2_t1 (F := Ideal) 𝒱 c bd i a1 h1 a2 h2 a3 h3 a4 h4 a5 h5 X1 X2 X3 k acc = k2_pay4 acc (own a3 X3 k) (own a1 X1 k) := by
  unfold tripR_k2_t1 trip_k2_t1
  rfl
/-- A backward trip stores one row of each output. -/
theorem tripL2 (k : Fin k2_t1_loop.trips) (acc : FVec Ideal S1x512 .f32) :
    tripL_k2_t1 (F := Ideal) 𝒱 c bd i a1 h1 a2 h2 a3 h3 a4 h4 a5 h5 X1 X2 X3 k acc
      = ([⟨Rect.unit (s := S2048x512) (k2_off1 k) ![1, 512] (k2_off1_inb k), k2_pay3 k acc (own a3 X3 k) (prv a2 X2 k)⟩],
         [⟨Rect.unit (s := S2048x512) (k2_off1 k) ![1, 512] (k2_off1_inb k), k2_pay2 acc (own a3 X3 k)⟩]) := by
  unfold tripL_k2_t1 trip_k2_t1
  rfl

/-- The row before: the maximum with zero of one less. -/
theorem off2_eq (k : Fin k2_t1_loop.trips) : k2_off2 k = ![2046 - k.val, 0] := by
  revert k; decide +kernel

/-- A backward trip is not at row 0 while its number is below the last. -/
theorem pos_eq (k : Fin k2_t1_loop.trips) :
    Scalar.cmpi .sgt (Scalar.subi 2047#32 (Scf.iv 0#32 1#32 k)) 0#32 = if k.val < 2047 then 1#1 else 0#1 := by
  revert k; decide +kernel

/-- The row of cotangents a backward trip computes. -/
theorem pay2_g (acc u : FVec Ideal S1x512 .f32) (l : Fin 512) : k2_pay2 acc u (ix2 0 l) = u (ix2 0 l) + acc (ix2 0 l) := by
  unfold k2_pay2
  pointwise
/-- The carried row a backward trip leaves. -/
theorem pay2_c (acc u a : FVec Ideal S1x512 .f32) (l : Fin 512) : k2_pay4 acc u a (ix2 0 l) = a (ix2 0 l) * (u (ix2 0 l) + acc (ix2 0 l)) := by
  rw [← pay2_g]
  unfold k2_pay4
  pointwise
/-- The row of decay cotangents a backward trip computes: zero at row 0. -/
theorem pay2_a (k : Fin k2_t1_loop.trips) (acc u h : FVec Ideal S1x512 .f32) (l : Fin 512) :
    k2_pay3 k acc u h (ix2 0 l) = if k.val < 2047 then (u (ix2 0 l) + acc (ix2 0 l)) * h (ix2 0 l) else 0 := by
  rw [← pay2_g]
  unfold k2_pay3
  rw [pos_eq]
  by_cases h : k.val < 2047
  · rw [if_pos h, if_pos h]
    show (mulf _ _ : FVec Ideal S1x512 .f32) (ix2 0 l) = _
    pointwise
  · rw [if_neg h, if_neg h]
    show (broadcast S1x512 _ : FVec Ideal S1x512 .f32) (ix2 0 l) = _
    pointwise
    rfl

variable (fa fh fd : Fin 2048 → Fin 1024 → EReal) (col : Fin 512 → Fin 1024)
  (hX1 : ∀ t l, a1.view.read (Elt Ideal) X1 (ix2 t l) = fa t (col l)) (hX2 : ∀ t l, a2.view.read (Elt Ideal) X2 (ix2 t l) = fh t (col l))
  (hX3 : ∀ t l, a3.view.read (Elt Ideal) X3 (ix2 t l) = fd t (col l))
include hX1 hX2 hX3

/-- Before trip `k` of the backward scan: the carried row, and the rows of both outputs written. -/
theorem bwd_state {κ κ' : Kind} {sp sp' : Space} (v : View sig κ sp S2048x512 .f32) (f : v.ty.Contents (Elt Ideal))
    (v' : View sig κ' sp' S2048x512 .f32) (f' : v'.ty.Contents (Elt Ideal)) :
    ∀ k ≤ k2_t1_loop.trips,
      (∀ l, (st_k2_t1 (F := Ideal) 𝒱 c bd i a1 h1 a2 h2 a3 h3 a4 h4 a5 h5 X1 X2 X3 k2_pay1 k).1 (ix2 0 l) = Lru.gs fa fd k (col l))
      ∧ ∀ (t : Fin 2048) (l : Fin 512), 2048 ≤ t.val + k →
        (v.read (Elt Ideal) (v.writes (Elt Ideal) f (st_k2_t1 (F := Ideal) 𝒱 c bd i a1 h1 a2 h2 a3 h3 a4 h4 a5 h5 X1 X2 X3 k2_pay1 k).2.1) (ix2 t l)
          = if t.val = 0 then 0 else (fd t (col l) + Lru.gs fa fd (2047 - t.val) (col l)) * Lru.row fh (t.val - 1) (col l))
        ∧ v'.read (Elt Ideal) (v'.writes (Elt Ideal) f' (st_k2_t1 (F := Ideal) 𝒱 c bd i a1 h1 a2 h2 a3 h3 a4 h4 a5 h5 X1 X2 X3 k2_pay1 k).2.2) (ix2 t l)
          = fd t (col l) + Lru.gs fa fd (2047 - t.val) (col l) := by
  intro k
  induction k with
  | zero =>
    refine fun _ => ⟨fun l => ?_, fun t l h => absurd h (by have := t.isLt; omega)⟩
    rw [st_k2_t1_zero]
    unfold k2_pay1
    pointwise
    rfl
  | succ k ih =>
    intro hk
    have hk' : k < k2_t1_loop.trips := hk
    have hk2 : k < 2048 := Nat.lt_of_lt_of_le hk' k2_t1_abs.2.1
    have hr : 2047 - k < 2048 := by omega
    have hp : 2046 - k < 2048 := by omega
    obtain ⟨ihc, ihw⟩ := ih (Nat.le_of_lt hk')
    have e := st_k2_t1_succ (F := Ideal) 𝒱 c bd i a1 h1 a2 h2 a3 h3 a4 h4 a5 h5 X1 X2 X3 k2_pay1 ⟨k, hk'⟩
    rw [show ((⟨k, hk'⟩ : Fin k2_t1_loop.trips).val) = k from rfl] at e
    have e3 : ∀ l, own a3 X3 ⟨k, hk'⟩ (ix2 0 l) = fd ⟨2047 - k, hr⟩ (col l) := fun l =>
      (load_row a3.view X3 _ ⟨2047 - k, hr⟩ (k2_off1_eq ⟨k, hk'⟩) l).trans (hX3 _ l)
    have e1 : ∀ l, own a1 X1 ⟨k, hk'⟩ (ix2 0 l) = fa ⟨2047 - k, hr⟩ (col l) := fun l =>
      (load_row a1.view X1 _ ⟨2047 - k, hr⟩ (k2_off1_eq ⟨k, hk'⟩) l).trans (hX1 _ l)
    have e2 : ∀ l, prv a2 X2 ⟨k, hk'⟩ (ix2 0 l) = fh ⟨2046 - k, hp⟩ (col l) := fun l =>
      (load_row a2.view X2 _ ⟨2046 - k, hp⟩ (off2_eq ⟨k, hk'⟩) l).trans (hX2 _ l)
    rw [tripR2, tripL2] at e
    rw [e]
    refine ⟨fun l => ?_, fun t l ht => ?_⟩
    · dsimp only
      rw [pay2_c, e1, e3, ihc, gs_next, row_of_lt fa ⟨2047 - k, hr⟩ _ rfl, row_of_lt fd ⟨2047 - k, hr⟩ _ rfl]
    · dsimp only
      rw [List.singleton_append, List.singleton_append]
      by_cases h : 2048 ≤ t.val + k
      · have hn : 2047 - k + 1 ≤ t.val := by omega
        exact ⟨(View.read_writes_cons_rows_of_not_mem v f _ _ _ (ix2 t l) (k2_off1_eq ⟨k, hk'⟩) (W := 1) rfl (Or.inr hn)).trans (ihw t l h).1,
          (View.read_writes_cons_rows_of_not_mem v' f' _ _ _ (ix2 t l) (k2_off1_eq ⟨k, hk'⟩) (W := 1) rfl (Or.inr hn)).trans (ihw t l h).2⟩
      · have hn : t.val = 2047 - k := by omega
        have hm : k = 2047 - t.val := by omega
        have ht' : (⟨2047 - k, hr⟩ : Fin 2048) = t := Fin.ext hn.symm
        refine ⟨(View.read_writes_cons_rows_of_mem v f _ _ _ (ix2 t l) (ix2 (0 : Fin 1) l) (k2_off1_eq ⟨k, hk'⟩) hn rfl).trans ?_,
          (View.read_writes_cons_rows_of_mem v' f' _ _ _ (ix2 t l) (ix2 (0 : Fin 1) l) (k2_off1_eq ⟨k, hk'⟩) hn rfl).trans ?_⟩
        · refine (pay2_a ⟨k, hk'⟩ _ _ _ l).trans ?_
          rw [e2, e3, ihc, ht', ← hm]
          by_cases h0 : t.val = 0
          · rw [if_neg (show ¬ k < 2047 by omega), if_pos h0]
          · rw [if_pos (show k < 2047 by omega), if_neg h0, row_of_lt fh ⟨2046 - k, hp⟩ _ (show t.val - 1 = 2046 - k by omega)]
        · refine (pay2_g _ _ l).trans ?_
          rw [e3, ihc, ht', ← hm]

end Bwd

variable (V : (c : Dev nD) → (b : Ref sig .tc) → Buf (Elt Ideal) ((c : Thread nD τ).loc b)) (c : Dev nD)

/-- Column `l` of block `n`. -/
def cb (n : Fin 2) (l : Fin 512) : Fin 1024 := ⟨512 * n.val + l.val, by have := n.isLt; have := l.isLt; omega⟩

theorem idx1 : ∀ t : Fin cfg1.N, win1_0.index t = ![0, t.val] ∧ win1_1.index t = ![0, t.val] ∧ win1_2.index t = ![0, t.val] :=
  (by decide +kernel : ∀ t : Fin grid1.N, _)
theorem idx2 : ∀ t : Fin cfg2.N, win2_0.index t = ![0, t.val] ∧ win2_1.index t = ![0, t.val] ∧ win2_2.index t = ![0, t.val]
    ∧ win2_3.index t = ![0, t.val] ∧ win2_4.index t = ![0, t.val] :=
  (by decide +kernel : ∀ t : Fin grid2.N, _)

/-- All 2048 trips are made. -/
theorem trips1 : k1_t1_loop.trips = 2048 := by decide +kernel
theorem trips2 : k2_t1_loop.trips = 2048 := by decide +kernel

section Reg
variable (fa fb fd : Fin 2048 → Fin 1024 → EReal)

/-- The forward scan's array: row `t` is the state after row `t`. -/
theorem reg1_h (hA : V c main_v0_0 = fun i => fa (i 0) (i 1)) (hB : V c main_v0_1 = fun i => fb (i 0) (i 1)) :
    (dat1 V c).arrAt 2 cfg1.N = fun i => Lru.hs fa fb ((i 0).val + 1) (i 1) := by
  refine (dat1 V c).arrAt_eq_of_covers 2 _ (by decide +kernel) fun t hf y => ?_
  blk_simp
  rw [after1_2]
  unfold outsAt1 out1_A_2 kernelRun1_A
  refine (congrArg _ (ix2_eta y)).trans ((((fwd_state Variants.none c none (grid1.coords t) (ms1_0 t) (hs1_0 t) (ms1_1 t) (hs1_1 t) (ms1_2 t) (hs1_2 t)
    ((hs1_0 t).unread (iblk1 V c 0 t)) ((hs1_1 t).unread (iblk1 V c 1 t)) fa fb (cb ⟨t.val, t.isLt⟩) ?_ ?_ VO1_2 VO1_2.junk
    k1_t1_loop.trips (le_refl _)).2 (y 0) (y 1) (by rw [trips1]; exact (y 0).isLt))).trans ?_)
  · intro s l
    rw [(hs1_0 t).read_unread]
    refine Eq.trans ?_ (congrFun hA (ix2 s (cb ⟨t.val, t.isLt⟩ l)))
    unfold cb
    blk_ext! [iblk1, idx1 t]
  · intro s l
    rw [(hs1_1 t).read_unread]
    refine Eq.trans ?_ (congrFun hB (ix2 s (cb ⟨t.val, t.isLt⟩ l)))
    unfold cb
    blk_ext! [iblk1, idx1 t]
  · refine congr (congrArg (Lru.hs fa fb) ?_) (Fin.ext ?_)
    · blk_simp [idx1 t]
    · unfold cb
      blk_simp [idx1 t]
      exact congrArg (· + (y 1).val) (Nat.mul_comm _ _)

variable (hA : V c main_v0_0 = fun i => fa (i 0) (i 1)) (hH : V c main_v1 = fun i => Lru.hs fa fb ((i 0).val + 1) (i 1))
  (hD : V c main_arg6 = fun i => fd (i 0) (i 1))
include hA hH hD

/-- What both outputs' blocks hold after the backward scan at point `t`. -/
theorem reg2_rows (t : Fin cfg2.N) {κ κ' : Kind} {sp sp' : Space} (v : View sig κ sp S2048x512 .f32) (f : v.ty.Contents (Elt Ideal))
    (v' : View sig κ' sp' S2048x512 .f32) (f' : v'.ty.Contents (Elt Ideal)) (r : Fin 2048) (l : Fin 512) :
    (v.read (Elt Ideal) (v.writes (Elt Ideal) f (st_k2_t1 (F := Ideal) Variants.none c none (grid2.coords t) (ms2_0 t) (hs2_0 t) (ms2_1 t) (hs2_1 t)
        (ms2_2 t) (hs2_2 t) (ms2_3 t) (hs2_3 t) (ms2_4 t) (hs2_4 t) ((hs2_0 t).unread (iblk2 V c 0 t)) ((hs2_1 t).unread (iblk2 V c 1 t))
        ((hs2_2 t).unread (iblk2 V c 2 t)) k2_pay1 k2_t1_loop.trips).2.1) (ix2 r l)
      = (fd r (cb ⟨t.val, t.isLt⟩ l) + Lru.gs fa fd (2047 - r.val) (cb ⟨t.val, t.isLt⟩ l)) * Lru.hs fa fb r.val (cb ⟨t.val, t.isLt⟩ l))
    ∧ v'.read (Elt Ideal) (v'.writes (Elt Ideal) f' (st_k2_t1 (F := Ideal) Variants.none c none (grid2.coords t) (ms2_0 t) (hs2_0 t) (ms2_1 t) (hs2_1 t)
        (ms2_2 t) (hs2_2 t) (ms2_3 t) (hs2_3 t) (ms2_4 t) (hs2_4 t) ((hs2_0 t).unread (iblk2 V c 0 t)) ((hs2_1 t).unread (iblk2 V c 1 t))
        ((hs2_2 t).unread (iblk2 V c 2 t)) k2_pay1 k2_t1_loop.trips).2.2) (ix2 r l)
      = fd r (cb ⟨t.val, t.isLt⟩ l) + Lru.gs fa fd (2047 - r.val) (cb ⟨t.val, t.isLt⟩ l) := by
  have e := ((bwd_state Variants.none c none (grid2.coords t) (ms2_0 t) (hs2_0 t) (ms2_1 t) (hs2_1 t) (ms2_2 t) (hs2_2 t) (ms2_3 t) (hs2_3 t)
    (ms2_4 t) (hs2_4 t) ((hs2_0 t).unread (iblk2 V c 0 t)) ((hs2_1 t).unread (iblk2 V c 1 t)) ((hs2_2 t).unread (iblk2 V c 2 t))
    fa (fun s j => Lru.hs fa fb (s.val + 1) j) fd (cb ⟨t.val, t.isLt⟩) ?_ ?_ ?_ v f v' f' k2_t1_loop.trips (le_refl _)).2 r l (by rw [trips2]; omega))
  · refine ⟨e.1.trans ?_, e.2⟩
    by_cases h : r.val = 0
    · rw [if_pos h, h]
      exact (mul_zero _).symm
    · have hr := r.isLt
      rw [if_neg h, row_of_lt _ ⟨r.val - 1, by omega⟩ _ rfl]
      show _ * Lru.hs fa fb (r.val - 1 + 1) _ = _
      rw [Nat.sub_add_cancel (Nat.one_le_iff_ne_zero.mpr h)]
  · intro s l
    rw [(hs2_0 t).read_unread]
    refine Eq.trans ?_ (congrFun hA (ix2 s (cb ⟨t.val, t.isLt⟩ l)))
    unfold cb
    blk_ext! [iblk2, idx2 t]
  · intro s l
    rw [(hs2_1 t).read_unread]
    refine Eq.trans ?_ (congrFun hH (ix2 s (cb ⟨t.val, t.isLt⟩ l)))
    unfold cb
    blk_ext! [iblk2, idx2 t]
  · intro s l
    rw [(hs2_2 t).read_unread]
    refine Eq.trans ?_ (congrFun hD (ix2 s (cb ⟨t.val, t.isLt⟩ l)))
    unfold cb
    blk_ext! [iblk2, idx2 t]

/-- The backward scan's array of decay cotangents. -/
theorem reg2_a : (dat2 V c).arrAt 3 cfg2.N
    = fun i => (fd (i 0) (i 1) + Lru.gs fa fd (2047 - (i 0).val) (i 1)) * Lru.hs fa fb (i 0).val (i 1) := by
  refine (dat2 V c).arrAt_eq_of_covers 3 _ (by decide +kernel) fun t hf y => ?_
  blk_simp
  rw [after2_3]
  unfold outsAt2 out2_A_3 kernelRun2_A
  refine (congrArg _ (ix2_eta y)).trans ((reg2_rows V c fa fb fd hA hH hD t VO2_3 VO2_3.junk VO2_4 VO2_4.junk (y 0) (y 1)).1.trans ?_)
  have e0 : y 0 = ((win2_3.blk t).view.emb y 0) := Fin.ext (by blk_simp [idx2 t])
  have e1 : cb ⟨t.val, t.isLt⟩ (y 1) = ((win2_3.blk t).view.emb y 1) := Fin.ext (by
    unfold cb; blk_simp [idx2 t]; exact congrArg (· + (y 1).val) (Nat.mul_comm _ _))
  have z : win2_3.index t 0 = 0 := congrFun (idx2 t).2.2.2.1 0
  rw [z, Nat.zero_mul, Nat.zero_add, ← e1, ← e0]

/-- The backward scan's array of input cotangents. -/
theorem reg2_b : (dat2 V c).arrAt 4 cfg2.N = fun i => fd (i 0) (i 1) + Lru.gs fa fd (2047 - (i 0).val) (i 1) := by
  refine (dat2 V c).arrAt_eq_of_covers 4 _ (by decide +kernel) fun t hf y => ?_
  blk_simp
  rw [after2_4]
  unfold outsAt2 out2_A_4 kernelRun2_A
  refine (congrArg _ (ix2_eta y)).trans ((reg2_rows V c fa fb fd hA hH hD t VO2_3 VO2_3.junk VO2_4 VO2_4.junk (y 0) (y 1)).2.trans ?_)
  have e0 : y 0 = ((win2_4.blk t).view.emb y 0) := Fin.ext (by blk_simp [idx2 t])
  have e1 : cb ⟨t.val, t.isLt⟩ (y 1) = ((win2_4.blk t).view.emb y 1) := Fin.ext (by
    unfold cb; blk_simp [idx2 t]; exact congrArg (· + (y 1).val) (Nat.mul_comm _ _))
  have z : win2_4.index t 0 = 0 := congrFun (idx2 t).2.2.2.2 0
  rw [z, Nat.zero_mul, Nat.zero_add, ← e1, ← e0]

end Reg
end Cert.KValue
end
-- ==== Proof.Finite.lean ====
/-
  Where every entry of the call's arguments is a real number, so is every quantity of the gradient. The decays lie strictly
  under 1 (the gates and the softplus of the parameter are positive), so the quotient by the input's scale is a quotient of
  reals by a positive one. One use: the kernel negates the parameter's gradient block by block, the reference once.
-/
module
public import proofs.«01_k».proof.Proof.Spec
public import Idealize.ShloMosaic.Lib.IdealHost
@[expose] public section
noncomputable section
namespace Cert.Lru
open Idealize.ShloMosaic
open scoped BigOperators

/-- A real number among the extended reals. -/
def Rl (x : EReal) : Prop := ∃ r : ℝ, x = r

namespace Rl
variable {x y : EReal}
theorem coe (r : ℝ) : Rl r := ⟨r, rfl⟩
theorem zero : Rl 0 := ⟨0, rfl⟩
theorem one : Rl 1 := ⟨1, rfl⟩
theorem add : Rl x → Rl y → Rl (x + y) := by rintro ⟨a, rfl⟩ ⟨b, rfl⟩; exact ⟨a + b, (EReal.coe_add a b).symm⟩
theorem mul : Rl x → Rl y → Rl (x * y) := by rintro ⟨a, rfl⟩ ⟨b, rfl⟩; exact ⟨a * b, (EReal.coe_mul a b).symm⟩
theorem neg : Rl x → Rl (-x) := by rintro ⟨a, rfl⟩; exact ⟨-a, (EReal.coe_neg a).symm⟩
theorem sub : Rl x → Rl y → Rl (x - y) := by rintro ⟨a, rfl⟩ ⟨b, rfl⟩; exact ⟨a - b, (EReal.coe_sub a b).symm⟩
theorem max : Rl x → Rl y → Rl (Max.max x y) := fun hx hy => by
  rcases max_choice x y with h | h <;> rw [h] <;> assumption
theorem ite {p : Prop} [Decidable p] (hx : Rl x) (hy : Rl y) : Rl (if p then x else y) := by split <;> assumption
theorem exp : Rl x → Rl (Ideal.exp x) := by rintro ⟨a, rfl⟩; exact ⟨Real.exp a, rfl⟩
theorem sum {ι : Type} (s : Finset ι) (f : ι → EReal) (h : ∀ i, Rl (f i)) : Rl (∑ i ∈ s, f i) := by
  classical
  induction s using Finset.induction_on with
  | empty => rw [Finset.sum_empty]; exact zero
  | insert a s ha ih => rw [Finset.sum_insert ha]; exact (h a).add ih
end Rl

/-- A finite sum of reals, among the extended reals. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty]; rfl
  | insert a s ha ih => rw [Finset.sum_insert ha, Finset.sum_insert ha, EReal.coe_add, ih]

/-- Over the reals the negation and the factor go out of a sum. -/
theorem sum_neg_mul {ι : Type} (s : Finset ι) (f : ι → EReal) (d : EReal) (hf : ∀ i, Rl (f i)) (hd : Rl d) :
    ∑ i ∈ s, -(f i * d) = -((∑ i ∈ s, f i) * d) := by
  choose g hg using hf
  obtain ⟨e, rfl⟩ := hd
  have e1 : ∀ i, -(f i * (e : EReal)) = ((-(g i * e) : ℝ) : EReal) := fun i => by rw [hg, EReal.coe_neg, EReal.coe_mul]
  rw [Finset.sum_congr rfl fun i _ => e1 i, Finset.sum_congr rfl fun i _ => hg i]
  rw [← coe_sum, ← coe_sum, ← EReal.coe_mul, ← EReal.coe_neg, Finset.sum_neg_distrib, Finset.sum_mul]

theorem two_eq : two = ((2 : ℝ) : EReal) := by unfold two; simp [Ideal.ofBits, Ideal.ieee, -EReal.coe_mul]; norm_num
theorem half_eq : half = ((1 / 2 : ℝ) : EReal) := by unfold half; simp [Ideal.ofBits, Ideal.ieee, -EReal.coe_mul]; norm_num
theorem m8_eq : m8 = ((-8 : ℝ) : EReal) := by unfold m8; simp [Ideal.ofBits, Ideal.ieee, -EReal.coe_mul, -EReal.coe_neg]; norm_num
theorem inf_eq : inf = ⊤ := by unfold inf; simp [Ideal.ofBits, Ideal.ieee]

/-- The softplus of a real is a positive real. -/
theorem sp_pos (d : ℝ) : ∃ r : ℝ, 0 < r ∧ sp d = r := by
  have hm : (Max.max (d : EReal) (-(d : EReal))) = ((max d (-d) : ℝ) : EReal) := by rw [← EReal.coe_neg]; exact (EReal.coe_strictMono.monotone.map_max).symm
  have h0 : (Max.max (d : EReal) 0) = ((max d 0 : ℝ) : EReal) := (EReal.coe_strictMono.monotone.map_max).symm
  have hp := Real.exp_pos (-max d (-d))
  refine ⟨max d 0 + Real.log (1 + Real.exp (-max d (-d))), ?_, ?_⟩
  · exact add_pos_of_nonneg_of_pos (le_max_right _ _) (Real.log_pos (by linarith))
  · unfold sp Ideal.log1p
    rw [if_neg (by simp), hm, h0, ← EReal.coe_neg, EReal.coe_add]
    congr 1
    show Ideal.log (1 + ((Real.exp (-max d (-d)) : ℝ) : EReal)) = _
    rw [show (1 : EReal) + ((Real.exp (-max d (-d)) : ℝ) : EReal) = ((1 + Real.exp (-max d (-d)) : ℝ) : EReal) from (EReal.coe_add _ _).symm]
    show (if 1 + Real.exp (-max d (-d)) ≤ 0 then ⊥ else ((Real.log (1 + Real.exp (-max d (-d))) : ℝ) : EReal)) = _
    rw [if_neg (by linarith)]

/-- The call's arguments are reals. -/
structure Fin' (A : Args) : Prop where
  x : ∀ t j, Rl (A.x t j)
  wx : ∀ h i k, Rl (A.wx h i k)
  wa : ∀ h i k, Rl (A.wa h i k)
  bx : ∀ j, Rl (A.bx j)
  ba : ∀ j, Rl (A.ba j)
  lam : ∀ j, Rl (A.lam j)
  dh : ∀ t j, Rl (A.dh t j)

variable {A : Args} (H : Fin' A) (t : Fin 2048) (j : Fin 1024)
include H

theorem rl_pre (w : Fin 4 → Fin 256 → Fin 256 → EReal) (b : Fin 1024 → EReal) (hw : ∀ h i k, Rl (w h i k)) (hb : ∀ j, Rl (b j)) : Rl (pre A w b t j) :=
  (Rl.sum _ _ fun i => (H.x _ _).mul (hw _ _ _)).add (hb j)
theorem rl_gx : Rl (gx A t j) := by
  unfold gx
  obtain ⟨p, hp⟩ := rl_pre H t j _ _ H.wx H.bx
  rw [hp, Ideal.logistic_coe]; exact .coe _
theorem pos_ga : ∃ r : ℝ, 0 < r ∧ ga A t j = r := by
  unfold ga
  obtain ⟨p, hp⟩ := rl_pre H t j _ _ H.wa H.ba
  rw [hp, Ideal.logistic_coe]
  exact ⟨_, inv_pos.mpr (by have := Real.exp_pos (-p); linarith), rfl⟩
theorem pos_sp : ∃ r : ℝ, 0 < r ∧ sp (-A.lam j) = r := by
  obtain ⟨l, hl⟩ := H.lam j
  rw [hl, ← EReal.coe_neg]
  exact sp_pos _
theorem rl_dsp : Rl (dsp (-A.lam j)) := by
  obtain ⟨s, -, hs⟩ := pos_sp H j
  unfold dsp
  exact Rl.exp (.sub (.ite .zero (H.lam j).neg) (.ite .zero (hs ▸ .coe s)))
theorem rl_ga8 : Rl (ga8 A t j) := by
  obtain ⟨g, -, hg⟩ := pos_ga H t j
  unfold ga8
  rw [hg, m8_eq]; exact (Rl.coe _).mul (.coe _)
theorem neg_la : ∃ r : ℝ, r < 0 ∧ la A t j = r := by
  obtain ⟨g, g0, hg⟩ := pos_ga H t j
  obtain ⟨s, s0, hs⟩ := pos_sp H j
  refine ⟨-8 * g * s, by have := mul_pos g0 s0; nlinarith, ?_⟩
  unfold la ga8
  rw [hg, hs, m8_eq, ← EReal.coe_mul, ← EReal.coe_mul]
theorem rl_a : Rl (a A t j) := by
  obtain ⟨l, -, hl⟩ := neg_la H t j
  unfold a; rw [hl]; exact (Rl.coe _).exp
theorem e2_lt : ∃ r : ℝ, r < 1 ∧ e2 A t j = r := by
  obtain ⟨l, l0, hl⟩ := neg_la H t j
  refine ⟨Real.exp (2 * l), (by rw [← Real.exp_zero]; exact Real.exp_lt_exp.mpr (by linarith)), ?_⟩
  unfold e2
  rw [hl, two_eq, ← EReal.coe_mul]
  rfl
theorem rt_pos : ∃ r : ℝ, 0 < r ∧ rt A t j = r := by
  obtain ⟨e, e0, he⟩ := e2_lt H t j
  refine ⟨Real.sqrt (1 - e), Real.sqrt_pos.mpr (by linarith), ?_⟩
  unfold rt
  rw [he, show (1 : EReal) - (e : EReal) = ((1 - e : ℝ) : EReal) from (EReal.coe_sub _ _).symm, Ideal.sqrt_coe, if_neg (by linarith)]
theorem rl_half : Rl (Ideal.div half (rt A t j)) := by
  obtain ⟨r, r0, hr⟩ := rt_pos H t j
  rw [hr, Ideal.div_coe (ne_of_gt r0), half_eq]; exact (Rl.coe _).mul (.coe _)
theorem rl_mult : Rl (mult A t j) := by
  obtain ⟨r, r0, hr⟩ := rt_pos H t j
  unfold mult; rw [hr]; exact .ite .one (.coe r)
theorem rl_bin : Rl (bin A t j) := ((H.x t j).mul (rl_gx H t j)).mul (rl_mult H t j)
omit H in
theorem rl_row (f : Fin 2048 → Fin 1024 → EReal) (h : ∀ t j, Rl (f t j)) (n : ℕ) : Rl (row f n j) := by
  unfold row; split
  · exact h _ _
  · exact .zero
theorem rl_hs (n : ℕ) : Rl (hs (a A) (bin A) n j) := by
  induction n with
  | zero => exact .zero
  | succ n ih => exact ((rl_row j _ (rl_a H) n).mul ih).add (rl_row j _ (rl_bin H) n)
theorem rl_gs (n : ℕ) : Rl (gs (a A) A.dh n j) := by
  induction n with
  | zero => exact .zero
  | succ n ih => exact (rl_row j _ (rl_a H) _).mul ((rl_row j _ H.dh _).add ih)
theorem rl_db : Rl (db A t j) := (H.dh t j).add (rl_gs H j _)
theorem rl_da : Rl (da A t j) := (rl_db H t j).mul (rl_hs H j _)
theorem rl_dl : Rl (dl A (da A) (db A) t j) := by
  obtain ⟨e, -, he⟩ := e2_lt H t j
  unfold dl q
  rw [he, two_eq]
  exact ((Rl.coe _).mul ((Rl.mul (.ite .zero (((H.x t j).mul (rl_gx H t j)).mul (rl_db H t j))) (rl_half H t j)).neg.mul (.coe e))).add
    ((rl_da H t j).mul (rl_a H t j))

end Cert.Lru
-- ==== Proof.KRun.lean ====
/-
  The kernel program's run and what it leaves: every buffer that holds a tensor value ends at the fold of the four kernels'
  writes over the launch contents (`run_fold`), and there the six results are the gradients of Spec; the parameter's, as the
  kernel adds it up, is Spec's where the arguments are reals.
-/
module
public import proofs.«01_k».proof.Proof.KReg3
public import proofs.«01_k».proof.Proof.KScan
public import proofs.«01_k».proof.Proof.Finite
@[expose] public section
set_option maxRecDepth 16384
noncomputable section
namespace Cert.KValue
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lru (Args)

section
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution ends with every tensor buffer at the fold. -/
theorem run_fold : θ_run defs (onTc (τ := τ) (main (F := F))) ⟨m, fun _ => 0, ρ⟩ (fun r => ∀ (c : Dev nD) (b : Ref sig .tc),
      (Proc.devRef .tc b : DevRef τ sig).isScoped = false → r.2.mem ((c.tc : Thread nD τ).loc b) = W4 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ c b hb => h c _ (mem_uc b (by rw [hb]; exact Bool.false_ne_true)))
end

variable (m : (ℓ : Loc nD τ sig) → Buf (Elt Ideal) ℓ) (ρ : Dev nD → PrngReg) (c : Dev nD)

/-- The launch's arguments by coordinates. -/
abbrev args : Args := argsK c (V0 m ρ c)

theorem args3 : argsK c (V3 m ρ c) = args m ρ c := by
  have h : ∀ a ∈ argRefs, V3 m ρ c a = V0 m ρ c a := fun a ha => (W3_args m ρ c a ha).trans (W0_args m ρ c a ha).symm
  unfold args argsK
  rw [h main_arg0 (by decide), h main_arg1 (by decide), h main_arg2 (by decide), h main_arg3 (by decide), h main_arg4 (by decide), h main_arg5 (by decide), h main_arg6 (by decide)]

theorem v1_a : V1 m ρ c main_v0_0 = fun i => Lru.a (args m ρ c) (i 0) (i 1) := (W1_arr m ρ c 6).trans (reg0_a (V0 m ρ) c)
theorem v1_b : V1 m ρ c main_v0_1 = fun i => Lru.bin (args m ρ c) (i 0) (i 1) := (W1_arr m ρ c 7).trans (reg0_b (V0 m ρ) c)
theorem v2_h : V2 m ρ c main_v1 = fun i => Lru.hs (Lru.a (args m ρ c)) (Lru.bin (args m ρ c)) ((i 0).val + 1) (i 1) :=
  (W2_arr m ρ c 2).trans (reg1_h (V1 m ρ) c _ _ (v1_a m ρ c) (v1_b m ρ c))
theorem v2_a : V2 m ρ c main_v0_0 = fun i => Lru.a (args m ρ c) (i 0) (i 1) := (W2_of m ρ c main_v0_0 (by decide)).trans (v1_a m ρ c)
theorem v2_d : V2 m ρ c main_arg6 = fun i => (args m ρ c).dh (i 0) (i 1) :=
  ((W2_args m ρ c main_arg6 (by decide)).trans (W0_args m ρ c main_arg6 (by decide)).symm).trans (funext fun i => congrArg _ (ix2_eta i))
theorem v3_a : V3 m ρ c main_v2_0 = fun i => Lru.da (args m ρ c) (i 0) (i 1) :=
  (W3_arr m ρ c 3).trans (reg2_a (V2 m ρ) c _ _ _ (v2_a m ρ c) (v2_h m ρ c) (v2_d m ρ c))
theorem v3_b : V3 m ρ c main_v2_1 = fun i => Lru.db (args m ρ c) (i 0) (i 1) :=
  (W3_arr m ρ c 4).trans (reg2_b (V2 m ρ) c _ _ _ (v2_a m ρ c) (v2_h m ρ c) (v2_d m ρ c))

theorem out_dx : W4 m ρ c (Proc.devRef .tc main_v3_0) = fun i => Lru.gdx (args m ρ c) (Lru.da (args m ρ c)) (Lru.db (args m ρ c)) (i 0) (i 1) := by
  rw [← args3]
  exact (W4_arr m ρ c 8).trans (reg3_dx (V3 m ρ) c _ _ (by rw [args3]; exact v3_a m ρ c) (by rw [args3]; exact v3_b m ρ c))
theorem out_wx : W4 m ρ c (Proc.devRef .tc main_v3_1) = fun i => Lru.gwx (args m ρ c) (Lru.db (args m ρ c)) (i 0) (i 1) (i 2) := by
  rw [← args3]
  exact (W4_arr m ρ c 9).trans (reg3_wx (V3 m ρ) c _ (by rw [args3]; exact v3_b m ρ c))
theorem out_wa : W4 m ρ c (Proc.devRef .tc main_v3_2) = fun i => Lru.gwa (args m ρ c) (Lru.da (args m ρ c)) (Lru.db (args m ρ c)) (i 0) (i 1) (i 2) := by
  rw [← args3]
  exact (W4_arr m ρ c 10).trans (reg3_wa (V3 m ρ) c _ _ (by rw [args3]; exact v3_a m ρ c) (by rw [args3]; exact v3_b m ρ c))
theorem out_bx : W4 m ρ c (Proc.devRef .tc main_v3_3) = fun i => Lru.gbx (args m ρ c) (Lru.db (args m ρ c)) (i 1) := by
  rw [← args3]
  exact (W4_arr m ρ c 11).trans (reg3_bx (V3 m ρ) c _ (by rw [args3]; exact v3_b m ρ c))
theorem out_ba : W4 m ρ c (Proc.devRef .tc main_v3_4) = fun i => Lru.gba (args m ρ c) (Lru.da (args m ρ c)) (Lru.db (args m ρ c)) (i 1) := by
  rw [← args3]
  exact (W4_arr m ρ c 12).trans (reg3_ba (V3 m ρ) c _ _ (by rw [args3]; exact v3_a m ρ c) (by rw [args3]; exact v3_b m ρ c))
/-- Where the arguments are reals, the blocks' negated sums are the whole sum negated. -/
theorem out_lam (H : Lru.Fin' (args m ρ c)) :
    W4 m ρ c (Proc.devRef .tc main_v3_5) = fun i => Lru.glam (args m ρ c) (Lru.da (args m ρ c)) (Lru.db (args m ρ c)) (i 1) := by
  refine ((W4_arr m ρ c 13).trans (reg3_lam (V3 m ρ) c _ _ (v3_a m ρ c) (v3_b m ρ c))).trans (funext fun i => ?_)
  rw [args3]
  refine (Lru.sum_neg_mul _ (fun p => ∑ r : Fin 256, Lru.ga8 (args m ρ c) (rw8 (bk p) r) (i 1) * Lru.dl (args m ρ c) (Lru.da (args m ρ c)) (Lru.db (args m ρ c)) (rw8 (bk p) r) (i 1)) _
    (fun p => Lru.Rl.sum _ _ fun r => (Lru.rl_ga8 H _ _).mul (Lru.rl_dl H _ _)) (Lru.rl_dsp H _)).trans ?_
  exact congrArg (fun z => -(z * _)) (sum_rows fun t => Lru.ga8 (args m ρ c) t (i 1) * Lru.dl (args m ρ c) (Lru.da (args m ρ c)) (Lru.db (args m ρ c)) t (i 1))
end Cert.KValue
-- ==== Proof.PreFin.lean ====
/- The precondition read: where `finite` holds of the launch's arguments, every entry is a real number. -/
module
public import proofs.«01_k».proof.Defs
public import proofs.«01_k».proof.Proof.KRun
public import Idealize.ShloMosaic.Lib.ReduceAll
@[expose] public section
noncomputable section

namespace Cert.Pre_finite
open Idealize.ShloMosaic
/-- The side conditions the precondition's operations take. -/
theorem facts : Facts where
  bcast_S_S2048x1024 := by decide
  reducesTo_S2048x1024_S_d0_1 := by decide
  h_S_ := by decide
  bcast_S_S4x256x256 := by decide
  reducesTo_S4x256x256_S_d0_1_2 := by decide
  bcast_S_S1x1024 := by decide
  reducesTo_S1x1024_S_d0_1 := by decide

/-- An extended real whose magnitude lies under the infinity is a real. -/
theorem rl_of_lt (x y : EReal) (hy : y = ⊤) (h : Ideal.cmp .olt (max x (-x)) y = 1#1) : Lru.Rl x := by
  subst hy
  have h' : max x (-x) < ⊤ := by
    by_contra hn
    unfold Ideal.cmp at h
    simp [hn] at h
  rw [max_lt_iff] at h'
  induction x using EReal.rec with
  | bot => exact absurd h'.2 (by simp)
  | top => exact absurd h'.1 (by simp)
  | coe r => exact ⟨r, rfl⟩

/-- One array's part of the precondition: its conjunction is 1 only where every entry is a real. -/
theorem rl_of_all {s : Shape} {axes : List (Fin s.rank)} (x : FVec Ideal s .f32) (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32))) (constantI S_ 1 1#1) hr hu ValueIdx.ix0 = 1#1)
    (i : s.Idx) : Lru.Rl (x i) := by
  haveI : Subsingleton S_.Idx := ⟨fun a b => funext fun k => k.elim0⟩
  exact rl_of_lt (x i) _ Lru.inf_eq (Host.reduce_andi_all _ _ _ _ _ e i)

theorem and_one (a b : BitVec 1) (h : a &&& b = 1#1) : a = 1#1 ∧ b = 1#1 := by
  revert a b; decide

end Cert.Pre_finite

namespace Cert.KValue
open Cert.KernelIdeal Cert.KernelIdeal.Gen
open Idealize.ShloMosaic Idealize.ShloMosaic.TcCoe
variable (m : (ℓ : Loc nD τ sig) → Buf (Elt Ideal) ℓ) (ρ : Dev nD → PrngReg) (c : Dev nD)

theorem args_real (h : Cert.Pre_KernelIdeal_finite (hPre_finite := Cert.Pre_finite.facts) m) : Lru.Fin' (args m ρ c) := by
  have e := congrFun (h c) ValueIdx.ix0
  unfold Cert.Pre_finite.fn Cert.Pre_finite.fn_part1 at e
  obtain ⟨e, e6⟩ := Cert.Pre_finite.and_one _ _ e
  obtain ⟨e, e5⟩ := Cert.Pre_finite.and_one _ _ e
  obtain ⟨e, e4⟩ := Cert.Pre_finite.and_one _ _ e
  obtain ⟨e, e3⟩ := Cert.Pre_finite.and_one _ _ e
  obtain ⟨e, e2⟩ := Cert.Pre_finite.and_one _ _ e
  obtain ⟨e0, e1⟩ := Cert.Pre_finite.and_one _ _ e
  constructor
  · exact fun t j => Cert.Pre_finite.rl_of_all _ Cert.Pre_finite.facts.bcast_S_S2048x1024 Cert.Pre_finite.facts.reducesTo_S2048x1024_S_d0_1 Cert.Pre_finite.facts.h_S_ e0 _
  · exact fun h i k => Cert.Pre_finite.rl_of_all _ Cert.Pre_finite.facts.bcast_S_S4x256x256 Cert.Pre_finite.facts.reducesTo_S4x256x256_S_d0_1_2 Cert.Pre_finite.facts.h_S_ e1 _
  · exact fun h i k => Cert.Pre_finite.rl_of_all _ Cert.Pre_finite.facts.bcast_S_S4x256x256 Cert.Pre_finite.facts.reducesTo_S4x256x256_S_d0_1_2 Cert.Pre_finite.facts.h_S_ e2 _
  · exact fun j => Cert.Pre_finite.rl_of_all _ Cert.Pre_finite.facts.bcast_S_S1x1024 Cert.Pre_finite.facts.reducesTo_S1x1024_S_d0_1 Cert.Pre_finite.facts.h_S_ e3 _
  · exact fun j => Cert.Pre_finite.rl_of_all _ Cert.Pre_finite.facts.bcast_S_S1x1024 Cert.Pre_finite.facts.reducesTo_S1x1024_S_d0_1 Cert.Pre_finite.facts.h_S_ e4 _
  · exact fun j => Cert.Pre_finite.rl_of_all _ Cert.Pre_finite.facts.bcast_S_S1x1024 Cert.Pre_finite.facts.reducesTo_S1x1024_S_d0_1 Cert.Pre_finite.facts.h_S_ e5 _
  · exact fun t j => Cert.Pre_finite.rl_of_all _ Cert.Pre_finite.facts.bcast_S_S2048x1024 Cert.Pre_finite.facts.reducesTo_S2048x1024_S_d0_1 Cert.Pre_finite.facts.h_S_ e6 _
end Cert.KValue
-- ==== Proof.RefChain.lean ====
/- The reference program's host operations as lists, stretch by stretch, and its `@main` and the two loop bodies as
   chains of those lists. Nothing is proved here but that the lists are the program. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- 39 host operations of @main, window 0 (statements 1 … 60), in order. -/
abbrev main_part0_ops0 : List (HloOp τ sig (Elt F)) :=
  ( StableHlo.reshape main_arg0 main_v0 (rfl : (.f32 : EltTy) = .f32) shapeCasts_S2048x1024_S2048x4x256
  :: StableHlo.binary main_arg1 main_v0 main_v1 ((fun l r => Host.dotGeneral dot_S4x256x256_S2048x4x256_S4x256x2048_1_2_2_0_0_1 none l r) : (⟨S4x256x256, .f32⟩ : BufTy).Contents (Elt F) → (⟨S2048x4x256, .f32⟩ : BufTy).Contents (Elt F) → (⟨S4x256x2048, .f32⟩ : BufTy).Contents (Elt F))
  :: StableHlo.unary main_v1 main_v2 ((transpose S2048x4x256 [2, 0, 1] · transposes_S4x256x2048_S2048x4x256_2_0_1) : (⟨S4x256x2048, .f32⟩ : BufTy).Contents (Elt F) → (⟨S2048x4x256, .f32⟩ : BufTy).Contents (Elt F))
  :: StableHlo.reshape main_v2 main_v3 (rfl : (.f32 : EltTy) = .f32) shapeCasts_S2048x4x256_S2048x1024
  :: StableHlo.unary main_arg3 main_v4 (broadcastInDim S2048x1024 ![0, 1] bcast_S1x1024_S2048x1024_0_1 : (⟨S1x1024, .f32⟩ : BufTy).Contents (Elt F) → (⟨S2048x1024, .f32⟩ : BufTy).Contents (Elt F))
  :: StableHlo.binary main_v3 main_v4 main_v5 (addf : (⟨S2048x1024, .f32⟩ : BufTy).Contents (Elt F) → (⟨S2048x1024, .f32⟩ : BufTy).Contents (Elt F) → (⟨S2048x1024, .f32⟩ : BufTy).Contents (Elt F))
  :: StableHlo.unary main_v5 main_v6 (Host.negf : (⟨S2048x1024, .f32⟩ : BufTy).Contents (Elt F) → (⟨S2048x1024, .f32⟩ : BufTy).Contents (Elt F))
  :: StableHlo.unary main_v6 main_v7 (Host.exp : (⟨S2048x1024, .f32⟩ : BufTy).Contents (Elt F) → (⟨S2048x1024, .f32⟩ : BufTy).Contents (Elt F))
  :: StableHlo.nullary main_cst (constant S_ .f32 0x3F800000#32)
  :: StableHlo.unary main_cst main_v8 (broadcastInDim S2048x1024 ![] bcast_S_S2048x1024 : (⟨S_, .f32⟩ : BufTy).Contents (Elt F) → (⟨S2048x1024, .f32⟩ : BufTy).Contents (Elt F))
  :: StableHlo.binary main_v8 main_v7 main_v9 (addf : (⟨S2048x1024, .f32⟩ : BufTy).Contents (Elt F) → (⟨S2048x1024, .f32⟩ : BufTy).Contents (Elt F) → (⟨S2048x1024, .f32⟩ : BufTy).Contents (Elt F))
  :: StableHlo.nullary main_cst_0 (constant S_ .f32 0x3F800000#32)
  :: StableHlo.unary main_cst_0 main_v10 (broadcastInDim S2048x1024 ![] bcast_S_S2048x1024 : (⟨S_, .f32⟩ : BufTy).Contents (Elt F) → (⟨S2048x1024, .f32⟩ : BufTy).Contents (Elt F))
  :: StableHlo.binary main_v10 main_v9 main_v11 (Host.divf : (⟨S2048x1024, .f32⟩ : BufTy).Contents (Elt F) → (⟨S2048x1024, .f32⟩ : BufTy).Contents (Elt F) → (⟨S2048x1024, .f32⟩ : BufTy).Contents (Elt F))
  :: StableHlo.nullary main_cst_1 (constant S_ .f32 0x3F800000#32)
  :: StableHlo.unary main_cst_1 main_v12 (broadcastInDim S2048x1024 ![] bcast_S_S2048x1024 : (⟨S_, .f32⟩ : BufTy).Contents (Elt F) → (⟨S2048x1024, .f32⟩ : BufTy).Contents (Elt F))
  :: StableHlo.binary main_v12 main_v11 main_v13 (subf : (⟨S2048x1024, .f32⟩ : BufTy).Contents (Elt F) → (⟨S2048x1024, .f32⟩ : BufTy).Contents (Elt F) → (⟨S2048x1024, .f32⟩ : BufTy).Contents (Elt F))
  :: StableHlo.binary main_v11 main_v13 main_v14 (mulf : (⟨S2048x1024, .f32⟩ : BufTy).Contents (Elt F) → (⟨S2048x1024, .f32⟩ : BufTy).Contents (Elt F) → (⟨S2048x1024, .f32⟩ : BufTy).Contents (Elt F))
  :: StableHlo.binary main_arg2 main_v0 main_v15 ((fun l r => Host.dotGeneral dot_S4x256x256_S2048x4x256_S4x256x2048_1_2_2_0_0_1 none l r) : (⟨S4x256x256, .f32⟩ : BufTy).Contents (Elt F) → (⟨S2048x4x256, .f32⟩ : BufTy).Contents (Elt F) → (⟨S4x256x2048, .f32⟩ : BufTy).Contents (Elt F))
  :: StableHlo.unary main_v15 main_v16 ((transpose S2048x4x256 [2, 0, 1] · transposes_S4x256x2048_S2048x4x256_2_0_1) : (⟨S4x256x2048, .f32⟩ : BufTy).Contents (Elt F) → (⟨S2048x4x256, .f32⟩ : BufTy).Contents (Elt F))
  :: StableHlo.reshape main_v16 main_v17 (rfl : (.f32 : EltTy) = .f32) shapeCasts_S2048x4x256_S2048x1024
  :: StableHlo.unary main_arg4 main_v18 (broadcastInDim S2048x1024 ![0, 1] bcast_S1x1024_S2048x1024_0_1 : (⟨S1x1024, .f32⟩ : BufTy).Contents (Elt F) → (⟨S2048x1024, .f32⟩ : BufTy).Contents (Elt F))
  :: StableHlo.binary main_v17 main_v18 main_v19 (addf : (⟨S2048x1024, .f32⟩ : BufTy).Contents (Elt F) → (⟨S2048x1024, .f32⟩ : BufTy).Contents (Elt F) → (⟨S2048x1024, .f32⟩ : BufTy).Contents (Elt F))
  :: StableHlo.unary main_v19 main_v20 (Host.negf : (⟨S2048x1024, .f32⟩ : BufTy).Contents (Elt F) → (⟨S2048x1024, .f32⟩ : BufTy).Contents (Elt F))
  :: StableHlo.unary main_v20 main_v21 (Host.exp : (⟨S2048x1024, .f32⟩ : BufTy).Contents (Elt F) → (⟨S2048x1024, .f32⟩ : BufTy).Contents (Elt F))
  :: StableHlo.nullary main_cst_2 (constant S_ .f32 0x3F800000#32)
  :: StableHlo.unary main_cst_2 main_v22 (broadcastInDim S2048x1024 ![] bcast_S_S2048x1024 : (⟨S_, .f32⟩ : BufTy).Contents (Elt F) → (⟨S2048x1024, .f32⟩ : BufTy).Contents (Elt F))
  :: StableHlo.binary main_v22 main_v21 main_v23 (addf : (⟨S2048x1024, .f32⟩ : BufTy).Contents (Elt F) → (⟨S2048x1024, .f32⟩ : BufTy).Contents (Elt F) → (⟨S2048x1024, .f32⟩ : BufTy).Contents (Elt F))
  :: StableHlo.nullary main_cst_3 (constant S_ .f32 0x3F800000#32)
  :: StableHlo.unary main_cst_3 main_v24 (broadcastInDim S2048x1024 ![] bcast_S_S2048x1024 : (⟨S_, .f32⟩ : BufTy).Contents (Elt F) → (⟨S2048x1024, .f32⟩ : BufTy).Contents (Elt F))
  :: StableHlo.binary main_v24 main_v23 main_v25 (Host.divf : (⟨S2048x1024, .f32⟩ : BufTy).Contents (Elt F) → (⟨S2048x1024, .f32⟩ : BufTy).Contents (Elt F) → (⟨S2048x1024, .f32⟩ : BufTy).Contents (Elt F))
  :: StableHlo.nullary main_cst_4 (constant S_ .f32 0x3F800000#32)
  :: StableHlo.unary main_cst_4 main_v26 (broadcastInDim S2048x1024 ![] bcast_S_S2048x1024 : (⟨S_, .f32⟩ : BufTy).Contents (Elt F) → (⟨S2048x1024, .f32⟩ : BufTy).Contents (Elt F))
  :: StableHlo.binary main_v26 main_v25 main_v27 (subf : (⟨S2048x1024, .f32⟩ : BufTy).Contents (Elt F) → (⟨S2048x1024, .f32⟩ : BufTy).Contents (Elt F) → (⟨S2048x1024, .f32⟩ : BufTy).Contents (Elt F))
  :: StableHlo.binary main_v25 main_v27 main_v28 (mulf : (⟨S2048x1024, .f32⟩ : BufTy).Contents (Elt F) → (⟨S2048x1024, .f32⟩ : BufTy).Contents (Elt F) → (⟨S2048x1024, .f32⟩ : BufTy).Contents (Elt F))
  :: StableHlo.nullary main_cst_5 (constant S_ .f32 0xC1000000#32)
  :: StableHlo.unary main_cst_5 main_v29 (broadcastInDim S2048x1024 ![] bcast_S_S2048x1024 : (⟨S_, .f32⟩ : BufTy).Contents (Elt F) → (⟨S2048x1024, .f32⟩ : BufTy).Contents (Elt F))
  :: StableHlo.binary main_v29 main_v25 main_v30 (mulf : (⟨S2048x1024, .f32⟩ : BufTy).Contents (Elt F) → (⟨S2048x1024, .f32⟩ : BufTy).Contents (Elt F) → (⟨S2048x1024, .f32⟩ : BufTy).Contents (Elt F))
  :: StableHlo.unary main_arg5 main_v31 (Host.negf : (⟨S1x1024, .f32⟩ : BufTy).Contents (Elt F) → (⟨S1x1024, .f32⟩ : BufTy).Contents (Elt F))
  :: [] )
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.reshape_bufs_sub .., StableHlo.binary_bufs_sub .., StableHlo.unary_bufs_sub .., StableHlo.reshape_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.reshape_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub ..⟩
/-- 46 host operations of @softplus (main_call0), window 0 (statements 1 … 60), in order. -/
abbrev main_part0_ops1 : List (HloOp τ sig (Elt F)) :=
  ( StableHlo.TRef.nullary (.of main_call0_cst : StableHlo.TRef sig ⟨S_, .f32⟩) (constant S_ .f32 0x00000000#32)
  :: StableHlo.TRef.unary (.of main_call0_cst : StableHlo.TRef sig ⟨S_, .f32⟩) (.of main_call0_v0 : StableHlo.TRef sig ⟨S1x1024, .f32⟩) (broadcastInDim S1x1024 ![] bcast_S_S1x1024)
  :: StableHlo.TRef.binary (.of main_v31 : StableHlo.TRef sig ⟨S1x1024, .f32⟩) (.of main_call0_v0 : StableHlo.TRef sig ⟨S1x1024, .f32⟩) (.of main_call0_v1 : StableHlo.TRef sig ⟨S1x1024, .f32⟩) maximumf
  :: StableHlo.TRef.unary (.of main_call0_cst : StableHlo.TRef sig ⟨S_, .f32⟩) (.of main_call0_v2 : StableHlo.TRef sig ⟨S1x1024, .f32⟩) (broadcastInDim S1x1024 ![] bcast_S_S1x1024)
  :: StableHlo.TRef.binary (.of main_v31 : StableHlo.TRef sig ⟨S1x1024, .f32⟩) (.of main_call0_v2 : StableHlo.TRef sig ⟨S1x1024, .f32⟩) (.of main_call0_v3 : StableHlo.TRef sig ⟨S1x1024, .f32⟩) subf
  :: StableHlo.TRef.binary (.of main_call0_v3 : StableHlo.TRef sig ⟨S1x1024, .f32⟩) (.of main_call0_v3 : StableHlo.TRef sig ⟨S1x1024, .f32⟩) (.of main_call0_v4 : StableHlo.TRef sig ⟨S1x1024, .i1⟩) (cmpf .une)
  :: StableHlo.TRef.unary (.of main_call0_cst : StableHlo.TRef sig ⟨S_, .f32⟩) (.of main_call0_v5 : StableHlo.TRef sig ⟨S1x1024, .f32⟩) (broadcastInDim S1x1024 ![] bcast_S_S1x1024)
  :: StableHlo.TRef.binary (.of main_v31 : StableHlo.TRef sig ⟨S1x1024, .f32⟩) (.of main_call0_v5 : StableHlo.TRef sig ⟨S1x1024, .f32⟩) (.of main_call0_v6 : StableHlo.TRef sig ⟨S1x1024, .f32⟩) addf
  :: StableHlo.TRef.unary (.of main_call0_v3 : StableHlo.TRef sig ⟨S1x1024, .f32⟩) (.of main_call0_v7 : StableHlo.TRef sig ⟨S1x1024, .f32⟩) Host.absf
  :: StableHlo.TRef.unary (.of main_call0_v7 : StableHlo.TRef sig ⟨S1x1024, .f32⟩) (.of main_call0_v8 : StableHlo.TRef sig ⟨S1x1024, .f32⟩) Host.negf
  :: StableHlo.TRef.unary (.of main_call0_v8 : StableHlo.TRef sig ⟨S1x1024, .f32⟩) (.of main_call0_v9 : StableHlo.TRef sig ⟨S1x1024, .f32⟩) Host.exp
  :: StableHlo.TRef.unary (.of main_call0_v9 : StableHlo.TRef sig ⟨S1x1024, .f32⟩) (.of main_call0_v10 : StableHlo.TRef sig ⟨S1x1024, .f32⟩) Host.log1p
  :: StableHlo.TRef.binary (.of main_call0_v1 : StableHlo.TRef sig ⟨S1x1024, .f32⟩) (.of main_call0_v10 : StableHlo.TRef sig ⟨S1x1024, .f32⟩) (.of main_call0_v11 : StableHlo.TRef sig ⟨S1x1024, .f32⟩) addf
  :: StableHlo.TRef.ternary (.of main_call0_v4 : StableHlo.TRef sig ⟨S1x1024, .i1⟩) (.of main_call0_v6 : StableHlo.TRef sig ⟨S1x1024, .f32⟩) (.of main_call0_v11 : StableHlo.TRef sig ⟨S1x1024, .f32⟩) (.of main_v32_0 : StableHlo.TRef sig ⟨S1x1024, .f32⟩) select
  :: StableHlo.TRef.nullary (.of main_call0_cst_0 : StableHlo.TRef sig ⟨S_, .f32⟩) (constant S_ .f32 0x7F800000#32)
  :: StableHlo.TRef.unary (.of main_call0_cst_0 : StableHlo.TRef sig ⟨S_, .f32⟩) (.of main_call0_v13 : StableHlo.TRef sig ⟨S1x1024, .f32⟩) (broadcastInDim S1x1024 ![] bcast_S_S1x1024)
  :: StableHlo.TRef.binary (.of main_v31 : StableHlo.TRef sig ⟨S1x1024, .f32⟩) (.of main_call0_v13 : StableHlo.TRef sig ⟨S1x1024, .f32⟩) (.of main_call0_v14 : StableHlo.TRef sig ⟨S1x1024, .i1⟩) (cmpf .oeq)
  :: StableHlo.TRef.nullary (.of main_call0_cst_1 : StableHlo.TRef sig ⟨S_, .f32⟩) (constant S_ .f32 0x00000000#32)
  :: StableHlo.TRef.unary (.of main_call0_cst_1 : StableHlo.TRef sig ⟨S_, .f32⟩) (.of main_call0_v15 : StableHlo.TRef sig ⟨S1x1024, .f32⟩) (broadcastInDim S1x1024 ![] bcast_S_S1x1024)
  :: StableHlo.TRef.ternary (.of main_call0_v14 : StableHlo.TRef sig ⟨S1x1024, .i1⟩) (.of main_call0_v15 : StableHlo.TRef sig ⟨S1x1024, .f32⟩) (.of main_v31 : StableHlo.TRef sig ⟨S1x1024, .f32⟩) (.of main_call0_v16 : StableHlo.TRef sig ⟨S1x1024, .f32⟩) select
  :: StableHlo.TRef.nullary (.of main_call0_cst_2 : StableHlo.TRef sig ⟨S_, .f32⟩) (constant S_ .f32 0x7F800000#32)
  :: StableHlo.TRef.unary (.of main_call0_cst_2 : StableHlo.TRef sig ⟨S_, .f32⟩) (.of main_call0_v17 : StableHlo.TRef sig ⟨S1x1024, .f32⟩) (broadcastInDim S1x1024 ![] bcast_S_S1x1024)
  :: StableHlo.TRef.binary (.of main_v32_0 : StableHlo.TRef sig ⟨S1x1024, .f32⟩) (.of main_call0_v17 : StableHlo.TRef sig ⟨S1x1024, .f32⟩) (.of main_call0_v18 : StableHlo.TRef sig ⟨S1x1024, .i1⟩) (cmpf .oeq)
  :: StableHlo.TRef.nullary (.of main_call0_cst_3 : StableHlo.TRef sig ⟨S_, .f32⟩) (constant S_ .f32 0x00000000#32)
  :: StableHlo.TRef.unary (.of main_call0_cst_3 : StableHlo.TRef sig ⟨S_, .f32⟩) (.of main_call0_v19 : StableHlo.TRef sig ⟨S1x1024, .f32⟩) (broadcastInDim S1x1024 ![] bcast_S_S1x1024)
  :: StableHlo.TRef.ternary (.of main_call0_v18 : StableHlo.TRef sig ⟨S1x1024, .i1⟩) (.of main_call0_v19 : StableHlo.TRef sig ⟨S1x1024, .f32⟩) (.of main_v32_0 : StableHlo.TRef sig ⟨S1x1024, .f32⟩) (.of main_call0_v20 : StableHlo.TRef sig ⟨S1x1024, .f32⟩) select
  :: StableHlo.TRef.binary (.of main_call0_v16 : StableHlo.TRef sig ⟨S1x1024, .f32⟩) (.of main_call0_v20 : StableHlo.TRef sig ⟨S1x1024, .f32⟩) (.of main_call0_v21 : StableHlo.TRef sig ⟨S1x1024, .f32⟩) subf
  :: StableHlo.TRef.unary (.of main_call0_v21 : StableHlo.TRef sig ⟨S1x1024, .f32⟩) (.of main_v32_1 : StableHlo.TRef sig ⟨S1x1024, .f32⟩) Host.exp
  :: StableHlo.TRef.nullary (.of main_call0_cst_4 : StableHlo.TRef sig ⟨S_, .f32⟩) (constant S_ .f32 0x00000000#32)
  :: StableHlo.TRef.nullary (.of main_call0_cst_5 : StableHlo.TRef sig ⟨S_, .f32⟩) (constant S_ .f32 0x7F800000#32)
  :: StableHlo.TRef.binary (.of main_call0_cst_4 : StableHlo.TRef sig ⟨S_, .f32⟩) (.of main_call0_cst_5 : StableHlo.TRef sig ⟨S_, .f32⟩) (.of main_call0_v23 : StableHlo.TRef sig ⟨S_, .i1⟩) (cmpf .oeq)
  :: StableHlo.TRef.nullary (.of main_call0_cst_6 : StableHlo.TRef sig ⟨S_, .f32⟩) (constant S_ .f32 0x00000000#32)
  :: StableHlo.TRef.nullary (.of main_call0_cst_7 : StableHlo.TRef sig ⟨S_, .f32⟩) (constant S_ .f32 0x00000000#32)
  :: StableHlo.TRef.ternary (.of main_call0_v23 : StableHlo.TRef sig ⟨S_, .i1⟩) (.of main_call0_cst_7 : StableHlo.TRef sig ⟨S_, .f32⟩) (.of main_call0_cst_6 : StableHlo.TRef sig ⟨S_, .f32⟩) (.of main_call0_v24 : StableHlo.TRef sig ⟨S_, .f32⟩) select
  :: StableHlo.TRef.nullary (.of main_call0_cst_8 : StableHlo.TRef sig ⟨S_, .f32⟩) (constant S_ .f32 0x7F800000#32)
  :: StableHlo.TRef.unary (.of main_call0_cst_8 : StableHlo.TRef sig ⟨S_, .f32⟩) (.of main_call0_v25 : StableHlo.TRef sig ⟨S1x1024, .f32⟩) (broadcastInDim S1x1024 ![] bcast_S_S1x1024)
  :: StableHlo.TRef.binary (.of main_v32_0 : StableHlo.TRef sig ⟨S1x1024, .f32⟩) (.of main_call0_v25 : StableHlo.TRef sig ⟨S1x1024, .f32⟩) (.of main_call0_v26 : StableHlo.TRef sig ⟨S1x1024, .i1⟩) (cmpf .oeq)
  :: StableHlo.TRef.nullary (.of main_call0_cst_9 : StableHlo.TRef sig ⟨S_, .f32⟩) (constant S_ .f32 0x00000000#32)
  :: StableHlo.TRef.unary (.of main_call0_cst_9 : StableHlo.TRef sig ⟨S_, .f32⟩) (.of main_call0_v27 : StableHlo.TRef sig ⟨S1x1024, .f32⟩) (broadcastInDim S1x1024 ![] bcast_S_S1x1024)
  :: StableHlo.TRef.ternary (.of main_call0_v26 : StableHlo.TRef sig ⟨S1x1024, .i1⟩) (.of main_call0_v27 : StableHlo.TRef sig ⟨S1x1024, .f32⟩) (.of main_v32_0 : StableHlo.TRef sig ⟨S1x1024, .f32⟩) (.of main_call0_v28 : StableHlo.TRef sig ⟨S1x1024, .f32⟩) select
  :: StableHlo.TRef.unary (.of main_call0_v24 : StableHlo.TRef sig ⟨S_, .f32⟩) (.of main_call0_v29 : StableHlo.TRef sig ⟨S1x1024, .f32⟩) (broadcastInDim S1x1024 ![] bcast_S_S1x1024)
  :: StableHlo.TRef.binary (.of main_call0_v29 : StableHlo.TRef sig ⟨S1x1024, .f32⟩) (.of main_call0_v28 : StableHlo.TRef sig ⟨S1x1024, .f32⟩) (.of main_call0_v30 : StableHlo.TRef sig ⟨S1x1024, .f32⟩) subf
  :: StableHlo.TRef.unary (.of main_call0_v30 : StableHlo.TRef sig ⟨S1x1024, .f32⟩) (.of main_call0_v31 : StableHlo.TRef sig ⟨S1x1024, .f32⟩) Host.exp
  :: StableHlo.TRef.nullary (.of main_call0_cst_10 : StableHlo.TRef sig ⟨S_, .f32⟩) (constant S_ .f32 0x00000000#32)
  :: StableHlo.TRef.unary (.of main_call0_cst_10 : StableHlo.TRef sig ⟨S_, .f32⟩) (.of main_call0_v32 : StableHlo.TRef sig ⟨S1x1024, .f32⟩) (broadcastInDim S1x1024 ![] bcast_S_S1x1024)
  :: StableHlo.TRef.binary (.of main_call0_v32 : StableHlo.TRef sig ⟨S1x1024, .f32⟩) (.of main_call0_v31 : StableHlo.TRef sig ⟨S1x1024, .f32⟩) (.of main_v32_2 : StableHlo.TRef sig ⟨S1x1024, .f32⟩) mulf
  :: [] )
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.binary_bufs_sub .., StableHlo.unary_bufs_sub .., StableHlo.nullary_bufs_sub .., StableHlo.nullary_bufs_sub .., StableHlo.binary_bufs_sub .., StableHlo.nullary_bufs_sub .., StableHlo.nullary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub ..⟩
/-- 20 host operations of @main, window 0 (statements 1 … 60), in order. -/
abbrev main_part0_ops2 : List (HloOp τ sig (Elt F)) :=
  [ StableHlo.unary main_v32_0 main_v33 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v30 main_v33 main_v34 (mulf : (⟨S2048x1024, .f32⟩ : BufTy).Contents (Elt F) → (⟨S2048x1024, .f32⟩ : BufTy).Contents (Elt F) → (⟨S2048x1024, .f32⟩ : BufTy).Contents (Elt F)),
    StableHlo.unary main_v34 main_v35 (Host.exp : (⟨S2048x1024, .f32⟩ : BufTy).Contents (Elt F) → (⟨S2048x1024, .f32⟩ : BufTy).Contents (Elt F)),
    StableHlo.nullary main_cst_6 (constant S_ .f32 0x40000000#32),
    StableHlo.unary main_cst_6 main_v36 (broadcastInDim S2048x1024 ![] bcast_S_S2048x1024 : (⟨S_, .f32⟩ : BufTy).Contents (Elt F) → (⟨S2048x1024, .f32⟩ : BufTy).Contents (Elt F)),
    StableHlo.binary main_v36 main_v34 main_v37 (mulf : (⟨S2048x1024, .f32⟩ : BufTy).Contents (Elt F) → (⟨S2048x1024, .f32⟩ : BufTy).Contents (Elt F) → (⟨S2048x1024, .f32⟩ : BufTy).Contents (Elt F)),
    StableHlo.unary main_v37 main_v38 (Host.exp : (⟨S2048x1024, .f32⟩ : BufTy).Contents (Elt F) → (⟨S2048x1024, .f32⟩ : BufTy).Contents (Elt F)),
    StableHlo.nullary main_cst_7 (constant S_ .f32 0x3F800000#32),
    StableHlo.unary main_cst_7 main_v39 (broadcastInDim S2048x1024 ![] bcast_S_S2048x1024 : (⟨S_, .f32⟩ : BufTy).Contents (Elt F) → (⟨S2048x1024, .f32⟩ : BufTy).Contents (Elt F)),
    StableHlo.binary main_v39 main_v38 main_v40 (subf : (⟨S2048x1024, .f32⟩ : BufTy).Contents (Elt F) → (⟨S2048x1024, .f32⟩ : BufTy).Contents (Elt F) → (⟨S2048x1024, .f32⟩ : BufTy).Contents (Elt F)),
    StableHlo.unary main_v40 main_v41 (Host.sqrt : (⟨S2048x1024, .f32⟩ : BufTy).Contents (Elt F) → (⟨S2048x1024, .f32⟩ : BufTy).Contents (Elt F)),
    StableHlo.nullary main_cst_8 (constant S_ .f32 0x3F000000#32),
    StableHlo.unary main_cst_8 main_v42 (broadcastInDim S2048x1024 ![] bcast_S_S2048x1024 : (⟨S_, .f32⟩ : BufTy).Contents (Elt F) → (⟨S2048x1024, .f32⟩ : BufTy).Contents (Elt F)),
    StableHlo.binary main_v42 main_v41 main_v43 (Host.divf : (⟨S2048x1024, .f32⟩ : BufTy).Contents (Elt F) → (⟨S2048x1024, .f32⟩ : BufTy).Contents (Elt F) → (⟨S2048x1024, .f32⟩ : BufTy).Contents (Elt F)),
    StableHlo.nullary main_v44 (iotaInDim S2048 32 0),
    StableHlo.nullary main_c (constantI S_ 32 0#32),
    StableHlo.unary main_c main_v45 (broadcastInDim S2048 ![] bcast_S_S2048 : (⟨S_, .i32⟩ : BufTy).Contents (Elt F) → (⟨S2048, .i32⟩ : BufTy).Contents (Elt F)),
    StableHlo.binary main_v44 main_v45 main_v46 (cmpi .eq : (⟨S2048, .i32⟩ : BufTy).Contents (Elt F) → (⟨S2048, .i32⟩ : BufTy).Contents (Elt F) → (⟨S2048, .i1⟩ : BufTy).Contents (Elt F)),
    StableHlo.unary main_v46 main_v47 (broadcastInDim S2048x1 ![0] bcast_S2048_S2048x1_0 : (⟨S2048, .i1⟩ : BufTy).Contents (Elt F) → (⟨S2048x1, .i1⟩ : BufTy).Contents (Elt F)),
    StableHlo.nullary main_cst_9 (constant S_ .f32 0x3F800000#32) ]
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  ⟨StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.nullary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    StableHlo.seq main_part0_ops1 ]
  (StableHlo.seq main_part0_ops2) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

/-- 6 host operations of @_where (main_call1), window 1 (statements 61 … 120), in order. -/
abbrev main_part1_ops0 : List (HloOp τ sig (Elt F)) :=
  [ StableHlo.TRef.unary (.of main_cst_9 : StableHlo.TRef sig ⟨S_, .f32⟩) (.of main_call1_v0 : StableHlo.TRef sig ⟨S_, .f32⟩) id,
    StableHlo.TRef.unary (.of main_v47 : StableHlo.TRef sig ⟨S2048x1, .i1⟩) (.of main_v48_1 : StableHlo.TRef sig ⟨S2048x1024, .i1⟩) (broadcastInDim S2048x1024 ![0, 1] bcast_S2048x1_S2048x1024_0_1),
    StableHlo.TRef.unary (.of main_call1_v0 : StableHlo.TRef sig ⟨S_, .f32⟩) (.of main_call1_v2 : StableHlo.TRef sig ⟨S2048x1024, .f32⟩) (broadcastInDim S2048x1024 ![] bcast_S_S2048x1024),
    StableHlo.TRef.ternary (.of main_v48_1 : StableHlo.TRef sig ⟨S2048x1024, .i1⟩) (.of main_call1_v2 : StableHlo.TRef sig ⟨S2048x1024, .f32⟩) (.of main_v41 : StableHlo.TRef sig ⟨S2048x1024, .f32⟩) (.of main_v48_0 : StableHlo.TRef sig ⟨S2048x1024, .f32⟩) select,
    StableHlo.TRef.nullary (.of main_call1_cst : StableHlo.TRef sig ⟨S_, .f32⟩) (constant S_ .f32 0x00000000#32),
    StableHlo.TRef.unary (.of main_call1_cst : StableHlo.TRef sig ⟨S_, .f32⟩) (.of main_v48_2 : StableHlo.TRef sig ⟨S2048x1024, .f32⟩) (broadcastInDim S2048x1024 ![] bcast_S_S2048x1024) ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub .., StableHlo.nullary_bufs_sub .., StableHlo.unary_bufs_sub ..⟩
/-- 15 host operations of @main, window 1 (statements 61 … 120), in order. -/
abbrev main_part1_ops1 : List (HloOp τ sig (Elt F)) :=
  [ StableHlo.binary main_arg0 main_v11 main_v49 (mulf : (⟨S2048x1024, .f32⟩ : BufTy).Contents (Elt F) → (⟨S2048x1024, .f32⟩ : BufTy).Contents (Elt F) → (⟨S2048x1024, .f32⟩ : BufTy).Contents (Elt F)),
    StableHlo.binary main_v49 main_v48_0 main_v50 (mulf : (⟨S2048x1024, .f32⟩ : BufTy).Contents (Elt F) → (⟨S2048x1024, .f32⟩ : BufTy).Contents (Elt F) → (⟨S2048x1024, .f32⟩ : BufTy).Contents (Elt F)),
    StableHlo.nullary main_cst_10 (constant S_ .f32 0x00000000#32),
    StableHlo.unary main_cst_10 main_v51 (broadcastInDim S1024 ![] bcast_S_S1024 : (⟨S_, .f32⟩ : BufTy).Contents (Elt F) → (⟨S1024, .f32⟩ : BufTy).Contents (Elt F)),
    StableHlo.nullary main_cst_11 (constant S_ .f32 0x00000000#32),
    StableHlo.unary main_cst_11 main_v52 (broadcastInDim S2048x1024 ![] bcast_S_S2048x1024 : (⟨S_, .f32⟩ : BufTy).Contents (Elt F) → (⟨S2048x1024, .f32⟩ : BufTy).Contents (Elt F)),
    StableHlo.nullary main_cst_12 (constant S_ .f32 0x00000000#32),
    StableHlo.unary main_cst_12 main_v53 (broadcastInDim S2048x1024 ![] bcast_S_S2048x1024 : (⟨S_, .f32⟩ : BufTy).Contents (Elt F) → (⟨S2048x1024, .f32⟩ : BufTy).Contents (Elt F)),
    StableHlo.nullary main_c_13 (constantI S_ 32 0#32),
    StableHlo.unary main_v35 main_v54_0 id,
    StableHlo.unary main_v50 main_v54_1 id,
    StableHlo.unary main_c_13 main_v54_2 id,
    StableHlo.unary main_v51 main_v54_3 id,
    StableHlo.unary main_v52 main_v54_4 id,
    StableHlo.unary main_v53 main_v54_5 id ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.binary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 16 host operations of @main, window 1 (statements 61 … 120), in order. -/
abbrev main_part1_ops2 : List (HloOp τ sig (Elt F)) :=
  [ StableHlo.nullary main_cst_14 (constant S_ .f32 0x00000000#32),
    StableHlo.unary main_cst_14 main_v55 (broadcastInDim S1024 ![] bcast_S_S1024 : (⟨S_, .f32⟩ : BufTy).Contents (Elt F) → (⟨S1024, .f32⟩ : BufTy).Contents (Elt F)),
    StableHlo.nullary main_cst_15 (constant S_ .f32 0x00000000#32),
    StableHlo.unary main_cst_15 main_v56 (broadcastInDim S1024 ![] bcast_S_S1024 : (⟨S_, .f32⟩ : BufTy).Contents (Elt F) → (⟨S1024, .f32⟩ : BufTy).Contents (Elt F)),
    StableHlo.nullary main_cst_16 (constant S_ .f32 0x00000000#32),
    StableHlo.unary main_cst_16 main_v57 (broadcastInDim S2048x1024 ![] bcast_S_S2048x1024 : (⟨S_, .f32⟩ : BufTy).Contents (Elt F) → (⟨S2048x1024, .f32⟩ : BufTy).Contents (Elt F)),
    StableHlo.nullary main_cst_17 (constant S_ .f32 0x00000000#32),
    StableHlo.unary main_cst_17 main_v58 (broadcastInDim S2048x1024 ![] bcast_S_S2048x1024 : (⟨S_, .f32⟩ : BufTy).Contents (Elt F) → (⟨S2048x1024, .f32⟩ : BufTy).Contents (Elt F)),
    StableHlo.nullary main_c_18 (constantI S_ 32 0#32),
    StableHlo.unary main_arg6 main_v59_0 id,
    StableHlo.unary main_v54_5 main_v59_1 id,
    StableHlo.unary main_v35 main_v59_2 id,
    StableHlo.unary main_c_18 main_v59_3 id,
    StableHlo.unary main_v56 main_v59_4 id,
    StableHlo.unary main_v57 main_v59_5 id,
    StableHlo.unary main_v58 main_v59_6 id ]
/-- Each touches TensorCore references only (`HostSeg.ofOps` over `StableHlo.tcRefs`, or a subset by `sub_ucRefs`). -/
theorem main_part1_ops2_sub : (main_part1_ops2 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 4 host operations of @main, window 1 (statements 61 … 120), in order. -/
abbrev main_part1_ops3 : List (HloOp τ sig (Elt F)) :=
  [ StableHlo.binary main_v49 main_v59_6 main_v60 (mulf : (⟨S2048x1024, .f32⟩ : BufTy).Contents (Elt F) → (⟨S2048x1024, .f32⟩ : BufTy).Contents (Elt F) → (⟨S2048x1024, .f32⟩ : BufTy).Contents (Elt F)),
    StableHlo.binary main_v59_6 main_v48_0 main_v61 (mulf : (⟨S2048x1024, .f32⟩ : BufTy).Contents (Elt F) → (⟨S2048x1024, .f32⟩ : BufTy).Contents (Elt F) → (⟨S2048x1024, .f32⟩ : BufTy).Contents (Elt F)),
    StableHlo.binary main_arg0 main_v61 main_v62 (mulf : (⟨S2048x1024, .f32⟩ : BufTy).Contents (Elt F) → (⟨S2048x1024, .f32⟩ : BufTy).Contents (Elt F) → (⟨S2048x1024, .f32⟩ : BufTy).Contents (Elt F)),
    StableHlo.binary main_v61 main_v11 main_v63 (mulf : (⟨S2048x1024, .f32⟩ : BufTy).Contents (Elt F) → (⟨S2048x1024, .f32⟩ : BufTy).Contents (Elt F) → (⟨S2048x1024, .f32⟩ : BufTy).Contents (Elt F)) ]
/-- Each touches TensorCore references only (`HostSeg.ofOps` over `StableHlo.tcRefs`, or a subset by `sub_ucRefs`). -/
theorem main_part1_ops3_sub : (main_part1_ops3 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub ..⟩
/-- 3 host operations of @_where_1 (main_call11), window 1 (statements 61 … 120), in order. -/
abbrev main_part1_ops4 : List (HloOp τ sig (Elt F)) :=
  [ StableHlo.TRef.nullary (.of main_call11_cst : StableHlo.TRef sig ⟨S_, .f32⟩) (constant S_ .f32 0x00000000#32),
    StableHlo.TRef.unary (.of main_call11_cst : StableHlo.TRef sig ⟨S_, .f32⟩) (.of main_call11_v0 : StableHlo.TRef sig ⟨S2048x1024, .f32⟩) (broadcastInDim S2048x1024 ![] bcast_S_S2048x1024),
    StableHlo.TRef.ternary (.of main_v48_1 : StableHlo.TRef sig ⟨S2048x1024, .i1⟩) (.of main_call11_v0 : StableHlo.TRef sig ⟨S2048x1024, .f32⟩) (.of main_v60 : StableHlo.TRef sig ⟨S2048x1024, .f32⟩) (.of main_v64 : StableHlo.TRef sig ⟨S2048x1024, .f32⟩) select ]
/-- Each touches TensorCore references only (`HostSeg.ofOps` over `StableHlo.tcRefs`, or a subset by `sub_ucRefs`). -/
theorem main_part1_ops4_sub : (main_part1_ops4 : List (HloOp τ sig (Elt F))).Forall fun op => op.bufs ⊆ StableHlo.tcRefs τ sig :=
  ⟨StableHlo.nullary_bufs_sub .., StableHlo.unary_bufs_sub .., StableHlo.ternary_bufs_sub ..⟩
/-- 14 host operations of @main, window 1 (statements 61 … 120), in order. -/
abbrev main_part1_ops5 : List (HloOp τ sig (Elt F)) :=
  [ StableHlo.binary main_v64 main_v43 main_v65 (mulf : (⟨S2048x1024, .f32⟩ : BufTy).Contents (Elt F) → (⟨S2048x1024, .f32⟩ : BufTy).Contents (Elt F) → (⟨S2048x1024, .f32⟩ : BufTy).Contents (Elt F)),
    StableHlo.unary main_v65 main_v66 (Host.negf : (⟨S2048x1024, .f32⟩ : BufTy).Contents (Elt F) → (⟨S2048x1024, .f32⟩ : BufTy).Contents (Elt F)),
    StableHlo.binary main_v66 main_v38 main_v67 (mulf : (⟨S2048x1024, .f32⟩ : BufTy).Contents (Elt F) → (⟨S2048x1024, .f32⟩ : BufTy).Contents (Elt F) → (⟨S2048x1024, .f32⟩ : BufTy).Contents (Elt F)),
    StableHlo.nullary main_cst_19 (constant S_ .f32 0x40000000#32),
    StableHlo.unary main_cst_19 main_v68 (broadcastInDim S2048x1024 ![] bcast_S_S2048x1024 : (⟨S_, .f32⟩ : BufTy).Contents (Elt F) → (⟨S2048x1024, .f32⟩ : BufTy).Contents (Elt F)),
    StableHlo.binary main_v68 main_v67 main_v69 (mulf : (⟨S2048x1024, .f32⟩ : BufTy).Contents (Elt F) → (⟨S2048x1024, .f32⟩ : BufTy).Contents (Elt F) → (⟨S2048x1024, .f32⟩ : BufTy).Contents (Elt F)),
    StableHlo.binary main_v59_5 main_v35 main_v70 (mulf : (⟨S2048x1024, .f32⟩ : BufTy).Contents (Elt F) → (⟨S2048x1024, .f32⟩ : BufTy).Contents (Elt F) → (⟨S2048x1024, .f32⟩ : BufTy).Contents (Elt F)),
    StableHlo.binary main_v69 main_v70 main_v71 (addf : (⟨S2048x1024, .f32⟩ : BufTy).Contents (Elt F) → (⟨S2048x1024, .f32⟩ : BufTy).Contents (Elt F) → (⟨S2048x1024, .f32⟩ : BufTy).Contents (Elt F)),
    StableHlo.binary main_v30 main_v71 main_v72 (mulf : (⟨S2048x1024, .f32⟩ : BufTy).Contents (Elt F) → (⟨S2048x1024, .f32⟩ : BufTy).Contents (Elt F) → (⟨S2048x1024, .f32⟩ : BufTy).Contents (Elt F)),
    StableHlo.nullary main_cst_20 (constant S_ .f32 0x00000000#32),
    StableHlo.binary main_v72 main_cst_20 main_v73 ((fun x v => Host.reduceAdd x v reducesTo_S2048x1024_S1024_d0 h_S_) : (⟨S2048x1024, .f32⟩ : BufTy).Contents (Elt F) → (⟨S_, .f32⟩ : BufTy).Contents (Elt F) → (⟨S1024, .f32⟩ : BufTy).Contents (Elt F)),
    StableHlo.reshape main_v73 main_v74 (rfl : (.f32 : EltTy) = .f32) shapeCasts_S1024_S1x1024,
    StableHlo.unary main_v32_0 main_v75 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v71 main_v75 main_v76 (mulf : (⟨S2048x1024, .f32⟩ : BufTy).Contents (Elt F) → (⟨S2048x1024, .f32⟩ : BufTy).Contents (Elt F) → (⟨S2048x1024, .f32⟩ : BufTy).Contents (Elt F)) ]
/-- Each touches TensorCore references only (`HostSeg.ofOps` over `StableHlo.tcRefs`, or a subset by `sub_ucRefs`). -/
theorem main_part1_ops5_sub : (main_part1_ops5 : List (HloOp τ sig (Elt F))).Forall fun op => op.bufs ⊆ StableHlo.tcRefs τ sig :=
  ⟨StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.binary_bufs_sub .., StableHlo.reshape_bufs_sub .., StableHlo.unary_bufs_sub .., StableHlo.binary_bufs_sub ..⟩
/-- 1 host operation of @softplus_2 (main_call12), window 1 (statements 61 … 120), in order. -/
abbrev main_part1_ops6 : List (HloOp τ sig (Elt F)) :=
  [ StableHlo.TRef.binary (.of main_v74 : StableHlo.TRef sig ⟨S1x1024, .f32⟩) (.of main_v32_1 : StableHlo.TRef sig ⟨S1x1024, .f32⟩) (.of main_v77 : StableHlo.TRef sig ⟨S1x1024, .f32⟩) mulf ]
/-- Each touches TensorCore references only (`HostSeg.ofOps` over `StableHlo.tcRefs`, or a subset by `sub_ucRefs`). -/
theorem main_part1_ops6_sub : (main_part1_ops6 : List (HloOp τ sig (Elt F))).Forall fun op => op.bufs ⊆ StableHlo.tcRefs τ sig :=
  StableHlo.binary_bufs_sub ..
/-- 6 host operations of @main, window 1 (statements 61 … 120), in order. -/
abbrev main_part1_ops7 : List (HloOp τ sig (Elt F)) :=
  [ StableHlo.unary main_v77 main_v78 (Host.negf : (⟨S1x1024, .f32⟩ : BufTy).Contents (Elt F) → (⟨S1x1024, .f32⟩ : BufTy).Contents (Elt F)),
    StableHlo.nullary main_cst_21 (constant S_ .f32 0xC1000000#32),
    StableHlo.unary main_cst_21 main_v79 (broadcastInDim S2048x1024 ![] bcast_S_S2048x1024 : (⟨S_, .f32⟩ : BufTy).Contents (Elt F) → (⟨S2048x1024, .f32⟩ : BufTy).Contents (Elt F)),
    StableHlo.binary main_v79 main_v76 main_v80 (mulf : (⟨S2048x1024, .f32⟩ : BufTy).Contents (Elt F) → (⟨S2048x1024, .f32⟩ : BufTy).Contents (Elt F) → (⟨S2048x1024, .f32⟩ : BufTy).Contents (Elt F)),
    StableHlo.binary main_v80 main_v28 main_v81 (mulf : (⟨S2048x1024, .f32⟩ : BufTy).Contents (Elt F) → (⟨S2048x1024, .f32⟩ : BufTy).Contents (Elt F) → (⟨S2048x1024, .f32⟩ : BufTy).Contents (Elt F)),
    StableHlo.nullary main_cst_22 (constant S_ .f32 0x00000000#32) ]
/-- Each touches TensorCore references only (`HostSeg.ofOps` over `StableHlo.tcRefs`, or a subset by `sub_ucRefs`). -/
theorem main_part1_ops7_sub : (main_part1_ops7 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.binary_bufs_sub .., StableHlo.nullary_bufs_sub ..⟩
/-- Window 1 of `main` (`main_part1`, statements 61 … 120) is the chain of ITS items ending in the last
    (`Pipeline.chainK`: no closing `pure`, the window's last statement being in tail position), each item but the last aligned with the
    window's statements, then `chain_rfl`. -/
theorem main_part1_chain (c : Dev nD) : main_part1 (F := F) c = (Pipeline.chainK
  [ StableHlo.seq main_part1_ops0,
    StableHlo.seq main_part1_ops1,
    HostLoop.enter 0,
    StableHlo.seq main_part1_ops2,
    HostLoop.enter 1,
    StableHlo.seq main_part1_ops3,
    StableHlo.seq main_part1_ops4,
    StableHlo.seq main_part1_ops5,
    StableHlo.seq main_part1_ops6 ]
  (StableHlo.seq main_part1_ops7) : Prog (TpuEff nD τ sig (Elt F) (HostLoop.Sig (Pipeline.Sig Λ₀ (Fin 0) fun p => (pcfgs (F := F) p).Adm) 2) .tc) PUnit) := by
  rewrite [Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

/-- 21 host operations of @main, window 2 (statements 121 … 142), in order. -/
abbrev main_part2_ops0 : List (HloOp τ sig (Elt F)) :=
  [ StableHlo.binary main_v81 main_cst_22 main_v82 ((fun x v => Host.reduceAdd x v reducesTo_S2048x1024_S1024_d0 h_S_) : (⟨S2048x1024, .f32⟩ : BufTy).Contents (Elt F) → (⟨S_, .f32⟩ : BufTy).Contents (Elt F) → (⟨S1024, .f32⟩ : BufTy).Contents (Elt F)),
    StableHlo.reshape main_v82 main_v83 (rfl : (.f32 : EltTy) = .f32) shapeCasts_S1024_S1x1024,
    StableHlo.reshape main_v81 main_v84 (rfl : (.f32 : EltTy) = .f32) shapeCasts_S2048x1024_S2048x4x256,
    StableHlo.unary main_v84 main_v85 ((transpose S4x256x2048 [1, 2, 0] · transposes_S2048x4x256_S4x256x2048_1_2_0) : (⟨S2048x4x256, .f32⟩ : BufTy).Contents (Elt F) → (⟨S4x256x2048, .f32⟩ : BufTy).Contents (Elt F)),
    StableHlo.binary main_v85 main_arg2 main_v86 ((fun l r => Host.dotGeneral dot_S4x256x2048_S4x256x256_S4x2048x256_1_2_2_1_0_0 none l r) : (⟨S4x256x2048, .f32⟩ : BufTy).Contents (Elt F) → (⟨S4x256x256, .f32⟩ : BufTy).Contents (Elt F) → (⟨S4x2048x256, .f32⟩ : BufTy).Contents (Elt F)),
    StableHlo.unary main_v86 main_v87 ((transpose S2048x4x256 [1, 0, 2] · transposes_S4x2048x256_S2048x4x256_1_0_2) : (⟨S4x2048x256, .f32⟩ : BufTy).Contents (Elt F) → (⟨S2048x4x256, .f32⟩ : BufTy).Contents (Elt F)),
    StableHlo.binary main_v85 main_v0 main_v88 ((fun l r => Host.dotGeneral dot_S4x256x2048_S2048x4x256_S4x256x256_2_0_1_2_0_1 none l r) : (⟨S4x256x2048, .f32⟩ : BufTy).Contents (Elt F) → (⟨S2048x4x256, .f32⟩ : BufTy).Contents (Elt F) → (⟨S4x256x256, .f32⟩ : BufTy).Contents (Elt F)),
    StableHlo.unary main_v88 main_v89 ((transpose S4x256x256 [0, 2, 1] · transposes_S4x256x256_S4x256x256_0_2_1) : (⟨S4x256x256, .f32⟩ : BufTy).Contents (Elt F) → (⟨S4x256x256, .f32⟩ : BufTy).Contents (Elt F)),
    StableHlo.binary main_v62 main_v14 main_v90 (mulf : (⟨S2048x1024, .f32⟩ : BufTy).Contents (Elt F) → (⟨S2048x1024, .f32⟩ : BufTy).Contents (Elt F) → (⟨S2048x1024, .f32⟩ : BufTy).Contents (Elt F)),
    StableHlo.nullary main_cst_23 (constant S_ .f32 0x00000000#32),
    StableHlo.binary main_v90 main_cst_23 main_v91 ((fun x v => Host.reduceAdd x v reducesTo_S2048x1024_S1024_d0 h_S_) : (⟨S2048x1024, .f32⟩ : BufTy).Contents (Elt F) → (⟨S_, .f32⟩ : BufTy).Contents (Elt F) → (⟨S1024, .f32⟩ : BufTy).Contents (Elt F)),
    StableHlo.reshape main_v91 main_v92 (rfl : (.f32 : EltTy) = .f32) shapeCasts_S1024_S1x1024,
    StableHlo.reshape main_v90 main_v93 (rfl : (.f32 : EltTy) = .f32) shapeCasts_S2048x1024_S2048x4x256,
    StableHlo.unary main_v93 main_v94 ((transpose S4x256x2048 [1, 2, 0] · transposes_S2048x4x256_S4x256x2048_1_2_0) : (⟨S2048x4x256, .f32⟩ : BufTy).Contents (Elt F) → (⟨S4x256x2048, .f32⟩ : BufTy).Contents (Elt F)),
    StableHlo.binary main_v94 main_arg1 main_v95 ((fun l r => Host.dotGeneral dot_S4x256x2048_S4x256x256_S4x2048x256_1_2_2_1_0_0 none l r) : (⟨S4x256x2048, .f32⟩ : BufTy).Contents (Elt F) → (⟨S4x256x256, .f32⟩ : BufTy).Contents (Elt F) → (⟨S4x2048x256, .f32⟩ : BufTy).Contents (Elt F)),
    StableHlo.unary main_v95 main_v96 ((transpose S2048x4x256 [1, 0, 2] · transposes_S4x2048x256_S2048x4x256_1_0_2) : (⟨S4x2048x256, .f32⟩ : BufTy).Contents (Elt F) → (⟨S2048x4x256, .f32⟩ : BufTy).Contents (Elt F)),
    StableHlo.binary main_v87 main_v96 main_v97 (addf : (⟨S2048x4x256, .f32⟩ : BufTy).Contents (Elt F) → (⟨S2048x4x256, .f32⟩ : BufTy).Contents (Elt F) → (⟨S2048x4x256, .f32⟩ : BufTy).Contents (Elt F)),
    StableHlo.binary main_v94 main_v0 main_v98 ((fun l r => Host.dotGeneral dot_S4x256x2048_S2048x4x256_S4x256x256_2_0_1_2_0_1 none l r) : (⟨S4x256x2048, .f32⟩ : BufTy).Contents (Elt F) → (⟨S2048x4x256, .f32⟩ : BufTy).Contents (Elt F) → (⟨S4x256x256, .f32⟩ : BufTy).Contents (Elt F)),
    StableHlo.unary main_v98 main_v99 ((transpose S4x256x256 [0, 2, 1] · transposes_S4x256x256_S4x256x256_0_2_1) : (⟨S4x256x256, .f32⟩ : BufTy).Contents (Elt F) → (⟨S4x256x256, .f32⟩ : BufTy).Contents (Elt F)),
    StableHlo.reshape main_v97 main_v100 (rfl : (.f32 : EltTy) = .f32) shapeCasts_S2048x4x256_S2048x1024,
    StableHlo.binary main_v63 main_v100 main_v101 (addf : (⟨S2048x1024, .f32⟩ : BufTy).Contents (Elt F) → (⟨S2048x1024, .f32⟩ : BufTy).Contents (Elt F) → (⟨S2048x1024, .f32⟩ : BufTy).Contents (Elt F)) ]
/-- Each touches TensorCore references only (`HostSeg.ofOps` over `StableHlo.tcRefs`, or a subset by `sub_ucRefs`). -/
theorem main_part2_ops0_sub : (main_part2_ops0 : List (HloOp τ sig (Elt F))).Forall fun op => op.bufs ⊆ StableHlo.tcRefs τ sig :=
  ⟨StableHlo.binary_bufs_sub .., StableHlo.reshape_bufs_sub .., StableHlo.reshape_bufs_sub .., StableHlo.unary_bufs_sub .., StableHlo.binary_bufs_sub .., StableHlo.unary_bufs_sub .., StableHlo.binary_bufs_sub .., StableHlo.unary_bufs_sub .., StableHlo.binary_bufs_sub .., StableHlo.nullary_bufs_sub .., StableHlo.binary_bufs_sub .., StableHlo.reshape_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.reshape_bufs_sub .., StableHlo.binary_bufs_sub ..⟩
/-- The last window of `main` (`main_part2`, statements 121 … 142) is the chain of ITS items, each item aligned with the window's
    statements, then `chain_rfl`. -/
theorem main_part2_chain (c : Dev nD) : main_part2 (F := F) c = (Pipeline.chain
  [ StableHlo.seq main_part2_ops0 ] : Prog (TpuEff nD τ sig (Elt F) (HostLoop.Sig (Pipeline.Sig Λ₀ (Fin 0) fun p => (pcfgs (F := F) p).Adm) 2) .tc) PUnit) := by
  rewrite [StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part0_ops1,
    StableHlo.seq main_part0_ops2,
    StableHlo.seq main_part1_ops0,
    StableHlo.seq main_part1_ops1,
    HostLoop.enter 0,
    StableHlo.seq main_part1_ops2,
    HostLoop.enter 1,
    StableHlo.seq main_part1_ops3,
    StableHlo.seq main_part1_ops4,
    StableHlo.seq main_part1_ops5,
    StableHlo.seq main_part1_ops6,
    StableHlo.seq main_part1_ops7,
    StableHlo.seq main_part2_ops0 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

abbrev while0Ops0 : List (HloOp τ sig (Elt F)) :=
  [ StableHlo.TRef.nullary (.of main_while0b_call2_c : StableHlo.TRef sig ⟨S_, .i32⟩) (constantI S_ 32 0#32),
    StableHlo.TRef.unaryIndexed (.of main_v54_0 : StableHlo.TRef sig ⟨S2048x1024, .f32⟩) ![(.of main_v54_2 : StableHlo.TRef sig ⟨S_, .i32⟩), (.of main_while0b_call2_c : StableHlo.TRef sig ⟨S_, .i32⟩)] (.of main_while0b_call2_v0 : StableHlo.TRef sig ⟨S1x1024, .f32⟩) (fun x i => Host.dynamicSlice S1x1024 x (fun k => (i k (Shape.Idx.first h_S_)).toInt) sliceFits_S2048x1024_S1x1024),
    StableHlo.TRef.reshape (.of main_while0b_call2_v0 : StableHlo.TRef sig ⟨S1x1024, .f32⟩) (.of main_while0b_v102 : StableHlo.TRef sig ⟨S1024, .f32⟩) (rfl : (.f32 : EltTy) = .f32) shapeCasts_S1x1024_S1024 ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.unaryIndexed_bufs_sub .., StableHlo.reshape_bufs_sub ..⟩
/-- 3 host operations of @dynamic_index_in_dim (main_while0b_call3), in order. -/
abbrev while0Ops0_1 : List (HloOp τ sig (Elt F)) :=
  [ StableHlo.TRef.nullary (.of main_while0b_call3_c : StableHlo.TRef sig ⟨S_, .i32⟩) (constantI S_ 32 0#32),
    StableHlo.TRef.unaryIndexed (.of main_v54_1 : StableHlo.TRef sig ⟨S2048x1024, .f32⟩) ![(.of main_v54_2 : StableHlo.TRef sig ⟨S_, .i32⟩), (.of main_while0b_call3_c : StableHlo.TRef sig ⟨S_, .i32⟩)] (.of main_while0b_call3_v0 : StableHlo.TRef sig ⟨S1x1024, .f32⟩) (fun x i => Host.dynamicSlice S1x1024 x (fun k => (i k (Shape.Idx.first h_S_)).toInt) sliceFits_S2048x1024_S1x1024),
    StableHlo.TRef.reshape (.of main_while0b_call3_v0 : StableHlo.TRef sig ⟨S1x1024, .f32⟩) (.of main_while0b_v103 : StableHlo.TRef sig ⟨S1024, .f32⟩) (rfl : (.f32 : EltTy) = .f32) shapeCasts_S1x1024_S1024 ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.unaryIndexed_bufs_sub .., StableHlo.reshape_bufs_sub ..⟩
/-- 2 host operations of host loop 0's body region, in order. -/
abbrev while0Ops0_2 : List (HloOp τ sig (Elt F)) :=
  [ StableHlo.binary main_while0b_v102 main_v54_3 main_while0b_v104 (mulf : (⟨S1024, .f32⟩ : BufTy).Contents (Elt F) → (⟨S1024, .f32⟩ : BufTy).Contents (Elt F) → (⟨S1024, .f32⟩ : BufTy).Contents (Elt F)),
    StableHlo.binary main_while0b_v104 main_while0b_v103 main_while0b_v105 (addf : (⟨S1024, .f32⟩ : BufTy).Contents (Elt F) → (⟨S1024, .f32⟩ : BufTy).Contents (Elt F) → (⟨S1024, .f32⟩ : BufTy).Contents (Elt F)) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.binary_bufs_sub .., StableHlo.binary_bufs_sub ..⟩
/-- 3 host operations of @dynamic_update_index_in_dim (main_while0b_call4), in order. -/
abbrev while0Ops0_3 : List (HloOp τ sig (Elt F)) :=
  [ StableHlo.TRef.unary (.of main_while0b_v105 : StableHlo.TRef sig ⟨S1024, .f32⟩) (.of main_while0b_call4_v0 : StableHlo.TRef sig ⟨S1x1024, .f32⟩) (broadcastInDim S1x1024 ![1] bcast_S1024_S1x1024_1),
    StableHlo.TRef.nullary (.of main_while0b_call4_c : StableHlo.TRef sig ⟨S_, .i32⟩) (constantI S_ 32 0#32),
    StableHlo.TRef.binaryIndexed (.of main_v54_4 : StableHlo.TRef sig ⟨S2048x1024, .f32⟩) (.of main_while0b_call4_v0 : StableHlo.TRef sig ⟨S1x1024, .f32⟩) ![(.of main_v54_2 : StableHlo.TRef sig ⟨S_, .i32⟩), (.of main_while0b_call4_c : StableHlo.TRef sig ⟨S_, .i32⟩)] (.of main_while0b_v106 : StableHlo.TRef sig ⟨S2048x1024, .f32⟩) (fun x u i => Host.dynamicUpdateSlice x u (fun k => (i k (Shape.Idx.first h_S_)).toInt) updateFits_S2048x1024_S1x1024) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.unary_bufs_sub .., StableHlo.nullary_bufs_sub .., StableHlo.binaryIndexed_bufs_sub ..⟩
/-- 3 host operations of @dynamic_update_index_in_dim (main_while0b_call5), in order. -/
abbrev while0Ops0_4 : List (HloOp τ sig (Elt F)) :=
  [ StableHlo.TRef.unary (.of main_v54_3 : StableHlo.TRef sig ⟨S1024, .f32⟩) (.of main_while0b_call5_v0 : StableHlo.TRef sig ⟨S1x1024, .f32⟩) (broadcastInDim S1x1024 ![1] bcast_S1024_S1x1024_1),
    StableHlo.TRef.nullary (.of main_while0b_call5_c : StableHlo.TRef sig ⟨S_, .i32⟩) (constantI S_ 32 0#32),
    StableHlo.TRef.binaryIndexed (.of main_v54_5 : StableHlo.TRef sig ⟨S2048x1024, .f32⟩) (.of main_while0b_call5_v0 : StableHlo.TRef sig ⟨S1x1024, .f32⟩) ![(.of main_v54_2 : StableHlo.TRef sig ⟨S_, .i32⟩), (.of main_while0b_call5_c : StableHlo.TRef sig ⟨S_, .i32⟩)] (.of main_while0b_v107 : StableHlo.TRef sig ⟨S2048x1024, .f32⟩) (fun x u i => Host.dynamicUpdateSlice x u (fun k => (i k (Shape.Idx.first h_S_)).toInt) updateFits_S2048x1024_S1x1024) ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.unary_bufs_sub .., StableHlo.nullary_bufs_sub .., StableHlo.binaryIndexed_bufs_sub ..⟩
/-- 6 host operations of host loop 0's body region, in order. -/
abbrev while0Ops0_5 : List (HloOp τ sig (Elt F)) :=
  [ StableHlo.nullary main_while0b_c_29 (constantI S_ 32 1#32),
    StableHlo.binary main_v54_2 main_while0b_c_29 main_while0b_v108 (addi : (⟨S_, .i32⟩ : BufTy).Contents (Elt F) → (⟨S_, .i32⟩ : BufTy).Contents (Elt F) → (⟨S_, .i32⟩ : BufTy).Contents (Elt F)),
    StableHlo.unary main_while0b_v108 main_v54_2 id,
    StableHlo.unary main_while0b_v105 main_v54_3 id,
    StableHlo.unary main_while0b_v106 main_v54_4 id,
    StableHlo.unary main_while0b_v107 main_v54_5 id ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons, StableHlo.chain_seq_cons]
  chain_rfl

/-- 4 host operations of host loop 1's body region, in order. -/
abbrev while1Ops0 : List (HloOp τ sig (Elt F)) :=
  [ StableHlo.nullary main_while1b_c_30 (constantI S_ 32 2048#32),
    StableHlo.binary main_while1b_c_30 main_v59_3 main_while1b_v102 (subi : (⟨S_, .i32⟩ : BufTy).Contents (Elt F) → (⟨S_, .i32⟩ : BufTy).Contents (Elt F) → (⟨S_, .i32⟩ : BufTy).Contents (Elt F)),
    StableHlo.nullary main_while1b_c_31 (constantI S_ 32 1#32),
    StableHlo.binary main_while1b_v102 main_while1b_c_31 main_while1b_v103 (subi : (⟨S_, .i32⟩ : BufTy).Contents (Elt F) → (⟨S_, .i32⟩ : BufTy).Contents (Elt F) → (⟨S_, .i32⟩ : BufTy).Contents (Elt F)) ]
/-- Each touches TensorCore references only (`HostSeg.ofOps` over `StableHlo.tcRefs`, or a subset by `sub_ucRefs`). -/
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
/-- 3 host operations of @dynamic_index_in_dim_0 (main_while1b_call6), in order. -/
abbrev while1Ops0_1 : List (HloOp τ sig (Elt F)) :=
  [ StableHlo.TRef.nullary (.of main_while1b_call6_c : StableHlo.TRef sig ⟨S_, .i32⟩) (constantI S_ 32 0#32),
    StableHlo.TRef.unaryIndexed (.of main_v59_0 : StableHlo.TRef sig ⟨S2048x1024, .f32⟩) ![(.of main_while1b_v103 : StableHlo.TRef sig ⟨S_, .i32⟩), (.of main_while1b_call6_c : StableHlo.TRef sig ⟨S_, .i32⟩)] (.of main_while1b_call6_v0 : StableHlo.TRef sig ⟨S1x1024, .f32⟩) (fun x i => Host.dynamicSlice S1x1024 x (fun k => (i k (Shape.Idx.first h_S_)).toInt) sliceFits_S2048x1024_S1x1024),
    StableHlo.TRef.reshape (.of main_while1b_call6_v0 : StableHlo.TRef sig ⟨S1x1024, .f32⟩) (.of main_while1b_v104 : StableHlo.TRef sig ⟨S1024, .f32⟩) (rfl : (.f32 : EltTy) = .f32) shapeCasts_S1x1024_S1024 ]
/-- Each touches TensorCore references only (`HostSeg.ofOps` over `StableHlo.tcRefs`, or a subset by `sub_ucRefs`). -/
theorem while1Ops0_1_sub : (while1Ops0_1 : List (HloOp τ sig (Elt F))).Forall fun op => op.bufs ⊆ StableHlo.tcRefs τ sig :=
  ⟨StableHlo.nullary_bufs_sub .., StableHlo.unaryIndexed_bufs_sub .., StableHlo.reshape_bufs_sub ..⟩
/-- 3 host operations of @dynamic_index_in_dim (main_while1b_call7), in order. -/
abbrev while1Ops0_2 : List (HloOp τ sig (Elt F)) :=
  [ StableHlo.TRef.nullary (.of main_while1b_call7_c : StableHlo.TRef sig ⟨S_, .i32⟩) (constantI S_ 32 0#32),
    StableHlo.TRef.unaryIndexed (.of main_v59_1 : StableHlo.TRef sig ⟨S2048x1024, .f32⟩) ![(.of main_while1b_v103 : StableHlo.TRef sig ⟨S_, .i32⟩), (.of main_while1b_call7_c : StableHlo.TRef sig ⟨S_, .i32⟩)] (.of main_while1b_call7_v0 : StableHlo.TRef sig ⟨S1x1024, .f32⟩) (fun x i => Host.dynamicSlice S1x1024 x (fun k => (i k (Shape.Idx.first h_S_)).toInt) sliceFits_S2048x1024_S1x1024),
    StableHlo.TRef.reshape (.of main_while1b_call7_v0 : StableHlo.TRef sig ⟨S1x1024, .f32⟩) (.of main_while1b_v105 : StableHlo.TRef sig ⟨S1024, .f32⟩) (rfl : (.f32 : EltTy) = .f32) shapeCasts_S1x1024_S1024 ]
/-- Each touches TensorCore references only (`HostSeg.ofOps` over `StableHlo.tcRefs`, or a subset by `sub_ucRefs`). -/
theorem while1Ops0_2_sub : (while1Ops0_2 : List (HloOp τ sig (Elt F))).Forall fun op => op.bufs ⊆ StableHlo.tcRefs τ sig :=
  ⟨StableHlo.nullary_bufs_sub .., StableHlo.unaryIndexed_bufs_sub .., StableHlo.reshape_bufs_sub ..⟩
/-- 3 host operations of @dynamic_index_in_dim (main_while1b_call8), in order. -/
abbrev while1Ops0_3 : List (HloOp τ sig (Elt F)) :=
  [ StableHlo.TRef.nullary (.of main_while1b_call8_c : StableHlo.TRef sig ⟨S_, .i32⟩) (constantI S_ 32 0#32),
    StableHlo.TRef.unaryIndexed (.of main_v59_2 : StableHlo.TRef sig ⟨S2048x1024, .f32⟩) ![(.of main_while1b_v103 : StableHlo.TRef sig ⟨S_, .i32⟩), (.of main_while1b_call8_c : StableHlo.TRef sig ⟨S_, .i32⟩)] (.of main_while1b_call8_v0 : StableHlo.TRef sig ⟨S1x1024, .f32⟩) (fun x i => Host.dynamicSlice S1x1024 x (fun k => (i k (Shape.Idx.first h_S_)).toInt) sliceFits_S2048x1024_S1x1024),
    StableHlo.TRef.reshape (.of main_while1b_call8_v0 : StableHlo.TRef sig ⟨S1x1024, .f32⟩) (.of main_while1b_v106 : StableHlo.TRef sig ⟨S1024, .f32⟩) (rfl : (.f32 : EltTy) = .f32) shapeCasts_S1x1024_S1024 ]
/-- Each touches TensorCore references only (`HostSeg.ofOps` over `StableHlo.tcRefs`, or a subset by `sub_ucRefs`). -/
theorem while1Ops0_3_sub : (while1Ops0_3 : List (HloOp τ sig (Elt F))).Forall fun op => op.bufs ⊆ StableHlo.tcRefs τ sig :=
  ⟨StableHlo.nullary_bufs_sub .., StableHlo.unaryIndexed_bufs_sub .., StableHlo.reshape_bufs_sub ..⟩
/-- 3 host operations of host loop 1's body region, in order. -/
abbrev while1Ops0_4 : List (HloOp τ sig (Elt F)) :=
  [ StableHlo.binary main_v59_4 main_while1b_v104 main_while1b_v107 (addf : (⟨S1024, .f32⟩ : BufTy).Contents (Elt F) → (⟨S1024, .f32⟩ : BufTy).Contents (Elt F) → (⟨S1024, .f32⟩ : BufTy).Contents (Elt F)),
    StableHlo.binary main_while1b_v106 main_while1b_v107 main_while1b_v108 (mulf : (⟨S1024, .f32⟩ : BufTy).Contents (Elt F) → (⟨S1024, .f32⟩ : BufTy).Contents (Elt F) → (⟨S1024, .f32⟩ : BufTy).Contents (Elt F)),
    StableHlo.binary main_while1b_v107 main_while1b_v105 main_while1b_v109 (mulf : (⟨S1024, .f32⟩ : BufTy).Contents (Elt F) → (⟨S1024, .f32⟩ : BufTy).Contents (Elt F) → (⟨S1024, .f32⟩ : BufTy).Contents (Elt F)) ]
/-- Each touches TensorCore references only (`HostSeg.ofOps` over `StableHlo.tcRefs`, or a subset by `sub_ucRefs`). -/
theorem while1Ops0_4_sub : (while1Ops0_4 : List (HloOp τ sig (Elt F))).Forall fun op => op.bufs ⊆ StableHlo.tcRefs τ sig :=
  ⟨StableHlo.binary_bufs_sub .., StableHlo.binary_bufs_sub .., StableHlo.binary_bufs_sub ..⟩
/-- 3 host operations of @dynamic_update_index_in_dim (main_while1b_call9), in order. -/
abbrev while1Ops0_5 : List (HloOp τ sig (Elt F)) :=
  [ StableHlo.TRef.unary (.of main_while1b_v109 : StableHlo.TRef sig ⟨S1024, .f32⟩) (.of main_while1b_call9_v0 : StableHlo.TRef sig ⟨S1x1024, .f32⟩) (broadcastInDim S1x1024 ![1] bcast_S1024_S1x1024_1),
    StableHlo.TRef.nullary (.of main_while1b_call9_c : StableHlo.TRef sig ⟨S_, .i32⟩) (constantI S_ 32 0#32),
    StableHlo.TRef.binaryIndexed (.of main_v59_5 : StableHlo.TRef sig ⟨S2048x1024, .f32⟩) (.of main_while1b_call9_v0 : StableHlo.TRef sig ⟨S1x1024, .f32⟩) ![(.of main_while1b_v103 : StableHlo.TRef sig ⟨S_, .i32⟩), (.of main_while1b_call9_c : StableHlo.TRef sig ⟨S_, .i32⟩)] (.of main_while1b_v110 : StableHlo.TRef sig ⟨S2048x1024, .f32⟩) (fun x u i => Host.dynamicUpdateSlice x u (fun k => (i k (Shape.Idx.first h_S_)).toInt) updateFits_S2048x1024_S1x1024) ]
/-- Each touches TensorCore references only (`HostSeg.ofOps` over `StableHlo.tcRefs`, or a subset by `sub_ucRefs`). -/
theorem while1Ops0_5_sub : (while1Ops0_5 : List (HloOp τ sig (Elt F))).Forall fun op => op.bufs ⊆ StableHlo.tcRefs τ sig :=
  ⟨StableHlo.unary_bufs_sub .., StableHlo.nullary_bufs_sub .., StableHlo.binaryIndexed_bufs_sub ..⟩
/-- 3 host operations of @dynamic_update_index_in_dim (main_while1b_call10), in order. -/
abbrev while1Ops0_6 : List (HloOp τ sig (Elt F)) :=
  [ StableHlo.TRef.unary (.of main_while1b_v107 : StableHlo.TRef sig ⟨S1024, .f32⟩) (.of main_while1b_call10_v0 : StableHlo.TRef sig ⟨S1x1024, .f32⟩) (broadcastInDim S1x1024 ![1] bcast_S1024_S1x1024_1),
    StableHlo.TRef.nullary (.of main_while1b_call10_c : StableHlo.TRef sig ⟨S_, .i32⟩) (constantI S_ 32 0#32),
    StableHlo.TRef.binaryIndexed (.of main_v59_6 : StableHlo.TRef sig ⟨S2048x1024, .f32⟩) (.of main_while1b_call10_v0 : StableHlo.TRef sig ⟨S1x1024, .f32⟩) ![(.of main_while1b_v103 : StableHlo.TRef sig ⟨S_, .i32⟩), (.of main_while1b_call10_c : StableHlo.TRef sig ⟨S_, .i32⟩)] (.of main_while1b_v111 : StableHlo.TRef sig ⟨S2048x1024, .f32⟩) (fun x u i => Host.dynamicUpdateSlice x u (fun k => (i k (Shape.Idx.first h_S_)).toInt) updateFits_S2048x1024_S1x1024) ]
/-- Each touches TensorCore references only (`HostSeg.ofOps` over `StableHlo.tcRefs`, or a subset by `sub_ucRefs`). -/
theorem while1Ops0_6_sub : (while1Ops0_6 : List (HloOp τ sig (Elt F))).Forall fun op => op.bufs ⊆ StableHlo.tcRefs τ sig :=
  ⟨StableHlo.unary_bufs_sub .., StableHlo.nullary_bufs_sub .., StableHlo.binaryIndexed_bufs_sub ..⟩
/-- 6 host operations of host loop 1's body region, in order. -/
abbrev while1Ops0_7 : List (HloOp τ sig (Elt F)) :=
  [ StableHlo.nullary main_while1b_c_32 (constantI S_ 32 1#32),
    StableHlo.binary main_v59_3 main_while1b_c_32 main_while1b_v112 (addi : (⟨S_, .i32⟩ : BufTy).Contents (Elt F) → (⟨S_, .i32⟩ : BufTy).Contents (Elt F) → (⟨S_, .i32⟩ : BufTy).Contents (Elt F)),
    StableHlo.unary main_while1b_v112 main_v59_3 id,
    StableHlo.unary main_while1b_v108 main_v59_4 id,
    StableHlo.unary main_while1b_v110 main_v59_5 id,
    StableHlo.unary main_while1b_v111 main_v59_6 id ]
/-- Each touches TensorCore references only (`HostSeg.ofOps` over `StableHlo.tcRefs`, or a subset by `sub_ucRefs`). -/
theorem while1Ops0_7_sub : (while1Ops0_7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- `main_while1_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, StableHlo.chain_seq_cons, Pipeline.chain_cons, Pipeline.chain_cons, StableHlo.chain_seq_cons]
  chain_rfl

end Cert.ReferenceIdeal.Gen
-- ==== Proof.RefRun.lean ====
/- The run of the reference program, for any float values: its host operations before, between and after its two counted
   loops, and the loops' trips, folded over the launch contents. `run_fold`: every weakly fair execution terminates with
   every buffer that holds a tensor value at that fold, and every semaphore counter at zero. -/
module

public import proofs.«01_k».proof.Proof.RefChain

@[expose] public section

noncomputable section

namespace Cert.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs sub_ucRefs)

variable {F : FTy → Type} [FloatOps F]

/-! ## What each stretch writes, and that none allocates a buffer -/

theorem main_part0_ops0_fresh : ∀ op ∈ (main_part0_ops0 : List (HloOp τ sig (Elt F))), op.fresh = ∅ :=
  List.forall_iff_forall_mem.mp (forall_fresh_of_map rfl)
abbrev main_part0_ops0_W : List (Ref sig .tc) := [main_v0, main_v1, main_v2, main_v3, main_v4, main_v5, main_v6, main_v7, main_cst, main_v8, main_v9, main_cst_0, main_v10, main_v11, main_cst_1, main_v12, main_v13, main_v14, main_v15, main_v16, main_v17, main_v18, main_v19, main_v20, main_v21, main_cst_2, main_v22, main_v23, main_cst_3, main_v24, main_v25, main_cst_4, main_v26, main_v27, main_v28, main_cst_5, main_v29, main_v30, main_v31]
theorem main_part0_ops0_writes : (main_part0_ops0 : List (HloOp τ sig (Elt F))).Forall fun op => op.writes ⊆ (main_part0_ops0_W.map (Proc.devRef (τ := τ) .tc)).toFinset :=
  forall_writes_sub_of_map rfl

theorem main_part0_ops1_fresh : ∀ op ∈ (main_part0_ops1 : List (HloOp τ sig (Elt F))), op.fresh = ∅ :=
  List.forall_iff_forall_mem.mp (forall_fresh_of_map rfl)
abbrev main_part0_ops1_W : List (Ref sig .tc) := [main_call0_cst, main_call0_v0, main_call0_v1, main_call0_v2, main_call0_v3, main_call0_v4, main_call0_v5, main_call0_v6, main_call0_v7, main_call0_v8, main_call0_v9, main_call0_v10, main_call0_v11, main_v32_0, main_call0_cst_0, main_call0_v13, main_call0_v14, main_call0_cst_1, main_call0_v15, main_call0_v16, main_call0_cst_2, main_call0_v17, main_call0_v18, main_call0_cst_3, main_call0_v19, main_call0_v20, main_call0_v21, main_v32_1, main_call0_cst_4, main_call0_cst_5, main_call0_v23, main_call0_cst_6, main_call0_cst_7, main_call0_v24, main_call0_cst_8, main_call0_v25, main_call0_v26, main_call0_cst_9, main_call0_v27, main_call0_v28, main_call0_v29, main_call0_v30, main_call0_v31, main_call0_cst_10, main_call0_v32, main_v32_2]
theorem main_part0_ops1_writes : (main_part0_ops1 : List (HloOp τ sig (Elt F))).Forall fun op => op.writes ⊆ (main_part0_ops1_W.map (Proc.devRef (τ := τ) .tc)).toFinset :=
  forall_writes_sub_of_map rfl

theorem main_part0_ops2_fresh : ∀ op ∈ (main_part0_ops2 : List (HloOp τ sig (Elt F))), op.fresh = ∅ :=
  List.forall_iff_forall_mem.mp (forall_fresh_of_map rfl)
abbrev main_part0_ops2_W : List (Ref sig .tc) := [main_v33, main_v34, main_v35, main_cst_6, main_v36, main_v37, main_v38, main_cst_7, main_v39, main_v40, main_v41, main_cst_8, main_v42, main_v43, main_v44, main_c, main_v45, main_v46, main_v47, main_cst_9]
theorem main_part0_ops2_writes : (main_part0_ops2 : List (HloOp τ sig (Elt F))).Forall fun op => op.writes ⊆ (main_part0_ops2_W.map (Proc.devRef (τ := τ) .tc)).toFinset :=
  forall_writes_sub_of_map rfl

theorem main_part1_ops0_fresh : ∀ op ∈ (main_part1_ops0 : List (HloOp τ sig (Elt F))), op.fresh = ∅ :=
  List.forall_iff_forall_mem.mp (forall_fresh_of_map rfl)
abbrev main_part1_ops0_W : List (Ref sig .tc) := [main_call1_v0, main_v48_1, main_call1_v2, main_v48_0, main_call1_cst, main_v48_2]
theorem main_part1_ops0_writes : (main_part1_ops0 : List (HloOp τ sig (Elt F))).Forall fun op => op.writes ⊆ (main_part1_ops0_W.map (Proc.devRef (τ := τ) .tc)).toFinset :=
  forall_writes_sub_of_map rfl

theorem main_part1_ops1_fresh : ∀ op ∈ (main_part1_ops1 : List (HloOp τ sig (Elt F))), op.fresh = ∅ :=
  List.forall_iff_forall_mem.mp (forall_fresh_of_map rfl)
abbrev main_part1_ops1_W : List (Ref sig .tc) := [main_v49, main_v50, main_cst_10, main_v51, main_cst_11, main_v52, main_cst_12, main_v53, main_c_13, main_v54_0, main_v54_1, main_v54_2, main_v54_3, main_v54_4, main_v54_5]
theorem main_part1_ops1_writes : (main_part1_ops1 : List (HloOp τ sig (Elt F))).Forall fun op => op.writes ⊆ (main_part1_ops1_W.map (Proc.devRef (τ := τ) .tc)).toFinset :=
  forall_writes_sub_of_map rfl

theorem main_part1_ops2_fresh : ∀ op ∈ (main_part1_ops2 : List (HloOp τ sig (Elt F))), op.fresh = ∅ :=
  List.forall_iff_forall_mem.mp (forall_fresh_of_map rfl)
abbrev main_part1_ops2_W : List (Ref sig .tc) := [main_cst_14, main_v55, main_cst_15, main_v56, main_cst_16, main_v57, main_cst_17, main_v58, main_c_18, main_v59_0, main_v59_1, main_v59_2, main_v59_3, main_v59_4, main_v59_5, main_v59_6]
theorem main_part1_ops2_writes : (main_part1_ops2 : List (HloOp τ sig (Elt F))).Forall fun op => op.writes ⊆ (main_part1_ops2_W.map (Proc.devRef (τ := τ) .tc)).toFinset :=
  forall_writes_sub_of_map rfl

theorem main_part1_ops3_fresh : ∀ op ∈ (main_part1_ops3 : List (HloOp τ sig (Elt F))), op.fresh = ∅ :=
  List.forall_iff_forall_mem.mp (forall_fresh_of_map rfl)
abbrev main_part1_ops3_W : List (Ref sig .tc) := [main_v60, main_v61, main_v62, main_v63]
theorem main_part1_ops3_writes : (main_part1_ops3 : List (HloOp τ sig (Elt F))).Forall fun op => op.writes ⊆ (main_part1_ops3_W.map (Proc.devRef (τ := τ) .tc)).toFinset :=
  forall_writes_sub_of_map rfl

theorem main_part1_ops4_fresh : ∀ op ∈ (main_part1_ops4 : List (HloOp τ sig (Elt F))), op.fresh = ∅ :=
  List.forall_iff_forall_mem.mp (forall_fresh_of_map rfl)
abbrev main_part1_ops4_W : List (Ref sig .tc) := [main_call11_cst, main_call11_v0, main_v64]
theorem main_part1_ops4_writes : (main_part1_ops4 : List (HloOp τ sig (Elt F))).Forall fun op => op.writes ⊆ (main_part1_ops4_W.map (Proc.devRef (τ := τ) .tc)).toFinset :=
  forall_writes_sub_of_map rfl

theorem main_part1_ops5_fresh : ∀ op ∈ (main_part1_ops5 : List (HloOp τ sig (Elt F))), op.fresh = ∅ :=
  List.forall_iff_forall_mem.mp (forall_fresh_of_map rfl)
abbrev main_part1_ops5_W : List (Ref sig .tc) := [main_v65, main_v66, main_v67, main_cst_19, main_v68, main_v69, main_v70, main_v71, main_v72, main_cst_20, main_v73, main_v74, main_v75, main_v76]
theorem main_part1_ops5_writes : (main_part1_ops5 : List (HloOp τ sig (Elt F))).Forall fun op => op.writes ⊆ (main_part1_ops5_W.map (Proc.devRef (τ := τ) .tc)).toFinset :=
  forall_writes_sub_of_map rfl

theorem main_part1_ops6_fresh : ∀ op ∈ (main_part1_ops6 : List (HloOp τ sig (Elt F))), op.fresh = ∅ :=
  List.forall_iff_forall_mem.mp (forall_fresh_of_map rfl)
abbrev main_part1_ops6_W : List (Ref sig .tc) := [main_v77]
theorem main_part1_ops6_writes : (main_part1_ops6 : List (HloOp τ sig (Elt F))).Forall fun op => op.writes ⊆ (main_part1_ops6_W.map (Proc.devRef (τ := τ) .tc)).toFinset :=
  forall_writes_sub_of_map rfl

theorem main_part1_ops7_fresh : ∀ op ∈ (main_part1_ops7 : List (HloOp τ sig (Elt F))), op.fresh = ∅ :=
  List.forall_iff_forall_mem.mp (forall_fresh_of_map rfl)
abbrev main_part1_ops7_W : List (Ref sig .tc) := [main_v78, main_cst_21, main_v79, main_v80, main_v81, main_cst_22]
theorem main_part1_ops7_writes : (main_part1_ops7 : List (HloOp τ sig (Elt F))).Forall fun op => op.writes ⊆ (main_part1_ops7_W.map (Proc.devRef (τ := τ) .tc)).toFinset :=
  forall_writes_sub_of_map rfl

theorem main_part2_ops0_fresh : ∀ op ∈ (main_part2_ops0 : List (HloOp τ sig (Elt F))), op.fresh = ∅ :=
  List.forall_iff_forall_mem.mp (forall_fresh_of_map rfl)
abbrev main_part2_ops0_W : List (Ref sig .tc) := [main_v82, main_v83, main_v84, main_v85, main_v86, main_v87, main_v88, main_v89, main_v90, main_cst_23, main_v91, main_v92, main_v93, main_v94, main_v95, main_v96, main_v97, main_v98, main_v99, main_v100, main_v101]
theorem main_part2_ops0_writes : (main_part2_ops0 : List (HloOp τ sig (Elt F))).Forall fun op => op.writes ⊆ (main_part2_ops0_W.map (Proc.devRef (τ := τ) .tc)).toFinset :=
  forall_writes_sub_of_map rfl

theorem while0Ops0_fresh : ∀ op ∈ (while0Ops0 : List (HloOp τ sig (Elt F))), op.fresh = ∅ :=
  List.forall_iff_forall_mem.mp (forall_fresh_of_map rfl)
abbrev while0Ops0_W : List (Ref sig .tc) := [main_while0b_call2_c, main_while0b_call2_v0, main_while0b_v102]
theorem while0Ops0_writes : (while0Ops0 : List (HloOp τ sig (Elt F))).Forall fun op => op.writes ⊆ (while0Ops0_W.map (Proc.devRef (τ := τ) .tc)).toFinset :=
  forall_writes_sub_of_map rfl

theorem while0Ops0_1_fresh : ∀ op ∈ (while0Ops0_1 : List (HloOp τ sig (Elt F))), op.fresh = ∅ :=
  List.forall_iff_forall_mem.mp (forall_fresh_of_map rfl)
abbrev while0Ops0_1_W : List (Ref sig .tc) := [main_while0b_call3_c, main_while0b_call3_v0, main_while0b_v103]
theorem while0Ops0_1_writes : (while0Ops0_1 : List (HloOp τ sig (Elt F))).Forall fun op => op.writes ⊆ (while0Ops0_1_W.map (Proc.devRef (τ := τ) .tc)).toFinset :=
  forall_writes_sub_of_map rfl

theorem while0Ops0_2_fresh : ∀ op ∈ (while0Ops0_2 : List (HloOp τ sig (Elt F))), op.fresh = ∅ :=
  List.forall_iff_forall_mem.mp (forall_fresh_of_map rfl)
abbrev while0Ops0_2_W : List (Ref sig .tc) := [main_while0b_v104, main_while0b_v105]
theorem while0Ops0_2_writes : (while0Ops0_2 : List (HloOp τ sig (Elt F))).Forall fun op => op.writes ⊆ (while0Ops0_2_W.map (Proc.devRef (τ := τ) .tc)).toFinset :=
  forall_writes_sub_of_map rfl

theorem while0Ops0_3_fresh : ∀ op ∈ (while0Ops0_3 : List (HloOp τ sig (Elt F))), op.fresh = ∅ :=
  List.forall_iff_forall_mem.mp (forall_fresh_of_map rfl)
abbrev while0Ops0_3_W : List (Ref sig .tc) := [main_while0b_call4_v0, main_while0b_call4_c, main_while0b_v106]
theorem while0Ops0_3_writes : (while0Ops0_3 : List (HloOp τ sig (Elt F))).Forall fun op => op.writes ⊆ (while0Ops0_3_W.map (Proc.devRef (τ := τ) .tc)).toFinset :=
  forall_writes_sub_of_map rfl

theorem while0Ops0_4_fresh : ∀ op ∈ (while0Ops0_4 : List (HloOp τ sig (Elt F))), op.fresh = ∅ :=
  List.forall_iff_forall_mem.mp (forall_fresh_of_map rfl)
abbrev while0Ops0_4_W : List (Ref sig .tc) := [main_while0b_call5_v0, main_while0b_call5_c, main_while0b_v107]
theorem while0Ops0_4_writes : (while0Ops0_4 : List (HloOp τ sig (Elt F))).Forall fun op => op.writes ⊆ (while0Ops0_4_W.map (Proc.devRef (τ := τ) .tc)).toFinset :=
  forall_writes_sub_of_map rfl

theorem while0Ops0_5_fresh : ∀ op ∈ (while0Ops0_5 : List (HloOp τ sig (Elt F))), op.fresh = ∅ :=
  List.forall_iff_forall_mem.mp (forall_fresh_of_map rfl)
abbrev while0Ops0_5_W : List (Ref sig .tc) := [main_while0b_c_29, main_while0b_v108, main_v54_2, main_v54_3, main_v54_4, main_v54_5]
theorem while0Ops0_5_writes : (while0Ops0_5 : List (HloOp τ sig (Elt F))).Forall fun op => op.writes ⊆ (while0Ops0_5_W.map (Proc.devRef (τ := τ) .tc)).toFinset :=
  forall_writes_sub_of_map rfl

theorem while1Ops0_fresh : ∀ op ∈ (while1Ops0 : List (HloOp τ sig (Elt F))), op.fresh = ∅ :=
  List.forall_iff_forall_mem.mp (forall_fresh_of_map rfl)
abbrev while1Ops0_W : List (Ref sig .tc) := [main_while1b_c_30, main_while1b_v102, main_while1b_c_31, main_while1b_v103]
theorem while1Ops0_writes : (while1Ops0 : List (HloOp τ sig (Elt F))).Forall fun op => op.writes ⊆ (while1Ops0_W.map (Proc.devRef (τ := τ) .tc)).toFinset :=
  forall_writes_sub_of_map rfl

theorem while1Ops0_1_fresh : ∀ op ∈ (while1Ops0_1 : List (HloOp τ sig (Elt F))), op.fresh = ∅ :=
  List.forall_iff_forall_mem.mp (forall_fresh_of_map rfl)
abbrev while1Ops0_1_W : List (Ref sig .tc) := [main_while1b_call6_c, main_while1b_call6_v0, main_while1b_v104]
theorem while1Ops0_1_writes : (while1Ops0_1 : List (HloOp τ sig (Elt F))).Forall fun op => op.writes ⊆ (while1Ops0_1_W.map (Proc.devRef (τ := τ) .tc)).toFinset :=
  forall_writes_sub_of_map rfl

theorem while1Ops0_2_fresh : ∀ op ∈ (while1Ops0_2 : List (HloOp τ sig (Elt F))), op.fresh = ∅ :=
  List.forall_iff_forall_mem.mp (forall_fresh_of_map rfl)
abbrev while1Ops0_2_W : List (Ref sig .tc) := [main_while1b_call7_c, main_while1b_call7_v0, main_while1b_v105]
theorem while1Ops0_2_writes : (while1Ops0_2 : List (HloOp τ sig (Elt F))).Forall fun op => op.writes ⊆ (while1Ops0_2_W.map (Proc.devRef (τ := τ) .tc)).toFinset :=
  forall_writes_sub_of_map rfl

theorem while1Ops0_3_fresh : ∀ op ∈ (while1Ops0_3 : List (HloOp τ sig (Elt F))), op.fresh = ∅ :=
  List.forall_iff_forall_mem.mp (forall_fresh_of_map rfl)
abbrev while1Ops0_3_W : List (Ref sig .tc) := [main_while1b_call8_c, main_while1b_call8_v0, main_while1b_v106]
theorem while1Ops0_3_writes : (while1Ops0_3 : List (HloOp τ sig (Elt F))).Forall fun op => op.writes ⊆ (while1Ops0_3_W.map (Proc.devRef (τ := τ) .tc)).toFinset :=
  forall_writes_sub_of_map rfl

theorem while1Ops0_4_fresh : ∀ op ∈ (while1Ops0_4 : List (HloOp τ sig (Elt F))), op.fresh = ∅ :=
  List.forall_iff_forall_mem.mp (forall_fresh_of_map rfl)
abbrev while1Ops0_4_W : List (Ref sig .tc) := [main_while1b_v107, main_while1b_v108, main_while1b_v109]
theorem while1Ops0_4_writes : (while1Ops0_4 : List (HloOp τ sig (Elt F))).Forall fun op => op.writes ⊆ (while1Ops0_4_W.map (Proc.devRef (τ := τ) .tc)).toFinset :=
  forall_writes_sub_of_map rfl

theorem while1Ops0_5_fresh : ∀ op ∈ (while1Ops0_5 : List (HloOp τ sig (Elt F))), op.fresh = ∅ :=
  List.forall_iff_forall_mem.mp (forall_fresh_of_map rfl)
abbrev while1Ops0_5_W : List (Ref sig .tc) := [main_while1b_call9_v0, main_while1b_call9_c, main_while1b_v110]
theorem while1Ops0_5_writes : (while1Ops0_5 : List (HloOp τ sig (Elt F))).Forall fun op => op.writes ⊆ (while1Ops0_5_W.map (Proc.devRef (τ := τ) .tc)).toFinset :=
  forall_writes_sub_of_map rfl

theorem while1Ops0_6_fresh : ∀ op ∈ (while1Ops0_6 : List (HloOp τ sig (Elt F))), op.fresh = ∅ :=
  List.forall_iff_forall_mem.mp (forall_fresh_of_map rfl)
abbrev while1Ops0_6_W : List (Ref sig .tc) := [main_while1b_call10_v0, main_while1b_call10_c, main_while1b_v111]
theorem while1Ops0_6_writes : (while1Ops0_6 : List (HloOp τ sig (Elt F))).Forall fun op => op.writes ⊆ (while1Ops0_6_W.map (Proc.devRef (τ := τ) .tc)).toFinset :=
  forall_writes_sub_of_map rfl

theorem while1Ops0_7_fresh : ∀ op ∈ (while1Ops0_7 : List (HloOp τ sig (Elt F))), op.fresh = ∅ :=
  List.forall_iff_forall_mem.mp (forall_fresh_of_map rfl)
abbrev while1Ops0_7_W : List (Ref sig .tc) := [main_while1b_c_32, main_while1b_v112, main_v59_3, main_v59_4, main_v59_5, main_v59_6]
theorem while1Ops0_7_writes : (while1Ops0_7 : List (HloOp τ sig (Elt F))).Forall fun op => op.writes ⊆ (while1Ops0_7_W.map (Proc.devRef (τ := τ) .tc)).toFinset :=
  forall_writes_sub_of_map rfl

abbrev preI : List (List (HloOp τ sig (Elt F))) := [main_part0_ops0, main_part0_ops1, main_part0_ops2, main_part1_ops0, main_part1_ops1]
theorem preI_plain : Plain (preI (F := F)) := (.cons main_part0_ops0_sub (hf := main_part0_ops0_fresh) (.cons main_part0_ops1_sub (hf := main_part0_ops1_fresh) (.cons main_part0_ops2_sub (hf := main_part0_ops2_fresh) (.cons main_part1_ops0_sub (hf := main_part1_ops0_fresh) (.cons main_part1_ops1_sub (hf := main_part1_ops1_fresh) .nil)))))
abbrev midI : List (List (HloOp τ sig (Elt F))) := [main_part1_ops2]
theorem midI_plain : Plain (midI (F := F)) := (.cons main_part1_ops2_sub (hf := main_part1_ops2_fresh) .nil)
abbrev postI : List (List (HloOp τ sig (Elt F))) := [main_part1_ops3, main_part1_ops4, main_part1_ops5, main_part1_ops6, main_part1_ops7, main_part2_ops0]
theorem postI_plain : Plain (postI (F := F)) := (.cons main_part1_ops3_sub (hf := main_part1_ops3_fresh) (.cons main_part1_ops4_sub (hf := main_part1_ops4_fresh) (.cons main_part1_ops5_sub (hf := main_part1_ops5_fresh) (.cons main_part1_ops6_sub (hf := main_part1_ops6_fresh) (.cons main_part1_ops7_sub (hf := main_part1_ops7_fresh) (.cons main_part2_ops0_sub (hf := main_part2_ops0_fresh) .nil))))))
abbrev body0I : List (List (HloOp τ sig (Elt F))) := [while0Ops0, while0Ops0_1, while0Ops0_2, while0Ops0_3, while0Ops0_4, while0Ops0_5]
theorem body0I_plain : Plain (body0I (F := F)) := (.cons while0Ops0_sub (hf := while0Ops0_fresh) (.cons while0Ops0_1_sub (hf := while0Ops0_1_fresh) (.cons while0Ops0_2_sub (hf := while0Ops0_2_fresh) (.cons while0Ops0_3_sub (hf := while0Ops0_3_fresh) (.cons while0Ops0_4_sub (hf := while0Ops0_4_fresh) (.cons while0Ops0_5_sub (hf := while0Ops0_5_fresh) .nil))))))
abbrev body1I : List (List (HloOp τ sig (Elt F))) := [while1Ops0, while1Ops0_1, while1Ops0_2, while1Ops0_3, while1Ops0_4, while1Ops0_5, while1Ops0_6, while1Ops0_7]
theorem body1I_plain : Plain (body1I (F := F)) := (.cons while1Ops0_sub (hf := while1Ops0_fresh) (.cons while1Ops0_1_sub (hf := while1Ops0_1_fresh) (.cons while1Ops0_2_sub (hf := while1Ops0_2_fresh) (.cons while1Ops0_3_sub (hf := while1Ops0_3_fresh) (.cons while1Ops0_4_sub (hf := while1Ops0_4_fresh) (.cons while1Ops0_5_sub (hf := while1Ops0_5_fresh) (.cons while1Ops0_6_sub (hf := while1Ops0_6_fresh) (.cons while1Ops0_7_sub (hf := while1Ops0_7_fresh) .nil))))))))

/-- The two operations of each loop's condition: the bound, and the counter compared with it. -/
abbrev cond0 : List (HloOp τ sig (Elt F)) :=
  [ StableHlo.nullary main_while0c_c_29 (constantI S_ 32 2048#32),
    StableHlo.binary main_v54_2 main_while0c_c_29 main_while0c_v102 (cmpi .slt) ]
abbrev cond1 : List (HloOp τ sig (Elt F)) :=
  [ StableHlo.nullary main_while1c_c_30 (constantI S_ 32 2048#32),
    StableHlo.binary main_v59_3 main_while1c_c_30 main_while1c_v102 (cmpi .slt) ]
abbrev cond0_W : List (Ref sig .tc) := [main_while0c_c_29, main_while0c_v102]
theorem cond0_writes : (cond0 : List (HloOp τ sig (Elt F))).Forall fun op => op.writes ⊆ (cond0_W.map (Proc.devRef (τ := τ) .tc)).toFinset :=
  forall_writes_sub_of_map rfl
abbrev cond1_W : List (Ref sig .tc) := [main_while1c_c_30, main_while1c_v102]
theorem cond1_writes : (cond1 : List (HloOp τ sig (Elt F))).Forall fun op => op.writes ⊆ (cond1_W.map (Proc.devRef (τ := τ) .tc)).toFinset :=
  forall_writes_sub_of_map rfl

variable (m : (ℓ : Loc nD τ sig) → Buf (Elt F) ℓ) (ρ : Dev nD → PrngReg)

/-! ## The contents along the program -/

/-- Before the first loop. -/
abbrev E0 (c : Dev nD) : Valuation τ sig (Elt F) := afterL preI (launchContents m c)
/-- Before trip `k` of the first loop. -/
abbrev at0 (k : ℕ) (c : Dev nD) : Valuation τ sig (Elt F) := atTrip cond0 body0I (E0 m) k c
/-- After the first loop. -/
abbrev E1 (c : Dev nD) : Valuation τ sig (Elt F) := after cond0 (at0 m 2048 c)
/-- Before the second loop. -/
abbrev E2 (c : Dev nD) : Valuation τ sig (Elt F) := afterL midI (E1 m c)
/-- Before trip `k` of the second loop. -/
abbrev at1 (k : ℕ) (c : Dev nD) : Valuation τ sig (Elt F) := atTrip cond1 body1I (E2 m) k c
/-- After the second loop. -/
abbrev E3 (c : Dev nD) : Valuation τ sig (Elt F) := after cond1 (at1 m 2048 c)
/-- At the end. -/
abbrev E4 (c : Dev nD) : Valuation τ sig (Elt F) := afterL postI (E3 m c)

/-! ## The loops' counters -/

theorem ctr0_keep (X : Valuation τ sig (Elt F)) :
    after while0Ops0_4 (after while0Ops0_3 (after while0Ops0_2 (after while0Ops0_1 (after while0Ops0 (after cond0 X))))) (Proc.devRef .tc main_v54_2)
      = X (Proc.devRef .tc main_v54_2) := by
  rw [after_of_writes_sub while0Ops0_4 _ while0Ops0_4_writes (by decide +kernel), after_of_writes_sub while0Ops0_3 _ while0Ops0_3_writes (by decide +kernel),
    after_of_writes_sub while0Ops0_2 _ while0Ops0_2_writes (by decide +kernel), after_of_writes_sub while0Ops0_1 _ while0Ops0_1_writes (by decide +kernel),
    after_of_writes_sub while0Ops0 _ while0Ops0_writes (by decide +kernel), after_of_writes_sub cond0 _ cond0_writes (by decide +kernel)]

theorem ctr1_keep (X : Valuation τ sig (Elt F)) :
    after while1Ops0_6 (after while1Ops0_5 (after while1Ops0_4 (after while1Ops0_3 (after while1Ops0_2 (after while1Ops0_1 (after while1Ops0 (after cond1 X))))))) (Proc.devRef .tc main_v59_3)
      = X (Proc.devRef .tc main_v59_3) := by
  rw [after_of_writes_sub while1Ops0_6 _ while1Ops0_6_writes (by decide +kernel), after_of_writes_sub while1Ops0_5 _ while1Ops0_5_writes (by decide +kernel),
    after_of_writes_sub while1Ops0_4 _ while1Ops0_4_writes (by decide +kernel), after_of_writes_sub while1Ops0_3 _ while1Ops0_3_writes (by decide +kernel),
    after_of_writes_sub while1Ops0_2 _ while1Ops0_2_writes (by decide +kernel), after_of_writes_sub while1Ops0_1 _ while1Ops0_1_writes (by decide +kernel),
    after_of_writes_sub while1Ops0 _ while1Ops0_writes (by decide +kernel), after_of_writes_sub cond1 _ cond1_writes (by decide +kernel)]

set_option maxRecDepth 100000 in
theorem ctr0_step (X : Valuation τ sig (Elt F)) :
    after while0Ops0_5 X (Proc.devRef .tc main_v54_2) = addi (X (Proc.devRef .tc main_v54_2)) (constantI S_ 32 1#32) := by
  after_results
  rfl
set_option maxRecDepth 100000 in
theorem ctr1_step (X : Valuation τ sig (Elt F)) :
    after while1Ops0_7 X (Proc.devRef .tc main_v59_3) = addi (X (Proc.devRef .tc main_v59_3)) (constantI S_ 32 1#32) := by
  after_results
  rfl

set_option maxRecDepth 100000 in
theorem ctr0_entry (X : Valuation τ sig (Elt F)) :
    after main_part1_ops1 X (Proc.devRef .tc main_v54_2) = fun _ => (0#32 : BitVec 32) := by
  after_results
  rfl
set_option maxRecDepth 100000 in
theorem ctr1_entry (X : Valuation τ sig (Elt F)) :
    after main_part1_ops2 X (Proc.devRef .tc main_v59_3) = fun _ => (0#32 : BitVec 32) := by
  after_results
  rfl

theorem at0_ctr (c : Dev nD) : ∀ k, at0 m k c (Proc.devRef .tc main_v54_2) = fun _ => Scf.iv 0#32 1#32 k
  | 0 => by rw [show at0 m 0 c = after main_part1_ops1 _ from rfl, ctr0_entry, Scf.iv_zero]
  | k + 1 => by
    rw [show at0 m (k + 1) c = after while0Ops0_5 (after while0Ops0_4 (after while0Ops0_3 (after while0Ops0_2 (after while0Ops0_1 (after while0Ops0
      (after cond0 (at0 m k c))))))) from rfl, ctr0_step, ctr0_keep, at0_ctr c k, Scf.iv_succ]
    rfl

theorem at1_ctr (c : Dev nD) : ∀ k, at1 m k c (Proc.devRef .tc main_v59_3) = fun _ => Scf.iv 0#32 1#32 k
  | 0 => by rw [show at1 m 0 c = after main_part1_ops2 _ from rfl, ctr1_entry, Scf.iv_zero]
  | k + 1 => by
    rw [show at1 m (k + 1) c = after while1Ops0_7 (after while1Ops0_6 (after while1Ops0_5 (after while1Ops0_4 (after while1Ops0_3 (after while1Ops0_2
      (after while1Ops0_1 (after while1Ops0 (after cond1 (at1 m k c))))))))) from rfl, ctr1_step, ctr1_keep, at1_ctr c k, Scf.iv_succ]
    rfl

/-! ## The segments and the run -/

local notation "𝕄" => MT nD τ sig Unit (Elt F) ℕ (Option PUnit) ℕ

abbrev adm0 : (p : Fin 0) → (pcfgs (F := F) p).Adm := fun p => p.elim0
abbrev tk0 : Fin 0 → Ticket (Ix := Unit) (Name := ℕ) (U := Option PUnit) (Lvl := ℕ) (nD := nD) (τ := τ) (pcfgs (F := F)) adm0 := fun j => j.elim0
abbrev L0 : GSem nD τ sig → Finset Unit := fun _ => ∅
abbrev lv0 : GSem nD τ sig → Unit → ℕ := fun _ _ => 0

/-- What rides along beside the buffers. -/
abbrev Rw (c : Dev nD) : sProp 𝕄 := iprop(∃ W, owes (c : Thread nD τ) (0 : CellTallies nD τ sig Unit) W)

-- the rule for one host operation is stated for any thread
set_option backward.isDefEq.respectTransparency.types false in
theorem cond0_spec : LoopCond (pcfgs (F := F)) defs₀ Variants.none loops Rw (main_while0_cond (F := F)) cond0 body0I (E0 m) 2048 := by
  intro k hk c bd
  have hctr := at0_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v54_2 HostLoop.idx0)
        (HloOp.result _ (at0 m k c) main_while0c_c_29 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR

set_option backward.isDefEq.respectTransparency.types false in
theorem cond1_spec : LoopCond (pcfgs (F := F)) defs₀ Variants.none loops Rw (main_while1_cond (F := F)) cond1 body1I (E2 m) 2048 := by
  intro k hk c bd
  have hctr := at1_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v59_3 HostLoop.idx0)
        (HloOp.result _ (at1 m k c) main_while1c_c_30 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR

abbrev lseg0 : CSeg (pcfgs (F := F)) adm0 defs₀ Variants.none L0 lv0 loops tk0 :=
  loopSeg _ _ _ _ _ _ _ _ 0 main_while0_cond main_while0_body rfl cond0 body0I body0I_plain (by rw [while0_body_chain]; rfl) 2048 (E0 m) Rw (cond0_spec m)
abbrev lseg1 : CSeg (pcfgs (F := F)) adm0 defs₀ Variants.none L0 lv0 loops tk0 :=
  loopSeg _ _ _ _ _ _ _ _ 1 main_while1_cond main_while1_body rfl cond1 body1I body1I_plain (by rw [while1_body_chain]; rfl) 2048 (E2 m) Rw (cond1_spec m)

/-- `@main`'s segments: stretches, a loop, a stretch, a loop, stretches. -/
def segs : List (CSeg (pcfgs (F := F)) adm0 defs₀ Variants.none L0 lv0 loops tk0) :=
  segsOf _ _ _ _ _ _ _ _ Rw preI preI_plain (launchContents m) ++ lseg0 m
    :: (segsOf _ _ _ _ _ _ _ _ Rw midI midI_plain (E1 m) ++ lseg1 m
      :: segsOf _ _ _ _ _ _ _ _ Rw postI postI_plain (E3 m))

theorem segs_prog : (segs m).map CSeg.prog
    = (preI.map fun ops => (seq ops : Prog _ PUnit)) ++ HostLoop.enter 0 :: ((midI.map fun ops => (seq ops : Prog _ PUnit)) ++
      HostLoop.enter 1 :: postI.map fun ops => (seq ops : Prog _ PUnit)) := by
  unfold segs
  rw [List.map_append, List.map_cons, List.map_append, List.map_cons, segsOf_prog, segsOf_prog, segsOf_prog]
  rfl

theorem segs_chains :
    CSeg.Chains (fun c => iprop(held (c : Thread nD τ) (ucRefs τ sig) (launchContents m c) ∗ Rw c)) (segs m)
      (fun c => iprop(iprop(held (c : Thread nD τ) (ucRefs τ sig) (E4 m c)) ∗ ∃ W, owes (c : Thread nD τ) (0 : CellTallies nD τ sig Unit) W)) := by
  unfold segs
  exact CSeg.Chains.append (segsOf_chains _ _ _ _ _ _ _ _ Rw preI preI_plain _) ⟨fun _ => .rfl,
    CSeg.Chains.append (segsOf_chains _ _ _ _ _ _ _ _ Rw midI midI_plain _) ⟨fun _ => .rfl, segsOf_chains _ _ _ _ _ _ _ _ Rw postI postI_plain _⟩⟩

/-- No counter outlives its scope. -/
theorem no_unscoped : ∀ sm : SemLoc sig, sm.isScoped .tc = true := by decide

set_option maxRecDepth 100000 in
theorem run_fold [∀ e, Nonempty (Elt F e)] : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = E4 m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm0 (fun k => k.1.elim0) defs₀ Variants.none L0 lv0 loops tk0 m ρ main (segs m)
    (fun c Q => by
      rw [show main (F := F) c = Pipeline.chain ((segs m).map CSeg.prog) from (main_chain_windows c).trans (by rw [segs_prog]; rfl)]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (E4 m c)))
    (hch := segs_chains m)
    (hinit := by
      refine Pipeline.initEach L0 lv0 fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = E4 m c b)
    (hfin := fun c s' => by
      unfold held
      iintro ⟨Hh, HSI⟩
      ihave Hr := (pointsTo_read_all (ucRefs τ sig) (fun b => ((c : Dev nD), b)) (fun b => E4 m c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (no_unscoped g.2))⟩)

end Cert.RefRun
-- ==== Proof.RefEqs.lean ====
/- The reference's stretches, operation by operation: after a stretch, each buffer written holds its operation's value of
   the buffers read. Every buffer of a stretch is written once, so all these equations hold of the same contents. -/
module

public import proofs.«01_k».proof.Proof.RefRun

@[expose] public section

set_option maxRecDepth 100000

noncomputable section

namespace Cert.RefRun

open Cert.ReferenceIdeal Cert.ReferenceIdeal.Gen
open Idealize.ShloMosaic Idealize.ShloMosaic.TcCoe Idealize.ShloMosaic.Tactic
open Idealize.SL Idealize.SL.Sem
open Idealize.ShloMosaic.StableHlo

variable {F : FTy → Type} [FloatOps F]

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

private theorem writes_drop {W : List (Ref sig .tc)} {ops : List (HloOp τ sig (Elt F))} (i : ℕ)
    (h : ops.map HloOp.writes = W.map fun r => {Proc.devRef (τ := τ) .tc r}) :
    (ops.drop i).Forall fun op => op.writes ⊆ ((W.drop i).map (Proc.devRef (τ := τ) .tc)).toFinset :=
  forall_writes_sub_of_map (by rw [List.map_drop, h, ← List.map_drop])

/-- A buffer that neither operation `i` nor a later one writes holds at the end what it holds before operation `i`. -/
theorem ssa_src (i : ℕ) {W : List (Ref sig .tc)} (ops : List (HloOp τ sig (Elt F))) (X : Valuation τ sig (Elt F))
    (h : ops.map HloOp.writes = W.map fun r => {Proc.devRef (τ := τ) .tc r}) (r : Ref sig .tc) (hr : r ∉ W.drop i) :
    after ops X (Proc.devRef .tc r) = after (ops.take i) X (Proc.devRef .tc r) := by
  conv_lhs => rw [← List.take_append_drop i ops, after_app]
  exact after_of_writes_sub _ _ (writes_drop i h) hr

/-- A buffer that no operation after `i` writes holds at the end what operation `i` leaves there. -/
theorem ssa_dst (i : ℕ) {W : List (Ref sig .tc)} (ops : List (HloOp τ sig (Elt F))) (X : Valuation τ sig (Elt F))
    (h : ops.map HloOp.writes = W.map fun r => {Proc.devRef (τ := τ) .tc r}) (r : Ref sig .tc) (hr : r ∉ W.drop (i + 1)) :
    after ops X (Proc.devRef .tc r) = after ((ops.drop i).take 1) (after (ops.take i) X) (Proc.devRef .tc r) := by
  conv_lhs => rw [← List.take_append_drop i ops, after_app, ← List.take_append_drop 1 (ops.drop i), after_app, List.drop_drop]
  exact after_of_writes_sub _ _ (writes_drop (i + 1) h) hr

abbrev preW : List (Ref sig .tc) := [main_v0, main_v1, main_v2, main_v3, main_v4, main_v5, main_v6, main_v7, main_cst, main_v8, main_v9, main_cst_0, main_v10, main_v11, main_cst_1, main_v12, main_v13, main_v14, main_v15, main_v16, main_v17, main_v18, main_v19, main_v20, main_v21, main_cst_2, main_v22, main_v23, main_cst_3, main_v24, main_v25, main_cst_4, main_v26, main_v27, main_v28, main_cst_5, main_v29, main_v30, main_v31, main_call0_cst, main_call0_v0, main_call0_v1, main_call0_v2, main_call0_v3, main_call0_v4, main_call0_v5, main_call0_v6, main_call0_v7, main_call0_v8, main_call0_v9, main_call0_v10, main_call0_v11, main_v32_0, main_call0_cst_0, main_call0_v13, main_call0_v14, main_call0_cst_1, main_call0_v15, main_call0_v16, main_call0_cst_2, main_call0_v17, main_call0_v18, main_call0_cst_3, main_call0_v19, main_call0_v20, main_call0_v21, main_v32_1, main_call0_cst_4, main_call0_cst_5, main_call0_v23, main_call0_cst_6, main_call0_cst_7, main_call0_v24, main_call0_cst_8, main_call0_v25, main_call0_v26, main_call0_cst_9, main_call0_v27, main_call0_v28, main_call0_v29, main_call0_v30, main_call0_v31, main_call0_cst_10, main_call0_v32, main_v32_2, main_v33, main_v34, main_v35, main_cst_6, main_v36, main_v37, main_v38, main_cst_7, main_v39, main_v40, main_v41, main_cst_8, main_v42, main_v43, main_v44, main_c, main_v45, main_v46, main_v47, main_cst_9, main_call1_v0, main_v48_1, main_call1_v2, main_v48_0, main_call1_cst, main_v48_2, main_v49, main_v50, main_cst_10, main_v51, main_cst_11, main_v52, main_cst_12, main_v53, main_c_13, main_v54_0, main_v54_1, main_v54_2, main_v54_3, main_v54_4, main_v54_5]
theorem preW_writes : (preI.flatten : List (HloOp τ sig (Elt F))).map HloOp.writes = preW.map fun r => {Proc.devRef (τ := τ) .tc r} := rfl

theorem pre_v0 (X : Valuation τ sig (Elt F)) : (afterL preI X (Proc.devRef .tc main_v0)) = shapeCast S2048x4x256 (afterL preI X (Proc.devRef .tc main_arg0)) shapeCasts_S2048x1024_S2048x4x256 := by
  simp only [afterL_eq_after_flatten]
  rw [ssa_dst 0 preI.flatten X preW_writes main_v0 (by decide +kernel)]
  rw [ssa_src 0 preI.flatten X preW_writes main_arg0 (by decide +kernel)]
  generalize after (List.take 0 preI.flatten) X = Y
  show after [_] Y _ = _
  after_results
  try rfl

theorem pre_v1 (X : Valuation τ sig (Elt F)) : (afterL preI X (Proc.devRef .tc main_v1)) = (((fun l r => Host.dotGeneral dot_S4x256x256_S2048x4x256_S4x256x2048_1_2_2_0_0_1 none l r) : (⟨S4x256x256, .f32⟩ : BufTy).Contents (Elt F) → (⟨S2048x4x256, .f32⟩ : BufTy).Contents (Elt F) → (⟨S4x256x2048, .f32⟩ : BufTy).Contents (Elt F))) (afterL preI X (Proc.devRef .tc main_arg1)) (afterL preI X (Proc.devRef .tc main_v0)) := by
  simp only [afterL_eq_after_flatten]
  rw [ssa_dst 1 preI.flatten X preW_writes main_v1 (by decide +kernel)]
  rw [ssa_src 1 preI.flatten X preW_writes main_arg1 (by decide +kernel), ssa_src 1 preI.flatten X preW_writes main_v0 (by decide +kernel)]
  generalize after (List.take 1 preI.flatten) X = Y
  show after [_] Y _ = _
  after_results
  try rfl

theorem pre_v2 (X : Valuation τ sig (Elt F)) : (afterL preI X (Proc.devRef .tc main_v2)) = (((transpose S2048x4x256 [2, 0, 1] · transposes_S4x256x2048_S2048x4x256_2_0_1) : (⟨S4x256x2048, .f32⟩ : BufTy).Contents (Elt F) → (⟨S2048x4x256, .f32⟩ : BufTy).Contents (Elt F))) (afterL preI X (Proc.devRef .tc main_v1)) := by
  simp only [afterL_eq_after_flatten]
  rw [ssa_dst 2 preI.flatten X preW_writes main_v2 (by decide +kernel)]
  rw [ssa_src 2 preI.flatten X preW_writes main_v1 (by decide +kernel)]
  generalize after (List.take 2 preI.flatten) X = Y
  show after [_] Y _ = _
  after_results
  try rfl

theorem pre_v3 (X : Valuation τ sig (Elt F)) : (afterL preI X (Proc.devRef .tc main_v3)) = shapeCast S2048x1024 (afterL preI X (Proc.devRef .tc main_v2)) shapeCasts_S2048x4x256_S2048x1024 := by
  simp only [afterL_eq_after_flatten]
  rw [ssa_dst 3 preI.flatten X preW_writes main_v3 (by decide +kernel)]
  rw [ssa_src 3 preI.flatten X preW_writes main_v2 (by decide +kernel)]
  generalize after (List.take 3 preI.flatten) X = Y
  show after [_] Y _ = _
  after_results
  try rfl

theorem pre_v4 (X : Valuation τ sig (Elt F)) : (afterL preI X (Proc.devRef .tc main_v4)) = ((broadcastInDim S2048x1024 ![0, 1] bcast_S1x1024_S2048x1024_0_1 : (⟨S1x1024, .f32⟩ : BufTy).Contents (Elt F) → (⟨S2048x1024, .f32⟩ : BufTy).Contents (Elt F))) (afterL preI X (Proc.devRef .tc main_arg3)) := by
  simp only [afterL_eq_after_flatten]
  rw [ssa_dst 4 preI.flatten X preW_writes main_v4 (by decide +kernel)]
  rw [ssa_src 4 preI.flatten X preW_writes main_arg3 (by decide +kernel)]
  generalize after (List.take 4 preI.flatten) X = Y
  show after [_] Y _ = _
  after_results
  try rfl

theorem pre_v5 (X : Valuation τ sig (Elt F)) : (afterL preI X (Proc.devRef .tc main_v5)) = ((addf : (⟨S2048x1024, .f32⟩ : BufTy).Contents (Elt F) → (⟨S2048x1024, .f32⟩ : BufTy).Contents (Elt F) → (⟨S2048x1024, .f32⟩ : BufTy).Contents (Elt F))) (afterL preI X (Proc.devRef .tc main_v3)) (afterL preI X (Proc.devRef .tc main_v4)) := by
  simp only [afterL_eq_after_flatten]
  rw [ssa_dst 5 preI.flatten X preW_writes main_v5 (by decide +kernel)]
  rw [ssa_src 5 preI.flatten X preW_writes main_v3 (by decide +kernel), ssa_src 5 preI.flatten X preW_writes main_v4 (by decide +kernel)]
  generalize after (List.take 5 preI.flatten) X = Y
  show after [_] Y _ = _
  after_results
  try rfl

theorem pre_v6 (X : Valuation τ sig (Elt F)) : (afterL preI X (Proc.devRef .tc main_v6)) = ((Host.negf : (⟨S2048x1024, .f32⟩ : BufTy).Contents (Elt F) → (⟨S2048x1024, .f32⟩ : BufTy).Contents (Elt F))) (afterL preI X (Proc.devRef .tc main_v5)) := by
  simp only [afterL_eq_after_flatten]
  rw [ssa_dst 6 preI.flatten X preW_writes main_v6 (by decide +kernel)]
  rw [ssa_src 6 preI.flatten X preW_writes main_v5 (by decide +kernel)]
  generalize after (List.take 6 preI.flatten) X = Y
  show after [_] Y _ = _
  after_results
  try rfl

theorem pre_v7 (X : Valuation τ sig (Elt F)) : (afterL preI X (Proc.devRef .tc main_v7)) = ((Host.exp : (⟨S2048x1024, .f32⟩ : BufTy).Contents (Elt F) → (⟨S2048x1024, .f32⟩ : BufTy).Contents (Elt F))) (afterL preI X (Proc.devRef .tc main_v6)) := by
  simp only [afterL_eq_after_flatten]
  rw [ssa_dst 7 preI.flatten X preW_writes main_v7 (by decide +kernel)]
  rw [ssa_src 7 preI.flatten X preW_writes main_v6 (by decide +kernel)]
  generalize after (List.take 7 preI.flatten) X = Y
  show after [_] Y _ = _
  after_results
  try rfl

theorem pre_cst (X : Valuation τ sig (Elt F)) : (afterL preI X (Proc.devRef .tc main_cst)) = ((constant S_ .f32 0x3F800000#32))  := by
  simp only [afterL_eq_after_flatten]
  rw [ssa_dst 8 preI.flatten X preW_writes main_cst (by decide +kernel)]

  generalize after (List.take 8 preI.flatten) X = Y
  show after [_] Y _ = _
  after_results
  try rfl

theorem pre_v8 (X : Valuation τ sig (Elt F)) : (afterL preI X (Proc.devRef .tc main_v8)) = ((broadcastInDim S2048x1024 ![] bcast_S_S2048x1024 : (⟨S_, .f32⟩ : BufTy).Contents (Elt F) → (⟨S2048x1024, .f32⟩ : BufTy).Contents (Elt F))) (afterL preI X (Proc.devRef .tc main_cst)) := by
  simp only [afterL_eq_after_flatten]
  rw [ssa_dst 9 preI.flatten X preW_writes main_v8 (by decide +kernel)]
  rw [ssa_src 9 preI.flatten X preW_writes main_cst (by decide +kernel)]
  generalize after (List.take 9 preI.flatten) X = Y
  show after [_] Y _ = _
  after_results
  try rfl

theorem pre_v9 (X : Valuation τ sig (Elt F)) : (afterL preI X (Proc.devRef .tc main_v9)) = ((addf : (⟨S2048x1024, .f32⟩ : BufTy).Contents (Elt F) → (⟨S2048x1024, .f32⟩ : BufTy).Contents (Elt F) → (⟨S2048x1024, .f32⟩ : BufTy).Contents (Elt F))) (afterL preI X (Proc.devRef .tc main_v8)) (afterL preI X (Proc.devRef .tc main_v7)) := by
  simp only [afterL_eq_after_flatten]
  rw [ssa_dst 10 preI.flatten X preW_writes main_v9 (by decide +kernel)]
  rw [ssa_src 10 preI.flatten X preW_writes main_v8 (by decide +kernel), ssa_src 10 preI.flatten X preW_writes main_v7 (by decide +kernel)]
  generalize after (List.take 10 preI.flatten) X = Y
  show after [_] Y _ = _
  after_results
  try rfl

theorem pre_cst_0 (X : Valuation τ sig (Elt F)) : (afterL preI X (Proc.devRef .tc main_cst_0)) = ((constant S_ .f32 0x3F800000#32))  := by
  simp only [afterL_eq_after_flatten]
  rw [ssa_dst 11 preI.flatten X preW_writes main_cst_0 (by decide +kernel)]

  generalize after (List.take 11 preI.flatten) X = Y
  show after [_] Y _ = _
  after_results
  try rfl

theorem pre_v10 (X : Valuation τ sig (Elt F)) : (afterL preI X (Proc.devRef .tc main_v10)) = ((broadcastInDim S2048x1024 ![] bcast_S_S2048x1024 : (⟨S_, .f32⟩ : BufTy).Contents (Elt F) → (⟨S2048x1024, .f32⟩ : BufTy).Contents (Elt F))) (afterL preI X (Proc.devRef .tc main_cst_0)) := by
  simp only [afterL_eq_after_flatten]
  rw [ssa_dst 12 preI.flatten X preW_writes main_v10 (by decide +kernel)]
  rw [ssa_src 12 preI.flatten X preW_writes main_cst_0 (by decide +kernel)]
  generalize after (List.take 12 preI.flatten) X = Y
  show after [_] Y _ = _
  after_results
  try rfl

theorem pre_v11 (X : Valuation τ sig (Elt F)) : (afterL preI X (Proc.devRef .tc main_v11)) = ((Host.divf : (⟨S2048x1024, .f32⟩ : BufTy).Contents (Elt F) → (⟨S2048x1024, .f32⟩ : BufTy).Contents (Elt F) → (⟨S2048x1024, .f32⟩ : BufTy).Contents (Elt F))) (afterL preI X (Proc.devRef .tc main_v10)) (afterL preI X (Proc.devRef .tc main_v9)) := by
  simp only [afterL_eq_after_flatten]
  rw [ssa_dst 13 preI.flatten X preW_writes main_v11 (by decide +kernel)]
  rw [ssa_src 13 preI.flatten X preW_writes main_v10 (by decide +kernel), ssa_src 13 preI.flatten X preW_writes main_v9 (by decide +kernel)]
  generalize after (List.take 13 preI.flatten) X = Y
  show after [_] Y _ = _
  after_results
  try rfl

theorem pre_cst_1 (X : Valuation τ sig (Elt F)) : (afterL preI X (Proc.devRef .tc main_cst_1)) = ((constant S_ .f32 0x3F800000#32))  := by
  simp only [afterL_eq_after_flatten]
  rw [ssa_dst 14 preI.flatten X preW_writes main_cst_1 (by decide +kernel)]

  generalize after (List.take 14 preI.flatten) X = Y
  show after [_] Y _ = _
  after_results
  try rfl

theorem pre_v12 (X : Valuation τ sig (Elt F)) : (afterL preI X (Proc.devRef .tc main_v12)) = ((broadcastInDim S2048x1024 ![] bcast_S_S2048x1024 : (⟨S_, .f32⟩ : BufTy).Contents (Elt F) → (⟨S2048x1024, .f32⟩ : BufTy).Contents (Elt F))) (afterL preI X (Proc.devRef .tc main_cst_1)) := by
  simp only [afterL_eq_after_flatten]
  rw [ssa_dst 15 preI.flatten X preW_writes main_v12 (by decide +kernel)]
  rw [ssa_src 15 preI.flatten X preW_writes main_cst_1 (by decide +kernel)]
  generalize after (List.take 15 preI.flatten) X = Y
  show after [_] Y _ = _
  after_results
  try rfl

theorem pre_v13 (X : Valuation τ sig (Elt F)) : (afterL preI X (Proc.devRef .tc main_v13)) = ((subf : (⟨S2048x1024, .f32⟩ : BufTy).Contents (Elt F) → (⟨S2048x1024, .f32⟩ : BufTy).Contents (Elt F) → (⟨S2048x1024, .f32⟩ : BufTy).Contents (Elt F))) (afterL preI X (Proc.devRef .tc main_v12)) (afterL preI X (Proc.devRef .tc main_v11)) := by
  simp only [afterL_eq_after_flatten]
  rw [ssa_dst 16 preI.flatten X preW_writes main_v13 (by decide +kernel)]
  rw [ssa_src 16 preI.flatten X preW_writes main_v12 (by decide +kernel), ssa_src 16 preI.flatten X preW_writes main_v11 (by decide +kernel)]
  generalize after (List.take 16 preI.flatten) X = Y
  show after [_] Y _ = _
  after_results
  try rfl

theorem pre_v14 (X : Valuation τ sig (Elt F)) : (afterL preI X (Proc.devRef .tc main_v14)) = ((mulf : (⟨S2048x1024, .f32⟩ : BufTy).Contents (Elt F) → (⟨S2048x1024, .f32⟩ : BufTy).Contents (Elt F) → (⟨S2048x1024, .f32⟩ : BufTy).Contents (Elt F))) (afterL preI X (Proc.devRef .tc main_v11)) (afterL preI X (Proc.devRef .tc main_v13)) := by
  simp only [afterL_eq_after_flatten]
  rw [ssa_dst 17 preI.flatten X preW_writes main_v14 (by decide +kernel)]
  rw [ssa_src 17 preI.flatten X preW_writes main_v11 (by decide +kernel), ssa_src 17 preI.flatten X preW_writes main_v13 (by decide +kernel)]
  generalize after (List.take 17 preI.flatten) X = Y
  show after [_] Y _ = _
  after_results
  try rfl

theorem pre_v15 (X : Valuation τ sig (Elt F)) : (afterL preI X (Proc.devRef .tc main_v15)) = (((fun l r => Host.dotGeneral dot_S4x256x256_S2048x4x256_S4x256x2048_1_2_2_0_0_1 none l r) : (⟨S4x256x256, .f32⟩ : BufTy).Contents (Elt F) → (⟨S2048x4x256, .f32⟩ : BufTy).Contents (Elt F) → (⟨S4x256x2048, .f32⟩ : BufTy).Contents (Elt F))) (afterL preI X (Proc.devRef .tc main_arg2)) (afterL preI X (Proc.devRef .tc main_v0)) := by
  simp only [afterL_eq_after_flatten]
  rw [ssa_dst 18 preI.flatten X preW_writes main_v15 (by decide +kernel)]
  rw [ssa_src 18 preI.flatten X preW_writes main_arg2 (by decide +kernel), ssa_src 18 preI.flatten X preW_writes main_v0 (by decide +kernel)]
  generalize after (List.take 18 preI.flatten) X = Y
  show after [_] Y _ = _
  after_results
  try rfl

theorem pre_v16 (X : Valuation τ sig (Elt F)) : (afterL preI X (Proc.devRef .tc main_v16)) = (((transpose S2048x4x256 [2, 0, 1] · transposes_S4x256x2048_S2048x4x256_2_0_1) : (⟨S4x256x2048, .f32⟩ : BufTy).Contents (Elt F) → (⟨S2048x4x256, .f32⟩ : BufTy).Contents (Elt F))) (afterL preI X (Proc.devRef .tc main_v15)) := by
  simp only [afterL_eq_after_flatten]
  rw [ssa_dst 19 preI.flatten X preW_writes main_v16 (by decide +kernel)]
  rw [ssa_src 19 preI.flatten X preW_writes main_v15 (by decide +kernel)]
  generalize after (List.take 19 preI.flatten) X = Y
  show after [_] Y _ = _
  after_results
  try rfl

theorem pre_v17 (X : Valuation τ sig (Elt F)) : (afterL preI X (Proc.devRef .tc main_v17)) = shapeCast S2048x1024 (afterL preI X (Proc.devRef .tc main_v16)) shapeCasts_S2048x4x256_S2048x1024 := by
  simp only [afterL_eq_after_flatten]
  rw [ssa_dst 20 preI.flatten X preW_writes main_v17 (by decide +kernel)]
  rw [ssa_src 20 preI.flatten X preW_writes main_v16 (by decide +kernel)]
  generalize after (List.take 20 preI.flatten) X = Y
  show after [_] Y _ = _
  after_results
  try rfl

theorem pre_v18 (X : Valuation τ sig (Elt F)) : (afterL preI X (Proc.devRef .tc main_v18)) = ((broadcastInDim S2048x1024 ![0, 1] bcast_S1x1024_S2048x1024_0_1 : (⟨S1x1024, .f32⟩ : BufTy).Contents (Elt F) → (⟨S2048x1024, .f32⟩ : BufTy).Contents (Elt F))) (afterL preI X (Proc.devRef .tc main_arg4)) := by
  simp only [afterL_eq_after_flatten]
  rw [ssa_dst 21 preI.flatten X preW_writes main_v18 (by decide +kernel)]
  rw [ssa_src 21 preI.flatten X preW_writes main_arg4 (by decide +kernel)]
  generalize after (List.take 21 preI.flatten) X = Y
  show after [_] Y _ = _
  after_results
  try rfl

theorem pre_v19 (X : Valuation τ sig (Elt F)) : (afterL preI X (Proc.devRef .tc main_v19)) = ((addf : (⟨S2048x1024, .f32⟩ : BufTy).Contents (Elt F) → (⟨S2048x1024, .f32⟩ : BufTy).Contents (Elt F) → (⟨S2048x1024, .f32⟩ : BufTy).Contents (Elt F))) (afterL preI X (Proc.devRef .tc main_v17)) (afterL preI X (Proc.devRef .tc main_v18)) := by
  simp only [afterL_eq_after_flatten]
  rw [ssa_dst 22 preI.flatten X preW_writes main_v19 (by decide +kernel)]
  rw [ssa_src 22 preI.flatten X preW_writes main_v17 (by decide +kernel), ssa_src 22 preI.flatten X preW_writes main_v18 (by decide +kernel)]
  generalize after (List.take 22 preI.flatten) X = Y
  show after [_] Y _ = _
  after_results
  try rfl

theorem pre_v20 (X : Valuation τ sig (Elt F)) : (afterL preI X (Proc.devRef .tc main_v20)) = ((Host.negf : (⟨S2048x1024, .f32⟩ : BufTy).Contents (Elt F) → (⟨S2048x1024, .f32⟩ : BufTy).Contents (Elt F))) (afterL preI X (Proc.devRef .tc main_v19)) := by
  simp only [afterL_eq_after_flatten]
  rw [ssa_dst 23 preI.flatten X preW_writes main_v20 (by decide +kernel)]
  rw [ssa_src 23 preI.flatten X preW_writes main_v19 (by decide +kernel)]
  generalize after (List.take 23 preI.flatten) X = Y
  show after [_] Y _ = _
  after_results
  try rfl

theorem pre_v21 (X : Valuation τ sig (Elt F)) : (afterL preI X (Proc.devRef .tc main_v21)) = ((Host.exp : (⟨S2048x1024, .f32⟩ : BufTy).Contents (Elt F) → (⟨S2048x1024, .f32⟩ : BufTy).Contents (Elt F))) (afterL preI X (Proc.devRef .tc main_v20)) := by
  simp only [afterL_eq_after_flatten]
  rw [ssa_dst 24 preI.flatten X preW_writes main_v21 (by decide +kernel)]
  rw [ssa_src 24 preI.flatten X preW_writes main_v20 (by decide +kernel)]
  generalize after (List.take 24 preI.flatten) X = Y
  show after [_] Y _ = _
  after_results
  try rfl

theorem pre_cst_2 (X : Valuation τ sig (Elt F)) : (afterL preI X (Proc.devRef .tc main_cst_2)) = ((constant S_ .f32 0x3F800000#32))  := by
  simp only [afterL_eq_after_flatten]
  rw [ssa_dst 25 preI.flatten X preW_writes main_cst_2 (by decide +kernel)]

  generalize after (List.take 25 preI.flatten) X = Y
  show after [_] Y _ = _
  after_results
  try rfl

theorem pre_v22 (X : Valuation τ sig (Elt F)) : (afterL preI X (Proc.devRef .tc main_v22)) = ((broadcastInDim S2048x1024 ![] bcast_S_S2048x1024 : (⟨S_, .f32⟩ : BufTy).Contents (Elt F) → (⟨S2048x1024, .f32⟩ : BufTy).Contents (Elt F))) (afterL preI X (Proc.devRef .tc main_cst_2)) := by
  simp only [afterL_eq_after_flatten]
  rw [ssa_dst 26 preI.flatten X preW_writes main_v22 (by decide +kernel)]
  rw [ssa_src 26 preI.flatten X preW_writes main_cst_2 (by decide +kernel)]
  generalize after (List.take 26 preI.flatten) X = Y
  show after [_] Y _ = _
  after_results
  try rfl

theorem pre_v23 (X : Valuation τ sig (Elt F)) : (afterL preI X (Proc.devRef .tc main_v23)) = ((addf : (⟨S2048x1024, .f32⟩ : BufTy).Contents (Elt F) → (⟨S2048x1024, .f32⟩ : BufTy).Contents (Elt F) → (⟨S2048x1024, .f32⟩ : BufTy).Contents (Elt F))) (afterL preI X (Proc.devRef .tc main_v22)) (afterL preI X (Proc.devRef .tc main_v21)) := by
  simp only [afterL_eq_after_flatten]
  rw [ssa_dst 27 preI.flatten X preW_writes main_v23 (by decide +kernel)]
  rw [ssa_src 27 preI.flatten X preW_writes main_v22 (by decide +kernel), ssa_src 27 preI.flatten X preW_writes main_v21 (by decide +kernel)]
  generalize after (List.take 27 preI.flatten) X = Y
  show after [_] Y _ = _
  after_results
  try rfl

theorem pre_cst_3 (X : Valuation τ sig (Elt F)) : (afterL preI X (Proc.devRef .tc main_cst_3)) = ((constant S_ .f32 0x3F800000#32))  := by
  simp only [afterL_eq_after_flatten]
  rw [ssa_dst 28 preI.flatten X preW_writes main_cst_3 (by decide +kernel)]

  generalize after (List.take 28 preI.flatten) X = Y
  show after [_] Y _ = _
  after_results
  try rfl

theorem pre_v24 (X : Valuation τ sig (Elt F)) : (afterL preI X (Proc.devRef .tc main_v24)) = ((broadcastInDim S2048x1024 ![] bcast_S_S2048x1024 : (⟨S_, .f32⟩ : BufTy).Contents (Elt F) → (⟨S2048x1024, .f32⟩ : BufTy).Contents (Elt F))) (afterL preI X (Proc.devRef .tc main_cst_3)) := by
  simp only [afterL_eq_after_flatten]
  rw [ssa_dst 29 preI.flatten X preW_writes main_v24 (by decide +kernel)]
  rw [ssa_src 29 preI.flatten X preW_writes main_cst_3 (by decide +kernel)]
  generalize after (List.take 29 preI.flatten) X = Y
  show after [_] Y _ = _
  after_results
  try rfl

theorem pre_v25 (X : Valuation τ sig (Elt F)) : (afterL preI X (Proc.devRef .tc main_v25)) = ((Host.divf : (⟨S2048x1024, .f32⟩ : BufTy).Contents (Elt F) → (⟨S2048x1024, .f32⟩ : BufTy).Contents (Elt F) → (⟨S2048x1024, .f32⟩ : BufTy).Contents (Elt F))) (afterL preI X (Proc.devRef .tc main_v24)) (afterL preI X (Proc.devRef .tc main_v23)) := by
  simp only [afterL_eq_after_flatten]
  rw [ssa_dst 30 preI.flatten X preW_writes main_v25 (by decide +kernel)]
  rw [ssa_src 30 preI.flatten X preW_writes main_v24 (by decide +kernel), ssa_src 30 preI.flatten X preW_writes main_v23 (by decide +kernel)]
  generalize after (List.take 30 preI.flatten) X = Y
  show after [_] Y _ = _
  after_results
  try rfl

theorem pre_cst_4 (X : Valuation τ sig (Elt F)) : (afterL preI X (Proc.devRef .tc main_cst_4)) = ((constant S_ .f32 0x3F800000#32))  := by
  simp only [afterL_eq_after_flatten]
  rw [ssa_dst 31 preI.flatten X preW_writes main_cst_4 (by decide +kernel)]

  generalize after (List.take 31 preI.flatten) X = Y
  show after [_] Y _ = _
  after_results
  try rfl

theorem pre_v26 (X : Valuation τ sig (Elt F)) : (afterL preI X (Proc.devRef .tc main_v26)) = ((broadcastInDim S2048x1024 ![] bcast_S_S2048x1024 : (⟨S_, .f32⟩ : BufTy).Contents (Elt F) → (⟨S2048x1024, .f32⟩ : BufTy).Contents (Elt F))) (afterL preI X (Proc.devRef .tc main_cst_4)) := by
  simp only [afterL_eq_after_flatten]
  rw [ssa_dst 32 preI.flatten X preW_writes main_v26 (by decide +kernel)]
  rw [ssa_src 32 preI.flatten X preW_writes main_cst_4 (by decide +kernel)]
  generalize after (List.take 32 preI.flatten) X = Y
  show after [_] Y _ = _
  after_results
  try rfl

theorem pre_v27 (X : Valuation τ sig (Elt F)) : (afterL preI X (Proc.devRef .tc main_v27)) = ((subf : (⟨S2048x1024, .f32⟩ : BufTy).Contents (Elt F) → (⟨S2048x1024, .f32⟩ : BufTy).Contents (Elt F) → (⟨S2048x1024, .f32⟩ : BufTy).Contents (Elt F))) (afterL preI X (Proc.devRef .tc main_v26)) (afterL preI X (Proc.devRef .tc main_v25)) := by
  simp only [afterL_eq_after_flatten]
  rw [ssa_dst 33 preI.flatten X preW_writes main_v27 (by decide +kernel)]
  rw [ssa_src 33 preI.flatten X preW_writes main_v26 (by decide +kernel), ssa_src 33 preI.flatten X preW_writes main_v25 (by decide +kernel)]
  generalize after (List.take 33 preI.flatten) X = Y
  show after [_] Y _ = _
  after_results
  try rfl

theorem pre_v28 (X : Valuation τ sig (Elt F)) : (afterL preI X (Proc.devRef .tc main_v28)) = ((mulf : (⟨S2048x1024, .f32⟩ : BufTy).Contents (Elt F) → (⟨S2048x1024, .f32⟩ : BufTy).Contents (Elt F) → (⟨S2048x1024, .f32⟩ : BufTy).Contents (Elt F))) (afterL preI X (Proc.devRef .tc main_v25)) (afterL preI X (Proc.devRef .tc main_v27)) := by
  simp only [afterL_eq_after_flatten]
  rw [ssa_dst 34 preI.flatten X preW_writes main_v28 (by decide +kernel)]
  rw [ssa_src 34 preI.flatten X preW_writes main_v25 (by decide +kernel), ssa_src 34 preI.flatten X preW_writes main_v27 (by decide +kernel)]
  generalize after (List.take 34 preI.flatten) X = Y
  show after [_] Y _ = _
  after_results
  try rfl

theorem pre_cst_5 (X : Valuation τ sig (Elt F)) : (afterL preI X (Proc.devRef .tc main_cst_5)) = ((constant S_ .f32 0xC1000000#32))  := by
  simp only [afterL_eq_after_flatten]
  rw [ssa_dst 35 preI.flatten X preW_writes main_cst_5 (by decide +kernel)]

  generalize after (List.take 35 preI.flatten) X = Y
  show after [_] Y _ = _
  after_results
  try rfl

theorem pre_v29 (X : Valuation τ sig (Elt F)) : (afterL preI X (Proc.devRef .tc main_v29)) = ((broadcastInDim S2048x1024 ![] bcast_S_S2048x1024 : (⟨S_, .f32⟩ : BufTy).Contents (Elt F) → (⟨S2048x1024, .f32⟩ : BufTy).Contents (Elt F))) (afterL preI X (Proc.devRef .tc main_cst_5)) := by
  simp only [afterL_eq_after_flatten]
  rw [ssa_dst 36 preI.flatten X preW_writes main_v29 (by decide +kernel)]
  rw [ssa_src 36 preI.flatten X preW_writes main_cst_5 (by decide +kernel)]
  generalize after (List.take 36 preI.flatten) X = Y
  show after [_] Y _ = _
  after_results
  try rfl

theorem pre_v30 (X : Valuation τ sig (Elt F)) : (afterL preI X (Proc.devRef .tc main_v30)) = ((mulf : (⟨S2048x1024, .f32⟩ : BufTy).Contents (Elt F) → (⟨S2048x1024, .f32⟩ : BufTy).Contents (Elt F) → (⟨S2048x1024, .f32⟩ : BufTy).Contents (Elt F))) (afterL preI X (Proc.devRef .tc main_v29)) (afterL preI X (Proc.devRef .tc main_v25)) := by
  simp only [afterL_eq_after_flatten]
  rw [ssa_dst 37 preI.flatten X preW_writes main_v30 (by decide +kernel)]
  rw [ssa_src 37 preI.flatten X preW_writes main_v29 (by decide +kernel), ssa_src 37 preI.flatten X preW_writes main_v25 (by decide +kernel)]
  generalize after (List.take 37 preI.flatten) X = Y
  show after [_] Y _ = _
  after_results
  try rfl

theorem pre_v31 (X : Valuation τ sig (Elt F)) : (afterL preI X (Proc.devRef .tc main_v31)) = ((Host.negf : (⟨S1x1024, .f32⟩ : BufTy).Contents (Elt F) → (⟨S1x1024, .f32⟩ : BufTy).Contents (Elt F))) (afterL preI X (Proc.devRef .tc main_arg5)) := by
  simp only [afterL_eq_after_flatten]
  rw [ssa_dst 38 preI.flatten X preW_writes main_v31 (by decide +kernel)]
  rw [ssa_src 38 preI.flatten X preW_writes main_arg5 (by decide +kernel)]
  generalize after (List.take 38 preI.flatten) X = Y
  show after [_] Y _ = _
  after_results
  try rfl

theorem pre_call0_cst (X : Valuation τ sig (Elt F)) : (afterL preI X (Proc.devRef .tc main_call0_cst)) = ((constant S_ .f32 0x00000000#32))  := by
  simp only [afterL_eq_after_flatten]
  rw [ssa_dst 39 preI.flatten X preW_writes main_call0_cst (by decide +kernel)]

  generalize after (List.take 39 preI.flatten) X = Y
  show after [_] Y _ = _
  after_results
  try rfl

theorem pre_call0_v0 (X : Valuation τ sig (Elt F)) : (afterL preI X (Proc.devRef .tc main_call0_v0)) = ((broadcastInDim S1x1024 ![] bcast_S_S1x1024)) (afterL preI X (Proc.devRef .tc main_call0_cst)) := by
  simp only [afterL_eq_after_flatten]
  rw [ssa_dst 40 preI.flatten X preW_writes main_call0_v0 (by decide +kernel)]
  rw [ssa_src 40 preI.flatten X preW_writes main_call0_cst (by decide +kernel)]
  generalize after (List.take 40 preI.flatten) X = Y
  show after [_] Y _ = _
  after_results
  try rfl

theorem pre_call0_v1 (X : Valuation τ sig (Elt F)) : (afterL preI X (Proc.devRef .tc main_call0_v1)) = (maximumf) (afterL preI X (Proc.devRef .tc main_v31)) (afterL preI X (Proc.devRef .tc main_call0_v0)) := by
  simp only [afterL_eq_after_flatten]
  rw [ssa_dst 41 preI.flatten X preW_writes main_call0_v1 (by decide +kernel)]
  rw [ssa_src 41 preI.flatten X preW_writes main_v31 (by decide +kernel), ssa_src 41 preI.flatten X preW_writes main_call0_v0 (by decide +kernel)]
  generalize after (List.take 41 preI.flatten) X = Y
  show after [_] Y _ = _
  after_results
  try rfl

theorem pre_call0_v2 (X : Valuation τ sig (Elt F)) : (afterL preI X (Proc.devRef .tc main_call0_v2)) = ((broadcastInDim S1x1024 ![] bcast_S_S1x1024)) (afterL preI X (Proc.devRef .tc main_call0_cst)) := by
  simp only [afterL_eq_after_flatten]
  rw [ssa_dst 42 preI.flatten X preW_writes main_call0_v2 (by decide +kernel)]
  rw [ssa_src 42 preI.flatten X preW_writes main_call0_cst (by decide +kernel)]
  generalize after (List.take 42 preI.flatten) X = Y
  show after [_] Y _ = _
  after_results
  try rfl

theorem pre_call0_v3 (X : Valuation τ sig (Elt F)) : (afterL preI X (Proc.devRef .tc main_call0_v3)) = (subf) (afterL preI X (Proc.devRef .tc main_v31)) (afterL preI X (Proc.devRef .tc main_call0_v2)) := by
  simp only [afterL_eq_after_flatten]
  rw [ssa_dst 43 preI.flatten X preW_writes main_call0_v3 (by decide +kernel)]
  rw [ssa_src 43 preI.flatten X preW_writes main_v31 (by decide +kernel), ssa_src 43 preI.flatten X preW_writes main_call0_v2 (by decide +kernel)]
  generalize after (List.take 43 preI.flatten) X = Y
  show after [_] Y _ = _
  after_results
  try rfl

theorem pre_call0_v4 (X : Valuation τ sig (Elt F)) : (afterL preI X (Proc.devRef .tc main_call0_v4)) = ((cmpf .une)) (afterL preI X (Proc.devRef .tc main_call0_v3)) (afterL preI X (Proc.devRef .tc main_call0_v3)) := by
  simp only [afterL_eq_after_flatten]
  rw [ssa_dst 44 preI.flatten X preW_writes main_call0_v4 (by decide +kernel)]
  rw [ssa_src 44 preI.flatten X preW_writes main_call0_v3 (by decide +kernel)]
  generalize after (List.take 44 preI.flatten) X = Y
  show after [_] Y _ = _
  after_results
  try rfl

theorem pre_call0_v5 (X : Valuation τ sig (Elt F)) : (afterL preI X (Proc.devRef .tc main_call0_v5)) = ((broadcastInDim S1x1024 ![] bcast_S_S1x1024)) (afterL preI X (Proc.devRef .tc main_call0_cst)) := by
  simp only [afterL_eq_after_flatten]
  rw [ssa_dst 45 preI.flatten X preW_writes main_call0_v5 (by decide +kernel)]
  rw [ssa_src 45 preI.flatten X preW_writes main_call0_cst (by decide +kernel)]
  generalize after (List.take 45 preI.flatten) X = Y
  show after [_] Y _ = _
  after_results
  try rfl

theorem pre_call0_v6 (X : Valuation τ sig (Elt F)) : (afterL preI X (Proc.devRef .tc main_call0_v6)) = (addf) (afterL preI X (Proc.devRef .tc main_v31)) (afterL preI X (Proc.devRef .tc main_call0_v5)) := by
  simp only [afterL_eq_after_flatten]
  rw [ssa_dst 46 preI.flatten X preW_writes main_call0_v6 (by decide +kernel)]
  rw [ssa_src 46 preI.flatten X preW_writes main_v31 (by decide +kernel), ssa_src 46 preI.flatten X preW_writes main_call0_v5 (by decide +kernel)]
  generalize after (List.take 46 preI.flatten) X = Y
  show after [_] Y _ = _
  after_results
  try rfl

theorem pre_call0_v7 (X : Valuation τ sig (Elt F)) : (afterL preI X (Proc.devRef .tc main_call0_v7)) = (Host.absf) (afterL preI X (Proc.devRef .tc main_call0_v3)) := by
  simp only [afterL_eq_after_flatten]
  rw [ssa_dst 47 preI.flatten X preW_writes main_call0_v7 (by decide +kernel)]
  rw [ssa_src 47 preI.flatten X preW_writes main_call0_v3 (by decide +kernel)]
  generalize after (List.take 47 preI.flatten) X = Y
  show after [_] Y _ = _
  after_results
  try rfl

theorem pre_call0_v8 (X : Valuation τ sig (Elt F)) : (afterL preI X (Proc.devRef .tc main_call0_v8)) = (Host.negf) (afterL preI X (Proc.devRef .tc main_call0_v7)) := by
  simp only [afterL_eq_after_flatten]
  rw [ssa_dst 48 preI.flatten X preW_writes main_call0_v8 (by decide +kernel)]
  rw [ssa_src 48 preI.flatten X preW_writes main_call0_v7 (by decide +kernel)]
  generalize after (List.take 48 preI.flatten) X = Y
  show after [_] Y _ = _
  after_results
  try rfl

theorem pre_call0_v9 (X : Valuation τ sig (Elt F)) : (afterL preI X (Proc.devRef .tc main_call0_v9)) = (Host.exp) (afterL preI X (Proc.devRef .tc main_call0_v8)) := by
  simp only [afterL_eq_after_flatten]
  rw [ssa_dst 49 preI.flatten X preW_writes main_call0_v9 (by decide +kernel)]
  rw [ssa_src 49 preI.flatten X preW_writes main_call0_v8 (by decide +kernel)]
  generalize after (List.take 49 preI.flatten) X = Y
  show after [_] Y _ = _
  after_results
  try rfl

theorem pre_call0_v10 (X : Valuation τ sig (Elt F)) : (afterL preI X (Proc.devRef .tc main_call0_v10)) = (Host.log1p) (afterL preI X (Proc.devRef .tc main_call0_v9)) := by
  simp only [afterL_eq_after_flatten]
  rw [ssa_dst 50 preI.flatten X preW_writes main_call0_v10 (by decide +kernel)]
  rw [ssa_src 50 preI.flatten X preW_writes main_call0_v9 (by decide +kernel)]
  generalize after (List.take 50 preI.flatten) X = Y
  show after [_] Y _ = _
  after_results
  try rfl

theorem pre_call0_v11 (X : Valuation τ sig (Elt F)) : (afterL preI X (Proc.devRef .tc main_call0_v11)) = (addf) (afterL preI X (Proc.devRef .tc main_call0_v1)) (afterL preI X (Proc.devRef .tc main_call0_v10)) := by
  simp only [afterL_eq_after_flatten]
  rw [ssa_dst 51 preI.flatten X preW_writes main_call0_v11 (by decide +kernel)]
  rw [ssa_src 51 preI.flatten X preW_writes main_call0_v1 (by decide +kernel), ssa_src 51 preI.flatten X preW_writes main_call0_v10 (by decide +kernel)]
  generalize after (List.take 51 preI.flatten) X = Y
  show after [_] Y _ = _
  after_results
  try rfl

theorem pre_v32_0 (X : Valuation τ sig (Elt F)) : (afterL preI X (Proc.devRef .tc main_v32_0)) = (select) (afterL preI X (Proc.devRef .tc main_call0_v4)) (afterL preI X (Proc.devRef .tc main_call0_v6)) (afterL preI X (Proc.devRef .tc main_call0_v11)) := by
  simp only [afterL_eq_after_flatten]
  rw [ssa_dst 52 preI.flatten X preW_writes main_v32_0 (by decide +kernel)]
  rw [ssa_src 52 preI.flatten X preW_writes main_call0_v4 (by decide +kernel), ssa_src 52 preI.flatten X preW_writes main_call0_v6 (by decide +kernel), ssa_src 52 preI.flatten X preW_writes main_call0_v11 (by decide +kernel)]
  generalize after (List.take 52 preI.flatten) X = Y
  show after [_] Y _ = _
  after_results
  try rfl

theorem pre_call0_cst_0 (X : Valuation τ sig (Elt F)) : (afterL preI X (Proc.devRef .tc main_call0_cst_0)) = ((constant S_ .f32 0x7F800000#32))  := by
  simp only [afterL_eq_after_flatten]
  rw [ssa_dst 53 preI.flatten X preW_writes main_call0_cst_0 (by decide +kernel)]

  generalize after (List.take 53 preI.flatten) X = Y
  show after [_] Y _ = _
  after_results
  try rfl

theorem pre_call0_v13 (X : Valuation τ sig (Elt F)) : (afterL preI X (Proc.devRef .tc main_call0_v13)) = ((broadcastInDim S1x1024 ![] bcast_S_S1x1024)) (afterL preI X (Proc.devRef .tc main_call0_cst_0)) := by
  simp only [afterL_eq_after_flatten]
  rw [ssa_dst 54 preI.flatten X preW_writes main_call0_v13 (by decide +kernel)]
  rw [ssa_src 54 preI.flatten X preW_writes main_call0_cst_0 (by decide +kernel)]
  generalize after (List.take 54 preI.flatten) X = Y
  show after [_] Y _ = _
  after_results
  try rfl

theorem pre_call0_v14 (X : Valuation τ sig (Elt F)) : (afterL preI X (Proc.devRef .tc main_call0_v14)) = ((cmpf .oeq)) (afterL preI X (Proc.devRef .tc main_v31)) (afterL preI X (Proc.devRef .tc main_call0_v13)) := by
  simp only [afterL_eq_after_flatten]
  rw [ssa_dst 55 preI.flatten X preW_writes main_call0_v14 (by decide +kernel)]
  rw [ssa_src 55 preI.flatten X preW_writes main_v31 (by decide +kernel), ssa_src 55 preI.flatten X preW_writes main_call0_v13 (by decide +kernel)]
  generalize after (List.take 55 preI.flatten) X = Y
  show after [_] Y _ = _
  after_results
  try rfl

theorem pre_call0_cst_1 (X : Valuation τ sig (Elt F)) : (afterL preI X (Proc.devRef .tc main_call0_cst_1)) = ((constant S_ .f32 0x00000000#32))  := by
  simp only [afterL_eq_after_flatten]
  rw [ssa_dst 56 preI.flatten X preW_writes main_call0_cst_1 (by decide +kernel)]

  generalize after (List.take 56 preI.flatten) X = Y
  show after [_] Y _ = _
  after_results
  try rfl

theorem pre_call0_v15 (X : Valuation τ sig (Elt F)) : (afterL preI X (Proc.devRef .tc main_call0_v15)) = ((broadcastInDim S1x1024 ![] bcast_S_S1x1024)) (afterL preI X (Proc.devRef .tc main_call0_cst_1)) := by
  simp only [afterL_eq_after_flatten]
  rw [ssa_dst 57 preI.flatten X preW_writes main_call0_v15 (by decide +kernel)]
  rw [ssa_src 57 preI.flatten X preW_writes main_call0_cst_1 (by decide +kernel)]
  generalize after (List.take 57 preI.flatten) X = Y
  show after [_] Y _ = _
  after_results
  try rfl

theorem pre_call0_v16 (X : Valuation τ sig (Elt F)) : (afterL preI X (Proc.devRef .tc main_call0_v16)) = (select) (afterL preI X (Proc.devRef .tc main_call0_v14)) (afterL preI X (Proc.devRef .tc main_call0_v15)) (afterL preI X (Proc.devRef .tc main_v31)) := by
  simp only [afterL_eq_after_flatten]
  rw [ssa_dst 58 preI.flatten X preW_writes main_call0_v16 (by decide +kernel)]
  rw [ssa_src 58 preI.flatten X preW_writes main_call0_v14 (by decide +kernel), ssa_src 58 preI.flatten X preW_writes main_call0_v15 (by decide +kernel), ssa_src 58 preI.flatten X preW_writes main_v31 (by decide +kernel)]
  generalize after (List.take 58 preI.flatten) X = Y
  show after [_] Y _ = _
  after_results
  try rfl

theorem pre_call0_cst_2 (X : Valuation τ sig (Elt F)) : (afterL preI X (Proc.devRef .tc main_call0_cst_2)) = ((constant S_ .f32 0x7F800000#32))  := by
  simp only [afterL_eq_after_flatten]
  rw [ssa_dst 59 preI.flatten X preW_writes main_call0_cst_2 (by decide +kernel)]

  generalize after (List.take 59 preI.flatten) X = Y
  show after [_] Y _ = _
  after_results
  try rfl

theorem pre_call0_v17 (X : Valuation τ sig (Elt F)) : (afterL preI X (Proc.devRef .tc main_call0_v17)) = ((broadcastInDim S1x1024 ![] bcast_S_S1x1024)) (afterL preI X (Proc.devRef .tc main_call0_cst_2)) := by
  simp only [afterL_eq_after_flatten]
  rw [ssa_dst 60 preI.flatten X preW_writes main_call0_v17 (by decide +kernel)]
  rw [ssa_src 60 preI.flatten X preW_writes main_call0_cst_2 (by decide +kernel)]
  generalize after (List.take 60 preI.flatten) X = Y
  show after [_] Y _ = _
  after_results
  try rfl

theorem pre_call0_v18 (X : Valuation τ sig (Elt F)) : (afterL preI X (Proc.devRef .tc main_call0_v18)) = ((cmpf .oeq)) (afterL preI X (Proc.devRef .tc main_v32_0)) (afterL preI X (Proc.devRef .tc main_call0_v17)) := by
  simp only [afterL_eq_after_flatten]
  rw [ssa_dst 61 preI.flatten X preW_writes main_call0_v18 (by decide +kernel)]
  rw [ssa_src 61 preI.flatten X preW_writes main_v32_0 (by decide +kernel), ssa_src 61 preI.flatten X preW_writes main_call0_v17 (by decide +kernel)]
  generalize after (List.take 61 preI.flatten) X = Y
  show after [_] Y _ = _
  after_results
  try rfl

theorem pre_call0_cst_3 (X : Valuation τ sig (Elt F)) : (afterL preI X (Proc.devRef .tc main_call0_cst_3)) = ((constant S_ .f32 0x00000000#32))  := by
  simp only [afterL_eq_after_flatten]
  rw [ssa_dst 62 preI.flatten X preW_writes main_call0_cst_3 (by decide +kernel)]

  generalize after (List.take 62 preI.flatten) X = Y
  show after [_] Y _ = _
  after_results
  try rfl

theorem pre_call0_v19 (X : Valuation τ sig (Elt F)) : (afterL preI X (Proc.devRef .tc main_call0_v19)) = ((broadcastInDim S1x1024 ![] bcast_S_S1x1024)) (afterL preI X (Proc.devRef .tc main_call0_cst_3)) := by
  simp only [afterL_eq_after_flatten]
  rw [ssa_dst 63 preI.flatten X preW_writes main_call0_v19 (by decide +kernel)]
  rw [ssa_src 63 preI.flatten X preW_writes main_call0_cst_3 (by decide +kernel)]
  generalize after (List.take 63 preI.flatten) X = Y
  show after [_] Y _ = _
  after_results
  try rfl

theorem pre_call0_v20 (X : Valuation τ sig (Elt F)) : (afterL preI X (Proc.devRef .tc main_call0_v20)) = (select) (afterL preI X (Proc.devRef .tc main_call0_v18)) (afterL preI X (Proc.devRef .tc main_call0_v19)) (afterL preI X (Proc.devRef .tc main_v32_0)) := by
  simp only [afterL_eq_after_flatten]
  rw [ssa_dst 64 preI.flatten X preW_writes main_call0_v20 (by decide +kernel)]
  rw [ssa_src 64 preI.flatten X preW_writes main_call0_v18 (by decide +kernel), ssa_src 64 preI.flatten X preW_writes main_call0_v19 (by decide +kernel), ssa_src 64 preI.flatten X preW_writes main_v32_0 (by decide +kernel)]
  generalize after (List.take 64 preI.flatten) X = Y
  show after [_] Y _ = _
  after_results
  try rfl

theorem pre_call0_v21 (X : Valuation τ sig (Elt F)) : (afterL preI X (Proc.devRef .tc main_call0_v21)) = (subf) (afterL preI X (Proc.devRef .tc main_call0_v16)) (afterL preI X (Proc.devRef .tc main_call0_v20)) := by
  simp only [afterL_eq_after_flatten]
  rw [ssa_dst 65 preI.flatten X preW_writes main_call0_v21 (by decide +kernel)]
  rw [ssa_src 65 preI.flatten X preW_writes main_call0_v16 (by decide +kernel), ssa_src 65 preI.flatten X preW_writes main_call0_v20 (by decide +kernel)]
  generalize after (List.take 65 preI.flatten) X = Y
  show after [_] Y _ = _
  after_results
  try rfl

theorem pre_v32_1 (X : Valuation τ sig (Elt F)) : (afterL preI X (Proc.devRef .tc main_v32_1)) = (Host.exp) (afterL preI X (Proc.devRef .tc main_call0_v21)) := by
  simp only [afterL_eq_after_flatten]
  rw [ssa_dst 66 preI.flatten X preW_writes main_v32_1 (by decide +kernel)]
  rw [ssa_src 66 preI.flatten X preW_writes main_call0_v21 (by decide +kernel)]
  generalize after (List.take 66 preI.flatten) X = Y
  show after [_] Y _ = _
  after_results
  try rfl

theorem pre_call0_cst_4 (X : Valuation τ sig (Elt F)) : (afterL preI X (Proc.devRef .tc main_call0_cst_4)) = ((constant S_ .f32 0x00000000#32))  := by
  simp only [afterL_eq_after_flatten]
  rw [ssa_dst 67 preI.flatten X preW_writes main_call0_cst_4 (by decide +kernel)]

  generalize after (List.take 67 preI.flatten) X = Y
  show after [_] Y _ = _
  after_results
  try rfl

theorem pre_call0_cst_5 (X : Valuation τ sig (Elt F)) : (afterL preI X (Proc.devRef .tc main_call0_cst_5)) = ((constant S_ .f32 0x7F800000#32))  := by
  simp only [afterL_eq_after_flatten]
  rw [ssa_dst 68 preI.flatten X preW_writes main_call0_cst_5 (by decide +kernel)]

  generalize after (List.take 68 preI.flatten) X = Y
  show after [_] Y _ = _
  after_results
  try rfl

theorem pre_call0_v23 (X : Valuation τ sig (Elt F)) : (afterL preI X (Proc.devRef .tc main_call0_v23)) = ((cmpf .oeq)) (afterL preI X (Proc.devRef .tc main_call0_cst_4)) (afterL preI X (Proc.devRef .tc main_call0_cst_5)) := by
  simp only [afterL_eq_after_flatten]
  rw [ssa_dst 69 preI.flatten X preW_writes main_call0_v23 (by decide +kernel)]
  rw [ssa_src 69 preI.flatten X preW_writes main_call0_cst_4 (by decide +kernel), ssa_src 69 preI.flatten X preW_writes main_call0_cst_5 (by decide +kernel)]
  generalize after (List.take 69 preI.flatten) X = Y
  show after [_] Y _ = _
  after_results
  try rfl

theorem pre_call0_cst_6 (X : Valuation τ sig (Elt F)) : (afterL preI X (Proc.devRef .tc main_call0_cst_6)) = ((constant S_ .f32 0x00000000#32))  := by
  simp only [afterL_eq_after_flatten]
  rw [ssa_dst 70 preI.flatten X preW_writes main_call0_cst_6 (by decide +kernel)]

  generalize after (List.take 70 preI.flatten) X = Y
  show after [_] Y _ = _
  after_results
  try rfl

theorem pre_call0_cst_7 (X : Valuation τ sig (Elt F)) : (afterL preI X (Proc.devRef .tc main_call0_cst_7)) = ((constant S_ .f32 0x00000000#32))  := by
  simp only [afterL_eq_after_flatten]
  rw [ssa_dst 71 preI.flatten X preW_writes main_call0_cst_7 (by decide +kernel)]

  generalize after (List.take 71 preI.flatten) X = Y
  show after [_] Y _ = _
  after_results
  try rfl

theorem pre_call0_v24 (X : Valuation τ sig (Elt F)) : (afterL preI X (Proc.devRef .tc main_call0_v24)) = (select) (afterL preI X (Proc.devRef .tc main_call0_v23)) (afterL preI X (Proc.devRef .tc main_call0_cst_7)) (afterL preI X (Proc.devRef .tc main_call0_cst_6)) := by
  simp only [afterL_eq_after_flatten]
  rw [ssa_dst 72 preI.flatten X preW_writes main_call0_v24 (by decide +kernel)]
  rw [ssa_src 72 preI.flatten X preW_writes main_call0_v23 (by decide +kernel), ssa_src 72 preI.flatten X preW_writes main_call0_cst_7 (by decide +kernel), ssa_src 72 preI.flatten X preW_writes main_call0_cst_6 (by decide +kernel)]
  generalize after (List.take 72 preI.flatten) X = Y
  show after [_] Y _ = _
  after_results
  try rfl

theorem pre_call0_cst_8 (X : Valuation τ sig (Elt F)) : (afterL preI X (Proc.devRef .tc main_call0_cst_8)) = ((constant S_ .f32 0x7F800000#32))  := by
  simp only [afterL_eq_after_flatten]
  rw [ssa_dst 73 preI.flatten X preW_writes main_call0_cst_8 (by decide +kernel)]

  generalize after (List.take 73 preI.flatten) X = Y
  show after [_] Y _ = _
  after_results
  try rfl

theorem pre_call0_v25 (X : Valuation τ sig (Elt F)) : (afterL preI X (Proc.devRef .tc main_call0_v25)) = ((broadcastInDim S1x1024 ![] bcast_S_S1x1024)) (afterL preI X (Proc.devRef .tc main_call0_cst_8)) := by
  simp only [afterL_eq_after_flatten]
  rw [ssa_dst 74 preI.flatten X preW_writes main_call0_v25 (by decide +kernel)]
  rw [ssa_src 74 preI.flatten X preW_writes main_call0_cst_8 (by decide +kernel)]
  generalize after (List.take 74 preI.flatten) X = Y
  show after [_] Y _ = _
  after_results
  try rfl

theorem pre_call0_v26 (X : Valuation τ sig (Elt F)) : (afterL preI X (Proc.devRef .tc main_call0_v26)) = ((cmpf .oeq)) (afterL preI X (Proc.devRef .tc main_v32_0)) (afterL preI X (Proc.devRef .tc main_call0_v25)) := by
  simp only [afterL_eq_after_flatten]
  rw [ssa_dst 75 preI.flatten X preW_writes main_call0_v26 (by decide +kernel)]
  rw [ssa_src 75 preI.flatten X preW_writes main_v32_0 (by decide +kernel), ssa_src 75 preI.flatten X preW_writes main_call0_v25 (by decide +kernel)]
  generalize after (List.take 75 preI.flatten) X = Y
  show after [_] Y _ = _
  after_results
  try rfl

theorem pre_call0_cst_9 (X : Valuation τ sig (Elt F)) : (afterL preI X (Proc.devRef .tc main_call0_cst_9)) = ((constant S_ .f32 0x00000000#32))  := by
  simp only [afterL_eq_after_flatten]
  rw [ssa_dst 76 preI.flatten X preW_writes main_call0_cst_9 (by decide +kernel)]

  generalize after (List.take 76 preI.flatten) X = Y
  show after [_] Y _ = _
  after_results
  try rfl

theorem pre_call0_v27 (X : Valuation τ sig (Elt F)) : (afterL preI X (Proc.devRef .tc main_call0_v27)) = ((broadcastInDim S1x1024 ![] bcast_S_S1x1024)) (afterL preI X (Proc.devRef .tc main_call0_cst_9)) := by
  simp only [afterL_eq_after_flatten]
  rw [ssa_dst 77 preI.flatten X preW_writes main_call0_v27 (by decide +kernel)]
  rw [ssa_src 77 preI.flatten X preW_writes main_call0_cst_9 (by decide +kernel)]
  generalize after (List.take 77 preI.flatten) X = Y
  show after [_] Y _ = _
  after_results
  try rfl

theorem pre_call0_v28 (X : Valuation τ sig (Elt F)) : (afterL preI X (Proc.devRef .tc main_call0_v28)) = (select) (afterL preI X (Proc.devRef .tc main_call0_v26)) (afterL preI X (Proc.devRef .tc main_call0_v27)) (afterL preI X (Proc.devRef .tc main_v32_0)) := by
  simp only [afterL_eq_after_flatten]
  rw [ssa_dst 78 preI.flatten X preW_writes main_call0_v28 (by decide +kernel)]
  rw [ssa_src 78 preI.flatten X preW_writes main_call0_v26 (by decide +kernel), ssa_src 78 preI.flatten X preW_writes main_call0_v27 (by decide +kernel), ssa_src 78 preI.flatten X preW_writes main_v32_0 (by decide +kernel)]
  generalize after (List.take 78 preI.flatten) X = Y
  show after [_] Y _ = _
  after_results
  try rfl

theorem pre_call0_v29 (X : Valuation τ sig (Elt F)) : (afterL preI X (Proc.devRef .tc main_call0_v29)) = ((broadcastInDim S1x1024 ![] bcast_S_S1x1024)) (afterL preI X (Proc.devRef .tc main_call0_v24)) := by
  simp only [afterL_eq_after_flatten]
  rw [ssa_dst 79 preI.flatten X preW_writes main_call0_v29 (by decide +kernel)]
  rw [ssa_src 79 preI.flatten X preW_writes main_call0_v24 (by decide +kernel)]
  generalize after (List.take 79 preI.flatten) X = Y
  show after [_] Y _ = _
  after_results
  try rfl

theorem pre_call0_v30 (X : Valuation τ sig (Elt F)) : (afterL preI X (Proc.devRef .tc main_call0_v30)) = (subf) (afterL preI X (Proc.devRef .tc main_call0_v29)) (afterL preI X (Proc.devRef .tc main_call0_v28)) := by
  simp only [afterL_eq_after_flatten]
  rw [ssa_dst 80 preI.flatten X preW_writes main_call0_v30 (by decide +kernel)]
  rw [ssa_src 80 preI.flatten X preW_writes main_call0_v29 (by decide +kernel), ssa_src 80 preI.flatten X preW_writes main_call0_v28 (by decide +kernel)]
  generalize after (List.take 80 preI.flatten) X = Y
  show after [_] Y _ = _
  after_results
  try rfl

theorem pre_call0_v31 (X : Valuation τ sig (Elt F)) : (afterL preI X (Proc.devRef .tc main_call0_v31)) = (Host.exp) (afterL preI X (Proc.devRef .tc main_call0_v30)) := by
  simp only [afterL_eq_after_flatten]
  rw [ssa_dst 81 preI.flatten X preW_writes main_call0_v31 (by decide +kernel)]
  rw [ssa_src 81 preI.flatten X preW_writes main_call0_v30 (by decide +kernel)]
  generalize after (List.take 81 preI.flatten) X = Y
  show after [_] Y _ = _
  after_results
  try rfl

theorem pre_call0_cst_10 (X : Valuation τ sig (Elt F)) : (afterL preI X (Proc.devRef .tc main_call0_cst_10)) = ((constant S_ .f32 0x00000000#32))  := by
  simp only [afterL_eq_after_flatten]
  rw [ssa_dst 82 preI.flatten X preW_writes main_call0_cst_10 (by decide +kernel)]

  generalize after (List.take 82 preI.flatten) X = Y
  show after [_] Y _ = _
  after_results
  try rfl

theorem pre_call0_v32 (X : Valuation τ sig (Elt F)) : (afterL preI X (Proc.devRef .tc main_call0_v32)) = ((broadcastInDim S1x1024 ![] bcast_S_S1x1024)) (afterL preI X (Proc.devRef .tc main_call0_cst_10)) := by
  simp only [afterL_eq_after_flatten]
  rw [ssa_dst 83 preI.flatten X preW_writes main_call0_v32 (by decide +kernel)]
  rw [ssa_src 83 preI.flatten X preW_writes main_call0_cst_10 (by decide +kernel)]
  generalize after (List.take 83 preI.flatten) X = Y
  show after [_] Y _ = _
  after_results
  try rfl

theorem pre_v32_2 (X : Valuation τ sig (Elt F)) : (afterL preI X (Proc.devRef .tc main_v32_2)) = (mulf) (afterL preI X (Proc.devRef .tc main_call0_v32)) (afterL preI X (Proc.devRef .tc main_call0_v31)) := by
  simp only [afterL_eq_after_flatten]
  rw [ssa_dst 84 preI.flatten X preW_writes main_v32_2 (by decide +kernel)]
  rw [ssa_src 84 preI.flatten X preW_writes main_call0_v32 (by decide +kernel), ssa_src 84 preI.flatten X preW_writes main_call0_v31 (by decide +kernel)]
  generalize after (List.take 84 preI.flatten) X = Y
  show after [_] Y _ = _
  after_results
  try rfl

theorem pre_v33 (X : Valuation τ sig (Elt F)) : (afterL preI X (Proc.devRef .tc main_v33)) = ((broadcastInDim S2048x1024 ![0, 1] bcast_S1x1024_S2048x1024_0_1 : (⟨S1x1024, .f32⟩ : BufTy).Contents (Elt F) → (⟨S2048x1024, .f32⟩ : BufTy).Contents (Elt F))) (afterL preI X (Proc.devRef .tc main_v32_0)) := by
  simp only [afterL_eq_after_flatten]
  rw [ssa_dst 85 preI.flatten X preW_writes main_v33 (by decide +kernel)]
  rw [ssa_src 85 preI.flatten X preW_writes main_v32_0 (by decide +kernel)]
  generalize after (List.take 85 preI.flatten) X = Y
  show after [_] Y _ = _
  after_results
  try rfl

theorem pre_v34 (X : Valuation τ sig (Elt F)) : (afterL preI X (Proc.devRef .tc main_v34)) = ((mulf : (⟨S2048x1024, .f32⟩ : BufTy).Contents (Elt F) → (⟨S2048x1024, .f32⟩ : BufTy).Contents (Elt F) → (⟨S2048x1024, .f32⟩ : BufTy).Contents (Elt F))) (afterL preI X (Proc.devRef .tc main_v30)) (afterL preI X (Proc.devRef .tc main_v33)) := by
  simp only [afterL_eq_after_flatten]
  rw [ssa_dst 86 preI.flatten X preW_writes main_v34 (by decide +kernel)]
  rw [ssa_src 86 preI.flatten X preW_writes main_v30 (by decide +kernel), ssa_src 86 preI.flatten X preW_writes main_v33 (by decide +kernel)]
  generalize after (List.take 86 preI.flatten) X = Y
  show after [_] Y _ = _
  after_results
  try rfl

theorem pre_v35 (X : Valuation τ sig (Elt F)) : (afterL preI X (Proc.devRef .tc main_v35)) = ((Host.exp : (⟨S2048x1024, .f32⟩ : BufTy).Contents (Elt F) → (⟨S2048x1024, .f32⟩ : BufTy).Contents (Elt F))) (afterL preI X (Proc.devRef .tc main_v34)) := by
  simp only [afterL_eq_after_flatten]
  rw [ssa_dst 87 preI.flatten X preW_writes main_v35 (by decide +kernel)]
  rw [ssa_src 87 preI.flatten X preW_writes main_v34 (by decide +kernel)]
  generalize after (List.take 87 preI.flatten) X = Y
  show after [_] Y _ = _
  after_results
  try rfl

theorem pre_cst_6 (X : Valuation τ sig (Elt F)) : (afterL preI X (Proc.devRef .tc main_cst_6)) = ((constant S_ .f32 0x40000000#32))  := by
  simp only [afterL_eq_after_flatten]
  rw [ssa_dst 88 preI.flatten X preW_writes main_cst_6 (by decide +kernel)]

  generalize after (List.take 88 preI.flatten) X = Y
  show after [_] Y _ = _
  after_results
  try rfl

theorem pre_v36 (X : Valuation τ sig (Elt F)) : (afterL preI X (Proc.devRef .tc main_v36)) = ((broadcastInDim S2048x1024 ![] bcast_S_S2048x1024 : (⟨S_, .f32⟩ : BufTy).Contents (Elt F) → (⟨S2048x1024, .f32⟩ : BufTy).Contents (Elt F))) (afterL preI X (Proc.devRef .tc main_cst_6)) := by
  simp only [afterL_eq_after_flatten]
  rw [ssa_dst 89 preI.flatten X preW_writes main_v36 (by decide +kernel)]
  rw [ssa_src 89 preI.flatten X preW_writes main_cst_6 (by decide +kernel)]
  generalize after (List.take 89 preI.flatten) X = Y
  show after [_] Y _ = _
  after_results
  try rfl

theorem pre_v37 (X : Valuation τ sig (Elt F)) : (afterL preI X (Proc.devRef .tc main_v37)) = ((mulf : (⟨S2048x1024, .f32⟩ : BufTy).Contents (Elt F) → (⟨S2048x1024, .f32⟩ : BufTy).Contents (Elt F) → (⟨S2048x1024, .f32⟩ : BufTy).Contents (Elt F))) (afterL preI X (Proc.devRef .tc main_v36)) (afterL preI X (Proc.devRef .tc main_v34)) := by
  simp only [afterL_eq_after_flatten]
  rw [ssa_dst 90 preI.flatten X preW_writes main_v37 (by decide +kernel)]
  rw [ssa_src 90 preI.flatten X preW_writes main_v36 (by decide +kernel), ssa_src 90 preI.flatten X preW_writes main_v34 (by decide +kernel)]
  generalize after (List.take 90 preI.flatten) X = Y
  show after [_] Y _ = _
  after_results
  try rfl

theorem pre_v38 (X : Valuation τ sig (Elt F)) : (afterL preI X (Proc.devRef .tc main_v38)) = ((Host.exp : (⟨S2048x1024, .f32⟩ : BufTy).Contents (Elt F) → (⟨S2048x1024, .f32⟩ : BufTy).Contents (Elt F))) (afterL preI X (Proc.devRef .tc main_v37)) := by
  simp only [afterL_eq_after_flatten]
  rw [ssa_dst 91 preI.flatten X preW_writes main_v38 (by decide +kernel)]
  rw [ssa_src 91 preI.flatten X preW_writes main_v37 (by decide +kernel)]
  generalize after (List.take 91 preI.flatten) X = Y
  show after [_] Y _ = _
  after_results
  try rfl

theorem pre_cst_7 (X : Valuation τ sig (Elt F)) : (afterL preI X (Proc.devRef .tc main_cst_7)) = ((constant S_ .f32 0x3F800000#32))  := by
  simp only [afterL_eq_after_flatten]
  rw [ssa_dst 92 preI.flatten X preW_writes main_cst_7 (by decide +kernel)]

  generalize after (List.take 92 preI.flatten) X = Y
  show after [_] Y _ = _
  after_results
  try rfl

theorem pre_v39 (X : Valuation τ sig (Elt F)) : (afterL preI X (Proc.devRef .tc main_v39)) = ((broadcastInDim S2048x1024 ![] bcast_S_S2048x1024 : (⟨S_, .f32⟩ : BufTy).Contents (Elt F) → (⟨S2048x1024, .f32⟩ : BufTy).Contents (Elt F))) (afterL preI X (Proc.devRef .tc main_cst_7)) := by
  simp only [afterL_eq_after_flatten]
  rw [ssa_dst 93 preI.flatten X preW_writes main_v39 (by decide +kernel)]
  rw [ssa_src 93 preI.flatten X preW_writes main_cst_7 (by decide +kernel)]
  generalize after (List.take 93 preI.flatten) X = Y
  show after [_] Y _ = _
  after_results
  try rfl

theorem pre_v40 (X : Valuation τ sig (Elt F)) : (afterL preI X (Proc.devRef .tc main_v40)) = ((subf : (⟨S2048x1024, .f32⟩ : BufTy).Contents (Elt F) → (⟨S2048x1024, .f32⟩ : BufTy).Contents (Elt F) → (⟨S2048x1024, .f32⟩ : BufTy).Contents (Elt F))) (afterL preI X (Proc.devRef .tc main_v39)) (afterL preI X (Proc.devRef .tc main_v38)) := by
  simp only [afterL_eq_after_flatten]
  rw [ssa_dst 94 preI.flatten X preW_writes main_v40 (by decide +kernel)]
  rw [ssa_src 94 preI.flatten X preW_writes main_v39 (by decide +kernel), ssa_src 94 preI.flatten X preW_writes main_v38 (by decide +kernel)]
  generalize after (List.take 94 preI.flatten) X = Y
  show after [_] Y _ = _
  after_results
  try rfl

theorem pre_v41 (X : Valuation τ sig (Elt F)) : (afterL preI X (Proc.devRef .tc main_v41)) = ((Host.sqrt : (⟨S2048x1024, .f32⟩ : BufTy).Contents (Elt F) → (⟨S2048x1024, .f32⟩ : BufTy).Contents (Elt F))) (afterL preI X (Proc.devRef .tc main_v40)) := by
  simp only [afterL_eq_after_flatten]
  rw [ssa_dst 95 preI.flatten X preW_writes main_v41 (by decide +kernel)]
  rw [ssa_src 95 preI.flatten X preW_writes main_v40 (by decide +kernel)]
  generalize after (List.take 95 preI.flatten) X = Y
  show after [_] Y _ = _
  after_results
  try rfl

theorem pre_cst_8 (X : Valuation τ sig (Elt F)) : (afterL preI X (Proc.devRef .tc main_cst_8)) = ((constant S_ .f32 0x3F000000#32))  := by
  simp only [afterL_eq_after_flatten]
  rw [ssa_dst 96 preI.flatten X preW_writes main_cst_8 (by decide +kernel)]

  generalize after (List.take 96 preI.flatten) X = Y
  show after [_] Y _ = _
  after_results
  try rfl

theorem pre_v42 (X : Valuation τ sig (Elt F)) : (afterL preI X (Proc.devRef .tc main_v42)) = ((broadcastInDim S2048x1024 ![] bcast_S_S2048x1024 : (⟨S_, .f32⟩ : BufTy).Contents (Elt F) → (⟨S2048x1024, .f32⟩ : BufTy).Contents (Elt F))) (afterL preI X (Proc.devRef .tc main_cst_8)) := by
  simp only [afterL_eq_after_flatten]
  rw [ssa_dst 97 preI.flatten X preW_writes main_v42 (by decide +kernel)]
  rw [ssa_src 97 preI.flatten X preW_writes main_cst_8 (by decide +kernel)]
  generalize after (List.take 97 preI.flatten) X = Y
  show after [_] Y _ = _
  after_results
  try rfl

theorem pre_v43 (X : Valuation τ sig (Elt F)) : (afterL preI X (Proc.devRef .tc main_v43)) = ((Host.divf : (⟨S2048x1024, .f32⟩ : BufTy).Contents (Elt F) → (⟨S2048x1024, .f32⟩ : BufTy).Contents (Elt F) → (⟨S2048x1024, .f32⟩ : BufTy).Contents (Elt F))) (afterL preI X (Proc.devRef .tc main_v42)) (afterL preI X (Proc.devRef .tc main_v41)) := by
  simp only [afterL_eq_after_flatten]
  rw [ssa_dst 98 preI.flatten X preW_writes main_v43 (by decide +kernel)]
  rw [ssa_src 98 preI.flatten X preW_writes main_v42 (by decide +kernel), ssa_src 98 preI.flatten X preW_writes main_v41 (by decide +kernel)]
  generalize after (List.take 98 preI.flatten) X = Y
  show after [_] Y _ = _
  after_results
  try rfl

theorem pre_v44 (X : Valuation τ sig (Elt F)) : (afterL preI X (Proc.devRef .tc main_v44)) = ((iotaInDim S2048 32 0))  := by
  simp only [afterL_eq_after_flatten]
  rw [ssa_dst 99 preI.flatten X preW_writes main_v44 (by decide +kernel)]

  generalize after (List.take 99 preI.flatten) X = Y
  show after [_] Y _ = _
  after_results
  try rfl

theorem pre_c (X : Valuation τ sig (Elt F)) : (afterL preI X (Proc.devRef .tc main_c)) = ((constantI S_ 32 0#32))  := by
  simp only [afterL_eq_after_flatten]
  rw [ssa_dst 100 preI.flatten X preW_writes main_c (by decide +kernel)]

  generalize after (List.take 100 preI.flatten) X = Y
  show after [_] Y _ = _
  after_results
  try rfl

theorem pre_v45 (X : Valuation τ sig (Elt F)) : (afterL preI X (Proc.devRef .tc main_v45)) = ((broadcastInDim S2048 ![] bcast_S_S2048 : (⟨S_, .i32⟩ : BufTy).Contents (Elt F) → (⟨S2048, .i32⟩ : BufTy).Contents (Elt F))) (afterL preI X (Proc.devRef .tc main_c)) := by
  simp only [afterL_eq_after_flatten]
  rw [ssa_dst 101 preI.flatten X preW_writes main_v45 (by decide +kernel)]
  rw [ssa_src 101 preI.flatten X preW_writes main_c (by decide +kernel)]
  generalize after (List.take 101 preI.flatten) X = Y
  show after [_] Y _ = _
  after_results
  try rfl

theorem pre_v46 (X : Valuation τ sig (Elt F)) : (afterL preI X (Proc.devRef .tc main_v46)) = ((cmpi .eq : (⟨S2048, .i32⟩ : BufTy).Contents (Elt F) → (⟨S2048, .i32⟩ : BufTy).Contents (Elt F) → (⟨S2048, .i1⟩ : BufTy).Contents (Elt F))) (afterL preI X (Proc.devRef .tc main_v44)) (afterL preI X (Proc.devRef .tc main_v45)) := by
  simp only [afterL_eq_after_flatten]
  rw [ssa_dst 102 preI.flatten X preW_writes main_v46 (by decide +kernel)]
  rw [ssa_src 102 preI.flatten X preW_writes main_v44 (by decide +kernel), ssa_src 102 preI.flatten X preW_writes main_v45 (by decide +kernel)]
  generalize after (List.take 102 preI.flatten) X = Y
  show after [_] Y _ = _
  after_results
  try rfl

theorem pre_v47 (X : Valuation τ sig (Elt F)) : (afterL preI X (Proc.devRef .tc main_v47)) = ((broadcastInDim S2048x1 ![0] bcast_S2048_S2048x1_0 : (⟨S2048, .i1⟩ : BufTy).Contents (Elt F) → (⟨S2048x1, .i1⟩ : BufTy).Contents (Elt F))) (afterL preI X (Proc.devRef .tc main_v46)) := by
  simp only [afterL_eq_after_flatten]
  rw [ssa_dst 103 preI.flatten X preW_writes main_v47 (by decide +kernel)]
  rw [ssa_src 103 preI.flatten X preW_writes main_v46 (by decide +kernel)]
  generalize after (List.take 103 preI.flatten) X = Y
  show after [_] Y _ = _
  after_results
  try rfl

theorem pre_cst_9 (X : Valuation τ sig (Elt F)) : (afterL preI X (Proc.devRef .tc main_cst_9)) = ((constant S_ .f32 0x3F800000#32))  := by
  simp only [afterL_eq_after_flatten]
  rw [ssa_dst 104 preI.flatten X preW_writes main_cst_9 (by decide +kernel)]

  generalize after (List.take 104 preI.flatten) X = Y
  show after [_] Y _ = _
  after_results
  try rfl

theorem pre_call1_v0 (X : Valuation τ sig (Elt F)) : (afterL preI X (Proc.devRef .tc main_call1_v0)) = (id) (afterL preI X (Proc.devRef .tc main_cst_9)) := by
  simp only [afterL_eq_after_flatten]
  rw [ssa_dst 105 preI.flatten X preW_writes main_call1_v0 (by decide +kernel)]
  rw [ssa_src 105 preI.flatten X preW_writes main_cst_9 (by decide +kernel)]
  generalize after (List.take 105 preI.flatten) X = Y
  show after [_] Y _ = _
  after_results
  try rfl

theorem pre_v48_1 (X : Valuation τ sig (Elt F)) : (afterL preI X (Proc.devRef .tc main_v48_1)) = ((broadcastInDim S2048x1024 ![0, 1] bcast_S2048x1_S2048x1024_0_1)) (afterL preI X (Proc.devRef .tc main_v47)) := by
  simp only [afterL_eq_after_flatten]
  rw [ssa_dst 106 preI.flatten X preW_writes main_v48_1 (by decide +kernel)]
  rw [ssa_src 106 preI.flatten X preW_writes main_v47 (by decide +kernel)]
  generalize after (List.take 106 preI.flatten) X = Y
  show after [_] Y _ = _
  after_results
  try rfl

theorem pre_call1_v2 (X : Valuation τ sig (Elt F)) : (afterL preI X (Proc.devRef .tc main_call1_v2)) = ((broadcastInDim S2048x1024 ![] bcast_S_S2048x1024)) (afterL preI X (Proc.devRef .tc main_call1_v0)) := by
  simp only [afterL_eq_after_flatten]
  rw [ssa_dst 107 preI.flatten X preW_writes main_call1_v2 (by decide +kernel)]
  rw [ssa_src 107 preI.flatten X preW_writes main_call1_v0 (by decide +kernel)]
  generalize after (List.take 107 preI.flatten) X = Y
  show after [_] Y _ = _
  after_results
  try rfl

theorem pre_v48_0 (X : Valuation τ sig (Elt F)) : (afterL preI X (Proc.devRef .tc main_v48_0)) = (select) (afterL preI X (Proc.devRef .tc main_v48_1)) (afterL preI X (Proc.devRef .tc main_call1_v2)) (afterL preI X (Proc.devRef .tc main_v41)) := by
  simp only [afterL_eq_after_flatten]
  rw [ssa_dst 108 preI.flatten X preW_writes main_v48_0 (by decide +kernel)]
  rw [ssa_src 108 preI.flatten X preW_writes main_v48_1 (by decide +kernel), ssa_src 108 preI.flatten X preW_writes main_call1_v2 (by decide +kernel), ssa_src 108 preI.flatten X preW_writes main_v41 (by decide +kernel)]
  generalize after (List.take 108 preI.flatten) X = Y
  show after [_] Y _ = _
  after_results
  try rfl

theorem pre_call1_cst (X : Valuation τ sig (Elt F)) : (afterL preI X (Proc.devRef .tc main_call1_cst)) = ((constant S_ .f32 0x00000000#32))  := by
  simp only [afterL_eq_after_flatten]
  rw [ssa_dst 109 preI.flatten X preW_writes main_call1_cst (by decide +kernel)]

  generalize after (List.take 109 preI.flatten) X = Y
  show after [_] Y _ = _
  after_results
  try rfl

theorem pre_v48_2 (X : Valuation τ sig (Elt F)) : (afterL preI X (Proc.devRef .tc main_v48_2)) = ((broadcastInDim S2048x1024 ![] bcast_S_S2048x1024)) (afterL preI X (Proc.devRef .tc main_call1_cst)) := by
  simp only [afterL_eq_after_flatten]
  rw [ssa_dst 110 preI.flatten X preW_writes main_v48_2 (by decide +kernel)]
  rw [ssa_src 110 preI.flatten X preW_writes main_call1_cst (by decide +kernel)]
  generalize after (List.take 110 preI.flatten) X = Y
  show after [_] Y _ = _
  after_results
  try rfl

theorem pre_v49 (X : Valuation τ sig (Elt F)) : (afterL preI X (Proc.devRef .tc main_v49)) = ((mulf : (⟨S2048x1024, .f32⟩ : BufTy).Contents (Elt F) → (⟨S2048x1024, .f32⟩ : BufTy).Contents (Elt F) → (⟨S2048x1024, .f32⟩ : BufTy).Contents (Elt F))) (afterL preI X (Proc.devRef .tc main_arg0)) (afterL preI X (Proc.devRef .tc main_v11)) := by
  simp only [afterL_eq_after_flatten]
  rw [ssa_dst 111 preI.flatten X preW_writes main_v49 (by decide +kernel)]
  rw [ssa_src 111 preI.flatten X preW_writes main_arg0 (by decide +kernel), ssa_src 111 preI.flatten X preW_writes main_v11 (by decide +kernel)]
  generalize after (List.take 111 preI.flatten) X = Y
  show after [_] Y _ = _
  after_results
  try rfl

theorem pre_v50 (X : Valuation τ sig (Elt F)) : (afterL preI X (Proc.devRef .tc main_v50)) = ((mulf : (⟨S2048x1024, .f32⟩ : BufTy).Contents (Elt F) → (⟨S2048x1024, .f32⟩ : BufTy).Contents (Elt F) → (⟨S2048x1024, .f32⟩ : BufTy).Contents (Elt F))) (afterL preI X (Proc.devRef .tc main_v49)) (afterL preI X (Proc.devRef .tc main_v48_0)) := by
  simp only [afterL_eq_after_flatten]
  rw [ssa_dst 112 preI.flatten X preW_writes main_v50 (by decide +kernel)]
  rw [ssa_src 112 preI.flatten X preW_writes main_v49 (by decide +kernel), ssa_src 112 preI.flatten X preW_writes main_v48_0 (by decide +kernel)]
  generalize after (List.take 112 preI.flatten) X = Y
  show after [_] Y _ = _
  after_results
  try rfl

theorem pre_cst_10 (X : Valuation τ sig (Elt F)) : (afterL preI X (Proc.devRef .tc main_cst_10)) = ((constant S_ .f32 0x00000000#32))  := by
  simp only [afterL_eq_after_flatten]
  rw [ssa_dst 113 preI.flatten X preW_writes main_cst_10 (by decide +kernel)]

  generalize after (List.take 113 preI.flatten) X = Y
  show after [_] Y _ = _
  after_results
  try rfl

theorem pre_v51 (X : Valuation τ sig (Elt F)) : (afterL preI X (Proc.devRef .tc main_v51)) = ((broadcastInDim S1024 ![] bcast_S_S1024 : (⟨S_, .f32⟩ : BufTy).Contents (Elt F) → (⟨S1024, .f32⟩ : BufTy).Contents (Elt F))) (afterL preI X (Proc.devRef .tc main_cst_10)) := by
  simp only [afterL_eq_after_flatten]
  rw [ssa_dst 114 preI.flatten X preW_writes main_v51 (by decide +kernel)]
  rw [ssa_src 114 preI.flatten X preW_writes main_cst_10 (by decide +kernel)]
  generalize after (List.take 114 preI.flatten) X = Y
  show after [_] Y _ = _
  after_results
  try rfl

theorem pre_cst_11 (X : Valuation τ sig (Elt F)) : (afterL preI X (Proc.devRef .tc main_cst_11)) = ((constant S_ .f32 0x00000000#32))  := by
  simp only [afterL_eq_after_flatten]
  rw [ssa_dst 115 preI.flatten X preW_writes main_cst_11 (by decide +kernel)]

  generalize after (List.take 115 preI.flatten) X = Y
  show after [_] Y _ = _
  after_results
  try rfl

theorem pre_v52 (X : Valuation τ sig (Elt F)) : (afterL preI X (Proc.devRef .tc main_v52)) = ((broadcastInDim S2048x1024 ![] bcast_S_S2048x1024 : (⟨S_, .f32⟩ : BufTy).Contents (Elt F) → (⟨S2048x1024, .f32⟩ : BufTy).Contents (Elt F))) (afterL preI X (Proc.devRef .tc main_cst_11)) := by
  simp only [afterL_eq_after_flatten]
  rw [ssa_dst 116 preI.flatten X preW_writes main_v52 (by decide +kernel)]
  rw [ssa_src 116 preI.flatten X preW_writes main_cst_11 (by decide +kernel)]
  generalize after (List.take 116 preI.flatten) X = Y
  show after [_] Y _ = _
  after_results
  try rfl

theorem pre_cst_12 (X : Valuation τ sig (Elt F)) : (afterL preI X (Proc.devRef .tc main_cst_12)) = ((constant S_ .f32 0x00000000#32))  := by
  simp only [afterL_eq_after_flatten]
  rw [ssa_dst 117 preI.flatten X preW_writes main_cst_12 (by decide +kernel)]

  generalize after (List.take 117 preI.flatten) X = Y
  show after [_] Y _ = _
  after_results
  try rfl

theorem pre_v53 (X : Valuation τ sig (Elt F)) : (afterL preI X (Proc.devRef .tc main_v53)) = ((broadcastInDim S2048x1024 ![] bcast_S_S2048x1024 : (⟨S_, .f32⟩ : BufTy).Contents (Elt F) → (⟨S2048x1024, .f32⟩ : BufTy).Contents (Elt F))) (afterL preI X (Proc.devRef .tc main_cst_12)) := by
  simp only [afterL_eq_after_flatten]
  rw [ssa_dst 118 preI.flatten X preW_writes main_v53 (by decide +kernel)]
  rw [ssa_src 118 preI.flatten X preW_writes main_cst_12 (by decide +kernel)]
  generalize after (List.take 118 preI.flatten) X = Y
  show after [_] Y _ = _
  after_results
  try rfl

theorem pre_c_13 (X : Valuation τ sig (Elt F)) : (afterL preI X (Proc.devRef .tc main_c_13)) = ((constantI S_ 32 0#32))  := by
  simp only [afterL_eq_after_flatten]
  rw [ssa_dst 119 preI.flatten X preW_writes main_c_13 (by decide +kernel)]

  generalize after (List.take 119 preI.flatten) X = Y
  show after [_] Y _ = _
  after_results
  try rfl

theorem pre_v54_0 (X : Valuation τ sig (Elt F)) : (afterL preI X (Proc.devRef .tc main_v54_0)) = (id) (afterL preI X (Proc.devRef .tc main_v35)) := by
  simp only [afterL_eq_after_flatten]
  rw [ssa_dst 120 preI.flatten X preW_writes main_v54_0 (by decide +kernel)]
  rw [ssa_src 120 preI.flatten X preW_writes main_v35 (by decide +kernel)]
  generalize after (List.take 120 preI.flatten) X = Y
  show after [_] Y _ = _
  after_results
  try rfl

theorem pre_v54_1 (X : Valuation τ sig (Elt F)) : (afterL preI X (Proc.devRef .tc main_v54_1)) = (id) (afterL preI X (Proc.devRef .tc main_v50)) := by
  simp only [afterL_eq_after_flatten]
  rw [ssa_dst 121 preI.flatten X preW_writes main_v54_1 (by decide +kernel)]
  rw [ssa_src 121 preI.flatten X preW_writes main_v50 (by decide +kernel)]
  generalize after (List.take 121 preI.flatten) X = Y
  show after [_] Y _ = _
  after_results
  try rfl

theorem pre_v54_2 (X : Valuation τ sig (Elt F)) : (afterL preI X (Proc.devRef .tc main_v54_2)) = (id) (afterL preI X (Proc.devRef .tc main_c_13)) := by
  simp only [afterL_eq_after_flatten]
  rw [ssa_dst 122 preI.flatten X preW_writes main_v54_2 (by decide +kernel)]
  rw [ssa_src 122 preI.flatten X preW_writes main_c_13 (by decide +kernel)]
  generalize after (List.take 122 preI.flatten) X = Y
  show after [_] Y _ = _
  after_results
  try rfl

theorem pre_v54_3 (X : Valuation τ sig (Elt F)) : (afterL preI X (Proc.devRef .tc main_v54_3)) = (id) (afterL preI X (Proc.devRef .tc main_v51)) := by
  simp only [afterL_eq_after_flatten]
  rw [ssa_dst 123 preI.flatten X preW_writes main_v54_3 (by decide +kernel)]
  rw [ssa_src 123 preI.flatten X preW_writes main_v51 (by decide +kernel)]
  generalize after (List.take 123 preI.flatten) X = Y
  show after [_] Y _ = _
  after_results
  try rfl

theorem pre_v54_4 (X : Valuation τ sig (Elt F)) : (afterL preI X (Proc.devRef .tc main_v54_4)) = (id) (afterL preI X (Proc.devRef .tc main_v52)) := by
  simp only [afterL_eq_after_flatten]
  rw [ssa_dst 124 preI.flatten X preW_writes main_v54_4 (by decide +kernel)]
  rw [ssa_src 124 preI.flatten X preW_writes main_v52 (by decide +kernel)]
  generalize after (List.take 124 preI.flatten) X = Y
  show after [_] Y _ = _
  after_results
  try rfl

theorem pre_v54_5 (X : Valuation τ sig (Elt F)) : (afterL preI X (Proc.devRef .tc main_v54_5)) = (id) (afterL preI X (Proc.devRef .tc main_v53)) := by
  simp only [afterL_eq_after_flatten]
  rw [ssa_dst 125 preI.flatten X preW_writes main_v54_5 (by decide +kernel)]
  rw [ssa_src 125 preI.flatten X preW_writes main_v53 (by decide +kernel)]
  generalize after (List.take 125 preI.flatten) X = Y
  show after [_] Y _ = _
  after_results
  try rfl

abbrev midW : List (Ref sig .tc) := [main_cst_14, main_v55, main_cst_15, main_v56, main_cst_16, main_v57, main_cst_17, main_v58, main_c_18, main_v59_0, main_v59_1, main_v59_2, main_v59_3, main_v59_4, main_v59_5, main_v59_6]
theorem midW_writes : (midI.flatten : List (HloOp τ sig (Elt F))).map HloOp.writes = midW.map fun r => {Proc.devRef (τ := τ) .tc r} := rfl

theorem mid_cst_14 (X : Valuation τ sig (Elt F)) : (afterL midI X (Proc.devRef .tc main_cst_14)) = ((constant S_ .f32 0x00000000#32))  := by
  simp only [afterL_eq_after_flatten]
  rw [ssa_dst 0 midI.flatten X midW_writes main_cst_14 (by decide +kernel)]

  generalize after (List.take 0 midI.flatten) X = Y
  show after [_] Y _ = _
  after_results
  try rfl

theorem mid_v55 (X : Valuation τ sig (Elt F)) : (afterL midI X (Proc.devRef .tc main_v55)) = ((broadcastInDim S1024 ![] bcast_S_S1024 : (⟨S_, .f32⟩ : BufTy).Contents (Elt F) → (⟨S1024, .f32⟩ : BufTy).Contents (Elt F))) (afterL midI X (Proc.devRef .tc main_cst_14)) := by
  simp only [afterL_eq_after_flatten]
  rw [ssa_dst 1 midI.flatten X midW_writes main_v55 (by decide +kernel)]
  rw [ssa_src 1 midI.flatten X midW_writes main_cst_14 (by decide +kernel)]
  generalize after (List.take 1 midI.flatten) X = Y
  show after [_] Y _ = _
  after_results
  try rfl

theorem mid_cst_15 (X : Valuation τ sig (Elt F)) : (afterL midI X (Proc.devRef .tc main_cst_15)) = ((constant S_ .f32 0x00000000#32))  := by
  simp only [afterL_eq_after_flatten]
  rw [ssa_dst 2 midI.flatten X midW_writes main_cst_15 (by decide +kernel)]

  generalize after (List.take 2 midI.flatten) X = Y
  show after [_] Y _ = _
  after_results
  try rfl

theorem mid_v56 (X : Valuation τ sig (Elt F)) : (afterL midI X (Proc.devRef .tc main_v56)) = ((broadcastInDim S1024 ![] bcast_S_S1024 : (⟨S_, .f32⟩ : BufTy).Contents (Elt F) → (⟨S1024, .f32⟩ : BufTy).Contents (Elt F))) (afterL midI X (Proc.devRef .tc main_cst_15)) := by
  simp only [afterL_eq_after_flatten]
  rw [ssa_dst 3 midI.flatten X midW_writes main_v56 (by decide +kernel)]
  rw [ssa_src 3 midI.flatten X midW_writes main_cst_15 (by decide +kernel)]
  generalize after (List.take 3 midI.flatten) X = Y
  show after [_] Y _ = _
  after_results
  try rfl

theorem mid_cst_16 (X : Valuation τ sig (Elt F)) : (afterL midI X (Proc.devRef .tc main_cst_16)) = ((constant S_ .f32 0x00000000#32))  := by
  simp only [afterL_eq_after_flatten]
  rw [ssa_dst 4 midI.flatten X midW_writes main_cst_16 (by decide +kernel)]

  generalize after (List.take 4 midI.flatten) X = Y
  show after [_] Y _ = _
  after_results
  try rfl

theorem mid_v57 (X : Valuation τ sig (Elt F)) : (afterL midI X (Proc.devRef .tc main_v57)) = ((broadcastInDim S2048x1024 ![] bcast_S_S2048x1024 : (⟨S_, .f32⟩ : BufTy).Contents (Elt F) → (⟨S2048x1024, .f32⟩ : BufTy).Contents (Elt F))) (afterL midI X (Proc.devRef .tc main_cst_16)) := by
  simp only [afterL_eq_after_flatten]
  rw [ssa_dst 5 midI.flatten X midW_writes main_v57 (by decide +kernel)]
  rw [ssa_src 5 midI.flatten X midW_writes main_cst_16 (by decide +kernel)]
  generalize after (List.take 5 midI.flatten) X = Y
  show after [_] Y _ = _
  after_results
  try rfl

theorem mid_cst_17 (X : Valuation τ sig (Elt F)) : (afterL midI X (Proc.devRef .tc main_cst_17)) = ((constant S_ .f32 0x00000000#32))  := by
  simp only [afterL_eq_after_flatten]
  rw [ssa_dst 6 midI.flatten X midW_writes main_cst_17 (by decide +kernel)]

  generalize after (List.take 6 midI.flatten) X = Y
  show after [_] Y _ = _
  after_results
  try rfl

theorem mid_v58 (X : Valuation τ sig (Elt F)) : (afterL midI X (Proc.devRef .tc main_v58)) = ((broadcastInDim S2048x1024 ![] bcast_S_S2048x1024 : (⟨S_, .f32⟩ : BufTy).Contents (Elt F) → (⟨S2048x1024, .f32⟩ : BufTy).Contents (Elt F))) (afterL midI X (Proc.devRef .tc main_cst_17)) := by
  simp only [afterL_eq_after_flatten]
  rw [ssa_dst 7 midI.flatten X midW_writes main_v58 (by decide +kernel)]
  rw [ssa_src 7 midI.flatten X midW_writes main_cst_17 (by decide +kernel)]
  generalize after (List.take 7 midI.flatten) X = Y
  show after [_] Y _ = _
  after_results
  try rfl

theorem mid_c_18 (X : Valuation τ sig (Elt F)) : (afterL midI X (Proc.devRef .tc main_c_18)) = ((constantI S_ 32 0#32))  := by
  simp only [afterL_eq_after_flatten]
  rw [ssa_dst 8 midI.flatten X midW_writes main_c_18 (by decide +kernel)]

  generalize after (List.take 8 midI.flatten) X = Y
  show after [_] Y _ = _
  after_results
  try rfl

theorem mid_v59_0 (X : Valuation τ sig (Elt F)) : (afterL midI X (Proc.devRef .tc main_v59_0)) = (id) (afterL midI X (Proc.devRef .tc main_arg6)) := by
  simp only [afterL_eq_after_flatten]
  rw [ssa_dst 9 midI.flatten X midW_writes main_v59_0 (by decide +kernel)]
  rw [ssa_src 9 midI.flatten X midW_writes main_arg6 (by decide +kernel)]
  generalize after (List.take 9 midI.flatten) X = Y
  show after [_] Y _ = _
  after_results
  try rfl

theorem mid_v59_1 (X : Valuation τ sig (Elt F)) : (afterL midI X (Proc.devRef .tc main_v59_1)) = (id) (afterL midI X (Proc.devRef .tc main_v54_5)) := by
  simp only [afterL_eq_after_flatten]
  rw [ssa_dst 10 midI.flatten X midW_writes main_v59_1 (by decide +kernel)]
  rw [ssa_src 10 midI.flatten X midW_writes main_v54_5 (by decide +kernel)]
  generalize after (List.take 10 midI.flatten) X = Y
  show after [_] Y _ = _
  after_results
  try rfl

theorem mid_v59_2 (X : Valuation τ sig (Elt F)) : (afterL midI X (Proc.devRef .tc main_v59_2)) = (id) (afterL midI X (Proc.devRef .tc main_v35)) := by
  simp only [afterL_eq_after_flatten]
  rw [ssa_dst 11 midI.flatten X midW_writes main_v59_2 (by decide +kernel)]
  rw [ssa_src 11 midI.flatten X midW_writes main_v35 (by decide +kernel)]
  generalize after (List.take 11 midI.flatten) X = Y
  show after [_] Y _ = _
  after_results
  try rfl

theorem mid_v59_3 (X : Valuation τ sig (Elt F)) : (afterL midI X (Proc.devRef .tc main_v59_3)) = (id) (afterL midI X (Proc.devRef .tc main_c_18)) := by
  simp only [afterL_eq_after_flatten]
  rw [ssa_dst 12 midI.flatten X midW_writes main_v59_3 (by decide +kernel)]
  rw [ssa_src 12 midI.flatten X midW_writes main_c_18 (by decide +kernel)]
  generalize after (List.take 12 midI.flatten) X = Y
  show after [_] Y _ = _
  after_results
  try rfl

theorem mid_v59_4 (X : Valuation τ sig (Elt F)) : (afterL midI X (Proc.devRef .tc main_v59_4)) = (id) (afterL midI X (Proc.devRef .tc main_v56)) := by
  simp only [afterL_eq_after_flatten]
  rw [ssa_dst 13 midI.flatten X midW_writes main_v59_4 (by decide +kernel)]
  rw [ssa_src 13 midI.flatten X midW_writes main_v56 (by decide +kernel)]
  generalize after (List.take 13 midI.flatten) X = Y
  show after [_] Y _ = _
  after_results
  try rfl

theorem mid_v59_5 (X : Valuation τ sig (Elt F)) : (afterL midI X (Proc.devRef .tc main_v59_5)) = (id) (afterL midI X (Proc.devRef .tc main_v57)) := by
  simp only [afterL_eq_after_flatten]
  rw [ssa_dst 14 midI.flatten X midW_writes main_v59_5 (by decide +kernel)]
  rw [ssa_src 14 midI.flatten X midW_writes main_v57 (by decide +kernel)]
  generalize after (List.take 14 midI.flatten) X = Y
  show after [_] Y _ = _
  after_results
  try rfl

theorem mid_v59_6 (X : Valuation τ sig (Elt F)) : (afterL midI X (Proc.devRef .tc main_v59_6)) = (id) (afterL midI X (Proc.devRef .tc main_v58)) := by
  simp only [afterL_eq_after_flatten]
  rw [ssa_dst 15 midI.flatten X midW_writes main_v59_6 (by decide +kernel)]
  rw [ssa_src 15 midI.flatten X midW_writes main_v58 (by decide +kernel)]
  generalize after (List.take 15 midI.flatten) X = Y
  show after [_] Y _ = _
  after_results
  try rfl

abbrev postW : List (Ref sig .tc) := [main_v60, main_v61, main_v62, main_v63, main_call11_cst, main_call11_v0, main_v64, main_v65, main_v66, main_v67, main_cst_19, main_v68, main_v69, main_v70, main_v71, main_v72, main_cst_20, main_v73, main_v74, main_v75, main_v76, main_v77, main_v78, main_cst_21, main_v79, main_v80, main_v81, main_cst_22, main_v82, main_v83, main_v84, main_v85, main_v86, main_v87, main_v88, main_v89, main_v90, main_cst_23, main_v91, main_v92, main_v93, main_v94, main_v95, main_v96, main_v97, main_v98, main_v99, main_v100, main_v101]
theorem postW_writes : (postI.flatten : List (HloOp τ sig (Elt F))).map HloOp.writes = postW.map fun r => {Proc.devRef (τ := τ) .tc r} := rfl

theorem post_v60 (X : Valuation τ sig (Elt F)) : (afterL postI X (Proc.devRef .tc main_v60)) = ((mulf : (⟨S2048x1024, .f32⟩ : BufTy).Contents (Elt F) → (⟨S2048x1024, .f32⟩ : BufTy).Contents (Elt F) → (⟨S2048x1024, .f32⟩ : BufTy).Contents (Elt F))) (afterL postI X (Proc.devRef .tc main_v49)) (afterL postI X (Proc.devRef .tc main_v59_6)) := by
  simp only [afterL_eq_after_flatten]
  rw [ssa_dst 0 postI.flatten X postW_writes main_v60 (by decide +kernel)]
  rw [ssa_src 0 postI.flatten X postW_writes main_v49 (by decide +kernel), ssa_src 0 postI.flatten X postW_writes main_v59_6 (by decide +kernel)]
  generalize after (List.take 0 postI.flatten) X = Y
  show after [_] Y _ = _
  after_results
  try rfl

theorem post_v61 (X : Valuation τ sig (Elt F)) : (afterL postI X (Proc.devRef .tc main_v61)) = ((mulf : (⟨S2048x1024, .f32⟩ : BufTy).Contents (Elt F) → (⟨S2048x1024, .f32⟩ : BufTy).Contents (Elt F) → (⟨S2048x1024, .f32⟩ : BufTy).Contents (Elt F))) (afterL postI X (Proc.devRef .tc main_v59_6)) (afterL postI X (Proc.devRef .tc main_v48_0)) := by
  simp only [afterL_eq_after_flatten]
  rw [ssa_dst 1 postI.flatten X postW_writes main_v61 (by decide +kernel)]
  rw [ssa_src 1 postI.flatten X postW_writes main_v59_6 (by decide +kernel), ssa_src 1 postI.flatten X postW_writes main_v48_0 (by decide +kernel)]
  generalize after (List.take 1 postI.flatten) X = Y
  show after [_] Y _ = _
  after_results
  try rfl

theorem post_v62 (X : Valuation τ sig (Elt F)) : (afterL postI X (Proc.devRef .tc main_v62)) = ((mulf : (⟨S2048x1024, .f32⟩ : BufTy).Contents (Elt F) → (⟨S2048x1024, .f32⟩ : BufTy).Contents (Elt F) → (⟨S2048x1024, .f32⟩ : BufTy).Contents (Elt F))) (afterL postI X (Proc.devRef .tc main_arg0)) (afterL postI X (Proc.devRef .tc main_v61)) := by
  simp only [afterL_eq_after_flatten]
  rw [ssa_dst 2 postI.flatten X postW_writes main_v62 (by decide +kernel)]
  rw [ssa_src 2 postI.flatten X postW_writes main_arg0 (by decide +kernel), ssa_src 2 postI.flatten X postW_writes main_v61 (by decide +kernel)]
  generalize after (List.take 2 postI.flatten) X = Y
  show after [_] Y _ = _
  after_results
  try rfl

theorem post_v63 (X : Valuation τ sig (Elt F)) : (afterL postI X (Proc.devRef .tc main_v63)) = ((mulf : (⟨S2048x1024, .f32⟩ : BufTy).Contents (Elt F) → (⟨S2048x1024, .f32⟩ : BufTy).Contents (Elt F) → (⟨S2048x1024, .f32⟩ : BufTy).Contents (Elt F))) (afterL postI X (Proc.devRef .tc main_v61)) (afterL postI X (Proc.devRef .tc main_v11)) := by
  simp only [afterL_eq_after_flatten]
  rw [ssa_dst 3 postI.flatten X postW_writes main_v63 (by decide +kernel)]
  rw [ssa_src 3 postI.flatten X postW_writes main_v61 (by decide +kernel), ssa_src 3 postI.flatten X postW_writes main_v11 (by decide +kernel)]
  generalize after (List.take 3 postI.flatten) X = Y
  show after [_] Y _ = _
  after_results
  try rfl

theorem post_call11_cst (X : Valuation τ sig (Elt F)) : (afterL postI X (Proc.devRef .tc main_call11_cst)) = ((constant S_ .f32 0x00000000#32))  := by
  simp only [afterL_eq_after_flatten]
  rw [ssa_dst 4 postI.flatten X postW_writes main_call11_cst (by decide +kernel)]

  generalize after (List.take 4 postI.flatten) X = Y
  show after [_] Y _ = _
  after_results
  try rfl

theorem post_call11_v0 (X : Valuation τ sig (Elt F)) : (afterL postI X (Proc.devRef .tc main_call11_v0)) = ((broadcastInDim S2048x1024 ![] bcast_S_S2048x1024)) (afterL postI X (Proc.devRef .tc main_call11_cst)) := by
  simp only [afterL_eq_after_flatten]
  rw [ssa_dst 5 postI.flatten X postW_writes main_call11_v0 (by decide +kernel)]
  rw [ssa_src 5 postI.flatten X postW_writes main_call11_cst (by decide +kernel)]
  generalize after (List.take 5 postI.flatten) X = Y
  show after [_] Y _ = _
  after_results
  try rfl

theorem post_v64 (X : Valuation τ sig (Elt F)) : (afterL postI X (Proc.devRef .tc main_v64)) = (select) (afterL postI X (Proc.devRef .tc main_v48_1)) (afterL postI X (Proc.devRef .tc main_call11_v0)) (afterL postI X (Proc.devRef .tc main_v60)) := by
  simp only [afterL_eq_after_flatten]
  rw [ssa_dst 6 postI.flatten X postW_writes main_v64 (by decide +kernel)]
  rw [ssa_src 6 postI.flatten X postW_writes main_v48_1 (by decide +kernel), ssa_src 6 postI.flatten X postW_writes main_call11_v0 (by decide +kernel), ssa_src 6 postI.flatten X postW_writes main_v60 (by decide +kernel)]
  generalize after (List.take 6 postI.flatten) X = Y
  show after [_] Y _ = _
  after_results
  try rfl

theorem post_v65 (X : Valuation τ sig (Elt F)) : (afterL postI X (Proc.devRef .tc main_v65)) = ((mulf : (⟨S2048x1024, .f32⟩ : BufTy).Contents (Elt F) → (⟨S2048x1024, .f32⟩ : BufTy).Contents (Elt F) → (⟨S2048x1024, .f32⟩ : BufTy).Contents (Elt F))) (afterL postI X (Proc.devRef .tc main_v64)) (afterL postI X (Proc.devRef .tc main_v43)) := by
  simp only [afterL_eq_after_flatten]
  rw [ssa_dst 7 postI.flatten X postW_writes main_v65 (by decide +kernel)]
  rw [ssa_src 7 postI.flatten X postW_writes main_v64 (by decide +kernel), ssa_src 7 postI.flatten X postW_writes main_v43 (by decide +kernel)]
  generalize after (List.take 7 postI.flatten) X = Y
  show after [_] Y _ = _
  after_results
  try rfl

theorem post_v66 (X : Valuation τ sig (Elt F)) : (afterL postI X (Proc.devRef .tc main_v66)) = ((Host.negf : (⟨S2048x1024, .f32⟩ : BufTy).Contents (Elt F) → (⟨S2048x1024, .f32⟩ : BufTy).Contents (Elt F))) (afterL postI X (Proc.devRef .tc main_v65)) := by
  simp only [afterL_eq_after_flatten]
  rw [ssa_dst 8 postI.flatten X postW_writes main_v66 (by decide +kernel)]
  rw [ssa_src 8 postI.flatten X postW_writes main_v65 (by decide +kernel)]
  generalize after (List.take 8 postI.flatten) X = Y
  show after [_] Y _ = _
  after_results
  try rfl

theorem post_v67 (X : Valuation τ sig (Elt F)) : (afterL postI X (Proc.devRef .tc main_v67)) = ((mulf : (⟨S2048x1024, .f32⟩ : BufTy).Contents (Elt F) → (⟨S2048x1024, .f32⟩ : BufTy).Contents (Elt F) → (⟨S2048x1024, .f32⟩ : BufTy).Contents (Elt F))) (afterL postI X (Proc.devRef .tc main_v66)) (afterL postI X (Proc.devRef .tc main_v38)) := by
  simp only [afterL_eq_after_flatten]
  rw [ssa_dst 9 postI.flatten X postW_writes main_v67 (by decide +kernel)]
  rw [ssa_src 9 postI.flatten X postW_writes main_v66 (by decide +kernel), ssa_src 9 postI.flatten X postW_writes main_v38 (by decide +kernel)]
  generalize after (List.take 9 postI.flatten) X = Y
  show after [_] Y _ = _
  after_results
  try rfl

theorem post_cst_19 (X : Valuation τ sig (Elt F)) : (afterL postI X (Proc.devRef .tc main_cst_19)) = ((constant S_ .f32 0x40000000#32))  := by
  simp only [afterL_eq_after_flatten]
  rw [ssa_dst 10 postI.flatten X postW_writes main_cst_19 (by decide +kernel)]

  generalize after (List.take 10 postI.flatten) X = Y
  show after [_] Y _ = _
  after_results
  try rfl

theorem post_v68 (X : Valuation τ sig (Elt F)) : (afterL postI X (Proc.devRef .tc main_v68)) = ((broadcastInDim S2048x1024 ![] bcast_S_S2048x1024 : (⟨S_, .f32⟩ : BufTy).Contents (Elt F) → (⟨S2048x1024, .f32⟩ : BufTy).Contents (Elt F))) (afterL postI X (Proc.devRef .tc main_cst_19)) := by
  simp only [afterL_eq_after_flatten]
  rw [ssa_dst 11 postI.flatten X postW_writes main_v68 (by decide +kernel)]
  rw [ssa_src 11 postI.flatten X postW_writes main_cst_19 (by decide +kernel)]
  generalize after (List.take 11 postI.flatten) X = Y
  show after [_] Y _ = _
  after_results
  try rfl

theorem post_v69 (X : Valuation τ sig (Elt F)) : (afterL postI X (Proc.devRef .tc main_v69)) = ((mulf : (⟨S2048x1024, .f32⟩ : BufTy).Contents (Elt F) → (⟨S2048x1024, .f32⟩ : BufTy).Contents (Elt F) → (⟨S2048x1024, .f32⟩ : BufTy).Contents (Elt F))) (afterL postI X (Proc.devRef .tc main_v68)) (afterL postI X (Proc.devRef .tc main_v67)) := by
  simp only [afterL_eq_after_flatten]
  rw [ssa_dst 12 postI.flatten X postW_writes main_v69 (by decide +kernel)]
  rw [ssa_src 12 postI.flatten X postW_writes main_v68 (by decide +kernel), ssa_src 12 postI.flatten X postW_writes main_v67 (by decide +kernel)]
  generalize after (List.take 12 postI.flatten) X = Y
  show after [_] Y _ = _
  after_results
  try rfl

theorem post_v70 (X : Valuation τ sig (Elt F)) : (afterL postI X (Proc.devRef .tc main_v70)) = ((mulf : (⟨S2048x1024, .f32⟩ : BufTy).Contents (Elt F) → (⟨S2048x1024, .f32⟩ : BufTy).Contents (Elt F) → (⟨S2048x1024, .f32⟩ : BufTy).Contents (Elt F))) (afterL postI X (Proc.devRef .tc main_v59_5)) (afterL postI X (Proc.devRef .tc main_v35)) := by
  simp only [afterL_eq_after_flatten]
  rw [ssa_dst 13 postI.flatten X postW_writes main_v70 (by decide +kernel)]
  rw [ssa_src 13 postI.flatten X postW_writes main_v59_5 (by decide +kernel), ssa_src 13 postI.flatten X postW_writes main_v35 (by decide +kernel)]
  generalize after (List.take 13 postI.flatten) X = Y
  show after [_] Y _ = _
  after_results
  try rfl

theorem post_v71 (X : Valuation τ sig (Elt F)) : (afterL postI X (Proc.devRef .tc main_v71)) = ((addf : (⟨S2048x1024, .f32⟩ : BufTy).Contents (Elt F) → (⟨S2048x1024, .f32⟩ : BufTy).Contents (Elt F) → (⟨S2048x1024, .f32⟩ : BufTy).Contents (Elt F))) (afterL postI X (Proc.devRef .tc main_v69)) (afterL postI X (Proc.devRef .tc main_v70)) := by
  simp only [afterL_eq_after_flatten]
  rw [ssa_dst 14 postI.flatten X postW_writes main_v71 (by decide +kernel)]
  rw [ssa_src 14 postI.flatten X postW_writes main_v69 (by decide +kernel), ssa_src 14 postI.flatten X postW_writes main_v70 (by decide +kernel)]
  generalize after (List.take 14 postI.flatten) X = Y
  show after [_] Y _ = _
  after_results
  try rfl

theorem post_v72 (X : Valuation τ sig (Elt F)) : (afterL postI X (Proc.devRef .tc main_v72)) = ((mulf : (⟨S2048x1024, .f32⟩ : BufTy).Contents (Elt F) → (⟨S2048x1024, .f32⟩ : BufTy).Contents (Elt F) → (⟨S2048x1024, .f32⟩ : BufTy).Contents (Elt F))) (afterL postI X (Proc.devRef .tc main_v30)) (afterL postI X (Proc.devRef .tc main_v71)) := by
  simp only [afterL_eq_after_flatten]
  rw [ssa_dst 15 postI.flatten X postW_writes main_v72 (by decide +kernel)]
  rw [ssa_src 15 postI.flatten X postW_writes main_v30 (by decide +kernel), ssa_src 15 postI.flatten X postW_writes main_v71 (by decide +kernel)]
  generalize after (List.take 15 postI.flatten) X = Y
  show after [_] Y _ = _
  after_results
  try rfl

theorem post_cst_20 (X : Valuation τ sig (Elt F)) : (afterL postI X (Proc.devRef .tc main_cst_20)) = ((constant S_ .f32 0x00000000#32))  := by
  simp only [afterL_eq_after_flatten]
  rw [ssa_dst 16 postI.flatten X postW_writes main_cst_20 (by decide +kernel)]

  generalize after (List.take 16 postI.flatten) X = Y
  show after [_] Y _ = _
  after_results
  try rfl

theorem post_v73 (X : Valuation τ sig (Elt F)) : (afterL postI X (Proc.devRef .tc main_v73)) = (((fun x v => Host.reduceAdd x v reducesTo_S2048x1024_S1024_d0 h_S_) : (⟨S2048x1024, .f32⟩ : BufTy).Contents (Elt F) → (⟨S_, .f32⟩ : BufTy).Contents (Elt F) → (⟨S1024, .f32⟩ : BufTy).Contents (Elt F))) (afterL postI X (Proc.devRef .tc main_v72)) (afterL postI X (Proc.devRef .tc main_cst_20)) := by
  simp only [afterL_eq_after_flatten]
  rw [ssa_dst 17 postI.flatten X postW_writes main_v73 (by decide +kernel)]
  rw [ssa_src 17 postI.flatten X postW_writes main_v72 (by decide +kernel), ssa_src 17 postI.flatten X postW_writes main_cst_20 (by decide +kernel)]
  generalize after (List.take 17 postI.flatten) X = Y
  show after [_] Y _ = _
  after_results
  try rfl

theorem post_v74 (X : Valuation τ sig (Elt F)) : (afterL postI X (Proc.devRef .tc main_v74)) = shapeCast S1x1024 (afterL postI X (Proc.devRef .tc main_v73)) shapeCasts_S1024_S1x1024 := by
  simp only [afterL_eq_after_flatten]
  rw [ssa_dst 18 postI.flatten X postW_writes main_v74 (by decide +kernel)]
  rw [ssa_src 18 postI.flatten X postW_writes main_v73 (by decide +kernel)]
  generalize after (List.take 18 postI.flatten) X = Y
  show after [_] Y _ = _
  after_results
  try rfl

theorem post_v75 (X : Valuation τ sig (Elt F)) : (afterL postI X (Proc.devRef .tc main_v75)) = ((broadcastInDim S2048x1024 ![0, 1] bcast_S1x1024_S2048x1024_0_1 : (⟨S1x1024, .f32⟩ : BufTy).Contents (Elt F) → (⟨S2048x1024, .f32⟩ : BufTy).Contents (Elt F))) (afterL postI X (Proc.devRef .tc main_v32_0)) := by
  simp only [afterL_eq_after_flatten]
  rw [ssa_dst 19 postI.flatten X postW_writes main_v75 (by decide +kernel)]
  rw [ssa_src 19 postI.flatten X postW_writes main_v32_0 (by decide +kernel)]
  generalize after (List.take 19 postI.flatten) X = Y
  show after [_] Y _ = _
  after_results
  try rfl

theorem post_v76 (X : Valuation τ sig (Elt F)) : (afterL postI X (Proc.devRef .tc main_v76)) = ((mulf : (⟨S2048x1024, .f32⟩ : BufTy).Contents (Elt F) → (⟨S2048x1024, .f32⟩ : BufTy).Contents (Elt F) → (⟨S2048x1024, .f32⟩ : BufTy).Contents (Elt F))) (afterL postI X (Proc.devRef .tc main_v71)) (afterL postI X (Proc.devRef .tc main_v75)) := by
  simp only [afterL_eq_after_flatten]
  rw [ssa_dst 20 postI.flatten X postW_writes main_v76 (by decide +kernel)]
  rw [ssa_src 20 postI.flatten X postW_writes main_v71 (by decide +kernel), ssa_src 20 postI.flatten X postW_writes main_v75 (by decide +kernel)]
  generalize after (List.take 20 postI.flatten) X = Y
  show after [_] Y _ = _
  after_results
  try rfl

theorem post_v77 (X : Valuation τ sig (Elt F)) : (afterL postI X (Proc.devRef .tc main_v77)) = (mulf) (afterL postI X (Proc.devRef .tc main_v74)) (afterL postI X (Proc.devRef .tc main_v32_1)) := by
  simp only [afterL_eq_after_flatten]
  rw [ssa_dst 21 postI.flatten X postW_writes main_v77 (by decide +kernel)]
  rw [ssa_src 21 postI.flatten X postW_writes main_v74 (by decide +kernel), ssa_src 21 postI.flatten X postW_writes main_v32_1 (by decide +kernel)]
  generalize after (List.take 21 postI.flatten) X = Y
  show after [_] Y _ = _
  after_results
  try rfl

theorem post_v78 (X : Valuation τ sig (Elt F)) : (afterL postI X (Proc.devRef .tc main_v78)) = ((Host.negf : (⟨S1x1024, .f32⟩ : BufTy).Contents (Elt F) → (⟨S1x1024, .f32⟩ : BufTy).Contents (Elt F))) (afterL postI X (Proc.devRef .tc main_v77)) := by
  simp only [afterL_eq_after_flatten]
  rw [ssa_dst 22 postI.flatten X postW_writes main_v78 (by decide +kernel)]
  rw [ssa_src 22 postI.flatten X postW_writes main_v77 (by decide +kernel)]
  generalize after (List.take 22 postI.flatten) X = Y
  show after [_] Y _ = _
  after_results
  try rfl

theorem post_cst_21 (X : Valuation τ sig (Elt F)) : (afterL postI X (Proc.devRef .tc main_cst_21)) = ((constant S_ .f32 0xC1000000#32))  := by
  simp only [afterL_eq_after_flatten]
  rw [ssa_dst 23 postI.flatten X postW_writes main_cst_21 (by decide +kernel)]

  generalize after (List.take 23 postI.flatten) X = Y
  show after [_] Y _ = _
  after_results
  try rfl

theorem post_v79 (X : Valuation τ sig (Elt F)) : (afterL postI X (Proc.devRef .tc main_v79)) = ((broadcastInDim S2048x1024 ![] bcast_S_S2048x1024 : (⟨S_, .f32⟩ : BufTy).Contents (Elt F) → (⟨S2048x1024, .f32⟩ : BufTy).Contents (Elt F))) (afterL postI X (Proc.devRef .tc main_cst_21)) := by
  simp only [afterL_eq_after_flatten]
  rw [ssa_dst 24 postI.flatten X postW_writes main_v79 (by decide +kernel)]
  rw [ssa_src 24 postI.flatten X postW_writes main_cst_21 (by decide +kernel)]
  generalize after (List.take 24 postI.flatten) X = Y
  show after [_] Y _ = _
  after_results
  try rfl

theorem post_v80 (X : Valuation τ sig (Elt F)) : (afterL postI X (Proc.devRef .tc main_v80)) = ((mulf : (⟨S2048x1024, .f32⟩ : BufTy).Contents (Elt F) → (⟨S2048x1024, .f32⟩ : BufTy).Contents (Elt F) → (⟨S2048x1024, .f32⟩ : BufTy).Contents (Elt F))) (afterL postI X (Proc.devRef .tc main_v79)) (afterL postI X (Proc.devRef .tc main_v76)) := by
  simp only [afterL_eq_after_flatten]
  rw [ssa_dst 25 postI.flatten X postW_writes main_v80 (by decide +kernel)]
  rw [ssa_src 25 postI.flatten X postW_writes main_v79 (by decide +kernel), ssa_src 25 postI.flatten X postW_writes main_v76 (by decide +kernel)]
  generalize after (List.take 25 postI.flatten) X = Y
  show after [_] Y _ = _
  after_results
  try rfl

theorem post_v81 (X : Valuation τ sig (Elt F)) : (afterL postI X (Proc.devRef .tc main_v81)) = ((mulf : (⟨S2048x1024, .f32⟩ : BufTy).Contents (Elt F) → (⟨S2048x1024, .f32⟩ : BufTy).Contents (Elt F) → (⟨S2048x1024, .f32⟩ : BufTy).Contents (Elt F))) (afterL postI X (Proc.devRef .tc main_v80)) (afterL postI X (Proc.devRef .tc main_v28)) := by
  simp only [afterL_eq_after_flatten]
  rw [ssa_dst 26 postI.flatten X postW_writes main_v81 (by decide +kernel)]
  rw [ssa_src 26 postI.flatten X postW_writes main_v80 (by decide +kernel), ssa_src 26 postI.flatten X postW_writes main_v28 (by decide +kernel)]
  generalize after (List.take 26 postI.flatten) X = Y
  show after [_] Y _ = _
  after_results
  try rfl

theorem post_cst_22 (X : Valuation τ sig (Elt F)) : (afterL postI X (Proc.devRef .tc main_cst_22)) = ((constant S_ .f32 0x00000000#32))  := by
  simp only [afterL_eq_after_flatten]
  rw [ssa_dst 27 postI.flatten X postW_writes main_cst_22 (by decide +kernel)]

  generalize after (List.take 27 postI.flatten) X = Y
  show after [_] Y _ = _
  after_results
  try rfl

theorem post_v82 (X : Valuation τ sig (Elt F)) : (afterL postI X (Proc.devRef .tc main_v82)) = (((fun x v => Host.reduceAdd x v reducesTo_S2048x1024_S1024_d0 h_S_) : (⟨S2048x1024, .f32⟩ : BufTy).Contents (Elt F) → (⟨S_, .f32⟩ : BufTy).Contents (Elt F) → (⟨S1024, .f32⟩ : BufTy).Contents (Elt F))) (afterL postI X (Proc.devRef .tc main_v81)) (afterL postI X (Proc.devRef .tc main_cst_22)) := by
  simp only [afterL_eq_after_flatten]
  rw [ssa_dst 28 postI.flatten X postW_writes main_v82 (by decide +kernel)]
  rw [ssa_src 28 postI.flatten X postW_writes main_v81 (by decide +kernel), ssa_src 28 postI.flatten X postW_writes main_cst_22 (by decide +kernel)]
  generalize after (List.take 28 postI.flatten) X = Y
  show after [_] Y _ = _
  after_results
  try rfl

theorem post_v83 (X : Valuation τ sig (Elt F)) : (afterL postI X (Proc.devRef .tc main_v83)) = shapeCast S1x1024 (afterL postI X (Proc.devRef .tc main_v82)) shapeCasts_S1024_S1x1024 := by
  simp only [afterL_eq_after_flatten]
  rw [ssa_dst 29 postI.flatten X postW_writes main_v83 (by decide +kernel)]
  rw [ssa_src 29 postI.flatten X postW_writes main_v82 (by decide +kernel)]
  generalize after (List.take 29 postI.flatten) X = Y
  show after [_] Y _ = _
  after_results
  try rfl

theorem post_v84 (X : Valuation τ sig (Elt F)) : (afterL postI X (Proc.devRef .tc main_v84)) = shapeCast S2048x4x256 (afterL postI X (Proc.devRef .tc main_v81)) shapeCasts_S2048x1024_S2048x4x256 := by
  simp only [afterL_eq_after_flatten]
  rw [ssa_dst 30 postI.flatten X postW_writes main_v84 (by decide +kernel)]
  rw [ssa_src 30 postI.flatten X postW_writes main_v81 (by decide +kernel)]
  generalize after (List.take 30 postI.flatten) X = Y
  show after [_] Y _ = _
  after_results
  try rfl

theorem post_v85 (X : Valuation τ sig (Elt F)) : (afterL postI X (Proc.devRef .tc main_v85)) = (((transpose S4x256x2048 [1, 2, 0] · transposes_S2048x4x256_S4x256x2048_1_2_0) : (⟨S2048x4x256, .f32⟩ : BufTy).Contents (Elt F) → (⟨S4x256x2048, .f32⟩ : BufTy).Contents (Elt F))) (afterL postI X (Proc.devRef .tc main_v84)) := by
  simp only [afterL_eq_after_flatten]
  rw [ssa_dst 31 postI.flatten X postW_writes main_v85 (by decide +kernel)]
  rw [ssa_src 31 postI.flatten X postW_writes main_v84 (by decide +kernel)]
  generalize after (List.take 31 postI.flatten) X = Y
  show after [_] Y _ = _
  after_results
  try rfl

theorem post_v86 (X : Valuation τ sig (Elt F)) : (afterL postI X (Proc.devRef .tc main_v86)) = (((fun l r => Host.dotGeneral dot_S4x256x2048_S4x256x256_S4x2048x256_1_2_2_1_0_0 none l r) : (⟨S4x256x2048, .f32⟩ : BufTy).Contents (Elt F) → (⟨S4x256x256, .f32⟩ : BufTy).Contents (Elt F) → (⟨S4x2048x256, .f32⟩ : BufTy).Contents (Elt F))) (afterL postI X (Proc.devRef .tc main_v85)) (afterL postI X (Proc.devRef .tc main_arg2)) := by
  simp only [afterL_eq_after_flatten]
  rw [ssa_dst 32 postI.flatten X postW_writes main_v86 (by decide +kernel)]
  rw [ssa_src 32 postI.flatten X postW_writes main_v85 (by decide +kernel), ssa_src 32 postI.flatten X postW_writes main_arg2 (by decide +kernel)]
  generalize after (List.take 32 postI.flatten) X = Y
  show after [_] Y _ = _
  after_results
  try rfl

theorem post_v87 (X : Valuation τ sig (Elt F)) : (afterL postI X (Proc.devRef .tc main_v87)) = (((transpose S2048x4x256 [1, 0, 2] · transposes_S4x2048x256_S2048x4x256_1_0_2) : (⟨S4x2048x256, .f32⟩ : BufTy).Contents (Elt F) → (⟨S2048x4x256, .f32⟩ : BufTy).Contents (Elt F))) (afterL postI X (Proc.devRef .tc main_v86)) := by
  simp only [afterL_eq_after_flatten]
  rw [ssa_dst 33 postI.flatten X postW_writes main_v87 (by decide +kernel)]
  rw [ssa_src 33 postI.flatten X postW_writes main_v86 (by decide +kernel)]
  generalize after (List.take 33 postI.flatten) X = Y
  show after [_] Y _ = _
  after_results
  try rfl

theorem post_v88 (X : Valuation τ sig (Elt F)) : (afterL postI X (Proc.devRef .tc main_v88)) = (((fun l r => Host.dotGeneral dot_S4x256x2048_S2048x4x256_S4x256x256_2_0_1_2_0_1 none l r) : (⟨S4x256x2048, .f32⟩ : BufTy).Contents (Elt F) → (⟨S2048x4x256, .f32⟩ : BufTy).Contents (Elt F) → (⟨S4x256x256, .f32⟩ : BufTy).Contents (Elt F))) (afterL postI X (Proc.devRef .tc main_v85)) (afterL postI X (Proc.devRef .tc main_v0)) := by
  simp only [afterL_eq_after_flatten]
  rw [ssa_dst 34 postI.flatten X postW_writes main_v88 (by decide +kernel)]
  rw [ssa_src 34 postI.flatten X postW_writes main_v85 (by decide +kernel), ssa_src 34 postI.flatten X postW_writes main_v0 (by decide +kernel)]
  generalize after (List.take 34 postI.flatten) X = Y
  show after [_] Y _ = _
  after_results
  try rfl

theorem post_v89 (X : Valuation τ sig (Elt F)) : (afterL postI X (Proc.devRef .tc main_v89)) = (((transpose S4x256x256 [0, 2, 1] · transposes_S4x256x256_S4x256x256_0_2_1) : (⟨S4x256x256, .f32⟩ : BufTy).Contents (Elt F) → (⟨S4x256x256, .f32⟩ : BufTy).Contents (Elt F))) (afterL postI X (Proc.devRef .tc main_v88)) := by
  simp only [afterL_eq_after_flatten]
  rw [ssa_dst 35 postI.flatten X postW_writes main_v89 (by decide +kernel)]
  rw [ssa_src 35 postI.flatten X postW_writes main_v88 (by decide +kernel)]
  generalize after (List.take 35 postI.flatten) X = Y
  show after [_] Y _ = _
  after_results
  try rfl

theorem post_v90 (X : Valuation τ sig (Elt F)) : (afterL postI X (Proc.devRef .tc main_v90)) = ((mulf : (⟨S2048x1024, .f32⟩ : BufTy).Contents (Elt F) → (⟨S2048x1024, .f32⟩ : BufTy).Contents (Elt F) → (⟨S2048x1024, .f32⟩ : BufTy).Contents (Elt F))) (afterL postI X (Proc.devRef .tc main_v62)) (afterL postI X (Proc.devRef .tc main_v14)) := by
  simp only [afterL_eq_after_flatten]
  rw [ssa_dst 36 postI.flatten X postW_writes main_v90 (by decide +kernel)]
  rw [ssa_src 36 postI.flatten X postW_writes main_v62 (by decide +kernel), ssa_src 36 postI.flatten X postW_writes main_v14 (by decide +kernel)]
  generalize after (List.take 36 postI.flatten) X = Y
  show after [_] Y _ = _
  after_results
  try rfl

theorem post_cst_23 (X : Valuation τ sig (Elt F)) : (afterL postI X (Proc.devRef .tc main_cst_23)) = ((constant S_ .f32 0x00000000#32))  := by
  simp only [afterL_eq_after_flatten]
  rw [ssa_dst 37 postI.flatten X postW_writes main_cst_23 (by decide +kernel)]

  generalize after (List.take 37 postI.flatten) X = Y
  show after [_] Y _ = _
  after_results
  try rfl

theorem post_v91 (X : Valuation τ sig (Elt F)) : (afterL postI X (Proc.devRef .tc main_v91)) = (((fun x v => Host.reduceAdd x v reducesTo_S2048x1024_S1024_d0 h_S_) : (⟨S2048x1024, .f32⟩ : BufTy).Contents (Elt F) → (⟨S_, .f32⟩ : BufTy).Contents (Elt F) → (⟨S1024, .f32⟩ : BufTy).Contents (Elt F))) (afterL postI X (Proc.devRef .tc main_v90)) (afterL postI X (Proc.devRef .tc main_cst_23)) := by
  simp only [afterL_eq_after_flatten]
  rw [ssa_dst 38 postI.flatten X postW_writes main_v91 (by decide +kernel)]
  rw [ssa_src 38 postI.flatten X postW_writes main_v90 (by decide +kernel), ssa_src 38 postI.flatten X postW_writes main_cst_23 (by decide +kernel)]
  generalize after (List.take 38 postI.flatten) X = Y
  show after [_] Y _ = _
  after_results
  try rfl

theorem post_v92 (X : Valuation τ sig (Elt F)) : (afterL postI X (Proc.devRef .tc main_v92)) = shapeCast S1x1024 (afterL postI X (Proc.devRef .tc main_v91)) shapeCasts_S1024_S1x1024 := by
  simp only [afterL_eq_after_flatten]
  rw [ssa_dst 39 postI.flatten X postW_writes main_v92 (by decide +kernel)]
  rw [ssa_src 39 postI.flatten X postW_writes main_v91 (by decide +kernel)]
  generalize after (List.take 39 postI.flatten) X = Y
  show after [_] Y _ = _
  after_results
  try rfl

theorem post_v93 (X : Valuation τ sig (Elt F)) : (afterL postI X (Proc.devRef .tc main_v93)) = shapeCast S2048x4x256 (afterL postI X (Proc.devRef .tc main_v90)) shapeCasts_S2048x1024_S2048x4x256 := by
  simp only [afterL_eq_after_flatten]
  rw [ssa_dst 40 postI.flatten X postW_writes main_v93 (by decide +kernel)]
  rw [ssa_src 40 postI.flatten X postW_writes main_v90 (by decide +kernel)]
  generalize after (List.take 40 postI.flatten) X = Y
  show after [_] Y _ = _
  after_results
  try rfl

theorem post_v94 (X : Valuation τ sig (Elt F)) : (afterL postI X (Proc.devRef .tc main_v94)) = (((transpose S4x256x2048 [1, 2, 0] · transposes_S2048x4x256_S4x256x2048_1_2_0) : (⟨S2048x4x256, .f32⟩ : BufTy).Contents (Elt F) → (⟨S4x256x2048, .f32⟩ : BufTy).Contents (Elt F))) (afterL postI X (Proc.devRef .tc main_v93)) := by
  simp only [afterL_eq_after_flatten]
  rw [ssa_dst 41 postI.flatten X postW_writes main_v94 (by decide +kernel)]
  rw [ssa_src 41 postI.flatten X postW_writes main_v93 (by decide +kernel)]
  generalize after (List.take 41 postI.flatten) X = Y
  show after [_] Y _ = _
  after_results
  try rfl

theorem post_v95 (X : Valuation τ sig (Elt F)) : (afterL postI X (Proc.devRef .tc main_v95)) = (((fun l r => Host.dotGeneral dot_S4x256x2048_S4x256x256_S4x2048x256_1_2_2_1_0_0 none l r) : (⟨S4x256x2048, .f32⟩ : BufTy).Contents (Elt F) → (⟨S4x256x256, .f32⟩ : BufTy).Contents (Elt F) → (⟨S4x2048x256, .f32⟩ : BufTy).Contents (Elt F))) (afterL postI X (Proc.devRef .tc main_v94)) (afterL postI X (Proc.devRef .tc main_arg1)) := by
  simp only [afterL_eq_after_flatten]
  rw [ssa_dst 42 postI.flatten X postW_writes main_v95 (by decide +kernel)]
  rw [ssa_src 42 postI.flatten X postW_writes main_v94 (by decide +kernel), ssa_src 42 postI.flatten X postW_writes main_arg1 (by decide +kernel)]
  generalize after (List.take 42 postI.flatten) X = Y
  show after [_] Y _ = _
  after_results
  try rfl

theorem post_v96 (X : Valuation τ sig (Elt F)) : (afterL postI X (Proc.devRef .tc main_v96)) = (((transpose S2048x4x256 [1, 0, 2] · transposes_S4x2048x256_S2048x4x256_1_0_2) : (⟨S4x2048x256, .f32⟩ : BufTy).Contents (Elt F) → (⟨S2048x4x256, .f32⟩ : BufTy).Contents (Elt F))) (afterL postI X (Proc.devRef .tc main_v95)) := by
  simp only [afterL_eq_after_flatten]
  rw [ssa_dst 43 postI.flatten X postW_writes main_v96 (by decide +kernel)]
  rw [ssa_src 43 postI.flatten X postW_writes main_v95 (by decide +kernel)]
  generalize after (List.take 43 postI.flatten) X = Y
  show after [_] Y _ = _
  after_results
  try rfl

theorem post_v97 (X : Valuation τ sig (Elt F)) : (afterL postI X (Proc.devRef .tc main_v97)) = ((addf : (⟨S2048x4x256, .f32⟩ : BufTy).Contents (Elt F) → (⟨S2048x4x256, .f32⟩ : BufTy).Contents (Elt F) → (⟨S2048x4x256, .f32⟩ : BufTy).Contents (Elt F))) (afterL postI X (Proc.devRef .tc main_v87)) (afterL postI X (Proc.devRef .tc main_v96)) := by
  simp only [afterL_eq_after_flatten]
  rw [ssa_dst 44 postI.flatten X postW_writes main_v97 (by decide +kernel)]
  rw [ssa_src 44 postI.flatten X postW_writes main_v87 (by decide +kernel), ssa_src 44 postI.flatten X postW_writes main_v96 (by decide +kernel)]
  generalize after (List.take 44 postI.flatten) X = Y
  show after [_] Y _ = _
  after_results
  try rfl

theorem post_v98 (X : Valuation τ sig (Elt F)) : (afterL postI X (Proc.devRef .tc main_v98)) = (((fun l r => Host.dotGeneral dot_S4x256x2048_S2048x4x256_S4x256x256_2_0_1_2_0_1 none l r) : (⟨S4x256x2048, .f32⟩ : BufTy).Contents (Elt F) → (⟨S2048x4x256, .f32⟩ : BufTy).Contents (Elt F) → (⟨S4x256x256, .f32⟩ : BufTy).Contents (Elt F))) (afterL postI X (Proc.devRef .tc main_v94)) (afterL postI X (Proc.devRef .tc main_v0)) := by
  simp only [afterL_eq_after_flatten]
  rw [ssa_dst 45 postI.flatten X postW_writes main_v98 (by decide +kernel)]
  rw [ssa_src 45 postI.flatten X postW_writes main_v94 (by decide +kernel), ssa_src 45 postI.flatten X postW_writes main_v0 (by decide +kernel)]
  generalize after (List.take 45 postI.flatten) X = Y
  show after [_] Y _ = _
  after_results
  try rfl

theorem post_v99 (X : Valuation τ sig (Elt F)) : (afterL postI X (Proc.devRef .tc main_v99)) = (((transpose S4x256x256 [0, 2, 1] · transposes_S4x256x256_S4x256x256_0_2_1) : (⟨S4x256x256, .f32⟩ : BufTy).Contents (Elt F) → (⟨S4x256x256, .f32⟩ : BufTy).Contents (Elt F))) (afterL postI X (Proc.devRef .tc main_v98)) := by
  simp only [afterL_eq_after_flatten]
  rw [ssa_dst 46 postI.flatten X postW_writes main_v99 (by decide +kernel)]
  rw [ssa_src 46 postI.flatten X postW_writes main_v98 (by decide +kernel)]
  generalize after (List.take 46 postI.flatten) X = Y
  show after [_] Y _ = _
  after_results
  try rfl

theorem post_v100 (X : Valuation τ sig (Elt F)) : (afterL postI X (Proc.devRef .tc main_v100)) = shapeCast S2048x1024 (afterL postI X (Proc.devRef .tc main_v97)) shapeCasts_S2048x4x256_S2048x1024 := by
  simp only [afterL_eq_after_flatten]
  rw [ssa_dst 47 postI.flatten X postW_writes main_v100 (by decide +kernel)]
  rw [ssa_src 47 postI.flatten X postW_writes main_v97 (by decide +kernel)]
  generalize after (List.take 47 postI.flatten) X = Y
  show after [_] Y _ = _
  after_results
  try rfl

theorem post_v101 (X : Valuation τ sig (Elt F)) : (afterL postI X (Proc.devRef .tc main_v101)) = ((addf : (⟨S2048x1024, .f32⟩ : BufTy).Contents (Elt F) → (⟨S2048x1024, .f32⟩ : BufTy).Contents (Elt F) → (⟨S2048x1024, .f32⟩ : BufTy).Contents (Elt F))) (afterL postI X (Proc.devRef .tc main_v63)) (afterL postI X (Proc.devRef .tc main_v100)) := by
  simp only [afterL_eq_after_flatten]
  rw [ssa_dst 48 postI.flatten X postW_writes main_v101 (by decide +kernel)]
  rw [ssa_src 48 postI.flatten X postW_writes main_v63 (by decide +kernel), ssa_src 48 postI.flatten X postW_writes main_v100 (by decide +kernel)]
  generalize after (List.take 48 postI.flatten) X = Y
  show after [_] Y _ = _
  after_results
  try rfl

end Cert.RefRun
-- ==== Proof.RefPre.lean ====
/- The reference before its first loop, in the formulas of Spec. -/
module

public import proofs.«01_k».proof.Proof.RefEqs
public import proofs.«01_k».proof.Proof.Spec
public import Idealize.ShloMosaic.Lib.ValueIdx
public import Idealize.ShloMosaic.Lib.Pointwise
public import Idealize.ShloMosaic.Lib.WordCmp

@[expose] public section

set_option maxRecDepth 16384

noncomputable section

namespace Cert.RefRun

open Cert.ReferenceIdeal Cert.ReferenceIdeal.Gen
open Idealize.ShloMosaic Idealize.ShloMosaic.TcCoe Idealize.ShloMosaic.Tactic
open Idealize.ShloMosaic.StableHlo

/-- A valuation's arguments by coordinates. -/
def argsOf (V : Valuation τ sig (Elt Ideal)) : Lru.Args where
  x t j := V (Proc.devRef .tc main_arg0) (ix2 t j)
  wx h i k := V (Proc.devRef .tc main_arg1) (ix3 h i k)
  wa h i k := V (Proc.devRef .tc main_arg2) (ix3 h i k)
  bx j := V (Proc.devRef .tc main_arg3) (ix2 0 j)
  ba j := V (Proc.devRef .tc main_arg4) (ix2 0 j)
  lam j := V (Proc.devRef .tc main_arg5) (ix2 0 j)
  dh t j := V (Proc.devRef .tc main_arg6) (ix2 t j)

variable (X : Valuation τ sig (Elt Ideal))

theorem v5_eq (t : Fin 2048) (j : Fin 1024) : afterL preI X (Proc.devRef .tc main_v5) (ix2 t j) = Lru.pre (argsOf (afterL preI X)) (argsOf (afterL preI X)).wx (argsOf (afterL preI X)).bx t j := by
  rw [pre_v5, pre_v4, pre_v3, pre_v2, pre_v1, pre_v0]
  pointwise
  generalize afterL preI X = V
  exact congrArg (· + _) (Finset.sum_congr rfl fun i _ => mul_comm _ _)

theorem v19_eq (t : Fin 2048) (j : Fin 1024) : afterL preI X (Proc.devRef .tc main_v19) (ix2 t j) = Lru.pre (argsOf (afterL preI X)) (argsOf (afterL preI X)).wa (argsOf (afterL preI X)).ba t j := by
  rw [pre_v19, pre_v18, pre_v17, pre_v16, pre_v15, pre_v0]
  pointwise
  generalize afterL preI X = V
  exact congrArg (· + _) (Finset.sum_congr rfl fun i _ => mul_comm _ _)

theorem v11_eq (t : Fin 2048) (j : Fin 1024) : afterL preI X (Proc.devRef .tc main_v11) (ix2 t j) = Lru.gx (argsOf (afterL preI X)) t j := by
  rw [pre_v11, pre_v10, pre_v9, pre_v8, pre_v7, pre_v6, pre_cst, pre_cst_0]
  pointwise
  rw [v5_eq]
  rfl

theorem v25_eq (t : Fin 2048) (j : Fin 1024) : afterL preI X (Proc.devRef .tc main_v25) (ix2 t j) = Lru.ga (argsOf (afterL preI X)) t j := by
  rw [pre_v25, pre_v24, pre_v23, pre_v22, pre_v21, pre_v20, pre_cst_2, pre_cst_3]
  pointwise
  rw [v19_eq]
  rfl

theorem v14_eq (t : Fin 2048) (j : Fin 1024) : afterL preI X (Proc.devRef .tc main_v14) (ix2 t j) = Lru.gx (argsOf (afterL preI X)) t j * (1 - Lru.gx (argsOf (afterL preI X)) t j) := by
  rw [pre_v14, pre_v13, pre_v12, pre_cst_1]
  pointwise
  rw [v11_eq]

theorem v28_eq (t : Fin 2048) (j : Fin 1024) : afterL preI X (Proc.devRef .tc main_v28) (ix2 t j) = Lru.ga (argsOf (afterL preI X)) t j * (1 - Lru.ga (argsOf (afterL preI X)) t j) := by
  rw [pre_v28, pre_v27, pre_v26, pre_cst_4]
  pointwise
  rw [v25_eq]

theorem v30_eq (t : Fin 2048) (j : Fin 1024) : afterL preI X (Proc.devRef .tc main_v30) (ix2 t j) = Lru.ga8 (argsOf (afterL preI X)) t j := by
  rw [pre_v30, pre_v29, pre_cst_5]
  pointwise
  rw [v25_eq]
  rfl

theorem v32_0_eq (j : Fin 1024) : afterL preI X (Proc.devRef .tc main_v32_0) (ix2 0 j) = Lru.sp (-(argsOf (afterL preI X)).lam j) := by
  rw [pre_v32_0, pre_call0_v4, pre_call0_v6, pre_call0_v11, pre_call0_v1, pre_call0_v10, pre_call0_v9, pre_call0_v8, pre_call0_v7, pre_call0_v3,
    pre_call0_v0, pre_call0_v2, pre_call0_v5, pre_call0_cst, pre_v31]
  pointwise
  generalize afterL preI X = V
  rfl

theorem v32_1_eq (j : Fin 1024) : afterL preI X (Proc.devRef .tc main_v32_1) (ix2 0 j) = Lru.dsp (-(argsOf (afterL preI X)).lam j) := by
  rw [pre_v32_1, pre_call0_v21, pre_call0_v16, pre_call0_v20, pre_call0_v14, pre_call0_v18, pre_call0_v13, pre_call0_v15, pre_call0_v17, pre_call0_v19,
    pre_call0_cst_0, pre_call0_cst_1, pre_call0_cst_2, pre_call0_cst_3, pre_v31]
  pointwise
  rw [v32_0_eq]
  generalize afterL preI X = V
  rfl

theorem v34_eq (t : Fin 2048) (j : Fin 1024) : afterL preI X (Proc.devRef .tc main_v34) (ix2 t j) = Lru.la (argsOf (afterL preI X)) t j := by
  rw [pre_v34, pre_v33]
  pointwise
  rw [v30_eq, v32_0_eq]
  rfl

theorem v35_eq (t : Fin 2048) (j : Fin 1024) : afterL preI X (Proc.devRef .tc main_v35) (ix2 t j) = Lru.a (argsOf (afterL preI X)) t j := by
  rw [pre_v35]
  pointwise
  rw [v34_eq]
  rfl

theorem v38_eq (t : Fin 2048) (j : Fin 1024) : afterL preI X (Proc.devRef .tc main_v38) (ix2 t j) = Lru.e2 (argsOf (afterL preI X)) t j := by
  rw [pre_v38, pre_v37, pre_v36, pre_cst_6]
  pointwise
  rw [v34_eq]
  rfl

theorem v41_eq (t : Fin 2048) (j : Fin 1024) : afterL preI X (Proc.devRef .tc main_v41) (ix2 t j) = Lru.rt (argsOf (afterL preI X)) t j := by
  rw [pre_v41, pre_v40, pre_v39, pre_cst_7]
  pointwise
  rw [v38_eq]
  rfl

theorem v43_eq (t : Fin 2048) (j : Fin 1024) : afterL preI X (Proc.devRef .tc main_v43) (ix2 t j) = Ideal.div Lru.half (Lru.rt (argsOf (afterL preI X)) t j) := by
  rw [pre_v43, pre_v42, pre_cst_8]
  pointwise
  rw [v41_eq]

/-- The mask of row 0. -/
theorem mask_eq {α : Type} (t : Fin 2048) (u v : α) :
    Scalar.select (IntOp.cmpi .eq (BitVec.ofNat 32 t.val) 0#32) u v = if t.val = 0 then u else v := by
  have h : IntOp.cmpi .eq (BitVec.ofNat 32 t.val) 0#32 = if t.val = 0 then 1#1 else 0#1 := by
    have ht := t.isLt
    unfold IntOp.cmpi
    by_cases h : t.val = 0
    · simp [h]
    · rw [if_neg h]
      have : BitVec.ofNat 32 t.val ≠ 0#32 := fun e => h (by
        have := congrArg BitVec.toNat e
        simp only [BitVec.toNat_ofNat] at this
        omega)
      rw [beq_eq_false_iff_ne.mpr this]; rfl
  rw [h]
  by_cases h : t.val = 0
  · rw [if_pos h, if_pos h]; rfl
  · rw [if_neg h, if_neg h]; rfl

theorem v48_0_eq (t : Fin 2048) (j : Fin 1024) : afterL preI X (Proc.devRef .tc main_v48_0) (ix2 t j) = Lru.mult (argsOf (afterL preI X)) t j := by
  rw [pre_v48_0, pre_v48_1, pre_v47, pre_v46, pre_v45, pre_v44, pre_call1_v2, pre_call1_v0, pre_c, pre_cst_9]
  simp only [id_eq]
  pointwise
  rw [mask_eq, v41_eq]
  rfl

theorem v48_1_eq {α : Type} (t : Fin 2048) (j : Fin 1024) (u v : α) :
    Scalar.select (afterL preI X (Proc.devRef .tc main_v48_1) (ix2 t j) : BitVec 1) u v = if t.val = 0 then u else v := by
  rw [pre_v48_1, pre_v47, pre_v46, pre_v45, pre_v44, pre_c]
  pointwise
  rw [mask_eq]

theorem v49_eq (t : Fin 2048) (j : Fin 1024) : afterL preI X (Proc.devRef .tc main_v49) (ix2 t j) = Lru.xg (argsOf (afterL preI X)) t j := by
  rw [pre_v49]
  pointwise
  rw [v11_eq]
  generalize afterL preI X = V
  rfl

theorem v50_eq (t : Fin 2048) (j : Fin 1024) : afterL preI X (Proc.devRef .tc main_v50) (ix2 t j) = Lru.bin (argsOf (afterL preI X)) t j := by
  rw [pre_v50]
  pointwise
  rw [v49_eq, v48_0_eq]
  rfl

end Cert.RefRun
-- ==== Proof.RefLoop.lean ====
/- The reference's two loops, trip by trip: the first computes the state row by row and keeps the state before each row,
   the second runs the rows backwards and leaves the two cotangents. -/
module

public import proofs.«01_k».proof.Proof.RefPre

@[expose] public section

set_option maxRecDepth 100000

noncomputable section

namespace Cert.RefRun

open Cert.ReferenceIdeal Cert.ReferenceIdeal.Gen
open Idealize.ShloMosaic Idealize.ShloMosaic.TcCoe Idealize.ShloMosaic.Tactic
open Idealize.ShloMosaic.StableHlo

/-- An array's element at its coordinates. -/
abbrev rd (x : S2048x1024.Idx → EReal) (t : Fin 2048) (j : Fin 1024) : EReal := x (ix2 t j)
abbrev rv (x : S1024.Idx → EReal) (j : Fin 1024) : EReal := x (ix1 j)

/-- The start of a one-row block: the row's number as a word, and column 0. -/
abbrev start (w : S_.Idx → BitVec 32) : Fin 2 → Int := fun k => ((![w, constantI S_ 32 0#32] : Fin 2 → S_.Idx → BitVec 32) k (Shape.Idx.first h_S_)).toInt

/-- One row read. -/
def rowOf (x : S2048x1024.Idx → EReal) (w : S_.Idx → BitVec 32) : S1024.Idx → EReal :=
  shapeCast S1024 (Host.dynamicSlice S1x1024 x (start w) sliceFits_S2048x1024_S1x1024) shapeCasts_S1x1024_S1024
/-- One row written. -/
def putRow (x : S2048x1024.Idx → EReal) (u : S1024.Idx → EReal) (w : S_.Idx → BitVec 32) : S2048x1024.Idx → EReal :=
  Host.dynamicUpdateSlice x (broadcastInDim S1x1024 ![1] bcast_S1024_S1x1024_1 u) (start w) updateFits_S2048x1024_S1x1024

theorem start_eq (k : ℕ) (hk : k < 2048) (w : S_.Idx → BitVec 32) (hw : w = fun _ => BitVec.ofNat 32 k) (a : Fin 2) :
    start w a = ((![k, 0] : Fin 2 → ℕ) a : Int) := by
  subst hw
  match a with
  | 0 =>
    show (BitVec.ofNat 32 k).toInt = (k : Int)
    rw [BitVec.toInt_eq_toNat_of_lt (by rw [BitVec.toNat_ofNat]; omega), BitVec.toNat_ofNat]
    omega
  | 1 => rfl

theorem rowOf_apply (x : S2048x1024.Idx → EReal) (w : S_.Idx → BitVec 32) (k : ℕ) (hk : k < 2048) (hw : w = fun _ => BitVec.ofNat 32 k) (j : Fin 1024) :
    rowOf x w (ix1 j) = x (ix2 ⟨k, hk⟩ j) := by
  have hs : S2048x1024.Slices ![k, 0] S1x1024 := ⟨rfl, fun a => by match a with | 0 => show k + 1 ≤ 2048; omega | 1 => show 0 + 1024 ≤ 1024; omega⟩
  unfold rowOf
  rw [WordCmp.dynamicSlice_eq_extract S1x1024 x _ _ ![k, 0] hs (start_eq k hk w hw)]
  pointwise

theorem putRow_apply (x : S2048x1024.Idx → EReal) (u : S1024.Idx → EReal) (w : S_.Idx → BitVec 32) (k : ℕ) (hk : k < 2048) (hw : w = fun _ => BitVec.ofNat 32 k)
    (t : Fin 2048) (j : Fin 1024) : putRow x u w (ix2 t j) = if t.val = k then u (ix1 j) else x (ix2 t j) := by
  have hs : S2048x1024.Slices ![k, 0] S1x1024 := ⟨rfl, fun a => by match a with | 0 => show k + 1 ≤ 2048; omega | 1 => show 0 + 1024 ≤ 1024; omega⟩
  unfold putRow
  rw [WordCmp.dynamicUpdateSlice_eq_update x _ _ _ ![k, 0] hs (start_eq k hk w hw)]
  pointwise
  by_cases h : t.val = k
  · rw [dif_pos (by omega), if_pos h]
  · rw [dif_neg (by omega), if_neg h]

variable (X : Valuation τ sig (Elt Ideal))

/-! ## The first loop's trip -/

theorem w0_0 : after while0Ops0 X (Proc.devRef .tc main_while0b_v102) = rowOf (X (Proc.devRef .tc main_v54_0)) (X (Proc.devRef .tc main_v54_2)) := by
  after_results_entrywise [cast_eq]
theorem w0_1 : after while0Ops0_1 X (Proc.devRef .tc main_while0b_v103) = rowOf (X (Proc.devRef .tc main_v54_1)) (X (Proc.devRef .tc main_v54_2)) := by
  after_results_entrywise [cast_eq]
theorem w0_2 : after while0Ops0_2 X (Proc.devRef .tc main_while0b_v105) = addf (F := Ideal) (s := S1024) (φ := .f32)
    (mulf (F := Ideal) (s := S1024) (φ := .f32) (X (Proc.devRef .tc main_while0b_v102)) (X (Proc.devRef .tc main_v54_3))) (X (Proc.devRef .tc main_while0b_v103)) := by
  after_results
theorem w0_4 : after while0Ops0_4 X (Proc.devRef .tc main_while0b_v107) = putRow (X (Proc.devRef .tc main_v54_5)) (X (Proc.devRef .tc main_v54_3)) (X (Proc.devRef .tc main_v54_2)) := by
  after_results_entrywise [cast_eq]
theorem w0_5_3 : after while0Ops0_5 X (Proc.devRef .tc main_v54_3) = X (Proc.devRef .tc main_while0b_v105) := by
  after_results
  rfl
theorem w0_5_5 : after while0Ops0_5 X (Proc.devRef .tc main_v54_5) = X (Proc.devRef .tc main_while0b_v107) := by
  after_results
  rfl

/-- The buffers a trip of the first loop writes, the condition's with them. -/
abbrev loop0W : List (Ref sig .tc) := cond0_W ++ (while0Ops0_W ++ (while0Ops0_1_W ++ (while0Ops0_2_W ++ (while0Ops0_3_W ++ (while0Ops0_4_W ++ while0Ops0_5_W)))))
abbrev loop1W : List (Ref sig .tc) := cond1_W ++ (while1Ops0_W ++ (while1Ops0_1_W ++ (while1Ops0_2_W ++ (while1Ops0_3_W ++ (while1Ops0_4_W ++ (while1Ops0_5_W ++ (while1Ops0_6_W ++ while1Ops0_7_W)))))))

theorem trip0_keep (r : Ref sig .tc) (h : r ∉ loop0W) : afterL body0I (after cond0 X) (Proc.devRef .tc r) = X (Proc.devRef .tc r) := by
  simp only [List.mem_append, not_or] at h
  obtain ⟨hc, h0, h1, h2, h3, h4, h5⟩ := h
  simp only [afterL_cons, afterL_nil]
  rw [after_of_writes_sub while0Ops0_5 _ while0Ops0_5_writes h5, after_of_writes_sub while0Ops0_4 _ while0Ops0_4_writes h4,
    after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub cond0 _ cond0_writes hc]

theorem trip1_keep (r : Ref sig .tc) (h : r ∉ loop1W) : afterL body1I (after cond1 X) (Proc.devRef .tc r) = X (Proc.devRef .tc r) := by
  simp only [List.mem_append, not_or] at h
  obtain ⟨hc, h0, h1, h2, h3, h4, h5, h6, h7⟩ := h
  simp only [afterL_cons, afterL_nil]
  rw [after_of_writes_sub while1Ops0_7 _ while1Ops0_7_writes h7, after_of_writes_sub while1Ops0_6 _ while1Ops0_6_writes h6,
    after_of_writes_sub while1Ops0_5 _ while1Ops0_5_writes h5, after_of_writes_sub while1Ops0_4 _ while1Ops0_4_writes h4,
    after_of_writes_sub while1Ops0_3 _ while1Ops0_3_writes h3, after_of_writes_sub while1Ops0_2 _ while1Ops0_2_writes h2,
    after_of_writes_sub while1Ops0_1 _ while1Ops0_1_writes h1, after_of_writes_sub while1Ops0 _ while1Ops0_writes h0,
    after_of_writes_sub cond1 _ cond1_writes hc]

/-- The state's step, and the row of kept states, at coordinates. -/
theorem trip0_3 (k : ℕ) (hk : k < 2048) (hw : X (Proc.devRef .tc main_v54_2) = fun _ => BitVec.ofNat 32 k) (j : Fin 1024) :
    rv (afterL body0I (after cond0 X) (Proc.devRef .tc main_v54_3)) j
      = (rd (X (Proc.devRef .tc main_v54_0)) ⟨k, hk⟩ j * rv (X (Proc.devRef .tc main_v54_3)) j + rd (X (Proc.devRef .tc main_v54_1)) ⟨k, hk⟩ j : EReal) := by
  simp only [afterL_cons, afterL_nil, rd, rv]
  rw [w0_5_3, after_of_writes_sub while0Ops0_4 _ while0Ops0_4_writes (r := main_while0b_v105) (by decide +kernel), after_of_writes_sub while0Ops0_3 _ while0Ops0_3_writes (r := main_while0b_v105) (by decide +kernel), w0_2, w0_1,
    after_of_writes_sub while0Ops0_1 _ while0Ops0_1_writes (r := main_while0b_v102) (by decide +kernel), w0_0,
    after_of_writes_sub while0Ops0_1 _ while0Ops0_1_writes (r := main_v54_3) (by decide +kernel), after_of_writes_sub while0Ops0 _ while0Ops0_writes (r := main_v54_3) (by decide +kernel), after_of_writes_sub cond0 _ cond0_writes (r := main_v54_3) (by decide +kernel),
    after_of_writes_sub cond0 _ cond0_writes (r := main_v54_0) (by decide +kernel), after_of_writes_sub cond0 _ cond0_writes (r := main_v54_2) (by decide +kernel),
    after_of_writes_sub while0Ops0 _ while0Ops0_writes (r := main_v54_1) (by decide +kernel), after_of_writes_sub cond0 _ cond0_writes (r := main_v54_1) (by decide +kernel), after_of_writes_sub while0Ops0 _ while0Ops0_writes (r := main_v54_2) (by decide +kernel), after_of_writes_sub cond0 _ cond0_writes (r := main_v54_2) (by decide +kernel)]
  pointwise
  rw [rowOf_apply _ _ k hk hw, rowOf_apply _ _ k hk hw]

theorem trip0_5 (k : ℕ) (hk : k < 2048) (hw : X (Proc.devRef .tc main_v54_2) = fun _ => BitVec.ofNat 32 k) (t : Fin 2048) (j : Fin 1024) :
    rd (afterL body0I (after cond0 X) (Proc.devRef .tc main_v54_5)) t j
      = (if t.val = k then rv (X (Proc.devRef .tc main_v54_3)) j else rd (X (Proc.devRef .tc main_v54_5)) t j : EReal) := by
  simp only [afterL_cons, afterL_nil, rd, rv]
  rw [w0_5_5, w0_4, after_of_writes_sub while0Ops0_3 _ while0Ops0_3_writes (r := main_v54_5) (by decide +kernel), after_of_writes_sub while0Ops0_2 _ while0Ops0_2_writes (r := main_v54_5) (by decide +kernel), after_of_writes_sub while0Ops0_1 _ while0Ops0_1_writes (r := main_v54_5) (by decide +kernel), after_of_writes_sub while0Ops0 _ while0Ops0_writes (r := main_v54_5) (by decide +kernel), after_of_writes_sub cond0 _ cond0_writes (r := main_v54_5) (by decide +kernel), after_of_writes_sub while0Ops0_3 _ while0Ops0_3_writes (r := main_v54_3) (by decide +kernel), after_of_writes_sub while0Ops0_2 _ while0Ops0_2_writes (r := main_v54_3) (by decide +kernel), after_of_writes_sub while0Ops0_1 _ while0Ops0_1_writes (r := main_v54_3) (by decide +kernel), after_of_writes_sub while0Ops0 _ while0Ops0_writes (r := main_v54_3) (by decide +kernel), after_of_writes_sub cond0 _ cond0_writes (r := main_v54_3) (by decide +kernel), after_of_writes_sub while0Ops0_3 _ while0Ops0_3_writes (r := main_v54_2) (by decide +kernel), after_of_writes_sub while0Ops0_2 _ while0Ops0_2_writes (r := main_v54_2) (by decide +kernel), after_of_writes_sub while0Ops0_1 _ while0Ops0_1_writes (r := main_v54_2) (by decide +kernel), after_of_writes_sub while0Ops0 _ while0Ops0_writes (r := main_v54_2) (by decide +kernel), after_of_writes_sub cond0 _ cond0_writes (r := main_v54_2) (by decide +kernel)]
  exact putRow_apply _ _ _ k hk hw t j

/-! ## The second loop's trip -/

theorem w1_0 : after while1Ops0 X (Proc.devRef .tc main_while1b_v103) = subi (subi (constantI S_ 32 2048#32) (X (Proc.devRef .tc main_v59_3))) (constantI S_ 32 1#32) := by
  after_results
theorem w1_1 : after while1Ops0_1 X (Proc.devRef .tc main_while1b_v104) = rowOf (X (Proc.devRef .tc main_v59_0)) (X (Proc.devRef .tc main_while1b_v103)) := by
  after_results_entrywise [cast_eq]
theorem w1_2 : after while1Ops0_2 X (Proc.devRef .tc main_while1b_v105) = rowOf (X (Proc.devRef .tc main_v59_1)) (X (Proc.devRef .tc main_while1b_v103)) := by
  after_results_entrywise [cast_eq]
theorem w1_3 : after while1Ops0_3 X (Proc.devRef .tc main_while1b_v106) = rowOf (X (Proc.devRef .tc main_v59_2)) (X (Proc.devRef .tc main_while1b_v103)) := by
  after_results_entrywise [cast_eq]
theorem w1_4_107 : after while1Ops0_4 X (Proc.devRef .tc main_while1b_v107) = addf (F := Ideal) (s := S1024) (φ := .f32)
    (X (Proc.devRef .tc main_v59_4)) (X (Proc.devRef .tc main_while1b_v104)) := by
  after_results
theorem w1_4_108 : after while1Ops0_4 X (Proc.devRef .tc main_while1b_v108) = mulf (F := Ideal) (s := S1024) (φ := .f32) (X (Proc.devRef .tc main_while1b_v106))
    (addf (F := Ideal) (s := S1024) (φ := .f32) (X (Proc.devRef .tc main_v59_4)) (X (Proc.devRef .tc main_while1b_v104))) := by
  after_results
theorem w1_4_109 : after while1Ops0_4 X (Proc.devRef .tc main_while1b_v109) = mulf (F := Ideal) (s := S1024) (φ := .f32)
    (addf (F := Ideal) (s := S1024) (φ := .f32) (X (Proc.devRef .tc main_v59_4)) (X (Proc.devRef .tc main_while1b_v104))) (X (Proc.devRef .tc main_while1b_v105)) := by
  after_results
theorem w1_5 : after while1Ops0_5 X (Proc.devRef .tc main_while1b_v110) = putRow (X (Proc.devRef .tc main_v59_5)) (X (Proc.devRef .tc main_while1b_v109)) (X (Proc.devRef .tc main_while1b_v103)) := by
  after_results_entrywise [cast_eq]
theorem w1_6 : after while1Ops0_6 X (Proc.devRef .tc main_while1b_v111) = putRow (X (Proc.devRef .tc main_v59_6)) (X (Proc.devRef .tc main_while1b_v107)) (X (Proc.devRef .tc main_while1b_v103)) := by
  after_results_entrywise [cast_eq]
theorem w1_7_4 : after while1Ops0_7 X (Proc.devRef .tc main_v59_4) = X (Proc.devRef .tc main_while1b_v108) := by
  after_results
  rfl
theorem w1_7_5 : after while1Ops0_7 X (Proc.devRef .tc main_v59_5) = X (Proc.devRef .tc main_while1b_v110) := by
  after_results
  rfl
theorem w1_7_6 : after while1Ops0_7 X (Proc.devRef .tc main_v59_6) = X (Proc.devRef .tc main_while1b_v111) := by
  after_results
  rfl

/-! Before the fifth stretch of a trip: the three rows read, and the row's number. -/

theorem mid1_103 (k : ℕ) (hk : k < 2048) (hw : X (Proc.devRef .tc main_v59_3) = fun _ => BitVec.ofNat 32 k) :
    after while1Ops0 (after cond1 X) (Proc.devRef .tc main_while1b_v103) = fun _ => BitVec.ofNat 32 (2047 - k) := by
  rw [w1_0, after_of_writes_sub cond1 _ cond1_writes (r := main_v59_3) (by decide +kernel), hw]
  funext i
  show (2048#32 - BitVec.ofNat 32 k) - 1#32 = BitVec.ofNat 32 (2047 - k)
  apply BitVec.eq_of_toNat_eq
  simp only [BitVec.toNat_sub, BitVec.toNat_ofNat]
  omega

section
variable (k : ℕ) (hk : k < 2048) (hw : X (Proc.devRef .tc main_v59_3) = fun _ => BitVec.ofNat 32 k) (j : Fin 1024)
include hk hw

theorem mid1_104 : after while1Ops0_3 (after while1Ops0_2 (after while1Ops0_1 (after while1Ops0 (after cond1 X)))) (Proc.devRef .tc main_while1b_v104) (ix1 j) = X (Proc.devRef .tc main_v59_0) (ix2 ⟨2047 - k, by omega⟩ j) := by
  rw [after_of_writes_sub while1Ops0_3 _ while1Ops0_3_writes (r := main_while1b_v104) (by decide +kernel), after_of_writes_sub while1Ops0_2 _ while1Ops0_2_writes (r := main_while1b_v104) (by decide +kernel), w1_1, rowOf_apply _ _ (2047 - k) (by omega) (mid1_103 X k hk hw),
    after_of_writes_sub while1Ops0 _ while1Ops0_writes (r := main_v59_0) (by decide +kernel), after_of_writes_sub cond1 _ cond1_writes (r := main_v59_0) (by decide +kernel)]
theorem mid1_105 : after while1Ops0_3 (after while1Ops0_2 (after while1Ops0_1 (after while1Ops0 (after cond1 X)))) (Proc.devRef .tc main_while1b_v105) (ix1 j) = X (Proc.devRef .tc main_v59_1) (ix2 ⟨2047 - k, by omega⟩ j) := by
  rw [after_of_writes_sub while1Ops0_3 _ while1Ops0_3_writes (r := main_while1b_v105) (by decide +kernel), w1_2, after_of_writes_sub while1Ops0_1 _ while1Ops0_1_writes (r := main_while1b_v103) (by decide +kernel), rowOf_apply _ _ (2047 - k) (by omega) (mid1_103 X k hk hw),
    after_of_writes_sub while1Ops0_1 _ while1Ops0_1_writes (r := main_v59_1) (by decide +kernel), after_of_writes_sub while1Ops0 _ while1Ops0_writes (r := main_v59_1) (by decide +kernel), after_of_writes_sub cond1 _ cond1_writes (r := main_v59_1) (by decide +kernel)]
theorem mid1_106 : after while1Ops0_3 (after while1Ops0_2 (after while1Ops0_1 (after while1Ops0 (after cond1 X)))) (Proc.devRef .tc main_while1b_v106) (ix1 j) = X (Proc.devRef .tc main_v59_2) (ix2 ⟨2047 - k, by omega⟩ j) := by
  rw [w1_3, after_of_writes_sub while1Ops0_2 _ while1Ops0_2_writes (r := main_while1b_v103) (by decide +kernel), after_of_writes_sub while1Ops0_1 _ while1Ops0_1_writes (r := main_while1b_v103) (by decide +kernel), rowOf_apply _ _ (2047 - k) (by omega) (mid1_103 X k hk hw),
    after_of_writes_sub while1Ops0_2 _ while1Ops0_2_writes (r := main_v59_2) (by decide +kernel), after_of_writes_sub while1Ops0_1 _ while1Ops0_1_writes (r := main_v59_2) (by decide +kernel), after_of_writes_sub while1Ops0 _ while1Ops0_writes (r := main_v59_2) (by decide +kernel), after_of_writes_sub cond1 _ cond1_writes (r := main_v59_2) (by decide +kernel)]
omit hk hw in
theorem mid1_4 : after while1Ops0_3 (after while1Ops0_2 (after while1Ops0_1 (after while1Ops0 (after cond1 X)))) (Proc.devRef .tc main_v59_4) = X (Proc.devRef .tc main_v59_4) := by
  rw [after_of_writes_sub while1Ops0_3 _ while1Ops0_3_writes (r := main_v59_4) (by decide +kernel), after_of_writes_sub while1Ops0_2 _ while1Ops0_2_writes (r := main_v59_4) (by decide +kernel), after_of_writes_sub while1Ops0_1 _ while1Ops0_1_writes (r := main_v59_4) (by decide +kernel), after_of_writes_sub while1Ops0 _ while1Ops0_writes (r := main_v59_4) (by decide +kernel), after_of_writes_sub cond1 _ cond1_writes (r := main_v59_4) (by decide +kernel)]

theorem trip1_4 : rv (afterL body1I (after cond1 X) (Proc.devRef .tc main_v59_4)) j
    = (rd (X (Proc.devRef .tc main_v59_2)) ⟨2047 - k, by omega⟩ j
        * (rv (X (Proc.devRef .tc main_v59_4)) j + rd (X (Proc.devRef .tc main_v59_0)) ⟨2047 - k, by omega⟩ j) : EReal) := by
  simp only [afterL_cons, afterL_nil, rd, rv]
  rw [w1_7_4, after_of_writes_sub while1Ops0_6 _ while1Ops0_6_writes (r := main_while1b_v108) (by decide +kernel), after_of_writes_sub while1Ops0_5 _ while1Ops0_5_writes (r := main_while1b_v108) (by decide +kernel), w1_4_108]
  pointwise
  rw [mid1_104 X k hk hw, mid1_106 X k hk hw, mid1_4]

theorem trip1_5 (t : Fin 2048) : rd (afterL body1I (after cond1 X) (Proc.devRef .tc main_v59_5)) t j
    = (if t.val = 2047 - k then (rv (X (Proc.devRef .tc main_v59_4)) j + rd (X (Proc.devRef .tc main_v59_0)) ⟨2047 - k, by omega⟩ j)
          * rd (X (Proc.devRef .tc main_v59_1)) ⟨2047 - k, by omega⟩ j
        else rd (X (Proc.devRef .tc main_v59_5)) t j : EReal) := by
  simp only [afterL_cons, afterL_nil, rd, rv]
  rw [w1_7_5, after_of_writes_sub while1Ops0_6 _ while1Ops0_6_writes (r := main_while1b_v110) (by decide +kernel), w1_5, w1_4_109, after_of_writes_sub while1Ops0_4 _ while1Ops0_4_writes (r := main_v59_5) (by decide +kernel), after_of_writes_sub while1Ops0_3 _ while1Ops0_3_writes (r := main_v59_5) (by decide +kernel), after_of_writes_sub while1Ops0_2 _ while1Ops0_2_writes (r := main_v59_5) (by decide +kernel), after_of_writes_sub while1Ops0_1 _ while1Ops0_1_writes (r := main_v59_5) (by decide +kernel), after_of_writes_sub while1Ops0 _ while1Ops0_writes (r := main_v59_5) (by decide +kernel), after_of_writes_sub cond1 _ cond1_writes (r := main_v59_5) (by decide +kernel), after_of_writes_sub while1Ops0_4 _ while1Ops0_4_writes (r := main_while1b_v103) (by decide +kernel), after_of_writes_sub while1Ops0_3 _ while1Ops0_3_writes (r := main_while1b_v103) (by decide +kernel), after_of_writes_sub while1Ops0_2 _ while1Ops0_2_writes (r := main_while1b_v103) (by decide +kernel), after_of_writes_sub while1Ops0_1 _ while1Ops0_1_writes (r := main_while1b_v103) (by decide +kernel),
    putRow_apply _ _ _ (2047 - k) (by omega) (mid1_103 X k hk hw)]
  pointwise
  rw [mid1_104 X k hk hw, mid1_105 X k hk hw, mid1_4]

theorem trip1_6 (t : Fin 2048) : rd (afterL body1I (after cond1 X) (Proc.devRef .tc main_v59_6)) t j
    = (if t.val = 2047 - k then rv (X (Proc.devRef .tc main_v59_4)) j + rd (X (Proc.devRef .tc main_v59_0)) ⟨2047 - k, by omega⟩ j
        else rd (X (Proc.devRef .tc main_v59_6)) t j : EReal) := by
  simp only [afterL_cons, afterL_nil, rd, rv]
  rw [w1_7_6, w1_6, after_of_writes_sub while1Ops0_5 _ while1Ops0_5_writes (r := main_while1b_v107) (by decide +kernel), w1_4_107, after_of_writes_sub while1Ops0_5 _ while1Ops0_5_writes (r := main_v59_6) (by decide +kernel), after_of_writes_sub while1Ops0_4 _ while1Ops0_4_writes (r := main_v59_6) (by decide +kernel), after_of_writes_sub while1Ops0_3 _ while1Ops0_3_writes (r := main_v59_6) (by decide +kernel), after_of_writes_sub while1Ops0_2 _ while1Ops0_2_writes (r := main_v59_6) (by decide +kernel), after_of_writes_sub while1Ops0_1 _ while1Ops0_1_writes (r := main_v59_6) (by decide +kernel), after_of_writes_sub while1Ops0 _ while1Ops0_writes (r := main_v59_6) (by decide +kernel), after_of_writes_sub cond1 _ cond1_writes (r := main_v59_6) (by decide +kernel), after_of_writes_sub while1Ops0_5 _ while1Ops0_5_writes (r := main_while1b_v103) (by decide +kernel), after_of_writes_sub while1Ops0_4 _ while1Ops0_4_writes (r := main_while1b_v103) (by decide +kernel), after_of_writes_sub while1Ops0_3 _ while1Ops0_3_writes (r := main_while1b_v103) (by decide +kernel), after_of_writes_sub while1Ops0_2 _ while1Ops0_2_writes (r := main_while1b_v103) (by decide +kernel), after_of_writes_sub while1Ops0_1 _ while1Ops0_1_writes (r := main_while1b_v103) (by decide +kernel),
    putRow_apply _ _ _ (2047 - k) (by omega) (mid1_103 X k hk hw)]
  pointwise
  rw [mid1_104 X k hk hw, mid1_4]
end

/-! ## The loops' values -/

variable (m : (ℓ : Loc nD τ sig) → Buf (Elt Ideal) ℓ) (c : Dev nD)

theorem iv_ofNat : ∀ k : ℕ, Scf.iv 0#32 1#32 k = BitVec.ofNat 32 k
  | 0 => Scf.iv_zero _ _
  | k + 1 => by rw [Scf.iv_succ, iv_ofNat k, ← BitVec.ofNat_add]

theorem at0_word (k : ℕ) : at0 (F := Ideal) m k c (Proc.devRef .tc main_v54_2) = fun _ => BitVec.ofNat 32 k := by rw [at0_ctr, iv_ofNat]
theorem at1_word (k : ℕ) : at1 (F := Ideal) m k c (Proc.devRef .tc main_v59_3) = fun _ => BitVec.ofNat 32 k := by rw [at1_ctr, iv_ofNat]

theorem at0_succ (k : ℕ) : at0 (F := Ideal) m (k + 1) c = afterL body0I (after cond0 (at0 m k c)) := rfl
theorem at1_succ (k : ℕ) : at1 (F := Ideal) m (k + 1) c = afterL body1I (after cond1 (at1 m k c)) := rfl

theorem at0_keep (r : Ref sig .tc) (h : r ∉ loop0W) : ∀ k, at0 (F := Ideal) m k c (Proc.devRef .tc r) = E0 m c (Proc.devRef .tc r)
  | 0 => rfl
  | k + 1 => by rw [at0_succ, trip0_keep _ _ h, at0_keep r h k]
theorem at1_keep (r : Ref sig .tc) (h : r ∉ loop1W) : ∀ k, at1 (F := Ideal) m k c (Proc.devRef .tc r) = E2 m c (Proc.devRef .tc r)
  | 0 => rfl
  | k + 1 => by rw [at1_succ, trip1_keep _ _ h, at1_keep r h k]

theorem mid_keep (r : Ref sig .tc) (h : r ∉ midW) : afterL midI X (Proc.devRef .tc r) = X (Proc.devRef .tc r) := by
  rw [afterL_eq_after_flatten]
  exact after_of_writes_sub _ X (forall_writes_sub_of_map midW_writes) h

/-- The buffers written after the first stretch and before the last. -/
abbrev loopsW : List (Ref sig .tc) := loop0W ++ (midW ++ loop1W)

theorem E1_eq : E1 (F := Ideal) m c = after cond0 (at0 m 2048 c) := rfl
theorem E2_eq : E2 (F := Ideal) m c = afterL midI (E1 m c) := rfl
theorem E3_eq : E3 (F := Ideal) m c = after cond1 (at1 m 2048 c) := rfl
theorem E2_keep (r : Ref sig .tc) (h : r ∉ loop0W ++ midW) : E2 (F := Ideal) m c (Proc.devRef .tc r) = E0 m c (Proc.devRef .tc r) := by
  rw [List.mem_append, not_or] at h
  have hc : r ∉ cond0_W := fun hh => h.1 (List.mem_append_left _ hh)
  rw [show E2 (F := Ideal) m c = afterL midI (E1 m c) from rfl, mid_keep _ r h.2, E1_eq, after_of_writes_sub cond0 _ cond0_writes hc, at0_keep m c r h.1]
theorem E3_keep (r : Ref sig .tc) (h : r ∉ loopsW) : E3 (F := Ideal) m c (Proc.devRef .tc r) = E0 m c (Proc.devRef .tc r) := by
  have h2 : r ∉ loop1W := fun hh => h (List.mem_append_right _ (List.mem_append_right _ hh))
  have h1 : r ∉ loop0W ++ midW := fun hh => (List.mem_append.mp hh).elim (fun hh => h (List.mem_append_left _ hh))
    (fun hh => h (List.mem_append_right _ (List.mem_append_left _ hh)))
  have hc : r ∉ cond1_W := fun hh => h2 (List.mem_append_left _ hh)
  rw [E3_eq, after_of_writes_sub cond1 _ cond1_writes hc, at1_keep m c r h2, E2_keep m c r h1]

/-- The arguments of the call, as the straight code before the loops leaves them. -/
abbrev args : Lru.Args := argsOf (E0 (F := Ideal) m c)

theorem E0_a (t : Fin 2048) (j : Fin 1024) : rd (E0 (F := Ideal) m c (Proc.devRef .tc main_v54_0)) t j = Lru.a (args m c) t j := by
  show afterL preI (launchContents m c) (Proc.devRef .tc main_v54_0) (ix2 t j) = _
  rw [pre_v54_0]
  exact v35_eq _ t j
theorem E0_b (t : Fin 2048) (j : Fin 1024) : rd (E0 (F := Ideal) m c (Proc.devRef .tc main_v54_1)) t j = Lru.bin (args m c) t j := by
  show afterL preI (launchContents m c) (Proc.devRef .tc main_v54_1) (ix2 t j) = _
  rw [pre_v54_1]
  exact v50_eq _ t j
theorem E0_h (j : Fin 1024) : rv (E0 (F := Ideal) m c (Proc.devRef .tc main_v54_3)) j = 0 := by
  show afterL preI (launchContents m c) (Proc.devRef .tc main_v54_3) (ix1 j) = (0 : EReal)
  rw [pre_v54_3, pre_v51, pre_cst_10, id_eq]
  pointwise

theorem row_eq (f : Fin 2048 → Fin 1024 → EReal) (n : ℕ) (h : n < 2048) (j : Fin 1024) : Lru.row f n j = f ⟨n, h⟩ j := dif_pos h

theorem hs_succ (a b : Fin 2048 → Fin 1024 → EReal) (n : ℕ) (j : Fin 1024) : Lru.hs a b (n + 1) j = Lru.row a n j * Lru.hs a b n j + Lru.row b n j := rfl
theorem gs_succ (a d : Fin 2048 → Fin 1024 → EReal) (n : ℕ) (j : Fin 1024) :
    Lru.gs a d (n + 1) j = Lru.row a (2047 - n) j * (Lru.row d (2047 - n) j + Lru.gs a d n j) := rfl

theorem at0_state (j : Fin 1024) : ∀ k ≤ 2048, rv (at0 (F := Ideal) m k c (Proc.devRef .tc main_v54_3)) j = Lru.hs (Lru.a (args m c)) (Lru.bin (args m c)) k j
  | 0, _ => E0_h m c j
  | k + 1, hk => by
    rw [at0_succ]
    refine (trip0_3 _ k (by omega) (at0_word m c k) j).trans ?_
    rw [at0_state j k (by omega), at0_keep m c main_v54_0 (by decide +kernel), at0_keep m c main_v54_1 (by decide +kernel), E0_a, E0_b]
    rw [hs_succ, row_eq _ k (by omega), row_eq _ k (by omega)]

theorem at0_rows (t : Fin 2048) (j : Fin 1024) : ∀ k ≤ 2048, t.val < k →
    rd (at0 (F := Ideal) m k c (Proc.devRef .tc main_v54_5)) t j = Lru.hs (Lru.a (args m c)) (Lru.bin (args m c)) t.val j
  | 0, _, h => absurd h (by omega)
  | k + 1, hk, h => by
    rw [at0_succ]
    refine (trip0_5 _ k (by omega) (at0_word m c k) t j).trans ?_
    by_cases ht : t.val = k
    · rw [if_pos ht, at0_state m c j k (by omega), ht]
    · rw [if_neg ht, at0_rows t j k (by omega) (by omega)]

theorem E2_d (t : Fin 2048) (j : Fin 1024) : rd (E2 (F := Ideal) m c (Proc.devRef .tc main_v59_0)) t j = (args m c).dh t j := by
  show afterL midI (E1 m c) (Proc.devRef .tc main_v59_0) (ix2 t j) = _
  rw [mid_v59_0, id_eq, ← E2_eq, E2_keep m c main_arg6 (by decide +kernel)]
  unfold args
  generalize E0 (F := Ideal) m c = V
  rfl
theorem E2_a (t : Fin 2048) (j : Fin 1024) : rd (E2 (F := Ideal) m c (Proc.devRef .tc main_v59_2)) t j = Lru.a (args m c) t j := by
  show afterL midI (E1 m c) (Proc.devRef .tc main_v59_2) (ix2 t j) = _
  rw [mid_v59_2, id_eq, ← E2_eq, E2_keep m c main_v35 (by decide +kernel)]
  show afterL preI (launchContents m c) (Proc.devRef .tc main_v35) (ix2 t j) = _
  exact v35_eq _ t j
theorem E2_h (t : Fin 2048) (j : Fin 1024) : rd (E2 (F := Ideal) m c (Proc.devRef .tc main_v59_1)) t j = Lru.hs (Lru.a (args m c)) (Lru.bin (args m c)) t.val j := by
  show afterL midI (E1 m c) (Proc.devRef .tc main_v59_1) (ix2 t j) = _
  rw [mid_v59_1]
  show afterL midI (E1 m c) (Proc.devRef .tc main_v54_5) (ix2 t j) = _
  rw [mid_keep _ main_v54_5 (by decide +kernel), E1_eq, after_of_writes_sub cond0 _ cond0_writes (r := main_v54_5) (by decide +kernel)]
  exact at0_rows m c t j 2048 le_rfl t.isLt
theorem E2_g (j : Fin 1024) : rv (E2 (F := Ideal) m c (Proc.devRef .tc main_v59_4)) j = 0 := by
  show afterL midI (E1 m c) (Proc.devRef .tc main_v59_4) (ix1 j) = (0 : EReal)
  rw [mid_v59_4, mid_v56, mid_cst_15, id_eq]
  pointwise

theorem at1_state (j : Fin 1024) : ∀ k ≤ 2048, rv (at1 (F := Ideal) m k c (Proc.devRef .tc main_v59_4)) j = Lru.gs (Lru.a (args m c)) (args m c).dh k j
  | 0, _ => E2_g m c j
  | k + 1, hk => by
    rw [at1_succ]
    refine (trip1_4 _ k (by omega) (at1_word m c k) j).trans ?_
    rw [at1_state j k (by omega), at1_keep m c main_v59_0 (by decide +kernel), at1_keep m c main_v59_2 (by decide +kernel), E2_a, E2_d]
    rw [gs_succ, row_eq _ (2047 - k) (by omega), row_eq _ (2047 - k) (by omega), add_comm]

theorem at1_db (t : Fin 2048) (j : Fin 1024) : ∀ k ≤ 2048, 2048 - k ≤ t.val →
    rd (at1 (F := Ideal) m k c (Proc.devRef .tc main_v59_6)) t j = Lru.db (args m c) t j
  | 0, _, h => absurd h (by omega)
  | k + 1, hk, h => by
    rw [at1_succ]
    refine (trip1_6 _ k (by omega) (at1_word m c k) j t).trans ?_
    by_cases ht : t.val = 2047 - k
    · have hk' : 2047 - k < 2048 := Nat.lt_of_le_of_lt (Nat.sub_le _ _) (by decide)
      obtain rfl : t = ⟨2047 - k, hk'⟩ := Fin.ext ht
      rw [if_pos ht, at1_state m c j k (by omega), at1_keep m c main_v59_0 (by decide +kernel), E2_d, add_comm]
      unfold Lru.db
      rw [show 2047 - (2047 - k) = k by omega]
    · rw [if_neg ht, at1_db t j k (by omega) (by omega)]

theorem at1_da (t : Fin 2048) (j : Fin 1024) : ∀ k ≤ 2048, 2048 - k ≤ t.val →
    rd (at1 (F := Ideal) m k c (Proc.devRef .tc main_v59_5)) t j = Lru.da (args m c) t j
  | 0, _, h => absurd h (by omega)
  | k + 1, hk, h => by
    rw [at1_succ]
    refine (trip1_5 _ k (by omega) (at1_word m c k) j t).trans ?_
    by_cases ht : t.val = 2047 - k
    · have hk' : 2047 - k < 2048 := Nat.lt_of_le_of_lt (Nat.sub_le _ _) (by decide)
      obtain rfl : t = ⟨2047 - k, hk'⟩ := Fin.ext ht
      rw [if_pos ht, at1_state m c j k (by omega), at1_keep m c main_v59_0 (by decide +kernel), at1_keep m c main_v59_1 (by decide +kernel), E2_d, E2_h, add_comm]
      unfold Lru.da Lru.db
      rw [show 2047 - (2047 - k) = k by omega]
    · rw [if_neg ht, at1_da t j k (by omega) (by omega)]

/-- What the loops leave: the cotangents of the scaled input and of the decay. -/
theorem E3_db (t : Fin 2048) (j : Fin 1024) : rd (E3 (F := Ideal) m c (Proc.devRef .tc main_v59_6)) t j = Lru.db (args m c) t j := by
  rw [E3_eq, after_of_writes_sub cond1 _ cond1_writes (r := main_v59_6) (by decide +kernel)]
  exact at1_db m c t j 2048 le_rfl (by omega)
theorem E3_da (t : Fin 2048) (j : Fin 1024) : rd (E3 (F := Ideal) m c (Proc.devRef .tc main_v59_5)) t j = Lru.da (args m c) t j := by
  rw [E3_eq, after_of_writes_sub cond1 _ cond1_writes (r := main_v59_5) (by decide +kernel)]
  exact at1_da m c t j 2048 le_rfl (by omega)

end Cert.RefRun
-- ==== Proof.RefPost.lean ====
/- The reference after its loops: its six results in the formulas of Spec. -/
module

public import proofs.«01_k».proof.Proof.RefLoop

@[expose] public section

set_option maxRecDepth 16384

noncomputable section

namespace Cert.RefRun

open Cert.ReferenceIdeal Cert.ReferenceIdeal.Gen
open Idealize.ShloMosaic Idealize.ShloMosaic.TcCoe Idealize.ShloMosaic.Tactic
open Idealize.ShloMosaic.StableHlo
open scoped BigOperators

variable (m : (ℓ : Loc nD τ sig) → Buf (Elt Ideal) ℓ) (c : Dev nD)

theorem post_keep (X : Valuation τ sig (Elt Ideal)) (r : Ref sig .tc) (h : r ∉ postW) : afterL postI X (Proc.devRef .tc r) = X (Proc.devRef .tc r) := by
  rw [afterL_eq_after_flatten]
  exact after_of_writes_sub _ X (forall_writes_sub_of_map postW_writes) h

theorem P_keep (r : Ref sig .tc) (h : r ∉ loopsW ++ postW) : afterL postI (E3 (F := Ideal) m c) (Proc.devRef .tc r) = afterL preI (launchContents m c) (Proc.devRef .tc r) :=
  (post_keep _ r fun hh => h (List.mem_append_right _ hh)).trans (E3_keep m c r fun hh => h (List.mem_append_left _ hh))

theorem b_x (t : Fin 2048) (j : Fin 1024) : afterL postI (E3 (F := Ideal) m c) (Proc.devRef .tc main_arg0) (ix2 t j) = (args m c).x t j := by
  rw [P_keep m c main_arg0 (by decide +kernel)]
  show E0 m c _ _ = _
  unfold args
  generalize E0 (F := Ideal) m c = V
  rfl
theorem b_wx (h : Fin 4) (i k : Fin 256) : afterL postI (E3 (F := Ideal) m c) (Proc.devRef .tc main_arg1) (ix3 h i k) = (args m c).wx h i k := by
  rw [P_keep m c main_arg1 (by decide +kernel)]
  show E0 m c _ _ = _
  unfold args
  generalize E0 (F := Ideal) m c = V
  rfl
theorem b_wa (h : Fin 4) (i k : Fin 256) : afterL postI (E3 (F := Ideal) m c) (Proc.devRef .tc main_arg2) (ix3 h i k) = (args m c).wa h i k := by
  rw [P_keep m c main_arg2 (by decide +kernel)]
  show E0 m c _ _ = _
  unfold args
  generalize E0 (F := Ideal) m c = V
  rfl
theorem b_v11 (t : Fin 2048) (j : Fin 1024) : afterL postI (E3 (F := Ideal) m c) (Proc.devRef .tc main_v11) (ix2 t j) = Lru.gx (args m c) t j := by
  rw [P_keep m c main_v11 (by decide +kernel)]
  exact v11_eq _ t j
theorem b_v14 (t : Fin 2048) (j : Fin 1024) : afterL postI (E3 (F := Ideal) m c) (Proc.devRef .tc main_v14) (ix2 t j) = Lru.gx (args m c) t j * (1 - Lru.gx (args m c) t j) := by
  rw [P_keep m c main_v14 (by decide +kernel)]
  exact v14_eq _ t j
theorem b_v28 (t : Fin 2048) (j : Fin 1024) : afterL postI (E3 (F := Ideal) m c) (Proc.devRef .tc main_v28) (ix2 t j) = Lru.ga (args m c) t j * (1 - Lru.ga (args m c) t j) := by
  rw [P_keep m c main_v28 (by decide +kernel)]
  exact v28_eq _ t j
theorem b_v30 (t : Fin 2048) (j : Fin 1024) : afterL postI (E3 (F := Ideal) m c) (Proc.devRef .tc main_v30) (ix2 t j) = Lru.ga8 (args m c) t j := by
  rw [P_keep m c main_v30 (by decide +kernel)]
  exact v30_eq _ t j
theorem b_v35 (t : Fin 2048) (j : Fin 1024) : afterL postI (E3 (F := Ideal) m c) (Proc.devRef .tc main_v35) (ix2 t j) = Lru.a (args m c) t j := by
  rw [P_keep m c main_v35 (by decide +kernel)]
  exact v35_eq _ t j
theorem b_v38 (t : Fin 2048) (j : Fin 1024) : afterL postI (E3 (F := Ideal) m c) (Proc.devRef .tc main_v38) (ix2 t j) = Lru.e2 (args m c) t j := by
  rw [P_keep m c main_v38 (by decide +kernel)]
  exact v38_eq _ t j
theorem b_v43 (t : Fin 2048) (j : Fin 1024) : afterL postI (E3 (F := Ideal) m c) (Proc.devRef .tc main_v43) (ix2 t j) = Ideal.div Lru.half (Lru.rt (args m c) t j) := by
  rw [P_keep m c main_v43 (by decide +kernel)]
  exact v43_eq _ t j
theorem b_v48_0 (t : Fin 2048) (j : Fin 1024) : afterL postI (E3 (F := Ideal) m c) (Proc.devRef .tc main_v48_0) (ix2 t j) = Lru.mult (args m c) t j := by
  rw [P_keep m c main_v48_0 (by decide +kernel)]
  exact v48_0_eq _ t j
theorem b_v49 (t : Fin 2048) (j : Fin 1024) : afterL postI (E3 (F := Ideal) m c) (Proc.devRef .tc main_v49) (ix2 t j) = Lru.xg (args m c) t j := by
  rw [P_keep m c main_v49 (by decide +kernel)]
  exact v49_eq _ t j
theorem b_v32_0 (j : Fin 1024) : afterL postI (E3 (F := Ideal) m c) (Proc.devRef .tc main_v32_0) (ix2 0 j) = Lru.sp (-(args m c).lam j) := by
  rw [P_keep m c main_v32_0 (by decide +kernel)]
  exact v32_0_eq _ j
theorem b_v32_1 (j : Fin 1024) : afterL postI (E3 (F := Ideal) m c) (Proc.devRef .tc main_v32_1) (ix2 0 j) = Lru.dsp (-(args m c).lam j) := by
  rw [P_keep m c main_v32_1 (by decide +kernel)]
  exact v32_1_eq _ j
theorem b_mask {α : Type} (t : Fin 2048) (j : Fin 1024) (u v : α) :
    Scalar.select (afterL postI (E3 (F := Ideal) m c) (Proc.devRef .tc main_v48_1) (ix2 t j) : BitVec 1) u v = if t.val = 0 then u else v := by
  rw [P_keep m c main_v48_1 (by decide +kernel)]
  exact v48_1_eq _ t j u v
theorem b_db (t : Fin 2048) (j : Fin 1024) : afterL postI (E3 (F := Ideal) m c) (Proc.devRef .tc main_v59_6) (ix2 t j) = Lru.db (args m c) t j := by
  rw [post_keep _ main_v59_6 (by decide +kernel)]
  exact E3_db m c t j
theorem b_da (t : Fin 2048) (j : Fin 1024) : afterL postI (E3 (F := Ideal) m c) (Proc.devRef .tc main_v59_5) (ix2 t j) = Lru.da (args m c) t j := by
  rw [post_keep _ main_v59_5 (by decide +kernel)]
  exact E3_da m c t j
theorem b_v0 (t : Fin 2048) (h : Fin 4) (i : Fin 256) : afterL postI (E3 (F := Ideal) m c) (Proc.devRef .tc main_v0) (ix3 t h i) = (args m c).x t (Lru.cl h i) := by
  rw [P_keep m c main_v0 (by decide +kernel), pre_v0]
  pointwise
  show E0 m c _ _ = _
  unfold args
  generalize E0 (F := Ideal) m c = V
  rfl
theorem v61_eq (t : Fin 2048) (j : Fin 1024) : afterL postI (E3 (F := Ideal) m c) (Proc.devRef .tc main_v61) (ix2 t j) = Lru.dm (args m c) (Lru.db (args m c)) t j := by
  rw [post_v61]
  pointwise
  rw [b_db, b_v48_0]
  rfl
theorem v65_eq (t : Fin 2048) (j : Fin 1024) : afterL postI (E3 (F := Ideal) m c) (Proc.devRef .tc main_v65) (ix2 t j) = Lru.q (args m c) (Lru.db (args m c)) t j := by
  rw [post_v65, post_v64, post_v60, post_call11_v0, post_call11_cst]
  pointwise
  rw [b_mask, b_v43, b_v49, b_db]
  unfold Lru.q
  by_cases h : t.val = 0
  · rw [if_pos h, if_pos h, zero_mul]
  · rw [if_neg h, if_neg h]
theorem v71_eq (t : Fin 2048) (j : Fin 1024) : afterL postI (E3 (F := Ideal) m c) (Proc.devRef .tc main_v71) (ix2 t j) = Lru.dl (args m c) (Lru.da (args m c)) (Lru.db (args m c)) t j := by
  rw [post_v71, post_v69, post_v70, post_v68, post_v67, post_v66, post_cst_19]
  pointwise
  rw [v65_eq, b_da, b_v35, b_v38]
  rfl
theorem v81_eq (t : Fin 2048) (j : Fin 1024) : afterL postI (E3 (F := Ideal) m c) (Proc.devRef .tc main_v81) (ix2 t j) = Lru.pa (args m c) (Lru.da (args m c)) (Lru.db (args m c)) t j := by
  rw [post_v81, post_v80, post_v79, post_v76, post_v75, post_cst_21]
  pointwise
  rw [v71_eq, b_v32_0, b_v28]
  rfl
theorem v90_eq (t : Fin 2048) (j : Fin 1024) : afterL postI (E3 (F := Ideal) m c) (Proc.devRef .tc main_v90) (ix2 t j) = Lru.px (args m c) (Lru.db (args m c)) t j := by
  rw [post_v90, post_v62]
  pointwise
  rw [v61_eq, b_x, b_v14]
  rfl

end Cert.RefRun
-- ==== Proof.RefOut.lean ====
/- The reference's six results in the formulas of Spec. -/
module

public import proofs.«01_k».proof.Proof.RefPost

@[expose] public section

set_option maxRecDepth 16384

noncomputable section

namespace Cert.RefRun

open Cert.ReferenceIdeal Cert.ReferenceIdeal.Gen
open Idealize.ShloMosaic Idealize.ShloMosaic.TcCoe Idealize.ShloMosaic.Tactic
open Idealize.ShloMosaic.StableHlo
open scoped BigOperators

variable (m : (ℓ : Loc nD τ sig) → Buf (Elt Ideal) ℓ) (c : Dev nD)

theorem dba (j : Fin 1024) : afterL postI (E3 (F := Ideal) m c) (Proc.devRef .tc main_v83) (ix2 0 j) = Lru.gba (args m c) (Lru.da (args m c)) (Lru.db (args m c)) j := by
  have e := fun t => v81_eq m c t j
  rw [post_v83, post_v82, post_cst_22]
  pointwise
  revert e
  generalize afterL postI (E3 (F := Ideal) m c) = V
  generalize args m c = A
  intro e
  simp only [e]
  rfl
theorem dbx (j : Fin 1024) : afterL postI (E3 (F := Ideal) m c) (Proc.devRef .tc main_v92) (ix2 0 j) = Lru.gbx (args m c) (Lru.db (args m c)) j := by
  have e := fun t => v90_eq m c t j
  rw [post_v92, post_v91, post_cst_23]
  pointwise
  revert e
  generalize afterL postI (E3 (F := Ideal) m c) = V
  generalize args m c = A
  intro e
  simp only [e]
  rfl
theorem dlam (j : Fin 1024) : afterL postI (E3 (F := Ideal) m c) (Proc.devRef .tc main_v78) (ix2 0 j) = Lru.glam (args m c) (Lru.da (args m c)) (Lru.db (args m c)) j := by
  have e := fun t => v71_eq m c t j
  have f := fun t => b_v30 m c t j
  have g := b_v32_1 m c j
  rw [post_v78, post_v77, post_v74, post_v73, post_v72, post_cst_20]
  pointwise
  revert e f g
  generalize afterL postI (E3 (F := Ideal) m c) = V
  generalize args m c = A
  intro e f g
  simp only [e, f, g]
  rfl
theorem dwa (h : Fin 4) (i k : Fin 256) : afterL postI (E3 (F := Ideal) m c) (Proc.devRef .tc main_v89) (ix3 h i k) = Lru.gwa (args m c) (Lru.da (args m c)) (Lru.db (args m c)) h i k := by
  have e : ∀ t : Fin 2048, afterL postI (E3 (F := Ideal) m c) (Proc.devRef .tc main_v81) (ix2 t ⟨h.val * 256 + k.val, by omega⟩) = Lru.pa (args m c) (Lru.da (args m c)) (Lru.db (args m c)) t (Lru.cl h k) := fun t => v81_eq m c t (Lru.cl h k)
  have f := fun t => b_v0 m c t h i
  rw [post_v89, post_v88, post_v85, post_v84]
  pointwise
  revert e f
  generalize afterL postI (E3 (F := Ideal) m c) = V
  generalize args m c = A
  intro e f
  simp only [e, f]
  show @Eq EReal _ _
  exact Finset.sum_congr rfl fun t _ => mul_comm _ _
theorem dwx (h : Fin 4) (i k : Fin 256) : afterL postI (E3 (F := Ideal) m c) (Proc.devRef .tc main_v99) (ix3 h i k) = Lru.gwx (args m c) (Lru.db (args m c)) h i k := by
  have e : ∀ t : Fin 2048, afterL postI (E3 (F := Ideal) m c) (Proc.devRef .tc main_v90) (ix2 t ⟨h.val * 256 + k.val, by omega⟩) = Lru.px (args m c) (Lru.db (args m c)) t (Lru.cl h k) := fun t => v90_eq m c t (Lru.cl h k)
  have f := fun t => b_v0 m c t h i
  rw [post_v99, post_v98, post_v94, post_v93]
  pointwise
  revert e f
  generalize afterL postI (E3 (F := Ideal) m c) = V
  generalize args m c = A
  intro e f
  simp only [e, f]
  show @Eq EReal _ _
  exact Finset.sum_congr rfl fun t _ => mul_comm _ _
theorem dx (t : Fin 2048) (j : Fin 1024) : afterL postI (E3 (F := Ideal) m c) (Proc.devRef .tc main_v101) (ix2 t j) = Lru.gdx (args m c) (Lru.da (args m c)) (Lru.db (args m c)) t j := by
  have e : ∀ k : Fin 256, afterL postI (E3 (F := Ideal) m c) (Proc.devRef .tc main_v81) (ix2 t ⟨j.val / 256 * 256 + k.val, by omega⟩) = Lru.pa (args m c) (Lru.da (args m c)) (Lru.db (args m c)) t (Lru.cl (Lru.hd j) k) := fun k => v81_eq m c t (Lru.cl (Lru.hd j) k)
  have f : ∀ k : Fin 256, afterL postI (E3 (F := Ideal) m c) (Proc.devRef .tc main_v90) (ix2 t ⟨j.val / 256 * 256 + k.val, by omega⟩) = Lru.px (args m c) (Lru.db (args m c)) t (Lru.cl (Lru.hd j) k) := fun k => v90_eq m c t (Lru.cl (Lru.hd j) k)
  have g : ∀ k : Fin 256, afterL postI (E3 (F := Ideal) m c) (Proc.devRef .tc main_arg2) (ix3 ⟨j.val / 256, by omega⟩ ⟨j.val % 256, by omega⟩ k) = (args m c).wa (Lru.hd j) (Lru.ln j) k := fun k => b_wa m c (Lru.hd j) (Lru.ln j) k
  have h : ∀ k : Fin 256, afterL postI (E3 (F := Ideal) m c) (Proc.devRef .tc main_arg1) (ix3 ⟨j.val / 256, by omega⟩ ⟨j.val % 256, by omega⟩ k) = (args m c).wx (Lru.hd j) (Lru.ln j) k := fun k => b_wx m c (Lru.hd j) (Lru.ln j) k
  rw [post_v101, post_v100, post_v63, post_v97, post_v96, post_v95, post_v94, post_v93, post_v87, post_v86, post_v85, post_v84]
  pointwise
  rw [v61_eq, b_v11]
  revert e f g h
  generalize afterL postI (E3 (F := Ideal) m c) = V
  generalize args m c = A
  intro e f g h
  simp only [e, f, g, h]
  rfl

end Cert.RefRun
-- ==== Proof.RefVal.lean ====
/- What the reference's run leaves: its arguments as launched, and its six results the gradients of Spec, array by array. -/
module
public import proofs.«01_k».proof.Proof.RefOut
@[expose] public section
set_option maxRecDepth 16384
noncomputable section
namespace Cert.RefRun
open Cert.ReferenceIdeal Cert.ReferenceIdeal.Gen
open Idealize.ShloMosaic Idealize.ShloMosaic.TcCoe Idealize.ShloMosaic.Tactic
open Idealize.ShloMosaic.StableHlo
variable (m : (ℓ : Loc nD τ sig) → Buf (Elt Ideal) ℓ) (c : Dev nD)

theorem pre_keep (X : Valuation τ sig (Elt Ideal)) (r : Ref sig .tc) (h : r ∉ preW) : afterL preI X (Proc.devRef .tc r) = X (Proc.devRef .tc r) := by
  rw [afterL_eq_after_flatten]
  exact after_of_writes_sub _ X (forall_writes_sub_of_map preW_writes) h

/-- A buffer no operation writes is at its launch contents before the loops, and at the end. -/
theorem E0_launch (r : Ref sig .tc) (h : r ∉ preW) : E0 (F := Ideal) m c (Proc.devRef .tc r) = m ((c.tc : Thread nD τ).loc r) := pre_keep _ r h
theorem E4_launch (r : Ref sig .tc) (h : r ∉ preW) (h' : r ∉ loopsW ++ postW) : E4 (F := Ideal) m c (Proc.devRef .tc r) = m ((c.tc : Thread nD τ).loc r) :=
  (P_keep m c r h').trans (pre_keep _ r h)

theorem ix2_eta {a b : ℕ} (y : (⟨2, ![a, b]⟩ : Shape).Idx) : y = ix2 (y 0) (y 1) := by
  funext k
  match k with
  | 0 => rfl
  | 1 => rfl
theorem ix3_eta {a b d : ℕ} (y : (⟨3, ![a, b, d]⟩ : Shape).Idx) : y = ix3 (y 0) (y 1) (y 2) := by
  funext k
  match k with
  | 0 => rfl
  | 1 => rfl
  | 2 => rfl
theorem ix2_row {b : ℕ} (y : (⟨2, ![1, b]⟩ : Shape).Idx) : y = ix2 0 (y 1) := by
  funext k
  match k with
  | 0 => exact Fin.ext (by show (y 0).val = 0; have := (y 0).isLt; change (y 0).val < 1 at this; omega)
  | 1 => rfl

theorem res_dx : E4 (F := Ideal) m c (Proc.devRef .tc main_v101) = fun i => Lru.gdx (args m c) (Lru.da (args m c)) (Lru.db (args m c)) (i 0) (i 1) :=
  funext fun i => (congrArg _ (ix2_eta i)).trans (dx m c (i 0) (i 1))
theorem res_wx : E4 (F := Ideal) m c (Proc.devRef .tc main_v99) = fun i => Lru.gwx (args m c) (Lru.db (args m c)) (i 0) (i 1) (i 2) :=
  funext fun i => (congrArg _ (ix3_eta i)).trans (dwx m c (i 0) (i 1) (i 2))
theorem res_wa : E4 (F := Ideal) m c (Proc.devRef .tc main_v89) = fun i => Lru.gwa (args m c) (Lru.da (args m c)) (Lru.db (args m c)) (i 0) (i 1) (i 2) :=
  funext fun i => (congrArg _ (ix3_eta i)).trans (dwa m c (i 0) (i 1) (i 2))
theorem res_bx : E4 (F := Ideal) m c (Proc.devRef .tc main_v92) = fun i => Lru.gbx (args m c) (Lru.db (args m c)) (i 1) :=
  funext fun i => (congrArg _ (ix2_row i)).trans (dbx m c (i 1))
theorem res_ba : E4 (F := Ideal) m c (Proc.devRef .tc main_v83) = fun i => Lru.gba (args m c) (Lru.da (args m c)) (Lru.db (args m c)) (i 1) :=
  funext fun i => (congrArg _ (ix2_row i)).trans (dba m c (i 1))
theorem res_lam : E4 (F := Ideal) m c (Proc.devRef .tc main_v78) = fun i => Lru.glam (args m c) (Lru.da (args m c)) (Lru.db (args m c)) (i 1) :=
  funext fun i => (congrArg _ (ix2_row i)).trans (dlam m c (i 1))
end Cert.RefRun
-- ==== Proof.FfnSpec.lean ====
/- The gradients of the convolved feed-forward layer's weights, in formulas: what both the kernels and the reference leave in
   their results, over arrays read by coordinates. -/
module

public import Idealize.ShloMosaic.PureOps.Ideal

@[expose] public section

noncomputable section

namespace Cert.Ffn

open Idealize.ShloMosaic
open scoped BigOperators

/-- The call's arguments by coordinates. -/
structure Args where
  h : Fin 2048 → Fin 2048 → EReal
  g : Fin 2048 → EReal
  wg : Fin 2048 → Fin 6144 → EReal
  wu : Fin 2048 → Fin 6144 → EReal
  cw : Fin 3 → Fin 6144 → EReal
  cb : Fin 6144 → EReal
  wd : Fin 6144 → Fin 2048 → EReal
  ct : Fin 2048 → Fin 2048 → EReal

/-- The constants the formulas name beside 0 and 1. -/
abbrev half : EReal := Ideal.ofBits .f32 0x3F000000#32
abbrev three : EReal := Ideal.ofBits .f32 0x40400000#32
abbrev wide : EReal := Ideal.ofBits .f32 0x45000000#32
abbrev eps : EReal := Ideal.ofBits .f32 0x358637BD#32
abbrev cA : EReal := Ideal.ofBits .f32 0x3F4C422A#32
abbrev cB : EReal := Ideal.ofBits .f32 0x3D372713#32

/-- The tanh of the gelu, the gelu's factor, and the cotangent of its argument `x` from the cotangent `e` of its value. -/
def th (x : EReal) : EReal := Ideal.tanh (cA * (x + cB * (x * (x * x))))
def gf (x : EReal) : EReal := half * (1 + th x)
def gq (x e : EReal) : EReal := cA * (half * (x * e) * ((1 + th x) * (1 - th x)))
def gd (x e : EReal) : EReal := e * gf x + gq x e + cB * gq x e * (three * (x * x))

/-- A column moved `k` rows down, and `k` rows up, filled with zeros. -/
def dn (f : Fin 2048 → EReal) (k : ℕ) (t : Fin 2048) : EReal := if h : k ≤ t.val then f ⟨t.val - k, by omega⟩ else 0
def upw (f : Fin 2048 → EReal) (k : ℕ) (t : Fin 2048) : EReal := if h : t.val + k < 2048 then f ⟨t.val + k, h⟩ else 0

/-- One column: the convolution over the rows, with the cotangents that reach it through the gelu. -/
def cv (p : Fin 2048 → EReal) (w : Fin 3 → EReal) (b : EReal) (t : Fin 2048) : EReal := p t * w 2 + b + dn p 2 t * w 0 + dn p 1 t * w 1
def act (p u : Fin 2048 → EReal) (w : Fin 3 → EReal) (b : EReal) (t : Fin 2048) : EReal := cv p w b t * gf (cv p w b t) * u t
def dup (p d : Fin 2048 → EReal) (w : Fin 3 → EReal) (b : EReal) (t : Fin 2048) : EReal := cv p w b t * gf (cv p w b t) * d t
def dcv (p u d : Fin 2048 → EReal) (w : Fin 3 → EReal) (b : EReal) (t : Fin 2048) : EReal := gd (cv p w b t) (d t * u t)
def dgp (p u d : Fin 2048 → EReal) (w : Fin 3 → EReal) (b : EReal) (t : Fin 2048) : EReal :=
  upw (fun t => dcv p u d w b t * w 1) 1 t + upw (fun t => dcv p u d w b t * w 0) 2 t + dcv p u d w b t * w 2
def dcw (p u d : Fin 2048 → EReal) (w : Fin 3 → EReal) (b : EReal) (r : Fin 3) : EReal := ∑ t : Fin 2048, dn p (2 - r.val) t * dcv p u d w b t
def dcb (p u d : Fin 2048 → EReal) (w : Fin 3 → EReal) (b : EReal) : EReal := ∑ t : Fin 2048, dcv p u d w b t

/-- Shard `s`'s lane `l` is column `1536 s + l`. -/
def col (s : Fin 4) (l : Fin 1536) : Fin 6144 := ⟨1536 * s.val + l.val, by omega⟩

variable (A : Args)

/-- The normed rows. -/
def u (t k : Fin 2048) : EReal := A.h t k * Ideal.rsqrt (Ideal.div (∑ i : Fin 2048, A.h t i * A.h t i) wide + eps) * A.g k
/-- The gate's and the other branch's products, and the cotangent of the layer's inner activation; columns first. -/
def gp (n : Fin 6144) (t : Fin 2048) : EReal := ∑ k : Fin 2048, u A t k * A.wg k n
def up (n : Fin 6144) (t : Fin 2048) : EReal := ∑ k : Fin 2048, u A t k * A.wu k n
def da (n : Fin 6144) (t : Fin 2048) : EReal := ∑ k : Fin 2048, A.ct t k * A.wd n k
def cw (n : Fin 6144) (r : Fin 3) : EReal := A.cw r n
def aAct (n : Fin 6144) : Fin 2048 → EReal := act (gp A n) (up A n) (cw A n) (A.cb n)
def aDup (n : Fin 6144) : Fin 2048 → EReal := dup (gp A n) (da A n) (cw A n) (A.cb n)
def aDgp (n : Fin 6144) : Fin 2048 → EReal := dgp (gp A n) (up A n) (da A n) (cw A n) (A.cb n)

/-- The five gradients. -/
def gGate (s : Fin 4) (k : Fin 2048) (l : Fin 1536) : EReal := ∑ t : Fin 2048, u A t k * aDgp A (col s l) t
def gUp (s : Fin 4) (k : Fin 2048) (l : Fin 1536) : EReal := ∑ t : Fin 2048, u A t k * aDup A (col s l) t
def gCw (r : Fin 3) (n : Fin 6144) : EReal := dcw (gp A n) (up A n) (da A n) (cw A n) (A.cb n) r
def gCb (n : Fin 6144) : EReal := dcb (gp A n) (up A n) (da A n) (cw A n) (A.cb n)
def gDown (n : Fin 6144) (k : Fin 2048) : EReal := ∑ t : Fin 2048, aAct A n t * A.ct t k

end Cert.Ffn
end
-- ==== Proof.FfnKMm.lean ====
/- The product kernels and the norm kernel of the feed-forward block, at any contents: the arrays they leave, in formulas. -/
module
public import proofs.«01_k».proof.Proof.FfnSpec
public import proofs.«01_k».proof.Proof.Gen.FfnKernelIdeal.Frame
public import Idealize.ShloMosaic.Lib.ValueIdx
public import Idealize.ShloMosaic.Lib.Pointwise
public import Idealize.ShloMosaic.Lib.WordCmp
public import Idealize.ShloMosaic.Lib.Pipeline.ValueKit
@[expose] public section
set_option maxRecDepth 16384
noncomputable section
namespace Cert.FfnValue
open Cert.FfnKernelIdeal Cert.FfnKernelIdeal.Gen
open Idealize.ShloMosaic Idealize.ShloMosaic.TcCoe Idealize.ShloMosaic.Tactic
open Cert.Ffn (Args col)

theorem ix2_eta {a b : ℕ} (y : (⟨2, ![a, b]⟩ : Shape).Idx) : y = ix2 (y 0) (y 1) := by
  funext k
  match k with
  | 0 => rfl
  | 1 => rfl
theorem ix3_eta {a b d : ℕ} (y : (⟨3, ![a, b, d]⟩ : Shape).Idx) : y = ix3 (y 0) (y 1) (y 2) := by
  funext k
  match k with
  | 0 => rfl
  | 1 => rfl
  | 2 => rfl
theorem ix3_one {b d : ℕ} (y : (⟨3, ![1, b, d]⟩ : Shape).Idx) : y = ix3 0 (y 1) (y 2) := by
  funext k
  match k with
  | 0 => exact Fin.ext (by show (y 0).val = 0; have := (y 0).isLt; change (y 0).val < 1 at this; omega)
  | 1 => rfl
  | 2 => rfl

/-! ## The payloads at a coordinate -/

theorem pay0 (x0 : S256x2048.Idx → EReal) (x1 : S1x2048.Idx → EReal) (r : Fin 256) (j : Fin 2048) : (k0_pay1 (F := Ideal) x0 x1) (ix2 r j)
    = x0 (ix2 r j) * Ideal.rsqrt (Ideal.div (∑ i : Fin 2048, x0 (ix2 r i) * x0 (ix2 r i)) Ffn.wide + Ffn.eps) * x1 (ix2 0 j) := by
  unfold_payloads
  pointwise
  try rfl

theorem pay1 (x0 : S2048x2048.Idx → EReal) (x1 : S1x2048x512.Idx → EReal) (r : Fin 2048) (j : Fin 512) : (k1_pay1 (F := Ideal) x0 x1) (ix2 r j)
    = ∑ k : Fin 2048, x0 (ix2 r k) * x1 (ix3 0 k j) := by
  unfold_payloads
  pointwise
  try rfl

theorem pay2 (x0 : S2048x2048.Idx → EReal) (x1 : S1x2048x512.Idx → EReal) (r : Fin 2048) (j : Fin 512) : (k2_pay1 (F := Ideal) x0 x1) (ix2 r j)
    = ∑ k : Fin 2048, x0 (ix2 r k) * x1 (ix3 0 k j) := by
  unfold_payloads
  pointwise
  try rfl

theorem pay4 (x0 : S2048x2048.Idx → EReal) (x1 : S512x2048.Idx → EReal) (r : Fin 2048) (j : Fin 512) : (k4_pay1 (F := Ideal) x0 x1) (ix2 r j)
    = ∑ k : Fin 2048, x0 (ix2 r k) * x1 (ix2 j k) := by
  unfold_payloads
  pointwise
  try rfl

theorem pay5 (x0 : S2048x2048.Idx → EReal) (x1 : S2048x512.Idx → EReal) (r : Fin 2048) (j : Fin 512) : (k5_pay1 (F := Ideal) x0 x1) (ix2 r j)
    = ∑ k : Fin 2048, x0 (ix2 k r) * x1 (ix2 k j) := by
  unfold_payloads
  pointwise
  try rfl

theorem pay7 (x0 : S2048x2048.Idx → EReal) (x1 : S2048x512.Idx → EReal) (r : Fin 2048) (j : Fin 512) : (k7_pay1 (F := Ideal) x0 x1) (ix3 0 r j)
    = ∑ k : Fin 2048, x0 (ix2 k r) * x1 (ix2 k j) := by
  unfold_payloads
  pointwise
  try rfl

theorem pay8 (x0 : S2048x2048.Idx → EReal) (x1 : S2048x512.Idx → EReal) (r : Fin 2048) (j : Fin 512) : (k8_pay1 (F := Ideal) x0 x1) (ix3 0 r j)
    = ∑ k : Fin 2048, x0 (ix2 k r) * x1 (ix2 k j) := by
  unfold_payloads
  pointwise
  try rfl

/-! ## The arrays the kernels leave -/

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0] :=
  (by decide +kernel : ∀ t : Fin grid0.N, _)
theorem idx1 : ∀ t : Fin cfg1.N, win1_0.index t = ![0, 0] ∧ win1_1.index t = ![t.val / 3, 0, t.val % 3] ∧ win1_2.index t = ![0, t.val] :=
  (by decide +kernel : ∀ t : Fin grid1.N, _)
theorem idx2 : ∀ t : Fin cfg2.N, win2_0.index t = ![0, 0] ∧ win2_1.index t = ![t.val / 3, 0, t.val % 3] ∧ win2_2.index t = ![0, t.val] :=
  (by decide +kernel : ∀ t : Fin grid2.N, _)
theorem idx4 : ∀ t : Fin cfg4.N, win4_0.index t = ![0, 0] ∧ win4_1.index t = ![t.val, 0] ∧ win4_2.index t = ![0, t.val] :=
  (by decide +kernel : ∀ t : Fin grid4.N, _)
theorem idx5 : ∀ t : Fin cfg5.N, win5_0.index t = ![0, t.val / 4] ∧ win5_1.index t = ![0, t.val % 4] ∧ win5_2.index t = ![t.val / 4, t.val % 4] :=
  (by decide +kernel : ∀ t : Fin grid5.N, _)
theorem idx7 : ∀ t : Fin cfg7.N, win7_0.index t = ![0, 0] ∧ win7_1.index t = ![0, t.val] ∧ win7_2.index t = ![t.val / 3, 0, t.val % 3] :=
  (by decide +kernel : ∀ t : Fin grid7.N, _)
theorem idx8 : ∀ t : Fin cfg8.N, win8_0.index t = ![0, 0] ∧ win8_1.index t = ![0, t.val] ∧ win8_2.index t = ![t.val / 3, 0, t.val % 3] :=
  (by decide +kernel : ∀ t : Fin grid8.N, _)

/-- The norm: rows of the argument by their root mean squares, times the weight. -/
theorem tile0 (A : Args) (h0 : V c main_arg0 = fun i => A.h (i 0) (i 1)) (h1 : V c main_arg1 = fun i => A.g (i 1)) (t : Fin cfg0.N) (r : Fin 256) (j : Fin 2048)
    (hr : 256 * t.val + r.val < 2048) : k0_pay1 (F := Ideal) (iblk0 V c 0 t) (iblk0 V c 1 t) (ix2 r j) = Ffn.u A ⟨256 * t.val + r.val, hr⟩ j := by
  have e0 : ∀ j : Fin 2048, iblk0 V c 0 t (ix2 r j) = A.h ⟨256 * t.val + r.val, hr⟩ j := by
    intro j
    have : iblk0 V c 0 t (ix2 r j) = V c main_arg0 (ix2 ⟨256 * t.val + r.val, hr⟩ j) := by
      blk_ext! [iblk0, idx0 t]
    rw [this, h0]
    rfl
  have e1 : ∀ j : Fin 2048, iblk0 V c 1 t (ix2 0 j) = A.g j := by
    intro j
    have : iblk0 V c 1 t (ix2 0 j) = V c main_arg1 (ix2 0 j) := by
      blk_ext! [iblk0, idx0 t]
    rw [this, h1]
    rfl
  rw [pay0]
  simp only [e0, e1]
  rfl

theorem reg0 (A : Args) (h0 : V c main_arg0 = fun i => A.h (i 0) (i 1)) (h1 : V c main_arg1 = fun i => A.g (i 1)) :
    (dat0 V c).arrAt 2 cfg0.N = fun i => Ffn.u A (i 0) (i 1) := by
  refine (dat0 V c).arrAt_eq_of_covers 2 _ (by decide +kernel) fun t hf y => ?_
  blk_simp
  rw [after0_2]
  frame_out
  have ht : t.val < 8 := t.isLt
  have hy : (y 0).val < 256 := (y 0).isLt
  refine (congrArg _ (ix2_eta y)).trans ((tile0 V c A h0 h1 t (y 0) (y 1) (by omega)).trans ?_)
  refine congr (congrArg (Ffn.u A) (Fin.ext ?_)) (Fin.ext ?_)
  · blk_simp [idx0 t]
    exact congrArg (· + (y 0).val) (Nat.mul_comm _ _)
  · blk_simp [idx0 t]

/-- The gate branch's product: rows times the sharded weight's columns. -/
theorem tile1 (u : Fin 2048 → Fin 2048 → EReal) (w : Fin 2048 → Fin 6144 → EReal)
    (ha : V c main_v7 = fun i => u (i 0) (i 1)) (hb : V c main_v2 = fun i => w (i 1) (col (i 0) (i 2))) (t : Fin cfg1.N) (r : Fin 2048) (j : Fin 512) (hn : t.val / 3 < 4) (hl : 512 * (t.val % 3) + j.val < 1536) (hj : 512 * t.val + j.val < 6144) :
    k1_pay1 (F := Ideal) (iblk1 V c 0 t) (iblk1 V c 1 t) (ix2 r j) = ∑ k : Fin 2048, u r k * w k ⟨512 * t.val + j.val, hj⟩ := by
  have e0 : ∀ k : Fin 2048, iblk1 V c 0 t (ix2 r k) = u r k := by
    intro k
    have : iblk1 V c 0 t (ix2 r k) = V c main_v7 (ix2 r k) := by
      blk_ext! [iblk1, idx1 t]
    rw [this, ha]
    rfl
  have e1 : ∀ k : Fin 2048, iblk1 V c 1 t (ix3 0 k j) = w k ⟨512 * t.val + j.val, hj⟩ := by
    intro k
    have : iblk1 V c 1 t (ix3 0 k j) = V c main_v2 (ix3 ⟨t.val / 3, hn⟩ k ⟨512 * (t.val % 3) + j.val, hl⟩) := by
      blk_ext! [iblk1, idx1 t]
    rw [this, hb]
    exact congrArg (w k) (Fin.ext (by show 1536 * (t.val / 3) + (512 * (t.val % 3) + j.val) = _; dsimp only; omega))
  rw [pay1]
  exact Finset.sum_congr rfl fun k _ => congrArg₂ (· * ·) (e0 k) (e1 k)

theorem reg1 (u : Fin 2048 → Fin 2048 → EReal) (w : Fin 2048 → Fin 6144 → EReal)
    (ha : V c main_v7 = fun i => u (i 0) (i 1)) (hb : V c main_v2 = fun i => w (i 1) (col (i 0) (i 2))) :
    (dat1 V c).arrAt 2 cfg1.N = fun i => ∑ k : Fin 2048, u (i 0) k * w k (i 1) := by
  refine (dat1 V c).arrAt_eq_of_covers 2 _ (by decide +kernel) fun t hf y => ?_
  blk_simp
  rw [after1_2]
  frame_out
  have ht : t.val < 12 := t.isLt
  have hy : (y 1).val < 512 := (y 1).isLt
  refine (congrArg _ (ix2_eta y)).trans ((tile1 V c u w ha hb t (y 0) (y 1) (by omega) (by omega) (by omega)).trans ?_)
  refine congrArg₂ (fun p q => ∑ k : Fin 2048, u p k * w k q) (Fin.ext ?_) (Fin.ext ?_)
  · blk_simp [idx1 t]
  · blk_simp [idx1 t]
    exact congrArg (· + (y 1).val) (Nat.mul_comm _ _)

/-- The other branch's product: rows times the sharded weight's columns. -/
theorem tile2 (u : Fin 2048 → Fin 2048 → EReal) (w : Fin 2048 → Fin 6144 → EReal)
    (ha : V c main_v7 = fun i => u (i 0) (i 1)) (hb : V c main_v5 = fun i => w (i 1) (col (i 0) (i 2))) (t : Fin cfg2.N) (r : Fin 2048) (j : Fin 512) (hn : t.val / 3 < 4) (hl : 512 * (t.val % 3) + j.val < 1536) (hj : 512 * t.val + j.val < 6144) :
    k2_pay1 (F := Ideal) (iblk2 V c 0 t) (iblk2 V c 1 t) (ix2 r j) = ∑ k : Fin 2048, u r k * w k ⟨512 * t.val + j.val, hj⟩ := by
  have e0 : ∀ k : Fin 2048, iblk2 V c 0 t (ix2 r k) = u r k := by
    intro k
    have : iblk2 V c 0 t (ix2 r k) = V c main_v7 (ix2 r k) := by
      blk_ext! [iblk2, idx2 t]
    rw [this, ha]
    rfl
  have e1 : ∀ k : Fin 2048, iblk2 V c 1 t (ix3 0 k j) = w k ⟨512 * t.val + j.val, hj⟩ := by
    intro k
    have : iblk2 V c 1 t (ix3 0 k j) = V c main_v5 (ix3 ⟨t.val / 3, hn⟩ k ⟨512 * (t.val % 3) + j.val, hl⟩) := by
      blk_ext! [iblk2, idx2 t]
    rw [this, hb]
    exact congrArg (w k) (Fin.ext (by show 1536 * (t.val / 3) + (512 * (t.val % 3) + j.val) = _; dsimp only; omega))
  rw [pay2]
  exact Finset.sum_congr rfl fun k _ => congrArg₂ (· * ·) (e0 k) (e1 k)

theorem reg2 (u : Fin 2048 → Fin 2048 → EReal) (w : Fin 2048 → Fin 6144 → EReal)
    (ha : V c main_v7 = fun i => u (i 0) (i 1)) (hb : V c main_v5 = fun i => w (i 1) (col (i 0) (i 2))) :
    (dat2 V c).arrAt 2 cfg2.N = fun i => ∑ k : Fin 2048, u (i 0) k * w k (i 1) := by
  refine (dat2 V c).arrAt_eq_of_covers 2 _ (by decide +kernel) fun t hf y => ?_
  blk_simp
  rw [after2_2]
  frame_out
  have ht : t.val < 12 := t.isLt
  have hy : (y 1).val < 512 := (y 1).isLt
  refine (congrArg _ (ix2_eta y)).trans ((tile2 V c u w ha hb t (y 0) (y 1) (by omega) (by omega) (by omega)).trans ?_)
  refine congrArg₂ (fun p q => ∑ k : Fin 2048, u p k * w k q) (Fin.ext ?_) (Fin.ext ?_)
  · blk_simp [idx2 t]
  · blk_simp [idx2 t]
    exact congrArg (· + (y 1).val) (Nat.mul_comm _ _)

/-- The cotangent of the inner activation: the layer's cotangent times the last weight's rows. -/
theorem tile4 (d : Fin 2048 → Fin 2048 → EReal) (w : Fin 6144 → Fin 2048 → EReal)
    (ha : V c main_v11 = fun i => d (i 0) (i 1)) (hb : V c main_v6 = fun i => w (i 0) (i 1)) (t : Fin cfg4.N) (r : Fin 2048) (j : Fin 512) (hj : 512 * t.val + j.val < 6144) :
    k4_pay1 (F := Ideal) (iblk4 V c 0 t) (iblk4 V c 1 t) (ix2 r j) = ∑ k : Fin 2048, d r k * w ⟨512 * t.val + j.val, hj⟩ k := by
  have e0 : ∀ k : Fin 2048, iblk4 V c 0 t (ix2 r k) = d r k := by
    intro k
    have : iblk4 V c 0 t (ix2 r k) = V c main_v11 (ix2 r k) := by
      blk_ext! [iblk4, idx4 t]
    rw [this, ha]
    rfl
  have e1 : ∀ k : Fin 2048, iblk4 V c 1 t (ix2 j k) = w ⟨512 * t.val + j.val, hj⟩ k := by
    intro k
    have : iblk4 V c 1 t (ix2 j k) = V c main_v6 (ix2 ⟨512 * t.val + j.val, hj⟩ k) := by
      blk_ext! [iblk4, idx4 t]
    rw [this, hb]
    rfl
  rw [pay4]
  exact Finset.sum_congr rfl fun k _ => congrArg₂ (· * ·) (e0 k) (e1 k)

theorem reg4 (d : Fin 2048 → Fin 2048 → EReal) (w : Fin 6144 → Fin 2048 → EReal)
    (ha : V c main_v11 = fun i => d (i 0) (i 1)) (hb : V c main_v6 = fun i => w (i 0) (i 1)) :
    (dat4 V c).arrAt 2 cfg4.N = fun i => ∑ k : Fin 2048, d (i 0) k * w (i 1) k := by
  refine (dat4 V c).arrAt_eq_of_covers 2 _ (by decide +kernel) fun t hf y => ?_
  blk_simp
  rw [after4_2]
  frame_out
  have ht : t.val < 12 := t.isLt
  have hy : (y 1).val < 512 := (y 1).isLt
  refine (congrArg _ (ix2_eta y)).trans ((tile4 V c d w ha hb t (y 0) (y 1) (by omega)).trans ?_)
  refine congrArg₂ (fun p q => ∑ k : Fin 2048, d p k * w q k) (Fin.ext ?_) (Fin.ext ?_)
  · blk_simp [idx4 t]
  · blk_simp [idx4 t]
    exact congrArg (· + (y 1).val) (Nat.mul_comm _ _)

/-- The last weight's gradient: the inner activation's columns times the cotangent's. -/
theorem tile5 (a : Fin 2048 → Fin 6144 → EReal) (d : Fin 2048 → Fin 2048 → EReal)
    (ha : V c main_v10 = fun i => a (i 0) (i 1)) (hb : V c main_v11 = fun i => d (i 0) (i 1)) (t : Fin cfg5.N) (r : Fin 2048) (j : Fin 512) (hr : 2048 * (t.val / 4) + r.val < 6144) (hj : 512 * (t.val % 4) + j.val < 2048) :
    k5_pay1 (F := Ideal) (iblk5 V c 0 t) (iblk5 V c 1 t) (ix2 r j) = ∑ k : Fin 2048, a k ⟨2048 * (t.val / 4) + r.val, hr⟩ * d k ⟨512 * (t.val % 4) + j.val, hj⟩ := by
  have e0 : ∀ k : Fin 2048, iblk5 V c 0 t (ix2 k r) = a k ⟨2048 * (t.val / 4) + r.val, hr⟩ := by
    intro k
    have : iblk5 V c 0 t (ix2 k r) = V c main_v10 (ix2 k ⟨2048 * (t.val / 4) + r.val, hr⟩) := by
      blk_ext! [iblk5, idx5 t]
    rw [this, ha]
    rfl
  have e1 : ∀ k : Fin 2048, iblk5 V c 1 t (ix2 k j) = d k ⟨512 * (t.val % 4) + j.val, hj⟩ := by
    intro k
    have : iblk5 V c 1 t (ix2 k j) = V c main_v11 (ix2 k ⟨512 * (t.val % 4) + j.val, hj⟩) := by
      blk_ext! [iblk5, idx5 t]
    rw [this, hb]
    rfl
  rw [pay5]
  exact Finset.sum_congr rfl fun k _ => congrArg₂ (· * ·) (e0 k) (e1 k)

theorem reg5 (a : Fin 2048 → Fin 6144 → EReal) (d : Fin 2048 → Fin 2048 → EReal)
    (ha : V c main_v10 = fun i => a (i 0) (i 1)) (hb : V c main_v11 = fun i => d (i 0) (i 1)) :
    (dat5 V c).arrAt 2 cfg5.N = fun i => ∑ k : Fin 2048, a k (i 0) * d k (i 1) := by
  refine (dat5 V c).arrAt_eq_of_covers 2 _ (by decide +kernel) fun t hf y => ?_
  blk_simp
  rw [after5_2]
  frame_out
  have ht : t.val < 12 := t.isLt
  have hy : (y 1).val < 512 := (y 1).isLt
  have hx : (y 0).val < 2048 := (y 0).isLt
  refine (congrArg _ (ix2_eta y)).trans ((tile5 V c a d ha hb t (y 0) (y 1) (by omega) (by omega)).trans ?_)
  refine congrArg₂ (fun p q => ∑ k : Fin 2048, a k p * d k q) (Fin.ext ?_) (Fin.ext ?_)
  · blk_simp [idx5 t]
    exact congrArg (· + (y 0).val) (Nat.mul_comm _ _)
  · blk_simp [idx5 t]
    exact congrArg (· + (y 1).val) (Nat.mul_comm _ _)

/-- The gate branch's weight gradient, shard by shard: the rows' columns times the cotangent's. -/
theorem tile7 (u : Fin 2048 → Fin 2048 → EReal) (d : Fin 2048 → Fin 6144 → EReal)
    (ha : V c main_v7 = fun i => u (i 0) (i 1)) (hb : V c main_v14_0 = fun i => d (i 0) (i 1)) (t : Fin cfg7.N) (r : Fin 2048) (j : Fin 512) (hj : 512 * t.val + j.val < 6144) :
    k7_pay1 (F := Ideal) (iblk7 V c 0 t) (iblk7 V c 1 t) (ix3 0 r j) = ∑ k : Fin 2048, u k r * d k ⟨512 * t.val + j.val, hj⟩ := by
  have e0 : ∀ k : Fin 2048, iblk7 V c 0 t (ix2 k r) = u k r := by
    intro k
    have : iblk7 V c 0 t (ix2 k r) = V c main_v7 (ix2 k r) := by
      blk_ext! [iblk7, idx7 t]
    rw [this, ha]
    rfl
  have e1 : ∀ k : Fin 2048, iblk7 V c 1 t (ix2 k j) = d k ⟨512 * t.val + j.val, hj⟩ := by
    intro k
    have : iblk7 V c 1 t (ix2 k j) = V c main_v14_0 (ix2 k ⟨512 * t.val + j.val, hj⟩) := by
      blk_ext! [iblk7, idx7 t]
    rw [this, hb]
    rfl
  rw [pay7]
  exact Finset.sum_congr rfl fun k _ => congrArg₂ (· * ·) (e0 k) (e1 k)

theorem reg7 (u : Fin 2048 → Fin 2048 → EReal) (d : Fin 2048 → Fin 6144 → EReal)
    (ha : V c main_v7 = fun i => u (i 0) (i 1)) (hb : V c main_v14_0 = fun i => d (i 0) (i 1)) :
    (dat7 V c).arrAt 2 cfg7.N = fun i => ∑ k : Fin 2048, u k (i 1) * d k (col (i 0) (i 2)) := by
  refine (dat7 V c).arrAt_eq_of_covers 2 _ (by decide +kernel) fun t hf y => ?_
  blk_simp
  rw [after7_2]
  frame_out
  have ht : t.val < 12 := t.isLt
  have hy : (y 2).val < 512 := (y 2).isLt
  have hz : (y 0).val = 0 := by have := (y 0).isLt; change (y 0).val < 1 at this; omega
  refine (congrArg _ (ix3_one y)).trans ((tile7 V c u d ha hb t (y 1) (y 2) (by omega)).trans ?_)
  refine congrArg₂ (fun p q => ∑ k : Fin 2048, u k p * d k q) (Fin.ext ?_) (Fin.ext ?_)
  · blk_simp [idx7 t]
  · unfold col
    blk_simp [idx7 t]
    dsimp only
    omega

/-- The other branch's weight gradient, shard by shard: the rows' columns times the cotangent's. -/
theorem tile8 (u : Fin 2048 → Fin 2048 → EReal) (d : Fin 2048 → Fin 6144 → EReal)
    (ha : V c main_v7 = fun i => u (i 0) (i 1)) (hb : V c main_v14_1 = fun i => d (i 0) (i 1)) (t : Fin cfg8.N) (r : Fin 2048) (j : Fin 512) (hj : 512 * t.val + j.val < 6144) :
    k8_pay1 (F := Ideal) (iblk8 V c 0 t) (iblk8 V c 1 t) (ix3 0 r j) = ∑ k : Fin 2048, u k r * d k ⟨512 * t.val + j.val, hj⟩ := by
  have e0 : ∀ k : Fin 2048, iblk8 V c 0 t (ix2 k r) = u k r := by
    intro k
    have : iblk8 V c 0 t (ix2 k r) = V c main_v7 (ix2 k r) := by
      blk_ext! [iblk8, idx8 t]
    rw [this, ha]
    rfl
  have e1 : ∀ k : Fin 2048, iblk8 V c 1 t (ix2 k j) = d k ⟨512 * t.val + j.val, hj⟩ := by
    intro k
    have : iblk8 V c 1 t (ix2 k j) = V c main_v14_1 (ix2 k ⟨512 * t.val + j.val, hj⟩) := by
      blk_ext! [iblk8, idx8 t]
    rw [this, hb]
    rfl
  rw [pay8]
  exact Finset.sum_congr rfl fun k _ => congrArg₂ (· * ·) (e0 k) (e1 k)

theorem reg8 (u : Fin 2048 → Fin 2048 → EReal) (d : Fin 2048 → Fin 6144 → EReal)
    (ha : V c main_v7 = fun i => u (i 0) (i 1)) (hb : V c main_v14_1 = fun i => d (i 0) (i 1)) :
    (dat8 V c).arrAt 2 cfg8.N = fun i => ∑ k : Fin 2048, u k (i 1) * d k (col (i 0) (i 2)) := by
  refine (dat8 V c).arrAt_eq_of_covers 2 _ (by decide +kernel) fun t hf y => ?_
  blk_simp
  rw [after8_2]
  frame_out
  have ht : t.val < 12 := t.isLt
  have hy : (y 2).val < 512 := (y 2).isLt
  have hz : (y 0).val = 0 := by have := (y 0).isLt; change (y 0).val < 1 at this; omega
  refine (congrArg _ (ix3_one y)).trans ((tile8 V c u d ha hb t (y 1) (y 2) (by omega)).trans ?_)
  refine congrArg₂ (fun p q => ∑ k : Fin 2048, u k p * d k q) (Fin.ext ?_) (Fin.ext ?_)
  · blk_simp [idx8 t]
  · unfold col
    blk_simp [idx8 t]
    dsimp only
    omega

end Cert.FfnValue
-- ==== Proof.FfnKAct.lean ====
/- The gelu kernel of the feed-forward block and its backward: tile by tile each column is that column's formulas, and so
   are the arrays the two kernels leave, at any contents. -/
module
public import proofs.«01_k».proof.Proof.FfnKMm
@[expose] public section
set_option maxRecDepth 16384
noncomputable section
namespace Cert.FfnValue
open Cert.FfnKernelIdeal Cert.FfnKernelIdeal.Gen
open Idealize.ShloMosaic Idealize.ShloMosaic.TcCoe Idealize.ShloMosaic.Tactic

theorem ix2_row {b : ℕ} (y : (⟨2, ![1, b]⟩ : Shape).Idx) : y = ix2 0 (y 1) := by
  funext k
  match k with
  | 0 => exact Fin.ext (by show (y 0).val = 0; have := (y 0).isLt; change (y 0).val < 1 at this; omega)
  | 1 => rfl

/-- A masked rotation is a column moved, filled with zeros. -/
theorem sel_dn (k : ℕ) (hk : k < 2048) (f : Fin 2048 → EReal) (t : Fin 2048) (h : (t.val + 2048 - k) % 2048 < 2048) :
    Scalar.select (IntOp.cmpi .sge (BitVec.ofNat 32 t.val) (BitVec.ofNat 32 k)) (f ⟨(t.val + 2048 - k) % 2048, h⟩) 0 = Ffn.dn f k t := by
  have ht := t.isLt
  rw [WordCmp.cmpi_sge_ofNat (by omega) (by omega)]
  unfold Ffn.dn
  by_cases e : k ≤ t.val
  · rw [dif_pos e, decide_eq_true e]
    exact congrArg f (Fin.ext (by show (t.val + 2048 - k) % 2048 = t.val - k; omega))
  · rw [dif_neg e, decide_eq_false e]
    rfl
theorem sel_up (k : ℕ) (hk : k < 2048) (n : ℕ) (hn : n + k = 2048) (f : Fin 2048 → EReal) (t : Fin 2048) (h : (t.val + 2048 - n) % 2048 < 2048) :
    Scalar.select (IntOp.cmpi .slt (BitVec.ofNat 32 t.val) (BitVec.ofNat 32 n)) (f ⟨(t.val + 2048 - n) % 2048, h⟩) 0 = Ffn.upw f k t := by
  have ht := t.isLt
  rw [WordCmp.cmpi_slt_ofNat (by omega) (by omega)]
  unfold Ffn.upw
  by_cases e : t.val + k < 2048
  · rw [dif_pos e, decide_eq_true (show t.val < n by omega)]
    exact congrArg f (Fin.ext (by show (t.val + 2048 - n) % 2048 = t.val + k; omega))
  · rw [dif_neg e, decide_eq_false (show ¬ t.val < n by omega)]
    rfl
theorem dn_mul (f : Fin 2048 → EReal) (k : ℕ) (w : EReal) (t : Fin 2048) : Ffn.dn (fun t => f t * w) k t = Ffn.dn f k t * w := by
  unfold Ffn.dn
  split
  · rfl
  · rw [zero_mul]

section
variable (x0 x1 x4 : S2048x512.Idx → EReal) (x2 : S3x512.Idx → EReal) (x3 : S1x512.Idx → EReal) (t : Fin 2048) (l : Fin 512)

theorem cv3 : k3_pay3 (F := Ideal) x0 x2 x3 (ix2 t l) = Ffn.cv (fun t => x0 (ix2 t l)) (fun r => x2 (ix2 r l)) (x3 (ix2 0 l)) t := by
  unfold k3_pay3
  pointwise
  unfold Ffn.cv
  rw [← dn_mul, ← dn_mul]
  exact congrArg₂ (· + ·) (congrArg (_ + ·) (sel_dn 2 (by omega) (fun t => x0 (ix2 t l) * x2 (ix2 0 l)) t _)) (sel_dn 1 (by omega) (fun t => x0 (ix2 t l) * x2 (ix2 1 l)) t _)

theorem act3 : k3_pay1 (F := Ideal) (k3_pay2 x1) (k3_pay3 x0 x2 x3) (k3_pay4 x0 x2 x3) (Scalar.ofBits .f32 0x3F000000#32) (ix2 t l)
    = Ffn.act (fun t => x0 (ix2 t l)) (fun t => x1 (ix2 t l)) (fun r => x2 (ix2 r l)) (x3 (ix2 0 l)) t := by
  unfold k3_pay1 k3_pay4 k3_pay2
  pointwise
  rw [cv3]
  rfl

theorem dn6 : k6_pay8 (F := Ideal) x0 (ix2 t l) = Ffn.dn (fun t => x0 (ix2 t l)) 2 t := by
  unfold k6_pay8 k6_pay5
  pointwise
  exact sel_dn 2 (by omega) (fun t => x0 (ix2 t l)) t _
theorem dn6' : k6_pay10 (F := Ideal) x0 (ix2 t l) = Ffn.dn (fun t => x0 (ix2 t l)) 1 t := by
  unfold k6_pay10 k6_pay5
  pointwise
  exact sel_dn 1 (by omega) (fun t => x0 (ix2 t l)) t _
theorem cv6 : k6_pay12 (F := Ideal) x0 x2 x3 (ix2 t l) = Ffn.cv (fun t => x0 (ix2 t l)) (fun r => x2 (ix2 r l)) (x3 (ix2 0 l)) t := by
  unfold k6_pay12 k6_pay5 k6_pay7 k6_pay9 k6_pay11
  pointwise
  rw [dn6, dn6']
  rfl
theorem th6 : k6_pay14 (F := Ideal) x0 x2 x3 (ix2 t l) = Ffn.th (Ffn.cv (fun t => x0 (ix2 t l)) (fun r => x2 (ix2 r l)) (x3 (ix2 0 l)) t) := by
  unfold k6_pay14
  pointwise
  rw [cv6]
  rfl
theorem dup6 : k6_pay17 (F := Ideal) (k6_pay12 x0 x2 x3) (k6_pay14 x0 x2 x3) x4 (ix2 t l)
    = Ffn.dup (fun t => x0 (ix2 t l)) (fun t => x4 (ix2 t l)) (fun r => x2 (ix2 r l)) (x3 (ix2 0 l)) t := by
  unfold k6_pay17 k6_pay15 k6_pay16
  pointwise
  rw [cv6, th6]
  rfl
theorem dcv6 : k6_pay18 (F := Ideal) (k6_pay6 x1) (k6_pay12 x0 x2 x3) (k6_pay13 x0 x2 x3) (k6_pay14 x0 x2 x3) x4 (ix2 t l)
    = Ffn.dcv (fun t => x0 (ix2 t l)) (fun t => x1 (ix2 t l)) (fun t => x4 (ix2 t l)) (fun r => x2 (ix2 r l)) (x3 (ix2 0 l)) t := by
  unfold k6_pay18 k6_pay15 k6_pay16 k6_pay6 k6_pay13
  pointwise
  rw [cv6, th6]
  rfl

/-- The four results of a tile, from the two values they share. -/
theorem dgp6 (D : S2048x512.Idx → EReal) (hD : ∀ t, k6_pay18 (F := Ideal) (k6_pay6 x1) (k6_pay12 x0 x2 x3) (k6_pay13 x0 x2 x3) (k6_pay14 x0 x2 x3) x4 (ix2 t l) = D (ix2 t l)) :
    k6_pay3 (F := Ideal) (k6_pay7 x2) (k6_pay18 (k6_pay6 x1) (k6_pay12 x0 x2 x3) (k6_pay13 x0 x2 x3) (k6_pay14 x0 x2 x3) x4)
      (k6_pay20 (k6_pay6 x1) (k6_pay11 x2) (k6_pay12 x0 x2 x3) (k6_pay13 x0 x2 x3) (k6_pay14 x0 x2 x3) x4) (k6_pay22 (k6_pay9 x2)) (ix2 t l)
    = Ffn.upw (fun t => D (ix2 t l) * x2 (ix2 1 l)) 1 t + Ffn.upw (fun t => D (ix2 t l) * x2 (ix2 0 l)) 2 t + D (ix2 t l) * x2 (ix2 2 l) := by
  unfold k6_pay3 k6_pay20 k6_pay7 k6_pay9 k6_pay11 k6_pay22
  pointwise
  simp only [hD]
  exact congrArg (· + _) (congrArg₂ (· + ·) (sel_up 1 (by omega) 2047 (by omega) (fun t => D (ix2 t l) * x2 (ix2 1 l)) t _)
    (sel_up 2 (by omega) 2046 (by omega) (fun t => D (ix2 t l) * x2 (ix2 0 l)) t _))
theorem dcb6 (D : S2048x512.Idx → EReal) : k6_pay1 (F := Ideal) D (ix2 0 l) = ∑ t : Fin 2048, D (ix2 t l) := by
  unfold k6_pay1
  pointwise
theorem dcw6 (r : Fin 3) :
    k6_pay2 (F := Ideal) (k6_pay5 x0) (k6_pay18 (k6_pay6 x1) (k6_pay12 x0 x2 x3) (k6_pay13 x0 x2 x3) (k6_pay14 x0 x2 x3) x4)
      (k6_pay19 (k6_pay6 x1) (k6_pay10 x0) (k6_pay12 x0 x2 x3) (k6_pay13 x0 x2 x3) (k6_pay14 x0 x2 x3) x4)
      (k6_pay21 (k6_pay6 x1) (k6_pay8 x0) (k6_pay12 x0 x2 x3) (k6_pay13 x0 x2 x3) (k6_pay14 x0 x2 x3) x4) (ix2 r l)
    = Ffn.dcw (fun t => x0 (ix2 t l)) (fun t => x1 (ix2 t l)) (fun t => x4 (ix2 t l)) (fun r => x2 (ix2 r l)) (x3 (ix2 0 l)) r := by
  unfold k6_pay2 k6_pay19 k6_pay21 k6_pay5
  pointwise
  unfold Ffn.dcw
  match r with
  | 0 =>
    simp only [dcv6, dn6, dn6']
    simp
  | 1 =>
    simp only [dcv6, dn6, dn6']
    simp
  | 2 =>
    simp only [dcv6, dn6, dn6']
    simp [Ffn.dn]
end

variable (V : (c : Dev nD) → (b : Ref sig .tc) → Buf (Elt Ideal) ((c : Thread nD τ).loc b)) (c : Dev nD)

theorem idx3 : ∀ t : Fin cfg3.N, win3_0.index t = ![0, t.val] ∧ win3_1.index t = ![0, t.val] ∧ win3_2.index t = ![0, t.val] ∧ win3_3.index t = ![0, t.val]
    ∧ win3_4.index t = ![0, t.val] := (by decide +kernel : ∀ t : Fin grid3.N, _)
theorem idx6 : ∀ t : Fin cfg6.N, win6_0.index t = ![0, t.val] ∧ win6_1.index t = ![0, t.val] ∧ win6_2.index t = ![0, t.val] ∧ win6_3.index t = ![0, t.val]
    ∧ win6_4.index t = ![0, t.val] ∧ win6_5.index t = ![0, t.val] ∧ win6_6.index t = ![0, t.val] ∧ win6_7.index t = ![0, t.val] ∧ win6_8.index t = ![0, t.val] :=
  (by decide +kernel : ∀ t : Fin grid6.N, _)

section
variable (p u d : Fin 6144 → Fin 2048 → EReal) (w : Fin 6144 → Fin 3 → EReal) (b : Fin 6144 → EReal)
  (h0 : V c main_v8 = fun i => p (i 1) (i 0)) (h1 : V c main_v9 = fun i => u (i 1) (i 0)) (h4 : V c main_v12 = fun i => d (i 1) (i 0))
  (h2 : V c main_arg4 = fun i => w (i 1) (i 0)) (h3 : V c main_arg5 = fun i => b (i 1))
include h0 in
theorem in3_0 (t : Fin cfg3.N) (r : Fin 2048) (l : Fin 512) (hl : 512 * t.val + l.val < 6144) : iblk3 V c 0 t (ix2 r l) = p ⟨512 * t.val + l.val, hl⟩ r := by
  have : iblk3 V c 0 t (ix2 r l) = V c main_v8 (ix2 r ⟨512 * t.val + l.val, hl⟩) := by
    blk_ext! [iblk3, idx3 t]
  rw [this, h0]
  rfl
include h1 in
theorem in3_1 (t : Fin cfg3.N) (r : Fin 2048) (l : Fin 512) (hl : 512 * t.val + l.val < 6144) : iblk3 V c 1 t (ix2 r l) = u ⟨512 * t.val + l.val, hl⟩ r := by
  have : iblk3 V c 1 t (ix2 r l) = V c main_v9 (ix2 r ⟨512 * t.val + l.val, hl⟩) := by
    blk_ext! [iblk3, idx3 t]
  rw [this, h1]
  rfl
include h2 in
theorem in3_2 (t : Fin cfg3.N) (r : Fin 3) (l : Fin 512) (hl : 512 * t.val + l.val < 6144) : iblk3 V c 2 t (ix2 r l) = w ⟨512 * t.val + l.val, hl⟩ r := by
  have : iblk3 V c 2 t (ix2 r l) = V c main_arg4 (ix2 r ⟨512 * t.val + l.val, hl⟩) := by
    blk_ext! [iblk3, idx3 t]
  rw [this, h2]
  rfl
include h3 in
theorem in3_3 (t : Fin cfg3.N)  (l : Fin 512) (hl : 512 * t.val + l.val < 6144) : iblk3 V c 3 t (ix2 0 l) = b ⟨512 * t.val + l.val, hl⟩ := by
  have : iblk3 V c 3 t (ix2 0 l) = V c main_arg5 (ix2 0 ⟨512 * t.val + l.val, hl⟩) := by
    blk_ext! [iblk3, idx3 t]
  rw [this, h3]
  rfl
include h0 in
theorem in6_0 (t : Fin cfg6.N) (r : Fin 2048) (l : Fin 512) (hl : 512 * t.val + l.val < 6144) : iblk6 V c 0 t (ix2 r l) = p ⟨512 * t.val + l.val, hl⟩ r := by
  have : iblk6 V c 0 t (ix2 r l) = V c main_v8 (ix2 r ⟨512 * t.val + l.val, hl⟩) := by
    blk_ext! [iblk6, idx6 t]
  rw [this, h0]
  rfl
include h1 in
theorem in6_1 (t : Fin cfg6.N) (r : Fin 2048) (l : Fin 512) (hl : 512 * t.val + l.val < 6144) : iblk6 V c 1 t (ix2 r l) = u ⟨512 * t.val + l.val, hl⟩ r := by
  have : iblk6 V c 1 t (ix2 r l) = V c main_v9 (ix2 r ⟨512 * t.val + l.val, hl⟩) := by
    blk_ext! [iblk6, idx6 t]
  rw [this, h1]
  rfl
include h2 in
theorem in6_2 (t : Fin cfg6.N) (r : Fin 3) (l : Fin 512) (hl : 512 * t.val + l.val < 6144) : iblk6 V c 2 t (ix2 r l) = w ⟨512 * t.val + l.val, hl⟩ r := by
  have : iblk6 V c 2 t (ix2 r l) = V c main_arg4 (ix2 r ⟨512 * t.val + l.val, hl⟩) := by
    blk_ext! [iblk6, idx6 t]
  rw [this, h2]
  rfl
include h3 in
theorem in6_3 (t : Fin cfg6.N)  (l : Fin 512) (hl : 512 * t.val + l.val < 6144) : iblk6 V c 3 t (ix2 0 l) = b ⟨512 * t.val + l.val, hl⟩ := by
  have : iblk6 V c 3 t (ix2 0 l) = V c main_arg5 (ix2 0 ⟨512 * t.val + l.val, hl⟩) := by
    blk_ext! [iblk6, idx6 t]
  rw [this, h3]
  rfl
include h4 in
theorem in6_4 (t : Fin cfg6.N) (r : Fin 2048) (l : Fin 512) (hl : 512 * t.val + l.val < 6144) : iblk6 V c 4 t (ix2 r l) = d ⟨512 * t.val + l.val, hl⟩ r := by
  have : iblk6 V c 4 t (ix2 r l) = V c main_v12 (ix2 r ⟨512 * t.val + l.val, hl⟩) := by
    blk_ext! [iblk6, idx6 t]
  rw [this, h4]
  rfl

include h0 h1 h2 h3 in
theorem tile3 (t : Fin cfg3.N) (r : Fin 2048) (l : Fin 512) (hl : 512 * t.val + l.val < 6144) :
    k3_pay1 (F := Ideal) (k3_pay2 (iblk3 V c 1 t)) (k3_pay3 (iblk3 V c 0 t) (iblk3 V c 2 t) (iblk3 V c 3 t)) (k3_pay4 (iblk3 V c 0 t) (iblk3 V c 2 t) (iblk3 V c 3 t)) (Scalar.ofBits .f32 0x3F000000#32) (ix2 r l)
    = Ffn.act (p ⟨512 * t.val + l.val, hl⟩) (u ⟨512 * t.val + l.val, hl⟩) (w ⟨512 * t.val + l.val, hl⟩) (b ⟨512 * t.val + l.val, hl⟩) r := by
  rw [act3]
  simp only [in3_0 V c p h0 t _ l hl, in3_1 V c u h1 t _ l hl, in3_2 V c w h2 t _ l hl, in3_3 V c b h3 t l hl]

include h0 h1 h2 h3 in
theorem reg3 : (dat3 V c).arrAt 4 cfg3.N = fun i => Ffn.act (p (i 1)) (u (i 1)) (w (i 1)) (b (i 1)) (i 0) := by
  refine (dat3 V c).arrAt_eq_of_covers 4 _ (by decide +kernel) fun t hf y => ?_
  blk_simp
  rw [after3_4]
  frame_out
  have ht : t.val < 12 := t.isLt
  have hy : (y 1).val < 512 := (y 1).isLt
  have hl : 512 * t.val + (y 1).val < 6144 := by omega
  refine (congrArg _ (ix2_eta y)).trans ((tile3 V c p u w b h0 h1 h2 h3 t (y 0) (y 1) hl).trans ?_)
  refine congr (congrArg (fun n r => Ffn.act (p n) (u n) (w n) (b n) r) (Fin.ext ?_)) (Fin.ext ?_)
  · blk_simp [idx3 t]
    exact congrArg (· + (y 1).val) (Nat.mul_comm _ _)
  · blk_simp [idx3 t]

include h0 h1 h2 h3 h4 in
theorem tile6_d (t : Fin cfg6.N) (r : Fin 2048) (l : Fin 512) (hl : 512 * t.val + l.val < 6144) : (k6_pay18 (k6_pay6 (iblk6 V c 1 t)) (k6_pay12 (iblk6 V c 0 t) (iblk6 V c 2 t) (iblk6 V c 3 t)) (k6_pay13 (iblk6 V c 0 t) (iblk6 V c 2 t) (iblk6 V c 3 t)) (k6_pay14 (iblk6 V c 0 t) (iblk6 V c 2 t) (iblk6 V c 3 t)) (iblk6 V c 4 t)) (ix2 r l) = Ffn.dcv (p ⟨512 * t.val + l.val, hl⟩) (u ⟨512 * t.val + l.val, hl⟩) (d ⟨512 * t.val + l.val, hl⟩) (w ⟨512 * t.val + l.val, hl⟩) (b ⟨512 * t.val + l.val, hl⟩) r := by
  rw [dcv6]
  simp only [in6_0 V c p h0 t _ l hl, in6_1 V c u h1 t _ l hl, in6_2 V c w h2 t _ l hl, in6_3 V c b h3 t l hl, in6_4 V c d h4 t _ l hl]

include h0 h1 h2 h3 h4 in
theorem tile6_5 (t : Fin cfg6.N) (r : Fin 2048) (l : Fin 512) (hl : 512 * t.val + l.val < 6144) :
    k6_pay3 (F := Ideal) (k6_pay7 (iblk6 V c 2 t)) (k6_pay18 (k6_pay6 (iblk6 V c 1 t)) (k6_pay12 (iblk6 V c 0 t) (iblk6 V c 2 t) (iblk6 V c 3 t)) (k6_pay13 (iblk6 V c 0 t) (iblk6 V c 2 t) (iblk6 V c 3 t)) (k6_pay14 (iblk6 V c 0 t) (iblk6 V c 2 t) (iblk6 V c 3 t)) (iblk6 V c 4 t)) (k6_pay20 (k6_pay6 (iblk6 V c 1 t)) (k6_pay11 (iblk6 V c 2 t)) (k6_pay12 (iblk6 V c 0 t) (iblk6 V c 2 t) (iblk6 V c 3 t)) (k6_pay13 (iblk6 V c 0 t) (iblk6 V c 2 t) (iblk6 V c 3 t)) (k6_pay14 (iblk6 V c 0 t) (iblk6 V c 2 t) (iblk6 V c 3 t)) (iblk6 V c 4 t)) (k6_pay22 (k6_pay9 (iblk6 V c 2 t))) (ix2 r l)
    = Ffn.dgp (p ⟨512 * t.val + l.val, hl⟩) (u ⟨512 * t.val + l.val, hl⟩) (d ⟨512 * t.val + l.val, hl⟩) (w ⟨512 * t.val + l.val, hl⟩) (b ⟨512 * t.val + l.val, hl⟩) r := by
  rw [dgp6 _ _ _ _ _ r l (fun i => (k6_pay18 (k6_pay6 (iblk6 V c 1 t)) (k6_pay12 (iblk6 V c 0 t) (iblk6 V c 2 t) (iblk6 V c 3 t)) (k6_pay13 (iblk6 V c 0 t) (iblk6 V c 2 t) (iblk6 V c 3 t)) (k6_pay14 (iblk6 V c 0 t) (iblk6 V c 2 t) (iblk6 V c 3 t)) (iblk6 V c 4 t)) (ix2 (i 0) (i 1))) (fun _ => rfl)]
  have hd : ∀ r, (k6_pay18 (k6_pay6 (iblk6 V c 1 t)) (k6_pay12 (iblk6 V c 0 t) (iblk6 V c 2 t) (iblk6 V c 3 t)) (k6_pay13 (iblk6 V c 0 t) (iblk6 V c 2 t) (iblk6 V c 3 t)) (k6_pay14 (iblk6 V c 0 t) (iblk6 V c 2 t) (iblk6 V c 3 t)) (iblk6 V c 4 t)) (ix2 r l) = Ffn.dcv (p ⟨512 * t.val + l.val, hl⟩) (u ⟨512 * t.val + l.val, hl⟩) (d ⟨512 * t.val + l.val, hl⟩) (w ⟨512 * t.val + l.val, hl⟩) (b ⟨512 * t.val + l.val, hl⟩) r := fun r => tile6_d V c p u d w b h0 h1 h4 h2 h3 t r l hl
  have hw : ∀ r, iblk6 V c 2 t (ix2 r l) = w ⟨512 * t.val + l.val, hl⟩ r := fun r => in6_2 V c w h2 t r l hl
  show Ffn.upw (fun r => (k6_pay18 (k6_pay6 (iblk6 V c 1 t)) (k6_pay12 (iblk6 V c 0 t) (iblk6 V c 2 t) (iblk6 V c 3 t)) (k6_pay13 (iblk6 V c 0 t) (iblk6 V c 2 t) (iblk6 V c 3 t)) (k6_pay14 (iblk6 V c 0 t) (iblk6 V c 2 t) (iblk6 V c 3 t)) (iblk6 V c 4 t)) (ix2 r l) * iblk6 V c 2 t (ix2 1 l)) 1 r + Ffn.upw (fun r => (k6_pay18 (k6_pay6 (iblk6 V c 1 t)) (k6_pay12 (iblk6 V c 0 t) (iblk6 V c 2 t) (iblk6 V c 3 t)) (k6_pay13 (iblk6 V c 0 t) (iblk6 V c 2 t) (iblk6 V c 3 t)) (k6_pay14 (iblk6 V c 0 t) (iblk6 V c 2 t) (iblk6 V c 3 t)) (iblk6 V c 4 t)) (ix2 r l) * iblk6 V c 2 t (ix2 0 l)) 2 r
    + (k6_pay18 (k6_pay6 (iblk6 V c 1 t)) (k6_pay12 (iblk6 V c 0 t) (iblk6 V c 2 t) (iblk6 V c 3 t)) (k6_pay13 (iblk6 V c 0 t) (iblk6 V c 2 t) (iblk6 V c 3 t)) (k6_pay14 (iblk6 V c 0 t) (iblk6 V c 2 t) (iblk6 V c 3 t)) (iblk6 V c 4 t)) (ix2 r l) * iblk6 V c 2 t (ix2 2 l) = _
  simp only [hd, hw]
  rfl

include h0 h2 h3 h4 in
theorem tile6_6 (t : Fin cfg6.N) (r : Fin 2048) (l : Fin 512) (hl : 512 * t.val + l.val < 6144) :
    k6_pay4 (F := Ideal) (k6_pay17 (k6_pay12 (iblk6 V c 0 t) (iblk6 V c 2 t) (iblk6 V c 3 t)) (k6_pay14 (iblk6 V c 0 t) (iblk6 V c 2 t) (iblk6 V c 3 t)) (iblk6 V c 4 t)) (ix2 r l)
    = Ffn.dup (p ⟨512 * t.val + l.val, hl⟩) (d ⟨512 * t.val + l.val, hl⟩) (w ⟨512 * t.val + l.val, hl⟩) (b ⟨512 * t.val + l.val, hl⟩) r := by
  unfold k6_pay4
  pointwise
  rw [dup6]
  simp only [in6_0 V c p h0 t _ l hl, in6_2 V c w h2 t _ l hl, in6_3 V c b h3 t l hl, in6_4 V c d h4 t _ l hl]

include h0 h1 h2 h3 h4 in
theorem tile6_7 (t : Fin cfg6.N) (r : Fin 3) (l : Fin 512) (hl : 512 * t.val + l.val < 6144) :
    k6_pay2 (F := Ideal) (k6_pay5 (iblk6 V c 0 t)) (k6_pay18 (k6_pay6 (iblk6 V c 1 t)) (k6_pay12 (iblk6 V c 0 t) (iblk6 V c 2 t) (iblk6 V c 3 t)) (k6_pay13 (iblk6 V c 0 t) (iblk6 V c 2 t) (iblk6 V c 3 t)) (k6_pay14 (iblk6 V c 0 t) (iblk6 V c 2 t) (iblk6 V c 3 t)) (iblk6 V c 4 t)) (k6_pay19 (k6_pay6 (iblk6 V c 1 t)) (k6_pay10 (iblk6 V c 0 t)) (k6_pay12 (iblk6 V c 0 t) (iblk6 V c 2 t) (iblk6 V c 3 t)) (k6_pay13 (iblk6 V c 0 t) (iblk6 V c 2 t) (iblk6 V c 3 t)) (k6_pay14 (iblk6 V c 0 t) (iblk6 V c 2 t) (iblk6 V c 3 t)) (iblk6 V c 4 t)) (k6_pay21 (k6_pay6 (iblk6 V c 1 t)) (k6_pay8 (iblk6 V c 0 t)) (k6_pay12 (iblk6 V c 0 t) (iblk6 V c 2 t) (iblk6 V c 3 t)) (k6_pay13 (iblk6 V c 0 t) (iblk6 V c 2 t) (iblk6 V c 3 t)) (k6_pay14 (iblk6 V c 0 t) (iblk6 V c 2 t) (iblk6 V c 3 t)) (iblk6 V c 4 t)) (ix2 r l)
    = Ffn.dcw (p ⟨512 * t.val + l.val, hl⟩) (u ⟨512 * t.val + l.val, hl⟩) (d ⟨512 * t.val + l.val, hl⟩) (w ⟨512 * t.val + l.val, hl⟩) (b ⟨512 * t.val + l.val, hl⟩) r := by
  rw [dcw6]
  simp only [in6_0 V c p h0 t _ l hl, in6_1 V c u h1 t _ l hl, in6_2 V c w h2 t _ l hl, in6_3 V c b h3 t l hl, in6_4 V c d h4 t _ l hl]

include h0 h1 h2 h3 h4 in
theorem tile6_8 (t : Fin cfg6.N) (l : Fin 512) (hl : 512 * t.val + l.val < 6144) : k6_pay1 (F := Ideal) (k6_pay18 (k6_pay6 (iblk6 V c 1 t)) (k6_pay12 (iblk6 V c 0 t) (iblk6 V c 2 t) (iblk6 V c 3 t)) (k6_pay13 (iblk6 V c 0 t) (iblk6 V c 2 t) (iblk6 V c 3 t)) (k6_pay14 (iblk6 V c 0 t) (iblk6 V c 2 t) (iblk6 V c 3 t)) (iblk6 V c 4 t)) (ix2 0 l) = Ffn.dcb (p ⟨512 * t.val + l.val, hl⟩) (u ⟨512 * t.val + l.val, hl⟩) (d ⟨512 * t.val + l.val, hl⟩) (w ⟨512 * t.val + l.val, hl⟩) (b ⟨512 * t.val + l.val, hl⟩) := by
  rw [dcb6]
  exact Finset.sum_congr rfl fun r _ => tile6_d V c p u d w b h0 h1 h4 h2 h3 t r l hl

include h0 h1 h2 h3 h4 in
theorem reg6_5 : (dat6 V c).arrAt 5 cfg6.N = fun i => Ffn.dgp (p (i 1)) (u (i 1)) (d (i 1)) (w (i 1)) (b (i 1)) (i 0) := by
  refine (dat6 V c).arrAt_eq_of_covers 5 _ (by decide +kernel) fun t hf y => ?_
  blk_simp
  rw [after6_5]
  unfold out6_5 k6_pay27 k6_pay23 k6_pay24 k6_pay25 k6_pay26
  frame_out
  have ht : t.val < 12 := t.isLt
  have hy : (y 1).val < 512 := (y 1).isLt
  have hl : 512 * t.val + (y 1).val < 6144 := by omega
  refine (congrArg _ (ix2_eta y)).trans ((tile6_5 V c p u d w b h0 h1 h4 h2 h3 t (y 0) (y 1) hl).trans ?_)
  refine congr (congrArg (fun n r => Ffn.dgp (p n) (u n) (d n) (w n) (b n) r) (Fin.ext ?_)) (Fin.ext ?_)
  · blk_simp [idx6 t]
    exact congrArg (· + (y 1).val) (Nat.mul_comm _ _)
  · blk_simp [idx6 t]

include h0 h2 h3 h4 in
theorem reg6_6 : (dat6 V c).arrAt 6 cfg6.N = fun i => Ffn.dup (p (i 1)) (d (i 1)) (w (i 1)) (b (i 1)) (i 0) := by
  refine (dat6 V c).arrAt_eq_of_covers 6 _ (by decide +kernel) fun t hf y => ?_
  blk_simp
  rw [after6_6]
  unfold out6_6 k6_pay24 k6_pay26
  frame_out
  have ht : t.val < 12 := t.isLt
  have hy : (y 1).val < 512 := (y 1).isLt
  have hl : 512 * t.val + (y 1).val < 6144 := by omega
  refine (congrArg _ (ix2_eta y)).trans ((tile6_6 V c p d w b h0 h4 h2 h3 t (y 0) (y 1) hl).trans ?_)
  refine congr (congrArg (fun n r => Ffn.dup (p n) (d n) (w n) (b n) r) (Fin.ext ?_)) (Fin.ext ?_)
  · blk_simp [idx6 t]
    exact congrArg (· + (y 1).val) (Nat.mul_comm _ _)
  · blk_simp [idx6 t]

include h0 h1 h2 h3 h4 in
theorem reg6_7 : (dat6 V c).arrAt 7 cfg6.N = fun i => Ffn.dcw (p (i 1)) (u (i 1)) (d (i 1)) (w (i 1)) (b (i 1)) (i 0) := by
  refine (dat6 V c).arrAt_eq_of_covers 7 _ (by decide +kernel) fun t hf y => ?_
  blk_simp
  rw [after6_7]
  unfold out6_7 k6_pay27 k6_pay23 k6_pay24 k6_pay25 k6_pay26
  frame_out
  have ht : t.val < 12 := t.isLt
  have hy : (y 1).val < 512 := (y 1).isLt
  have hl : 512 * t.val + (y 1).val < 6144 := by omega
  refine (congrArg _ (ix2_eta y)).trans ((tile6_7 V c p u d w b h0 h1 h4 h2 h3 t (y 0) (y 1) hl).trans ?_)
  refine congr (congrArg (fun n r => Ffn.dcw (p n) (u n) (d n) (w n) (b n) r) (Fin.ext ?_)) (Fin.ext ?_)
  · blk_simp [idx6 t]
    exact congrArg (· + (y 1).val) (Nat.mul_comm _ _)
  · blk_simp [idx6 t]

include h0 h1 h2 h3 h4 in
theorem reg6_8 : (dat6 V c).arrAt 8 cfg6.N = fun i => Ffn.dcb (p (i 1)) (u (i 1)) (d (i 1)) (w (i 1)) (b (i 1)) := by
  refine (dat6 V c).arrAt_eq_of_covers 8 _ (by decide +kernel) fun t hf y => ?_
  blk_simp
  rw [after6_8]
  unfold out6_8 k6_pay27 k6_pay23 k6_pay24 k6_pay25 k6_pay26
  frame_out
  have ht : t.val < 12 := t.isLt
  have hy : (y 1).val < 512 := (y 1).isLt
  have hl : 512 * t.val + (y 1).val < 6144 := by omega
  refine (congrArg _ (ix2_row y)).trans ((tile6_8 V c p u d w b h0 h1 h4 h2 h3 t (y 1) hl).trans ?_)
  refine congrArg (fun n => Ffn.dcb (p n) (u n) (d n) (w n) (b n)) (Fin.ext ?_)
  blk_simp [idx6 t]
  exact congrArg (· + (y 1).val) (Nat.mul_comm _ _)
end
end Cert.FfnValue
-- ==== Proof.FfnRun.lean ====
/-
  The feed-forward program's run and what it leaves: every buffer that holds a tensor value ends at the fold of the host's
  operations and the nine kernels' writes over the launch contents (`run_fold`), and there the five results are the gradients
  of FfnSpec.
-/
module
public import proofs.«01_k».proof.Proof.FfnKAct
@[expose] public section
set_option maxRecDepth 16384
noncomputable section
namespace Cert.FfnValue
open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Cert.Ffn (Args col)

section
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution ends with every tensor buffer at the fold. -/
theorem run_fold : θ_run defs (onTc (τ := τ) (main (F := F))) ⟨m, fun _ => 0, ρ⟩ (fun r => ∀ (c : Dev nD) (b : Ref sig .tc),
      (Proc.devRef .tc b : DevRef τ sig).isScoped = false → r.2.mem ((c.tc : Thread nD τ).loc b) = W11 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h _ c b hb => h c _ (mem_uc b (by rw [hb]; exact Bool.false_ne_true)))
end

variable (m : (ℓ : Loc nD τ sig) → Buf (Elt Ideal) ℓ) (ρ : Dev nD → PrngReg) (c : Dev nD)

/-- The launch's arguments by coordinates. -/
def args : Args where
  h t k := m ((c.tc : Thread nD τ).loc main_arg0) (ix2 t k)
  g k := m ((c.tc : Thread nD τ).loc main_arg1) (ix2 0 k)
  wg k n := m ((c.tc : Thread nD τ).loc main_arg2) (ix2 k n)
  wu k n := m ((c.tc : Thread nD τ).loc main_arg3) (ix2 k n)
  cw r n := m ((c.tc : Thread nD τ).loc main_arg4) (ix2 r n)
  cb n := m ((c.tc : Thread nD τ).loc main_arg5) (ix2 0 n)
  wd n k := m ((c.tc : Thread nD τ).loc main_arg6) (ix2 n k)
  ct t k := m ((c.tc : Thread nD τ).loc main_arg7) (ix2 t k)

/-! ## The host's casts and shards of the weights -/

theorem w1_v2 : V1 m ρ c main_v2 = fun i => (args m c).wg (i 1) (col (i 0) (i 2)) := by
  have e : V1 m ρ c main_v2 = transpose S4x2048x1536 [1, 0, 2] (shapeCast S2048x4x1536 (truncf .bf16 (W0 m ρ c (Proc.devRef .tc main_arg2)) bitsLt_bf16_f32 : FVec Ideal S2048x6144 .bf16) shapeCasts_S2048x6144_S2048x4x1536) transposes_S2048x4x1536_S4x2048x1536_1_0_2 := by
    show after hostOps0 (W0 m ρ c) (Proc.devRef .tc main_v2) = _
    after_results
    try rfl
  rw [e]
  funext i
  rw [ix3_eta i]
  pointwise
  exact congrArg (m ((c.tc : Thread nD τ).loc main_arg2)) (congrArg (ix2 (i 1)) (Fin.ext (by show (i 0).val * 1536 + (i 2).val = 1536 * (i 0).val + (i 2).val; omega)))
theorem w1_v5 : V1 m ρ c main_v5 = fun i => (args m c).wu (i 1) (col (i 0) (i 2)) := by
  have e : V1 m ρ c main_v5 = transpose S4x2048x1536 [1, 0, 2] (shapeCast S2048x4x1536 (truncf .bf16 (W0 m ρ c (Proc.devRef .tc main_arg3)) bitsLt_bf16_f32 : FVec Ideal S2048x6144 .bf16) shapeCasts_S2048x6144_S2048x4x1536) transposes_S2048x4x1536_S4x2048x1536_1_0_2 := by
    show after hostOps0 (W0 m ρ c) (Proc.devRef .tc main_v5) = _
    after_results
    try rfl
  rw [e]
  funext i
  rw [ix3_eta i]
  pointwise
  exact congrArg (m ((c.tc : Thread nD τ).loc main_arg3)) (congrArg (ix2 (i 1)) (Fin.ext (by show (i 0).val * 1536 + (i 2).val = 1536 * (i 0).val + (i 2).val; omega)))
theorem w1_v6 : V1 m ρ c main_v6 = fun i => (args m c).wd (i 0) (i 1) := by
  have e : V1 m ρ c main_v6 = (truncf .bf16 (W0 m ρ c (Proc.devRef .tc main_arg6)) bitsLt_bf16_f32 : FVec Ideal S6144x2048 .bf16) := by
    show after hostOps0 (W0 m ρ c) (Proc.devRef .tc main_v6) = _
    after_results
    try rfl
  rw [e]
  exact funext fun i => congrArg (m ((c.tc : Thread nD τ).loc main_arg6)) (ix2_eta i)

/-! ## What each kernel leaves -/

theorem w2_v7 : V2 m ρ c main_v7 = fun i => Ffn.u (args m c) (i 0) (i 1) :=
  (W2_arr m ρ c 2).trans (reg0 (V1 m ρ) c (args m c)
    ((W1_args m ρ c main_arg0 (by decide)).trans (funext fun i => congrArg (m ((c.tc : Thread nD τ).loc main_arg0)) (ix2_eta i)))
    ((W1_args m ρ c main_arg1 (by decide)).trans (funext fun i => congrArg (m ((c.tc : Thread nD τ).loc main_arg1)) (ix2_row i))))
theorem w3_v8 : V3 m ρ c main_v8 = fun i => Ffn.gp (args m c) (i 1) (i 0) :=
  (W3_arr m ρ c 2).trans (reg1 (V2 m ρ) c (Ffn.u (args m c)) (args m c).wg (w2_v7 m ρ c) ((W2_of m ρ c main_v2 (by decide)).trans (w1_v2 m ρ c)))
theorem w3_v7 : V3 m ρ c main_v7 = fun i => Ffn.u (args m c) (i 0) (i 1) := (W3_of m ρ c main_v7 (by decide)).trans (w2_v7 m ρ c)
theorem w4_v9 : V4 m ρ c main_v9 = fun i => Ffn.up (args m c) (i 1) (i 0) :=
  (W4_arr m ρ c 2).trans (reg2 (V3 m ρ) c (Ffn.u (args m c)) (args m c).wu (w3_v7 m ρ c)
    ((W3_of m ρ c main_v5 (by decide)).trans ((W2_of m ρ c main_v5 (by decide)).trans (w1_v5 m ρ c))))
theorem w4_v8 : V4 m ρ c main_v8 = fun i => Ffn.gp (args m c) (i 1) (i 0) := (W4_of m ρ c main_v8 (by decide)).trans (w3_v8 m ρ c)
theorem w5_v10 : V5 m ρ c main_v10 = fun i => Ffn.aAct (args m c) (i 1) (i 0) :=
  (W5_arr m ρ c 4).trans (reg3 (V4 m ρ) c (Ffn.gp (args m c)) (Ffn.up (args m c)) (Ffn.cw (args m c)) (args m c).cb (w4_v8 m ρ c) (w4_v9 m ρ c)
    ((W4_args m ρ c main_arg4 (by decide)).trans (funext fun i => congrArg (m ((c.tc : Thread nD τ).loc main_arg4)) (ix2_eta i)))
    ((W4_args m ρ c main_arg5 (by decide)).trans (funext fun i => congrArg (m ((c.tc : Thread nD τ).loc main_arg5)) (ix2_row i))))
theorem w6_v11 : V6 m ρ c main_v11 = fun i => (args m c).ct (i 0) (i 1) := by
  have e : V6 m ρ c main_v11 = (truncf .bf16 (W5 m ρ c (Proc.devRef .tc main_arg7)) bitsLt_bf16_f32 : FVec Ideal S2048x2048 .bf16) := by
    show after hostOps4 (W5 m ρ c) (Proc.devRef .tc main_v11) = _
    after_results
    try rfl
  rw [e, W5_args m ρ c main_arg7 (by decide)]
  exact funext fun i => congrArg (m ((c.tc : Thread nD τ).loc main_arg7)) (ix2_eta i)
theorem w6_v6 : V6 m ρ c main_v6 = fun i => (args m c).wd (i 0) (i 1) :=
  (W6_of m ρ c main_v6 (by decide)).trans ((W5_of m ρ c main_v6 (by decide)).trans ((W4_of m ρ c main_v6 (by decide)).trans ((W3_of m ρ c main_v6 (by decide)).trans
    ((W2_of m ρ c main_v6 (by decide)).trans (w1_v6 m ρ c)))))
theorem w7_v12 : V7 m ρ c main_v12 = fun i => Ffn.da (args m c) (i 1) (i 0) :=
  (W7_arr m ρ c 2).trans (reg4 (V6 m ρ) c (args m c).ct (args m c).wd (w6_v11 m ρ c) (w6_v6 m ρ c))
theorem w8_v13 : V8 m ρ c main_v13 = fun i => Ffn.gDown (args m c) (i 0) (i 1) :=
  (W8_arr m ρ c 2).trans (reg5 (V7 m ρ) c (fun t n => Ffn.aAct (args m c) n t) (args m c).ct
    ((W7_of m ρ c main_v10 (by decide)).trans ((W6_of m ρ c main_v10 (by decide)).trans (w5_v10 m ρ c)))
    ((W7_of m ρ c main_v11 (by decide)).trans (w6_v11 m ρ c)))
theorem w8_v8 : V8 m ρ c main_v8 = fun i => Ffn.gp (args m c) (i 1) (i 0) :=
  (W8_of m ρ c main_v8 (by decide)).trans ((W7_of m ρ c main_v8 (by decide)).trans ((W6_of m ρ c main_v8 (by decide)).trans ((W5_of m ρ c main_v8 (by decide)).trans (w4_v8 m ρ c))))
theorem w8_v9 : V8 m ρ c main_v9 = fun i => Ffn.up (args m c) (i 1) (i 0) :=
  (W8_of m ρ c main_v9 (by decide)).trans ((W7_of m ρ c main_v9 (by decide)).trans ((W6_of m ρ c main_v9 (by decide)).trans ((W5_of m ρ c main_v9 (by decide)).trans (w4_v9 m ρ c))))
theorem w8_v12 : V8 m ρ c main_v12 = fun i => Ffn.da (args m c) (i 1) (i 0) := (W8_of m ρ c main_v12 (by decide)).trans (w7_v12 m ρ c)
theorem w8_arg4 : V8 m ρ c main_arg4 = fun i => Ffn.cw (args m c) (i 1) (i 0) :=
  (W8_args m ρ c main_arg4 (by decide)).trans (funext fun i => congrArg (m ((c.tc : Thread nD τ).loc main_arg4)) (ix2_eta i))
theorem w8_arg5 : V8 m ρ c main_arg5 = fun i => (args m c).cb (i 1) :=
  (W8_args m ρ c main_arg5 (by decide)).trans (funext fun i => congrArg (m ((c.tc : Thread nD τ).loc main_arg5)) (ix2_row i))
theorem w9_0 : V9 m ρ c main_v14_0 = fun i => Ffn.aDgp (args m c) (i 1) (i 0) :=
  (W9_arr m ρ c 5).trans (reg6_5 (V8 m ρ) c _ _ _ _ _ (w8_v8 m ρ c) (w8_v9 m ρ c) (w8_v12 m ρ c) (w8_arg4 m ρ c) (w8_arg5 m ρ c))
theorem w9_1 : V9 m ρ c main_v14_1 = fun i => Ffn.aDup (args m c) (i 1) (i 0) :=
  (W9_arr m ρ c 6).trans (reg6_6 (V8 m ρ) c _ _ _ _ (w8_v8 m ρ c) (w8_v12 m ρ c) (w8_arg4 m ρ c) (w8_arg5 m ρ c))
theorem w9_v7 : V9 m ρ c main_v7 = fun i => Ffn.u (args m c) (i 0) (i 1) :=
  (W9_of m ρ c main_v7 (by decide)).trans ((W8_of m ρ c main_v7 (by decide)).trans ((W7_of m ρ c main_v7 (by decide)).trans ((W6_of m ρ c main_v7 (by decide)).trans
    ((W5_of m ρ c main_v7 (by decide)).trans ((W4_of m ρ c main_v7 (by decide)).trans (w3_v7 m ρ c))))))

/-! ## The five results -/

theorem out_gate : W11 m ρ c (Proc.devRef .tc main_v15) = fun i => Ffn.gGate (args m c) (i 0) (i 1) (i 2) :=
  (W11_of m ρ c main_v15 (by decide)).trans ((W10_arr m ρ c 2).trans
    (reg7 (V9 m ρ) c (Ffn.u (args m c)) (fun t n => Ffn.aDgp (args m c) n t) (w9_v7 m ρ c) (w9_0 m ρ c)))
theorem out_up : W11 m ρ c (Proc.devRef .tc main_v16) = fun i => Ffn.gUp (args m c) (i 0) (i 1) (i 2) :=
  (W11_arr m ρ c 2).trans (reg8 (V10 m ρ) c (Ffn.u (args m c)) (fun t n => Ffn.aDup (args m c) n t)
    ((W10_of m ρ c main_v7 (by decide)).trans (w9_v7 m ρ c)) ((W10_of m ρ c main_v14_1 (by decide)).trans (w9_1 m ρ c)))
theorem out_cw : W11 m ρ c (Proc.devRef .tc main_v14_2) = fun i => Ffn.gCw (args m c) (i 0) (i 1) :=
  (W11_of m ρ c main_v14_2 (by decide)).trans ((W10_of m ρ c main_v14_2 (by decide)).trans ((W9_arr m ρ c 7).trans
    (reg6_7 (V8 m ρ) c _ _ _ _ _ (w8_v8 m ρ c) (w8_v9 m ρ c) (w8_v12 m ρ c) (w8_arg4 m ρ c) (w8_arg5 m ρ c))))
theorem out_cb : W11 m ρ c (Proc.devRef .tc main_v14_3) = fun i => Ffn.gCb (args m c) (i 1) :=
  (W11_of m ρ c main_v14_3 (by decide)).trans ((W10_of m ρ c main_v14_3 (by decide)).trans ((W9_arr m ρ c 8).trans
    (reg6_8 (V8 m ρ) c _ _ _ _ _ (w8_v8 m ρ c) (w8_v9 m ρ c) (w8_v12 m ρ c) (w8_arg4 m ρ c) (w8_arg5 m ρ c))))
theorem out_down : W11 m ρ c (Proc.devRef .tc main_v13) = fun i => Ffn.gDown (args m c) (i 0) (i 1) :=
  (W11_of m ρ c main_v13 (by decide)).trans ((W10_of m ρ c main_v13 (by decide)).trans ((W9_of m ρ c main_v13 (by decide)).trans (w8_v13 m ρ c)))
end Cert.FfnValue
-- ==== Proof.FfnRef.lean ====
/- The feed-forward reference's results, in the formulas of FfnSpec. -/
module
public import proofs.«01_k».proof.Proof.FfnSpec
public import proofs.«01_k».proof.Proof.Gen.FfnReferenceIdeal.Run
public import Idealize.ShloMosaic.Lib.ValueIdx
public import Idealize.ShloMosaic.Lib.Pointwise
public import Idealize.ShloMosaic.Lib.WordCmp
@[expose] public section
set_option maxRecDepth 16384
noncomputable section
namespace Cert.FfnRef
open Cert.FfnReferenceIdeal Cert.FfnReferenceIdeal.Gen Cert.FfnReferenceIdeal.Value
open Idealize.ShloMosaic Idealize.ShloMosaic.TcCoe Idealize.ShloMosaic.Tactic
open Idealize.ShloMosaic.StableHlo
open Cert.Ffn (Args col)

/-- A valuation's arguments by coordinates. -/
def argsOf (X : Valuation τ sig (Elt Ideal)) : Args where
  h t k := X (Proc.devRef .tc main_arg0) (ix2 t k)
  g k := X (Proc.devRef .tc main_arg1) (ix2 0 k)
  wg k n := X (Proc.devRef .tc main_arg2) (ix2 k n)
  wu k n := X (Proc.devRef .tc main_arg3) (ix2 k n)
  cw r n := X (Proc.devRef .tc main_arg4) (ix2 r n)
  cb n := X (Proc.devRef .tc main_arg5) (ix2 0 n)
  wd n k := X (Proc.devRef .tc main_arg6) (ix2 n k)
  ct t k := X (Proc.devRef .tc main_arg7) (ix2 t k)

variable (X : Valuation τ sig (Elt Ideal)) (t : Fin 2048) (n : Fin 6144)

theorem u_eq (k : Fin 2048) : res_main_v11 X (ix2 t k) = Ffn.u (argsOf X) t k := by
  unfold res_main_v11
  pointwise
  rfl

theorem dn2 : res_main_v24 X (ix2 t n) = Ffn.dn (Ffn.gp (argsOf X) n) 2 t := by
  unfold res_main_v24 res_main_v14
  pointwise
  simp only [u_eq]
  unfold Ffn.dn
  by_cases h : t.val < 2
  · rw [dif_pos h, dif_neg (by omega)]
  · rw [dif_neg h, dif_pos (by omega)]; rfl
theorem dn1 : res_main_v31 X (ix2 t n) = Ffn.dn (Ffn.gp (argsOf X) n) 1 t := by
  unfold res_main_v31 res_main_v14
  pointwise
  simp only [u_eq]
  unfold Ffn.dn
  by_cases h : 1 + t.val < 2
  · rw [dif_pos h, dif_neg (by omega)]
  · rw [dif_neg h, dif_pos (by omega)]
    exact congrArg (Ffn.gp (argsOf X) n) (Fin.ext (by show 1 + t.val - 2 = t.val - 1; omega))
theorem dn0 : res_main_v16 X (ix2 t n) = Ffn.gp (argsOf X) n t := by
  unfold res_main_v16 res_main_v14
  pointwise
  simp only [u_eq]
  rfl
theorem cw2 : res_main_v19 X (ix2 0 n) = (argsOf X).cw 2 n := by
  unfold res_main_v19
  pointwise
  rfl
theorem cw0 : res_main_v27 X (ix2 0 n) = (argsOf X).cw 0 n := by
  unfold res_main_v27
  pointwise
  rfl
theorem cw1 : res_main_v34 X (ix2 0 n) = (argsOf X).cw 1 n := by
  unfold res_main_v34
  pointwise
  rfl
theorem cv_eq : res_main_v37 X (ix2 t n) = Ffn.cv (Ffn.gp (argsOf X) n) (Ffn.cw (argsOf X) n) ((argsOf X).cb n) t := by
  unfold res_main_v37
  pointwise
  rw [dn0, dn1, dn2, cw0, cw1, cw2]
  rfl
theorem th_eq : res_main_v48 X (ix2 t n) = Ffn.th (Ffn.cv (Ffn.gp (argsOf X) n) (Ffn.cw (argsOf X) n) ((argsOf X).cb n) t) := by
  unfold res_main_v48
  pointwise
  rw [cv_eq, mul_comm (_ * _) (Ffn.cv _ _ _ _)]
  rfl
theorem gf_eq : res_main_v57 X (ix2 t n) = Ffn.gf (Ffn.cv (Ffn.gp (argsOf X) n) (Ffn.cw (argsOf X) n) ((argsOf X).cb n) t) := by
  unfold res_main_v57
  pointwise
  rw [th_eq]
  rfl
theorem up_eq : res_main_v59 X (ix2 t n) = Ffn.up (argsOf X) n t := by
  unfold res_main_v59
  pointwise
  simp only [u_eq]
  rfl
theorem da_eq : res_main_v65 X (ix2 t n) = Ffn.da (argsOf X) n t := by
  unfold res_main_v65
  pointwise
  rfl
theorem act_eq : res_main_v60 X (ix2 t n) = Ffn.aAct (argsOf X) n t := by
  unfold res_main_v60 res_main_v58
  pointwise
  rw [cv_eq, gf_eq, up_eq]
  rfl
theorem e_eq : res_main_v67 X (ix2 t n) = Ffn.da (argsOf X) n t * Ffn.up (argsOf X) n t := by
  unfold res_main_v67
  pointwise
  rw [da_eq, up_eq]
theorem gq_eq : res_main_v76 X (ix2 t n) = Ffn.gq (Ffn.cv (Ffn.gp (argsOf X) n) (Ffn.cw (argsOf X) n) ((argsOf X).cb n) t) (Ffn.da (argsOf X) n t * Ffn.up (argsOf X) n t) := by
  unfold res_main_v76
  pointwise
  rw [cv_eq, e_eq, th_eq]
  rfl
theorem dcv_eq : res_main_v81 X (ix2 t n) = Ffn.dcv (Ffn.gp (argsOf X) n) (Ffn.up (argsOf X) n) (Ffn.da (argsOf X) n) (Ffn.cw (argsOf X) n) ((argsOf X).cb n) t := by
  unfold res_main_v81
  pointwise
  rw [cv_eq, e_eq, gf_eq, gq_eq]
  rfl

/-- A padding's test of a row: whether the row lies in the block that starts at row `k`. -/
theorem in_block (k : ℕ) (i : Fin 2050) (n : Fin 6144) :
    (∀ a : Fin 2, ![k, 0] a ≤ ((ix2 i n : S2050x6144.Idx) a).val ∧ (((ix2 i n : S2050x6144.Idx) a).val - ![k, 0] a) % (![0, 0] a + 1) = 0
      ∧ (((ix2 i n : S2050x6144.Idx) a).val - ![k, 0] a) / (![0, 0] a + 1) < S2048x6144.size a) ↔ k ≤ i.val ∧ i.val - k < 2048 := by
  constructor
  · intro h
    have h0 : k ≤ i.val ∧ (i.val - k) % 1 = 0 ∧ (i.val - k) / 1 < 2048 := h 0
    omega
  · intro h a
    match a with
    | ⟨0, _⟩ => show k ≤ i.val ∧ (i.val - k) % 1 = 0 ∧ (i.val - k) / 1 < 2048; omega
    | ⟨1, _⟩ => show 0 ≤ n.val ∧ (n.val - 0) % 1 = 0 ∧ (n.val - 0) / 1 < 6144; have := n.isLt; omega

theorem dgp_eq : extractStridedSlice S2048x6144 ![2, 0] (res_main_v114 X) slices_S2050x6144_S2048x6144_2_0 (ix2 t n) = Ffn.aDgp (argsOf X) n t := by
  unfold res_main_v114
  pointwise
  simp only [cw0, cw1, cw2, dcv_eq]
  unfold Ffn.aDgp Ffn.dgp Ffn.upw
  have hb := fun k => in_block k ⟨2 + t.val, by omega⟩ n
  congr 1
  · congr 1
    · by_cases h : t.val + 1 < 2048
      · refine (dif_pos ((hb 1).2 ⟨by show 1 ≤ 2 + t.val; omega, by show 2 + t.val - 1 < 2048; omega⟩)).trans (Eq.trans ?_ (dif_pos h).symm)
        exact congrArg (fun t => Ffn.dcv _ _ _ _ _ t * _) (Fin.ext (by show 2 + t.val - 1 = t.val + 1; omega))
      · refine (dif_neg (fun e => h (by have e' : 2 + t.val - 1 < 2048 := ((hb 1).1 e).2; omega))).trans ?_
        rw [dif_neg h]
    · by_cases h : t.val + 2 < 2048
      · refine (dif_pos ((hb 0).2 ⟨by show 0 ≤ 2 + t.val; omega, by show 2 + t.val - 0 < 2048; omega⟩)).trans (Eq.trans ?_ (dif_pos h).symm)
        exact congrArg (fun t => Ffn.dcv _ _ _ _ _ t * _) (Fin.ext (by show 2 + t.val = t.val + 2; omega))
      · refine (dif_neg (fun e => h (by have e' : 2 + t.val - 0 < 2048 := ((hb 0).1 e).2; omega))).trans ?_
        rw [dif_neg h]
  · exact dif_pos ((hb 2).2 ⟨by show 2 ≤ 2 + t.val; omega, by show 2 + t.val - 2 < 2048; omega⟩)

/-! ## The five results -/

theorem gate_at (s : Fin 4) (k : Fin 2048) (l : Fin 1536) : (transpose S4x2048x1536 [1, 0, 2] (shapeCast S2048x4x1536 (transpose S2048x6144 [1, 0] (Host.dotGeneral (F := Ideal) (φ₁ := .f32) (φ₂ := .f32) dot_S2048x6144_S2048x2048_S6144x2048_0_0_1_1_n_n none (extractStridedSlice S2048x6144 ![2, 0] (res_main_v114 X) slices_S2050x6144_S2048x6144_2_0) (res_main_v11 X)) transposes_S6144x2048_S2048x6144_1_0) shapeCasts_S2048x6144_S2048x4x1536) transposes_S2048x4x1536_S4x2048x1536_1_0_2 : FVec Ideal S4x2048x1536 .f32) (ix3 s k l)
    = Ffn.gGate (argsOf X) s k l := by
  generalize hY : extractStridedSlice S2048x6144 ![2, 0] (res_main_v114 X) slices_S2050x6144_S2048x6144_2_0 = Y
  have e : ∀ t n, Y (ix2 t n) = Ffn.aDgp (argsOf X) n t := fun t n => by rw [← hY]; exact dgp_eq X t n
  pointwise
  simp only [e, u_eq]
  rw [show (⟨s.val * 1536 + l.val, by omega⟩ : Fin 6144) = col s l from Fin.ext (by show s.val * 1536 + l.val = 1536 * s.val + l.val; omega)]
  exact Finset.sum_congr rfl fun t _ => mul_comm _ _
theorem up_at (s : Fin 4) (k : Fin 2048) (l : Fin 1536) : (transpose S4x2048x1536 [1, 0, 2] (shapeCast S2048x4x1536 (transpose S2048x6144 [1, 0] (Host.dotGeneral (F := Ideal) (φ₁ := .f32) (φ₂ := .f32) dot_S2048x6144_S2048x2048_S6144x2048_0_0_1_1_n_n none (mulf (res_main_v58 X) (res_main_v65 X)) (res_main_v11 X)) transposes_S6144x2048_S2048x6144_1_0) shapeCasts_S2048x6144_S2048x4x1536) transposes_S2048x4x1536_S4x2048x1536_1_0_2 : FVec Ideal S4x2048x1536 .f32) (ix3 s k l)
    = Ffn.gUp (argsOf X) s k l := by
  unfold res_main_v58
  pointwise
  simp only [cv_eq, gf_eq, da_eq, u_eq]
  rw [show (⟨s.val * 1536 + l.val, by omega⟩ : Fin 6144) = col s l from Fin.ext (by show s.val * 1536 + l.val = 1536 * s.val + l.val; omega)]
  exact Finset.sum_congr rfl fun t _ => mul_comm _ _
theorem down_at (k : Fin 2048) : (transpose S6144x2048 [1, 0] (Host.dotGeneral (F := Ideal) (φ₁ := .f32) (φ₂ := .f32) dot_S2048x2048_S2048x6144_S2048x6144_0_0_1_1_n_n none (X (Proc.devRef .tc main_arg7)) (res_main_v60 X)) transposes_S2048x6144_S6144x2048_1_0 : FVec Ideal S6144x2048 .f32) (ix2 n k)
    = Ffn.gDown (argsOf X) n k := by
  pointwise
  simp only [act_eq]
  exact Finset.sum_congr rfl fun t _ => mul_comm _ _
theorem cb_at : (shapeCast S1x6144 (Host.reduceAdd (res_main_v81 X) (constant S_ .f32 0x00000000#32) reducesTo_S2048x6144_S6144_d0 h_S_) shapeCasts_S6144_S1x6144 : FVec Ideal S1x6144 .f32) (ix2 0 n)
    = Ffn.gCb (argsOf X) n := by
  pointwise
  simp only [dcv_eq]
  rfl
theorem cw_at (r : Fin 3) : (addf (addf (pad S3x6144 ![1, 0] ![1, 0] ![0, 0] (broadcastInDim S1x6144 ![1] bcast_S6144_S1x6144_1 (Host.reduceAdd (shapeCast S1x6144 (Host.reduceAdd (mulf (res_main_v31 X) (res_main_v81 X)) (constant S_ .f32 0x00000000#32) reducesTo_S2048x6144_S6144_d0 h_S_) shapeCasts_S6144_S1x6144) (constant S_ .f32 0x00000000#32) reducesTo_S1x6144_S6144_d0 h_S_)) (constant S_ .f32 0x00000000#32) pads_S1x6144_S3x6144_110_000 h_S_) (pad S3x6144 ![0, 0] ![2, 0] ![0, 0] (broadcastInDim S1x6144 ![1] bcast_S6144_S1x6144_1 (Host.reduceAdd (shapeCast S1x6144 (Host.reduceAdd (mulf (res_main_v24 X) (res_main_v81 X)) (constant S_ .f32 0x00000000#32) reducesTo_S2048x6144_S6144_d0 h_S_) shapeCasts_S6144_S1x6144) (constant S_ .f32 0x00000000#32) reducesTo_S1x6144_S6144_d0 h_S_)) (constant S_ .f32 0x00000000#32) pads_S1x6144_S3x6144_020_000 h_S_)) (pad S3x6144 ![2, 0] ![0, 0] ![0, 0] (broadcastInDim S1x6144 ![1] bcast_S6144_S1x6144_1 (Host.reduceAdd (shapeCast S1x6144 (Host.reduceAdd (mulf (res_main_v16 X) (res_main_v81 X)) (constant S_ .f32 0x00000000#32) reducesTo_S2048x6144_S6144_d0 h_S_) shapeCasts_S6144_S1x6144) (constant S_ .f32 0x00000000#32) reducesTo_S1x6144_S6144_d0 h_S_)) (constant S_ .f32 0x00000000#32) pads_S1x6144_S3x6144_200_000 h_S_) : FVec Ideal S3x6144 .f32) (ix2 r n)
    = Ffn.gCw (argsOf X) r n := by
  match r with
  | ⟨0, _⟩ =>
    pointwise
    simp only [dcv_eq, dn2]
    exact Fin.sum_univ_one _
  | ⟨1, _⟩ =>
    pointwise
    simp only [dcv_eq, dn1]
    exact Fin.sum_univ_one _
  | ⟨2, _⟩ =>
    pointwise
    simp only [dcv_eq, dn0]
    exact Fin.sum_univ_one _
end Cert.FfnRef
-- ==== Proof.FfnMain.lean ====
/- The feed-forward program's frame of the reference and its algebraic claim. -/
module
public import proofs.«01_k».proof.Defs
public import proofs.«01_k».proof.Proof.FfnRun
public import proofs.«01_k».proof.Proof.FfnRef
public import Idealize.ShloMosaic.Adequacy
@[expose] public section
noncomputable section
namespace Cert.FfnMain
open Idealize.ShloMosaic Idealize.ShloMosaic.TcCoe Idealize.SL.Sem Idealize.ShloMosaic.StableHlo

/-- The reference ends with its arguments as launched and every counter at zero. -/
theorem ref_frame (m : (ℓ : Loc Cert.FfnReferenceIdeal.nD Cert.FfnReferenceIdeal.τ Cert.FfnReferenceIdeal.sig) → Buf (Elt Ideal) ℓ) (g : Dev Cert.FfnReferenceIdeal.nD → PrngReg) :
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0) :=
  (θ_run Cert.FfnReferenceIdeal.defs _ _).mono (fun r h => ⟨fun c => (h c).2.2.2.2.2, sem_eq_zero_of_no_sems (by decide) r.2⟩) (Cert.FfnReferenceIdeal.Value.run m g)

/-- The two programs' arguments by coordinates agree where their launch arrays do. -/
theorem args_eq (m : (ℓ : Loc Cert.FfnKernelIdeal.nD Cert.FfnKernelIdeal.τ Cert.FfnKernelIdeal.sig) → Buf (Elt Ideal) ℓ) (m' : (ℓ : Loc Cert.FfnReferenceIdeal.nD Cert.FfnReferenceIdeal.τ Cert.FfnReferenceIdeal.sig) → Buf (Elt Ideal) ℓ) (c : Dev Cert.FfnKernelIdeal.nD)
    (h0 : m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0))
    (h1 : m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1))
    (h2 : m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2))
    (h3 : m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3))
    (h4 : m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4))
    (h5 : m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5))
    (h6 : m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6))
    (h7 : m' ((c.tc : Thread Cert.FfnReferenceIdeal.nD Cert.FfnReferenceIdeal.τ).loc Cert.FfnReferenceIdeal.main_arg7) = m ((c.tc : Thread Cert.FfnKernelIdeal.nD Cert.FfnKernelIdeal.τ).loc Cert.FfnKernelIdeal.main_arg7)) :
    Cert.FfnRef.argsOf (launchContents m' c) = Cert.FfnValue.args m c := by
  have e : Cert.FfnRef.argsOf (launchContents m' c) = ⟨fun t k => m' ((c.tc : Thread Cert.FfnReferenceIdeal.nD Cert.FfnReferenceIdeal.τ).loc Cert.FfnReferenceIdeal.main_arg0) (ix2 t k), fun k => m' ((c.tc : Thread Cert.FfnReferenceIdeal.nD Cert.FfnReferenceIdeal.τ).loc Cert.FfnReferenceIdeal.main_arg1) (ix2 0 k),
      fun k n => m' ((c.tc : Thread Cert.FfnReferenceIdeal.nD Cert.FfnReferenceIdeal.τ).loc Cert.FfnReferenceIdeal.main_arg2) (ix2 k n), fun k n => m' ((c.tc : Thread Cert.FfnReferenceIdeal.nD Cert.FfnReferenceIdeal.τ).loc Cert.FfnReferenceIdeal.main_arg3) (ix2 k n), fun r n => m' ((c.tc : Thread Cert.FfnReferenceIdeal.nD Cert.FfnReferenceIdeal.τ).loc Cert.FfnReferenceIdeal.main_arg4) (ix2 r n),
      fun n => m' ((c.tc : Thread Cert.FfnReferenceIdeal.nD Cert.FfnReferenceIdeal.τ).loc Cert.FfnReferenceIdeal.main_arg5) (ix2 0 n), fun n k => m' ((c.tc : Thread Cert.FfnReferenceIdeal.nD Cert.FfnReferenceIdeal.τ).loc Cert.FfnReferenceIdeal.main_arg6) (ix2 n k), fun t k => m' ((c.tc : Thread Cert.FfnReferenceIdeal.nD Cert.FfnReferenceIdeal.τ).loc Cert.FfnReferenceIdeal.main_arg7) (ix2 t k)⟩ := rfl
  rw [e, h0, h1, h2, h3, h4, h5, h6, h7]
  rfl

/-- From agreeing arguments the kernel and the reference end with the same five gradients. -/
theorem algebraic : Cert.algebraic_FfnKernelIdeal_FfnReferenceIdeal (hFfnKernelIdeal := Cert.FfnKernelIdeal.Gen.facts) (hFfnReferenceIdeal := Cert.FfnReferenceIdeal.Gen.facts) := by
  intro m g m' g' _ hag
  have hA : ∀ c, Cert.FfnRef.argsOf (launchContents m' c) = Cert.FfnValue.args m c := fun c =>
    args_eq m m' c (hag c).1 (hag c).2.1 (hag c).2.2.1 (hag c).2.2.2.1 (hag c).2.2.2.2.1 (hag c).2.2.2.2.2.1 (hag c).2.2.2.2.2.2.1 (hag c).2.2.2.2.2.2.2
  refine ⟨fun c => Cert.FfnKernelIdeal.Gen.W11 m g c (Proc.devRef .tc Cert.FfnKernelIdeal.main_v15), fun c => Cert.FfnKernelIdeal.Gen.W11 m g c (Proc.devRef .tc Cert.FfnKernelIdeal.main_v16), fun c => Cert.FfnKernelIdeal.Gen.W11 m g c (Proc.devRef .tc Cert.FfnKernelIdeal.main_v14_2), fun c => Cert.FfnKernelIdeal.Gen.W11 m g c (Proc.devRef .tc Cert.FfnKernelIdeal.main_v14_3), fun c => Cert.FfnKernelIdeal.Gen.W11 m g c (Proc.devRef .tc Cert.FfnKernelIdeal.main_v13), ?_, ?_⟩
  · exact (θ_run Cert.FfnKernelIdeal.defs _ _).mono (fun _ h c =>
      ⟨h c Cert.FfnKernelIdeal.main_v15 rfl,
       h c Cert.FfnKernelIdeal.main_v16 rfl,
       h c Cert.FfnKernelIdeal.main_v14_2 rfl,
       h c Cert.FfnKernelIdeal.main_v14_3 rfl,
       h c Cert.FfnKernelIdeal.main_v13 rfl,
       (h c Cert.FfnKernelIdeal.main_arg0 rfl).trans (Cert.FfnKernelIdeal.Gen.W11_main_arg0 m g c),
       (h c Cert.FfnKernelIdeal.main_arg1 rfl).trans (Cert.FfnKernelIdeal.Gen.W11_main_arg1 m g c),
       (h c Cert.FfnKernelIdeal.main_arg2 rfl).trans (Cert.FfnKernelIdeal.Gen.W11_main_arg2 m g c),
       (h c Cert.FfnKernelIdeal.main_arg3 rfl).trans (Cert.FfnKernelIdeal.Gen.W11_main_arg3 m g c),
       (h c Cert.FfnKernelIdeal.main_arg4 rfl).trans (Cert.FfnKernelIdeal.Gen.W11_main_arg4 m g c),
       (h c Cert.FfnKernelIdeal.main_arg5 rfl).trans (Cert.FfnKernelIdeal.Gen.W11_main_arg5 m g c),
       (h c Cert.FfnKernelIdeal.main_arg6 rfl).trans (Cert.FfnKernelIdeal.Gen.W11_main_arg6 m g c),
       (h c Cert.FfnKernelIdeal.main_arg7 rfl).trans (Cert.FfnKernelIdeal.Gen.W11_main_arg7 m g c)⟩) (Cert.FfnValue.run_fold m g)
  · refine (θ_run Cert.FfnReferenceIdeal.defs _ _).mono (fun _ h c =>
      ⟨(h c).1.trans (Eq.trans ?_ (Cert.FfnValue.out_gate m g c).symm), (h c).2.1.trans (Eq.trans ?_ (Cert.FfnValue.out_up m g c).symm),
       (h c).2.2.1.trans (Eq.trans ?_ (Cert.FfnValue.out_cw m g c).symm), (h c).2.2.2.1.trans (Eq.trans ?_ (Cert.FfnValue.out_cb m g c).symm),
       (h c).2.2.2.2.1.trans (Eq.trans ?_ (Cert.FfnValue.out_down m g c).symm), (h c).2.2.2.2.2⟩) (Cert.FfnReferenceIdeal.Value.run m' g')
    · rw [← hA c]
      exact funext fun i => (congrArg _ (Cert.FfnValue.ix3_eta i)).trans (Cert.FfnRef.gate_at _ (i 0) (i 1) (i 2))
    · rw [← hA c]
      exact funext fun i => (congrArg _ (Cert.FfnValue.ix3_eta i)).trans (Cert.FfnRef.up_at _ (i 0) (i 1) (i 2))
    · rw [← hA c]
      exact funext fun i => (congrArg _ (Cert.FfnValue.ix2_eta i)).trans (Cert.FfnRef.cw_at _ (i 1) (i 0))
    · rw [← hA c]
      exact funext fun i => (congrArg _ (Cert.FfnValue.ix2_row i)).trans (Cert.FfnRef.cb_at _ (i 1))
    · rw [← hA c]
      exact funext fun i => (congrArg _ (Cert.FfnValue.ix2_eta i)).trans (Cert.FfnRef.down_at _ (i 0) (i 1))
end Cert.FfnMain
-- ==== Proof.ProjSpec.lean ====
/- The projections of the recurrent mixer's layer, in formulas: what both the kernels and the reference leave in their results,
   over arrays read by coordinates. -/
module
public import Idealize.ShloMosaic.PureOps.Ideal
@[expose] public section
noncomputable section
namespace Cert.Proj
open Idealize.ShloMosaic
open scoped BigOperators

/-- The call's arguments by coordinates: the layer's input and its norm's weight, the projection into the mixer and that of the
    value residual, the cotangent of the projected rows, the mixer's output, the projection out, and the cotangent of its sum. -/
structure Args where
  h : Fin 2048 → Fin 2048 → EReal
  g : Fin 2048 → EReal
  win : Fin 2048 → Fin 5408 → EReal
  wv : Fin 2048 → Fin 32 → EReal
  dz : Fin 2048 → Fin 5632 → EReal
  cat : Fin 2048 → Fin 2048 → EReal
  wo : Fin 2048 → Fin 2048 → EReal
  dh : Fin 2048 → Fin 2048 → EReal

abbrev wide : EReal := Ideal.ofBits .f32 0x45000000#32
abbrev eps : EReal := Ideal.ofBits .f32 0x358637BD#32

variable (A : Args)

/-- The normed rows. -/
def u (t k : Fin 2048) : EReal := A.h t k * Ideal.rsqrt (Ideal.div (∑ i : Fin 2048, A.h t i * A.h t i) wide + eps) * A.g k
/-- The two weights side by side, filled with zero columns. -/
def wcat (k : Fin 2048) (n : Fin 5632) : EReal :=
  if h : n.val < 5408 then A.win k ⟨n.val, h⟩ else if h' : n.val - 5408 < 32 then A.wv k ⟨n.val - 5408, h'⟩ else 0

/-- The projected rows, the layer's sum, the mixer's output's cotangent, and the gradients of the weights. -/
def z (t : Fin 2048) (n : Fin 5632) : EReal := ∑ k : Fin 2048, u A t k * wcat A k n
def out (t k : Fin 2048) : EReal := (∑ j : Fin 2048, A.cat t j * A.wo j k) + A.h t k
def dcat (t j : Fin 2048) : EReal := ∑ k : Fin 2048, A.dh t k * A.wo j k
def dO (j k : Fin 2048) : EReal := ∑ t : Fin 2048, A.cat t j * A.dh t k
def dIn (k : Fin 2048) (n : Fin 5632) : EReal := ∑ t : Fin 2048, u A t k * A.dz t n
end Cert.Proj
end
-- ==== Proof.Coord.lean ====
/- Indices of two-axis arrays by their coordinates. -/
module
public import Idealize.ShloMosaic.Lib.Pointwise.Index
@[expose] public section
namespace Cert.Coord
open Idealize.ShloMosaic
theorem eta2 {a b : ℕ} (y : (⟨2, ![a, b]⟩ : Shape).Idx) : y = ix2 (y 0) (y 1) := by
  funext k
  match k with
  | 0 => rfl
  | 1 => rfl
theorem row2 {b : ℕ} (y : (⟨2, ![1, b]⟩ : Shape).Idx) : y = ix2 0 (y 1) := by
  funext k
  match k with
  | 0 => exact Fin.ext (by show (y 0).val = 0; have := (y 0).isLt; change (y 0).val < 1 at this; omega)
  | 1 => rfl
theorem eta3 {a b d : ℕ} (y : (⟨3, ![a, b, d]⟩ : Shape).Idx) : y = ix3 (y 0) (y 1) (y 2) := by
  funext k
  match k with
  | 0 => rfl
  | 1 => rfl
  | 2 => rfl
end Cert.Coord
end
-- ==== Proof.ProjK.lean ====
/- The kernels of the mixer's projections, at any contents: the arrays they leave, in formulas. -/
module
public import proofs.«01_k».proof.Proof.ProjSpec
public import proofs.«01_k».proof.Proof.Coord
public import proofs.«01_k».proof.Proof.Gen.ProjKernelIdeal.Frame
public import Idealize.ShloMosaic.Lib.ValueIdx
public import Idealize.ShloMosaic.Lib.Pointwise
public import Idealize.ShloMosaic.Lib.WordCmp
public import Idealize.ShloMosaic.Lib.Pipeline.ValueKit
@[expose] public section
set_option maxRecDepth 16384
noncomputable section
namespace Cert.ProjValue
open Cert.ProjKernelIdeal Cert.ProjKernelIdeal.Gen
open Idealize.ShloMosaic Idealize.ShloMosaic.TcCoe Idealize.ShloMosaic.Tactic
open Cert.Proj (Args)
open Cert.Coord (eta2 row2)

/-! ## The payloads at a coordinate -/

theorem pay0 (x0 : S256x2048.Idx → EReal) (x1 : S1x2048.Idx → EReal) (r : Fin 256) (j : Fin 2048) : (k0_pay1 (F := Ideal) x0 x1) (ix2 r j)
    = x0 (ix2 r j) * Ideal.rsqrt (Ideal.div (∑ i : Fin 2048, x0 (ix2 r i) * x0 (ix2 r i)) Proj.wide + Proj.eps) * x1 (ix2 0 j) := by
  unfold_payloads
  pointwise
  try rfl

theorem pay1 (x0 : S2048x2048.Idx → EReal) (x1 : S2048x512.Idx → EReal) (r : Fin 2048) (j : Fin 512) : (k1_pay1 (F := Ideal) x0 x1) (ix2 r j)
    = ∑ k : Fin 2048, x0 (ix2 r k) * x1 (ix2 k j) := by
  unfold_payloads
  pointwise
  try rfl

theorem pay2 (x0 : S2048x2048.Idx → EReal) (x1 : S2048x512.Idx → EReal) (x2 : S2048x512.Idx → EReal) (r : Fin 2048) (j : Fin 512) : (k2_pay1 (F := Ideal) x0 x1 x2) (ix2 r j)
    = (∑ k : Fin 2048, x0 (ix2 r k) * x1 (ix2 k j)) + x2 (ix2 r j) := by
  unfold_payloads
  pointwise
  try rfl

theorem pay3 (x0 : S2048x2048.Idx → EReal) (x1 : S512x2048.Idx → EReal) (r : Fin 2048) (j : Fin 512) : (k3_pay1 (F := Ideal) x0 x1) (ix2 r j)
    = ∑ k : Fin 2048, x0 (ix2 r k) * x1 (ix2 j k) := by
  unfold_payloads
  pointwise
  try rfl

theorem pay4 (x0 : S2048x2048.Idx → EReal) (x1 : S2048x512.Idx → EReal) (r : Fin 2048) (j : Fin 512) : (k4_pay1 (F := Ideal) x0 x1) (ix2 r j)
    = ∑ k : Fin 2048, x0 (ix2 k r) * x1 (ix2 k j) := by
  unfold_payloads
  pointwise
  try rfl

theorem pay5 (x0 : S2048x2048.Idx → EReal) (x1 : S2048x512.Idx → EReal) (r : Fin 2048) (j : Fin 512) : (k5_pay1 (F := Ideal) x0 x1) (ix2 r j)
    = ∑ k : Fin 2048, x0 (ix2 k r) * x1 (ix2 k j) := by
  unfold_payloads
  pointwise
  try rfl

/-! ## The arrays the kernels leave -/

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0] :=
  (by decide +kernel : ∀ t : Fin grid0.N, _)
theorem idx1 : ∀ t : Fin cfg1.N, win1_0.index t = ![0, 0] ∧ win1_1.index t = ![0, t.val] ∧ win1_2.index t = ![0, t.val] :=
  (by decide +kernel : ∀ t : Fin grid1.N, _)
theorem idx2 : ∀ t : Fin cfg2.N, win2_0.index t = ![0, 0] ∧ win2_1.index t = ![0, t.val] ∧ win2_2.index t = ![0, t.val] ∧ win2_3.index t = ![0, t.val] :=
  (by decide +kernel : ∀ t : Fin grid2.N, _)
theorem idx3 : ∀ t : Fin cfg3.N, win3_0.index t = ![0, 0] ∧ win3_1.index t = ![t.val, 0] ∧ win3_2.index t = ![0, t.val] :=
  (by decide +kernel : ∀ t : Fin grid3.N, _)
theorem idx4 : ∀ t : Fin cfg4.N, win4_0.index t = ![0, 0] ∧ win4_1.index t = ![0, t.val] ∧ win4_2.index t = ![0, t.val] :=
  (by decide +kernel : ∀ t : Fin grid4.N, _)
theorem idx5 : ∀ t : Fin cfg5.N, win5_0.index t = ![0, 0] ∧ win5_1.index t = ![0, t.val] ∧ win5_2.index t = ![0, t.val] :=
  (by decide +kernel : ∀ t : Fin grid5.N, _)

/-- The norm: rows of the argument by their root mean squares, times the weight. -/
theorem tile0 (A : Args) (h0 : V c main_arg0 = fun i => A.h (i 0) (i 1)) (h1 : V c main_arg1 = fun i => A.g (i 1)) (t : Fin cfg0.N) (r : Fin 256) (j : Fin 2048)
    (hr : 256 * t.val + r.val < 2048) : k0_pay1 (F := Ideal) (iblk0 V c 0 t) (iblk0 V c 1 t) (ix2 r j) = Proj.u A ⟨256 * t.val + r.val, hr⟩ j := by
  have e0 : ∀ j : Fin 2048, iblk0 V c 0 t (ix2 r j) = A.h ⟨256 * t.val + r.val, hr⟩ j := by
    intro j
    have : iblk0 V c 0 t (ix2 r j) = V c main_arg0 (ix2 ⟨256 * t.val + r.val, hr⟩ j) := by
      blk_ext! [iblk0, idx0 t]
    rw [this, h0]
    rfl
  have e1 : ∀ j : Fin 2048, iblk0 V c 1 t (ix2 0 j) = A.g j := by
    intro j
    have : iblk0 V c 1 t (ix2 0 j) = V c main_arg1 (ix2 0 j) := by
      blk_ext! [iblk0, idx0 t]
    rw [this, h1]
    rfl
  rw [pay0]
  simp only [e0, e1]
  rfl

theorem reg0 (A : Args) (h0 : V c main_arg0 = fun i => A.h (i 0) (i 1)) (h1 : V c main_arg1 = fun i => A.g (i 1)) :
    (dat0 V c).arrAt 2 cfg0.N = fun i => Proj.u A (i 0) (i 1) := by
  refine (dat0 V c).arrAt_eq_of_covers 2 _ (by decide +kernel) fun t hf y => ?_
  blk_simp
  rw [after0_2]
  frame_out
  have ht : t.val < 8 := t.isLt
  have hy : (y 0).val < 256 := (y 0).isLt
  refine (congrArg _ (eta2 y)).trans ((tile0 V c A h0 h1 t (y 0) (y 1) (by omega)).trans ?_)
  refine congr (congrArg (Proj.u A) (Fin.ext ?_)) (Fin.ext ?_)
  · blk_simp [idx0 t]
    exact congrArg (· + (y 0).val) (Nat.mul_comm _ _)
  · blk_simp [idx0 t]

/-- The projection into the mixer: rows times the columns. -/
theorem tile1 (a : Fin 2048 → Fin 2048 → EReal) (w : Fin 2048 → Fin 5632 → EReal)
    (ha : V c main_v4 = fun i => a (i 0) (i 1)) (hb : V c main_v3 = fun i => w (i 0) (i 1)) (t : Fin cfg1.N) (r : Fin 2048) (j : Fin 512) (hj : 512 * t.val + j.val < 5632) :
    k1_pay1 (F := Ideal) (iblk1 V c 0 t) (iblk1 V c 1 t) (ix2 r j) = (∑ k : Fin 2048, a r k * w k ⟨512 * t.val + j.val, hj⟩) := by
  have e0 : ∀ k : Fin 2048, iblk1 V c 0 t (ix2 r k) = a r k := by
    intro k
    have : iblk1 V c 0 t (ix2 r k) = V c main_v4 (ix2 r k) := by
      blk_ext! [iblk1, idx1 t]
    rw [this, ha]
    rfl
  have e1 : ∀ k : Fin 2048, iblk1 V c 1 t (ix2 k j) = w k ⟨512 * t.val + j.val, hj⟩ := by
    intro k
    have : iblk1 V c 1 t (ix2 k j) = V c main_v3 (ix2 k ⟨512 * t.val + j.val, hj⟩) := by
      blk_ext! [iblk1, idx1 t]
    rw [this, hb]
    rfl
  rw [pay1]
  exact Finset.sum_congr rfl fun k _ => congrArg₂ (· * ·) (e0 k) (e1 k)

theorem reg1 (a : Fin 2048 → Fin 2048 → EReal) (w : Fin 2048 → Fin 5632 → EReal)
    (ha : V c main_v4 = fun i => a (i 0) (i 1)) (hb : V c main_v3 = fun i => w (i 0) (i 1)) :
    (dat1 V c).arrAt 2 cfg1.N = fun i => (∑ k : Fin 2048, a (i 0) k * w k (i 1)) := by
  refine (dat1 V c).arrAt_eq_of_covers 2 _ (by decide +kernel) fun t hf y => ?_
  blk_simp
  rw [after1_2]
  frame_out
  have ht : t.val < 11 := t.isLt
  have hy : (y 1).val < 512 := (y 1).isLt
  refine (congrArg _ (eta2 y)).trans ((tile1 V c a w ha hb t (y 0) (y 1) (by omega)).trans ?_)
  refine congrArg₂ (fun p q => (∑ k : Fin 2048, a p k * w k q)) (Fin.ext ?_) (Fin.ext ?_)
  · blk_simp [idx1 t]
  · blk_simp [idx1 t]
    exact congrArg (· + (y 1).val) (Nat.mul_comm _ _)

/-- The projection out, added onto the layer's input. -/
theorem tile2 (a : Fin 2048 → Fin 2048 → EReal) (w : Fin 2048 → Fin 2048 → EReal) (e : Fin 2048 → Fin 2048 → EReal)
    (ha : V c main_v6 = fun i => a (i 0) (i 1)) (hb : V c main_v7 = fun i => w (i 0) (i 1))
    (hr : V c main_arg0 = fun i => e (i 0) (i 1)) (t : Fin cfg2.N) (r : Fin 2048) (j : Fin 512) (hj : 512 * t.val + j.val < 2048) :
    k2_pay1 (F := Ideal) (iblk2 V c 0 t) (iblk2 V c 1 t) (iblk2 V c 2 t) (ix2 r j) = (∑ k : Fin 2048, a r k * w k ⟨512 * t.val + j.val, hj⟩) + e r ⟨512 * t.val + j.val, hj⟩ := by
  have e0 : ∀ k : Fin 2048, iblk2 V c 0 t (ix2 r k) = a r k := by
    intro k
    have : iblk2 V c 0 t (ix2 r k) = V c main_v6 (ix2 r k) := by
      blk_ext! [iblk2, idx2 t]
    rw [this, ha]
    rfl
  have e1 : ∀ k : Fin 2048, iblk2 V c 1 t (ix2 k j) = w k ⟨512 * t.val + j.val, hj⟩ := by
    intro k
    have : iblk2 V c 1 t (ix2 k j) = V c main_v7 (ix2 k ⟨512 * t.val + j.val, hj⟩) := by
      blk_ext! [iblk2, idx2 t]
    rw [this, hb]
    rfl
  have e2 : iblk2 V c 2 t (ix2 r j) = e r ⟨512 * t.val + j.val, hj⟩ := by
    have : iblk2 V c 2 t (ix2 r j) = V c main_arg0 (ix2 r ⟨512 * t.val + j.val, hj⟩) := by
      blk_ext! [iblk2, idx2 t]
    rw [this, hr]
    rfl
  rw [pay2]
  exact congrArg₂ (· + ·) (Finset.sum_congr rfl fun k _ => congrArg₂ (· * ·) (e0 k) (e1 k)) e2

theorem reg2 (a : Fin 2048 → Fin 2048 → EReal) (w : Fin 2048 → Fin 2048 → EReal) (e : Fin 2048 → Fin 2048 → EReal)
    (ha : V c main_v6 = fun i => a (i 0) (i 1)) (hb : V c main_v7 = fun i => w (i 0) (i 1))
    (hr : V c main_arg0 = fun i => e (i 0) (i 1)) :
    (dat2 V c).arrAt 3 cfg2.N = fun i => (∑ k : Fin 2048, a (i 0) k * w k (i 1)) + e (i 0) (i 1) := by
  refine (dat2 V c).arrAt_eq_of_covers 3 _ (by decide +kernel) fun t hf y => ?_
  blk_simp
  rw [after2_3]
  frame_out
  have ht : t.val < 4 := t.isLt
  have hy : (y 1).val < 512 := (y 1).isLt
  refine (congrArg _ (eta2 y)).trans ((tile2 V c a w e ha hb hr t (y 0) (y 1) (by omega)).trans ?_)
  refine congrArg₂ (fun p q => (∑ k : Fin 2048, a p k * w k q) + e p q) (Fin.ext ?_) (Fin.ext ?_)
  · blk_simp [idx2 t]
  · blk_simp [idx2 t]
    exact congrArg (· + (y 1).val) (Nat.mul_comm _ _)

/-- The cotangent of the mixer's output: the sum's cotangent times the weight's rows. -/
theorem tile3 (a : Fin 2048 → Fin 2048 → EReal) (w : Fin 2048 → Fin 2048 → EReal)
    (ha : V c main_v9 = fun i => a (i 0) (i 1)) (hb : V c main_v7 = fun i => w (i 0) (i 1)) (t : Fin cfg3.N) (r : Fin 2048) (j : Fin 512) (hj : 512 * t.val + j.val < 2048) :
    k3_pay1 (F := Ideal) (iblk3 V c 0 t) (iblk3 V c 1 t) (ix2 r j) = (∑ k : Fin 2048, a r k * w ⟨512 * t.val + j.val, hj⟩ k) := by
  have e0 : ∀ k : Fin 2048, iblk3 V c 0 t (ix2 r k) = a r k := by
    intro k
    have : iblk3 V c 0 t (ix2 r k) = V c main_v9 (ix2 r k) := by
      blk_ext! [iblk3, idx3 t]
    rw [this, ha]
    rfl
  have e1 : ∀ k : Fin 2048, iblk3 V c 1 t (ix2 j k) = w ⟨512 * t.val + j.val, hj⟩ k := by
    intro k
    have : iblk3 V c 1 t (ix2 j k) = V c main_v7 (ix2 ⟨512 * t.val + j.val, hj⟩ k) := by
      blk_ext! [iblk3, idx3 t]
    rw [this, hb]
    rfl
  rw [pay3]
  exact Finset.sum_congr rfl fun k _ => congrArg₂ (· * ·) (e0 k) (e1 k)

theorem reg3 (a : Fin 2048 → Fin 2048 → EReal) (w : Fin 2048 → Fin 2048 → EReal)
    (ha : V c main_v9 = fun i => a (i 0) (i 1)) (hb : V c main_v7 = fun i => w (i 0) (i 1)) :
    (dat3 V c).arrAt 2 cfg3.N = fun i => (∑ k : Fin 2048, a (i 0) k * w (i 1) k) := by
  refine (dat3 V c).arrAt_eq_of_covers 2 _ (by decide +kernel) fun t hf y => ?_
  blk_simp
  rw [after3_2]
  frame_out
  have ht : t.val < 4 := t.isLt
  have hy : (y 1).val < 512 := (y 1).isLt
  refine (congrArg _ (eta2 y)).trans ((tile3 V c a w ha hb t (y 0) (y 1) (by omega)).trans ?_)
  refine congrArg₂ (fun p q => (∑ k : Fin 2048, a p k * w q k)) (Fin.ext ?_) (Fin.ext ?_)
  · blk_simp [idx3 t]
  · blk_simp [idx3 t]
    exact congrArg (· + (y 1).val) (Nat.mul_comm _ _)

/-- The gradient of the projection out. -/
theorem tile4 (a : Fin 2048 → Fin 2048 → EReal) (w : Fin 2048 → Fin 2048 → EReal)
    (ha : V c main_v6 = fun i => a (i 0) (i 1)) (hb : V c main_v9 = fun i => w (i 0) (i 1)) (t : Fin cfg4.N) (r : Fin 2048) (j : Fin 512) (hj : 512 * t.val + j.val < 2048) :
    k4_pay1 (F := Ideal) (iblk4 V c 0 t) (iblk4 V c 1 t) (ix2 r j) = (∑ k : Fin 2048, a k r * w k ⟨512 * t.val + j.val, hj⟩) := by
  have e0 : ∀ k : Fin 2048, iblk4 V c 0 t (ix2 k r) = a k r := by
    intro k
    have : iblk4 V c 0 t (ix2 k r) = V c main_v6 (ix2 k r) := by
      blk_ext! [iblk4, idx4 t]
    rw [this, ha]
    rfl
  have e1 : ∀ k : Fin 2048, iblk4 V c 1 t (ix2 k j) = w k ⟨512 * t.val + j.val, hj⟩ := by
    intro k
    have : iblk4 V c 1 t (ix2 k j) = V c main_v9 (ix2 k ⟨512 * t.val + j.val, hj⟩) := by
      blk_ext! [iblk4, idx4 t]
    rw [this, hb]
    rfl
  rw [pay4]
  exact Finset.sum_congr rfl fun k _ => congrArg₂ (· * ·) (e0 k) (e1 k)

theorem reg4 (a : Fin 2048 → Fin 2048 → EReal) (w : Fin 2048 → Fin 2048 → EReal)
    (ha : V c main_v6 = fun i => a (i 0) (i 1)) (hb : V c main_v9 = fun i => w (i 0) (i 1)) :
    (dat4 V c).arrAt 2 cfg4.N = fun i => (∑ k : Fin 2048, a k (i 0) * w k (i 1)) := by
  refine (dat4 V c).arrAt_eq_of_covers 2 _ (by decide +kernel) fun t hf y => ?_
  blk_simp
  rw [after4_2]
  frame_out
  have ht : t.val < 4 := t.isLt
  have hy : (y 1).val < 512 := (y 1).isLt
  refine (congrArg _ (eta2 y)).trans ((tile4 V c a w ha hb t (y 0) (y 1) (by omega)).trans ?_)
  refine congrArg₂ (fun p q => (∑ k : Fin 2048, a k p * w k q)) (Fin.ext ?_) (Fin.ext ?_)
  · blk_simp [idx4 t]
  · blk_simp [idx4 t]
    exact congrArg (· + (y 1).val) (Nat.mul_comm _ _)

/-- The gradient of the projection into the mixer. -/
theorem tile5 (a : Fin 2048 → Fin 2048 → EReal) (w : Fin 2048 → Fin 5632 → EReal)
    (ha : V c main_v4 = fun i => a (i 0) (i 1)) (hb : V c main_v12 = fun i => w (i 0) (i 1)) (t : Fin cfg5.N) (r : Fin 2048) (j : Fin 512) (hj : 512 * t.val + j.val < 5632) :
    k5_pay1 (F := Ideal) (iblk5 V c 0 t) (iblk5 V c 1 t) (ix2 r j) = (∑ k : Fin 2048, a k r * w k ⟨512 * t.val + j.val, hj⟩) := by
  have e0 : ∀ k : Fin 2048, iblk5 V c 0 t (ix2 k r) = a k r := by
    intro k
    have : iblk5 V c 0 t (ix2 k r) = V c main_v4 (ix2 k r) := by
      blk_ext! [iblk5, idx5 t]
    rw [this, ha]
    rfl
  have e1 : ∀ k : Fin 2048, iblk5 V c 1 t (ix2 k j) = w k ⟨512 * t.val + j.val, hj⟩ := by
    intro k
    have : iblk5 V c 1 t (ix2 k j) = V c main_v12 (ix2 k ⟨512 * t.val + j.val, hj⟩) := by
      blk_ext! [iblk5, idx5 t]
    rw [this, hb]
    rfl
  rw [pay5]
  exact Finset.sum_congr rfl fun k _ => congrArg₂ (· * ·) (e0 k) (e1 k)

theorem reg5 (a : Fin 2048 → Fin 2048 → EReal) (w : Fin 2048 → Fin 5632 → EReal)
    (ha : V c main_v4 = fun i => a (i 0) (i 1)) (hb : V c main_v12 = fun i => w (i 0) (i 1)) :
    (dat5 V c).arrAt 2 cfg5.N = fun i => (∑ k : Fin 2048, a k (i 0) * w k (i 1)) := by
  refine (dat5 V c).arrAt_eq_of_covers 2 _ (by decide +kernel) fun t hf y => ?_
  blk_simp
  rw [after5_2]
  frame_out
  have ht : t.val < 11 := t.isLt
  have hy : (y 1).val < 512 := (y 1).isLt
  refine (congrArg _ (eta2 y)).trans ((tile5 V c a w ha hb t (y 0) (y 1) (by omega)).trans ?_)
  refine congrArg₂ (fun p q => (∑ k : Fin 2048, a k p * w k q)) (Fin.ext ?_) (Fin.ext ?_)
  · blk_simp [idx5 t]
  · blk_simp [idx5 t]
    exact congrArg (· + (y 1).val) (Nat.mul_comm _ _)

end Cert.ProjValue
-- ==== Proof.ProjRun.lean ====
/-
  The projections' run and what it leaves: every buffer that holds a tensor value ends at the fold of the host's operations and
  the six kernels' writes over the launch contents (`run_fold`), and there the six results are the formulas of ProjSpec.
-/
module
public import proofs.«01_k».proof.Proof.ProjK
@[expose] public section
set_option maxRecDepth 16384
noncomputable section
namespace Cert.ProjValue
open Cert.ProjKernelIdeal Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Cert.Proj (Args)
open Cert.Coord (eta2 row2)

section
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution ends with every tensor buffer at the fold. -/
theorem run_fold : θ_run defs (onTc (τ := τ) (main (F := F))) ⟨m, fun _ => 0, ρ⟩ (fun r => ∀ (c : Dev nD) (b : Ref sig .tc),
      (Proc.devRef .tc b : DevRef τ sig).isScoped = false → r.2.mem ((c.tc : Thread nD τ).loc b) = W11 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h _ c b hb => h c _ (mem_uc b (by rw [hb]; exact Bool.false_ne_true)))
end

variable (m : (ℓ : Loc nD τ sig) → Buf (Elt Ideal) ℓ) (ρ : Dev nD → PrngReg) (c : Dev nD)

/-- The launch's arguments by coordinates. -/
def args : Args where
  h t k := m ((c.tc : Thread nD τ).loc main_arg0) (ix2 t k)
  g k := m ((c.tc : Thread nD τ).loc main_arg1) (ix2 0 k)
  win k n := m ((c.tc : Thread nD τ).loc main_arg2) (ix2 k n)
  wv k n := m ((c.tc : Thread nD τ).loc main_arg3) (ix2 k n)
  dz t n := m ((c.tc : Thread nD τ).loc main_arg4) (ix2 t n)
  cat t j := m ((c.tc : Thread nD τ).loc main_arg5) (ix2 t j)
  wo j k := m ((c.tc : Thread nD τ).loc main_arg6) (ix2 j k)
  dh t k := m ((c.tc : Thread nD τ).loc main_arg7) (ix2 t k)

/-! ## What each step leaves -/

theorem w1_v3 : V1 m ρ c main_v3 = fun i => Proj.wcat (args m c) (i 0) (i 1) := by
  have e : V1 m ρ c main_v3 = concatenate S2048x5632 1 [⟨S2048x5408, (truncf .bf16 (W0 m ρ c (Proc.devRef .tc main_arg2)) bitsLt_bf16_f32 : FVec Ideal S2048x5408 .bf16)⟩, ⟨S2048x32, (truncf .bf16 (W0 m ρ c (Proc.devRef .tc main_arg3)) bitsLt_bf16_f32 : FVec Ideal S2048x32 .bf16)⟩,
      ⟨S2048x192, (broadcastInDim S2048x192 ![] bcast_S_S2048x192 (constant S_ .bf16 0x0000#16) : FVec Ideal S2048x192 .bf16)⟩] concatenates_S2048x5408_S2048x32_S2048x192_S2048x5632_d1 := by
    show after hostOps0 (W0 m ρ c) (Proc.devRef .tc main_v3) = _
    after_results
    try rfl
  rw [e]
  funext i
  rw [eta2 i]
  pointwise
  try rfl
theorem w2_v4 : V2 m ρ c main_v4 = fun i => Proj.u (args m c) (i 0) (i 1) :=
  (W2_arr m ρ c 2).trans (reg0 (V1 m ρ) c (args m c)
    ((W1_args m ρ c main_arg0 (by decide)).trans (funext fun i => congrArg (m ((c.tc : Thread nD τ).loc main_arg0)) (eta2 i)))
    ((W1_args m ρ c main_arg1 (by decide)).trans (funext fun i => congrArg (m ((c.tc : Thread nD τ).loc main_arg1)) (row2 i))))
theorem w3_v5 : V3 m ρ c main_v5 = fun i => Proj.z (args m c) (i 0) (i 1) :=
  (W3_arr m ρ c 2).trans (reg1 (V2 m ρ) c (Proj.u (args m c)) (Proj.wcat (args m c)) (w2_v4 m ρ c) ((W2_of m ρ c main_v3 (by decide)).trans (w1_v3 m ρ c)))
theorem w4_v6 : V4 m ρ c main_v6 = fun i => (args m c).cat (i 0) (i 1) := by
  have e : V4 m ρ c main_v6 = (truncf .bf16 (W3 m ρ c (Proc.devRef .tc main_arg5)) bitsLt_bf16_f32 : FVec Ideal S2048x2048 .bf16) := by
    show after hostOps2 (W3 m ρ c) (Proc.devRef .tc main_v6) = _
    after_results
    try rfl
  rw [e, W3_args m ρ c main_arg5 (by decide)]
  exact funext fun i => congrArg (m ((c.tc : Thread nD τ).loc main_arg5)) (eta2 i)
theorem w4_v7 : V4 m ρ c main_v7 = fun i => (args m c).wo (i 0) (i 1) := by
  have e : V4 m ρ c main_v7 = (truncf .bf16 (W3 m ρ c (Proc.devRef .tc main_arg6)) bitsLt_bf16_f32 : FVec Ideal S2048x2048 .bf16) := by
    show after hostOps2 (W3 m ρ c) (Proc.devRef .tc main_v7) = _
    after_results
    try rfl
  rw [e, W3_args m ρ c main_arg6 (by decide)]
  exact funext fun i => congrArg (m ((c.tc : Thread nD τ).loc main_arg6)) (eta2 i)
theorem w5_v8 : V5 m ρ c main_v8 = fun i => Proj.out (args m c) (i 0) (i 1) :=
  (W5_arr m ρ c 3).trans (reg2 (V4 m ρ) c (args m c).cat (args m c).wo (args m c).h (w4_v6 m ρ c) (w4_v7 m ρ c)
    ((W4_args m ρ c main_arg0 (by decide)).trans (funext fun i => congrArg (m ((c.tc : Thread nD τ).loc main_arg0)) (eta2 i))))
theorem w6_v9 : V6 m ρ c main_v9 = fun i => (args m c).dh (i 0) (i 1) := by
  have e : V6 m ρ c main_v9 = (truncf .bf16 (W5 m ρ c (Proc.devRef .tc main_arg7)) bitsLt_bf16_f32 : FVec Ideal S2048x2048 .bf16) := by
    show after hostOps3 (W5 m ρ c) (Proc.devRef .tc main_v9) = _
    after_results
    try rfl
  rw [e, W5_args m ρ c main_arg7 (by decide)]
  exact funext fun i => congrArg (m ((c.tc : Thread nD τ).loc main_arg7)) (eta2 i)
theorem w7_v10 : V7 m ρ c main_v10 = fun i => Proj.dcat (args m c) (i 0) (i 1) :=
  (W7_arr m ρ c 2).trans (reg3 (V6 m ρ) c (args m c).dh (args m c).wo (w6_v9 m ρ c) ((W6_of m ρ c main_v7 (by decide)).trans ((W5_of m ρ c main_v7 (by decide)).trans (w4_v7 m ρ c))))
theorem w8_v11 : V8 m ρ c main_v11 = fun i => Proj.dO (args m c) (i 0) (i 1) :=
  (W8_arr m ρ c 2).trans (reg4 (V7 m ρ) c (args m c).cat (args m c).dh ((W7_of m ρ c main_v6 (by decide)).trans ((W6_of m ρ c main_v6 (by decide)).trans ((W5_of m ρ c main_v6 (by decide)).trans (w4_v6 m ρ c))))
    ((W7_of m ρ c main_v9 (by decide)).trans (w6_v9 m ρ c)))
theorem w9_v12 : V9 m ρ c main_v12 = fun i => (args m c).dz (i 0) (i 1) := by
  have e : V9 m ρ c main_v12 = (truncf .bf16 (W8 m ρ c (Proc.devRef .tc main_arg4)) bitsLt_bf16_f32 : FVec Ideal S2048x5632 .bf16) := by
    show after hostOps5 (W8 m ρ c) (Proc.devRef .tc main_v12) = _
    after_results
    try rfl
  rw [e, W8_args m ρ c main_arg4 (by decide)]
  exact funext fun i => congrArg (m ((c.tc : Thread nD τ).loc main_arg4)) (eta2 i)
theorem w10_v13 : V10 m ρ c main_v13 = fun i => Proj.dIn (args m c) (i 0) (i 1) :=
  (W10_arr m ρ c 2).trans (reg5 (V9 m ρ) c (Proj.u (args m c)) (args m c).dz
    ((W9_of m ρ c main_v4 (by decide)).trans ((W8_of m ρ c main_v4 (by decide)).trans ((W7_of m ρ c main_v4 (by decide)).trans ((W6_of m ρ c main_v4 (by decide)).trans ((W5_of m ρ c main_v4 (by decide)).trans ((W4_of m ρ c main_v4 (by decide)).trans ((W3_of m ρ c main_v4 (by decide)).trans (w2_v4 m ρ c)))))))) (w9_v12 m ρ c))

/-! ## The six results -/

theorem out_z : W11 m ρ c (Proc.devRef .tc main_v5) = fun i => Proj.z (args m c) (i 0) (i 1) :=
  (W11_of m ρ c main_v5 (by decide)).trans ((W10_of m ρ c main_v5 (by decide)).trans ((W9_of m ρ c main_v5 (by decide)).trans ((W8_of m ρ c main_v5 (by decide)).trans ((W7_of m ρ c main_v5 (by decide)).trans ((W6_of m ρ c main_v5 (by decide)).trans ((W5_of m ρ c main_v5 (by decide)).trans ((W4_of m ρ c main_v5 (by decide)).trans (w3_v5 m ρ c))))))))
theorem out_sum : W11 m ρ c (Proc.devRef .tc main_v8) = fun i => Proj.out (args m c) (i 0) (i 1) :=
  (W11_of m ρ c main_v8 (by decide)).trans ((W10_of m ρ c main_v8 (by decide)).trans ((W9_of m ρ c main_v8 (by decide)).trans ((W8_of m ρ c main_v8 (by decide)).trans ((W7_of m ρ c main_v8 (by decide)).trans ((W6_of m ρ c main_v8 (by decide)).trans (w5_v8 m ρ c))))))
theorem out_dcat : W11 m ρ c (Proc.devRef .tc main_v10) = fun i => Proj.dcat (args m c) (i 0) (i 1) :=
  (W11_of m ρ c main_v10 (by decide)).trans ((W10_of m ρ c main_v10 (by decide)).trans ((W9_of m ρ c main_v10 (by decide)).trans ((W8_of m ρ c main_v10 (by decide)).trans (w7_v10 m ρ c))))
theorem out_dO : W11 m ρ c (Proc.devRef .tc main_v11) = fun i => Proj.dO (args m c) (i 0) (i 1) :=
  (W11_of m ρ c main_v11 (by decide)).trans ((W10_of m ρ c main_v11 (by decide)).trans ((W9_of m ρ c main_v11 (by decide)).trans (w8_v11 m ρ c)))
theorem out_dIn : W11 m ρ c (Proc.devRef .tc main_v14) = fun i => Proj.dIn (args m c) (i 0) ⟨(i 1).val, lt_of_lt_of_le (i 1).isLt (by decide)⟩ := by
  have e : W11 m ρ c (Proc.devRef .tc main_v14) = (extractStridedSlice S2048x5408 ![0, 0] (W10 m ρ c (Proc.devRef .tc main_v13) : FVec Ideal S2048x5632 .f32) slices_S2048x5632_S2048x5408_0_0 : FVec Ideal S2048x5408 .f32) := by
    show after hostOps6 (W10 m ρ c) (Proc.devRef .tc main_v14) = _
    after_results
    try rfl
  rw [e, show W10 m ρ c (Proc.devRef .tc main_v13) = _ from w10_v13 m ρ c]
  funext i
  rw [eta2 i]
  pointwise
  try rfl
theorem out_dV : W11 m ρ c (Proc.devRef .tc main_v15) = fun i => Proj.dIn (args m c) (i 0) ⟨5408 + (i 1).val, lt_of_lt_of_le (Nat.add_lt_add_left (i 1).isLt 5408) (by decide)⟩ := by
  have e : W11 m ρ c (Proc.devRef .tc main_v15) = (extractStridedSlice S2048x32 ![0, 5408] (W10 m ρ c (Proc.devRef .tc main_v13) : FVec Ideal S2048x5632 .f32) slices_S2048x5632_S2048x32_0_5408 : FVec Ideal S2048x32 .f32) := by
    show after hostOps6 (W10 m ρ c) (Proc.devRef .tc main_v15) = _
    after_results
    try rfl
  rw [e, show W10 m ρ c (Proc.devRef .tc main_v13) = _ from w10_v13 m ρ c]
  funext i
  rw [eta2 i]
  pointwise
  try rfl
end Cert.ProjValue
-- ==== Proof.ProjRef.lean ====
/- The projections' reference: its results in the formulas of ProjSpec, from arrays of the launch. -/
module
public import proofs.«01_k».proof.Proof.ProjSpec
public import proofs.«01_k».proof.Proof.Gen.ProjReferenceIdeal.Run
public import Idealize.ShloMosaic.Lib.ValueIdx
public import Idealize.ShloMosaic.Lib.Pointwise
public import Idealize.ShloMosaic.Lib.WordCmp
@[expose] public section
set_option maxRecDepth 16384
noncomputable section
namespace Cert.ProjRef
open Cert.ProjReferenceIdeal Cert.ProjReferenceIdeal.Gen Cert.ProjReferenceIdeal.Value
open Idealize.ShloMosaic Idealize.ShloMosaic.TcCoe Idealize.ShloMosaic.Tactic
open Idealize.ShloMosaic.StableHlo
open Cert.Proj (Args)

variable (x0 : FVec Ideal S2048x2048 .f32) (x1 : FVec Ideal S1x2048 .f32) (x2 : FVec Ideal S2048x5408 .f32) (x3 : FVec Ideal S2048x32 .f32) (x4 : FVec Ideal S2048x5632 .f32) (x5 : FVec Ideal S2048x2048 .f32) (x6 : FVec Ideal S2048x2048 .f32) (x7 : FVec Ideal S2048x2048 .f32)

/-- The arguments by coordinates. -/
def argsOf : Args where
  h t k := x0 (ix2 t k)
  g k := x1 (ix2 0 k)
  win k n := x2 (ix2 k n)
  wv k n := x3 (ix2 k n)
  dz t n := x4 (ix2 t n)
  cat t j := x5 (ix2 t j)
  wo j k := x6 (ix2 j k)
  dh t k := x7 (ix2 t k)
local notation "𝔸" => argsOf x0 x1 x2 x3 x4 x5 x6 x7

/-- The normed rows. -/
def normed : FVec Ideal S2048x2048 .f32 := (mulf (mulf x0 (broadcastInDim S2048x2048 ![0, 1] bcast_S2048x1_S2048x2048_0_1 (Host.rsqrt (addf (Host.divf (broadcastInDim S2048x1 ![0] bcast_S2048_S2048x1_0 (Host.reduceAdd (mulf x0 x0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 x1))
theorem normed_at (t k : Fin 2048) : normed x0 x1 (ix2 t k) = Proj.u 𝔸 t k := by
  unfold normed
  pointwise
  try rfl

theorem z_at (t : Fin 2048) (n : Fin 5632) : (concatenate S2048x5632 1 [⟨S2048x5440, (Host.dotGeneral dot_S2048x2048_S2048x5440_S2048x5440_1_0_0_1_n_n none (normed x0 x1) (concatenate S2048x5440 1 [⟨S2048x5408, x2⟩, ⟨S2048x32, x3⟩] concatenates_S2048x5408_S2048x32_S2048x5440_d1))⟩, ⟨S2048x192, (broadcastInDim S2048x192 ![] bcast_S_S2048x192 (constant S_ .f32 0x00000000#32))⟩] concatenates_S2048x5440_S2048x192_S2048x5632_d1 : FVec Ideal S2048x5632 .f32) (ix2 t n) = Proj.z 𝔸 t n := by
  pointwise
  simp only [normed_at x0 x1 x2 x3 x4 x5 x6 x7]
  unfold Proj.z Proj.wcat
  by_cases h : n.val < 5440
  · refine (dif_pos h).trans (Finset.sum_congr rfl fun k _ => congrArg (Proj.u 𝔸 t k * ·) ?_)
    by_cases h' : n.val < 5408
    · rw [dif_pos h', dif_pos h']
      rfl
    · rw [dif_neg h', dif_neg h', dif_pos (by omega)]
      rfl
  · refine (dif_neg h).trans (Eq.trans ?_ (Finset.sum_eq_zero fun k _ => by rw [dif_neg (by omega), dif_neg (by omega), mul_zero]).symm)
    try rfl

theorem out_at (t k : Fin 2048) : (addf x0 (Host.dotGeneral dot_S2048x2048_S2048x2048_S2048x2048_1_0_0_1_n_n none x5 x6) : FVec Ideal S2048x2048 .f32) (ix2 t k) = Proj.out 𝔸 t k := by
  unfold Proj.out
  rw [add_comm]
  pointwise
  try rfl

theorem dcat_at (t k : Fin 2048) : (Host.dotGeneral dot_S2048x2048_S2048x2048_S2048x2048_1_1_0_0_n_n none x7 x6 : FVec Ideal S2048x2048 .f32) (ix2 t k) = Proj.dcat 𝔸 t k := by
  pointwise
  try rfl

theorem dO_at (t k : Fin 2048) : (transpose S2048x2048 [1, 0] (Host.dotGeneral dot_S2048x2048_S2048x2048_S2048x2048_0_0_1_1_n_n none x7 x5) transposes_S2048x2048_S2048x2048_1_0 : FVec Ideal S2048x2048 .f32) (ix2 t k) = Proj.dO 𝔸 t k := by
  pointwise
  exact Finset.sum_congr rfl fun l _ => mul_comm _ _

theorem dIn_at (k : Fin 2048) (n : Fin 5408) : (extractStridedSlice S2048x5408 ![0, 0] (transpose S2048x5440 [1, 0] (Host.dotGeneral dot_S2048x5440_S2048x2048_S5440x2048_0_0_1_1_n_n none (extractStridedSlice S2048x5440 ![0, 0] x4 slices_S2048x5632_S2048x5440_0_0) (normed x0 x1)) transposes_S5440x2048_S2048x5440_1_0) slices_S2048x5440_S2048x5408_0_0 : FVec Ideal S2048x5408 .f32) (ix2 k n)
    = Proj.dIn 𝔸 k ⟨n.val, lt_of_lt_of_le n.isLt (by decide)⟩ := by
  pointwise
  simp only [normed_at x0 x1 x2 x3 x4 x5 x6 x7]
  exact Finset.sum_congr rfl fun l _ => (mul_comm _ _).trans (congrArg (_ * ·) (congrArg x4 (congrArg (ix2 l) (Fin.ext (by first | rfl | simp)))))

theorem dV_at (k : Fin 2048) (n : Fin 32) : (extractStridedSlice S2048x32 ![0, 5408] (transpose S2048x5440 [1, 0] (Host.dotGeneral dot_S2048x5440_S2048x2048_S5440x2048_0_0_1_1_n_n none (extractStridedSlice S2048x5440 ![0, 0] x4 slices_S2048x5632_S2048x5440_0_0) (normed x0 x1)) transposes_S5440x2048_S2048x5440_1_0) slices_S2048x5440_S2048x32_0_5408 : FVec Ideal S2048x32 .f32) (ix2 k n)
    = Proj.dIn 𝔸 k ⟨5408 + n.val, lt_of_lt_of_le (Nat.add_lt_add_left n.isLt 5408) (by decide)⟩ := by
  pointwise
  simp only [normed_at x0 x1 x2 x3 x4 x5 x6 x7]
  exact Finset.sum_congr rfl fun l _ => (mul_comm _ _).trans (congrArg (_ * ·) (congrArg x4 (congrArg (ix2 l) (Fin.ext (by first | rfl | simp)))))
end Cert.ProjRef
end
-- ==== Proof.ProjMain.lean ====
/- The projections' frame of the reference and their algebraic claim. -/
module
public import proofs.«01_k».proof.Defs
public import proofs.«01_k».proof.Proof.ProjRun
public import proofs.«01_k».proof.Proof.ProjRef
public import Idealize.ShloMosaic.Adequacy
@[expose] public section
noncomputable section
namespace Cert.ProjMain
open Idealize.ShloMosaic Idealize.ShloMosaic.TcCoe Idealize.SL.Sem Idealize.ShloMosaic.StableHlo
open Cert.Coord (eta2)

/-- The reference ends with its arguments as launched and every counter at zero. -/
theorem ref_frame (m : (ℓ : Loc Cert.ProjReferenceIdeal.nD Cert.ProjReferenceIdeal.τ Cert.ProjReferenceIdeal.sig) → Buf (Elt Ideal) ℓ) (g : Dev Cert.ProjReferenceIdeal.nD → PrngReg) :
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0) :=
  (θ_run Cert.ProjReferenceIdeal.defs _ _).mono (fun r h => ⟨fun c => (h c).2.2.2.2.2.2, sem_eq_zero_of_no_sems (by decide) r.2⟩) (Cert.ProjReferenceIdeal.Value.run m g)

/-- From agreeing arguments the kernel and the reference end with the same projections, sum and gradients. -/
theorem algebraic : Cert.algebraic_ProjKernelIdeal_ProjReferenceIdeal (hProjKernelIdeal := Cert.ProjKernelIdeal.Gen.facts) (hProjReferenceIdeal := Cert.ProjReferenceIdeal.Gen.facts) := by
  intro m g m' g' _ hag
  refine ⟨fun c => Cert.ProjKernelIdeal.Gen.W11 m g c (Proc.devRef .tc Cert.ProjKernelIdeal.main_v5), fun c => Cert.ProjKernelIdeal.Gen.W11 m g c (Proc.devRef .tc Cert.ProjKernelIdeal.main_v8), fun c => Cert.ProjKernelIdeal.Gen.W11 m g c (Proc.devRef .tc Cert.ProjKernelIdeal.main_v10), fun c => Cert.ProjKernelIdeal.Gen.W11 m g c (Proc.devRef .tc Cert.ProjKernelIdeal.main_v11), fun c => Cert.ProjKernelIdeal.Gen.W11 m g c (Proc.devRef .tc Cert.ProjKernelIdeal.main_v14), fun c => Cert.ProjKernelIdeal.Gen.W11 m g c (Proc.devRef .tc Cert.ProjKernelIdeal.main_v15), ?_, ?_⟩
  · exact (θ_run Cert.ProjKernelIdeal.defs _ _).mono (fun _ h c =>
      ⟨h c Cert.ProjKernelIdeal.main_v5 rfl,
       h c Cert.ProjKernelIdeal.main_v8 rfl,
       h c Cert.ProjKernelIdeal.main_v10 rfl,
       h c Cert.ProjKernelIdeal.main_v11 rfl,
       h c Cert.ProjKernelIdeal.main_v14 rfl,
       h c Cert.ProjKernelIdeal.main_v15 rfl,
       (h c Cert.ProjKernelIdeal.main_arg0 rfl).trans (Cert.ProjKernelIdeal.Gen.W11_main_arg0 m g c),
       (h c Cert.ProjKernelIdeal.main_arg1 rfl).trans (Cert.ProjKernelIdeal.Gen.W11_main_arg1 m g c),
       (h c Cert.ProjKernelIdeal.main_arg2 rfl).trans (Cert.ProjKernelIdeal.Gen.W11_main_arg2 m g c),
       (h c Cert.ProjKernelIdeal.main_arg3 rfl).trans (Cert.ProjKernelIdeal.Gen.W11_main_arg3 m g c),
       (h c Cert.ProjKernelIdeal.main_arg4 rfl).trans (Cert.ProjKernelIdeal.Gen.W11_main_arg4 m g c),
       (h c Cert.ProjKernelIdeal.main_arg5 rfl).trans (Cert.ProjKernelIdeal.Gen.W11_main_arg5 m g c),
       (h c Cert.ProjKernelIdeal.main_arg6 rfl).trans (Cert.ProjKernelIdeal.Gen.W11_main_arg6 m g c),
       (h c Cert.ProjKernelIdeal.main_arg7 rfl).trans (Cert.ProjKernelIdeal.Gen.W11_main_arg7 m g c)⟩) (Cert.ProjValue.run_fold m g)
  · refine (θ_run Cert.ProjReferenceIdeal.defs _ _).mono (fun _ h c =>
      ⟨(h c).1.trans (Eq.trans ?_ (Cert.ProjValue.out_z m g c).symm),
       (h c).2.1.trans (Eq.trans ?_ (Cert.ProjValue.out_sum m g c).symm),
       (h c).2.2.1.trans (Eq.trans ?_ (Cert.ProjValue.out_dcat m g c).symm),
       (h c).2.2.2.1.trans (Eq.trans ?_ (Cert.ProjValue.out_dO m g c).symm),
       (h c).2.2.2.2.1.trans (Eq.trans ?_ (Cert.ProjValue.out_dIn m g c).symm),
       (h c).2.2.2.2.2.1.trans (Eq.trans ?_ (Cert.ProjValue.out_dV m g c).symm),
       (h c).2.2.2.2.2.2⟩) (Cert.ProjReferenceIdeal.Value.run m' g')
    · rw [(hag c).1, (hag c).2.1, (hag c).2.2.1, (hag c).2.2.2.1]
      exact funext fun i => (congrArg _ (eta2 i)).trans (Cert.ProjRef.z_at (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4)) (m ((c.tc : Thread Cert.ProjKernelIdeal.nD Cert.ProjKernelIdeal.τ).loc Cert.ProjKernelIdeal.main_arg5)) (m ((c.tc : Thread Cert.ProjKernelIdeal.nD Cert.ProjKernelIdeal.τ).loc Cert.ProjKernelIdeal.main_arg6)) (m ((c.tc : Thread Cert.ProjKernelIdeal.nD Cert.ProjKernelIdeal.τ).loc Cert.ProjKernelIdeal.main_arg7)) (i 0) (i 1))
    · rw [(hag c).1, (hag c).2.2.2.2.2.1, (hag c).2.2.2.2.2.2.1]
      exact funext fun i => (congrArg _ (eta2 i)).trans (Cert.ProjRef.out_at (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4)) (m ((c.tc : Thread Cert.ProjKernelIdeal.nD Cert.ProjKernelIdeal.τ).loc Cert.ProjKernelIdeal.main_arg5)) (m ((c.tc : Thread Cert.ProjKernelIdeal.nD Cert.ProjKernelIdeal.τ).loc Cert.ProjKernelIdeal.main_arg6)) (m ((c.tc : Thread Cert.ProjKernelIdeal.nD Cert.ProjKernelIdeal.τ).loc Cert.ProjKernelIdeal.main_arg7)) (i 0) (i 1))
    · rw [(hag c).2.2.2.2.2.2.1, (hag c).2.2.2.2.2.2.2]
      exact funext fun i => (congrArg _ (eta2 i)).trans (Cert.ProjRef.dcat_at (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4)) (m ((c.tc : Thread Cert.ProjKernelIdeal.nD Cert.ProjKernelIdeal.τ).loc Cert.ProjKernelIdeal.main_arg5)) (m ((c.tc : Thread Cert.ProjKernelIdeal.nD Cert.ProjKernelIdeal.τ).loc Cert.ProjKernelIdeal.main_arg6)) (m ((c.tc : Thread Cert.ProjKernelIdeal.nD Cert.ProjKernelIdeal.τ).loc Cert.ProjKernelIdeal.main_arg7)) (i 0) (i 1))
    · rw [(hag c).2.2.2.2.2.1, (hag c).2.2.2.2.2.2.2]
      exact funext fun i => (congrArg _ (eta2 i)).trans (Cert.ProjRef.dO_at (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4)) (m ((c.tc : Thread Cert.ProjKernelIdeal.nD Cert.ProjKernelIdeal.τ).loc Cert.ProjKernelIdeal.main_arg5)) (m ((c.tc : Thread Cert.ProjKernelIdeal.nD Cert.ProjKernelIdeal.τ).loc Cert.ProjKernelIdeal.main_arg6)) (m ((c.tc : Thread Cert.ProjKernelIdeal.nD Cert.ProjKernelIdeal.τ).loc Cert.ProjKernelIdeal.main_arg7)) (i 0) (i 1))
    · rw [(hag c).1, (hag c).2.1, (hag c).2.2.2.2.1]
      exact funext fun i => (congrArg _ (eta2 i)).trans (Cert.ProjRef.dIn_at (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4)) (m ((c.tc : Thread Cert.ProjKernelIdeal.nD Cert.ProjKernelIdeal.τ).loc Cert.ProjKernelIdeal.main_arg5)) (m ((c.tc : Thread Cert.ProjKernelIdeal.nD Cert.ProjKernelIdeal.τ).loc Cert.ProjKernelIdeal.main_arg6)) (m ((c.tc : Thread Cert.ProjKernelIdeal.nD Cert.ProjKernelIdeal.τ).loc Cert.ProjKernelIdeal.main_arg7)) (i 0) (i 1))
    · rw [(hag c).1, (hag c).2.1, (hag c).2.2.2.2.1]
      exact funext fun i => (congrArg _ (eta2 i)).trans (Cert.ProjRef.dV_at (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4)) (m ((c.tc : Thread Cert.ProjKernelIdeal.nD Cert.ProjKernelIdeal.τ).loc Cert.ProjKernelIdeal.main_arg5)) (m ((c.tc : Thread Cert.ProjKernelIdeal.nD Cert.ProjKernelIdeal.τ).loc Cert.ProjKernelIdeal.main_arg6)) (m ((c.tc : Thread Cert.ProjKernelIdeal.nD Cert.ProjKernelIdeal.τ).loc Cert.ProjKernelIdeal.main_arg7)) (i 0) (i 1))
end Cert.ProjMain
end
-- ==== Proof.GateDxK.lean ====
/- The gate branch's cotangent times the weight's rows: the contracted axis walked in 4 parts, added up in a buffer the kernel keeps between its points.
   What the kernel leaves, in a formula. -/
module
public import proofs.«01_k».proof.Proof.Coord
public import proofs.«01_k».proof.Proof.Gen.GateDxKernelIdeal.Value
public import Idealize.ShloMosaic.Lib.ValueIdx
public import Idealize.ShloMosaic.Lib.Pointwise
public import Idealize.ShloMosaic.Lib.WordCmp
public import Idealize.ShloMosaic.Lib.Pipeline.ValueKit
@[expose] public section
set_option maxRecDepth 16384
noncomputable section
namespace Cert.GateDxValue
open Cert.GateDxKernelIdeal Cert.GateDxKernelIdeal.Gen
open Idealize.ShloMosaic Idealize.ShloMosaic.TcCoe Idealize.ShloMosaic.Tactic
open Idealize.ShloMosaic.StableHlo
open Cert.Coord (eta2 row2 eta3)

/-- Shard `s`'s lane `l` is column `1536 s + l`. -/
def col (s : Fin 4) (l : Fin 1536) : Fin 6144 := ⟨1536 * s.val + l.val, by omega⟩

theorem pay2 (x0 : S2048x1536.Idx → EReal) (x1 : S1x512x1536.Idx → EReal) (r : Fin 2048) (j : Fin 512) : (k0_pay2 (F := Ideal) x0 x1) (ix2 r j)
    = ∑ k : Fin 1536, x0 (ix2 r k) * x1 (ix3 0 j k) := by
  unfold_payloads
  pointwise
  try rfl
theorem pay3_at (x0 : S2048x1536.Idx → EReal) (x1 : S1x512x1536.Idx → EReal) (x2 : S2048x512.Idx → EReal) (r : Fin 2048) (j : Fin 512) : (k0_pay3 (F := Ideal) x0 x1 x2) (ix2 r j)
    = x2 (ix2 r j) + ∑ k : Fin 1536, x0 (ix2 r k) * x1 (ix3 0 j k) := by
  unfold_payloads
  pointwise
  try rfl
theorem pay3 (x0 : S2048x1536.Idx → EReal) (x1 : S1x512x1536.Idx → EReal) (x2 : S2048x512.Idx → EReal) (y : S2048x512.Idx) : (k0_pay3 (F := Ideal) x0 x1 x2) y
    = x2 y + k0_pay2 (F := Ideal) x0 x1 y := by
  refine (congrArg _ (eta2 y)).trans ((pay3_at _ _ _ _ _).trans ?_)
  exact congrArg₂ (· + ·) (congrArg x2 (eta2 y).symm) ((pay2 _ _ _ _).symm.trans (congrArg _ (eta2 y).symm))

variable (m : (ℓ : Loc nD τ sig) → Buf (Elt Ideal) ℓ) (c : Dev nD)

theorem idx : ∀ t : Fin cfg0.N, win0_0.index t = ![0, t.val % 4] ∧ win0_1.index t = ![t.val % 4, t.val / 4, 0] ∧ win0_2.index t = ![0, t.val / 4] :=
  (by decide +kernel : ∀ t : Fin grid0.N, _)

/-- What a point adds to the accumulator, the accumulator after a run's first point and after a later one, and what the run's
    last point writes. -/
def part (t : Fin cfg0.N) : FVec Ideal S2048x512 .f32 := k0_pay2 (F := Ideal) (iblk m c 0 t) (iblk m c 1 t)

theorem first (t : Fin cfg0.N) (h : t.val % 4 = 0) (y : S2048x512.Idx) : (outsAt0 m c t.val t.isLt).2 y = 0 + part m c t y := by
  rw [outsAt0_A m c t h (by omega) (by omega), zero_add]
  frame_out
  rfl

theorem step (t : Fin cfg0.N) (h : ¬t.val % 4 = 0) (y : S2048x512.Idx) :
    (outsAt0 m c t.val t.isLt).2 y = (outsAt0 m c (t.val - 1) (Nat.lt_of_le_of_lt (Nat.sub_le _ _) t.isLt)).2 y + part m c t y := by
  by_cases h2 : t.val % 4 = 3
  · rw [outsAt0_C m c t h (by omega) h2]
    frame_out
    rw [pay3]
    exact congrArg (· + _) (congrFun (Memref.IsWhole.read_unread (m := Memref.whole cc0_scratch0) _ _) y)
  · rw [outsAt0_B m c t h (by omega) h2]
    frame_out
    rw [pay3]
    exact congrArg (· + _) (congrFun (Memref.IsWhole.read_unread (m := Memref.whole cc0_scratch0) _ _) y)

theorem last (t : Fin cfg0.N) (h : t.val % 4 = 3) (y : S2048x512.Idx) : (outsAt0 m c t.val t.isLt).1 y = (outsAt0 m c t.val t.isLt).2 y := by
  rw [outsAt0_C m c t (by omega) (by omega) h]
  frame_out
  try rfl

theorem acc (t : Fin cfg0.N) (h : t.val % 4 = 3) (y : S2048x512.Idx) : (outsAt0 m c t.val t.isLt).1 y
    = (∑ s : Fin 4, part m c ⟨4 * (t.val / 4) + s.val, Pipeline.run_point_lt_of_flush t h s⟩ y) := by
  rw [last m c t h y, Pipeline.eq_sum_fin_of_reset_step_apply_of_flush (fun n h => (outsAt0 m c n h).2) 4 (fun _ => 0) (part m c) (first m c) (step m c) t h y, zero_add]

theorem tile (a : Fin 2048 → Fin 6144 → EReal) (w : Fin 2048 → Fin 6144 → EReal) (ha : V m c main_v0 = fun i => a (i 0) (i 1)) (hb : V m c main_v3 = fun i => w (i 1) (col (i 0) (i 2)))
    (t : Fin cfg0.N) (h : t.val % 4 = 3) (r : Fin 2048) (j : Fin 512) (hj : 512 * (t.val / 4) + j.val < 2048) :
    (outsAt0 m c t.val t.isLt).1 (ix2 r j) = (∑ l : Fin 6144, a r l * w ⟨512 * (t.val / 4) + j.val, hj⟩ l) := by
  rw [acc m c t h]
  refine (Fin.sum_fin_congr fun s => pay2 _ _ _ _).trans ?_
  refine Fin.sum_mul_add_congr fun s k hl => ?_
  have hs : s.val < 4 := s.isLt
  have e0 : iblk m c 0 ⟨4 * (t.val / 4) + s.val, Pipeline.run_point_lt_of_flush t h s⟩ (ix2 r k) = a r ⟨s.val * 1536 + k.val, hl⟩ := by
    have : iblk m c 0 ⟨4 * (t.val / 4) + s.val, Pipeline.run_point_lt_of_flush t h s⟩ (ix2 r k) = V m c main_v0 (ix2 r ⟨s.val * 1536 + k.val, hl⟩) := by
      blk_ext! [iblk, idx ⟨_, Pipeline.run_point_lt_of_flush t h s⟩]
    rw [this, ha]
    rfl
  have e1 : iblk m c 1 ⟨4 * (t.val / 4) + s.val, Pipeline.run_point_lt_of_flush t h s⟩ (ix3 0 j k) = w ⟨512 * (t.val / 4) + j.val, hj⟩ ⟨s.val * 1536 + k.val, hl⟩ := by
    have : iblk m c 1 ⟨4 * (t.val / 4) + s.val, Pipeline.run_point_lt_of_flush t h s⟩ (ix3 0 j k) = V m c main_v3 (ix3 s ⟨512 * (t.val / 4) + j.val, hj⟩ k) := by
      blk_ext! [iblk, idx ⟨_, Pipeline.run_point_lt_of_flush t h s⟩]
    rw [this, hb]
    exact congrArg (w _) (Fin.ext (congrArg (· + k.val) (Nat.mul_comm _ _)))
  exact congrArg₂ (· * ·) e0 e1

theorem final (a : Fin 2048 → Fin 6144 → EReal) (w : Fin 2048 → Fin 6144 → EReal) (ha : V m c main_v0 = fun i => a (i 0) (i 1)) (hb : V m c main_v3 = fun i => w (i 1) (col (i 0) (i 2))) :
    (dats m 0 c).arrAt 2 cfg0.N = fun i => (∑ l : Fin 6144, a (i 0) l * w (i 1) l) := by
  refine (dats m 0 c).arrAt_eq_of_covers 2 _ (by decide +kernel) fun t hf y => ?_
  blk_simp
  rw [after0_2]
  have ht : t.val < 16 := t.isLt
  have hy : (y 1).val < 512 := (y 1).isLt
  refine (congrArg _ (eta2 y)).trans ((tile m c a w ha hb t ((flush0_2 t).mp hf) (y 0) (y 1) (by omega)).trans ?_)
  refine congrArg₂ (fun p q => (∑ l : Fin 6144, a p l * w q l)) (Fin.ext ?_) (Fin.ext ?_)
  · blk_simp [idx t]
  · blk_simp [idx t]
    exact congrArg (· + (y 1).val) (Nat.mul_comm _ _)

/-! ## The host's arrays -/

theorem host_a : V m c main_v0 = fun i => (m ((c.tc : Thread nD τ).loc main_arg0)) (ix2 (i 0) (i 1)) := by
  have e : V m c main_v0 = (truncf .bf16 (m ((c.tc : Thread nD τ).loc main_arg0)) bitsLt_bf16_f32 : FVec Ideal S2048x6144 .bf16) := by
    unfold V
    after_results
    try rfl
  rw [e]
  exact funext fun i => congrArg (m ((c.tc : Thread nD τ).loc main_arg0)) (eta2 i)
theorem host_w : V m c main_v3 = fun i => (m ((c.tc : Thread nD τ).loc main_arg1)) (ix2 (i 1) (col (i 0) (i 2))) := by
  have e : V m c main_v3 = transpose S4x2048x1536 [1, 0, 2] (shapeCast S2048x4x1536 (truncf .bf16 (m ((c.tc : Thread nD τ).loc main_arg1)) bitsLt_bf16_f32 : FVec Ideal S2048x6144 .bf16) shapeCasts_S2048x6144_S2048x4x1536) transposes_S2048x4x1536_S4x2048x1536_1_0_2 := by
    unfold V
    after_results
    try rfl
  rw [e]
  funext i
  rw [eta3 i]
  pointwise
  exact congrArg (m ((c.tc : Thread nD τ).loc main_arg1)) (congrArg (ix2 (i 1)) (Fin.ext (by show (i 0).val * 1536 + (i 2).val = 1536 * (i 0).val + (i 2).val; omega)))

/-- The arguments by coordinates, and what the program leaves in its result. -/
def argA : Fin 2048 → Fin 6144 → EReal := (fun t l => m ((c.tc : Thread nD τ).loc main_arg0) (ix2 t l))
def argW : Fin 2048 → Fin 6144 → EReal := (fun k l => m ((c.tc : Thread nD τ).loc main_arg1) (ix2 k l))
def leaves (i : S2048x2048.Idx) : EReal := (∑ l : Fin 6144, argA m c (i 0) l * argW m c (i 1) l)
theorem out : (dats m 0 c).arrAt 2 cfg0.N = leaves m c :=
  final m c (argA m c) (argW m c) (host_a m c) (host_w m c)
end Cert.GateDxValue
end
-- ==== Proof.GateDxMain.lean ====
/- The reference's frame and the algebraic claim of `GateDxKernel`: the gradient of the gate branch's input. -/
module
public import proofs.«01_k».proof.Defs
public import proofs.«01_k».proof.Proof.GateDxK
public import proofs.«01_k».proof.Proof.Gen.GateDxReferenceIdeal.Run
public import Idealize.ShloMosaic.Lib.ValueIdx
public import Idealize.ShloMosaic.Lib.Pointwise
public import Idealize.ShloMosaic.Adequacy
@[expose] public section
set_option maxRecDepth 16384
noncomputable section
namespace Cert.GateDxMain
open Idealize.ShloMosaic Idealize.ShloMosaic.TcCoe Idealize.SL.Sem Idealize.ShloMosaic.StableHlo Idealize.ShloMosaic.Tactic
open Cert.Coord (eta2)

/-- The reference ends with its arguments as launched and every counter at zero. -/
theorem ref_frame (m : (ℓ : Loc Cert.GateDxReferenceIdeal.nD Cert.GateDxReferenceIdeal.τ Cert.GateDxReferenceIdeal.sig) → Buf (Elt Ideal) ℓ) (g : Dev Cert.GateDxReferenceIdeal.nD → PrngReg) :
    θ_run (Cert.GateDxReferenceIdeal.defs (F := Ideal)) (onTc (τ := Cert.GateDxReferenceIdeal.τ) (Cert.GateDxReferenceIdeal.main (F := Ideal))) ⟨m, fun _ => 0, g⟩ (fun r => (∀ c : Dev Cert.GateDxReferenceIdeal.nD,
      r.2.mem ((c.tc : Thread Cert.GateDxReferenceIdeal.nD Cert.GateDxReferenceIdeal.τ).loc Cert.GateDxReferenceIdeal.main_arg0) = m ((c.tc : Thread Cert.GateDxReferenceIdeal.nD Cert.GateDxReferenceIdeal.τ).loc Cert.GateDxReferenceIdeal.main_arg0)
      ∧ r.2.mem ((c.tc : Thread Cert.GateDxReferenceIdeal.nD Cert.GateDxReferenceIdeal.τ).loc Cert.GateDxReferenceIdeal.main_arg1) = m ((c.tc : Thread Cert.GateDxReferenceIdeal.nD Cert.GateDxReferenceIdeal.τ).loc Cert.GateDxReferenceIdeal.main_arg1))
      ∧ r.2.sem = fun _ => 0) :=
  (θ_run Cert.GateDxReferenceIdeal.defs _ _).mono (fun r h => ⟨fun c => (h c).2, sem_eq_zero_of_no_sems (by decide) r.2⟩) (Cert.GateDxReferenceIdeal.Value.run m g)

section
open Cert.GateDxReferenceIdeal Cert.GateDxReferenceIdeal.Gen Cert.GateDxReferenceIdeal.Value
/-- The reference's result by coordinates. -/
theorem ref_at (x : FVec Ideal S2048x6144 .f32) (w : FVec Ideal S2048x6144 .f32) (r j : Fin 2048) :
    (Host.dotGeneral dot_S2048x6144_S2048x6144_S2048x2048_1_1_0_0_n_n none x w : FVec Ideal S2048x2048 .f32) (ix2 r j) = ∑ l : Fin 6144, x (ix2 r l) * w (ix2 j l) := by
  pointwise
  try rfl
end

/-- From agreeing arguments the kernel and the reference end with the same result. -/
theorem algebraic : Cert.algebraic_GateDxKernelIdeal_GateDxReferenceIdeal (hGateDxKernelIdeal := Cert.GateDxKernelIdeal.Gen.facts) (hGateDxReferenceIdeal := Cert.GateDxReferenceIdeal.Gen.facts) := by
  intro m g m' g' _ hag
  refine ⟨fun c => Cert.GateDxValue.leaves m c, ?_, ?_⟩
  · exact (θ_run Cert.GateDxKernelIdeal.defs _ _).mono (fun _ h c => ⟨(h c).1.trans (Cert.GateDxValue.out m c), (h c).2⟩) (Cert.GateDxKernelIdeal.Value.run_blocks m g)
  · refine (θ_run Cert.GateDxReferenceIdeal.defs _ _).mono (fun _ h c => ⟨(h c).1.trans ?_, (h c).2⟩) (Cert.GateDxReferenceIdeal.Value.run m' g')
    rw [(hag c).1, (hag c).2]
    exact funext fun i => (congrArg _ (eta2 i)).trans (ref_at _ _ (i 0) (i 1))
end Cert.GateDxMain
end
-- ==== Proof.UpDxK.lean ====
/- The other branch's cotangent times the weight's rows, added onto the gate branch's: the contracted axis walked in 4 parts, added up in a buffer the kernel keeps between its points.
   What the kernel leaves, in a formula. -/
module
public import proofs.«01_k».proof.Proof.Coord
public import proofs.«01_k».proof.Proof.Gen.UpDxKernelIdeal.Value
public import Idealize.ShloMosaic.Lib.ValueIdx
public import Idealize.ShloMosaic.Lib.Pointwise
public import Idealize.ShloMosaic.Lib.WordCmp
public import Idealize.ShloMosaic.Lib.Pipeline.ValueKit
@[expose] public section
set_option maxRecDepth 16384
noncomputable section
namespace Cert.UpDxValue
open Cert.UpDxKernelIdeal Cert.UpDxKernelIdeal.Gen
open Idealize.ShloMosaic Idealize.ShloMosaic.TcCoe Idealize.ShloMosaic.Tactic
open Idealize.ShloMosaic.StableHlo
open Cert.Coord (eta2 row2 eta3)

/-- Shard `s`'s lane `l` is column `1536 s + l`. -/
def col (s : Fin 4) (l : Fin 1536) : Fin 6144 := ⟨1536 * s.val + l.val, by omega⟩

theorem pay2 (x0 : S2048x1536.Idx → EReal) (x1 : S1x512x1536.Idx → EReal) (r : Fin 2048) (j : Fin 512) : (k0_pay2 (F := Ideal) x0 x1) (ix2 r j)
    = ∑ k : Fin 1536, x0 (ix2 r k) * x1 (ix3 0 j k) := by
  unfold_payloads
  pointwise
  try rfl
theorem pay3_at (x0 : S2048x1536.Idx → EReal) (x1 : S1x512x1536.Idx → EReal) (x2 : S2048x512.Idx → EReal) (r : Fin 2048) (j : Fin 512) : (k0_pay3 (F := Ideal) x0 x1 x2) (ix2 r j)
    = x2 (ix2 r j) + ∑ k : Fin 1536, x0 (ix2 r k) * x1 (ix3 0 j k) := by
  unfold_payloads
  pointwise
  try rfl
theorem pay3 (x0 : S2048x1536.Idx → EReal) (x1 : S1x512x1536.Idx → EReal) (x2 : S2048x512.Idx → EReal) (y : S2048x512.Idx) : (k0_pay3 (F := Ideal) x0 x1 x2) y
    = x2 y + k0_pay2 (F := Ideal) x0 x1 y := by
  refine (congrArg _ (eta2 y)).trans ((pay3_at _ _ _ _ _).trans ?_)
  exact congrArg₂ (· + ·) (congrArg x2 (eta2 y).symm) ((pay2 _ _ _ _).symm.trans (congrArg _ (eta2 y).symm))
theorem pay4 (x0 x1 : S2048x512.Idx → EReal) (y : S2048x512.Idx) : (k0_pay4 (F := Ideal) x0 x1) y = x0 y + x1 y := by
  unfold_payloads
  pointwise
  try rfl

variable (m : (ℓ : Loc nD τ sig) → Buf (Elt Ideal) ℓ) (c : Dev nD)

theorem idx : ∀ t : Fin cfg0.N, win0_0.index t = ![0, t.val % 4] ∧ win0_1.index t = ![t.val % 4, t.val / 4, 0] ∧ win0_2.index t = ![0, t.val / 4] ∧ win0_3.index t = ![0, t.val / 4] :=
  (by decide +kernel : ∀ t : Fin grid0.N, _)

/-- What a point adds to the accumulator, the accumulator after a run's first point and after a later one, and what the run's
    last point writes. -/
def part (t : Fin cfg0.N) : FVec Ideal S2048x512 .f32 := k0_pay2 (F := Ideal) (iblk m c 0 t) (iblk m c 1 t)

theorem first (t : Fin cfg0.N) (h : t.val % 4 = 0) (y : S2048x512.Idx) : (outsAt0 m c t.val t.isLt).2 y = 0 + part m c t y := by
  rw [outsAt0_A m c t h (by omega) (by omega), zero_add]
  frame_out
  rfl

theorem step (t : Fin cfg0.N) (h : ¬t.val % 4 = 0) (y : S2048x512.Idx) :
    (outsAt0 m c t.val t.isLt).2 y = (outsAt0 m c (t.val - 1) (Nat.lt_of_le_of_lt (Nat.sub_le _ _) t.isLt)).2 y + part m c t y := by
  by_cases h2 : t.val % 4 = 3
  · rw [outsAt0_C m c t h (by omega) h2]
    frame_out
    rw [pay3]
    exact congrArg (· + _) (congrFun (Memref.IsWhole.read_unread (m := Memref.whole cc0_scratch0) _ _) y)
  · rw [outsAt0_B m c t h (by omega) h2]
    frame_out
    rw [pay3]
    exact congrArg (· + _) (congrFun (Memref.IsWhole.read_unread (m := Memref.whole cc0_scratch0) _ _) y)

theorem last (t : Fin cfg0.N) (h : t.val % 4 = 3) (y : S2048x512.Idx) : (outsAt0 m c t.val t.isLt).1 y = (outsAt0 m c t.val t.isLt).2 y + iblk m c 2 t y := by
  rw [outsAt0_C m c t (by omega) (by omega) h]
  frame_out
  rw [pay4]

theorem acc (t : Fin cfg0.N) (h : t.val % 4 = 3) (y : S2048x512.Idx) : (outsAt0 m c t.val t.isLt).1 y
    = (∑ s : Fin 4, part m c ⟨4 * (t.val / 4) + s.val, Pipeline.run_point_lt_of_flush t h s⟩ y) + iblk m c 2 t y := by
  rw [last m c t h y, Pipeline.eq_sum_fin_of_reset_step_apply_of_flush (fun n h => (outsAt0 m c n h).2) 4 (fun _ => 0) (part m c) (first m c) (step m c) t h y, zero_add]

theorem tile (a : Fin 2048 → Fin 6144 → EReal) (w : Fin 2048 → Fin 6144 → EReal) (e : Fin 2048 → Fin 2048 → EReal) (ha : V m c main_v0 = fun i => a (i 0) (i 1)) (hb : V m c main_v3 = fun i => w (i 1) (col (i 0) (i 2))) (he : V m c main_arg2 = fun i => e (i 0) (i 1))
    (t : Fin cfg0.N) (h : t.val % 4 = 3) (r : Fin 2048) (j : Fin 512) (hj : 512 * (t.val / 4) + j.val < 2048) :
    (outsAt0 m c t.val t.isLt).1 (ix2 r j) = (∑ l : Fin 6144, a r l * w ⟨512 * (t.val / 4) + j.val, hj⟩ l) + e r ⟨512 * (t.val / 4) + j.val, hj⟩ := by
  rw [acc m c t h]
  have e2 : iblk m c 2 t (ix2 r j) = e r ⟨512 * (t.val / 4) + j.val, hj⟩ := by
    have : iblk m c 2 t (ix2 r j) = V m c main_arg2 (ix2 r ⟨512 * (t.val / 4) + j.val, hj⟩) := by
      blk_ext! [iblk, idx t]
    rw [this, he]
    rfl
  refine congrArg₂ (· + ·) ?_ e2
  refine (Fin.sum_fin_congr fun s => pay2 _ _ _ _).trans ?_
  refine Fin.sum_mul_add_congr fun s k hl => ?_
  have hs : s.val < 4 := s.isLt
  have e0 : iblk m c 0 ⟨4 * (t.val / 4) + s.val, Pipeline.run_point_lt_of_flush t h s⟩ (ix2 r k) = a r ⟨s.val * 1536 + k.val, hl⟩ := by
    have : iblk m c 0 ⟨4 * (t.val / 4) + s.val, Pipeline.run_point_lt_of_flush t h s⟩ (ix2 r k) = V m c main_v0 (ix2 r ⟨s.val * 1536 + k.val, hl⟩) := by
      blk_ext! [iblk, idx ⟨_, Pipeline.run_point_lt_of_flush t h s⟩]
    rw [this, ha]
    rfl
  have e1 : iblk m c 1 ⟨4 * (t.val / 4) + s.val, Pipeline.run_point_lt_of_flush t h s⟩ (ix3 0 j k) = w ⟨512 * (t.val / 4) + j.val, hj⟩ ⟨s.val * 1536 + k.val, hl⟩ := by
    have : iblk m c 1 ⟨4 * (t.val / 4) + s.val, Pipeline.run_point_lt_of_flush t h s⟩ (ix3 0 j k) = V m c main_v3 (ix3 s ⟨512 * (t.val / 4) + j.val, hj⟩ k) := by
      blk_ext! [iblk, idx ⟨_, Pipeline.run_point_lt_of_flush t h s⟩]
    rw [this, hb]
    exact congrArg (w _) (Fin.ext (congrArg (· + k.val) (Nat.mul_comm _ _)))
  exact congrArg₂ (· * ·) e0 e1

theorem final (a : Fin 2048 → Fin 6144 → EReal) (w : Fin 2048 → Fin 6144 → EReal) (e : Fin 2048 → Fin 2048 → EReal) (ha : V m c main_v0 = fun i => a (i 0) (i 1)) (hb : V m c main_v3 = fun i => w (i 1) (col (i 0) (i 2))) (he : V m c main_arg2 = fun i => e (i 0) (i 1)) :
    (dats m 0 c).arrAt 3 cfg0.N = fun i => (∑ l : Fin 6144, a (i 0) l * w (i 1) l) + e (i 0) (i 1) := by
  refine (dats m 0 c).arrAt_eq_of_covers 3 _ (by decide +kernel) fun t hf y => ?_
  blk_simp
  rw [after0_3]
  have ht : t.val < 16 := t.isLt
  have hy : (y 1).val < 512 := (y 1).isLt
  refine (congrArg _ (eta2 y)).trans ((tile m c a w e ha hb he t ((flush0_3 t).mp hf) (y 0) (y 1) (by omega)).trans ?_)
  refine congrArg₂ (fun p q => (∑ l : Fin 6144, a p l * w q l) + e p q) (Fin.ext ?_) (Fin.ext ?_)
  · blk_simp [idx t]
  · blk_simp [idx t]
    exact congrArg (· + (y 1).val) (Nat.mul_comm _ _)

/-! ## The host's arrays -/

theorem host_a : V m c main_v0 = fun i => (m ((c.tc : Thread nD τ).loc main_arg0)) (ix2 (i 0) (i 1)) := by
  have e : V m c main_v0 = (truncf .bf16 (m ((c.tc : Thread nD τ).loc main_arg0)) bitsLt_bf16_f32 : FVec Ideal S2048x6144 .bf16) := by
    unfold V
    after_results
    try rfl
  rw [e]
  exact funext fun i => congrArg (m ((c.tc : Thread nD τ).loc main_arg0)) (eta2 i)
theorem host_w : V m c main_v3 = fun i => (m ((c.tc : Thread nD τ).loc main_arg1)) (ix2 (i 1) (col (i 0) (i 2))) := by
  have e : V m c main_v3 = transpose S4x2048x1536 [1, 0, 2] (shapeCast S2048x4x1536 (truncf .bf16 (m ((c.tc : Thread nD τ).loc main_arg1)) bitsLt_bf16_f32 : FVec Ideal S2048x6144 .bf16) shapeCasts_S2048x6144_S2048x4x1536) transposes_S2048x4x1536_S4x2048x1536_1_0_2 := by
    unfold V
    after_results
    try rfl
  rw [e]
  funext i
  rw [eta3 i]
  pointwise
  exact congrArg (m ((c.tc : Thread nD τ).loc main_arg1)) (congrArg (ix2 (i 1)) (Fin.ext (by show (i 0).val * 1536 + (i 2).val = 1536 * (i 0).val + (i 2).val; omega)))
theorem host_e : V m c main_arg2 = fun i => (m ((c.tc : Thread nD τ).loc main_arg2)) (ix2 (i 0) (i 1)) := by
  have e : V m c main_arg2 = m ((c.tc : Thread nD τ).loc main_arg2) := by
    unfold V
    after_results
    try rfl
  rw [e]
  exact funext fun i => congrArg (m ((c.tc : Thread nD τ).loc main_arg2)) (eta2 i)

/-- The arguments by coordinates, and what the program leaves in its result. -/
def argA : Fin 2048 → Fin 6144 → EReal := (fun t l => m ((c.tc : Thread nD τ).loc main_arg0) (ix2 t l))
def argW : Fin 2048 → Fin 6144 → EReal := (fun k l => m ((c.tc : Thread nD τ).loc main_arg1) (ix2 k l))
def argE : Fin 2048 → Fin 2048 → EReal := (fun t k => m ((c.tc : Thread nD τ).loc main_arg2) (ix2 t k))
def leaves (i : S2048x2048.Idx) : EReal := (∑ l : Fin 6144, argA m c (i 0) l * argW m c (i 1) l) + argE m c (i 0) (i 1)
theorem out : (dats m 0 c).arrAt 3 cfg0.N = leaves m c :=
  final m c (argA m c) (argW m c) (argE m c) (host_a m c) (host_w m c) (host_e m c)
end Cert.UpDxValue
end
-- ==== Proof.UpDxMain.lean ====
/- The reference's frame and the algebraic claim of `UpDxKernel`: the gradient of the other branch's input, added onto the gate branch's. -/
module
public import proofs.«01_k».proof.Defs
public import proofs.«01_k».proof.Proof.UpDxK
public import proofs.«01_k».proof.Proof.Gen.UpDxReferenceIdeal.Run
public import Idealize.ShloMosaic.Lib.ValueIdx
public import Idealize.ShloMosaic.Lib.Pointwise
public import Idealize.ShloMosaic.Adequacy
@[expose] public section
set_option maxRecDepth 16384
noncomputable section
namespace Cert.UpDxMain
open Idealize.ShloMosaic Idealize.ShloMosaic.TcCoe Idealize.SL.Sem Idealize.ShloMosaic.StableHlo Idealize.ShloMosaic.Tactic
open Cert.Coord (eta2)

/-- The reference ends with its arguments as launched and every counter at zero. -/
theorem ref_frame (m : (ℓ : Loc Cert.UpDxReferenceIdeal.nD Cert.UpDxReferenceIdeal.τ Cert.UpDxReferenceIdeal.sig) → Buf (Elt Ideal) ℓ) (g : Dev Cert.UpDxReferenceIdeal.nD → PrngReg) :
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1)
      ∧ r.2.mem ((c.tc : Thread Cert.UpDxReferenceIdeal.nD Cert.UpDxReferenceIdeal.τ).loc Cert.UpDxReferenceIdeal.main_arg2) = m ((c.tc : Thread Cert.UpDxReferenceIdeal.nD Cert.UpDxReferenceIdeal.τ).loc Cert.UpDxReferenceIdeal.main_arg2))
      ∧ r.2.sem = fun _ => 0) :=
  (θ_run Cert.UpDxReferenceIdeal.defs _ _).mono (fun r h => ⟨fun c => (h c).2, sem_eq_zero_of_no_sems (by decide) r.2⟩) (Cert.UpDxReferenceIdeal.Value.run m g)

section
open Cert.UpDxReferenceIdeal Cert.UpDxReferenceIdeal.Gen Cert.UpDxReferenceIdeal.Value
/-- The reference's result by coordinates. -/
theorem ref_at (x : FVec Ideal S2048x6144 .f32) (w : FVec Ideal S2048x6144 .f32) (e : FVec Ideal S2048x2048 .f32) (r j : Fin 2048) :
    (addf e (Host.dotGeneral dot_S2048x6144_S2048x6144_S2048x2048_1_1_0_0_n_n none x w) : FVec Ideal S2048x2048 .f32) (ix2 r j) = (∑ l : Fin 6144, x (ix2 r l) * w (ix2 j l)) + e (ix2 r j) := by
  rw [add_comm]
  pointwise
  try rfl
end

/-- From agreeing arguments the kernel and the reference end with the same result. -/
theorem algebraic : Cert.algebraic_UpDxKernelIdeal_UpDxReferenceIdeal (hUpDxKernelIdeal := Cert.UpDxKernelIdeal.Gen.facts) (hUpDxReferenceIdeal := Cert.UpDxReferenceIdeal.Gen.facts) := by
  intro m g m' g' _ hag
  refine ⟨fun c => Cert.UpDxValue.leaves m c, ?_, ?_⟩
  · exact (θ_run Cert.UpDxKernelIdeal.defs _ _).mono (fun _ h c => ⟨(h c).1.trans (Cert.UpDxValue.out m c), (h c).2⟩) (Cert.UpDxKernelIdeal.Value.run_blocks m g)
  · refine (θ_run Cert.UpDxReferenceIdeal.defs _ _).mono (fun _ h c => ⟨(h c).1.trans ?_, (h c).2⟩) (Cert.UpDxReferenceIdeal.Value.run m' g')
    rw [(hag c).1, (hag c).2.1, (hag c).2.2]
    exact funext fun i => (congrArg _ (eta2 i)).trans (ref_at _ _ _ (i 0) (i 1))
end Cert.UpDxMain
end
-- ==== Proof.DownK.lean ====
/- The feed-forward layer's last product, added onto the layer's input: the contracted axis walked in 3 parts, added up in a buffer the kernel keeps between its points.
   What the kernel leaves, in a formula. -/
module
public import proofs.«01_k».proof.Proof.Coord
public import proofs.«01_k».proof.Proof.Gen.DownKernelIdeal.Value
public import Idealize.ShloMosaic.Lib.ValueIdx
public import Idealize.ShloMosaic.Lib.Pointwise
public import Idealize.ShloMosaic.Lib.WordCmp
public import Idealize.ShloMosaic.Lib.Pipeline.ValueKit
@[expose] public section
set_option maxRecDepth 16384
noncomputable section
namespace Cert.DownValue
open Cert.DownKernelIdeal Cert.DownKernelIdeal.Gen
open Idealize.ShloMosaic Idealize.ShloMosaic.TcCoe Idealize.ShloMosaic.Tactic
open Idealize.ShloMosaic.StableHlo
open Cert.Coord (eta2 row2 eta3)

theorem pay2 (x0 : S2048x2048.Idx → EReal) (x1 : S2048x512.Idx → EReal) (r : Fin 2048) (j : Fin 512) : (k0_pay2 (F := Ideal) x0 x1) (ix2 r j)
    = ∑ k : Fin 2048, x0 (ix2 r k) * x1 (ix2 k j) := by
  unfold_payloads
  pointwise
  try rfl
theorem pay3_at (x0 : S2048x2048.Idx → EReal) (x1 : S2048x512.Idx → EReal) (x2 : S2048x512.Idx → EReal) (r : Fin 2048) (j : Fin 512) : (k0_pay3 (F := Ideal) x0 x1 x2) (ix2 r j)
    = x2 (ix2 r j) + ∑ k : Fin 2048, x0 (ix2 r k) * x1 (ix2 k j) := by
  unfold_payloads
  pointwise
  try rfl
theorem pay3 (x0 : S2048x2048.Idx → EReal) (x1 : S2048x512.Idx → EReal) (x2 : S2048x512.Idx → EReal) (y : S2048x512.Idx) : (k0_pay3 (F := Ideal) x0 x1 x2) y
    = x2 y + k0_pay2 (F := Ideal) x0 x1 y := by
  refine (congrArg _ (eta2 y)).trans ((pay3_at _ _ _ _ _).trans ?_)
  exact congrArg₂ (· + ·) (congrArg x2 (eta2 y).symm) ((pay2 _ _ _ _).symm.trans (congrArg _ (eta2 y).symm))
theorem pay4 (x0 x1 : S2048x512.Idx → EReal) (y : S2048x512.Idx) : (k0_pay4 (F := Ideal) x0 x1) y = x0 y + x1 y := by
  unfold_payloads
  pointwise
  try rfl

variable (m : (ℓ : Loc nD τ sig) → Buf (Elt Ideal) ℓ) (c : Dev nD)

theorem idx : ∀ t : Fin cfg0.N, win0_0.index t = ![0, t.val % 3] ∧ win0_1.index t = ![t.val % 3, t.val / 3] ∧ win0_2.index t = ![0, t.val / 3] ∧ win0_3.index t = ![0, t.val / 3] :=
  (by decide +kernel : ∀ t : Fin grid0.N, _)

/-- What a point adds to the accumulator, the accumulator after a run's first point and after a later one, and what the run's
    last point writes. -/
def part (t : Fin cfg0.N) : FVec Ideal S2048x512 .f32 := k0_pay2 (F := Ideal) (iblk m c 0 t) (iblk m c 1 t)

theorem first (t : Fin cfg0.N) (h : t.val % 3 = 0) (y : S2048x512.Idx) : (outsAt0 m c t.val t.isLt).2 y = 0 + part m c t y := by
  rw [outsAt0_A m c t h (by omega) (by omega), zero_add]
  frame_out
  rfl

theorem step (t : Fin cfg0.N) (h : ¬t.val % 3 = 0) (y : S2048x512.Idx) :
    (outsAt0 m c t.val t.isLt).2 y = (outsAt0 m c (t.val - 1) (Nat.lt_of_le_of_lt (Nat.sub_le _ _) t.isLt)).2 y + part m c t y := by
  by_cases h2 : t.val % 3 = 2
  · rw [outsAt0_C m c t h (by omega) h2]
    frame_out
    rw [pay3]
    exact congrArg (· + _) (congrFun (Memref.IsWhole.read_unread (m := Memref.whole cc0_scratch0) _ _) y)
  · rw [outsAt0_B m c t h (by omega) h2]
    frame_out
    rw [pay3]
    exact congrArg (· + _) (congrFun (Memref.IsWhole.read_unread (m := Memref.whole cc0_scratch0) _ _) y)

theorem last (t : Fin cfg0.N) (h : t.val % 3 = 2) (y : S2048x512.Idx) : (outsAt0 m c t.val t.isLt).1 y = (outsAt0 m c t.val t.isLt).2 y + iblk m c 2 t y := by
  rw [outsAt0_C m c t (by omega) (by omega) h]
  frame_out
  rw [pay4]

theorem acc (t : Fin cfg0.N) (h : t.val % 3 = 2) (y : S2048x512.Idx) : (outsAt0 m c t.val t.isLt).1 y
    = (∑ s : Fin 3, part m c ⟨3 * (t.val / 3) + s.val, Pipeline.run_point_lt_of_flush t h s⟩ y) + iblk m c 2 t y := by
  rw [last m c t h y, Pipeline.eq_sum_fin_of_reset_step_apply_of_flush (fun n h => (outsAt0 m c n h).2) 3 (fun _ => 0) (part m c) (first m c) (step m c) t h y, zero_add]

theorem tile (a : Fin 2048 → Fin 6144 → EReal) (w : Fin 6144 → Fin 2048 → EReal) (e : Fin 2048 → Fin 2048 → EReal) (ha : V m c main_v0 = fun i => a (i 0) (i 1)) (hb : V m c main_v1 = fun i => w (i 0) (i 1)) (he : V m c main_arg2 = fun i => e (i 0) (i 1))
    (t : Fin cfg0.N) (h : t.val % 3 = 2) (r : Fin 2048) (j : Fin 512) (hj : 512 * (t.val / 3) + j.val < 2048) :
    (outsAt0 m c t.val t.isLt).1 (ix2 r j) = (∑ l : Fin 6144, a r l * w l ⟨512 * (t.val / 3) + j.val, hj⟩) + e r ⟨512 * (t.val / 3) + j.val, hj⟩ := by
  rw [acc m c t h]
  have e2 : iblk m c 2 t (ix2 r j) = e r ⟨512 * (t.val / 3) + j.val, hj⟩ := by
    have : iblk m c 2 t (ix2 r j) = V m c main_arg2 (ix2 r ⟨512 * (t.val / 3) + j.val, hj⟩) := by
      blk_ext! [iblk, idx t]
    rw [this, he]
    rfl
  refine congrArg₂ (· + ·) ?_ e2
  refine (Fin.sum_fin_congr fun s => pay2 _ _ _ _).trans ?_
  refine Fin.sum_mul_add_congr fun s k hl => ?_
  have hs : s.val < 3 := s.isLt
  have e0 : iblk m c 0 ⟨3 * (t.val / 3) + s.val, Pipeline.run_point_lt_of_flush t h s⟩ (ix2 r k) = a r ⟨s.val * 2048 + k.val, hl⟩ := by
    have : iblk m c 0 ⟨3 * (t.val / 3) + s.val, Pipeline.run_point_lt_of_flush t h s⟩ (ix2 r k) = V m c main_v0 (ix2 r ⟨s.val * 2048 + k.val, hl⟩) := by
      blk_ext! [iblk, idx ⟨_, Pipeline.run_point_lt_of_flush t h s⟩]
    rw [this, ha]
    rfl
  have e1 : iblk m c 1 ⟨3 * (t.val / 3) + s.val, Pipeline.run_point_lt_of_flush t h s⟩ (ix2 k j) = w ⟨s.val * 2048 + k.val, hl⟩ ⟨512 * (t.val / 3) + j.val, hj⟩ := by
    have : iblk m c 1 ⟨3 * (t.val / 3) + s.val, Pipeline.run_point_lt_of_flush t h s⟩ (ix2 k j) = V m c main_v1 (ix2 ⟨s.val * 2048 + k.val, hl⟩ ⟨512 * (t.val / 3) + j.val, hj⟩) := by
      blk_ext! [iblk, idx ⟨_, Pipeline.run_point_lt_of_flush t h s⟩]
    rw [this, hb]
    rfl
  exact congrArg₂ (· * ·) e0 e1

theorem final (a : Fin 2048 → Fin 6144 → EReal) (w : Fin 6144 → Fin 2048 → EReal) (e : Fin 2048 → Fin 2048 → EReal) (ha : V m c main_v0 = fun i => a (i 0) (i 1)) (hb : V m c main_v1 = fun i => w (i 0) (i 1)) (he : V m c main_arg2 = fun i => e (i 0) (i 1)) :
    (dats m 0 c).arrAt 3 cfg0.N = fun i => (∑ l : Fin 6144, a (i 0) l * w l (i 1)) + e (i 0) (i 1) := by
  refine (dats m 0 c).arrAt_eq_of_covers 3 _ (by decide +kernel) fun t hf y => ?_
  blk_simp
  rw [after0_3]
  have ht : t.val < 12 := t.isLt
  have hy : (y 1).val < 512 := (y 1).isLt
  refine (congrArg _ (eta2 y)).trans ((tile m c a w e ha hb he t ((flush0_3 t).mp hf) (y 0) (y 1) (by omega)).trans ?_)
  refine congrArg₂ (fun p q => (∑ l : Fin 6144, a p l * w l q) + e p q) (Fin.ext ?_) (Fin.ext ?_)
  · blk_simp [idx t]
  · blk_simp [idx t]
    exact congrArg (· + (y 1).val) (Nat.mul_comm _ _)

/-! ## The host's arrays -/

theorem host_a : V m c main_v0 = fun i => (m ((c.tc : Thread nD τ).loc main_arg0)) (ix2 (i 0) (i 1)) := by
  have e : V m c main_v0 = (truncf .bf16 (m ((c.tc : Thread nD τ).loc main_arg0)) bitsLt_bf16_f32 : FVec Ideal S2048x6144 .bf16) := by
    unfold V
    after_results
    try rfl
  rw [e]
  exact funext fun i => congrArg (m ((c.tc : Thread nD τ).loc main_arg0)) (eta2 i)
theorem host_w : V m c main_v1 = fun i => (m ((c.tc : Thread nD τ).loc main_arg1)) (ix2 (i 0) (i 1)) := by
  have e : V m c main_v1 = (truncf .bf16 (m ((c.tc : Thread nD τ).loc main_arg1)) bitsLt_bf16_f32 : FVec Ideal S6144x2048 .bf16) := by
    unfold V
    after_results
    try rfl
  rw [e]
  exact funext fun i => congrArg (m ((c.tc : Thread nD τ).loc main_arg1)) (eta2 i)
theorem host_e : V m c main_arg2 = fun i => (m ((c.tc : Thread nD τ).loc main_arg2)) (ix2 (i 0) (i 1)) := by
  have e : V m c main_arg2 = m ((c.tc : Thread nD τ).loc main_arg2) := by
    unfold V
    after_results
    try rfl
  rw [e]
  exact funext fun i => congrArg (m ((c.tc : Thread nD τ).loc main_arg2)) (eta2 i)

/-- The arguments by coordinates, and what the program leaves in its result. -/
def argA : Fin 2048 → Fin 6144 → EReal := (fun t l => m ((c.tc : Thread nD τ).loc main_arg0) (ix2 t l))
def argW : Fin 6144 → Fin 2048 → EReal := (fun k l => m ((c.tc : Thread nD τ).loc main_arg1) (ix2 k l))
def argE : Fin 2048 → Fin 2048 → EReal := (fun t k => m ((c.tc : Thread nD τ).loc main_arg2) (ix2 t k))
def leaves (i : S2048x2048.Idx) : EReal := (∑ l : Fin 6144, argA m c (i 0) l * argW m c l (i 1)) + argE m c (i 0) (i 1)
theorem out : (dats m 0 c).arrAt 3 cfg0.N = leaves m c :=
  final m c (argA m c) (argW m c) (argE m c) (host_a m c) (host_w m c) (host_e m c)
end Cert.DownValue
end
-- ==== Proof.DownMain.lean ====
/- The reference's frame and the algebraic claim of `DownKernel`: the gradient of the block's sum. -/
module
public import proofs.«01_k».proof.Defs
public import proofs.«01_k».proof.Proof.DownK
public import proofs.«01_k».proof.Proof.Gen.DownReferenceIdeal.Run
public import Idealize.ShloMosaic.Lib.ValueIdx
public import Idealize.ShloMosaic.Lib.Pointwise
public import Idealize.ShloMosaic.Adequacy
@[expose] public section
set_option maxRecDepth 16384
noncomputable section
namespace Cert.DownMain
open Idealize.ShloMosaic Idealize.ShloMosaic.TcCoe Idealize.SL.Sem Idealize.ShloMosaic.StableHlo Idealize.ShloMosaic.Tactic
open Cert.Coord (eta2)

/-- The reference ends with its arguments as launched and every counter at zero. -/
theorem ref_frame (m : (ℓ : Loc Cert.DownReferenceIdeal.nD Cert.DownReferenceIdeal.τ Cert.DownReferenceIdeal.sig) → Buf (Elt Ideal) ℓ) (g : Dev Cert.DownReferenceIdeal.nD → PrngReg) :
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0) :=
  (θ_run Cert.DownReferenceIdeal.defs _ _).mono (fun r h => ⟨fun c => (h c).2, sem_eq_zero_of_no_sems (by decide) r.2⟩) (Cert.DownReferenceIdeal.Value.run m g)

section
open Cert.DownReferenceIdeal Cert.DownReferenceIdeal.Gen Cert.DownReferenceIdeal.Value
/-- The reference's result by coordinates. -/
theorem ref_at (x : FVec Ideal S2048x6144 .f32) (w : FVec Ideal S6144x2048 .f32) (e : FVec Ideal S2048x2048 .f32) (r j : Fin 2048) :
    (addf e (Host.dotGeneral dot_S2048x6144_S6144x2048_S2048x2048_1_0_0_1_n_n none x w) : FVec Ideal S2048x2048 .f32) (ix2 r j) = (∑ l : Fin 6144, x (ix2 r l) * w (ix2 l j)) + e (ix2 r j) := by
  rw [add_comm]
  pointwise
  try rfl
end

/-- From agreeing arguments the kernel and the reference end with the same result. -/
theorem algebraic : Cert.algebraic_DownKernelIdeal_DownReferenceIdeal (hDownKernelIdeal := Cert.DownKernelIdeal.Gen.facts) (hDownReferenceIdeal := Cert.DownReferenceIdeal.Gen.facts) := by
  intro m g m' g' _ hag
  refine ⟨fun c => Cert.DownValue.leaves m c, ?_, ?_⟩
  · exact (θ_run Cert.DownKernelIdeal.defs _ _).mono (fun _ h c => ⟨(h c).1.trans (Cert.DownValue.out m c), (h c).2⟩) (Cert.DownKernelIdeal.Value.run_blocks m g)
  · refine (θ_run Cert.DownReferenceIdeal.defs _ _).mono (fun _ h c => ⟨(h c).1.trans ?_, (h c).2⟩) (Cert.DownReferenceIdeal.Value.run m' g')
    rw [(hag c).1, (hag c).2.1, (hag c).2.2]
    exact funext fun i => (congrArg _ (eta2 i)).trans (ref_at _ _ _ (i 0) (i 1))
end Cert.DownMain
end
-- ==== Proof.InDxK.lean ====
/- The projected rows' cotangent times the weight's rows: the contracted axis walked in 2 parts, added up in a buffer the kernel keeps between its points.
   What the kernel leaves, in a formula. -/
module
public import proofs.«01_k».proof.Proof.Coord
public import proofs.«01_k».proof.Proof.Gen.InDxKernelIdeal.Value
public import Idealize.ShloMosaic.Lib.ValueIdx
public import Idealize.ShloMosaic.Lib.Pointwise
public import Idealize.ShloMosaic.Lib.WordCmp
public import Idealize.ShloMosaic.Lib.Pipeline.ValueKit
@[expose] public section
set_option maxRecDepth 16384
noncomputable section
namespace Cert.InDxValue
open Cert.InDxKernelIdeal Cert.InDxKernelIdeal.Gen
open Idealize.ShloMosaic Idealize.ShloMosaic.TcCoe Idealize.ShloMosaic.Tactic
open Idealize.ShloMosaic.StableHlo
open Cert.Coord (eta2 row2 eta3)

/-- The two weights side by side, filled with zero columns. -/
def wcat (win : Fin 2048 → Fin 5408 → EReal) (wv : Fin 2048 → Fin 32 → EReal) (k : Fin 2048) (n : Fin 5632) : EReal :=
  if h : n.val < 5408 then win k ⟨n.val, h⟩ else if h' : n.val - 5408 < 32 then wv k ⟨n.val - 5408, h'⟩ else 0

theorem pay2 (x0 : S1024x2816.Idx → EReal) (x1 : S512x2816.Idx → EReal) (r : Fin 1024) (j : Fin 512) : (k0_pay2 (F := Ideal) x0 x1) (ix2 r j)
    = ∑ k : Fin 2816, x0 (ix2 r k) * x1 (ix2 j k) := by
  unfold_payloads
  pointwise
  try rfl
theorem pay3_at (x0 : S1024x2816.Idx → EReal) (x1 : S512x2816.Idx → EReal) (x2 : S1024x512.Idx → EReal) (r : Fin 1024) (j : Fin 512) : (k0_pay3 (F := Ideal) x0 x1 x2) (ix2 r j)
    = x2 (ix2 r j) + ∑ k : Fin 2816, x0 (ix2 r k) * x1 (ix2 j k) := by
  unfold_payloads
  pointwise
  try rfl
theorem pay3 (x0 : S1024x2816.Idx → EReal) (x1 : S512x2816.Idx → EReal) (x2 : S1024x512.Idx → EReal) (y : S1024x512.Idx) : (k0_pay3 (F := Ideal) x0 x1 x2) y
    = x2 y + k0_pay2 (F := Ideal) x0 x1 y := by
  refine (congrArg _ (eta2 y)).trans ((pay3_at _ _ _ _ _).trans ?_)
  exact congrArg₂ (· + ·) (congrArg x2 (eta2 y).symm) ((pay2 _ _ _ _).symm.trans (congrArg _ (eta2 y).symm))

variable (m : (ℓ : Loc nD τ sig) → Buf (Elt Ideal) ℓ) (c : Dev nD)

theorem idx : ∀ t : Fin cfg0.N, win0_0.index t = ![t.val / 8, t.val % 2] ∧ win0_1.index t = ![t.val / 2 % 4, t.val % 2] ∧ win0_2.index t = ![t.val / 8, t.val / 2 % 4] :=
  (by decide +kernel : ∀ t : Fin grid0.N, _)

/-- What a point adds to the accumulator, the accumulator after a run's first point and after a later one, and what the run's
    last point writes. -/
def part (t : Fin cfg0.N) : FVec Ideal S1024x512 .f32 := k0_pay2 (F := Ideal) (iblk m c 0 t) (iblk m c 1 t)

theorem first (t : Fin cfg0.N) (h : t.val % 2 = 0) (y : S1024x512.Idx) : (outsAt0 m c t.val t.isLt).2 y = 0 + part m c t y := by
  rw [outsAt0_A m c t h (by omega) (by omega), zero_add]
  frame_out
  rfl

theorem step (t : Fin cfg0.N) (h : ¬t.val % 2 = 0) (y : S1024x512.Idx) :
    (outsAt0 m c t.val t.isLt).2 y = (outsAt0 m c (t.val - 1) (Nat.lt_of_le_of_lt (Nat.sub_le _ _) t.isLt)).2 y + part m c t y := by
  rw [outsAt0_B m c t h (by omega) (by omega)]
  frame_out
  rw [pay3]
  exact congrArg (· + _) (congrFun (Memref.IsWhole.read_unread (m := Memref.whole cc0_scratch0) _ _) y)

theorem last (t : Fin cfg0.N) (h : t.val % 2 = 1) (y : S1024x512.Idx) : (outsAt0 m c t.val t.isLt).1 y = (outsAt0 m c t.val t.isLt).2 y := by
  rw [outsAt0_B m c t (by omega) (by omega) (by omega)]
  frame_out
  try rfl

theorem acc (t : Fin cfg0.N) (h : t.val % 2 = 1) (y : S1024x512.Idx) : (outsAt0 m c t.val t.isLt).1 y
    = (∑ s : Fin 2, part m c ⟨2 * (t.val / 2) + s.val, Pipeline.run_point_lt_of_flush t h s⟩ y) := by
  rw [last m c t h y, Pipeline.eq_sum_fin_of_reset_step_apply_of_flush (fun n h => (outsAt0 m c n h).2) 2 (fun _ => 0) (part m c) (first m c) (step m c) t h y, zero_add]

theorem tile (a : Fin 2048 → Fin 5632 → EReal) (w : Fin 2048 → Fin 5632 → EReal) (ha : V m c main_v4 = fun i => a (i 0) (i 1)) (hb : V m c main_v3 = fun i => w (i 0) (i 1))
    (t : Fin cfg0.N) (h : t.val % 2 = 1) (r : Fin 1024) (j : Fin 512) (hr : 1024 * (t.val / 8) + r.val < 2048) (hj : 512 * (t.val / 2 % 4) + j.val < 2048) :
    (outsAt0 m c t.val t.isLt).1 (ix2 r j) = (∑ l : Fin 5632, a ⟨1024 * (t.val / 8) + r.val, hr⟩ l * w ⟨512 * (t.val / 2 % 4) + j.val, hj⟩ l) := by
  rw [acc m c t h]
  refine (Fin.sum_fin_congr fun s => pay2 _ _ _ _).trans ?_
  refine Fin.sum_mul_add_congr fun s k hl => ?_
  have hs : s.val < 2 := s.isLt
  have e0 : iblk m c 0 ⟨2 * (t.val / 2) + s.val, Pipeline.run_point_lt_of_flush t h s⟩ (ix2 r k) = a ⟨1024 * (t.val / 8) + r.val, hr⟩ ⟨s.val * 2816 + k.val, hl⟩ := by
    have : iblk m c 0 ⟨2 * (t.val / 2) + s.val, Pipeline.run_point_lt_of_flush t h s⟩ (ix2 r k) = V m c main_v4 (ix2 ⟨1024 * (t.val / 8) + r.val, hr⟩ ⟨s.val * 2816 + k.val, hl⟩) := by
      blk_ext! [iblk, idx ⟨_, Pipeline.run_point_lt_of_flush t h s⟩]
    rw [this, ha]
    rfl
  have e1 : iblk m c 1 ⟨2 * (t.val / 2) + s.val, Pipeline.run_point_lt_of_flush t h s⟩ (ix2 j k) = w ⟨512 * (t.val / 2 % 4) + j.val, hj⟩ ⟨s.val * 2816 + k.val, hl⟩ := by
    have : iblk m c 1 ⟨2 * (t.val / 2) + s.val, Pipeline.run_point_lt_of_flush t h s⟩ (ix2 j k) = V m c main_v3 (ix2 ⟨512 * (t.val / 2 % 4) + j.val, hj⟩ ⟨s.val * 2816 + k.val, hl⟩) := by
      blk_ext! [iblk, idx ⟨_, Pipeline.run_point_lt_of_flush t h s⟩]
    rw [this, hb]
    rfl
  exact congrArg₂ (· * ·) e0 e1

theorem final (a : Fin 2048 → Fin 5632 → EReal) (w : Fin 2048 → Fin 5632 → EReal) (ha : V m c main_v4 = fun i => a (i 0) (i 1)) (hb : V m c main_v3 = fun i => w (i 0) (i 1)) :
    (dats m 0 c).arrAt 2 cfg0.N = fun i => (∑ l : Fin 5632, a (i 0) l * w (i 1) l) := by
  refine (dats m 0 c).arrAt_eq_of_covers 2 _ (by decide +kernel) fun t hf y => ?_
  blk_simp
  rw [after0_2]
  have ht : t.val < 16 := t.isLt
  have hy : (y 1).val < 512 := (y 1).isLt
  have hx : (y 0).val < 1024 := (y 0).isLt
  refine (congrArg _ (eta2 y)).trans ((tile m c a w ha hb t ((flush0_2 t).mp hf) (y 0) (y 1) (by omega) (by omega)).trans ?_)
  refine congrArg₂ (fun p q => (∑ l : Fin 5632, a p l * w q l)) (Fin.ext ?_) (Fin.ext ?_)
  · blk_simp [idx t]
    exact congrArg (· + (y 0).val) (Nat.mul_comm _ _)
  · blk_simp [idx t]
    exact congrArg (· + (y 1).val) (Nat.mul_comm _ _)

/-! ## The host's arrays -/

theorem host_a : V m c main_v4 = fun i => (m ((c.tc : Thread nD τ).loc main_arg0)) (ix2 (i 0) (i 1)) := by
  have e : V m c main_v4 = (truncf .bf16 (m ((c.tc : Thread nD τ).loc main_arg0)) bitsLt_bf16_f32 : FVec Ideal S2048x5632 .bf16) := by
    unfold V
    after_results
    try rfl
  rw [e]
  exact funext fun i => congrArg (m ((c.tc : Thread nD τ).loc main_arg0)) (eta2 i)
theorem host_w : V m c main_v3 = fun i => wcat (fun k n => m ((c.tc : Thread nD τ).loc main_arg1) (ix2 k n)) (fun k n => m ((c.tc : Thread nD τ).loc main_arg2) (ix2 k n)) (i 0) (i 1) := by
  have e : V m c main_v3 = concatenate S2048x5632 1 [⟨S2048x5408, (truncf .bf16 (m ((c.tc : Thread nD τ).loc main_arg1)) bitsLt_bf16_f32 : FVec Ideal S2048x5408 .bf16)⟩, ⟨S2048x32, (truncf .bf16 (m ((c.tc : Thread nD τ).loc main_arg2)) bitsLt_bf16_f32 : FVec Ideal S2048x32 .bf16)⟩,
      ⟨S2048x192, (broadcastInDim S2048x192 ![] bcast_S_S2048x192 (constant S_ .bf16 0x0000#16) : FVec Ideal S2048x192 .bf16)⟩] concatenates_S2048x5408_S2048x32_S2048x192_S2048x5632_d1 := by
    unfold V
    after_results
    try rfl
  rw [e]
  funext i
  rw [eta2 i]
  pointwise
  try rfl

/-- The arguments by coordinates, and what the program leaves in its result. -/
def argA : Fin 2048 → Fin 5632 → EReal := (fun t l => m ((c.tc : Thread nD τ).loc main_arg0) (ix2 t l))
def argW : Fin 2048 → Fin 5632 → EReal := (wcat (fun k n => m ((c.tc : Thread nD τ).loc main_arg1) (ix2 k n)) (fun k n => m ((c.tc : Thread nD τ).loc main_arg2) (ix2 k n)))
def leaves (i : S2048x2048.Idx) : EReal := (∑ l : Fin 5632, argA m c (i 0) l * argW m c (i 1) l)
theorem out : (dats m 0 c).arrAt 2 cfg0.N = leaves m c :=
  final m c (argA m c) (argW m c) (host_a m c) (host_w m c)
end Cert.InDxValue
end
-- ==== Proof.InDxMain.lean ====
/- The reference's frame and the algebraic claim of `InDxKernel`: the gradient of the mixer's input. -/
module
public import proofs.«01_k».proof.Defs
public import proofs.«01_k».proof.Proof.InDxK
public import proofs.«01_k».proof.Proof.Gen.InDxReferenceIdeal.Run
public import Idealize.ShloMosaic.Lib.ValueIdx
public import Idealize.ShloMosaic.Lib.Pointwise
public import Idealize.ShloMosaic.Adequacy
@[expose] public section
set_option maxRecDepth 16384
noncomputable section
namespace Cert.InDxMain
open Idealize.ShloMosaic Idealize.ShloMosaic.TcCoe Idealize.SL.Sem Idealize.ShloMosaic.StableHlo Idealize.ShloMosaic.Tactic
open Cert.Coord (eta2)

/-- The reference ends with its arguments as launched and every counter at zero. -/
theorem ref_frame (m : (ℓ : Loc Cert.InDxReferenceIdeal.nD Cert.InDxReferenceIdeal.τ Cert.InDxReferenceIdeal.sig) → Buf (Elt Ideal) ℓ) (g : Dev Cert.InDxReferenceIdeal.nD → PrngReg) :
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1)
      ∧ r.2.mem ((c.tc : Thread Cert.InDxReferenceIdeal.nD Cert.InDxReferenceIdeal.τ).loc Cert.InDxReferenceIdeal.main_arg2) = m ((c.tc : Thread Cert.InDxReferenceIdeal.nD Cert.InDxReferenceIdeal.τ).loc Cert.InDxReferenceIdeal.main_arg2))
      ∧ r.2.sem = fun _ => 0) :=
  (θ_run Cert.InDxReferenceIdeal.defs _ _).mono (fun r h => ⟨fun c => (h c).2, sem_eq_zero_of_no_sems (by decide) r.2⟩) (Cert.InDxReferenceIdeal.Value.run m g)

section
open Cert.InDxReferenceIdeal Cert.InDxReferenceIdeal.Gen Cert.InDxReferenceIdeal.Value
open Cert.InDxValue (wcat)

/-- A sum over the filled columns whose last 192 terms are zero. -/
theorem sum_filled (f : Fin 5632 → EReal) (hf : ∀ n : Fin 5632, 5440 ≤ n.val → f n = 0) :
    ∑ n : Fin 5632, f n = ∑ l : Fin 5440, f ⟨l.val, Nat.lt_of_lt_of_le l.isLt (by decide)⟩ := by
  refine (Fin.sum_univ_add (a := 5440) (b := 192) f).trans ?_
  rw [Finset.sum_eq_zero (s := Finset.univ) (f := fun k : Fin 192 => f (Fin.natAdd 5440 k)) (fun k _ => hf _ (Nat.le_add_right _ _)), add_zero]
  rfl

/-- The reference's result by coordinates. -/
theorem ref_at (x : FVec Ideal S2048x5632 .f32) (w : FVec Ideal S2048x5408 .f32) (e : FVec Ideal S2048x32 .f32) (r j : Fin 2048) :
    (Host.dotGeneral dot_S2048x5440_S2048x5440_S2048x2048_1_1_0_0_n_n none (extractStridedSlice S2048x5440 ![0, 0] x slices_S2048x5632_S2048x5440_0_0) (concatenate S2048x5440 1 [⟨S2048x5408, w⟩, ⟨S2048x32, e⟩] concatenates_S2048x5408_S2048x32_S2048x5440_d1) : FVec Ideal S2048x2048 .f32) (ix2 r j) = ∑ l : Fin 5632, x (ix2 r l) * wcat (fun k n => w (ix2 k n)) (fun k n => e (ix2 k n)) j l := by
  rw [sum_filled _ fun n h => by rw [show wcat _ _ j n = 0 from by unfold wcat; rw [dif_neg (by omega), dif_neg (by omega)], mul_zero]]
  pointwise
  refine Eq.trans ?_ (Fin.sum_univ_add (a := 5408) (b := 32) _).symm
  refine congrArg₂ (fun a b : EReal => a + b) (Finset.sum_congr rfl fun l _ => ?_) (Finset.sum_congr rfl fun l _ => ?_)
  · have e1 : wcat (fun k n => w (ix2 k n)) (fun k n => e (ix2 k n)) j ⟨l.val, Nat.lt_of_lt_of_le l.isLt (by decide)⟩ = w (ix2 j l) := dif_pos l.isLt
    exact congrArg (x _ * ·) e1.symm
  · have e1 : wcat (fun k n => w (ix2 k n)) (fun k n => e (ix2 k n)) j ⟨5408 + l.val, by omega⟩ = e (ix2 j l) := by
      unfold wcat
      rw [dif_neg (by dsimp only; omega), dif_pos (by dsimp only; omega)]
      exact congrArg e (congrArg (ix2 j) (Fin.ext (Nat.add_sub_cancel_left _ _)))
    exact congrArg (x _ * ·) e1.symm
end

/-- From agreeing arguments the kernel and the reference end with the same result. -/
theorem algebraic : Cert.algebraic_InDxKernelIdeal_InDxReferenceIdeal (hInDxKernelIdeal := Cert.InDxKernelIdeal.Gen.facts) (hInDxReferenceIdeal := Cert.InDxReferenceIdeal.Gen.facts) := by
  intro m g m' g' _ hag
  refine ⟨fun c => Cert.InDxValue.leaves m c, ?_, ?_⟩
  · exact (θ_run Cert.InDxKernelIdeal.defs _ _).mono (fun _ h c => ⟨(h c).1.trans (Cert.InDxValue.out m c), (h c).2⟩) (Cert.InDxKernelIdeal.Value.run_blocks m g)
  · refine (θ_run Cert.InDxReferenceIdeal.defs _ _).mono (fun _ h c => ⟨(h c).1.trans ?_, (h c).2⟩) (Cert.InDxReferenceIdeal.Value.run m' g')
    rw [(hag c).1, (hag c).2.1, (hag c).2.2]
    exact funext fun i => (congrArg _ (eta2 i)).trans (ref_at _ _ _ (i 0) (i 1))
end Cert.InDxMain
end
-- ==== Proof.AdamSpec.lean ====
/- AdamW of one weight's element, in formulas: what both the kernels and the reference leave in their results. -/
module
public import Idealize.ShloMosaic.PureOps.Ideal
@[expose] public section
noncomputable section
namespace Cert.Adam
open Idealize.ShloMosaic

/-- The new first moment of a gradient and the old one. -/
def mom (g m : EReal) : EReal := Ideal.ofBits .f32 0x3F666666#32 * m + Ideal.ofBits .f32 0x3DCCCCCD#32 * g
/-- The new second moment. -/
def var (g v : EReal) : EReal := Ideal.ofBits .f32 0x3F7FBE77#32 * v + Ideal.ofBits .f32 0x3A83126F#32 * (g * g)
/-- The weight's change: the new moments freed of their bias, their quotient, the decay of the weight, times the rate. -/
def del (w g m v : EReal) : EReal :=
  Ideal.ofBits .f32 0xBA83126F#32 * (Ideal.div (Ideal.div (mom g m) (Ideal.ofBits .f32 0x3F26BD02#32))
    (Ideal.sqrt (Ideal.div (var g v) (Ideal.ofBits .f32 0x3C231ACC#32)) + Ideal.ofBits .f32 0x322BCC77#32) + Ideal.ofBits .f32 0x3C23D70A#32 * w)
end Cert.Adam
end
end
-- ==== Proof.AdamK0.lean ====
/- The AdamW kernel of w_o at any contents: the arrays it leaves, element by element. -/
module
public import proofs.«01_k».proof.Proof.AdamSpec
public import proofs.«01_k».proof.Proof.Coord
public import proofs.«01_k».proof.Proof.Gen.AdamKernelIdeal.Frame
public import Idealize.ShloMosaic.Lib.ValueIdx
public import Idealize.ShloMosaic.Lib.Pointwise
public import Idealize.ShloMosaic.Lib.WordCmp
public import Idealize.ShloMosaic.Lib.Pipeline.ValueKit
@[expose] public section
set_option maxRecDepth 16384
noncomputable section
namespace Cert.AdamValue
open Cert.AdamKernelIdeal Cert.AdamKernelIdeal.Gen
open Idealize.ShloMosaic Idealize.ShloMosaic.TcCoe Idealize.ShloMosaic.Tactic
open Cert.Adam (mom var del)
open Cert.Coord (eta2)

variable (V : (c : Dev nD) → (b : Ref sig .tc) → Buf (Elt Ideal) ((c : Thread nD τ).loc b)) (c : Dev nD)

theorem idx0 : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)
theorem mom0 (x0 x1 : S256x2048.Idx → EReal) (y : S256x2048.Idx) : (k0_pay2 (F := Ideal) x0 x1) y = mom (x0 y) (x1 y) := by
  rw [eta2 y]
  unfold_payloads
  pointwise
  try rfl
theorem var0 (x0 x1 : S256x2048.Idx → EReal) (y : S256x2048.Idx) : (k0_pay3 (F := Ideal) x0 x1) y = var (x0 y) (x1 y) := by
  rw [eta2 y]
  unfold_payloads
  pointwise
  try rfl
theorem del0 (x0 x1 x2 x3 : S256x2048.Idx → EReal) (y : S256x2048.Idx) : (k0_pay4 (F := Ideal) x0 x1 x2 x3) y = del (x3 y) (x0 y) (x1 y) (x2 y) := by
  rw [eta2 y]
  unfold_payloads
  pointwise
  try rfl
theorem reg0_m : (dat0 V c).arrAt 5 cfg0.N = fun i : S1024x2048.Idx => mom (V c main_v1 i) (V c main_v2 i) := by
  refine (dat0 V c).arrAt_eq_of_covers 5 _ (by decide +kernel) fun t hf y => ?_
  blk_simp
  rw [after0_5]
  frame_out
  rw [mom0]
  refine congrArg₂ mom ?_ ?_ <;> blk_ext! [iblk0, idx0 t]
theorem reg0_v : (dat0 V c).arrAt 6 cfg0.N = fun i : S1024x2048.Idx => var (V c main_v1 i) (V c main_v3 i) := by
  refine (dat0 V c).arrAt_eq_of_covers 6 _ (by decide +kernel) fun t hf y => ?_
  blk_simp
  rw [after0_6]
  frame_out
  rw [var0]
  refine congrArg₂ var ?_ ?_ <;> blk_ext! [iblk0, idx0 t]
theorem reg0_d : (dat0 V c).arrAt 4 cfg0.N = fun i : S1024x2048.Idx => del (V c main_v0 i) (V c main_v1 i) (V c main_v2 i) (V c main_v3 i) := by
  refine (dat0 V c).arrAt_eq_of_covers 4 _ (by decide +kernel) fun t hf y => ?_
  blk_simp
  rw [after0_4]
  frame_out
  rw [del0]
  refine congr (congr (congrArg₂ del ?_ ?_) ?_) ?_ <;> blk_ext! [iblk0, idx0 t]
end Cert.AdamValue
end
end
-- ==== Proof.AdamK1.lean ====
/- The AdamW kernel of w_gate at any contents: the arrays it leaves, element by element. -/
module
public import proofs.«01_k».proof.Proof.AdamSpec
public import proofs.«01_k».proof.Proof.Coord
public import proofs.«01_k».proof.Proof.Gen.AdamKernelIdeal.Frame
public import Idealize.ShloMosaic.Lib.ValueIdx
public import Idealize.ShloMosaic.Lib.Pointwise
public import Idealize.ShloMosaic.Lib.WordCmp
public import Idealize.ShloMosaic.Lib.Pipeline.ValueKit
@[expose] public section
set_option maxRecDepth 16384
noncomputable section
namespace Cert.AdamValue
open Cert.AdamKernelIdeal Cert.AdamKernelIdeal.Gen
open Idealize.ShloMosaic Idealize.ShloMosaic.TcCoe Idealize.ShloMosaic.Tactic
open Cert.Adam (mom var del)
open Cert.Coord (eta2)

variable (V : (c : Dev nD) → (b : Ref sig .tc) → Buf (Elt Ideal) ((c : Thread nD τ).loc b)) (c : Dev nD)

theorem idx1 : ∀ t : Fin cfg1.N, win1_0.index t = ![t.val, 0] ∧ win1_1.index t = ![t.val, 0] ∧ win1_2.index t = ![t.val, 0] ∧ win1_3.index t = ![t.val, 0]
    ∧ win1_4.index t = ![t.val, 0] ∧ win1_5.index t = ![t.val, 0] ∧ win1_6.index t = ![t.val, 0] :=
  (by decide +kernel : ∀ t : Fin grid1.N, _)
theorem mom1 (x0 x1 : S256x1536.Idx → EReal) (y : S256x1536.Idx) : (k1_pay2 (F := Ideal) x0 x1) y = mom (x0 y) (x1 y) := by
  rw [eta2 y]
  unfold_payloads
  pointwise
  try rfl
theorem var1 (x0 x1 : S256x1536.Idx → EReal) (y : S256x1536.Idx) : (k1_pay3 (F := Ideal) x0 x1) y = var (x0 y) (x1 y) := by
  rw [eta2 y]
  unfold_payloads
  pointwise
  try rfl
theorem del1 (x0 x1 x2 x3 : S256x1536.Idx → EReal) (y : S256x1536.Idx) : (k1_pay4 (F := Ideal) x0 x1 x2 x3) y = del (x3 y) (x0 y) (x1 y) (x2 y) := by
  rw [eta2 y]
  unfold_payloads
  pointwise
  try rfl
theorem reg1_m : (dat1 V c).arrAt 5 cfg1.N = fun i : S4096x1536.Idx => mom (V c main_v9 i) (V c main_v10 i) := by
  refine (dat1 V c).arrAt_eq_of_covers 5 _ (by decide +kernel) fun t hf y => ?_
  blk_simp
  rw [after1_5]
  frame_out
  rw [mom1]
  refine congrArg₂ mom ?_ ?_ <;> blk_ext! [iblk1, idx1 t]
theorem reg1_v : (dat1 V c).arrAt 6 cfg1.N = fun i : S4096x1536.Idx => var (V c main_v9 i) (V c main_v11 i) := by
  refine (dat1 V c).arrAt_eq_of_covers 6 _ (by decide +kernel) fun t hf y => ?_
  blk_simp
  rw [after1_6]
  frame_out
  rw [var1]
  refine congrArg₂ var ?_ ?_ <;> blk_ext! [iblk1, idx1 t]
theorem reg1_d : (dat1 V c).arrAt 4 cfg1.N = fun i : S4096x1536.Idx => del (V c main_v8 i) (V c main_v9 i) (V c main_v10 i) (V c main_v11 i) := by
  refine (dat1 V c).arrAt_eq_of_covers 4 _ (by decide +kernel) fun t hf y => ?_
  blk_simp
  rw [after1_4]
  frame_out
  rw [del1]
  refine congr (congr (congrArg₂ del ?_ ?_) ?_) ?_ <;> blk_ext! [iblk1, idx1 t]
end Cert.AdamValue
end
end
-- ==== Proof.AdamK2.lean ====
/- The AdamW kernel of w_up at any contents: the arrays it leaves, element by element. -/
module
public import proofs.«01_k».proof.Proof.AdamSpec
public import proofs.«01_k».proof.Proof.Coord
public import proofs.«01_k».proof.Proof.Gen.AdamKernelIdeal.Frame
public import Idealize.ShloMosaic.Lib.ValueIdx
public import Idealize.ShloMosaic.Lib.Pointwise
public import Idealize.ShloMosaic.Lib.WordCmp
public import Idealize.ShloMosaic.Lib.Pipeline.ValueKit
@[expose] public section
set_option maxRecDepth 16384
noncomputable section
namespace Cert.AdamValue
open Cert.AdamKernelIdeal Cert.AdamKernelIdeal.Gen
open Idealize.ShloMosaic Idealize.ShloMosaic.TcCoe Idealize.ShloMosaic.Tactic
open Cert.Adam (mom var del)
open Cert.Coord (eta2)

variable (V : (c : Dev nD) → (b : Ref sig .tc) → Buf (Elt Ideal) ((c : Thread nD τ).loc b)) (c : Dev nD)

theorem idx2 : ∀ t : Fin cfg2.N, win2_0.index t = ![t.val, 0] ∧ win2_1.index t = ![t.val, 0] ∧ win2_2.index t = ![t.val, 0] ∧ win2_3.index t = ![t.val, 0]
    ∧ win2_4.index t = ![t.val, 0] ∧ win2_5.index t = ![t.val, 0] ∧ win2_6.index t = ![t.val, 0] :=
  (by decide +kernel : ∀ t : Fin grid2.N, _)
theorem mom2 (x0 x1 : S256x1536.Idx → EReal) (y : S256x1536.Idx) : (k2_pay2 (F := Ideal) x0 x1) y = mom (x0 y) (x1 y) := by
  rw [eta2 y]
  unfold_payloads
  pointwise
  try rfl
theorem var2 (x0 x1 : S256x1536.Idx → EReal) (y : S256x1536.Idx) : (k2_pay3 (F := Ideal) x0 x1) y = var (x0 y) (x1 y) := by
  rw [eta2 y]
  unfold_payloads
  pointwise
  try rfl
theorem del2 (x0 x1 x2 x3 : S256x1536.Idx → EReal) (y : S256x1536.Idx) : (k2_pay4 (F := Ideal) x0 x1 x2 x3) y = del (x3 y) (x0 y) (x1 y) (x2 y) := by
  rw [eta2 y]
  unfold_payloads
  pointwise
  try rfl
theorem reg2_m : (dat2 V c).arrAt 5 cfg2.N = fun i : S4096x1536.Idx => mom (V c main_v17 i) (V c main_v18 i) := by
  refine (dat2 V c).arrAt_eq_of_covers 5 _ (by decide +kernel) fun t hf y => ?_
  blk_simp
  rw [after2_5]
  frame_out
  rw [mom2]
  refine congrArg₂ mom ?_ ?_ <;> blk_ext! [iblk2, idx2 t]
theorem reg2_v : (dat2 V c).arrAt 6 cfg2.N = fun i : S4096x1536.Idx => var (V c main_v17 i) (V c main_v19 i) := by
  refine (dat2 V c).arrAt_eq_of_covers 6 _ (by decide +kernel) fun t hf y => ?_
  blk_simp
  rw [after2_6]
  frame_out
  rw [var2]
  refine congrArg₂ var ?_ ?_ <;> blk_ext! [iblk2, idx2 t]
theorem reg2_d : (dat2 V c).arrAt 4 cfg2.N = fun i : S4096x1536.Idx => del (V c main_v16 i) (V c main_v17 i) (V c main_v18 i) (V c main_v19 i) := by
  refine (dat2 V c).arrAt_eq_of_covers 4 _ (by decide +kernel) fun t hf y => ?_
  blk_simp
  rw [after2_4]
  frame_out
  rw [del2]
  refine congr (congr (congrArg₂ del ?_ ?_) ?_) ?_ <;> blk_ext! [iblk2, idx2 t]
end Cert.AdamValue
end
end
-- ==== Proof.AdamK3.lean ====
/- The AdamW kernel of w_down at any contents: the arrays it leaves, element by element. -/
module
public import proofs.«01_k».proof.Proof.AdamSpec
public import proofs.«01_k».proof.Proof.Coord
public import proofs.«01_k».proof.Proof.Gen.AdamKernelIdeal.Frame
public import Idealize.ShloMosaic.Lib.ValueIdx
public import Idealize.ShloMosaic.Lib.Pointwise
public import Idealize.ShloMosaic.Lib.WordCmp
public import Idealize.ShloMosaic.Lib.Pipeline.ValueKit
@[expose] public section
set_option maxRecDepth 16384
noncomputable section
namespace Cert.AdamValue
open Cert.AdamKernelIdeal Cert.AdamKernelIdeal.Gen
open Idealize.ShloMosaic Idealize.ShloMosaic.TcCoe Idealize.ShloMosaic.Tactic
open Cert.Adam (mom var del)
open Cert.Coord (eta2)

variable (V : (c : Dev nD) → (b : Ref sig .tc) → Buf (Elt Ideal) ((c : Thread nD τ).loc b)) (c : Dev nD)

theorem idx3 : ∀ t : Fin cfg3.N, win3_0.index t = ![t.val, 0] ∧ win3_1.index t = ![t.val, 0] ∧ win3_2.index t = ![t.val, 0] ∧ win3_3.index t = ![t.val, 0]
    ∧ win3_4.index t = ![t.val, 0] ∧ win3_5.index t = ![t.val, 0] ∧ win3_6.index t = ![t.val, 0] :=
  (by decide +kernel : ∀ t : Fin grid3.N, _)
theorem mom3 (x0 x1 : S256x2048.Idx → EReal) (y : S256x2048.Idx) : (k3_pay2 (F := Ideal) x0 x1) y = mom (x0 y) (x1 y) := by
  rw [eta2 y]
  unfold_payloads
  pointwise
  try rfl
theorem var3 (x0 x1 : S256x2048.Idx → EReal) (y : S256x2048.Idx) : (k3_pay3 (F := Ideal) x0 x1) y = var (x0 y) (x1 y) := by
  rw [eta2 y]
  unfold_payloads
  pointwise
  try rfl
theorem del3 (x0 x1 x2 x3 : S256x2048.Idx → EReal) (y : S256x2048.Idx) : (k3_pay4 (F := Ideal) x0 x1 x2 x3) y = del (x3 y) (x0 y) (x1 y) (x2 y) := by
  rw [eta2 y]
  unfold_payloads
  pointwise
  try rfl
theorem reg3_m : (dat3 V c).arrAt 5 cfg3.N = fun i : S3072x2048.Idx => mom (V c main_v25 i) (V c main_v26 i) := by
  refine (dat3 V c).arrAt_eq_of_covers 5 _ (by decide +kernel) fun t hf y => ?_
  blk_simp
  rw [after3_5]
  frame_out
  rw [mom3]
  refine congrArg₂ mom ?_ ?_ <;> blk_ext! [iblk3, idx3 t]
theorem reg3_v : (dat3 V c).arrAt 6 cfg3.N = fun i : S3072x2048.Idx => var (V c main_v25 i) (V c main_v27 i) := by
  refine (dat3 V c).arrAt_eq_of_covers 6 _ (by decide +kernel) fun t hf y => ?_
  blk_simp
  rw [after3_6]
  frame_out
  rw [var3]
  refine congrArg₂ var ?_ ?_ <;> blk_ext! [iblk3, idx3 t]
theorem reg3_d : (dat3 V c).arrAt 4 cfg3.N = fun i : S3072x2048.Idx => del (V c main_v24 i) (V c main_v25 i) (V c main_v26 i) (V c main_v27 i) := by
  refine (dat3 V c).arrAt_eq_of_covers 4 _ (by decide +kernel) fun t hf y => ?_
  blk_simp
  rw [after3_4]
  frame_out
  rw [del3]
  refine congr (congr (congrArg₂ del ?_ ?_) ?_) ?_ <;> blk_ext! [iblk3, idx3 t]
end Cert.AdamValue
end
end
-- ==== Proof.AdamK4.lean ====
/- The AdamW kernel of w_ple_gate at any contents: the arrays it leaves, element by element. -/
module
public import proofs.«01_k».proof.Proof.AdamSpec
public import proofs.«01_k».proof.Proof.Coord
public import proofs.«01_k».proof.Proof.Gen.AdamKernelIdeal.Frame
public import Idealize.ShloMosaic.Lib.ValueIdx
public import Idealize.ShloMosaic.Lib.Pointwise
public import Idealize.ShloMosaic.Lib.WordCmp
public import Idealize.ShloMosaic.Lib.Pipeline.ValueKit
@[expose] public section
set_option maxRecDepth 16384
noncomputable section
namespace Cert.AdamValue
open Cert.AdamKernelIdeal Cert.AdamKernelIdeal.Gen
open Idealize.ShloMosaic Idealize.ShloMosaic.TcCoe Idealize.ShloMosaic.Tactic
open Cert.Adam (mom var del)
open Cert.Coord (eta2)

variable (V : (c : Dev nD) → (b : Ref sig .tc) → Buf (Elt Ideal) ((c : Thread nD τ).loc b)) (c : Dev nD)

theorem idx4 : ∀ t : Fin cfg4.N, win4_0.index t = ![t.val, 0] ∧ win4_1.index t = ![t.val, 0] ∧ win4_2.index t = ![t.val, 0] ∧ win4_3.index t = ![t.val, 0]
    ∧ win4_4.index t = ![t.val, 0] ∧ win4_5.index t = ![t.val, 0] ∧ win4_6.index t = ![t.val, 0] :=
  (by decide +kernel : ∀ t : Fin grid4.N, _)
theorem mom4 (x0 x1 : S256x2048.Idx → EReal) (y : S256x2048.Idx) : (k4_pay2 (F := Ideal) x0 x1) y = mom (x0 y) (x1 y) := by
  rw [eta2 y]
  unfold_payloads
  pointwise
  try rfl
theorem var4 (x0 x1 : S256x2048.Idx → EReal) (y : S256x2048.Idx) : (k4_pay3 (F := Ideal) x0 x1) y = var (x0 y) (x1 y) := by
  rw [eta2 y]
  unfold_payloads
  pointwise
  try rfl
theorem del4 (x0 x1 x2 x3 : S256x2048.Idx → EReal) (y : S256x2048.Idx) : (k4_pay4 (F := Ideal) x0 x1 x2 x3) y = del (x3 y) (x0 y) (x1 y) (x2 y) := by
  rw [eta2 y]
  unfold_payloads
  pointwise
  try rfl
theorem reg4_m : (dat4 V c).arrAt 5 cfg4.N = fun i : S1024x2048.Idx => mom (V c main_v33 i) (V c main_v34 i) := by
  refine (dat4 V c).arrAt_eq_of_covers 5 _ (by decide +kernel) fun t hf y => ?_
  blk_simp
  rw [after4_5]
  frame_out
  rw [mom4]
  refine congrArg₂ mom ?_ ?_ <;> blk_ext! [iblk4, idx4 t]
theorem reg4_v : (dat4 V c).arrAt 6 cfg4.N = fun i : S1024x2048.Idx => var (V c main_v33 i) (V c main_v35 i) := by
  refine (dat4 V c).arrAt_eq_of_covers 6 _ (by decide +kernel) fun t hf y => ?_
  blk_simp
  rw [after4_6]
  frame_out
  rw [var4]
  refine congrArg₂ var ?_ ?_ <;> blk_ext! [iblk4, idx4 t]
theorem reg4_d : (dat4 V c).arrAt 4 cfg4.N = fun i : S1024x2048.Idx => del (V c main_v32 i) (V c main_v33 i) (V c main_v34 i) (V c main_v35 i) := by
  refine (dat4 V c).arrAt_eq_of_covers 4 _ (by decide +kernel) fun t hf y => ?_
  blk_simp
  rw [after4_4]
  frame_out
  rw [del4]
  refine congr (congr (congrArg₂ del ?_ ?_) ?_) ?_ <;> blk_ext! [iblk4, idx4 t]
end Cert.AdamValue
end
end
-- ==== Proof.AdamK5.lean ====
/- The AdamW kernel of w_ple_proj at any contents: the arrays it leaves, element by element. -/
module
public import proofs.«01_k».proof.Proof.AdamSpec
public import proofs.«01_k».proof.Proof.Coord
public import proofs.«01_k».proof.Proof.Gen.AdamKernelIdeal.Frame
public import Idealize.ShloMosaic.Lib.ValueIdx
public import Idealize.ShloMosaic.Lib.Pointwise
public import Idealize.ShloMosaic.Lib.WordCmp
public import Idealize.ShloMosaic.Lib.Pipeline.ValueKit
@[expose] public section
set_option maxRecDepth 16384
noncomputable section
namespace Cert.AdamValue
open Cert.AdamKernelIdeal Cert.AdamKernelIdeal.Gen
open Idealize.ShloMosaic Idealize.ShloMosaic.TcCoe Idealize.ShloMosaic.Tactic
open Cert.Adam (mom var del)
open Cert.Coord (eta2)

variable (V : (c : Dev nD) → (b : Ref sig .tc) → Buf (Elt Ideal) ((c : Thread nD τ).loc b)) (c : Dev nD)

theorem idx5 : ∀ t : Fin cfg5.N, win5_0.index t = ![t.val, 0] ∧ win5_1.index t = ![t.val, 0] ∧ win5_2.index t = ![t.val, 0] ∧ win5_3.index t = ![t.val, 0]
    ∧ win5_4.index t = ![t.val, 0] ∧ win5_5.index t = ![t.val, 0] ∧ win5_6.index t = ![t.val, 0] :=
  (by decide +kernel : ∀ t : Fin grid5.N, _)
theorem mom5 (x0 x1 : S256x512.Idx → EReal) (y : S256x512.Idx) : (k5_pay2 (F := Ideal) x0 x1) y = mom (x0 y) (x1 y) := by
  rw [eta2 y]
  unfold_payloads
  pointwise
  try rfl
theorem var5 (x0 x1 : S256x512.Idx → EReal) (y : S256x512.Idx) : (k5_pay3 (F := Ideal) x0 x1) y = var (x0 y) (x1 y) := by
  rw [eta2 y]
  unfold_payloads
  pointwise
  try rfl
theorem del5 (x0 x1 x2 x3 : S256x512.Idx → EReal) (y : S256x512.Idx) : (k5_pay4 (F := Ideal) x0 x1 x2 x3) y = del (x3 y) (x0 y) (x1 y) (x2 y) := by
  rw [eta2 y]
  unfold_payloads
  pointwise
  try rfl
theorem reg5_m : (dat5 V c).arrAt 5 cfg5.N = fun i : S512x512.Idx => mom (V c main_v41 i) (V c main_v42 i) := by
  refine (dat5 V c).arrAt_eq_of_covers 5 _ (by decide +kernel) fun t hf y => ?_
  blk_simp
  rw [after5_5]
  frame_out
  rw [mom5]
  refine congrArg₂ mom ?_ ?_ <;> blk_ext! [iblk5, idx5 t]
theorem reg5_v : (dat5 V c).arrAt 6 cfg5.N = fun i : S512x512.Idx => var (V c main_v41 i) (V c main_v43 i) := by
  refine (dat5 V c).arrAt_eq_of_covers 6 _ (by decide +kernel) fun t hf y => ?_
  blk_simp
  rw [after5_6]
  frame_out
  rw [var5]
  refine congrArg₂ var ?_ ?_ <;> blk_ext! [iblk5, idx5 t]
theorem reg5_d : (dat5 V c).arrAt 4 cfg5.N = fun i : S512x512.Idx => del (V c main_v40 i) (V c main_v41 i) (V c main_v42 i) (V c main_v43 i) := by
  refine (dat5 V c).arrAt_eq_of_covers 4 _ (by decide +kernel) fun t hf y => ?_
  blk_simp
  rw [after5_4]
  frame_out
  rw [del5]
  refine congr (congr (congrArg₂ del ?_ ?_) ?_) ?_ <;> blk_ext! [iblk5, idx5 t]
end Cert.AdamValue
end
end
-- ==== Proof.AdamK6.lean ====
/- The AdamW kernel of w_in at any contents: the arrays it leaves, element by element. -/
module
public import proofs.«01_k».proof.Proof.AdamSpec
public import proofs.«01_k».proof.Proof.Coord
public import proofs.«01_k».proof.Proof.Gen.AdamKernelIdeal.Frame
public import Idealize.ShloMosaic.Lib.ValueIdx
public import Idealize.ShloMosaic.Lib.Pointwise
public import Idealize.ShloMosaic.Lib.WordCmp
public import Idealize.ShloMosaic.Lib.Pipeline.ValueKit
@[expose] public section
set_option maxRecDepth 16384
noncomputable section
namespace Cert.AdamValue
open Cert.AdamKernelIdeal Cert.AdamKernelIdeal.Gen
open Idealize.ShloMosaic Idealize.ShloMosaic.TcCoe Idealize.ShloMosaic.Tactic
open Cert.Adam (mom var del)
open Cert.Coord (eta2)

variable (V : (c : Dev nD) → (b : Ref sig .tc) → Buf (Elt Ideal) ((c : Thread nD τ).loc b)) (c : Dev nD)

theorem idx6 : ∀ t : Fin cfg6.N, win6_0.index t = ![t.val, 0] ∧ win6_1.index t = ![t.val, 0] ∧ win6_2.index t = ![t.val, 0] ∧ win6_3.index t = ![t.val, 0]
    ∧ win6_4.index t = ![t.val, 0] ∧ win6_5.index t = ![t.val, 0] ∧ win6_6.index t = ![t.val, 0] :=
  (by decide +kernel : ∀ t : Fin grid6.N, _)
theorem mom6 (x0 x1 : S256x1352.Idx → EReal) (y : S256x1352.Idx) : (k6_pay2 (F := Ideal) x0 x1) y = mom (x0 y) (x1 y) := by
  rw [eta2 y]
  unfold_payloads
  pointwise
  try rfl
theorem var6 (x0 x1 : S256x1352.Idx → EReal) (y : S256x1352.Idx) : (k6_pay3 (F := Ideal) x0 x1) y = var (x0 y) (x1 y) := by
  rw [eta2 y]
  unfold_payloads
  pointwise
  try rfl
theorem del6 (x0 x1 x2 x3 : S256x1352.Idx → EReal) (y : S256x1352.Idx) : (k6_pay4 (F := Ideal) x0 x1 x2 x3) y = del (x3 y) (x0 y) (x1 y) (x2 y) := by
  rw [eta2 y]
  unfold_payloads
  pointwise
  try rfl
theorem reg6_m : (dat6 V c).arrAt 5 cfg6.N = fun i : S4096x1352.Idx => mom (V c main_v49 i) (V c main_v50 i) := by
  refine (dat6 V c).arrAt_eq_of_covers 5 _ (by decide +kernel) fun t hf y => ?_
  blk_simp
  rw [after6_5]
  frame_out
  rw [mom6]
  refine congrArg₂ mom ?_ ?_ <;> blk_ext! [iblk6, idx6 t]
theorem reg6_v : (dat6 V c).arrAt 6 cfg6.N = fun i : S4096x1352.Idx => var (V c main_v49 i) (V c main_v51 i) := by
  refine (dat6 V c).arrAt_eq_of_covers 6 _ (by decide +kernel) fun t hf y => ?_
  blk_simp
  rw [after6_6]
  frame_out
  rw [var6]
  refine congrArg₂ var ?_ ?_ <;> blk_ext! [iblk6, idx6 t]
theorem reg6_d : (dat6 V c).arrAt 4 cfg6.N = fun i : S4096x1352.Idx => del (V c main_v48 i) (V c main_v49 i) (V c main_v50 i) (V c main_v51 i) := by
  refine (dat6 V c).arrAt_eq_of_covers 4 _ (by decide +kernel) fun t hf y => ?_
  blk_simp
  rw [after6_4]
  frame_out
  rw [del6]
  refine congr (congr (congrArg₂ del ?_ ?_) ?_) ?_ <;> blk_ext! [iblk6, idx6 t]
end Cert.AdamValue
end
end
-- ==== Proof.AdamRun.lean ====
/-
  AdamW's run and what it leaves: every buffer that holds a tensor value ends at the fold of the host's reshapes and the seven
  kernels' writes over the launch contents (`run_fold`), and there each result is AdamW of its weight's arguments, element by element.
-/
module
public import proofs.«01_k».proof.Proof.AdamK0
public import proofs.«01_k».proof.Proof.AdamK1
public import proofs.«01_k».proof.Proof.AdamK2
public import proofs.«01_k».proof.Proof.AdamK3
public import proofs.«01_k».proof.Proof.AdamK4
public import proofs.«01_k».proof.Proof.AdamK5
public import proofs.«01_k».proof.Proof.AdamK6
@[expose] public section
set_option maxRecDepth 16384
noncomputable section
namespace Cert.AdamValue
open Cert.AdamKernelIdeal Cert.AdamKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Cert.Adam (mom var del)

section
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution ends with every tensor buffer at the fold. -/
theorem run_fold : θ_run defs (onTc (τ := τ) (main (F := F))) ⟨m, fun _ => 0, ρ⟩ (fun r => ∀ (c : Dev nD) (b : Ref sig .tc),
      (Proc.devRef .tc b : DevRef τ sig).isScoped = false → r.2.mem ((c.tc : Thread nD τ).loc b) = W15 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun _ h _ c b hb => h c _ (mem_uc b (by rw [hb]; exact Bool.false_ne_true)))
end

/-! ## Reshaped, computed element by element, and reshaped back -/

section
variable {s t : Shape} (h : s.ShapeCasts t) (h' : t.ShapeCasts s) (a b d e : s.Idx → EReal)
theorem back (i : s.Idx) : shapeCast t a h (Shape.reshapeEquiv h' i) = a i :=
  (congrFun (shapeCast_comp a h h') i).trans (congrFun (shapeCast_self a _) i)
theorem back_m : shapeCast s (fun i => mom (shapeCast t a h i) (shapeCast t b h i)) h' = fun i => mom (a i) (b i) :=
  funext fun i => congrArg₂ mom (back h h' a i) (back h h' b i)
theorem back_v : shapeCast s (fun i => var (shapeCast t a h i) (shapeCast t b h i)) h' = fun i => var (a i) (b i) :=
  funext fun i => congrArg₂ var (back h h' a i) (back h h' b i)
theorem back_d : shapeCast s (fun i => del (shapeCast t a h i) (shapeCast t b h i) (shapeCast t d h i) (shapeCast t e h i)) h' = fun i => del (a i) (b i) (d i) (e i) :=
  funext fun i => congr (congr (congrArg₂ del (back h h' a i) (back h h' b i)) (back h h' d i)) (back h h' e i)
end

variable (m : (ℓ : Loc nD τ sig) → Buf (Elt Ideal) ℓ) (ρ : Dev nD → PrngReg) (c : Dev nD)

/-- An argument at launch, as a function of its indices. -/
abbrev A (b : Ref sig .tc) : Buf (Elt Ideal) ((c.tc : Thread nD τ).loc b) := m ((c.tc : Thread nD τ).loc b)

/-! ## What the later steps leave as it is: `Keep`k says that the kernel of number k, the reshapes after it and all later steps do not write the buffer -/

abbrev Keep6 (r : Ref sig .tc) : Prop := (r ∉ hostOps7_W ∧ ∀ w : Fin cfg6.W, Pipeline.arrRef spec6 w = r → (cfg6.win w).isOut = false)
theorem keep6 (r : Ref sig .tc) (h : Keep6 r) : W15 m ρ c (Proc.devRef .tc r) = W13 m ρ c (Proc.devRef .tc r) := (W15_of m ρ c r h.1).trans (W14_of m ρ c r h.2)
abbrev Keep5 (r : Ref sig .tc) : Prop := (r ∉ hostOps6_W ∧ ∀ w : Fin cfg5.W, Pipeline.arrRef spec5 w = r → (cfg5.win w).isOut = false) ∧ Keep6 r
theorem keep5 (r : Ref sig .tc) (h : Keep5 r) : W15 m ρ c (Proc.devRef .tc r) = W11 m ρ c (Proc.devRef .tc r) := (keep6 m ρ c r h.2).trans ((W13_of m ρ c r h.1.1).trans (W12_of m ρ c r h.1.2))
abbrev Keep4 (r : Ref sig .tc) : Prop := (r ∉ hostOps5_W ∧ ∀ w : Fin cfg4.W, Pipeline.arrRef spec4 w = r → (cfg4.win w).isOut = false) ∧ Keep5 r
theorem keep4 (r : Ref sig .tc) (h : Keep4 r) : W15 m ρ c (Proc.devRef .tc r) = W9 m ρ c (Proc.devRef .tc r) := (keep5 m ρ c r h.2).trans ((W11_of m ρ c r h.1.1).trans (W10_of m ρ c r h.1.2))
abbrev Keep3 (r : Ref sig .tc) : Prop := (r ∉ hostOps4_W ∧ ∀ w : Fin cfg3.W, Pipeline.arrRef spec3 w = r → (cfg3.win w).isOut = false) ∧ Keep4 r
theorem keep3 (r : Ref sig .tc) (h : Keep3 r) : W15 m ρ c (Proc.devRef .tc r) = W7 m ρ c (Proc.devRef .tc r) := (keep4 m ρ c r h.2).trans ((W9_of m ρ c r h.1.1).trans (W8_of m ρ c r h.1.2))
abbrev Keep2 (r : Ref sig .tc) : Prop := (r ∉ hostOps3_W ∧ ∀ w : Fin cfg2.W, Pipeline.arrRef spec2 w = r → (cfg2.win w).isOut = false) ∧ Keep3 r
theorem keep2 (r : Ref sig .tc) (h : Keep2 r) : W15 m ρ c (Proc.devRef .tc r) = W5 m ρ c (Proc.devRef .tc r) := (keep3 m ρ c r h.2).trans ((W7_of m ρ c r h.1.1).trans (W6_of m ρ c r h.1.2))
abbrev Keep1 (r : Ref sig .tc) : Prop := (r ∉ hostOps2_W ∧ ∀ w : Fin cfg1.W, Pipeline.arrRef spec1 w = r → (cfg1.win w).isOut = false) ∧ Keep2 r
theorem keep1 (r : Ref sig .tc) (h : Keep1 r) : W15 m ρ c (Proc.devRef .tc r) = W3 m ρ c (Proc.devRef .tc r) := (keep2 m ρ c r h.2).trans ((W5_of m ρ c r h.1.1).trans (W4_of m ρ c r h.1.2))

/-! ## The weight w_o -/

theorem in0_0 : V1 m ρ c main_v0 = shapeCast S1024x2048 (A m c main_arg0) shapeCasts_S2x512x2048_S1024x2048 := by
  refine Eq.trans ?_ (congrArg (fun x : S2x512x2048.Idx → EReal => shapeCast S1024x2048 x shapeCasts_S2x512x2048_S1024x2048) (W0_args m ρ c main_arg0 (by decide)))
  show after hostOps0 (W0 m ρ c) (Proc.devRef .tc main_v0) = _
  after_results
  try rfl
theorem in0_1 : V1 m ρ c main_v1 = shapeCast S1024x2048 (A m c main_arg1) shapeCasts_S2x512x2048_S1024x2048 := by
  refine Eq.trans ?_ (congrArg (fun x : S2x512x2048.Idx → EReal => shapeCast S1024x2048 x shapeCasts_S2x512x2048_S1024x2048) (W0_args m ρ c main_arg1 (by decide)))
  show after hostOps0 (W0 m ρ c) (Proc.devRef .tc main_v1) = _
  after_results
  try rfl
theorem in0_2 : V1 m ρ c main_v2 = shapeCast S1024x2048 (A m c main_arg2) shapeCasts_S2x512x2048_S1024x2048 := by
  refine Eq.trans ?_ (congrArg (fun x : S2x512x2048.Idx → EReal => shapeCast S1024x2048 x shapeCasts_S2x512x2048_S1024x2048) (W0_args m ρ c main_arg2 (by decide)))
  show after hostOps0 (W0 m ρ c) (Proc.devRef .tc main_v2) = _
  after_results
  try rfl
theorem in0_3 : V1 m ρ c main_v3 = shapeCast S1024x2048 (A m c main_arg3) shapeCasts_S2x512x2048_S1024x2048 := by
  refine Eq.trans ?_ (congrArg (fun x : S2x512x2048.Idx → EReal => shapeCast S1024x2048 x shapeCasts_S2x512x2048_S1024x2048) (W0_args m ρ c main_arg3 (by decide)))
  show after hostOps0 (W0 m ρ c) (Proc.devRef .tc main_v3) = _
  after_results
  try rfl
theorem out0_d : W15 m ρ c (Proc.devRef .tc main_v5) = fun i : S2x512x2048.Idx => del (A m c main_arg0 i) (A m c main_arg1 i) (A m c main_arg2 i) (A m c main_arg3 i) := by
  refine Eq.trans (keep1 m ρ c _ (by decide)) (Eq.trans (Eq.trans ?_ (congrArg (fun x : S1024x2048.Idx → EReal => shapeCast S2x512x2048 x shapeCasts_S1024x2048_S2x512x2048)
    ((W2_arr m ρ c 4).trans ((reg0_d (V1 m ρ) c).trans (by rw [in0_0, in0_1, in0_2, in0_3]))))) (back_d shapeCasts_S2x512x2048_S1024x2048 shapeCasts_S1024x2048_S2x512x2048 (A m c main_arg0) (A m c main_arg1) (A m c main_arg2) (A m c main_arg3)))
  show after hostOps1 (W2 m ρ c) (Proc.devRef .tc main_v5) = _
  after_results
  try rfl
theorem out0_m : W15 m ρ c (Proc.devRef .tc main_v6) = fun i : S2x512x2048.Idx => mom (A m c main_arg1 i) (A m c main_arg2 i) := by
  refine Eq.trans (keep1 m ρ c _ (by decide)) (Eq.trans (Eq.trans ?_ (congrArg (fun x : S1024x2048.Idx → EReal => shapeCast S2x512x2048 x shapeCasts_S1024x2048_S2x512x2048)
    ((W2_arr m ρ c 5).trans ((reg0_m (V1 m ρ) c).trans (by rw [in0_1, in0_2]))))) (back_m shapeCasts_S2x512x2048_S1024x2048 shapeCasts_S1024x2048_S2x512x2048 (A m c main_arg1) (A m c main_arg2)))
  show after hostOps1 (W2 m ρ c) (Proc.devRef .tc main_v6) = _
  after_results
  try rfl
theorem out0_v : W15 m ρ c (Proc.devRef .tc main_v7) = fun i : S2x512x2048.Idx => var (A m c main_arg1 i) (A m c main_arg3 i) := by
  refine Eq.trans (keep1 m ρ c _ (by decide)) (Eq.trans (Eq.trans ?_ (congrArg (fun x : S1024x2048.Idx → EReal => shapeCast S2x512x2048 x shapeCasts_S1024x2048_S2x512x2048)
    ((W2_arr m ρ c 6).trans ((reg0_v (V1 m ρ) c).trans (by rw [in0_1, in0_3]))))) (back_v shapeCasts_S2x512x2048_S1024x2048 shapeCasts_S1024x2048_S2x512x2048 (A m c main_arg1) (A m c main_arg3)))
  show after hostOps1 (W2 m ρ c) (Proc.devRef .tc main_v7) = _
  after_results
  try rfl

/-! ## The weight w_gate -/

theorem in1_0 : V3 m ρ c main_v8 = shapeCast S4096x1536 (A m c main_arg4) shapeCasts_S2x2048x1536_S4096x1536 := by
  refine Eq.trans ?_ (congrArg (fun x : S2x2048x1536.Idx → EReal => shapeCast S4096x1536 x shapeCasts_S2x2048x1536_S4096x1536) (W2_args m ρ c main_arg4 (by decide)))
  show after hostOps1 (W2 m ρ c) (Proc.devRef .tc main_v8) = _
  after_results
  try rfl
theorem in1_1 : V3 m ρ c main_v9 = shapeCast S4096x1536 (A m c main_arg5) shapeCasts_S2x2048x1536_S4096x1536 := by
  refine Eq.trans ?_ (congrArg (fun x : S2x2048x1536.Idx → EReal => shapeCast S4096x1536 x shapeCasts_S2x2048x1536_S4096x1536) (W2_args m ρ c main_arg5 (by decide)))
  show after hostOps1 (W2 m ρ c) (Proc.devRef .tc main_v9) = _
  after_results
  try rfl
theorem in1_2 : V3 m ρ c main_v10 = shapeCast S4096x1536 (A m c main_arg6) shapeCasts_S2x2048x1536_S4096x1536 := by
  refine Eq.trans ?_ (congrArg (fun x : S2x2048x1536.Idx → EReal => shapeCast S4096x1536 x shapeCasts_S2x2048x1536_S4096x1536) (W2_args m ρ c main_arg6 (by decide)))
  show after hostOps1 (W2 m ρ c) (Proc.devRef .tc main_v10) = _
  after_results
  try rfl
theorem in1_3 : V3 m ρ c main_v11 = shapeCast S4096x1536 (A m c main_arg7) shapeCasts_S2x2048x1536_S4096x1536 := by
  refine Eq.trans ?_ (congrArg (fun x : S2x2048x1536.Idx → EReal => shapeCast S4096x1536 x shapeCasts_S2x2048x1536_S4096x1536) (W2_args m ρ c main_arg7 (by decide)))
  show after hostOps1 (W2 m ρ c) (Proc.devRef .tc main_v11) = _
  after_results
  try rfl
theorem out1_d : W15 m ρ c (Proc.devRef .tc main_v13) = fun i : S2x2048x1536.Idx => del (A m c main_arg4 i) (A m c main_arg5 i) (A m c main_arg6 i) (A m c main_arg7 i) := by
  refine Eq.trans (keep2 m ρ c _ (by decide)) (Eq.trans (Eq.trans ?_ (congrArg (fun x : S4096x1536.Idx → EReal => shapeCast S2x2048x1536 x shapeCasts_S4096x1536_S2x2048x1536)
    ((W4_arr m ρ c 4).trans ((reg1_d (V3 m ρ) c).trans (by rw [in1_0, in1_1, in1_2, in1_3]))))) (back_d shapeCasts_S2x2048x1536_S4096x1536 shapeCasts_S4096x1536_S2x2048x1536 (A m c main_arg4) (A m c main_arg5) (A m c main_arg6) (A m c main_arg7)))
  show after hostOps2 (W4 m ρ c) (Proc.devRef .tc main_v13) = _
  after_results
  try rfl
theorem out1_m : W15 m ρ c (Proc.devRef .tc main_v14) = fun i : S2x2048x1536.Idx => mom (A m c main_arg5 i) (A m c main_arg6 i) := by
  refine Eq.trans (keep2 m ρ c _ (by decide)) (Eq.trans (Eq.trans ?_ (congrArg (fun x : S4096x1536.Idx → EReal => shapeCast S2x2048x1536 x shapeCasts_S4096x1536_S2x2048x1536)
    ((W4_arr m ρ c 5).trans ((reg1_m (V3 m ρ) c).trans (by rw [in1_1, in1_2]))))) (back_m shapeCasts_S2x2048x1536_S4096x1536 shapeCasts_S4096x1536_S2x2048x1536 (A m c main_arg5) (A m c main_arg6)))
  show after hostOps2 (W4 m ρ c) (Proc.devRef .tc main_v14) = _
  after_results
  try rfl
theorem out1_v : W15 m ρ c (Proc.devRef .tc main_v15) = fun i : S2x2048x1536.Idx => var (A m c main_arg5 i) (A m c main_arg7 i) := by
  refine Eq.trans (keep2 m ρ c _ (by decide)) (Eq.trans (Eq.trans ?_ (congrArg (fun x : S4096x1536.Idx → EReal => shapeCast S2x2048x1536 x shapeCasts_S4096x1536_S2x2048x1536)
    ((W4_arr m ρ c 6).trans ((reg1_v (V3 m ρ) c).trans (by rw [in1_1, in1_3]))))) (back_v shapeCasts_S2x2048x1536_S4096x1536 shapeCasts_S4096x1536_S2x2048x1536 (A m c main_arg5) (A m c main_arg7)))
  show after hostOps2 (W4 m ρ c) (Proc.devRef .tc main_v15) = _
  after_results
  try rfl

/-! ## The weight w_up -/

theorem in2_0 : V5 m ρ c main_v16 = shapeCast S4096x1536 (A m c main_arg8) shapeCasts_S2x2048x1536_S4096x1536 := by
  refine Eq.trans ?_ (congrArg (fun x : S2x2048x1536.Idx → EReal => shapeCast S4096x1536 x shapeCasts_S2x2048x1536_S4096x1536) (W4_args m ρ c main_arg8 (by decide)))
  show after hostOps2 (W4 m ρ c) (Proc.devRef .tc main_v16) = _
  after_results
  try rfl
theorem in2_1 : V5 m ρ c main_v17 = shapeCast S4096x1536 (A m c main_arg9) shapeCasts_S2x2048x1536_S4096x1536 := by
  refine Eq.trans ?_ (congrArg (fun x : S2x2048x1536.Idx → EReal => shapeCast S4096x1536 x shapeCasts_S2x2048x1536_S4096x1536) (W4_args m ρ c main_arg9 (by decide)))
  show after hostOps2 (W4 m ρ c) (Proc.devRef .tc main_v17) = _
  after_results
  try rfl
theorem in2_2 : V5 m ρ c main_v18 = shapeCast S4096x1536 (A m c main_arg10) shapeCasts_S2x2048x1536_S4096x1536 := by
  refine Eq.trans ?_ (congrArg (fun x : S2x2048x1536.Idx → EReal => shapeCast S4096x1536 x shapeCasts_S2x2048x1536_S4096x1536) (W4_args m ρ c main_arg10 (by decide)))
  show after hostOps2 (W4 m ρ c) (Proc.devRef .tc main_v18) = _
  after_results
  try rfl
theorem in2_3 : V5 m ρ c main_v19 = shapeCast S4096x1536 (A m c main_arg11) shapeCasts_S2x2048x1536_S4096x1536 := by
  refine Eq.trans ?_ (congrArg (fun x : S2x2048x1536.Idx → EReal => shapeCast S4096x1536 x shapeCasts_S2x2048x1536_S4096x1536) (W4_args m ρ c main_arg11 (by decide)))
  show after hostOps2 (W4 m ρ c) (Proc.devRef .tc main_v19) = _
  after_results
  try rfl
theorem out2_d : W15 m ρ c (Proc.devRef .tc main_v21) = fun i : S2x2048x1536.Idx => del (A m c main_arg8 i) (A m c main_arg9 i) (A m c main_arg10 i) (A m c main_arg11 i) := by
  refine Eq.trans (keep3 m ρ c _ (by decide)) (Eq.trans (Eq.trans ?_ (congrArg (fun x : S4096x1536.Idx → EReal => shapeCast S2x2048x1536 x shapeCasts_S4096x1536_S2x2048x1536)
    ((W6_arr m ρ c 4).trans ((reg2_d (V5 m ρ) c).trans (by rw [in2_0, in2_1, in2_2, in2_3]))))) (back_d shapeCasts_S2x2048x1536_S4096x1536 shapeCasts_S4096x1536_S2x2048x1536 (A m c main_arg8) (A m c main_arg9) (A m c main_arg10) (A m c main_arg11)))
  show after hostOps3 (W6 m ρ c) (Proc.devRef .tc main_v21) = _
  after_results
  try rfl
theorem out2_m : W15 m ρ c (Proc.devRef .tc main_v22) = fun i : S2x2048x1536.Idx => mom (A m c main_arg9 i) (A m c main_arg10 i) := by
  refine Eq.trans (keep3 m ρ c _ (by decide)) (Eq.trans (Eq.trans ?_ (congrArg (fun x : S4096x1536.Idx → EReal => shapeCast S2x2048x1536 x shapeCasts_S4096x1536_S2x2048x1536)
    ((W6_arr m ρ c 5).trans ((reg2_m (V5 m ρ) c).trans (by rw [in2_1, in2_2]))))) (back_m shapeCasts_S2x2048x1536_S4096x1536 shapeCasts_S4096x1536_S2x2048x1536 (A m c main_arg9) (A m c main_arg10)))
  show after hostOps3 (W6 m ρ c) (Proc.devRef .tc main_v22) = _
  after_results
  try rfl
theorem out2_v : W15 m ρ c (Proc.devRef .tc main_v23) = fun i : S2x2048x1536.Idx => var (A m c main_arg9 i) (A m c main_arg11 i) := by
  refine Eq.trans (keep3 m ρ c _ (by decide)) (Eq.trans (Eq.trans ?_ (congrArg (fun x : S4096x1536.Idx → EReal => shapeCast S2x2048x1536 x shapeCasts_S4096x1536_S2x2048x1536)
    ((W6_arr m ρ c 6).trans ((reg2_v (V5 m ρ) c).trans (by rw [in2_1, in2_3]))))) (back_v shapeCasts_S2x2048x1536_S4096x1536 shapeCasts_S4096x1536_S2x2048x1536 (A m c main_arg9) (A m c main_arg11)))
  show after hostOps3 (W6 m ρ c) (Proc.devRef .tc main_v23) = _
  after_results
  try rfl

/-! ## The weight w_down -/

theorem in3_0 : V7 m ρ c main_v24 = shapeCast S3072x2048 (A m c main_arg12) shapeCasts_S2x1536x2048_S3072x2048 := by
  refine Eq.trans ?_ (congrArg (fun x : S2x1536x2048.Idx → EReal => shapeCast S3072x2048 x shapeCasts_S2x1536x2048_S3072x2048) (W6_args m ρ c main_arg12 (by decide)))
  show after hostOps3 (W6 m ρ c) (Proc.devRef .tc main_v24) = _
  after_results
  try rfl
theorem in3_1 : V7 m ρ c main_v25 = shapeCast S3072x2048 (A m c main_arg13) shapeCasts_S2x1536x2048_S3072x2048 := by
  refine Eq.trans ?_ (congrArg (fun x : S2x1536x2048.Idx → EReal => shapeCast S3072x2048 x shapeCasts_S2x1536x2048_S3072x2048) (W6_args m ρ c main_arg13 (by decide)))
  show after hostOps3 (W6 m ρ c) (Proc.devRef .tc main_v25) = _
  after_results
  try rfl
theorem in3_2 : V7 m ρ c main_v26 = shapeCast S3072x2048 (A m c main_arg14) shapeCasts_S2x1536x2048_S3072x2048 := by
  refine Eq.trans ?_ (congrArg (fun x : S2x1536x2048.Idx → EReal => shapeCast S3072x2048 x shapeCasts_S2x1536x2048_S3072x2048) (W6_args m ρ c main_arg14 (by decide)))
  show after hostOps3 (W6 m ρ c) (Proc.devRef .tc main_v26) = _
  after_results
  try rfl
theorem in3_3 : V7 m ρ c main_v27 = shapeCast S3072x2048 (A m c main_arg15) shapeCasts_S2x1536x2048_S3072x2048 := by
  refine Eq.trans ?_ (congrArg (fun x : S2x1536x2048.Idx → EReal => shapeCast S3072x2048 x shapeCasts_S2x1536x2048_S3072x2048) (W6_args m ρ c main_arg15 (by decide)))
  show after hostOps3 (W6 m ρ c) (Proc.devRef .tc main_v27) = _
  after_results
  try rfl
theorem out3_d : W15 m ρ c (Proc.devRef .tc main_v29) = fun i : S2x1536x2048.Idx => del (A m c main_arg12 i) (A m c main_arg13 i) (A m c main_arg14 i) (A m c main_arg15 i) := by
  refine Eq.trans (keep4 m ρ c _ (by decide)) (Eq.trans (Eq.trans ?_ (congrArg (fun x : S3072x2048.Idx → EReal => shapeCast S2x1536x2048 x shapeCasts_S3072x2048_S2x1536x2048)
    ((W8_arr m ρ c 4).trans ((reg3_d (V7 m ρ) c).trans (by rw [in3_0, in3_1, in3_2, in3_3]))))) (back_d shapeCasts_S2x1536x2048_S3072x2048 shapeCasts_S3072x2048_S2x1536x2048 (A m c main_arg12) (A m c main_arg13) (A m c main_arg14) (A m c main_arg15)))
  show after hostOps4 (W8 m ρ c) (Proc.devRef .tc main_v29) = _
  after_results
  try rfl
theorem out3_m : W15 m ρ c (Proc.devRef .tc main_v30) = fun i : S2x1536x2048.Idx => mom (A m c main_arg13 i) (A m c main_arg14 i) := by
  refine Eq.trans (keep4 m ρ c _ (by decide)) (Eq.trans (Eq.trans ?_ (congrArg (fun x : S3072x2048.Idx → EReal => shapeCast S2x1536x2048 x shapeCasts_S3072x2048_S2x1536x2048)
    ((W8_arr m ρ c 5).trans ((reg3_m (V7 m ρ) c).trans (by rw [in3_1, in3_2]))))) (back_m shapeCasts_S2x1536x2048_S3072x2048 shapeCasts_S3072x2048_S2x1536x2048 (A m c main_arg13) (A m c main_arg14)))
  show after hostOps4 (W8 m ρ c) (Proc.devRef .tc main_v30) = _
  after_results
  try rfl
theorem out3_v : W15 m ρ c (Proc.devRef .tc main_v31) = fun i : S2x1536x2048.Idx => var (A m c main_arg13 i) (A m c main_arg15 i) := by
  refine Eq.trans (keep4 m ρ c _ (by decide)) (Eq.trans (Eq.trans ?_ (congrArg (fun x : S3072x2048.Idx → EReal => shapeCast S2x1536x2048 x shapeCasts_S3072x2048_S2x1536x2048)
    ((W8_arr m ρ c 6).trans ((reg3_v (V7 m ρ) c).trans (by rw [in3_1, in3_3]))))) (back_v shapeCasts_S2x1536x2048_S3072x2048 shapeCasts_S3072x2048_S2x1536x2048 (A m c main_arg13) (A m c main_arg15)))
  show after hostOps4 (W8 m ρ c) (Proc.devRef .tc main_v31) = _
  after_results
  try rfl

/-! ## The weight w_ple_gate -/

theorem in4_0 : V9 m ρ c main_v32 = shapeCast S1024x2048 (A m c main_arg16) shapeCasts_S2x512x2048_S1024x2048 := by
  refine Eq.trans ?_ (congrArg (fun x : S2x512x2048.Idx → EReal => shapeCast S1024x2048 x shapeCasts_S2x512x2048_S1024x2048) (W8_args m ρ c main_arg16 (by decide)))
  show after hostOps4 (W8 m ρ c) (Proc.devRef .tc main_v32) = _
  after_results
  try rfl
theorem in4_1 : V9 m ρ c main_v33 = shapeCast S1024x2048 (A m c main_arg17) shapeCasts_S2x512x2048_S1024x2048 := by
  refine Eq.trans ?_ (congrArg (fun x : S2x512x2048.Idx → EReal => shapeCast S1024x2048 x shapeCasts_S2x512x2048_S1024x2048) (W8_args m ρ c main_arg17 (by decide)))
  show after hostOps4 (W8 m ρ c) (Proc.devRef .tc main_v33) = _
  after_results
  try rfl
theorem in4_2 : V9 m ρ c main_v34 = shapeCast S1024x2048 (A m c main_arg18) shapeCasts_S2x512x2048_S1024x2048 := by
  refine Eq.trans ?_ (congrArg (fun x : S2x512x2048.Idx → EReal => shapeCast S1024x2048 x shapeCasts_S2x512x2048_S1024x2048) (W8_args m ρ c main_arg18 (by decide)))
  show after hostOps4 (W8 m ρ c) (Proc.devRef .tc main_v34) = _
  after_results
  try rfl
theorem in4_3 : V9 m ρ c main_v35 = shapeCast S1024x2048 (A m c main_arg19) shapeCasts_S2x512x2048_S1024x2048 := by
  refine Eq.trans ?_ (congrArg (fun x : S2x512x2048.Idx → EReal => shapeCast S1024x2048 x shapeCasts_S2x512x2048_S1024x2048) (W8_args m ρ c main_arg19 (by decide)))
  show after hostOps4 (W8 m ρ c) (Proc.devRef .tc main_v35) = _
  after_results
  try rfl
theorem out4_d : W15 m ρ c (Proc.devRef .tc main_v37) = fun i : S2x512x2048.Idx => del (A m c main_arg16 i) (A m c main_arg17 i) (A m c main_arg18 i) (A m c main_arg19 i) := by
  refine Eq.trans (keep5 m ρ c _ (by decide)) (Eq.trans (Eq.trans ?_ (congrArg (fun x : S1024x2048.Idx → EReal => shapeCast S2x512x2048 x shapeCasts_S1024x2048_S2x512x2048)
    ((W10_arr m ρ c 4).trans ((reg4_d (V9 m ρ) c).trans (by rw [in4_0, in4_1, in4_2, in4_3]))))) (back_d shapeCasts_S2x512x2048_S1024x2048 shapeCasts_S1024x2048_S2x512x2048 (A m c main_arg16) (A m c main_arg17) (A m c main_arg18) (A m c main_arg19)))
  show after hostOps5 (W10 m ρ c) (Proc.devRef .tc main_v37) = _
  after_results
  try rfl
theorem out4_m : W15 m ρ c (Proc.devRef .tc main_v38) = fun i : S2x512x2048.Idx => mom (A m c main_arg17 i) (A m c main_arg18 i) := by
  refine Eq.trans (keep5 m ρ c _ (by decide)) (Eq.trans (Eq.trans ?_ (congrArg (fun x : S1024x2048.Idx → EReal => shapeCast S2x512x2048 x shapeCasts_S1024x2048_S2x512x2048)
    ((W10_arr m ρ c 5).trans ((reg4_m (V9 m ρ) c).trans (by rw [in4_1, in4_2]))))) (back_m shapeCasts_S2x512x2048_S1024x2048 shapeCasts_S1024x2048_S2x512x2048 (A m c main_arg17) (A m c main_arg18)))
  show after hostOps5 (W10 m ρ c) (Proc.devRef .tc main_v38) = _
  after_results
  try rfl
theorem out4_v : W15 m ρ c (Proc.devRef .tc main_v39) = fun i : S2x512x2048.Idx => var (A m c main_arg17 i) (A m c main_arg19 i) := by
  refine Eq.trans (keep5 m ρ c _ (by decide)) (Eq.trans (Eq.trans ?_ (congrArg (fun x : S1024x2048.Idx → EReal => shapeCast S2x512x2048 x shapeCasts_S1024x2048_S2x512x2048)
    ((W10_arr m ρ c 6).trans ((reg4_v (V9 m ρ) c).trans (by rw [in4_1, in4_3]))))) (back_v shapeCasts_S2x512x2048_S1024x2048 shapeCasts_S1024x2048_S2x512x2048 (A m c main_arg17) (A m c main_arg19)))
  show after hostOps5 (W10 m ρ c) (Proc.devRef .tc main_v39) = _
  after_results
  try rfl

/-! ## The weight w_ple_proj -/

theorem in5_0 : V11 m ρ c main_v40 = shapeCast S512x512 (A m c main_arg20) shapeCasts_S2x256x512_S512x512 := by
  refine Eq.trans ?_ (congrArg (fun x : S2x256x512.Idx → EReal => shapeCast S512x512 x shapeCasts_S2x256x512_S512x512) (W10_args m ρ c main_arg20 (by decide)))
  show after hostOps5 (W10 m ρ c) (Proc.devRef .tc main_v40) = _
  after_results
  try rfl
theorem in5_1 : V11 m ρ c main_v41 = shapeCast S512x512 (A m c main_arg21) shapeCasts_S2x256x512_S512x512 := by
  refine Eq.trans ?_ (congrArg (fun x : S2x256x512.Idx → EReal => shapeCast S512x512 x shapeCasts_S2x256x512_S512x512) (W10_args m ρ c main_arg21 (by decide)))
  show after hostOps5 (W10 m ρ c) (Proc.devRef .tc main_v41) = _
  after_results
  try rfl
theorem in5_2 : V11 m ρ c main_v42 = shapeCast S512x512 (A m c main_arg22) shapeCasts_S2x256x512_S512x512 := by
  refine Eq.trans ?_ (congrArg (fun x : S2x256x512.Idx → EReal => shapeCast S512x512 x shapeCasts_S2x256x512_S512x512) (W10_args m ρ c main_arg22 (by decide)))
  show after hostOps5 (W10 m ρ c) (Proc.devRef .tc main_v42) = _
  after_results
  try rfl
theorem in5_3 : V11 m ρ c main_v43 = shapeCast S512x512 (A m c main_arg23) shapeCasts_S2x256x512_S512x512 := by
  refine Eq.trans ?_ (congrArg (fun x : S2x256x512.Idx → EReal => shapeCast S512x512 x shapeCasts_S2x256x512_S512x512) (W10_args m ρ c main_arg23 (by decide)))
  show after hostOps5 (W10 m ρ c) (Proc.devRef .tc main_v43) = _
  after_results
  try rfl
theorem out5_d : W15 m ρ c (Proc.devRef .tc main_v45) = fun i : S2x256x512.Idx => del (A m c main_arg20 i) (A m c main_arg21 i) (A m c main_arg22 i) (A m c main_arg23 i) := by
  refine Eq.trans (keep6 m ρ c _ (by decide)) (Eq.trans (Eq.trans ?_ (congrArg (fun x : S512x512.Idx → EReal => shapeCast S2x256x512 x shapeCasts_S512x512_S2x256x512)
    ((W12_arr m ρ c 4).trans ((reg5_d (V11 m ρ) c).trans (by rw [in5_0, in5_1, in5_2, in5_3]))))) (back_d shapeCasts_S2x256x512_S512x512 shapeCasts_S512x512_S2x256x512 (A m c main_arg20) (A m c main_arg21) (A m c main_arg22) (A m c main_arg23)))
  show after hostOps6 (W12 m ρ c) (Proc.devRef .tc main_v45) = _
  after_results
  try rfl
theorem out5_m : W15 m ρ c (Proc.devRef .tc main_v46) = fun i : S2x256x512.Idx => mom (A m c main_arg21 i) (A m c main_arg22 i) := by
  refine Eq.trans (keep6 m ρ c _ (by decide)) (Eq.trans (Eq.trans ?_ (congrArg (fun x : S512x512.Idx → EReal => shapeCast S2x256x512 x shapeCasts_S512x512_S2x256x512)
    ((W12_arr m ρ c 5).trans ((reg5_m (V11 m ρ) c).trans (by rw [in5_1, in5_2]))))) (back_m shapeCasts_S2x256x512_S512x512 shapeCasts_S512x512_S2x256x512 (A m c main_arg21) (A m c main_arg22)))
  show after hostOps6 (W12 m ρ c) (Proc.devRef .tc main_v46) = _
  after_results
  try rfl
theorem out5_v : W15 m ρ c (Proc.devRef .tc main_v47) = fun i : S2x256x512.Idx => var (A m c main_arg21 i) (A m c main_arg23 i) := by
  refine Eq.trans (keep6 m ρ c _ (by decide)) (Eq.trans (Eq.trans ?_ (congrArg (fun x : S512x512.Idx → EReal => shapeCast S2x256x512 x shapeCasts_S512x512_S2x256x512)
    ((W12_arr m ρ c 6).trans ((reg5_v (V11 m ρ) c).trans (by rw [in5_1, in5_3]))))) (back_v shapeCasts_S2x256x512_S512x512 shapeCasts_S512x512_S2x256x512 (A m c main_arg21) (A m c main_arg23)))
  show after hostOps6 (W12 m ρ c) (Proc.devRef .tc main_v47) = _
  after_results
  try rfl

/-! ## The weight w_in -/

theorem in6_0 : V13 m ρ c main_v48 = shapeCast S4096x1352 (A m c main_arg24) shapeCasts_S2x2048x1352_S4096x1352 := by
  refine Eq.trans ?_ (congrArg (fun x : S2x2048x1352.Idx → EReal => shapeCast S4096x1352 x shapeCasts_S2x2048x1352_S4096x1352) (W12_args m ρ c main_arg24 (by decide)))
  show after hostOps6 (W12 m ρ c) (Proc.devRef .tc main_v48) = _
  after_results
  try rfl
theorem in6_1 : V13 m ρ c main_v49 = shapeCast S4096x1352 (A m c main_arg25) shapeCasts_S2x2048x1352_S4096x1352 := by
  refine Eq.trans ?_ (congrArg (fun x : S2x2048x1352.Idx → EReal => shapeCast S4096x1352 x shapeCasts_S2x2048x1352_S4096x1352) (W12_args m ρ c main_arg25 (by decide)))
  show after hostOps6 (W12 m ρ c) (Proc.devRef .tc main_v49) = _
  after_results
  try rfl
theorem in6_2 : V13 m ρ c main_v50 = shapeCast S4096x1352 (A m c main_arg26) shapeCasts_S2x2048x1352_S4096x1352 := by
  refine Eq.trans ?_ (congrArg (fun x : S2x2048x1352.Idx → EReal => shapeCast S4096x1352 x shapeCasts_S2x2048x1352_S4096x1352) (W12_args m ρ c main_arg26 (by decide)))
  show after hostOps6 (W12 m ρ c) (Proc.devRef .tc main_v50) = _
  after_results
  try rfl
theorem in6_3 : V13 m ρ c main_v51 = shapeCast S4096x1352 (A m c main_arg27) shapeCasts_S2x2048x1352_S4096x1352 := by
  refine Eq.trans ?_ (congrArg (fun x : S2x2048x1352.Idx → EReal => shapeCast S4096x1352 x shapeCasts_S2x2048x1352_S4096x1352) (W12_args m ρ c main_arg27 (by decide)))
  show after hostOps6 (W12 m ρ c) (Proc.devRef .tc main_v51) = _
  after_results
  try rfl
theorem out6_d : W15 m ρ c (Proc.devRef .tc main_v53) = fun i : S2x2048x1352.Idx => del (A m c main_arg24 i) (A m c main_arg25 i) (A m c main_arg26 i) (A m c main_arg27 i) := by
  refine Eq.trans (rfl) (Eq.trans (Eq.trans ?_ (congrArg (fun x : S4096x1352.Idx → EReal => shapeCast S2x2048x1352 x shapeCasts_S4096x1352_S2x2048x1352)
    ((W14_arr m ρ c 4).trans ((reg6_d (V13 m ρ) c).trans (by rw [in6_0, in6_1, in6_2, in6_3]))))) (back_d shapeCasts_S2x2048x1352_S4096x1352 shapeCasts_S4096x1352_S2x2048x1352 (A m c main_arg24) (A m c main_arg25) (A m c main_arg26) (A m c main_arg27)))
  show after hostOps7 (W14 m ρ c) (Proc.devRef .tc main_v53) = _
  after_results
  try rfl
theorem out6_m : W15 m ρ c (Proc.devRef .tc main_v54) = fun i : S2x2048x1352.Idx => mom (A m c main_arg25 i) (A m c main_arg26 i) := by
  refine Eq.trans (rfl) (Eq.trans (Eq.trans ?_ (congrArg (fun x : S4096x1352.Idx → EReal => shapeCast S2x2048x1352 x shapeCasts_S4096x1352_S2x2048x1352)
    ((W14_arr m ρ c 5).trans ((reg6_m (V13 m ρ) c).trans (by rw [in6_1, in6_2]))))) (back_m shapeCasts_S2x2048x1352_S4096x1352 shapeCasts_S4096x1352_S2x2048x1352 (A m c main_arg25) (A m c main_arg26)))
  show after hostOps7 (W14 m ρ c) (Proc.devRef .tc main_v54) = _
  after_results
  try rfl
theorem out6_v : W15 m ρ c (Proc.devRef .tc main_v55) = fun i : S2x2048x1352.Idx => var (A m c main_arg25 i) (A m c main_arg27 i) := by
  refine Eq.trans (rfl) (Eq.trans (Eq.trans ?_ (congrArg (fun x : S4096x1352.Idx → EReal => shapeCast S2x2048x1352 x shapeCasts_S4096x1352_S2x2048x1352)
    ((W14_arr m ρ c 6).trans ((reg6_v (V13 m ρ) c).trans (by rw [in6_1, in6_3]))))) (back_v shapeCasts_S2x2048x1352_S4096x1352 shapeCasts_S4096x1352_S2x2048x1352 (A m c main_arg25) (A m c main_arg27)))
  show after hostOps7 (W14 m ρ c) (Proc.devRef .tc main_v55) = _
  after_results
  try rfl
end Cert.AdamValue
end
end
-- ==== Proof.AdamMain.lean ====
/- AdamW's frame of the reference and its algebraic claim. -/
module
public import proofs.«01_k».proof.Defs
public import proofs.«01_k».proof.Proof.AdamRun
public import proofs.«01_k».proof.Proof.Gen.AdamReferenceIdeal.Run
public import Idealize.ShloMosaic.Adequacy
@[expose] public section
set_option maxRecDepth 16384
noncomputable section
namespace Cert.AdamMain
open Idealize.ShloMosaic Idealize.ShloMosaic.TcCoe Idealize.SL.Sem Idealize.ShloMosaic.StableHlo
open AdamKernelIdeal.Gen (W15_main_arg0 W15_main_arg1 W15_main_arg2 W15_main_arg3 W15_main_arg4 W15_main_arg5 W15_main_arg6 W15_main_arg7 W15_main_arg8 W15_main_arg9 W15_main_arg10 W15_main_arg11 W15_main_arg12 W15_main_arg13 W15_main_arg14 W15_main_arg15 W15_main_arg16 W15_main_arg17 W15_main_arg18 W15_main_arg19 W15_main_arg20 W15_main_arg21 W15_main_arg22 W15_main_arg23 W15_main_arg24 W15_main_arg25 W15_main_arg26 W15_main_arg27)
open Cert.Adam (mom var del)

/-- The reference ends with its arguments as launched and every counter at zero. -/
theorem ref_frame : quiescent_AdamReferenceIdeal (hAdamReferenceIdeal := AdamReferenceIdeal.Gen.facts) := fun m g _ =>
  (θ_run AdamReferenceIdeal.defs _ _).mono (fun r h => ⟨fun c => (h c).2.2.2.2.2.2.2.2.2.2.2.2.2.2.2.2.2.2.2.2.2, sem_eq_zero_of_no_sems (by decide) r.2⟩) (AdamReferenceIdeal.Value.run m g)

section
open Cert.AdamReferenceIdeal
variable {s : Shape} (hb : S_.BroadcastsInDim s ![]) {a b d e a' b' d' e' : FVec Ideal s .f32}

/-- The reference's first moment, element by element. -/
theorem ref_m (hb' : b = b') (hd' : d = d') : addf (mulf (broadcastInDim s ![] hb (constant S_ .f32 0x3F666666#32)) d) (mulf (broadcastInDim s ![] hb (constant S_ .f32 0x3DCCCCCD#32)) b) = fun i => mom (b' i) (d' i) := by
  subst hb' hd'
  rfl
/-- Its second moment. -/
theorem ref_v (hb' : b = b') (he' : e = e') : addf (mulf (broadcastInDim s ![] hb (constant S_ .f32 0x3F7FBE77#32)) e) (mulf (broadcastInDim s ![] hb (constant S_ .f32 0x3A83126F#32)) (mulf b b)) = fun i => var (b' i) (e' i) := by
  subst hb' he'
  rfl
/-- The weight's change. -/
theorem ref_d (ha' : a = a') (hb' : b = b') (hd' : d = d') (he' : e = e') :
    mulf (broadcastInDim s ![] hb (constant S_ .f32 0xBA83126F#32)) (addf (Host.divf (Host.divf (addf (mulf (broadcastInDim s ![] hb (constant S_ .f32 0x3F666666#32)) d) (mulf (broadcastInDim s ![] hb (constant S_ .f32 0x3DCCCCCD#32)) b)) (broadcastInDim s ![] hb (constant S_ .f32 0x3F26BD02#32)))
      (addf (Host.sqrt (Host.divf (addf (mulf (broadcastInDim s ![] hb (constant S_ .f32 0x3F7FBE77#32)) e) (mulf (broadcastInDim s ![] hb (constant S_ .f32 0x3A83126F#32)) (mulf b b))) (broadcastInDim s ![] hb (constant S_ .f32 0x3C231ACC#32)))) (broadcastInDim s ![] hb (constant S_ .f32 0x322BCC77#32))))
      (mulf (broadcastInDim s ![] hb (constant S_ .f32 0x3C23D70A#32)) a)) = fun i => del (a' i) (b' i) (d' i) (e' i) := by
  subst ha' hb' hd' he'
  rfl
end

/-- From agreeing arguments the kernel and the reference end with the same changes and moments. -/
theorem algebraic : Cert.algebraic_AdamKernelIdeal_AdamReferenceIdeal (hAdamKernelIdeal := AdamKernelIdeal.Gen.facts) (hAdamReferenceIdeal := AdamReferenceIdeal.Gen.facts) := by
  intro m g m' g' _ hag
  refine ⟨_, _, _, _, _, _, _, _, _, _, _, _, _, _, _, _, _, _, _, _, _, (θ_run AdamKernelIdeal.defs _ _).mono (fun _ h c =>
      ⟨h c AdamKernelIdeal.main_v5 rfl,
       h c AdamKernelIdeal.main_v6 rfl,
       h c AdamKernelIdeal.main_v7 rfl,
       h c AdamKernelIdeal.main_v13 rfl,
       h c AdamKernelIdeal.main_v14 rfl,
       h c AdamKernelIdeal.main_v15 rfl,
       h c AdamKernelIdeal.main_v21 rfl,
       h c AdamKernelIdeal.main_v22 rfl,
       h c AdamKernelIdeal.main_v23 rfl,
       h c AdamKernelIdeal.main_v29 rfl,
       h c AdamKernelIdeal.main_v30 rfl,
       h c AdamKernelIdeal.main_v31 rfl,
       h c AdamKernelIdeal.main_v37 rfl,
       h c AdamKernelIdeal.main_v38 rfl,
       h c AdamKernelIdeal.main_v39 rfl,
       h c AdamKernelIdeal.main_v45 rfl,
       h c AdamKernelIdeal.main_v46 rfl,
       h c AdamKernelIdeal.main_v47 rfl,
       h c AdamKernelIdeal.main_v53 rfl,
       h c AdamKernelIdeal.main_v54 rfl,
       h c AdamKernelIdeal.main_v55 rfl,
       (h c AdamKernelIdeal.main_arg0 rfl).trans (W15_main_arg0 m g c),
       (h c AdamKernelIdeal.main_arg1 rfl).trans (W15_main_arg1 m g c),
       (h c AdamKernelIdeal.main_arg2 rfl).trans (W15_main_arg2 m g c),
       (h c AdamKernelIdeal.main_arg3 rfl).trans (W15_main_arg3 m g c),
       (h c AdamKernelIdeal.main_arg4 rfl).trans (W15_main_arg4 m g c),
       (h c AdamKernelIdeal.main_arg5 rfl).trans (W15_main_arg5 m g c),
       (h c AdamKernelIdeal.main_arg6 rfl).trans (W15_main_arg6 m g c),
       (h c AdamKernelIdeal.main_arg7 rfl).trans (W15_main_arg7 m g c),
       (h c AdamKernelIdeal.main_arg8 rfl).trans (W15_main_arg8 m g c),
       (h c AdamKernelIdeal.main_arg9 rfl).trans (W15_main_arg9 m g c),
       (h c AdamKernelIdeal.main_arg10 rfl).trans (W15_main_arg10 m g c),
       (h c AdamKernelIdeal.main_arg11 rfl).trans (W15_main_arg11 m g c),
       (h c AdamKernelIdeal.main_arg12 rfl).trans (W15_main_arg12 m g c),
       (h c AdamKernelIdeal.main_arg13 rfl).trans (W15_main_arg13 m g c),
       (h c AdamKernelIdeal.main_arg14 rfl).trans (W15_main_arg14 m g c),
       (h c AdamKernelIdeal.main_arg15 rfl).trans (W15_main_arg15 m g c),
       (h c AdamKernelIdeal.main_arg16 rfl).trans (W15_main_arg16 m g c),
       (h c AdamKernelIdeal.main_arg17 rfl).trans (W15_main_arg17 m g c),
       (h c AdamKernelIdeal.main_arg18 rfl).trans (W15_main_arg18 m g c),
       (h c AdamKernelIdeal.main_arg19 rfl).trans (W15_main_arg19 m g c),
       (h c AdamKernelIdeal.main_arg20 rfl).trans (W15_main_arg20 m g c),
       (h c AdamKernelIdeal.main_arg21 rfl).trans (W15_main_arg21 m g c),
       (h c AdamKernelIdeal.main_arg22 rfl).trans (W15_main_arg22 m g c),
       (h c AdamKernelIdeal.main_arg23 rfl).trans (W15_main_arg23 m g c),
       (h c AdamKernelIdeal.main_arg24 rfl).trans (W15_main_arg24 m g c),
       (h c AdamKernelIdeal.main_arg25 rfl).trans (W15_main_arg25 m g c),
       (h c AdamKernelIdeal.main_arg26 rfl).trans (W15_main_arg26 m g c),
       (h c AdamKernelIdeal.main_arg27 rfl).trans (W15_main_arg27 m g c)⟩) (AdamValue.run_fold m g), ?_⟩
  refine (θ_run AdamReferenceIdeal.defs _ _).mono (fun _ h c => ?_) (AdamReferenceIdeal.Value.run m' g')
  obtain ⟨a0, a1, a2, a3, a4, a5, a6, a7, a8, a9, a10, a11, a12, a13, a14, a15, a16, a17, a18, a19, a20, a21, a22, a23, a24, a25, a26, a27⟩ := hag c
  obtain ⟨r0, r1, r2, r3, r4, r5, r6, r7, r8, r9, r10, r11, r12, r13, r14, r15, r16, r17, r18, r19, r20, rest⟩ := h c
  exact ⟨r0.trans ((ref_d _ a0 a1 a2 a3).trans (AdamValue.out0_d m g c).symm),
      r1.trans ((ref_m _ a1 a2).trans (AdamValue.out0_m m g c).symm),
      r2.trans ((ref_v _ a1 a3).trans (AdamValue.out0_v m g c).symm),
      r3.trans ((ref_d _ a4 a5 a6 a7).trans (AdamValue.out1_d m g c).symm),
      r4.trans ((ref_m _ a5 a6).trans (AdamValue.out1_m m g c).symm),
      r5.trans ((ref_v _ a5 a7).trans (AdamValue.out1_v m g c).symm),
      r6.trans ((ref_d _ a8 a9 a10 a11).trans (AdamValue.out2_d m g c).symm),
      r7.trans ((ref_m _ a9 a10).trans (AdamValue.out2_m m g c).symm),
      r8.trans ((ref_v _ a9 a11).trans (AdamValue.out2_v m g c).symm),
      r9.trans ((ref_d _ a12 a13 a14 a15).trans (AdamValue.out3_d m g c).symm),
      r10.trans ((ref_m _ a13 a14).trans (AdamValue.out3_m m g c).symm),
      r11.trans ((ref_v _ a13 a15).trans (AdamValue.out3_v m g c).symm),
      r12.trans ((ref_d _ a16 a17 a18 a19).trans (AdamValue.out4_d m g c).symm),
      r13.trans ((ref_m _ a17 a18).trans (AdamValue.out4_m m g c).symm),
      r14.trans ((ref_v _ a17 a19).trans (AdamValue.out4_v m g c).symm),
      r15.trans ((ref_d _ a20 a21 a22 a23).trans (AdamValue.out5_d m g c).symm),
      r16.trans ((ref_m _ a21 a22).trans (AdamValue.out5_m m g c).symm),
      r17.trans ((ref_v _ a21 a23).trans (AdamValue.out5_v m g c).symm),
      r18.trans ((ref_d _ a24 a25 a26 a27).trans (AdamValue.out6_d m g c).symm),
      r19.trans ((ref_m _ a25 a26).trans (AdamValue.out6_m m g c).symm),
      r20.trans ((ref_v _ a25 a27).trans (AdamValue.out6_v m g c).symm), rest⟩
end Cert.AdamMain
end
end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.PreFin
public import proofs.«01_k».proof.Proof.RefVal
public import proofs.«01_k».proof.Proof.Gen.FfnKernel.Frame
public import proofs.«01_k».proof.Proof.FfnMain
public import proofs.«01_k».proof.Proof.Gen.ProjKernel.Frame
public import proofs.«01_k».proof.Proof.ProjMain
public import proofs.«01_k».proof.Proof.Gen.GateDxKernel.Frame
public import proofs.«01_k».proof.Proof.GateDxMain
public import proofs.«01_k».proof.Proof.Gen.UpDxKernel.Frame
public import proofs.«01_k».proof.Proof.UpDxMain
public import proofs.«01_k».proof.Proof.Gen.DownKernel.Frame
public import proofs.«01_k».proof.Proof.DownMain
public import proofs.«01_k».proof.Proof.Gen.InDxKernel.Frame
public import proofs.«01_k».proof.Proof.InDxMain
public import proofs.«01_k».proof.Proof.Gen.AdamKernel.Frame
public import proofs.«01_k».proof.Proof.AdamMain
public import Idealize.ShloMosaic.Adequacy
public import Idealize.ShloMosaic.Init

@[expose] public section
noncomputable section
namespace Cert.Proof
open Idealize.ShloMosaic Idealize.ShloMosaic.TcCoe Idealize.SL.Sem Cert.Kernel

/-- The reference ends with its arguments as launched and every counter at zero. -/
theorem ref_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run Cert.ReferenceIdeal.defs _ _).mono (fun _ h => ⟨fun c =>
    ⟨(h.1 c Cert.ReferenceIdeal.main_arg0 rfl).trans (Cert.RefRun.E4_launch m c Cert.ReferenceIdeal.main_arg0 (by decide +kernel) (by decide +kernel)),
     (h.1 c Cert.ReferenceIdeal.main_arg1 rfl).trans (Cert.RefRun.E4_launch m c Cert.ReferenceIdeal.main_arg1 (by decide +kernel) (by decide +kernel)),
     (h.1 c Cert.ReferenceIdeal.main_arg2 rfl).trans (Cert.RefRun.E4_launch m c Cert.ReferenceIdeal.main_arg2 (by decide +kernel) (by decide +kernel)),
     (h.1 c Cert.ReferenceIdeal.main_arg3 rfl).trans (Cert.RefRun.E4_launch m c Cert.ReferenceIdeal.main_arg3 (by decide +kernel) (by decide +kernel)),
     (h.1 c Cert.ReferenceIdeal.main_arg4 rfl).trans (Cert.RefRun.E4_launch m c Cert.ReferenceIdeal.main_arg4 (by decide +kernel) (by decide +kernel)),
     (h.1 c Cert.ReferenceIdeal.main_arg5 rfl).trans (Cert.RefRun.E4_launch m c Cert.ReferenceIdeal.main_arg5 (by decide +kernel) (by decide +kernel)),
     (h.1 c Cert.ReferenceIdeal.main_arg6 rfl).trans (Cert.RefRun.E4_launch m c Cert.ReferenceIdeal.main_arg6 (by decide +kernel) (by decide +kernel))⟩, h.2⟩) (Cert.RefRun.run_fold m g)

/-- The two programs' arguments by coordinates agree where their launch arrays do. -/
theorem args_eq (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.RefRun.args m' c = Cert.KValue.args m g c := by
  unfold Cert.RefRun.args Cert.RefRun.argsOf
  rw [Cert.RefRun.E0_launch m' c Cert.ReferenceIdeal.main_arg0 (by decide +kernel), Cert.RefRun.E0_launch m' c Cert.ReferenceIdeal.main_arg1 (by decide +kernel), Cert.RefRun.E0_launch m' c Cert.ReferenceIdeal.main_arg2 (by decide +kernel), Cert.RefRun.E0_launch m' c Cert.ReferenceIdeal.main_arg3 (by decide +kernel), Cert.RefRun.E0_launch m' c Cert.ReferenceIdeal.main_arg4 (by decide +kernel), Cert.RefRun.E0_launch m' c Cert.ReferenceIdeal.main_arg5 (by decide +kernel), Cert.RefRun.E0_launch m' c Cert.ReferenceIdeal.main_arg6 (by decide +kernel), h0, h1, h2, h3, h4, h5, h6]
  rfl

/-- From agreeing real arguments the kernel and the reference end with the same six gradients. -/
theorem algebraic : Cert.algebraic_KernelIdeal_ReferenceIdeal_pre_finite (hKernelIdeal := Cert.KernelIdeal.Gen.facts) (hReferenceIdeal := Cert.ReferenceIdeal.Gen.facts)
    (hPre_finite := Cert.Pre_finite.facts) := by
  intro m g m' g' hpre hag
  have hA : ∀ c, Cert.RefRun.args m' c = Cert.KValue.args m g c := fun c =>
    args_eq m g m' c (hag c).1 (hag c).2.1 (hag c).2.2.1 (hag c).2.2.2.1 (hag c).2.2.2.2.1 (hag c).2.2.2.2.2.1 (hag c).2.2.2.2.2.2
  have res_dx : ∀ c, Cert.RefRun.E4 (F := Ideal) m' c (Proc.devRef .tc Cert.ReferenceIdeal.main_v101) = Cert.KernelIdeal.Gen.W4 m g c (Proc.devRef .tc Cert.KernelIdeal.main_v3_0) := fun c => by
    rw [Cert.KValue.out_dx m g c, Cert.RefRun.res_dx, hA]
    rfl
  have res_wx : ∀ c, Cert.RefRun.E4 (F := Ideal) m' c (Proc.devRef .tc Cert.ReferenceIdeal.main_v99) = Cert.KernelIdeal.Gen.W4 m g c (Proc.devRef .tc Cert.KernelIdeal.main_v3_1) := fun c => by
    rw [Cert.KValue.out_wx m g c, Cert.RefRun.res_wx, hA]
    rfl
  have res_wa : ∀ c, Cert.RefRun.E4 (F := Ideal) m' c (Proc.devRef .tc Cert.ReferenceIdeal.main_v89) = Cert.KernelIdeal.Gen.W4 m g c (Proc.devRef .tc Cert.KernelIdeal.main_v3_2) := fun c => by
    rw [Cert.KValue.out_wa m g c, Cert.RefRun.res_wa, hA]
    rfl
  have res_bx : ∀ c, Cert.RefRun.E4 (F := Ideal) m' c (Proc.devRef .tc Cert.ReferenceIdeal.main_v92) = Cert.KernelIdeal.Gen.W4 m g c (Proc.devRef .tc Cert.KernelIdeal.main_v3_3) := fun c => by
    rw [Cert.KValue.out_bx m g c, Cert.RefRun.res_bx, hA]
    rfl
  have res_ba : ∀ c, Cert.RefRun.E4 (F := Ideal) m' c (Proc.devRef .tc Cert.ReferenceIdeal.main_v83) = Cert.KernelIdeal.Gen.W4 m g c (Proc.devRef .tc Cert.KernelIdeal.main_v3_4) := fun c => by
    rw [Cert.KValue.out_ba m g c, Cert.RefRun.res_ba, hA]
    rfl
  have res_lam : ∀ c, Cert.RefRun.E4 (F := Ideal) m' c (Proc.devRef .tc Cert.ReferenceIdeal.main_v78) = Cert.KernelIdeal.Gen.W4 m g c (Proc.devRef .tc Cert.KernelIdeal.main_v3_5) := fun c => by
    rw [Cert.KValue.out_lam m g c (Cert.KValue.args_real m g c hpre), Cert.RefRun.res_lam, hA]
    rfl
  refine ⟨fun c => Cert.KernelIdeal.Gen.W4 m g c (Proc.devRef .tc Cert.KernelIdeal.main_v3_0), fun c => Cert.KernelIdeal.Gen.W4 m g c (Proc.devRef .tc Cert.KernelIdeal.main_v3_1), fun c => Cert.KernelIdeal.Gen.W4 m g c (Proc.devRef .tc Cert.KernelIdeal.main_v3_2), fun c => Cert.KernelIdeal.Gen.W4 m g c (Proc.devRef .tc Cert.KernelIdeal.main_v3_3), fun c => Cert.KernelIdeal.Gen.W4 m g c (Proc.devRef .tc Cert.KernelIdeal.main_v3_4), fun c => Cert.KernelIdeal.Gen.W4 m g c (Proc.devRef .tc Cert.KernelIdeal.main_v3_5), ?_, ?_⟩
  · exact (θ_run Cert.KernelIdeal.defs _ _).mono (fun _ h c =>
      ⟨h c Cert.KernelIdeal.main_v3_0 rfl,
       h c Cert.KernelIdeal.main_v3_1 rfl,
       h c Cert.KernelIdeal.main_v3_2 rfl,
       h c Cert.KernelIdeal.main_v3_3 rfl,
       h c Cert.KernelIdeal.main_v3_4 rfl,
       h c Cert.KernelIdeal.main_v3_5 rfl,
       (h c Cert.KernelIdeal.main_arg0 rfl).trans (Cert.KernelIdeal.Gen.W4_main_arg0 m g c),
       (h c Cert.KernelIdeal.main_arg1 rfl).trans (Cert.KernelIdeal.Gen.W4_main_arg1 m g c),
       (h c Cert.KernelIdeal.main_arg2 rfl).trans (Cert.KernelIdeal.Gen.W4_main_arg2 m g c),
       (h c Cert.KernelIdeal.main_arg3 rfl).trans (Cert.KernelIdeal.Gen.W4_main_arg3 m g c),
       (h c Cert.KernelIdeal.main_arg4 rfl).trans (Cert.KernelIdeal.Gen.W4_main_arg4 m g c),
       (h c Cert.KernelIdeal.main_arg5 rfl).trans (Cert.KernelIdeal.Gen.W4_main_arg5 m g c),
       (h c Cert.KernelIdeal.main_arg6 rfl).trans (Cert.KernelIdeal.Gen.W4_main_arg6 m g c)⟩) (Cert.KValue.run_fold m g)
  · refine (θ_run Cert.ReferenceIdeal.defs _ _).mono (fun _ h c =>
      ⟨(h.1 c Cert.ReferenceIdeal.main_v101 rfl).trans (res_dx c),
       (h.1 c Cert.ReferenceIdeal.main_v99 rfl).trans (res_wx c),
       (h.1 c Cert.ReferenceIdeal.main_v89 rfl).trans (res_wa c),
       (h.1 c Cert.ReferenceIdeal.main_v92 rfl).trans (res_bx c),
       (h.1 c Cert.ReferenceIdeal.main_v83 rfl).trans (res_ba c),
       (h.1 c Cert.ReferenceIdeal.main_v78 rfl).trans (res_lam c),
       (h.1 c Cert.ReferenceIdeal.main_arg0 rfl).trans (Cert.RefRun.E4_launch m' c Cert.ReferenceIdeal.main_arg0 (by decide +kernel) (by decide +kernel)),
       (h.1 c Cert.ReferenceIdeal.main_arg1 rfl).trans (Cert.RefRun.E4_launch m' c Cert.ReferenceIdeal.main_arg1 (by decide +kernel) (by decide +kernel)),
       (h.1 c Cert.ReferenceIdeal.main_arg2 rfl).trans (Cert.RefRun.E4_launch m' c Cert.ReferenceIdeal.main_arg2 (by decide +kernel) (by decide +kernel)),
       (h.1 c Cert.ReferenceIdeal.main_arg3 rfl).trans (Cert.RefRun.E4_launch m' c Cert.ReferenceIdeal.main_arg3 (by decide +kernel) (by decide +kernel)),
       (h.1 c Cert.ReferenceIdeal.main_arg4 rfl).trans (Cert.RefRun.E4_launch m' c Cert.ReferenceIdeal.main_arg4 (by decide +kernel) (by decide +kernel)),
       (h.1 c Cert.ReferenceIdeal.main_arg5 rfl).trans (Cert.RefRun.E4_launch m' c Cert.ReferenceIdeal.main_arg5 (by decide +kernel) (by decide +kernel)),
       (h.1 c Cert.ReferenceIdeal.main_arg6 rfl).trans (Cert.RefRun.E4_launch m' c Cert.ReferenceIdeal.main_arg6 (by decide +kernel) (by decide +kernel))⟩) (Cert.RefRun.run_fold m' g')

theorem claim : Cert.Claim := ⟨Cert.Kernel.Gen.facts, Cert.KernelIdeal.Gen.facts, Cert.ReferenceIdeal.Gen.facts, Cert.FfnKernel.Gen.facts, Cert.FfnKernelIdeal.Gen.facts,
  Cert.FfnReferenceIdeal.Gen.facts,
  Cert.ProjKernel.Gen.facts, Cert.ProjKernelIdeal.Gen.facts, Cert.ProjReferenceIdeal.Gen.facts,
  Cert.GateDxKernel.Gen.facts, Cert.GateDxKernelIdeal.Gen.facts, Cert.GateDxReferenceIdeal.Gen.facts,
  Cert.UpDxKernel.Gen.facts, Cert.UpDxKernelIdeal.Gen.facts, Cert.UpDxReferenceIdeal.Gen.facts,
  Cert.DownKernel.Gen.facts, Cert.DownKernelIdeal.Gen.facts, Cert.DownReferenceIdeal.Gen.facts,
  Cert.InDxKernel.Gen.facts, Cert.InDxKernelIdeal.Gen.facts, Cert.InDxReferenceIdeal.Gen.facts,
  Cert.AdamKernel.Gen.facts, Cert.AdamKernelIdeal.Gen.facts, Cert.AdamReferenceIdeal.Gen.facts,
  Cert.Pre_finite.facts,
  fun m g _ => Cert.Kernel.Gen.frame m g, fun m g _ => Cert.KernelIdeal.Gen.frame m g, fun m g _ => Cert.KernelIdeal.Gen.frame m g,
  fun m g _ => ref_frame m g, fun m g _ => ref_frame m g,
  fun m g _ => Cert.FfnKernel.Gen.frame m g, fun m g _ => Cert.FfnKernelIdeal.Gen.frame m g, fun m g _ => Cert.FfnMain.ref_frame m g,
  fun m g _ => Cert.ProjKernel.Gen.frame m g, fun m g _ => Cert.ProjKernelIdeal.Gen.frame m g, fun m g _ => Cert.ProjMain.ref_frame m g,
  fun m g _ => Cert.GateDxKernel.Gen.frame m g, fun m g _ => Cert.GateDxKernelIdeal.Gen.frame m g, fun m g _ => Cert.GateDxMain.ref_frame m g,
  fun m g _ => Cert.UpDxKernel.Gen.frame m g, fun m g _ => Cert.UpDxKernelIdeal.Gen.frame m g, fun m g _ => Cert.UpDxMain.ref_frame m g,
  fun m g _ => Cert.DownKernel.Gen.frame m g, fun m g _ => Cert.DownKernelIdeal.Gen.frame m g, fun m g _ => Cert.DownMain.ref_frame m g,
  fun m g _ => Cert.InDxKernel.Gen.frame m g, fun m g _ => Cert.InDxKernelIdeal.Gen.frame m g, fun m g _ => Cert.InDxMain.ref_frame m g,
  fun m g _ => Cert.AdamKernel.Gen.frame m g, fun m g _ => Cert.AdamKernelIdeal.Gen.frame m g, Cert.AdamMain.ref_frame,
  trivial, algebraic, trivial, Cert.FfnMain.algebraic,
  trivial, Cert.ProjMain.algebraic, trivial, Cert.GateDxMain.algebraic, trivial, Cert.UpDxMain.algebraic, trivial, Cert.DownMain.algebraic, trivial, Cert.InDxMain.algebraic, trivial, Cert.AdamMain.algebraic⟩
end Cert.Proof
end
